-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def Pre_Dgu (m : (ℓ : Loc Cert.Dgu.nD Cert.Dgu.τ Cert.Dgu.sig) → Buf (Elt Bits) ℓ) : Prop :=
  True

def Pre_DguIdeal (m : (ℓ : Loc Cert.DguIdeal.nD Cert.DguIdeal.τ Cert.DguIdeal.sig) → Buf (Elt Ideal) ℓ) : Prop :=
  True

def Pre_DguIdeal_finite_dgu [hPre_finite_dgu : Cert.Pre_finite_dgu.Facts] (m : (ℓ : Loc Cert.DguIdeal.nD Cert.DguIdeal.τ Cert.DguIdeal.sig) → Buf (Elt Ideal) ℓ) : Prop :=
  ∀ c : Dev Cert.DguIdeal.nD,
    (Cert.Pre_finite_dgu.fn (F := Ideal) (m ((c.tc : Thread Cert.DguIdeal.nD Cert.DguIdeal.τ).loc Cert.DguIdeal.main_arg0)) (m ((c.tc : Thread Cert.DguIdeal.nD Cert.DguIdeal.τ).loc Cert.DguIdeal.main_arg1)) (m ((c.tc : Thread Cert.DguIdeal.nD Cert.DguIdeal.τ).loc Cert.DguIdeal.main_arg2))).1 = (fun _ => 1#1)
    ∧ (Cert.Pre_finite_dgu.fn (F := Ideal) (m ((c.tc : Thread Cert.DguIdeal.nD Cert.DguIdeal.τ).loc Cert.DguIdeal.main_arg0)) (m ((c.tc : Thread Cert.DguIdeal.nD Cert.DguIdeal.τ).loc Cert.DguIdeal.main_arg1)) (m ((c.tc : Thread Cert.DguIdeal.nD Cert.DguIdeal.τ).loc Cert.DguIdeal.main_arg2))).2.1 = (fun _ => 1#1)
    ∧ (Cert.Pre_finite_dgu.fn (F := Ideal) (m ((c.tc : Thread Cert.DguIdeal.nD Cert.DguIdeal.τ).loc Cert.DguIdeal.main_arg0)) (m ((c.tc : Thread Cert.DguIdeal.nD Cert.DguIdeal.τ).loc Cert.DguIdeal.main_arg1)) (m ((c.tc : Thread Cert.DguIdeal.nD Cert.DguIdeal.τ).loc Cert.DguIdeal.main_arg2))).2.2 = (fun _ => 1#1)

def Pre_DguReferenceIdeal (m : (ℓ : Loc Cert.DguReferenceIdeal.nD Cert.DguReferenceIdeal.τ Cert.DguReferenceIdeal.sig) → Buf (Elt Ideal) ℓ) : Prop :=
  True

def Pre_DguReferenceIdeal_finite_dgu [hPre_finite_dgu : Cert.Pre_finite_dgu.Facts] (m : (ℓ : Loc Cert.DguReferenceIdeal.nD Cert.DguReferenceIdeal.τ Cert.DguReferenceIdeal.sig) → Buf (Elt Ideal) ℓ) : Prop :=
  ∀ c : Dev Cert.DguReferenceIdeal.nD,
    (Cert.Pre_finite_dgu.fn (F := Ideal) (m ((c.tc : Thread Cert.DguReferenceIdeal.nD Cert.DguReferenceIdeal.τ).loc Cert.DguReferenceIdeal.main_arg0)) (m ((c.tc : Thread Cert.DguReferenceIdeal.nD Cert.DguReferenceIdeal.τ).loc Cert.DguReferenceIdeal.main_arg1)) (m ((c.tc : Thread Cert.DguReferenceIdeal.nD Cert.DguReferenceIdeal.τ).loc Cert.DguReferenceIdeal.main_arg2))).1 = (fun _ => 1#1)
    ∧ (Cert.Pre_finite_dgu.fn (F := Ideal) (m ((c.tc : Thread Cert.DguReferenceIdeal.nD Cert.DguReferenceIdeal.τ).loc Cert.DguReferenceIdeal.main_arg0)) (m ((c.tc : Thread Cert.DguReferenceIdeal.nD Cert.DguReferenceIdeal.τ).loc Cert.DguReferenceIdeal.main_arg1)) (m ((c.tc : Thread Cert.DguReferenceIdeal.nD Cert.DguReferenceIdeal.τ).loc Cert.DguReferenceIdeal.main_arg2))).2.1 = (fun _ => 1#1)
    ∧ (Cert.Pre_finite_dgu.fn (F := Ideal) (m ((c.tc : Thread Cert.DguReferenceIdeal.nD Cert.DguReferenceIdeal.τ).loc Cert.DguReferenceIdeal.main_arg0)) (m ((c.tc : Thread Cert.DguReferenceIdeal.nD Cert.DguReferenceIdeal.τ).loc Cert.DguReferenceIdeal.main_arg1)) (m ((c.tc : Thread Cert.DguReferenceIdeal.nD Cert.DguReferenceIdeal.τ).loc Cert.DguReferenceIdeal.main_arg2))).2.2 = (fun _ => 1#1)

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RmsIdeal_finite_rms [hPre_finite_rms : Cert.Pre_finite_rms.Facts] (m : (ℓ : Loc Cert.RmsIdeal.nD Cert.RmsIdeal.τ Cert.RmsIdeal.sig) → Buf (Elt Ideal) ℓ) : Prop :=
  ∀ c : Dev Cert.RmsIdeal.nD,
    (Cert.Pre_finite_rms.fn (F := Ideal) (m ((c.tc : Thread Cert.RmsIdeal.nD Cert.RmsIdeal.τ).loc Cert.RmsIdeal.main_arg0)) (m ((c.tc : Thread Cert.RmsIdeal.nD Cert.RmsIdeal.τ).loc Cert.RmsIdeal.main_arg1)) (m ((c.tc : Thread Cert.RmsIdeal.nD Cert.RmsIdeal.τ).loc Cert.RmsIdeal.main_arg2)) (m ((c.tc : Thread Cert.RmsIdeal.nD Cert.RmsIdeal.τ).loc Cert.RmsIdeal.main_arg3))).1 = (fun _ => 1#1)
    ∧ (Cert.Pre_finite_rms.fn (F := Ideal) (m ((c.tc : Thread Cert.RmsIdeal.nD Cert.RmsIdeal.τ).loc Cert.RmsIdeal.main_arg0)) (m ((c.tc : Thread Cert.RmsIdeal.nD Cert.RmsIdeal.τ).loc Cert.RmsIdeal.main_arg1)) (m ((c.tc : Thread Cert.RmsIdeal.nD Cert.RmsIdeal.τ).loc Cert.RmsIdeal.main_arg2)) (m ((c.tc : Thread Cert.RmsIdeal.nD Cert.RmsIdeal.τ).loc Cert.RmsIdeal.main_arg3))).2.1 = (fun _ => 1#1)
    ∧ (Cert.Pre_finite_rms.fn (F := Ideal) (m ((c.tc : Thread Cert.RmsIdeal.nD Cert.RmsIdeal.τ).loc Cert.RmsIdeal.main_arg0)) (m ((c.tc : Thread Cert.RmsIdeal.nD Cert.RmsIdeal.τ).loc Cert.RmsIdeal.main_arg1)) (m ((c.tc : Thread Cert.RmsIdeal.nD Cert.RmsIdeal.τ).loc Cert.RmsIdeal.main_arg2)) (m ((c.tc : Thread Cert.RmsIdeal.nD Cert.RmsIdeal.τ).loc Cert.RmsIdeal.main_arg3))).2.2 = (fun _ => 1#1)

def Pre_RmsReferenceIdeal (m : (ℓ : Loc Cert.RmsReferenceIdeal.nD Cert.RmsReferenceIdeal.τ Cert.RmsReferenceIdeal.sig) → Buf (Elt Ideal) ℓ) : Prop :=
  True

def Pre_RmsReferenceIdeal_finite_rms [hPre_finite_rms : Cert.Pre_finite_rms.Facts] (m : (ℓ : Loc Cert.RmsReferenceIdeal.nD Cert.RmsReferenceIdeal.τ Cert.RmsReferenceIdeal.sig) → Buf (Elt Ideal) ℓ) : Prop :=
  ∀ c : Dev Cert.RmsReferenceIdeal.nD,
    (Cert.Pre_finite_rms.fn (F := Ideal) (m ((c.tc : Thread Cert.RmsReferenceIdeal.nD Cert.RmsReferenceIdeal.τ).loc Cert.RmsReferenceIdeal.main_arg0)) (m ((c.tc : Thread Cert.RmsReferenceIdeal.nD Cert.RmsReferenceIdeal.τ).loc Cert.RmsReferenceIdeal.main_arg1)) (m ((c.tc : Thread Cert.RmsReferenceIdeal.nD Cert.RmsReferenceIdeal.τ).loc Cert.RmsReferenceIdeal.main_arg2)) (m ((c.tc : Thread Cert.RmsReferenceIdeal.nD Cert.RmsReferenceIdeal.τ).loc Cert.RmsReferenceIdeal.main_arg3))).1 = (fun _ => 1#1)
    ∧ (Cert.Pre_finite_rms.fn (F := Ideal) (m ((c.tc : Thread Cert.RmsReferenceIdeal.nD Cert.RmsReferenceIdeal.τ).loc Cert.RmsReferenceIdeal.main_arg0)) (m ((c.tc : Thread Cert.RmsReferenceIdeal.nD Cert.RmsReferenceIdeal.τ).loc Cert.RmsReferenceIdeal.main_arg1)) (m ((c.tc : Thread Cert.RmsReferenceIdeal.nD Cert.RmsReferenceIdeal.τ).loc Cert.RmsReferenceIdeal.main_arg2)) (m ((c.tc : Thread Cert.RmsReferenceIdeal.nD Cert.RmsReferenceIdeal.τ).loc Cert.RmsReferenceIdeal.main_arg3))).2.1 = (fun _ => 1#1)
    ∧ (Cert.Pre_finite_rms.fn (F := Ideal) (m ((c.tc : Thread Cert.RmsReferenceIdeal.nD Cert.RmsReferenceIdeal.τ).loc Cert.RmsReferenceIdeal.main_arg0)) (m ((c.tc : Thread Cert.RmsReferenceIdeal.nD Cert.RmsReferenceIdeal.τ).loc Cert.RmsReferenceIdeal.main_arg1)) (m ((c.tc : Thread Cert.RmsReferenceIdeal.nD Cert.RmsReferenceIdeal.τ).loc Cert.RmsReferenceIdeal.main_arg2)) (m ((c.tc : Thread Cert.RmsReferenceIdeal.nD Cert.RmsReferenceIdeal.τ).loc Cert.RmsReferenceIdeal.main_arg3))).2.2 = (fun _ => 1#1)

def Pre_MemDrms (m : (ℓ : Loc Cert.MemDrms.nD Cert.MemDrms.τ Cert.MemDrms.sig) → Buf (Elt Bits) ℓ) : Prop :=
  True

def Pre_MemDrmsIdeal (m : (ℓ : Loc Cert.MemDrmsIdeal.nD Cert.MemDrmsIdeal.τ Cert.MemDrmsIdeal.sig) → Buf (Elt Ideal) ℓ) : Prop :=
  True

def Pre_MemDrmsIdeal_finite_mem_drms [hPre_finite_mem_drms : Cert.Pre_finite_mem_drms.Facts] (m : (ℓ : Loc Cert.MemDrmsIdeal.nD Cert.MemDrmsIdeal.τ Cert.MemDrmsIdeal.sig) → Buf (Elt Ideal) ℓ) : Prop :=
  ∀ c : Dev Cert.MemDrmsIdeal.nD,
    (Cert.Pre_finite_mem_drms.fn (F := Ideal) (m ((c.tc : Thread Cert.MemDrmsIdeal.nD Cert.MemDrmsIdeal.τ).loc Cert.MemDrmsIdeal.main_arg0)) (m ((c.tc : Thread Cert.MemDrmsIdeal.nD Cert.MemDrmsIdeal.τ).loc Cert.MemDrmsIdeal.main_arg1)) (m ((c.tc : Thread Cert.MemDrmsIdeal.nD Cert.MemDrmsIdeal.τ).loc Cert.MemDrmsIdeal.main_arg2))).1 = (fun _ => 1#1)
    ∧ (Cert.Pre_finite_mem_drms.fn (F := Ideal) (m ((c.tc : Thread Cert.MemDrmsIdeal.nD Cert.MemDrmsIdeal.τ).loc Cert.MemDrmsIdeal.main_arg0)) (m ((c.tc : Thread Cert.MemDrmsIdeal.nD Cert.MemDrmsIdeal.τ).loc Cert.MemDrmsIdeal.main_arg1)) (m ((c.tc : Thread Cert.MemDrmsIdeal.nD Cert.MemDrmsIdeal.τ).loc Cert.MemDrmsIdeal.main_arg2))).2.1 = (fun _ => 1#1)
    ∧ (Cert.Pre_finite_mem_drms.fn (F := Ideal) (m ((c.tc : Thread Cert.MemDrmsIdeal.nD Cert.MemDrmsIdeal.τ).loc Cert.MemDrmsIdeal.main_arg0)) (m ((c.tc : Thread Cert.MemDrmsIdeal.nD Cert.MemDrmsIdeal.τ).loc Cert.MemDrmsIdeal.main_arg1)) (m ((c.tc : Thread Cert.MemDrmsIdeal.nD Cert.MemDrmsIdeal.τ).loc Cert.MemDrmsIdeal.main_arg2))).2.2 = (fun _ => 1#1)

def Pre_MemDrmsReferenceIdeal (m : (ℓ : Loc Cert.MemDrmsReferenceIdeal.nD Cert.MemDrmsReferenceIdeal.τ Cert.MemDrmsReferenceIdeal.sig) → Buf (Elt Ideal) ℓ) : Prop :=
  True

def Pre_MemDrmsReferenceIdeal_finite_mem_drms [hPre_finite_mem_drms : Cert.Pre_finite_mem_drms.Facts] (m : (ℓ : Loc Cert.MemDrmsReferenceIdeal.nD Cert.MemDrmsReferenceIdeal.τ Cert.MemDrmsReferenceIdeal.sig) → Buf (Elt Ideal) ℓ) : Prop :=
  ∀ c : Dev Cert.MemDrmsReferenceIdeal.nD,
    (Cert.Pre_finite_mem_drms.fn (F := Ideal) (m ((c.tc : Thread Cert.MemDrmsReferenceIdeal.nD Cert.MemDrmsReferenceIdeal.τ).loc Cert.MemDrmsReferenceIdeal.main_arg0)) (m ((c.tc : Thread Cert.MemDrmsReferenceIdeal.nD Cert.MemDrmsReferenceIdeal.τ).loc Cert.MemDrmsReferenceIdeal.main_arg1)) (m ((c.tc : Thread Cert.MemDrmsReferenceIdeal.nD Cert.MemDrmsReferenceIdeal.τ).loc Cert.MemDrmsReferenceIdeal.main_arg2))).1 = (fun _ => 1#1)
    ∧ (Cert.Pre_finite_mem_drms.fn (F := Ideal) (m ((c.tc : Thread Cert.MemDrmsReferenceIdeal.nD Cert.MemDrmsReferenceIdeal.τ).loc Cert.MemDrmsReferenceIdeal.main_arg0)) (m ((c.tc : Thread Cert.MemDrmsReferenceIdeal.nD Cert.MemDrmsReferenceIdeal.τ).loc Cert.MemDrmsReferenceIdeal.main_arg1)) (m ((c.tc : Thread Cert.MemDrmsReferenceIdeal.nD Cert.MemDrmsReferenceIdeal.τ).loc Cert.MemDrmsReferenceIdeal.main_arg2))).2.1 = (fun _ => 1#1)
    ∧ (Cert.Pre_finite_mem_drms.fn (F := Ideal) (m ((c.tc : Thread Cert.MemDrmsReferenceIdeal.nD Cert.MemDrmsReferenceIdeal.τ).loc Cert.MemDrmsReferenceIdeal.main_arg0)) (m ((c.tc : Thread Cert.MemDrmsReferenceIdeal.nD Cert.MemDrmsReferenceIdeal.τ).loc Cert.MemDrmsReferenceIdeal.main_arg1)) (m ((c.tc : Thread Cert.MemDrmsReferenceIdeal.nD Cert.MemDrmsReferenceIdeal.τ).loc Cert.MemDrmsReferenceIdeal.main_arg2))).2.2 = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_MemFwd (m : (ℓ : Loc Cert.MemFwd.nD Cert.MemFwd.τ Cert.MemFwd.sig) → Buf (Elt Bits) ℓ) : Prop :=
  True

def Pre_MemFwdIdeal (m : (ℓ : Loc Cert.MemFwdIdeal.nD Cert.MemFwdIdeal.τ Cert.MemFwdIdeal.sig) → Buf (Elt Ideal) ℓ) : Prop :=
  True

def Pre_MemFwdReferenceIdeal (m : (ℓ : Loc Cert.MemFwdReferenceIdeal.nD Cert.MemFwdReferenceIdeal.τ Cert.MemFwdReferenceIdeal.sig) → Buf (Elt Ideal) ℓ) : Prop :=
  True

def Pre_FoxFwd (m : (ℓ : Loc Cert.FoxFwd.nD Cert.FoxFwd.τ Cert.FoxFwd.sig) → Buf (Elt Bits) ℓ) : Prop :=
  True

def Pre_FoxFwdIdeal (m : (ℓ : Loc Cert.FoxFwdIdeal.nD Cert.FoxFwdIdeal.τ Cert.FoxFwdIdeal.sig) → Buf (Elt Ideal) ℓ) : Prop :=
  True

def Pre_FoxFwdIdeal_finite_fox [hPre_finite_fox : Cert.Pre_finite_fox.Facts] (m : (ℓ : Loc Cert.FoxFwdIdeal.nD Cert.FoxFwdIdeal.τ Cert.FoxFwdIdeal.sig) → Buf (Elt Ideal) ℓ) : Prop :=
  ∀ c : Dev Cert.FoxFwdIdeal.nD,
    (Cert.Pre_finite_fox.fn (F := Ideal) (m ((c.tc : Thread Cert.FoxFwdIdeal.nD Cert.FoxFwdIdeal.τ).loc Cert.FoxFwdIdeal.main_arg0)) (m ((c.tc : Thread Cert.FoxFwdIdeal.nD Cert.FoxFwdIdeal.τ).loc Cert.FoxFwdIdeal.main_arg1)) (m ((c.tc : Thread Cert.FoxFwdIdeal.nD Cert.FoxFwdIdeal.τ).loc Cert.FoxFwdIdeal.main_arg2)) (m ((c.tc : Thread Cert.FoxFwdIdeal.nD Cert.FoxFwdIdeal.τ).loc Cert.FoxFwdIdeal.main_arg3))).1 = (fun _ => 1#1)
    ∧ (Cert.Pre_finite_fox.fn (F := Ideal) (m ((c.tc : Thread Cert.FoxFwdIdeal.nD Cert.FoxFwdIdeal.τ).loc Cert.FoxFwdIdeal.main_arg0)) (m ((c.tc : Thread Cert.FoxFwdIdeal.nD Cert.FoxFwdIdeal.τ).loc Cert.FoxFwdIdeal.main_arg1)) (m ((c.tc : Thread Cert.FoxFwdIdeal.nD Cert.FoxFwdIdeal.τ).loc Cert.FoxFwdIdeal.main_arg2)) (m ((c.tc : Thread Cert.FoxFwdIdeal.nD Cert.FoxFwdIdeal.τ).loc Cert.FoxFwdIdeal.main_arg3))).2.1 = (fun _ => 1#1)
    ∧ (Cert.Pre_finite_fox.fn (F := Ideal) (m ((c.tc : Thread Cert.FoxFwdIdeal.nD Cert.FoxFwdIdeal.τ).loc Cert.FoxFwdIdeal.main_arg0)) (m ((c.tc : Thread Cert.FoxFwdIdeal.nD Cert.FoxFwdIdeal.τ).loc Cert.FoxFwdIdeal.main_arg1)) (m ((c.tc : Thread Cert.FoxFwdIdeal.nD Cert.FoxFwdIdeal.τ).loc Cert.FoxFwdIdeal.main_arg2)) (m ((c.tc : Thread Cert.FoxFwdIdeal.nD Cert.FoxFwdIdeal.τ).loc Cert.FoxFwdIdeal.main_arg3))).2.2 = (fun _ => 1#1)

def Pre_FoxFwdReferenceIdeal (m : (ℓ : Loc Cert.FoxFwdReferenceIdeal.nD Cert.FoxFwdReferenceIdeal.τ Cert.FoxFwdReferenceIdeal.sig) → Buf (Elt Ideal) ℓ) : Prop :=
  True

def Pre_FoxFwdReferenceIdeal_finite_fox [hPre_finite_fox : Cert.Pre_finite_fox.Facts] (m : (ℓ : Loc Cert.FoxFwdReferenceIdeal.nD Cert.FoxFwdReferenceIdeal.τ Cert.FoxFwdReferenceIdeal.sig) → Buf (Elt Ideal) ℓ) : Prop :=
  ∀ c : Dev Cert.FoxFwdReferenceIdeal.nD,
    (Cert.Pre_finite_fox.fn (F := Ideal) (m ((c.tc : Thread Cert.FoxFwdReferenceIdeal.nD Cert.FoxFwdReferenceIdeal.τ).loc Cert.FoxFwdReferenceIdeal.main_arg0)) (m ((c.tc : Thread Cert.FoxFwdReferenceIdeal.nD Cert.FoxFwdReferenceIdeal.τ).loc Cert.FoxFwdReferenceIdeal.main_arg1)) (m ((c.tc : Thread Cert.FoxFwdReferenceIdeal.nD Cert.FoxFwdReferenceIdeal.τ).loc Cert.FoxFwdReferenceIdeal.main_arg2)) (m ((c.tc : Thread Cert.FoxFwdReferenceIdeal.nD Cert.FoxFwdReferenceIdeal.τ).loc Cert.FoxFwdReferenceIdeal.main_arg3))).1 = (fun _ => 1#1)
    ∧ (Cert.Pre_finite_fox.fn (F := Ideal) (m ((c.tc : Thread Cert.FoxFwdReferenceIdeal.nD Cert.FoxFwdReferenceIdeal.τ).loc Cert.FoxFwdReferenceIdeal.main_arg0)) (m ((c.tc : Thread Cert.FoxFwdReferenceIdeal.nD Cert.FoxFwdReferenceIdeal.τ).loc Cert.FoxFwdReferenceIdeal.main_arg1)) (m ((c.tc : Thread Cert.FoxFwdReferenceIdeal.nD Cert.FoxFwdReferenceIdeal.τ).loc Cert.FoxFwdReferenceIdeal.main_arg2)) (m ((c.tc : Thread Cert.FoxFwdReferenceIdeal.nD Cert.FoxFwdReferenceIdeal.τ).loc Cert.FoxFwdReferenceIdeal.main_arg3))).2.1 = (fun _ => 1#1)
    ∧ (Cert.Pre_finite_fox.fn (F := Ideal) (m ((c.tc : Thread Cert.FoxFwdReferenceIdeal.nD Cert.FoxFwdReferenceIdeal.τ).loc Cert.FoxFwdReferenceIdeal.main_arg0)) (m ((c.tc : Thread Cert.FoxFwdReferenceIdeal.nD Cert.FoxFwdReferenceIdeal.τ).loc Cert.FoxFwdReferenceIdeal.main_arg1)) (m ((c.tc : Thread Cert.FoxFwdReferenceIdeal.nD Cert.FoxFwdReferenceIdeal.τ).loc Cert.FoxFwdReferenceIdeal.main_arg2)) (m ((c.tc : Thread Cert.FoxFwdReferenceIdeal.nD Cert.FoxFwdReferenceIdeal.τ).loc Cert.FoxFwdReferenceIdeal.main_arg3))).2.2 = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_Dwd (m : (ℓ : Loc Cert.Dwd.nD Cert.Dwd.τ Cert.Dwd.sig) → Buf (Elt Bits) ℓ) : Prop :=
  True

def Pre_DwdIdeal (m : (ℓ : Loc Cert.DwdIdeal.nD Cert.DwdIdeal.τ Cert.DwdIdeal.sig) → Buf (Elt Ideal) ℓ) : Prop :=
  True

def Pre_DwdReferenceIdeal (m : (ℓ : Loc Cert.DwdReferenceIdeal.nD Cert.DwdReferenceIdeal.τ Cert.DwdReferenceIdeal.sig) → Buf (Elt Ideal) ℓ) : Prop :=
  True

def Pre_Gu (m : (ℓ : Loc Cert.Gu.nD Cert.Gu.τ Cert.Gu.sig) → Buf (Elt Bits) ℓ) : Prop :=
  True

def Pre_GuIdeal (m : (ℓ : Loc Cert.GuIdeal.nD Cert.GuIdeal.τ Cert.GuIdeal.sig) → Buf (Elt Ideal) ℓ) : Prop :=
  True

def Pre_GuReferenceIdeal (m : (ℓ : Loc Cert.GuReferenceIdeal.nD Cert.GuReferenceIdeal.τ Cert.GuReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutReferenceIdeal (m : (ℓ : Loc Cert.MixOutReferenceIdeal.nD Cert.MixOutReferenceIdeal.τ Cert.MixOutReferenceIdeal.sig) → Buf (Elt Ideal) ℓ) : Prop :=
  True

def Pre_MixOutDx (m : (ℓ : Loc Cert.MixOutDx.nD Cert.MixOutDx.τ Cert.MixOutDx.sig) → Buf (Elt Bits) ℓ) : Prop :=
  True

def Pre_MixOutDxIdeal (m : (ℓ : Loc Cert.MixOutDxIdeal.nD Cert.MixOutDxIdeal.τ Cert.MixOutDxIdeal.sig) → Buf (Elt Ideal) ℓ) : Prop :=
  True

def Pre_MixOutDxReferenceIdeal (m : (ℓ : Loc Cert.MixOutDxReferenceIdeal.nD Cert.MixOutDxReferenceIdeal.τ Cert.MixOutDxReferenceIdeal.sig) → Buf (Elt Ideal) ℓ) : Prop :=
  True

def Pre_MixOutDw (m : (ℓ : Loc Cert.MixOutDw.nD Cert.MixOutDw.τ Cert.MixOutDw.sig) → Buf (Elt Bits) ℓ) : Prop :=
  True

def Pre_MixOutDwIdeal (m : (ℓ : Loc Cert.MixOutDwIdeal.nD Cert.MixOutDwIdeal.τ Cert.MixOutDwIdeal.sig) → Buf (Elt Ideal) ℓ) : Prop :=
  True

def Pre_MixOutDwReferenceIdeal (m : (ℓ : Loc Cert.MixOutDwReferenceIdeal.nD Cert.MixOutDwReferenceIdeal.τ Cert.MixOutDwReferenceIdeal.sig) → Buf (Elt Ideal) ℓ) : Prop :=
  True

def Pre_FoxO (m : (ℓ : Loc Cert.FoxO.nD Cert.FoxO.τ Cert.FoxO.sig) → Buf (Elt Bits) ℓ) : Prop :=
  True

def Pre_FoxOIdeal (m : (ℓ : Loc Cert.FoxOIdeal.nD Cert.FoxOIdeal.τ Cert.FoxOIdeal.sig) → Buf (Elt Ideal) ℓ) : Prop :=
  True

def Pre_FoxOReferenceIdeal (m : (ℓ : Loc Cert.FoxOReferenceIdeal.nD Cert.FoxOReferenceIdeal.τ Cert.FoxOReferenceIdeal.sig) → Buf (Elt Ideal) ℓ) : Prop :=
  True

def Pre_FoxODx (m : (ℓ : Loc Cert.FoxODx.nD Cert.FoxODx.τ Cert.FoxODx.sig) → Buf (Elt Bits) ℓ) : Prop :=
  True

def Pre_FoxODxIdeal (m : (ℓ : Loc Cert.FoxODxIdeal.nD Cert.FoxODxIdeal.τ Cert.FoxODxIdeal.sig) → Buf (Elt Ideal) ℓ) : Prop :=
  True

def Pre_FoxODxReferenceIdeal (m : (ℓ : Loc Cert.FoxODxReferenceIdeal.nD Cert.FoxODxReferenceIdeal.τ Cert.FoxODxReferenceIdeal.sig) → Buf (Elt Ideal) ℓ) : Prop :=
  True

def Pre_FoxODw (m : (ℓ : Loc Cert.FoxODw.nD Cert.FoxODw.τ Cert.FoxODw.sig) → Buf (Elt Bits) ℓ) : Prop :=
  True

def Pre_FoxODwIdeal (m : (ℓ : Loc Cert.FoxODwIdeal.nD Cert.FoxODwIdeal.τ Cert.FoxODwIdeal.sig) → Buf (Elt Ideal) ℓ) : Prop :=
  True

def Pre_FoxODwReferenceIdeal (m : (ℓ : Loc Cert.FoxODwReferenceIdeal.nD Cert.FoxODwReferenceIdeal.τ Cert.FoxODwReferenceIdeal.sig) → Buf (Elt Ideal) ℓ) : Prop :=
  True

def Pre_PoolUp (m : (ℓ : Loc Cert.PoolUp.nD Cert.PoolUp.τ Cert.PoolUp.sig) → Buf (Elt Bits) ℓ) : Prop :=
  True

def Pre_PoolUpIdeal (m : (ℓ : Loc Cert.PoolUpIdeal.nD Cert.PoolUpIdeal.τ Cert.PoolUpIdeal.sig) → Buf (Elt Ideal) ℓ) : Prop :=
  True

def Pre_PoolUpReferenceIdeal (m : (ℓ : Loc Cert.PoolUpReferenceIdeal.nD Cert.PoolUpReferenceIdeal.τ Cert.PoolUpReferenceIdeal.sig) → Buf (Elt Ideal) ℓ) : Prop :=
  True

def Pre_PoolUpDx (m : (ℓ : Loc Cert.PoolUpDx.nD Cert.PoolUpDx.τ Cert.PoolUpDx.sig) → Buf (Elt Bits) ℓ) : Prop :=
  True

def Pre_PoolUpDxIdeal (m : (ℓ : Loc Cert.PoolUpDxIdeal.nD Cert.PoolUpDxIdeal.τ Cert.PoolUpDxIdeal.sig) → Buf (Elt Ideal) ℓ) : Prop :=
  True

def Pre_PoolUpDxReferenceIdeal (m : (ℓ : Loc Cert.PoolUpDxReferenceIdeal.nD Cert.PoolUpDxReferenceIdeal.τ Cert.PoolUpDxReferenceIdeal.sig) → Buf (Elt Ideal) ℓ) : Prop :=
  True

def Pre_PoolUpDw (m : (ℓ : Loc Cert.PoolUpDw.nD Cert.PoolUpDw.τ Cert.PoolUpDw.sig) → Buf (Elt Bits) ℓ) : Prop :=
  True

def Pre_PoolUpDwIdeal (m : (ℓ : Loc Cert.PoolUpDwIdeal.nD Cert.PoolUpDwIdeal.τ Cert.PoolUpDwIdeal.sig) → Buf (Elt Ideal) ℓ) : Prop :=
  True

def Pre_PoolUpDwReferenceIdeal (m : (ℓ : Loc Cert.PoolUpDwReferenceIdeal.nD Cert.PoolUpDwReferenceIdeal.τ Cert.PoolUpDwReferenceIdeal.sig) → Buf (Elt Ideal) ℓ) : Prop :=
  True

def Pre_MemO (m : (ℓ : Loc Cert.MemO.nD Cert.MemO.τ Cert.MemO.sig) → Buf (Elt Bits) ℓ) : Prop :=
  True

def Pre_MemOIdeal (m : (ℓ : Loc Cert.MemOIdeal.nD Cert.MemOIdeal.τ Cert.MemOIdeal.sig) → Buf (Elt Ideal) ℓ) : Prop :=
  True

def Pre_MemOReferenceIdeal (m : (ℓ : Loc Cert.MemOReferenceIdeal.nD Cert.MemOReferenceIdeal.τ Cert.MemOReferenceIdeal.sig) → Buf (Elt Ideal) ℓ) : Prop :=
  True

def Pre_MemODw (m : (ℓ : Loc Cert.MemODw.nD Cert.MemODw.τ Cert.MemODw.sig) → Buf (Elt Bits) ℓ) : Prop :=
  True

def Pre_MemODwIdeal (m : (ℓ : Loc Cert.MemODwIdeal.nD Cert.MemODwIdeal.τ Cert.MemODwIdeal.sig) → Buf (Elt Ideal) ℓ) : Prop :=
  True

def Pre_MemODwReferenceIdeal (m : (ℓ : Loc Cert.MemODwReferenceIdeal.nD Cert.MemODwReferenceIdeal.τ Cert.MemODwReferenceIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvReferenceIdeal (m : (ℓ : Loc Cert.MemKvReferenceIdeal.nD Cert.MemKvReferenceIdeal.τ Cert.MemKvReferenceIdeal.sig) → Buf (Elt Ideal) ℓ) : Prop :=
  True

def Pre_MemKvDx (m : (ℓ : Loc Cert.MemKvDx.nD Cert.MemKvDx.τ Cert.MemKvDx.sig) → Buf (Elt Bits) ℓ) : Prop :=
  True

def Pre_MemKvDxIdeal (m : (ℓ : Loc Cert.MemKvDxIdeal.nD Cert.MemKvDxIdeal.τ Cert.MemKvDxIdeal.sig) → Buf (Elt Ideal) ℓ) : Prop :=
  True

def Pre_MemKvDxReferenceIdeal (m : (ℓ : Loc Cert.MemKvDxReferenceIdeal.nD Cert.MemKvDxReferenceIdeal.τ Cert.MemKvDxReferenceIdeal.sig) → Buf (Elt Ideal) ℓ) : Prop :=
  True

def Pre_MemKvDw (m : (ℓ : Loc Cert.MemKvDw.nD Cert.MemKvDw.τ Cert.MemKvDw.sig) → Buf (Elt Bits) ℓ) : Prop :=
  True

def Pre_MemKvDwIdeal (m : (ℓ : Loc Cert.MemKvDwIdeal.nD Cert.MemKvDwIdeal.τ Cert.MemKvDwIdeal.sig) → Buf (Elt Ideal) ℓ) : Prop :=
  True

def Pre_MemKvDwReferenceIdeal (m : (ℓ : Loc Cert.MemKvDwReferenceIdeal.nD Cert.MemKvDwReferenceIdeal.τ Cert.MemKvDwReferenceIdeal.sig) → Buf (Elt Ideal) ℓ) : Prop :=
  True

def Pre_FfnGu (m : (ℓ : Loc Cert.FfnGu.nD Cert.FfnGu.τ Cert.FfnGu.sig) → Buf (Elt Bits) ℓ) : Prop :=
  True

def Pre_FfnGuIdeal (m : (ℓ : Loc Cert.FfnGuIdeal.nD Cert.FfnGuIdeal.τ Cert.FfnGuIdeal.sig) → Buf (Elt Ideal) ℓ) : Prop :=
  True

def Pre_FfnGuReferenceIdeal (m : (ℓ : Loc Cert.FfnGuReferenceIdeal.nD Cert.FfnGuReferenceIdeal.τ Cert.FfnGuReferenceIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownReferenceIdeal (m : (ℓ : Loc Cert.FfnDownReferenceIdeal.nD Cert.FfnDownReferenceIdeal.τ Cert.FfnDownReferenceIdeal.sig) → Buf (Elt Ideal) ℓ) : Prop :=
  True

def Pre_FfnDa (m : (ℓ : Loc Cert.FfnDa.nD Cert.FfnDa.τ Cert.FfnDa.sig) → Buf (Elt Bits) ℓ) : Prop :=
  True

def Pre_FfnDaIdeal (m : (ℓ : Loc Cert.FfnDaIdeal.nD Cert.FfnDaIdeal.τ Cert.FfnDaIdeal.sig) → Buf (Elt Ideal) ℓ) : Prop :=
  True

def Pre_FfnDaReferenceIdeal (m : (ℓ : Loc Cert.FfnDaReferenceIdeal.nD Cert.FfnDaReferenceIdeal.τ Cert.FfnDaReferenceIdeal.sig) → Buf (Elt Ideal) ℓ) : Prop :=
  True

def Pre_FfnDwd (m : (ℓ : Loc Cert.FfnDwd.nD Cert.FfnDwd.τ Cert.FfnDwd.sig) → Buf (Elt Bits) ℓ) : Prop :=
  True

def Pre_FfnDwdIdeal (m : (ℓ : Loc Cert.FfnDwdIdeal.nD Cert.FfnDwdIdeal.τ Cert.FfnDwdIdeal.sig) → Buf (Elt Ideal) ℓ) : Prop :=
  True

def Pre_FfnDwdReferenceIdeal (m : (ℓ : Loc Cert.FfnDwdReferenceIdeal.nD Cert.FfnDwdReferenceIdeal.τ Cert.FfnDwdReferenceIdeal.sig) → Buf (Elt Ideal) ℓ) : Prop :=
  True

def Pre_FfnDwgu (m : (ℓ : Loc Cert.FfnDwgu.nD Cert.FfnDwgu.τ Cert.FfnDwgu.sig) → Buf (Elt Bits) ℓ) : Prop :=
  True

def Pre_FfnDwguIdeal (m : (ℓ : Loc Cert.FfnDwguIdeal.nD Cert.FfnDwguIdeal.τ Cert.FfnDwguIdeal.sig) → Buf (Elt Ideal) ℓ) : Prop :=
  True

def Pre_FfnDwguReferenceIdeal (m : (ℓ : Loc Cert.FfnDwguReferenceIdeal.nD Cert.FfnDwguReferenceIdeal.τ Cert.FfnDwguReferenceIdeal.sig) → Buf (Elt Ideal) ℓ) : Prop :=
  True

def Pre_FfnDh (m : (ℓ : Loc Cert.FfnDh.nD Cert.FfnDh.τ Cert.FfnDh.sig) → Buf (Elt Bits) ℓ) : Prop :=
  True

def Pre_FfnDhIdeal (m : (ℓ : Loc Cert.FfnDhIdeal.nD Cert.FfnDhIdeal.τ Cert.FfnDhIdeal.sig) → Buf (Elt Ideal) ℓ) : Prop :=
  True

def Pre_FfnDhReferenceIdeal (m : (ℓ : Loc Cert.FfnDhReferenceIdeal.nD Cert.FfnDhReferenceIdeal.τ Cert.FfnDhReferenceIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInReferenceIdeal (m : (ℓ : Loc Cert.MixInReferenceIdeal.nD Cert.MixInReferenceIdeal.τ Cert.MixInReferenceIdeal.sig) → Buf (Elt Ideal) ℓ) : Prop :=
  True

def Pre_MixInDw (m : (ℓ : Loc Cert.MixInDw.nD Cert.MixInDw.τ Cert.MixInDw.sig) → Buf (Elt Bits) ℓ) : Prop :=
  True

def Pre_MixInDwIdeal (m : (ℓ : Loc Cert.MixInDwIdeal.nD Cert.MixInDwIdeal.τ Cert.MixInDwIdeal.sig) → Buf (Elt Ideal) ℓ) : Prop :=
  True

def Pre_MixInDwReferenceIdeal (m : (ℓ : Loc Cert.MixInDwReferenceIdeal.nD Cert.MixInDwReferenceIdeal.τ Cert.MixInDwReferenceIdeal.sig) → Buf (Elt Ideal) ℓ) : Prop :=
  True

def Pre_MixInDx (m : (ℓ : Loc Cert.MixInDx.nD Cert.MixInDx.τ Cert.MixInDx.sig) → Buf (Elt Bits) ℓ) : Prop :=
  True

def Pre_MixInDxIdeal (m : (ℓ : Loc Cert.MixInDxIdeal.nD Cert.MixInDxIdeal.τ Cert.MixInDxIdeal.sig) → Buf (Elt Ideal) ℓ) : Prop :=
  True

def Pre_MixInDxReferenceIdeal (m : (ℓ : Loc Cert.MixInDxReferenceIdeal.nD Cert.MixInDxReferenceIdeal.τ Cert.MixInDxReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Dgu [hDgu : Cert.Dgu.Facts] : Prop :=
  ∀ (m : (ℓ : Loc Cert.Dgu.nD Cert.Dgu.τ Cert.Dgu.sig) → Buf (Elt Bits) ℓ) (g : Dev Cert.Dgu.nD → PrngReg), Pre_Dgu m →
    θ_run (Cert.Dgu.defs (F := Bits)) (onTc (τ := Cert.Dgu.τ) (Cert.Dgu.main (F := Bits))) ⟨m, fun _ => 0, g⟩ (fun r => (∀ c : Dev Cert.Dgu.nD,
      r.2.mem ((c.tc : Thread Cert.Dgu.nD Cert.Dgu.τ).loc Cert.Dgu.main_arg0) = m ((c.tc : Thread Cert.Dgu.nD Cert.Dgu.τ).loc Cert.Dgu.main_arg0)
      ∧ r.2.mem ((c.tc : Thread Cert.Dgu.nD Cert.Dgu.τ).loc Cert.Dgu.main_arg1) = m ((c.tc : Thread Cert.Dgu.nD Cert.Dgu.τ).loc Cert.Dgu.main_arg1)
      ∧ r.2.mem ((c.tc : Thread Cert.Dgu.nD Cert.Dgu.τ).loc Cert.Dgu.main_arg2) = m ((c.tc : Thread Cert.Dgu.nD Cert.Dgu.τ).loc Cert.Dgu.main_arg2))
      ∧ r.2.sem = fun _ => 0)

def quiescent_DguIdeal [hDguIdeal : Cert.DguIdeal.Facts] : Prop :=
  ∀ (m : (ℓ : Loc Cert.DguIdeal.nD Cert.DguIdeal.τ Cert.DguIdeal.sig) → Buf (Elt Ideal) ℓ) (g : Dev Cert.DguIdeal.nD → PrngReg), Pre_DguIdeal m →
    θ_run (Cert.DguIdeal.defs (F := Ideal)) (onTc (τ := Cert.DguIdeal.τ) (Cert.DguIdeal.main (F := Ideal))) ⟨m, fun _ => 0, g⟩ (fun r => (∀ c : Dev Cert.DguIdeal.nD,
      r.2.mem ((c.tc : Thread Cert.DguIdeal.nD Cert.DguIdeal.τ).loc Cert.DguIdeal.main_arg0) = m ((c.tc : Thread Cert.DguIdeal.nD Cert.DguIdeal.τ).loc Cert.DguIdeal.main_arg0)
      ∧ r.2.mem ((c.tc : Thread Cert.DguIdeal.nD Cert.DguIdeal.τ).loc Cert.DguIdeal.main_arg1) = m ((c.tc : Thread Cert.DguIdeal.nD Cert.DguIdeal.τ).loc Cert.DguIdeal.main_arg1)
      ∧ r.2.mem ((c.tc : Thread Cert.DguIdeal.nD Cert.DguIdeal.τ).loc Cert.DguIdeal.main_arg2) = m ((c.tc : Thread Cert.DguIdeal.nD Cert.DguIdeal.τ).loc Cert.DguIdeal.main_arg2))
      ∧ r.2.sem = fun _ => 0)

def quiescent_DguIdeal_pre_finite_dgu [hDguIdeal : Cert.DguIdeal.Facts] [hPre_finite_dgu : Cert.Pre_finite_dgu.Facts] : Prop :=
  ∀ (m : (ℓ : Loc Cert.DguIdeal.nD Cert.DguIdeal.τ Cert.DguIdeal.sig) → Buf (Elt Ideal) ℓ) (g : Dev Cert.DguIdeal.nD → PrngReg), Pre_DguIdeal_finite_dgu m →
    θ_run (Cert.DguIdeal.defs (F := Ideal)) (onTc (τ := Cert.DguIdeal.τ) (Cert.DguIdeal.main (F := Ideal))) ⟨m, fun _ => 0, g⟩ (fun r => (∀ c : Dev Cert.DguIdeal.nD,
      r.2.mem ((c.tc : Thread Cert.DguIdeal.nD Cert.DguIdeal.τ).loc Cert.DguIdeal.main_arg0) = m ((c.tc : Thread Cert.DguIdeal.nD Cert.DguIdeal.τ).loc Cert.DguIdeal.main_arg0)
      ∧ r.2.mem ((c.tc : Thread Cert.DguIdeal.nD Cert.DguIdeal.τ).loc Cert.DguIdeal.main_arg1) = m ((c.tc : Thread Cert.DguIdeal.nD Cert.DguIdeal.τ).loc Cert.DguIdeal.main_arg1)
      ∧ r.2.mem ((c.tc : Thread Cert.DguIdeal.nD Cert.DguIdeal.τ).loc Cert.DguIdeal.main_arg2) = m ((c.tc : Thread Cert.DguIdeal.nD Cert.DguIdeal.τ).loc Cert.DguIdeal.main_arg2))
      ∧ r.2.sem = fun _ => 0)

def quiescent_DguReferenceIdeal [hDguReferenceIdeal : Cert.DguReferenceIdeal.Facts] : Prop :=
  ∀ (m : (ℓ : Loc Cert.DguReferenceIdeal.nD Cert.DguReferenceIdeal.τ Cert.DguReferenceIdeal.sig) → Buf (Elt Ideal) ℓ) (g : Dev Cert.DguReferenceIdeal.nD → PrngReg), Pre_DguReferenceIdeal m →
    θ_run (Cert.DguReferenceIdeal.defs (F := Ideal)) (onTc (τ := Cert.DguReferenceIdeal.τ) (Cert.DguReferenceIdeal.main (F := Ideal))) ⟨m, fun _ => 0, g⟩ (fun r => (∀ c : Dev Cert.DguReferenceIdeal.nD,
      r.2.mem ((c.tc : Thread Cert.DguReferenceIdeal.nD Cert.DguReferenceIdeal.τ).loc Cert.DguReferenceIdeal.main_arg0) = m ((c.tc : Thread Cert.DguReferenceIdeal.nD Cert.DguReferenceIdeal.τ).loc Cert.DguReferenceIdeal.main_arg0)
      ∧ r.2.mem ((c.tc : Thread Cert.DguReferenceIdeal.nD Cert.DguReferenceIdeal.τ).loc Cert.DguReferenceIdeal.main_arg1) = m ((c.tc : Thread Cert.DguReferenceIdeal.nD Cert.DguReferenceIdeal.τ).loc Cert.DguReferenceIdeal.main_arg1)
      ∧ r.2.mem ((c.tc : Thread Cert.DguReferenceIdeal.nD Cert.DguReferenceIdeal.τ).loc Cert.DguReferenceIdeal.main_arg2) = m ((c.tc : Thread Cert.DguReferenceIdeal.nD Cert.DguReferenceIdeal.τ).loc Cert.DguReferenceIdeal.main_arg2))
      ∧ r.2.sem = fun _ => 0)

def quiescent_DguReferenceIdeal_pre_finite_dgu [hDguReferenceIdeal : Cert.DguReferenceIdeal.Facts] [hPre_finite_dgu : Cert.Pre_finite_dgu.Facts] : Prop :=
  ∀ (m : (ℓ : Loc Cert.DguReferenceIdeal.nD Cert.DguReferenceIdeal.τ Cert.DguReferenceIdeal.sig) → Buf (Elt Ideal) ℓ) (g : Dev Cert.DguReferenceIdeal.nD → PrngReg), Pre_DguReferenceIdeal_finite_dgu m →
    θ_run (Cert.DguReferenceIdeal.defs (F := Ideal)) (onTc (τ := Cert.DguReferenceIdeal.τ) (Cert.DguReferenceIdeal.main (F := Ideal))) ⟨m, fun _ => 0, g⟩ (fun r => (∀ c : Dev Cert.DguReferenceIdeal.nD,
      r.2.mem ((c.tc : Thread Cert.DguReferenceIdeal.nD Cert.DguReferenceIdeal.τ).loc Cert.DguReferenceIdeal.main_arg0) = m ((c.tc : Thread Cert.DguReferenceIdeal.nD Cert.DguReferenceIdeal.τ).loc Cert.DguReferenceIdeal.main_arg0)
      ∧ r.2.mem ((c.tc : Thread Cert.DguReferenceIdeal.nD Cert.DguReferenceIdeal.τ).loc Cert.DguReferenceIdeal.main_arg1) = m ((c.tc : Thread Cert.DguReferenceIdeal.nD Cert.DguReferenceIdeal.τ).loc Cert.DguReferenceIdeal.main_arg1)
      ∧ r.2.mem ((c.tc : Thread Cert.DguReferenceIdeal.nD Cert.DguReferenceIdeal.τ).loc Cert.DguReferenceIdeal.main_arg2) = m ((c.tc : Thread Cert.DguReferenceIdeal.nD Cert.DguReferenceIdeal.τ).loc Cert.DguReferenceIdeal.main_arg2))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1)
      ∧ r.2.mem ((c.tc : Thread Cert.Rms.nD Cert.Rms.τ).loc Cert.Rms.main_arg2) = m ((c.tc : Thread Cert.Rms.nD Cert.Rms.τ).loc Cert.Rms.main_arg2)
      ∧ r.2.mem ((c.tc : Thread Cert.Rms.nD Cert.Rms.τ).loc Cert.Rms.main_arg3) = m ((c.tc : Thread Cert.Rms.nD Cert.Rms.τ).loc Cert.Rms.main_arg3))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
      ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
      ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3))
      ∧ r.2.sem = fun _ => 0)

def quiescent_RmsIdeal_pre_finite_rms [hRmsIdeal : Cert.RmsIdeal.Facts] [hPre_finite_rms : Cert.Pre_finite_rms.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal_finite_rms m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
      ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
      ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3))
      ∧ r.2.sem = fun _ => 0)

def quiescent_RmsReferenceIdeal [hRmsReferenceIdeal : Cert.RmsReferenceIdeal.Facts] : Prop :=
  ∀ (m : (ℓ : Loc Cert.RmsReferenceIdeal.nD Cert.RmsReferenceIdeal.τ Cert.RmsReferenceIdeal.sig) → Buf (Elt Ideal) ℓ) (g : Dev Cert.RmsReferenceIdeal.nD → PrngReg), Pre_RmsReferenceIdeal m →
    θ_run (Cert.RmsReferenceIdeal.defs (F := Ideal)) (onTc (τ := Cert.RmsReferenceIdeal.τ) (Cert.RmsReferenceIdeal.main (F := Ideal))) ⟨m, fun _ => 0, g⟩ (fun r => (∀ c : Dev Cert.RmsReferenceIdeal.nD,
      r.2.mem ((c.tc : Thread Cert.RmsReferenceIdeal.nD Cert.RmsReferenceIdeal.τ).loc Cert.RmsReferenceIdeal.main_arg0) = m ((c.tc : Thread Cert.RmsReferenceIdeal.nD Cert.RmsReferenceIdeal.τ).loc Cert.RmsReferenceIdeal.main_arg0)
      ∧ r.2.mem ((c.tc : Thread Cert.RmsReferenceIdeal.nD Cert.RmsReferenceIdeal.τ).loc Cert.RmsReferenceIdeal.main_arg1) = m ((c.tc : Thread Cert.RmsReferenceIdeal.nD Cert.RmsReferenceIdeal.τ).loc Cert.RmsReferenceIdeal.main_arg1)
      ∧ r.2.mem ((c.tc : Thread Cert.RmsReferenceIdeal.nD Cert.RmsReferenceIdeal.τ).loc Cert.RmsReferenceIdeal.main_arg2) = m ((c.tc : Thread Cert.RmsReferenceIdeal.nD Cert.RmsReferenceIdeal.τ).loc Cert.RmsReferenceIdeal.main_arg2)
      ∧ r.2.mem ((c.tc : Thread Cert.RmsReferenceIdeal.nD Cert.RmsReferenceIdeal.τ).loc Cert.RmsReferenceIdeal.main_arg3) = m ((c.tc : Thread Cert.RmsReferenceIdeal.nD Cert.RmsReferenceIdeal.τ).loc Cert.RmsReferenceIdeal.main_arg3))
      ∧ r.2.sem = fun _ => 0)

def quiescent_RmsReferenceIdeal_pre_finite_rms [hRmsReferenceIdeal : Cert.RmsReferenceIdeal.Facts] [hPre_finite_rms : Cert.Pre_finite_rms.Facts] : Prop :=
  ∀ (m : (ℓ : Loc Cert.RmsReferenceIdeal.nD Cert.RmsReferenceIdeal.τ Cert.RmsReferenceIdeal.sig) → Buf (Elt Ideal) ℓ) (g : Dev Cert.RmsReferenceIdeal.nD → PrngReg), Pre_RmsReferenceIdeal_finite_rms m →
    θ_run (Cert.RmsReferenceIdeal.defs (F := Ideal)) (onTc (τ := Cert.RmsReferenceIdeal.τ) (Cert.RmsReferenceIdeal.main (F := Ideal))) ⟨m, fun _ => 0, g⟩ (fun r => (∀ c : Dev Cert.RmsReferenceIdeal.nD,
      r.2.mem ((c.tc : Thread Cert.RmsReferenceIdeal.nD Cert.RmsReferenceIdeal.τ).loc Cert.RmsReferenceIdeal.main_arg0) = m ((c.tc : Thread Cert.RmsReferenceIdeal.nD Cert.RmsReferenceIdeal.τ).loc Cert.RmsReferenceIdeal.main_arg0)
      ∧ r.2.mem ((c.tc : Thread Cert.RmsReferenceIdeal.nD Cert.RmsReferenceIdeal.τ).loc Cert.RmsReferenceIdeal.main_arg1) = m ((c.tc : Thread Cert.RmsReferenceIdeal.nD Cert.RmsReferenceIdeal.τ).loc Cert.RmsReferenceIdeal.main_arg1)
      ∧ r.2.mem ((c.tc : Thread Cert.RmsReferenceIdeal.nD Cert.RmsReferenceIdeal.τ).loc Cert.RmsReferenceIdeal.main_arg2) = m ((c.tc : Thread Cert.RmsReferenceIdeal.nD Cert.RmsReferenceIdeal.τ).loc Cert.RmsReferenceIdeal.main_arg2)
      ∧ r.2.mem ((c.tc : Thread Cert.RmsReferenceIdeal.nD Cert.RmsReferenceIdeal.τ).loc Cert.RmsReferenceIdeal.main_arg3) = m ((c.tc : Thread Cert.RmsReferenceIdeal.nD Cert.RmsReferenceIdeal.τ).loc Cert.RmsReferenceIdeal.main_arg3))
      ∧ r.2.sem = fun _ => 0)

def quiescent_MemDrms [hMemDrms : Cert.MemDrms.Facts] : Prop :=
  ∀ (m : (ℓ : Loc Cert.MemDrms.nD Cert.MemDrms.τ Cert.MemDrms.sig) → Buf (Elt Bits) ℓ) (g : Dev Cert.MemDrms.nD → PrngReg), Pre_MemDrms m →
    θ_run (Cert.MemDrms.defs (F := Bits)) (onTc (τ := Cert.MemDrms.τ) (Cert.MemDrms.main (F := Bits))) ⟨m, fun _ => 0, g⟩ (fun r => (∀ c : Dev Cert.MemDrms.nD,
      r.2.mem ((c.tc : Thread Cert.MemDrms.nD Cert.MemDrms.τ).loc Cert.MemDrms.main_arg0) = m ((c.tc : Thread Cert.MemDrms.nD Cert.MemDrms.τ).loc Cert.MemDrms.main_arg0)
      ∧ r.2.mem ((c.tc : Thread Cert.MemDrms.nD Cert.MemDrms.τ).loc Cert.MemDrms.main_arg1) = m ((c.tc : Thread Cert.MemDrms.nD Cert.MemDrms.τ).loc Cert.MemDrms.main_arg1)
      ∧ r.2.mem ((c.tc : Thread Cert.MemDrms.nD Cert.MemDrms.τ).loc Cert.MemDrms.main_arg2) = m ((c.tc : Thread Cert.MemDrms.nD Cert.MemDrms.τ).loc Cert.MemDrms.main_arg2))
      ∧ r.2.sem = fun _ => 0)

def quiescent_MemDrmsIdeal [hMemDrmsIdeal : Cert.MemDrmsIdeal.Facts] : Prop :=
  ∀ (m : (ℓ : Loc Cert.MemDrmsIdeal.nD Cert.MemDrmsIdeal.τ Cert.MemDrmsIdeal.sig) → Buf (Elt Ideal) ℓ) (g : Dev Cert.MemDrmsIdeal.nD → PrngReg), Pre_MemDrmsIdeal m →
    θ_run (Cert.MemDrmsIdeal.defs (F := Ideal)) (onTc (τ := Cert.MemDrmsIdeal.τ) (Cert.MemDrmsIdeal.main (F := Ideal))) ⟨m, fun _ => 0, g⟩ (fun r => (∀ c : Dev Cert.MemDrmsIdeal.nD,
      r.2.mem ((c.tc : Thread Cert.MemDrmsIdeal.nD Cert.MemDrmsIdeal.τ).loc Cert.MemDrmsIdeal.main_arg0) = m ((c.tc : Thread Cert.MemDrmsIdeal.nD Cert.MemDrmsIdeal.τ).loc Cert.MemDrmsIdeal.main_arg0)
      ∧ r.2.mem ((c.tc : Thread Cert.MemDrmsIdeal.nD Cert.MemDrmsIdeal.τ).loc Cert.MemDrmsIdeal.main_arg1) = m ((c.tc : Thread Cert.MemDrmsIdeal.nD Cert.MemDrmsIdeal.τ).loc Cert.MemDrmsIdeal.main_arg1)
      ∧ r.2.mem ((c.tc : Thread Cert.MemDrmsIdeal.nD Cert.MemDrmsIdeal.τ).loc Cert.MemDrmsIdeal.main_arg2) = m ((c.tc : Thread Cert.MemDrmsIdeal.nD Cert.MemDrmsIdeal.τ).loc Cert.MemDrmsIdeal.main_arg2))
      ∧ r.2.sem = fun _ => 0)

def quiescent_MemDrmsIdeal_pre_finite_mem_drms [hMemDrmsIdeal : Cert.MemDrmsIdeal.Facts] [hPre_finite_mem_drms : Cert.Pre_finite_mem_drms.Facts] : Prop :=
  ∀ (m : (ℓ : Loc Cert.MemDrmsIdeal.nD Cert.MemDrmsIdeal.τ Cert.MemDrmsIdeal.sig) → Buf (Elt Ideal) ℓ) (g : Dev Cert.MemDrmsIdeal.nD → PrngReg), Pre_MemDrmsIdeal_finite_mem_drms m →
    θ_run (Cert.MemDrmsIdeal.defs (F := Ideal)) (onTc (τ := Cert.MemDrmsIdeal.τ) (Cert.MemDrmsIdeal.main (F := Ideal))) ⟨m, fun _ => 0, g⟩ (fun r => (∀ c : Dev Cert.MemDrmsIdeal.nD,
      r.2.mem ((c.tc : Thread Cert.MemDrmsIdeal.nD Cert.MemDrmsIdeal.τ).loc Cert.MemDrmsIdeal.main_arg0) = m ((c.tc : Thread Cert.MemDrmsIdeal.nD Cert.MemDrmsIdeal.τ).loc Cert.MemDrmsIdeal.main_arg0)
      ∧ r.2.mem ((c.tc : Thread Cert.MemDrmsIdeal.nD Cert.MemDrmsIdeal.τ).loc Cert.MemDrmsIdeal.main_arg1) = m ((c.tc : Thread Cert.MemDrmsIdeal.nD Cert.MemDrmsIdeal.τ).loc Cert.MemDrmsIdeal.main_arg1)
      ∧ r.2.mem ((c.tc : Thread Cert.MemDrmsIdeal.nD Cert.MemDrmsIdeal.τ).loc Cert.MemDrmsIdeal.main_arg2) = m ((c.tc : Thread Cert.MemDrmsIdeal.nD Cert.MemDrmsIdeal.τ).loc Cert.MemDrmsIdeal.main_arg2))
      ∧ r.2.sem = fun _ => 0)

def quiescent_MemDrmsReferenceIdeal [hMemDrmsReferenceIdeal : Cert.MemDrmsReferenceIdeal.Facts] : Prop :=
  ∀ (m : (ℓ : Loc Cert.MemDrmsReferenceIdeal.nD Cert.MemDrmsReferenceIdeal.τ Cert.MemDrmsReferenceIdeal.sig) → Buf (Elt Ideal) ℓ) (g : Dev Cert.MemDrmsReferenceIdeal.nD → PrngReg), Pre_MemDrmsReferenceIdeal m →
    θ_run (Cert.MemDrmsReferenceIdeal.defs (F := Ideal)) (onTc (τ := Cert.MemDrmsReferenceIdeal.τ) (Cert.MemDrmsReferenceIdeal.main (F := Ideal))) ⟨m, fun _ => 0, g⟩ (fun r => (∀ c : Dev Cert.MemDrmsReferenceIdeal.nD,
      r.2.mem ((c.tc : Thread Cert.MemDrmsReferenceIdeal.nD Cert.MemDrmsReferenceIdeal.τ).loc Cert.MemDrmsReferenceIdeal.main_arg0) = m ((c.tc : Thread Cert.MemDrmsReferenceIdeal.nD Cert.MemDrmsReferenceIdeal.τ).loc Cert.MemDrmsReferenceIdeal.main_arg0)
      ∧ r.2.mem ((c.tc : Thread Cert.MemDrmsReferenceIdeal.nD Cert.MemDrmsReferenceIdeal.τ).loc Cert.MemDrmsReferenceIdeal.main_arg1) = m ((c.tc : Thread Cert.MemDrmsReferenceIdeal.nD Cert.MemDrmsReferenceIdeal.τ).loc Cert.MemDrmsReferenceIdeal.main_arg1)
      ∧ r.2.mem ((c.tc : Thread Cert.MemDrmsReferenceIdeal.nD Cert.MemDrmsReferenceIdeal.τ).loc Cert.MemDrmsReferenceIdeal.main_arg2) = m ((c.tc : Thread Cert.MemDrmsReferenceIdeal.nD Cert.MemDrmsReferenceIdeal.τ).loc Cert.MemDrmsReferenceIdeal.main_arg2))
      ∧ r.2.sem = fun _ => 0)

def quiescent_MemDrmsReferenceIdeal_pre_finite_mem_drms [hMemDrmsReferenceIdeal : Cert.MemDrmsReferenceIdeal.Facts] [hPre_finite_mem_drms : Cert.Pre_finite_mem_drms.Facts] : Prop :=
  ∀ (m : (ℓ : Loc Cert.MemDrmsReferenceIdeal.nD Cert.MemDrmsReferenceIdeal.τ Cert.MemDrmsReferenceIdeal.sig) → Buf (Elt Ideal) ℓ) (g : Dev Cert.MemDrmsReferenceIdeal.nD → PrngReg), Pre_MemDrmsReferenceIdeal_finite_mem_drms m →
    θ_run (Cert.MemDrmsReferenceIdeal.defs (F := Ideal)) (onTc (τ := Cert.MemDrmsReferenceIdeal.τ) (Cert.MemDrmsReferenceIdeal.main (F := Ideal))) ⟨m, fun _ => 0, g⟩ (fun r => (∀ c : Dev Cert.MemDrmsReferenceIdeal.nD,
      r.2.mem ((c.tc : Thread Cert.MemDrmsReferenceIdeal.nD Cert.MemDrmsReferenceIdeal.τ).loc Cert.MemDrmsReferenceIdeal.main_arg0) = m ((c.tc : Thread Cert.MemDrmsReferenceIdeal.nD Cert.MemDrmsReferenceIdeal.τ).loc Cert.MemDrmsReferenceIdeal.main_arg0)
      ∧ r.2.mem ((c.tc : Thread Cert.MemDrmsReferenceIdeal.nD Cert.MemDrmsReferenceIdeal.τ).loc Cert.MemDrmsReferenceIdeal.main_arg1) = m ((c.tc : Thread Cert.MemDrmsReferenceIdeal.nD Cert.MemDrmsReferenceIdeal.τ).loc Cert.MemDrmsReferenceIdeal.main_arg1)
      ∧ r.2.mem ((c.tc : Thread Cert.MemDrmsReferenceIdeal.nD Cert.MemDrmsReferenceIdeal.τ).loc Cert.MemDrmsReferenceIdeal.main_arg2) = m ((c.tc : Thread Cert.MemDrmsReferenceIdeal.nD Cert.MemDrmsReferenceIdeal.τ).loc Cert.MemDrmsReferenceIdeal.main_arg2))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1))
      ∧ r.2.sem = fun _ => 0)

def quiescent_MemFwd [hMemFwd : Cert.MemFwd.Facts] : Prop :=
  ∀ (m : (ℓ : Loc Cert.MemFwd.nD Cert.MemFwd.τ Cert.MemFwd.sig) → Buf (Elt Bits) ℓ) (g : Dev Cert.MemFwd.nD → PrngReg), Pre_MemFwd m →
    θ_run (Cert.MemFwd.defs (F := Bits)) (onTc (τ := Cert.MemFwd.τ) (Cert.MemFwd.main (F := Bits))) ⟨m, fun _ => 0, g⟩ (fun r => (∀ c : Dev Cert.MemFwd.nD,
      r.2.mem ((c.tc : Thread Cert.MemFwd.nD Cert.MemFwd.τ).loc Cert.MemFwd.main_arg0) = m ((c.tc : Thread Cert.MemFwd.nD Cert.MemFwd.τ).loc Cert.MemFwd.main_arg0)
      ∧ r.2.mem ((c.tc : Thread Cert.MemFwd.nD Cert.MemFwd.τ).loc Cert.MemFwd.main_arg1) = m ((c.tc : Thread Cert.MemFwd.nD Cert.MemFwd.τ).loc Cert.MemFwd.main_arg1)
      ∧ r.2.mem ((c.tc : Thread Cert.MemFwd.nD Cert.MemFwd.τ).loc Cert.MemFwd.main_arg2) = m ((c.tc : Thread Cert.MemFwd.nD Cert.MemFwd.τ).loc Cert.MemFwd.main_arg2))
      ∧ r.2.sem = fun _ => 0)

def quiescent_MemFwdIdeal [hMemFwdIdeal : Cert.MemFwdIdeal.Facts] : Prop :=
  ∀ (m : (ℓ : Loc Cert.MemFwdIdeal.nD Cert.MemFwdIdeal.τ Cert.MemFwdIdeal.sig) → Buf (Elt Ideal) ℓ) (g : Dev Cert.MemFwdIdeal.nD → PrngReg), Pre_MemFwdIdeal m →
    θ_run (Cert.MemFwdIdeal.defs (F := Ideal)) (onTc (τ := Cert.MemFwdIdeal.τ) (Cert.MemFwdIdeal.main (F := Ideal))) ⟨m, fun _ => 0, g⟩ (fun r => (∀ c : Dev Cert.MemFwdIdeal.nD,
      r.2.mem ((c.tc : Thread Cert.MemFwdIdeal.nD Cert.MemFwdIdeal.τ).loc Cert.MemFwdIdeal.main_arg0) = m ((c.tc : Thread Cert.MemFwdIdeal.nD Cert.MemFwdIdeal.τ).loc Cert.MemFwdIdeal.main_arg0)
      ∧ r.2.mem ((c.tc : Thread Cert.MemFwdIdeal.nD Cert.MemFwdIdeal.τ).loc Cert.MemFwdIdeal.main_arg1) = m ((c.tc : Thread Cert.MemFwdIdeal.nD Cert.MemFwdIdeal.τ).loc Cert.MemFwdIdeal.main_arg1)
      ∧ r.2.mem ((c.tc : Thread Cert.MemFwdIdeal.nD Cert.MemFwdIdeal.τ).loc Cert.MemFwdIdeal.main_arg2) = m ((c.tc : Thread Cert.MemFwdIdeal.nD Cert.MemFwdIdeal.τ).loc Cert.MemFwdIdeal.main_arg2))
      ∧ r.2.sem = fun _ => 0)

def quiescent_MemFwdReferenceIdeal [hMemFwdReferenceIdeal : Cert.MemFwdReferenceIdeal.Facts] : Prop :=
  ∀ (m : (ℓ : Loc Cert.MemFwdReferenceIdeal.nD Cert.MemFwdReferenceIdeal.τ Cert.MemFwdReferenceIdeal.sig) → Buf (Elt Ideal) ℓ) (g : Dev Cert.MemFwdReferenceIdeal.nD → PrngReg), Pre_MemFwdReferenceIdeal m →
    θ_run (Cert.MemFwdReferenceIdeal.defs (F := Ideal)) (onTc (τ := Cert.MemFwdReferenceIdeal.τ) (Cert.MemFwdReferenceIdeal.main (F := Ideal))) ⟨m, fun _ => 0, g⟩ (fun r => (∀ c : Dev Cert.MemFwdReferenceIdeal.nD,
      r.2.mem ((c.tc : Thread Cert.MemFwdReferenceIdeal.nD Cert.MemFwdReferenceIdeal.τ).loc Cert.MemFwdReferenceIdeal.main_arg0) = m ((c.tc : Thread Cert.MemFwdReferenceIdeal.nD Cert.MemFwdReferenceIdeal.τ).loc Cert.MemFwdReferenceIdeal.main_arg0)
      ∧ r.2.mem ((c.tc : Thread Cert.MemFwdReferenceIdeal.nD Cert.MemFwdReferenceIdeal.τ).loc Cert.MemFwdReferenceIdeal.main_arg1) = m ((c.tc : Thread Cert.MemFwdReferenceIdeal.nD Cert.MemFwdReferenceIdeal.τ).loc Cert.MemFwdReferenceIdeal.main_arg1)
      ∧ r.2.mem ((c.tc : Thread Cert.MemFwdReferenceIdeal.nD Cert.MemFwdReferenceIdeal.τ).loc Cert.MemFwdReferenceIdeal.main_arg2) = m ((c.tc : Thread Cert.MemFwdReferenceIdeal.nD Cert.MemFwdReferenceIdeal.τ).loc Cert.MemFwdReferenceIdeal.main_arg2))
      ∧ r.2.sem = fun _ => 0)

def quiescent_FoxFwd [hFoxFwd : Cert.FoxFwd.Facts] : Prop :=
  ∀ (m : (ℓ : Loc Cert.FoxFwd.nD Cert.FoxFwd.τ Cert.FoxFwd.sig) → Buf (Elt Bits) ℓ) (g : Dev Cert.FoxFwd.nD → PrngReg), Pre_FoxFwd m →
    θ_run (Cert.FoxFwd.defs (F := Bits)) (onTc (τ := Cert.FoxFwd.τ) (Cert.FoxFwd.main (F := Bits))) ⟨m, fun _ => 0, g⟩ (fun r => (∀ c : Dev Cert.FoxFwd.nD,
      r.2.mem ((c.tc : Thread Cert.FoxFwd.nD Cert.FoxFwd.τ).loc Cert.FoxFwd.main_arg0) = m ((c.tc : Thread Cert.FoxFwd.nD Cert.FoxFwd.τ).loc Cert.FoxFwd.main_arg0)
      ∧ r.2.mem ((c.tc : Thread Cert.FoxFwd.nD Cert.FoxFwd.τ).loc Cert.FoxFwd.main_arg1) = m ((c.tc : Thread Cert.FoxFwd.nD Cert.FoxFwd.τ).loc Cert.FoxFwd.main_arg1)
      ∧ r.2.mem ((c.tc : Thread Cert.FoxFwd.nD Cert.FoxFwd.τ).loc Cert.FoxFwd.main_arg2) = m ((c.tc : Thread Cert.FoxFwd.nD Cert.FoxFwd.τ).loc Cert.FoxFwd.main_arg2)
      ∧ r.2.mem ((c.tc : Thread Cert.FoxFwd.nD Cert.FoxFwd.τ).loc Cert.FoxFwd.main_arg3) = m ((c.tc : Thread Cert.FoxFwd.nD Cert.FoxFwd.τ).loc Cert.FoxFwd.main_arg3))
      ∧ r.2.sem = fun _ => 0)

def quiescent_FoxFwdIdeal [hFoxFwdIdeal : Cert.FoxFwdIdeal.Facts] : Prop :=
  ∀ (m : (ℓ : Loc Cert.FoxFwdIdeal.nD Cert.FoxFwdIdeal.τ Cert.FoxFwdIdeal.sig) → Buf (Elt Ideal) ℓ) (g : Dev Cert.FoxFwdIdeal.nD → PrngReg), Pre_FoxFwdIdeal m →
    θ_run (Cert.FoxFwdIdeal.defs (F := Ideal)) (onTc (τ := Cert.FoxFwdIdeal.τ) (Cert.FoxFwdIdeal.main (F := Ideal))) ⟨m, fun _ => 0, g⟩ (fun r => (∀ c : Dev Cert.FoxFwdIdeal.nD,
      r.2.mem ((c.tc : Thread Cert.FoxFwdIdeal.nD Cert.FoxFwdIdeal.τ).loc Cert.FoxFwdIdeal.main_arg0) = m ((c.tc : Thread Cert.FoxFwdIdeal.nD Cert.FoxFwdIdeal.τ).loc Cert.FoxFwdIdeal.main_arg0)
      ∧ r.2.mem ((c.tc : Thread Cert.FoxFwdIdeal.nD Cert.FoxFwdIdeal.τ).loc Cert.FoxFwdIdeal.main_arg1) = m ((c.tc : Thread Cert.FoxFwdIdeal.nD Cert.FoxFwdIdeal.τ).loc Cert.FoxFwdIdeal.main_arg1)
      ∧ r.2.mem ((c.tc : Thread Cert.FoxFwdIdeal.nD Cert.FoxFwdIdeal.τ).loc Cert.FoxFwdIdeal.main_arg2) = m ((c.tc : Thread Cert.FoxFwdIdeal.nD Cert.FoxFwdIdeal.τ).loc Cert.FoxFwdIdeal.main_arg2)
      ∧ r.2.mem ((c.tc : Thread Cert.FoxFwdIdeal.nD Cert.FoxFwdIdeal.τ).loc Cert.FoxFwdIdeal.main_arg3) = m ((c.tc : Thread Cert.FoxFwdIdeal.nD Cert.FoxFwdIdeal.τ).loc Cert.FoxFwdIdeal.main_arg3))
      ∧ r.2.sem = fun _ => 0)

def quiescent_FoxFwdIdeal_pre_finite_fox [hFoxFwdIdeal : Cert.FoxFwdIdeal.Facts] [hPre_finite_fox : Cert.Pre_finite_fox.Facts] : Prop :=
  ∀ (m : (ℓ : Loc Cert.FoxFwdIdeal.nD Cert.FoxFwdIdeal.τ Cert.FoxFwdIdeal.sig) → Buf (Elt Ideal) ℓ) (g : Dev Cert.FoxFwdIdeal.nD → PrngReg), Pre_FoxFwdIdeal_finite_fox m →
    θ_run (Cert.FoxFwdIdeal.defs (F := Ideal)) (onTc (τ := Cert.FoxFwdIdeal.τ) (Cert.FoxFwdIdeal.main (F := Ideal))) ⟨m, fun _ => 0, g⟩ (fun r => (∀ c : Dev Cert.FoxFwdIdeal.nD,
      r.2.mem ((c.tc : Thread Cert.FoxFwdIdeal.nD Cert.FoxFwdIdeal.τ).loc Cert.FoxFwdIdeal.main_arg0) = m ((c.tc : Thread Cert.FoxFwdIdeal.nD Cert.FoxFwdIdeal.τ).loc Cert.FoxFwdIdeal.main_arg0)
      ∧ r.2.mem ((c.tc : Thread Cert.FoxFwdIdeal.nD Cert.FoxFwdIdeal.τ).loc Cert.FoxFwdIdeal.main_arg1) = m ((c.tc : Thread Cert.FoxFwdIdeal.nD Cert.FoxFwdIdeal.τ).loc Cert.FoxFwdIdeal.main_arg1)
      ∧ r.2.mem ((c.tc : Thread Cert.FoxFwdIdeal.nD Cert.FoxFwdIdeal.τ).loc Cert.FoxFwdIdeal.main_arg2) = m ((c.tc : Thread Cert.FoxFwdIdeal.nD Cert.FoxFwdIdeal.τ).loc Cert.FoxFwdIdeal.main_arg2)
      ∧ r.2.mem ((c.tc : Thread Cert.FoxFwdIdeal.nD Cert.FoxFwdIdeal.τ).loc Cert.FoxFwdIdeal.main_arg3) = m ((c.tc : Thread Cert.FoxFwdIdeal.nD Cert.FoxFwdIdeal.τ).loc Cert.FoxFwdIdeal.main_arg3))
      ∧ r.2.sem = fun _ => 0)

def quiescent_FoxFwdReferenceIdeal [hFoxFwdReferenceIdeal : Cert.FoxFwdReferenceIdeal.Facts] : Prop :=
  ∀ (m : (ℓ : Loc Cert.FoxFwdReferenceIdeal.nD Cert.FoxFwdReferenceIdeal.τ Cert.FoxFwdReferenceIdeal.sig) → Buf (Elt Ideal) ℓ) (g : Dev Cert.FoxFwdReferenceIdeal.nD → PrngReg), Pre_FoxFwdReferenceIdeal m →
    θ_run (Cert.FoxFwdReferenceIdeal.defs (F := Ideal)) (onTc (τ := Cert.FoxFwdReferenceIdeal.τ) (Cert.FoxFwdReferenceIdeal.main (F := Ideal))) ⟨m, fun _ => 0, g⟩ (fun r => (∀ c : Dev Cert.FoxFwdReferenceIdeal.nD,
      r.2.mem ((c.tc : Thread Cert.FoxFwdReferenceIdeal.nD Cert.FoxFwdReferenceIdeal.τ).loc Cert.FoxFwdReferenceIdeal.main_arg0) = m ((c.tc : Thread Cert.FoxFwdReferenceIdeal.nD Cert.FoxFwdReferenceIdeal.τ).loc Cert.FoxFwdReferenceIdeal.main_arg0)
      ∧ r.2.mem ((c.tc : Thread Cert.FoxFwdReferenceIdeal.nD Cert.FoxFwdReferenceIdeal.τ).loc Cert.FoxFwdReferenceIdeal.main_arg1) = m ((c.tc : Thread Cert.FoxFwdReferenceIdeal.nD Cert.FoxFwdReferenceIdeal.τ).loc Cert.FoxFwdReferenceIdeal.main_arg1)
      ∧ r.2.mem ((c.tc : Thread Cert.FoxFwdReferenceIdeal.nD Cert.FoxFwdReferenceIdeal.τ).loc Cert.FoxFwdReferenceIdeal.main_arg2) = m ((c.tc : Thread Cert.FoxFwdReferenceIdeal.nD Cert.FoxFwdReferenceIdeal.τ).loc Cert.FoxFwdReferenceIdeal.main_arg2)
      ∧ r.2.mem ((c.tc : Thread Cert.FoxFwdReferenceIdeal.nD Cert.FoxFwdReferenceIdeal.τ).loc Cert.FoxFwdReferenceIdeal.main_arg3) = m ((c.tc : Thread Cert.FoxFwdReferenceIdeal.nD Cert.FoxFwdReferenceIdeal.τ).loc Cert.FoxFwdReferenceIdeal.main_arg3))
      ∧ r.2.sem = fun _ => 0)

def quiescent_FoxFwdReferenceIdeal_pre_finite_fox [hFoxFwdReferenceIdeal : Cert.FoxFwdReferenceIdeal.Facts] [hPre_finite_fox : Cert.Pre_finite_fox.Facts] : Prop :=
  ∀ (m : (ℓ : Loc Cert.FoxFwdReferenceIdeal.nD Cert.FoxFwdReferenceIdeal.τ Cert.FoxFwdReferenceIdeal.sig) → Buf (Elt Ideal) ℓ) (g : Dev Cert.FoxFwdReferenceIdeal.nD → PrngReg), Pre_FoxFwdReferenceIdeal_finite_fox m →
    θ_run (Cert.FoxFwdReferenceIdeal.defs (F := Ideal)) (onTc (τ := Cert.FoxFwdReferenceIdeal.τ) (Cert.FoxFwdReferenceIdeal.main (F := Ideal))) ⟨m, fun _ => 0, g⟩ (fun r => (∀ c : Dev Cert.FoxFwdReferenceIdeal.nD,
      r.2.mem ((c.tc : Thread Cert.FoxFwdReferenceIdeal.nD Cert.FoxFwdReferenceIdeal.τ).loc Cert.FoxFwdReferenceIdeal.main_arg0) = m ((c.tc : Thread Cert.FoxFwdReferenceIdeal.nD Cert.FoxFwdReferenceIdeal.τ).loc Cert.FoxFwdReferenceIdeal.main_arg0)
      ∧ r.2.mem ((c.tc : Thread Cert.FoxFwdReferenceIdeal.nD Cert.FoxFwdReferenceIdeal.τ).loc Cert.FoxFwdReferenceIdeal.main_arg1) = m ((c.tc : Thread Cert.FoxFwdReferenceIdeal.nD Cert.FoxFwdReferenceIdeal.τ).loc Cert.FoxFwdReferenceIdeal.main_arg1)
      ∧ r.2.mem ((c.tc : Thread Cert.FoxFwdReferenceIdeal.nD Cert.FoxFwdReferenceIdeal.τ).loc Cert.FoxFwdReferenceIdeal.main_arg2) = m ((c.tc : Thread Cert.FoxFwdReferenceIdeal.nD Cert.FoxFwdReferenceIdeal.τ).loc Cert.FoxFwdReferenceIdeal.main_arg2)
      ∧ r.2.mem ((c.tc : Thread Cert.FoxFwdReferenceIdeal.nD Cert.FoxFwdReferenceIdeal.τ).loc Cert.FoxFwdReferenceIdeal.main_arg3) = m ((c.tc : Thread Cert.FoxFwdReferenceIdeal.nD Cert.FoxFwdReferenceIdeal.τ).loc Cert.FoxFwdReferenceIdeal.main_arg3))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3)
      ∧ r.2.mem ((c.tc : Thread Cert.GateReferenceIdeal.nD Cert.GateReferenceIdeal.τ).loc Cert.GateReferenceIdeal.main_arg4) = m ((c.tc : Thread Cert.GateReferenceIdeal.nD Cert.GateReferenceIdeal.τ).loc Cert.GateReferenceIdeal.main_arg4))
      ∧ r.2.sem = fun _ => 0)

def quiescent_Dwd [hDwd : Cert.Dwd.Facts] : Prop :=
  ∀ (m : (ℓ : Loc Cert.Dwd.nD Cert.Dwd.τ Cert.Dwd.sig) → Buf (Elt Bits) ℓ) (g : Dev Cert.Dwd.nD → PrngReg), Pre_Dwd m →
    θ_run (Cert.Dwd.defs (F := Bits)) (onTc (τ := Cert.Dwd.τ) (Cert.Dwd.main (F := Bits))) ⟨m, fun _ => 0, g⟩ (fun r => (∀ c : Dev Cert.Dwd.nD,
      r.2.mem ((c.tc : Thread Cert.Dwd.nD Cert.Dwd.τ).loc Cert.Dwd.main_arg0) = m ((c.tc : Thread Cert.Dwd.nD Cert.Dwd.τ).loc Cert.Dwd.main_arg0)
      ∧ r.2.mem ((c.tc : Thread Cert.Dwd.nD Cert.Dwd.τ).loc Cert.Dwd.main_arg1) = m ((c.tc : Thread Cert.Dwd.nD Cert.Dwd.τ).loc Cert.Dwd.main_arg1))
      ∧ r.2.sem = fun _ => 0)

def quiescent_DwdIdeal [hDwdIdeal : Cert.DwdIdeal.Facts] : Prop :=
  ∀ (m : (ℓ : Loc Cert.DwdIdeal.nD Cert.DwdIdeal.τ Cert.DwdIdeal.sig) → Buf (Elt Ideal) ℓ) (g : Dev Cert.DwdIdeal.nD → PrngReg), Pre_DwdIdeal m →
    θ_run (Cert.DwdIdeal.defs (F := Ideal)) (onTc (τ := Cert.DwdIdeal.τ) (Cert.DwdIdeal.main (F := Ideal))) ⟨m, fun _ => 0, g⟩ (fun r => (∀ c : Dev Cert.DwdIdeal.nD,
      r.2.mem ((c.tc : Thread Cert.DwdIdeal.nD Cert.DwdIdeal.τ).loc Cert.DwdIdeal.main_arg0) = m ((c.tc : Thread Cert.DwdIdeal.nD Cert.DwdIdeal.τ).loc Cert.DwdIdeal.main_arg0)
      ∧ r.2.mem ((c.tc : Thread Cert.DwdIdeal.nD Cert.DwdIdeal.τ).loc Cert.DwdIdeal.main_arg1) = m ((c.tc : Thread Cert.DwdIdeal.nD Cert.DwdIdeal.τ).loc Cert.DwdIdeal.main_arg1))
      ∧ r.2.sem = fun _ => 0)

def quiescent_DwdReferenceIdeal [hDwdReferenceIdeal : Cert.DwdReferenceIdeal.Facts] : Prop :=
  ∀ (m : (ℓ : Loc Cert.DwdReferenceIdeal.nD Cert.DwdReferenceIdeal.τ Cert.DwdReferenceIdeal.sig) → Buf (Elt Ideal) ℓ) (g : Dev Cert.DwdReferenceIdeal.nD → PrngReg), Pre_DwdReferenceIdeal m →
    θ_run (Cert.DwdReferenceIdeal.defs (F := Ideal)) (onTc (τ := Cert.DwdReferenceIdeal.τ) (Cert.DwdReferenceIdeal.main (F := Ideal))) ⟨m, fun _ => 0, g⟩ (fun r => (∀ c : Dev Cert.DwdReferenceIdeal.nD,
      r.2.mem ((c.tc : Thread Cert.DwdReferenceIdeal.nD Cert.DwdReferenceIdeal.τ).loc Cert.DwdReferenceIdeal.main_arg0) = m ((c.tc : Thread Cert.DwdReferenceIdeal.nD Cert.DwdReferenceIdeal.τ).loc Cert.DwdReferenceIdeal.main_arg0)
      ∧ r.2.mem ((c.tc : Thread Cert.DwdReferenceIdeal.nD Cert.DwdReferenceIdeal.τ).loc Cert.DwdReferenceIdeal.main_arg1) = m ((c.tc : Thread Cert.DwdReferenceIdeal.nD Cert.DwdReferenceIdeal.τ).loc Cert.DwdReferenceIdeal.main_arg1))
      ∧ r.2.sem = fun _ => 0)

def quiescent_Gu [hGu : Cert.Gu.Facts] : Prop :=
  ∀ (m : (ℓ : Loc Cert.Gu.nD Cert.Gu.τ Cert.Gu.sig) → Buf (Elt Bits) ℓ) (g : Dev Cert.Gu.nD → PrngReg), Pre_Gu m →
    θ_run (Cert.Gu.defs (F := Bits)) (onTc (τ := Cert.Gu.τ) (Cert.Gu.main (F := Bits))) ⟨m, fun _ => 0, g⟩ (fun r => (∀ c : Dev Cert.Gu.nD,
      r.2.mem ((c.tc : Thread Cert.Gu.nD Cert.Gu.τ).loc Cert.Gu.main_arg0) = m ((c.tc : Thread Cert.Gu.nD Cert.Gu.τ).loc Cert.Gu.main_arg0)
      ∧ r.2.mem ((c.tc : Thread Cert.Gu.nD Cert.Gu.τ).loc Cert.Gu.main_arg1) = m ((c.tc : Thread Cert.Gu.nD Cert.Gu.τ).loc Cert.Gu.main_arg1))
      ∧ r.2.sem = fun _ => 0)

def quiescent_GuIdeal [hGuIdeal : Cert.GuIdeal.Facts] : Prop :=
  ∀ (m : (ℓ : Loc Cert.GuIdeal.nD Cert.GuIdeal.τ Cert.GuIdeal.sig) → Buf (Elt Ideal) ℓ) (g : Dev Cert.GuIdeal.nD → PrngReg), Pre_GuIdeal m →
    θ_run (Cert.GuIdeal.defs (F := Ideal)) (onTc (τ := Cert.GuIdeal.τ) (Cert.GuIdeal.main (F := Ideal))) ⟨m, fun _ => 0, g⟩ (fun r => (∀ c : Dev Cert.GuIdeal.nD,
      r.2.mem ((c.tc : Thread Cert.GuIdeal.nD Cert.GuIdeal.τ).loc Cert.GuIdeal.main_arg0) = m ((c.tc : Thread Cert.GuIdeal.nD Cert.GuIdeal.τ).loc Cert.GuIdeal.main_arg0)
      ∧ r.2.mem ((c.tc : Thread Cert.GuIdeal.nD Cert.GuIdeal.τ).loc Cert.GuIdeal.main_arg1) = m ((c.tc : Thread Cert.GuIdeal.nD Cert.GuIdeal.τ).loc Cert.GuIdeal.main_arg1))
      ∧ r.2.sem = fun _ => 0)

def quiescent_GuReferenceIdeal [hGuReferenceIdeal : Cert.GuReferenceIdeal.Facts] : Prop :=
  ∀ (m : (ℓ : Loc Cert.GuReferenceIdeal.nD Cert.GuReferenceIdeal.τ Cert.GuReferenceIdeal.sig) → Buf (Elt Ideal) ℓ) (g : Dev Cert.GuReferenceIdeal.nD → PrngReg), Pre_GuReferenceIdeal m →
    θ_run (Cert.GuReferenceIdeal.defs (F := Ideal)) (onTc (τ := Cert.GuReferenceIdeal.τ) (Cert.GuReferenceIdeal.main (F := Ideal))) ⟨m, fun _ => 0, g⟩ (fun r => (∀ c : Dev Cert.GuReferenceIdeal.nD,
      r.2.mem ((c.tc : Thread Cert.GuReferenceIdeal.nD Cert.GuReferenceIdeal.τ).loc Cert.GuReferenceIdeal.main_arg0) = m ((c.tc : Thread Cert.GuReferenceIdeal.nD Cert.GuReferenceIdeal.τ).loc Cert.GuReferenceIdeal.main_arg0)
      ∧ r.2.mem ((c.tc : Thread Cert.GuReferenceIdeal.nD Cert.GuReferenceIdeal.τ).loc Cert.GuReferenceIdeal.main_arg1) = m ((c.tc : Thread Cert.GuReferenceIdeal.nD Cert.GuReferenceIdeal.τ).loc Cert.GuReferenceIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ r.2.sem = fun _ => 0)

def quiescent_MixOutReferenceIdeal [hMixOutReferenceIdeal : Cert.MixOutReferenceIdeal.Facts] : Prop :=
  ∀ (m : (ℓ : Loc Cert.MixOutReferenceIdeal.nD Cert.MixOutReferenceIdeal.τ Cert.MixOutReferenceIdeal.sig) → Buf (Elt Ideal) ℓ) (g : Dev Cert.MixOutReferenceIdeal.nD → PrngReg), Pre_MixOutReferenceIdeal m →
    θ_run (Cert.MixOutReferenceIdeal.defs (F := Ideal)) (onTc (τ := Cert.MixOutReferenceIdeal.τ) (Cert.MixOutReferenceIdeal.main (F := Ideal))) ⟨m, fun _ => 0, g⟩ (fun r => (∀ c : Dev Cert.MixOutReferenceIdeal.nD,
      r.2.mem ((c.tc : Thread Cert.MixOutReferenceIdeal.nD Cert.MixOutReferenceIdeal.τ).loc Cert.MixOutReferenceIdeal.main_arg0) = m ((c.tc : Thread Cert.MixOutReferenceIdeal.nD Cert.MixOutReferenceIdeal.τ).loc Cert.MixOutReferenceIdeal.main_arg0)
      ∧ r.2.mem ((c.tc : Thread Cert.MixOutReferenceIdeal.nD Cert.MixOutReferenceIdeal.τ).loc Cert.MixOutReferenceIdeal.main_arg1) = m ((c.tc : Thread Cert.MixOutReferenceIdeal.nD Cert.MixOutReferenceIdeal.τ).loc Cert.MixOutReferenceIdeal.main_arg1)
      ∧ r.2.mem ((c.tc : Thread Cert.MixOutReferenceIdeal.nD Cert.MixOutReferenceIdeal.τ).loc Cert.MixOutReferenceIdeal.main_arg2) = m ((c.tc : Thread Cert.MixOutReferenceIdeal.nD Cert.MixOutReferenceIdeal.τ).loc Cert.MixOutReferenceIdeal.main_arg2))
      ∧ r.2.sem = fun _ => 0)

def quiescent_MixOutDx [hMixOutDx : Cert.MixOutDx.Facts] : Prop :=
  ∀ (m : (ℓ : Loc Cert.MixOutDx.nD Cert.MixOutDx.τ Cert.MixOutDx.sig) → Buf (Elt Bits) ℓ) (g : Dev Cert.MixOutDx.nD → PrngReg), Pre_MixOutDx m →
    θ_run (Cert.MixOutDx.defs (F := Bits)) (onTc (τ := Cert.MixOutDx.τ) (Cert.MixOutDx.main (F := Bits))) ⟨m, fun _ => 0, g⟩ (fun r => (∀ c : Dev Cert.MixOutDx.nD,
      r.2.mem ((c.tc : Thread Cert.MixOutDx.nD Cert.MixOutDx.τ).loc Cert.MixOutDx.main_arg0) = m ((c.tc : Thread Cert.MixOutDx.nD Cert.MixOutDx.τ).loc Cert.MixOutDx.main_arg0)
      ∧ r.2.mem ((c.tc : Thread Cert.MixOutDx.nD Cert.MixOutDx.τ).loc Cert.MixOutDx.main_arg1) = m ((c.tc : Thread Cert.MixOutDx.nD Cert.MixOutDx.τ).loc Cert.MixOutDx.main_arg1))
      ∧ r.2.sem = fun _ => 0)

def quiescent_MixOutDxIdeal [hMixOutDxIdeal : Cert.MixOutDxIdeal.Facts] : Prop :=
  ∀ (m : (ℓ : Loc Cert.MixOutDxIdeal.nD Cert.MixOutDxIdeal.τ Cert.MixOutDxIdeal.sig) → Buf (Elt Ideal) ℓ) (g : Dev Cert.MixOutDxIdeal.nD → PrngReg), Pre_MixOutDxIdeal m →
    θ_run (Cert.MixOutDxIdeal.defs (F := Ideal)) (onTc (τ := Cert.MixOutDxIdeal.τ) (Cert.MixOutDxIdeal.main (F := Ideal))) ⟨m, fun _ => 0, g⟩ (fun r => (∀ c : Dev Cert.MixOutDxIdeal.nD,
      r.2.mem ((c.tc : Thread Cert.MixOutDxIdeal.nD Cert.MixOutDxIdeal.τ).loc Cert.MixOutDxIdeal.main_arg0) = m ((c.tc : Thread Cert.MixOutDxIdeal.nD Cert.MixOutDxIdeal.τ).loc Cert.MixOutDxIdeal.main_arg0)
      ∧ r.2.mem ((c.tc : Thread Cert.MixOutDxIdeal.nD Cert.MixOutDxIdeal.τ).loc Cert.MixOutDxIdeal.main_arg1) = m ((c.tc : Thread Cert.MixOutDxIdeal.nD Cert.MixOutDxIdeal.τ).loc Cert.MixOutDxIdeal.main_arg1))
      ∧ r.2.sem = fun _ => 0)

def quiescent_MixOutDxReferenceIdeal [hMixOutDxReferenceIdeal : Cert.MixOutDxReferenceIdeal.Facts] : Prop :=
  ∀ (m : (ℓ : Loc Cert.MixOutDxReferenceIdeal.nD Cert.MixOutDxReferenceIdeal.τ Cert.MixOutDxReferenceIdeal.sig) → Buf (Elt Ideal) ℓ) (g : Dev Cert.MixOutDxReferenceIdeal.nD → PrngReg), Pre_MixOutDxReferenceIdeal m →
    θ_run (Cert.MixOutDxReferenceIdeal.defs (F := Ideal)) (onTc (τ := Cert.MixOutDxReferenceIdeal.τ) (Cert.MixOutDxReferenceIdeal.main (F := Ideal))) ⟨m, fun _ => 0, g⟩ (fun r => (∀ c : Dev Cert.MixOutDxReferenceIdeal.nD,
      r.2.mem ((c.tc : Thread Cert.MixOutDxReferenceIdeal.nD Cert.MixOutDxReferenceIdeal.τ).loc Cert.MixOutDxReferenceIdeal.main_arg0) = m ((c.tc : Thread Cert.MixOutDxReferenceIdeal.nD Cert.MixOutDxReferenceIdeal.τ).loc Cert.MixOutDxReferenceIdeal.main_arg0)
      ∧ r.2.mem ((c.tc : Thread Cert.MixOutDxReferenceIdeal.nD Cert.MixOutDxReferenceIdeal.τ).loc Cert.MixOutDxReferenceIdeal.main_arg1) = m ((c.tc : Thread Cert.MixOutDxReferenceIdeal.nD Cert.MixOutDxReferenceIdeal.τ).loc Cert.MixOutDxReferenceIdeal.main_arg1))
      ∧ r.2.sem = fun _ => 0)

def quiescent_MixOutDw [hMixOutDw : Cert.MixOutDw.Facts] : Prop :=
  ∀ (m : (ℓ : Loc Cert.MixOutDw.nD Cert.MixOutDw.τ Cert.MixOutDw.sig) → Buf (Elt Bits) ℓ) (g : Dev Cert.MixOutDw.nD → PrngReg), Pre_MixOutDw m →
    θ_run (Cert.MixOutDw.defs (F := Bits)) (onTc (τ := Cert.MixOutDw.τ) (Cert.MixOutDw.main (F := Bits))) ⟨m, fun _ => 0, g⟩ (fun r => (∀ c : Dev Cert.MixOutDw.nD,
      r.2.mem ((c.tc : Thread Cert.MixOutDw.nD Cert.MixOutDw.τ).loc Cert.MixOutDw.main_arg0) = m ((c.tc : Thread Cert.MixOutDw.nD Cert.MixOutDw.τ).loc Cert.MixOutDw.main_arg0)
      ∧ r.2.mem ((c.tc : Thread Cert.MixOutDw.nD Cert.MixOutDw.τ).loc Cert.MixOutDw.main_arg1) = m ((c.tc : Thread Cert.MixOutDw.nD Cert.MixOutDw.τ).loc Cert.MixOutDw.main_arg1))
      ∧ r.2.sem = fun _ => 0)

def quiescent_MixOutDwIdeal [hMixOutDwIdeal : Cert.MixOutDwIdeal.Facts] : Prop :=
  ∀ (m : (ℓ : Loc Cert.MixOutDwIdeal.nD Cert.MixOutDwIdeal.τ Cert.MixOutDwIdeal.sig) → Buf (Elt Ideal) ℓ) (g : Dev Cert.MixOutDwIdeal.nD → PrngReg), Pre_MixOutDwIdeal m →
    θ_run (Cert.MixOutDwIdeal.defs (F := Ideal)) (onTc (τ := Cert.MixOutDwIdeal.τ) (Cert.MixOutDwIdeal.main (F := Ideal))) ⟨m, fun _ => 0, g⟩ (fun r => (∀ c : Dev Cert.MixOutDwIdeal.nD,
      r.2.mem ((c.tc : Thread Cert.MixOutDwIdeal.nD Cert.MixOutDwIdeal.τ).loc Cert.MixOutDwIdeal.main_arg0) = m ((c.tc : Thread Cert.MixOutDwIdeal.nD Cert.MixOutDwIdeal.τ).loc Cert.MixOutDwIdeal.main_arg0)
      ∧ r.2.mem ((c.tc : Thread Cert.MixOutDwIdeal.nD Cert.MixOutDwIdeal.τ).loc Cert.MixOutDwIdeal.main_arg1) = m ((c.tc : Thread Cert.MixOutDwIdeal.nD Cert.MixOutDwIdeal.τ).loc Cert.MixOutDwIdeal.main_arg1))
      ∧ r.2.sem = fun _ => 0)

def quiescent_MixOutDwReferenceIdeal [hMixOutDwReferenceIdeal : Cert.MixOutDwReferenceIdeal.Facts] : Prop :=
  ∀ (m : (ℓ : Loc Cert.MixOutDwReferenceIdeal.nD Cert.MixOutDwReferenceIdeal.τ Cert.MixOutDwReferenceIdeal.sig) → Buf (Elt Ideal) ℓ) (g : Dev Cert.MixOutDwReferenceIdeal.nD → PrngReg), Pre_MixOutDwReferenceIdeal m →
    θ_run (Cert.MixOutDwReferenceIdeal.defs (F := Ideal)) (onTc (τ := Cert.MixOutDwReferenceIdeal.τ) (Cert.MixOutDwReferenceIdeal.main (F := Ideal))) ⟨m, fun _ => 0, g⟩ (fun r => (∀ c : Dev Cert.MixOutDwReferenceIdeal.nD,
      r.2.mem ((c.tc : Thread Cert.MixOutDwReferenceIdeal.nD Cert.MixOutDwReferenceIdeal.τ).loc Cert.MixOutDwReferenceIdeal.main_arg0) = m ((c.tc : Thread Cert.MixOutDwReferenceIdeal.nD Cert.MixOutDwReferenceIdeal.τ).loc Cert.MixOutDwReferenceIdeal.main_arg0)
      ∧ r.2.mem ((c.tc : Thread Cert.MixOutDwReferenceIdeal.nD Cert.MixOutDwReferenceIdeal.τ).loc Cert.MixOutDwReferenceIdeal.main_arg1) = m ((c.tc : Thread Cert.MixOutDwReferenceIdeal.nD Cert.MixOutDwReferenceIdeal.τ).loc Cert.MixOutDwReferenceIdeal.main_arg1))
      ∧ r.2.sem = fun _ => 0)

def quiescent_FoxO [hFoxO : Cert.FoxO.Facts] : Prop :=
  ∀ (m : (ℓ : Loc Cert.FoxO.nD Cert.FoxO.τ Cert.FoxO.sig) → Buf (Elt Bits) ℓ) (g : Dev Cert.FoxO.nD → PrngReg), Pre_FoxO m →
    θ_run (Cert.FoxO.defs (F := Bits)) (onTc (τ := Cert.FoxO.τ) (Cert.FoxO.main (F := Bits))) ⟨m, fun _ => 0, g⟩ (fun r => (∀ c : Dev Cert.FoxO.nD,
      r.2.mem ((c.tc : Thread Cert.FoxO.nD Cert.FoxO.τ).loc Cert.FoxO.main_arg0) = m ((c.tc : Thread Cert.FoxO.nD Cert.FoxO.τ).loc Cert.FoxO.main_arg0)
      ∧ r.2.mem ((c.tc : Thread Cert.FoxO.nD Cert.FoxO.τ).loc Cert.FoxO.main_arg1) = m ((c.tc : Thread Cert.FoxO.nD Cert.FoxO.τ).loc Cert.FoxO.main_arg1))
      ∧ r.2.sem = fun _ => 0)

def quiescent_FoxOIdeal [hFoxOIdeal : Cert.FoxOIdeal.Facts] : Prop :=
  ∀ (m : (ℓ : Loc Cert.FoxOIdeal.nD Cert.FoxOIdeal.τ Cert.FoxOIdeal.sig) → Buf (Elt Ideal) ℓ) (g : Dev Cert.FoxOIdeal.nD → PrngReg), Pre_FoxOIdeal m →
    θ_run (Cert.FoxOIdeal.defs (F := Ideal)) (onTc (τ := Cert.FoxOIdeal.τ) (Cert.FoxOIdeal.main (F := Ideal))) ⟨m, fun _ => 0, g⟩ (fun r => (∀ c : Dev Cert.FoxOIdeal.nD,
      r.2.mem ((c.tc : Thread Cert.FoxOIdeal.nD Cert.FoxOIdeal.τ).loc Cert.FoxOIdeal.main_arg0) = m ((c.tc : Thread Cert.FoxOIdeal.nD Cert.FoxOIdeal.τ).loc Cert.FoxOIdeal.main_arg0)
      ∧ r.2.mem ((c.tc : Thread Cert.FoxOIdeal.nD Cert.FoxOIdeal.τ).loc Cert.FoxOIdeal.main_arg1) = m ((c.tc : Thread Cert.FoxOIdeal.nD Cert.FoxOIdeal.τ).loc Cert.FoxOIdeal.main_arg1))
      ∧ r.2.sem = fun _ => 0)

def quiescent_FoxOReferenceIdeal [hFoxOReferenceIdeal : Cert.FoxOReferenceIdeal.Facts] : Prop :=
  ∀ (m : (ℓ : Loc Cert.FoxOReferenceIdeal.nD Cert.FoxOReferenceIdeal.τ Cert.FoxOReferenceIdeal.sig) → Buf (Elt Ideal) ℓ) (g : Dev Cert.FoxOReferenceIdeal.nD → PrngReg), Pre_FoxOReferenceIdeal m →
    θ_run (Cert.FoxOReferenceIdeal.defs (F := Ideal)) (onTc (τ := Cert.FoxOReferenceIdeal.τ) (Cert.FoxOReferenceIdeal.main (F := Ideal))) ⟨m, fun _ => 0, g⟩ (fun r => (∀ c : Dev Cert.FoxOReferenceIdeal.nD,
      r.2.mem ((c.tc : Thread Cert.FoxOReferenceIdeal.nD Cert.FoxOReferenceIdeal.τ).loc Cert.FoxOReferenceIdeal.main_arg0) = m ((c.tc : Thread Cert.FoxOReferenceIdeal.nD Cert.FoxOReferenceIdeal.τ).loc Cert.FoxOReferenceIdeal.main_arg0)
      ∧ r.2.mem ((c.tc : Thread Cert.FoxOReferenceIdeal.nD Cert.FoxOReferenceIdeal.τ).loc Cert.FoxOReferenceIdeal.main_arg1) = m ((c.tc : Thread Cert.FoxOReferenceIdeal.nD Cert.FoxOReferenceIdeal.τ).loc Cert.FoxOReferenceIdeal.main_arg1))
      ∧ r.2.sem = fun _ => 0)

def quiescent_FoxODx [hFoxODx : Cert.FoxODx.Facts] : Prop :=
  ∀ (m : (ℓ : Loc Cert.FoxODx.nD Cert.FoxODx.τ Cert.FoxODx.sig) → Buf (Elt Bits) ℓ) (g : Dev Cert.FoxODx.nD → PrngReg), Pre_FoxODx m →
    θ_run (Cert.FoxODx.defs (F := Bits)) (onTc (τ := Cert.FoxODx.τ) (Cert.FoxODx.main (F := Bits))) ⟨m, fun _ => 0, g⟩ (fun r => (∀ c : Dev Cert.FoxODx.nD,
      r.2.mem ((c.tc : Thread Cert.FoxODx.nD Cert.FoxODx.τ).loc Cert.FoxODx.main_arg0) = m ((c.tc : Thread Cert.FoxODx.nD Cert.FoxODx.τ).loc Cert.FoxODx.main_arg0)
      ∧ r.2.mem ((c.tc : Thread Cert.FoxODx.nD Cert.FoxODx.τ).loc Cert.FoxODx.main_arg1) = m ((c.tc : Thread Cert.FoxODx.nD Cert.FoxODx.τ).loc Cert.FoxODx.main_arg1))
      ∧ r.2.sem = fun _ => 0)

def quiescent_FoxODxIdeal [hFoxODxIdeal : Cert.FoxODxIdeal.Facts] : Prop :=
  ∀ (m : (ℓ : Loc Cert.FoxODxIdeal.nD Cert.FoxODxIdeal.τ Cert.FoxODxIdeal.sig) → Buf (Elt Ideal) ℓ) (g : Dev Cert.FoxODxIdeal.nD → PrngReg), Pre_FoxODxIdeal m →
    θ_run (Cert.FoxODxIdeal.defs (F := Ideal)) (onTc (τ := Cert.FoxODxIdeal.τ) (Cert.FoxODxIdeal.main (F := Ideal))) ⟨m, fun _ => 0, g⟩ (fun r => (∀ c : Dev Cert.FoxODxIdeal.nD,
      r.2.mem ((c.tc : Thread Cert.FoxODxIdeal.nD Cert.FoxODxIdeal.τ).loc Cert.FoxODxIdeal.main_arg0) = m ((c.tc : Thread Cert.FoxODxIdeal.nD Cert.FoxODxIdeal.τ).loc Cert.FoxODxIdeal.main_arg0)
      ∧ r.2.mem ((c.tc : Thread Cert.FoxODxIdeal.nD Cert.FoxODxIdeal.τ).loc Cert.FoxODxIdeal.main_arg1) = m ((c.tc : Thread Cert.FoxODxIdeal.nD Cert.FoxODxIdeal.τ).loc Cert.FoxODxIdeal.main_arg1))
      ∧ r.2.sem = fun _ => 0)

def quiescent_FoxODxReferenceIdeal [hFoxODxReferenceIdeal : Cert.FoxODxReferenceIdeal.Facts] : Prop :=
  ∀ (m : (ℓ : Loc Cert.FoxODxReferenceIdeal.nD Cert.FoxODxReferenceIdeal.τ Cert.FoxODxReferenceIdeal.sig) → Buf (Elt Ideal) ℓ) (g : Dev Cert.FoxODxReferenceIdeal.nD → PrngReg), Pre_FoxODxReferenceIdeal m →
    θ_run (Cert.FoxODxReferenceIdeal.defs (F := Ideal)) (onTc (τ := Cert.FoxODxReferenceIdeal.τ) (Cert.FoxODxReferenceIdeal.main (F := Ideal))) ⟨m, fun _ => 0, g⟩ (fun r => (∀ c : Dev Cert.FoxODxReferenceIdeal.nD,
      r.2.mem ((c.tc : Thread Cert.FoxODxReferenceIdeal.nD Cert.FoxODxReferenceIdeal.τ).loc Cert.FoxODxReferenceIdeal.main_arg0) = m ((c.tc : Thread Cert.FoxODxReferenceIdeal.nD Cert.FoxODxReferenceIdeal.τ).loc Cert.FoxODxReferenceIdeal.main_arg0)
      ∧ r.2.mem ((c.tc : Thread Cert.FoxODxReferenceIdeal.nD Cert.FoxODxReferenceIdeal.τ).loc Cert.FoxODxReferenceIdeal.main_arg1) = m ((c.tc : Thread Cert.FoxODxReferenceIdeal.nD Cert.FoxODxReferenceIdeal.τ).loc Cert.FoxODxReferenceIdeal.main_arg1))
      ∧ r.2.sem = fun _ => 0)

def quiescent_FoxODw [hFoxODw : Cert.FoxODw.Facts] : Prop :=
  ∀ (m : (ℓ : Loc Cert.FoxODw.nD Cert.FoxODw.τ Cert.FoxODw.sig) → Buf (Elt Bits) ℓ) (g : Dev Cert.FoxODw.nD → PrngReg), Pre_FoxODw m →
    θ_run (Cert.FoxODw.defs (F := Bits)) (onTc (τ := Cert.FoxODw.τ) (Cert.FoxODw.main (F := Bits))) ⟨m, fun _ => 0, g⟩ (fun r => (∀ c : Dev Cert.FoxODw.nD,
      r.2.mem ((c.tc : Thread Cert.FoxODw.nD Cert.FoxODw.τ).loc Cert.FoxODw.main_arg0) = m ((c.tc : Thread Cert.FoxODw.nD Cert.FoxODw.τ).loc Cert.FoxODw.main_arg0)
      ∧ r.2.mem ((c.tc : Thread Cert.FoxODw.nD Cert.FoxODw.τ).loc Cert.FoxODw.main_arg1) = m ((c.tc : Thread Cert.FoxODw.nD Cert.FoxODw.τ).loc Cert.FoxODw.main_arg1))
      ∧ r.2.sem = fun _ => 0)

def quiescent_FoxODwIdeal [hFoxODwIdeal : Cert.FoxODwIdeal.Facts] : Prop :=
  ∀ (m : (ℓ : Loc Cert.FoxODwIdeal.nD Cert.FoxODwIdeal.τ Cert.FoxODwIdeal.sig) → Buf (Elt Ideal) ℓ) (g : Dev Cert.FoxODwIdeal.nD → PrngReg), Pre_FoxODwIdeal m →
    θ_run (Cert.FoxODwIdeal.defs (F := Ideal)) (onTc (τ := Cert.FoxODwIdeal.τ) (Cert.FoxODwIdeal.main (F := Ideal))) ⟨m, fun _ => 0, g⟩ (fun r => (∀ c : Dev Cert.FoxODwIdeal.nD,
      r.2.mem ((c.tc : Thread Cert.FoxODwIdeal.nD Cert.FoxODwIdeal.τ).loc Cert.FoxODwIdeal.main_arg0) = m ((c.tc : Thread Cert.FoxODwIdeal.nD Cert.FoxODwIdeal.τ).loc Cert.FoxODwIdeal.main_arg0)
      ∧ r.2.mem ((c.tc : Thread Cert.FoxODwIdeal.nD Cert.FoxODwIdeal.τ).loc Cert.FoxODwIdeal.main_arg1) = m ((c.tc : Thread Cert.FoxODwIdeal.nD Cert.FoxODwIdeal.τ).loc Cert.FoxODwIdeal.main_arg1))
      ∧ r.2.sem = fun _ => 0)

def quiescent_FoxODwReferenceIdeal [hFoxODwReferenceIdeal : Cert.FoxODwReferenceIdeal.Facts] : Prop :=
  ∀ (m : (ℓ : Loc Cert.FoxODwReferenceIdeal.nD Cert.FoxODwReferenceIdeal.τ Cert.FoxODwReferenceIdeal.sig) → Buf (Elt Ideal) ℓ) (g : Dev Cert.FoxODwReferenceIdeal.nD → PrngReg), Pre_FoxODwReferenceIdeal m →
    θ_run (Cert.FoxODwReferenceIdeal.defs (F := Ideal)) (onTc (τ := Cert.FoxODwReferenceIdeal.τ) (Cert.FoxODwReferenceIdeal.main (F := Ideal))) ⟨m, fun _ => 0, g⟩ (fun r => (∀ c : Dev Cert.FoxODwReferenceIdeal.nD,
      r.2.mem ((c.tc : Thread Cert.FoxODwReferenceIdeal.nD Cert.FoxODwReferenceIdeal.τ).loc Cert.FoxODwReferenceIdeal.main_arg0) = m ((c.tc : Thread Cert.FoxODwReferenceIdeal.nD Cert.FoxODwReferenceIdeal.τ).loc Cert.FoxODwReferenceIdeal.main_arg0)
      ∧ r.2.mem ((c.tc : Thread Cert.FoxODwReferenceIdeal.nD Cert.FoxODwReferenceIdeal.τ).loc Cert.FoxODwReferenceIdeal.main_arg1) = m ((c.tc : Thread Cert.FoxODwReferenceIdeal.nD Cert.FoxODwReferenceIdeal.τ).loc Cert.FoxODwReferenceIdeal.main_arg1))
      ∧ r.2.sem = fun _ => 0)

def quiescent_PoolUp [hPoolUp : Cert.PoolUp.Facts] : Prop :=
  ∀ (m : (ℓ : Loc Cert.PoolUp.nD Cert.PoolUp.τ Cert.PoolUp.sig) → Buf (Elt Bits) ℓ) (g : Dev Cert.PoolUp.nD → PrngReg), Pre_PoolUp m →
    θ_run (Cert.PoolUp.defs (F := Bits)) (onTc (τ := Cert.PoolUp.τ) (Cert.PoolUp.main (F := Bits))) ⟨m, fun _ => 0, g⟩ (fun r => (∀ c : Dev Cert.PoolUp.nD,
      r.2.mem ((c.tc : Thread Cert.PoolUp.nD Cert.PoolUp.τ).loc Cert.PoolUp.main_arg0) = m ((c.tc : Thread Cert.PoolUp.nD Cert.PoolUp.τ).loc Cert.PoolUp.main_arg0)
      ∧ r.2.mem ((c.tc : Thread Cert.PoolUp.nD Cert.PoolUp.τ).loc Cert.PoolUp.main_arg1) = m ((c.tc : Thread Cert.PoolUp.nD Cert.PoolUp.τ).loc Cert.PoolUp.main_arg1))
      ∧ r.2.sem = fun _ => 0)

def quiescent_PoolUpIdeal [hPoolUpIdeal : Cert.PoolUpIdeal.Facts] : Prop :=
  ∀ (m : (ℓ : Loc Cert.PoolUpIdeal.nD Cert.PoolUpIdeal.τ Cert.PoolUpIdeal.sig) → Buf (Elt Ideal) ℓ) (g : Dev Cert.PoolUpIdeal.nD → PrngReg), Pre_PoolUpIdeal m →
    θ_run (Cert.PoolUpIdeal.defs (F := Ideal)) (onTc (τ := Cert.PoolUpIdeal.τ) (Cert.PoolUpIdeal.main (F := Ideal))) ⟨m, fun _ => 0, g⟩ (fun r => (∀ c : Dev Cert.PoolUpIdeal.nD,
      r.2.mem ((c.tc : Thread Cert.PoolUpIdeal.nD Cert.PoolUpIdeal.τ).loc Cert.PoolUpIdeal.main_arg0) = m ((c.tc : Thread Cert.PoolUpIdeal.nD Cert.PoolUpIdeal.τ).loc Cert.PoolUpIdeal.main_arg0)
      ∧ r.2.mem ((c.tc : Thread Cert.PoolUpIdeal.nD Cert.PoolUpIdeal.τ).loc Cert.PoolUpIdeal.main_arg1) = m ((c.tc : Thread Cert.PoolUpIdeal.nD Cert.PoolUpIdeal.τ).loc Cert.PoolUpIdeal.main_arg1))
      ∧ r.2.sem = fun _ => 0)

def quiescent_PoolUpReferenceIdeal [hPoolUpReferenceIdeal : Cert.PoolUpReferenceIdeal.Facts] : Prop :=
  ∀ (m : (ℓ : Loc Cert.PoolUpReferenceIdeal.nD Cert.PoolUpReferenceIdeal.τ Cert.PoolUpReferenceIdeal.sig) → Buf (Elt Ideal) ℓ) (g : Dev Cert.PoolUpReferenceIdeal.nD → PrngReg), Pre_PoolUpReferenceIdeal m →
    θ_run (Cert.PoolUpReferenceIdeal.defs (F := Ideal)) (onTc (τ := Cert.PoolUpReferenceIdeal.τ) (Cert.PoolUpReferenceIdeal.main (F := Ideal))) ⟨m, fun _ => 0, g⟩ (fun r => (∀ c : Dev Cert.PoolUpReferenceIdeal.nD,
      r.2.mem ((c.tc : Thread Cert.PoolUpReferenceIdeal.nD Cert.PoolUpReferenceIdeal.τ).loc Cert.PoolUpReferenceIdeal.main_arg0) = m ((c.tc : Thread Cert.PoolUpReferenceIdeal.nD Cert.PoolUpReferenceIdeal.τ).loc Cert.PoolUpReferenceIdeal.main_arg0)
      ∧ r.2.mem ((c.tc : Thread Cert.PoolUpReferenceIdeal.nD Cert.PoolUpReferenceIdeal.τ).loc Cert.PoolUpReferenceIdeal.main_arg1) = m ((c.tc : Thread Cert.PoolUpReferenceIdeal.nD Cert.PoolUpReferenceIdeal.τ).loc Cert.PoolUpReferenceIdeal.main_arg1))
      ∧ r.2.sem = fun _ => 0)

def quiescent_PoolUpDx [hPoolUpDx : Cert.PoolUpDx.Facts] : Prop :=
  ∀ (m : (ℓ : Loc Cert.PoolUpDx.nD Cert.PoolUpDx.τ Cert.PoolUpDx.sig) → Buf (Elt Bits) ℓ) (g : Dev Cert.PoolUpDx.nD → PrngReg), Pre_PoolUpDx m →
    θ_run (Cert.PoolUpDx.defs (F := Bits)) (onTc (τ := Cert.PoolUpDx.τ) (Cert.PoolUpDx.main (F := Bits))) ⟨m, fun _ => 0, g⟩ (fun r => (∀ c : Dev Cert.PoolUpDx.nD,
      r.2.mem ((c.tc : Thread Cert.PoolUpDx.nD Cert.PoolUpDx.τ).loc Cert.PoolUpDx.main_arg0) = m ((c.tc : Thread Cert.PoolUpDx.nD Cert.PoolUpDx.τ).loc Cert.PoolUpDx.main_arg0)
      ∧ r.2.mem ((c.tc : Thread Cert.PoolUpDx.nD Cert.PoolUpDx.τ).loc Cert.PoolUpDx.main_arg1) = m ((c.tc : Thread Cert.PoolUpDx.nD Cert.PoolUpDx.τ).loc Cert.PoolUpDx.main_arg1))
      ∧ r.2.sem = fun _ => 0)

def quiescent_PoolUpDxIdeal [hPoolUpDxIdeal : Cert.PoolUpDxIdeal.Facts] : Prop :=
  ∀ (m : (ℓ : Loc Cert.PoolUpDxIdeal.nD Cert.PoolUpDxIdeal.τ Cert.PoolUpDxIdeal.sig) → Buf (Elt Ideal) ℓ) (g : Dev Cert.PoolUpDxIdeal.nD → PrngReg), Pre_PoolUpDxIdeal m →
    θ_run (Cert.PoolUpDxIdeal.defs (F := Ideal)) (onTc (τ := Cert.PoolUpDxIdeal.τ) (Cert.PoolUpDxIdeal.main (F := Ideal))) ⟨m, fun _ => 0, g⟩ (fun r => (∀ c : Dev Cert.PoolUpDxIdeal.nD,
      r.2.mem ((c.tc : Thread Cert.PoolUpDxIdeal.nD Cert.PoolUpDxIdeal.τ).loc Cert.PoolUpDxIdeal.main_arg0) = m ((c.tc : Thread Cert.PoolUpDxIdeal.nD Cert.PoolUpDxIdeal.τ).loc Cert.PoolUpDxIdeal.main_arg0)
      ∧ r.2.mem ((c.tc : Thread Cert.PoolUpDxIdeal.nD Cert.PoolUpDxIdeal.τ).loc Cert.PoolUpDxIdeal.main_arg1) = m ((c.tc : Thread Cert.PoolUpDxIdeal.nD Cert.PoolUpDxIdeal.τ).loc Cert.PoolUpDxIdeal.main_arg1))
      ∧ r.2.sem = fun _ => 0)

def quiescent_PoolUpDxReferenceIdeal [hPoolUpDxReferenceIdeal : Cert.PoolUpDxReferenceIdeal.Facts] : Prop :=
  ∀ (m : (ℓ : Loc Cert.PoolUpDxReferenceIdeal.nD Cert.PoolUpDxReferenceIdeal.τ Cert.PoolUpDxReferenceIdeal.sig) → Buf (Elt Ideal) ℓ) (g : Dev Cert.PoolUpDxReferenceIdeal.nD → PrngReg), Pre_PoolUpDxReferenceIdeal m →
    θ_run (Cert.PoolUpDxReferenceIdeal.defs (F := Ideal)) (onTc (τ := Cert.PoolUpDxReferenceIdeal.τ) (Cert.PoolUpDxReferenceIdeal.main (F := Ideal))) ⟨m, fun _ => 0, g⟩ (fun r => (∀ c : Dev Cert.PoolUpDxReferenceIdeal.nD,
      r.2.mem ((c.tc : Thread Cert.PoolUpDxReferenceIdeal.nD Cert.PoolUpDxReferenceIdeal.τ).loc Cert.PoolUpDxReferenceIdeal.main_arg0) = m ((c.tc : Thread Cert.PoolUpDxReferenceIdeal.nD Cert.PoolUpDxReferenceIdeal.τ).loc Cert.PoolUpDxReferenceIdeal.main_arg0)
      ∧ r.2.mem ((c.tc : Thread Cert.PoolUpDxReferenceIdeal.nD Cert.PoolUpDxReferenceIdeal.τ).loc Cert.PoolUpDxReferenceIdeal.main_arg1) = m ((c.tc : Thread Cert.PoolUpDxReferenceIdeal.nD Cert.PoolUpDxReferenceIdeal.τ).loc Cert.PoolUpDxReferenceIdeal.main_arg1))
      ∧ r.2.sem = fun _ => 0)

def quiescent_PoolUpDw [hPoolUpDw : Cert.PoolUpDw.Facts] : Prop :=
  ∀ (m : (ℓ : Loc Cert.PoolUpDw.nD Cert.PoolUpDw.τ Cert.PoolUpDw.sig) → Buf (Elt Bits) ℓ) (g : Dev Cert.PoolUpDw.nD → PrngReg), Pre_PoolUpDw m →
    θ_run (Cert.PoolUpDw.defs (F := Bits)) (onTc (τ := Cert.PoolUpDw.τ) (Cert.PoolUpDw.main (F := Bits))) ⟨m, fun _ => 0, g⟩ (fun r => (∀ c : Dev Cert.PoolUpDw.nD,
      r.2.mem ((c.tc : Thread Cert.PoolUpDw.nD Cert.PoolUpDw.τ).loc Cert.PoolUpDw.main_arg0) = m ((c.tc : Thread Cert.PoolUpDw.nD Cert.PoolUpDw.τ).loc Cert.PoolUpDw.main_arg0)
      ∧ r.2.mem ((c.tc : Thread Cert.PoolUpDw.nD Cert.PoolUpDw.τ).loc Cert.PoolUpDw.main_arg1) = m ((c.tc : Thread Cert.PoolUpDw.nD Cert.PoolUpDw.τ).loc Cert.PoolUpDw.main_arg1))
      ∧ r.2.sem = fun _ => 0)

def quiescent_PoolUpDwIdeal [hPoolUpDwIdeal : Cert.PoolUpDwIdeal.Facts] : Prop :=
  ∀ (m : (ℓ : Loc Cert.PoolUpDwIdeal.nD Cert.PoolUpDwIdeal.τ Cert.PoolUpDwIdeal.sig) → Buf (Elt Ideal) ℓ) (g : Dev Cert.PoolUpDwIdeal.nD → PrngReg), Pre_PoolUpDwIdeal m →
    θ_run (Cert.PoolUpDwIdeal.defs (F := Ideal)) (onTc (τ := Cert.PoolUpDwIdeal.τ) (Cert.PoolUpDwIdeal.main (F := Ideal))) ⟨m, fun _ => 0, g⟩ (fun r => (∀ c : Dev Cert.PoolUpDwIdeal.nD,
      r.2.mem ((c.tc : Thread Cert.PoolUpDwIdeal.nD Cert.PoolUpDwIdeal.τ).loc Cert.PoolUpDwIdeal.main_arg0) = m ((c.tc : Thread Cert.PoolUpDwIdeal.nD Cert.PoolUpDwIdeal.τ).loc Cert.PoolUpDwIdeal.main_arg0)
      ∧ r.2.mem ((c.tc : Thread Cert.PoolUpDwIdeal.nD Cert.PoolUpDwIdeal.τ).loc Cert.PoolUpDwIdeal.main_arg1) = m ((c.tc : Thread Cert.PoolUpDwIdeal.nD Cert.PoolUpDwIdeal.τ).loc Cert.PoolUpDwIdeal.main_arg1))
      ∧ r.2.sem = fun _ => 0)

def quiescent_PoolUpDwReferenceIdeal [hPoolUpDwReferenceIdeal : Cert.PoolUpDwReferenceIdeal.Facts] : Prop :=
  ∀ (m : (ℓ : Loc Cert.PoolUpDwReferenceIdeal.nD Cert.PoolUpDwReferenceIdeal.τ Cert.PoolUpDwReferenceIdeal.sig) → Buf (Elt Ideal) ℓ) (g : Dev Cert.PoolUpDwReferenceIdeal.nD → PrngReg), Pre_PoolUpDwReferenceIdeal m →
    θ_run (Cert.PoolUpDwReferenceIdeal.defs (F := Ideal)) (onTc (τ := Cert.PoolUpDwReferenceIdeal.τ) (Cert.PoolUpDwReferenceIdeal.main (F := Ideal))) ⟨m, fun _ => 0, g⟩ (fun r => (∀ c : Dev Cert.PoolUpDwReferenceIdeal.nD,
      r.2.mem ((c.tc : Thread Cert.PoolUpDwReferenceIdeal.nD Cert.PoolUpDwReferenceIdeal.τ).loc Cert.PoolUpDwReferenceIdeal.main_arg0) = m ((c.tc : Thread Cert.PoolUpDwReferenceIdeal.nD Cert.PoolUpDwReferenceIdeal.τ).loc Cert.PoolUpDwReferenceIdeal.main_arg0)
      ∧ r.2.mem ((c.tc : Thread Cert.PoolUpDwReferenceIdeal.nD Cert.PoolUpDwReferenceIdeal.τ).loc Cert.PoolUpDwReferenceIdeal.main_arg1) = m ((c.tc : Thread Cert.PoolUpDwReferenceIdeal.nD Cert.PoolUpDwReferenceIdeal.τ).loc Cert.PoolUpDwReferenceIdeal.main_arg1))
      ∧ r.2.sem = fun _ => 0)

def quiescent_MemO [hMemO : Cert.MemO.Facts] : Prop :=
  ∀ (m : (ℓ : Loc Cert.MemO.nD Cert.MemO.τ Cert.MemO.sig) → Buf (Elt Bits) ℓ) (g : Dev Cert.MemO.nD → PrngReg), Pre_MemO m →
    θ_run (Cert.MemO.defs (F := Bits)) (onTc (τ := Cert.MemO.τ) (Cert.MemO.main (F := Bits))) ⟨m, fun _ => 0, g⟩ (fun r => (∀ c : Dev Cert.MemO.nD,
      r.2.mem ((c.tc : Thread Cert.MemO.nD Cert.MemO.τ).loc Cert.MemO.main_arg0) = m ((c.tc : Thread Cert.MemO.nD Cert.MemO.τ).loc Cert.MemO.main_arg0)
      ∧ r.2.mem ((c.tc : Thread Cert.MemO.nD Cert.MemO.τ).loc Cert.MemO.main_arg1) = m ((c.tc : Thread Cert.MemO.nD Cert.MemO.τ).loc Cert.MemO.main_arg1))
      ∧ r.2.sem = fun _ => 0)

def quiescent_MemOIdeal [hMemOIdeal : Cert.MemOIdeal.Facts] : Prop :=
  ∀ (m : (ℓ : Loc Cert.MemOIdeal.nD Cert.MemOIdeal.τ Cert.MemOIdeal.sig) → Buf (Elt Ideal) ℓ) (g : Dev Cert.MemOIdeal.nD → PrngReg), Pre_MemOIdeal m →
    θ_run (Cert.MemOIdeal.defs (F := Ideal)) (onTc (τ := Cert.MemOIdeal.τ) (Cert.MemOIdeal.main (F := Ideal))) ⟨m, fun _ => 0, g⟩ (fun r => (∀ c : Dev Cert.MemOIdeal.nD,
      r.2.mem ((c.tc : Thread Cert.MemOIdeal.nD Cert.MemOIdeal.τ).loc Cert.MemOIdeal.main_arg0) = m ((c.tc : Thread Cert.MemOIdeal.nD Cert.MemOIdeal.τ).loc Cert.MemOIdeal.main_arg0)
      ∧ r.2.mem ((c.tc : Thread Cert.MemOIdeal.nD Cert.MemOIdeal.τ).loc Cert.MemOIdeal.main_arg1) = m ((c.tc : Thread Cert.MemOIdeal.nD Cert.MemOIdeal.τ).loc Cert.MemOIdeal.main_arg1))
      ∧ r.2.sem = fun _ => 0)

def quiescent_MemOReferenceIdeal [hMemOReferenceIdeal : Cert.MemOReferenceIdeal.Facts] : Prop :=
  ∀ (m : (ℓ : Loc Cert.MemOReferenceIdeal.nD Cert.MemOReferenceIdeal.τ Cert.MemOReferenceIdeal.sig) → Buf (Elt Ideal) ℓ) (g : Dev Cert.MemOReferenceIdeal.nD → PrngReg), Pre_MemOReferenceIdeal m →
    θ_run (Cert.MemOReferenceIdeal.defs (F := Ideal)) (onTc (τ := Cert.MemOReferenceIdeal.τ) (Cert.MemOReferenceIdeal.main (F := Ideal))) ⟨m, fun _ => 0, g⟩ (fun r => (∀ c : Dev Cert.MemOReferenceIdeal.nD,
      r.2.mem ((c.tc : Thread Cert.MemOReferenceIdeal.nD Cert.MemOReferenceIdeal.τ).loc Cert.MemOReferenceIdeal.main_arg0) = m ((c.tc : Thread Cert.MemOReferenceIdeal.nD Cert.MemOReferenceIdeal.τ).loc Cert.MemOReferenceIdeal.main_arg0)
      ∧ r.2.mem ((c.tc : Thread Cert.MemOReferenceIdeal.nD Cert.MemOReferenceIdeal.τ).loc Cert.MemOReferenceIdeal.main_arg1) = m ((c.tc : Thread Cert.MemOReferenceIdeal.nD Cert.MemOReferenceIdeal.τ).loc Cert.MemOReferenceIdeal.main_arg1))
      ∧ r.2.sem = fun _ => 0)

def quiescent_MemODw [hMemODw : Cert.MemODw.Facts] : Prop :=
  ∀ (m : (ℓ : Loc Cert.MemODw.nD Cert.MemODw.τ Cert.MemODw.sig) → Buf (Elt Bits) ℓ) (g : Dev Cert.MemODw.nD → PrngReg), Pre_MemODw m →
    θ_run (Cert.MemODw.defs (F := Bits)) (onTc (τ := Cert.MemODw.τ) (Cert.MemODw.main (F := Bits))) ⟨m, fun _ => 0, g⟩ (fun r => (∀ c : Dev Cert.MemODw.nD,
      r.2.mem ((c.tc : Thread Cert.MemODw.nD Cert.MemODw.τ).loc Cert.MemODw.main_arg0) = m ((c.tc : Thread Cert.MemODw.nD Cert.MemODw.τ).loc Cert.MemODw.main_arg0)
      ∧ r.2.mem ((c.tc : Thread Cert.MemODw.nD Cert.MemODw.τ).loc Cert.MemODw.main_arg1) = m ((c.tc : Thread Cert.MemODw.nD Cert.MemODw.τ).loc Cert.MemODw.main_arg1))
      ∧ r.2.sem = fun _ => 0)

def quiescent_MemODwIdeal [hMemODwIdeal : Cert.MemODwIdeal.Facts] : Prop :=
  ∀ (m : (ℓ : Loc Cert.MemODwIdeal.nD Cert.MemODwIdeal.τ Cert.MemODwIdeal.sig) → Buf (Elt Ideal) ℓ) (g : Dev Cert.MemODwIdeal.nD → PrngReg), Pre_MemODwIdeal m →
    θ_run (Cert.MemODwIdeal.defs (F := Ideal)) (onTc (τ := Cert.MemODwIdeal.τ) (Cert.MemODwIdeal.main (F := Ideal))) ⟨m, fun _ => 0, g⟩ (fun r => (∀ c : Dev Cert.MemODwIdeal.nD,
      r.2.mem ((c.tc : Thread Cert.MemODwIdeal.nD Cert.MemODwIdeal.τ).loc Cert.MemODwIdeal.main_arg0) = m ((c.tc : Thread Cert.MemODwIdeal.nD Cert.MemODwIdeal.τ).loc Cert.MemODwIdeal.main_arg0)
      ∧ r.2.mem ((c.tc : Thread Cert.MemODwIdeal.nD Cert.MemODwIdeal.τ).loc Cert.MemODwIdeal.main_arg1) = m ((c.tc : Thread Cert.MemODwIdeal.nD Cert.MemODwIdeal.τ).loc Cert.MemODwIdeal.main_arg1))
      ∧ r.2.sem = fun _ => 0)

def quiescent_MemODwReferenceIdeal [hMemODwReferenceIdeal : Cert.MemODwReferenceIdeal.Facts] : Prop :=
  ∀ (m : (ℓ : Loc Cert.MemODwReferenceIdeal.nD Cert.MemODwReferenceIdeal.τ Cert.MemODwReferenceIdeal.sig) → Buf (Elt Ideal) ℓ) (g : Dev Cert.MemODwReferenceIdeal.nD → PrngReg), Pre_MemODwReferenceIdeal m →
    θ_run (Cert.MemODwReferenceIdeal.defs (F := Ideal)) (onTc (τ := Cert.MemODwReferenceIdeal.τ) (Cert.MemODwReferenceIdeal.main (F := Ideal))) ⟨m, fun _ => 0, g⟩ (fun r => (∀ c : Dev Cert.MemODwReferenceIdeal.nD,
      r.2.mem ((c.tc : Thread Cert.MemODwReferenceIdeal.nD Cert.MemODwReferenceIdeal.τ).loc Cert.MemODwReferenceIdeal.main_arg0) = m ((c.tc : Thread Cert.MemODwReferenceIdeal.nD Cert.MemODwReferenceIdeal.τ).loc Cert.MemODwReferenceIdeal.main_arg0)
      ∧ r.2.mem ((c.tc : Thread Cert.MemODwReferenceIdeal.nD Cert.MemODwReferenceIdeal.τ).loc Cert.MemODwReferenceIdeal.main_arg1) = m ((c.tc : Thread Cert.MemODwReferenceIdeal.nD Cert.MemODwReferenceIdeal.τ).loc Cert.MemODwReferenceIdeal.main_arg1))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ r.2.sem = fun _ => 0)

def quiescent_MemKvReferenceIdeal [hMemKvReferenceIdeal : Cert.MemKvReferenceIdeal.Facts] : Prop :=
  ∀ (m : (ℓ : Loc Cert.MemKvReferenceIdeal.nD Cert.MemKvReferenceIdeal.τ Cert.MemKvReferenceIdeal.sig) → Buf (Elt Ideal) ℓ) (g : Dev Cert.MemKvReferenceIdeal.nD → PrngReg), Pre_MemKvReferenceIdeal m →
    θ_run (Cert.MemKvReferenceIdeal.defs (F := Ideal)) (onTc (τ := Cert.MemKvReferenceIdeal.τ) (Cert.MemKvReferenceIdeal.main (F := Ideal))) ⟨m, fun _ => 0, g⟩ (fun r => (∀ c : Dev Cert.MemKvReferenceIdeal.nD,
      r.2.mem ((c.tc : Thread Cert.MemKvReferenceIdeal.nD Cert.MemKvReferenceIdeal.τ).loc Cert.MemKvReferenceIdeal.main_arg0) = m ((c.tc : Thread Cert.MemKvReferenceIdeal.nD Cert.MemKvReferenceIdeal.τ).loc Cert.MemKvReferenceIdeal.main_arg0)
      ∧ r.2.mem ((c.tc : Thread Cert.MemKvReferenceIdeal.nD Cert.MemKvReferenceIdeal.τ).loc Cert.MemKvReferenceIdeal.main_arg1) = m ((c.tc : Thread Cert.MemKvReferenceIdeal.nD Cert.MemKvReferenceIdeal.τ).loc Cert.MemKvReferenceIdeal.main_arg1))
      ∧ r.2.sem = fun _ => 0)

def quiescent_MemKvDx [hMemKvDx : Cert.MemKvDx.Facts] : Prop :=
  ∀ (m : (ℓ : Loc Cert.MemKvDx.nD Cert.MemKvDx.τ Cert.MemKvDx.sig) → Buf (Elt Bits) ℓ) (g : Dev Cert.MemKvDx.nD → PrngReg), Pre_MemKvDx m →
    θ_run (Cert.MemKvDx.defs (F := Bits)) (onTc (τ := Cert.MemKvDx.τ) (Cert.MemKvDx.main (F := Bits))) ⟨m, fun _ => 0, g⟩ (fun r => (∀ c : Dev Cert.MemKvDx.nD,
      r.2.mem ((c.tc : Thread Cert.MemKvDx.nD Cert.MemKvDx.τ).loc Cert.MemKvDx.main_arg0) = m ((c.tc : Thread Cert.MemKvDx.nD Cert.MemKvDx.τ).loc Cert.MemKvDx.main_arg0)
      ∧ r.2.mem ((c.tc : Thread Cert.MemKvDx.nD Cert.MemKvDx.τ).loc Cert.MemKvDx.main_arg1) = m ((c.tc : Thread Cert.MemKvDx.nD Cert.MemKvDx.τ).loc Cert.MemKvDx.main_arg1))
      ∧ r.2.sem = fun _ => 0)

def quiescent_MemKvDxIdeal [hMemKvDxIdeal : Cert.MemKvDxIdeal.Facts] : Prop :=
  ∀ (m : (ℓ : Loc Cert.MemKvDxIdeal.nD Cert.MemKvDxIdeal.τ Cert.MemKvDxIdeal.sig) → Buf (Elt Ideal) ℓ) (g : Dev Cert.MemKvDxIdeal.nD → PrngReg), Pre_MemKvDxIdeal m →
    θ_run (Cert.MemKvDxIdeal.defs (F := Ideal)) (onTc (τ := Cert.MemKvDxIdeal.τ) (Cert.MemKvDxIdeal.main (F := Ideal))) ⟨m, fun _ => 0, g⟩ (fun r => (∀ c : Dev Cert.MemKvDxIdeal.nD,
      r.2.mem ((c.tc : Thread Cert.MemKvDxIdeal.nD Cert.MemKvDxIdeal.τ).loc Cert.MemKvDxIdeal.main_arg0) = m ((c.tc : Thread Cert.MemKvDxIdeal.nD Cert.MemKvDxIdeal.τ).loc Cert.MemKvDxIdeal.main_arg0)
      ∧ r.2.mem ((c.tc : Thread Cert.MemKvDxIdeal.nD Cert.MemKvDxIdeal.τ).loc Cert.MemKvDxIdeal.main_arg1) = m ((c.tc : Thread Cert.MemKvDxIdeal.nD Cert.MemKvDxIdeal.τ).loc Cert.MemKvDxIdeal.main_arg1))
      ∧ r.2.sem = fun _ => 0)

def quiescent_MemKvDxReferenceIdeal [hMemKvDxReferenceIdeal : Cert.MemKvDxReferenceIdeal.Facts] : Prop :=
  ∀ (m : (ℓ : Loc Cert.MemKvDxReferenceIdeal.nD Cert.MemKvDxReferenceIdeal.τ Cert.MemKvDxReferenceIdeal.sig) → Buf (Elt Ideal) ℓ) (g : Dev Cert.MemKvDxReferenceIdeal.nD → PrngReg), Pre_MemKvDxReferenceIdeal m →
    θ_run (Cert.MemKvDxReferenceIdeal.defs (F := Ideal)) (onTc (τ := Cert.MemKvDxReferenceIdeal.τ) (Cert.MemKvDxReferenceIdeal.main (F := Ideal))) ⟨m, fun _ => 0, g⟩ (fun r => (∀ c : Dev Cert.MemKvDxReferenceIdeal.nD,
      r.2.mem ((c.tc : Thread Cert.MemKvDxReferenceIdeal.nD Cert.MemKvDxReferenceIdeal.τ).loc Cert.MemKvDxReferenceIdeal.main_arg0) = m ((c.tc : Thread Cert.MemKvDxReferenceIdeal.nD Cert.MemKvDxReferenceIdeal.τ).loc Cert.MemKvDxReferenceIdeal.main_arg0)
      ∧ r.2.mem ((c.tc : Thread Cert.MemKvDxReferenceIdeal.nD Cert.MemKvDxReferenceIdeal.τ).loc Cert.MemKvDxReferenceIdeal.main_arg1) = m ((c.tc : Thread Cert.MemKvDxReferenceIdeal.nD Cert.MemKvDxReferenceIdeal.τ).loc Cert.MemKvDxReferenceIdeal.main_arg1))
      ∧ r.2.sem = fun _ => 0)

def quiescent_MemKvDw [hMemKvDw : Cert.MemKvDw.Facts] : Prop :=
  ∀ (m : (ℓ : Loc Cert.MemKvDw.nD Cert.MemKvDw.τ Cert.MemKvDw.sig) → Buf (Elt Bits) ℓ) (g : Dev Cert.MemKvDw.nD → PrngReg), Pre_MemKvDw m →
    θ_run (Cert.MemKvDw.defs (F := Bits)) (onTc (τ := Cert.MemKvDw.τ) (Cert.MemKvDw.main (F := Bits))) ⟨m, fun _ => 0, g⟩ (fun r => (∀ c : Dev Cert.MemKvDw.nD,
      r.2.mem ((c.tc : Thread Cert.MemKvDw.nD Cert.MemKvDw.τ).loc Cert.MemKvDw.main_arg0) = m ((c.tc : Thread Cert.MemKvDw.nD Cert.MemKvDw.τ).loc Cert.MemKvDw.main_arg0)
      ∧ r.2.mem ((c.tc : Thread Cert.MemKvDw.nD Cert.MemKvDw.τ).loc Cert.MemKvDw.main_arg1) = m ((c.tc : Thread Cert.MemKvDw.nD Cert.MemKvDw.τ).loc Cert.MemKvDw.main_arg1))
      ∧ r.2.sem = fun _ => 0)

def quiescent_MemKvDwIdeal [hMemKvDwIdeal : Cert.MemKvDwIdeal.Facts] : Prop :=
  ∀ (m : (ℓ : Loc Cert.MemKvDwIdeal.nD Cert.MemKvDwIdeal.τ Cert.MemKvDwIdeal.sig) → Buf (Elt Ideal) ℓ) (g : Dev Cert.MemKvDwIdeal.nD → PrngReg), Pre_MemKvDwIdeal m →
    θ_run (Cert.MemKvDwIdeal.defs (F := Ideal)) (onTc (τ := Cert.MemKvDwIdeal.τ) (Cert.MemKvDwIdeal.main (F := Ideal))) ⟨m, fun _ => 0, g⟩ (fun r => (∀ c : Dev Cert.MemKvDwIdeal.nD,
      r.2.mem ((c.tc : Thread Cert.MemKvDwIdeal.nD Cert.MemKvDwIdeal.τ).loc Cert.MemKvDwIdeal.main_arg0) = m ((c.tc : Thread Cert.MemKvDwIdeal.nD Cert.MemKvDwIdeal.τ).loc Cert.MemKvDwIdeal.main_arg0)
      ∧ r.2.mem ((c.tc : Thread Cert.MemKvDwIdeal.nD Cert.MemKvDwIdeal.τ).loc Cert.MemKvDwIdeal.main_arg1) = m ((c.tc : Thread Cert.MemKvDwIdeal.nD Cert.MemKvDwIdeal.τ).loc Cert.MemKvDwIdeal.main_arg1))
      ∧ r.2.sem = fun _ => 0)

def quiescent_MemKvDwReferenceIdeal [hMemKvDwReferenceIdeal : Cert.MemKvDwReferenceIdeal.Facts] : Prop :=
  ∀ (m : (ℓ : Loc Cert.MemKvDwReferenceIdeal.nD Cert.MemKvDwReferenceIdeal.τ Cert.MemKvDwReferenceIdeal.sig) → Buf (Elt Ideal) ℓ) (g : Dev Cert.MemKvDwReferenceIdeal.nD → PrngReg), Pre_MemKvDwReferenceIdeal m →
    θ_run (Cert.MemKvDwReferenceIdeal.defs (F := Ideal)) (onTc (τ := Cert.MemKvDwReferenceIdeal.τ) (Cert.MemKvDwReferenceIdeal.main (F := Ideal))) ⟨m, fun _ => 0, g⟩ (fun r => (∀ c : Dev Cert.MemKvDwReferenceIdeal.nD,
      r.2.mem ((c.tc : Thread Cert.MemKvDwReferenceIdeal.nD Cert.MemKvDwReferenceIdeal.τ).loc Cert.MemKvDwReferenceIdeal.main_arg0) = m ((c.tc : Thread Cert.MemKvDwReferenceIdeal.nD Cert.MemKvDwReferenceIdeal.τ).loc Cert.MemKvDwReferenceIdeal.main_arg0)
      ∧ r.2.mem ((c.tc : Thread Cert.MemKvDwReferenceIdeal.nD Cert.MemKvDwReferenceIdeal.τ).loc Cert.MemKvDwReferenceIdeal.main_arg1) = m ((c.tc : Thread Cert.MemKvDwReferenceIdeal.nD Cert.MemKvDwReferenceIdeal.τ).loc Cert.MemKvDwReferenceIdeal.main_arg1))
      ∧ r.2.sem = fun _ => 0)

def quiescent_FfnGu [hFfnGu : Cert.FfnGu.Facts] : Prop :=
  ∀ (m : (ℓ : Loc Cert.FfnGu.nD Cert.FfnGu.τ Cert.FfnGu.sig) → Buf (Elt Bits) ℓ) (g : Dev Cert.FfnGu.nD → PrngReg), Pre_FfnGu m →
    θ_run (Cert.FfnGu.defs (F := Bits)) (onTc (τ := Cert.FfnGu.τ) (Cert.FfnGu.main (F := Bits))) ⟨m, fun _ => 0, g⟩ (fun r => (∀ c : Dev Cert.FfnGu.nD,
      r.2.mem ((c.tc : Thread Cert.FfnGu.nD Cert.FfnGu.τ).loc Cert.FfnGu.main_arg0) = m ((c.tc : Thread Cert.FfnGu.nD Cert.FfnGu.τ).loc Cert.FfnGu.main_arg0)
      ∧ r.2.mem ((c.tc : Thread Cert.FfnGu.nD Cert.FfnGu.τ).loc Cert.FfnGu.main_arg1) = m ((c.tc : Thread Cert.FfnGu.nD Cert.FfnGu.τ).loc Cert.FfnGu.main_arg1))
      ∧ r.2.sem = fun _ => 0)

def quiescent_FfnGuIdeal [hFfnGuIdeal : Cert.FfnGuIdeal.Facts] : Prop :=
  ∀ (m : (ℓ : Loc Cert.FfnGuIdeal.nD Cert.FfnGuIdeal.τ Cert.FfnGuIdeal.sig) → Buf (Elt Ideal) ℓ) (g : Dev Cert.FfnGuIdeal.nD → PrngReg), Pre_FfnGuIdeal m →
    θ_run (Cert.FfnGuIdeal.defs (F := Ideal)) (onTc (τ := Cert.FfnGuIdeal.τ) (Cert.FfnGuIdeal.main (F := Ideal))) ⟨m, fun _ => 0, g⟩ (fun r => (∀ c : Dev Cert.FfnGuIdeal.nD,
      r.2.mem ((c.tc : Thread Cert.FfnGuIdeal.nD Cert.FfnGuIdeal.τ).loc Cert.FfnGuIdeal.main_arg0) = m ((c.tc : Thread Cert.FfnGuIdeal.nD Cert.FfnGuIdeal.τ).loc Cert.FfnGuIdeal.main_arg0)
      ∧ r.2.mem ((c.tc : Thread Cert.FfnGuIdeal.nD Cert.FfnGuIdeal.τ).loc Cert.FfnGuIdeal.main_arg1) = m ((c.tc : Thread Cert.FfnGuIdeal.nD Cert.FfnGuIdeal.τ).loc Cert.FfnGuIdeal.main_arg1))
      ∧ r.2.sem = fun _ => 0)

def quiescent_FfnGuReferenceIdeal [hFfnGuReferenceIdeal : Cert.FfnGuReferenceIdeal.Facts] : Prop :=
  ∀ (m : (ℓ : Loc Cert.FfnGuReferenceIdeal.nD Cert.FfnGuReferenceIdeal.τ Cert.FfnGuReferenceIdeal.sig) → Buf (Elt Ideal) ℓ) (g : Dev Cert.FfnGuReferenceIdeal.nD → PrngReg), Pre_FfnGuReferenceIdeal m →
    θ_run (Cert.FfnGuReferenceIdeal.defs (F := Ideal)) (onTc (τ := Cert.FfnGuReferenceIdeal.τ) (Cert.FfnGuReferenceIdeal.main (F := Ideal))) ⟨m, fun _ => 0, g⟩ (fun r => (∀ c : Dev Cert.FfnGuReferenceIdeal.nD,
      r.2.mem ((c.tc : Thread Cert.FfnGuReferenceIdeal.nD Cert.FfnGuReferenceIdeal.τ).loc Cert.FfnGuReferenceIdeal.main_arg0) = m ((c.tc : Thread Cert.FfnGuReferenceIdeal.nD Cert.FfnGuReferenceIdeal.τ).loc Cert.FfnGuReferenceIdeal.main_arg0)
      ∧ r.2.mem ((c.tc : Thread Cert.FfnGuReferenceIdeal.nD Cert.FfnGuReferenceIdeal.τ).loc Cert.FfnGuReferenceIdeal.main_arg1) = m ((c.tc : Thread Cert.FfnGuReferenceIdeal.nD Cert.FfnGuReferenceIdeal.τ).loc Cert.FfnGuReferenceIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownReferenceIdeal [hFfnDownReferenceIdeal : Cert.FfnDownReferenceIdeal.Facts] : Prop :=
  ∀ (m : (ℓ : Loc Cert.FfnDownReferenceIdeal.nD Cert.FfnDownReferenceIdeal.τ Cert.FfnDownReferenceIdeal.sig) → Buf (Elt Ideal) ℓ) (g : Dev Cert.FfnDownReferenceIdeal.nD → PrngReg), Pre_FfnDownReferenceIdeal m →
    θ_run (Cert.FfnDownReferenceIdeal.defs (F := Ideal)) (onTc (τ := Cert.FfnDownReferenceIdeal.τ) (Cert.FfnDownReferenceIdeal.main (F := Ideal))) ⟨m, fun _ => 0, g⟩ (fun r => (∀ c : Dev Cert.FfnDownReferenceIdeal.nD,
      r.2.mem ((c.tc : Thread Cert.FfnDownReferenceIdeal.nD Cert.FfnDownReferenceIdeal.τ).loc Cert.FfnDownReferenceIdeal.main_arg0) = m ((c.tc : Thread Cert.FfnDownReferenceIdeal.nD Cert.FfnDownReferenceIdeal.τ).loc Cert.FfnDownReferenceIdeal.main_arg0)
      ∧ r.2.mem ((c.tc : Thread Cert.FfnDownReferenceIdeal.nD Cert.FfnDownReferenceIdeal.τ).loc Cert.FfnDownReferenceIdeal.main_arg1) = m ((c.tc : Thread Cert.FfnDownReferenceIdeal.nD Cert.FfnDownReferenceIdeal.τ).loc Cert.FfnDownReferenceIdeal.main_arg1)
      ∧ r.2.mem ((c.tc : Thread Cert.FfnDownReferenceIdeal.nD Cert.FfnDownReferenceIdeal.τ).loc Cert.FfnDownReferenceIdeal.main_arg2) = m ((c.tc : Thread Cert.FfnDownReferenceIdeal.nD Cert.FfnDownReferenceIdeal.τ).loc Cert.FfnDownReferenceIdeal.main_arg2))
      ∧ r.2.sem = fun _ => 0)

def quiescent_FfnDa [hFfnDa : Cert.FfnDa.Facts] : Prop :=
  ∀ (m : (ℓ : Loc Cert.FfnDa.nD Cert.FfnDa.τ Cert.FfnDa.sig) → Buf (Elt Bits) ℓ) (g : Dev Cert.FfnDa.nD → PrngReg), Pre_FfnDa m →
    θ_run (Cert.FfnDa.defs (F := Bits)) (onTc (τ := Cert.FfnDa.τ) (Cert.FfnDa.main (F := Bits))) ⟨m, fun _ => 0, g⟩ (fun r => (∀ c : Dev Cert.FfnDa.nD,
      r.2.mem ((c.tc : Thread Cert.FfnDa.nD Cert.FfnDa.τ).loc Cert.FfnDa.main_arg0) = m ((c.tc : Thread Cert.FfnDa.nD Cert.FfnDa.τ).loc Cert.FfnDa.main_arg0)
      ∧ r.2.mem ((c.tc : Thread Cert.FfnDa.nD Cert.FfnDa.τ).loc Cert.FfnDa.main_arg1) = m ((c.tc : Thread Cert.FfnDa.nD Cert.FfnDa.τ).loc Cert.FfnDa.main_arg1))
      ∧ r.2.sem = fun _ => 0)

def quiescent_FfnDaIdeal [hFfnDaIdeal : Cert.FfnDaIdeal.Facts] : Prop :=
  ∀ (m : (ℓ : Loc Cert.FfnDaIdeal.nD Cert.FfnDaIdeal.τ Cert.FfnDaIdeal.sig) → Buf (Elt Ideal) ℓ) (g : Dev Cert.FfnDaIdeal.nD → PrngReg), Pre_FfnDaIdeal m →
    θ_run (Cert.FfnDaIdeal.defs (F := Ideal)) (onTc (τ := Cert.FfnDaIdeal.τ) (Cert.FfnDaIdeal.main (F := Ideal))) ⟨m, fun _ => 0, g⟩ (fun r => (∀ c : Dev Cert.FfnDaIdeal.nD,
      r.2.mem ((c.tc : Thread Cert.FfnDaIdeal.nD Cert.FfnDaIdeal.τ).loc Cert.FfnDaIdeal.main_arg0) = m ((c.tc : Thread Cert.FfnDaIdeal.nD Cert.FfnDaIdeal.τ).loc Cert.FfnDaIdeal.main_arg0)
      ∧ r.2.mem ((c.tc : Thread Cert.FfnDaIdeal.nD Cert.FfnDaIdeal.τ).loc Cert.FfnDaIdeal.main_arg1) = m ((c.tc : Thread Cert.FfnDaIdeal.nD Cert.FfnDaIdeal.τ).loc Cert.FfnDaIdeal.main_arg1))
      ∧ r.2.sem = fun _ => 0)

def quiescent_FfnDaReferenceIdeal [hFfnDaReferenceIdeal : Cert.FfnDaReferenceIdeal.Facts] : Prop :=
  ∀ (m : (ℓ : Loc Cert.FfnDaReferenceIdeal.nD Cert.FfnDaReferenceIdeal.τ Cert.FfnDaReferenceIdeal.sig) → Buf (Elt Ideal) ℓ) (g : Dev Cert.FfnDaReferenceIdeal.nD → PrngReg), Pre_FfnDaReferenceIdeal m →
    θ_run (Cert.FfnDaReferenceIdeal.defs (F := Ideal)) (onTc (τ := Cert.FfnDaReferenceIdeal.τ) (Cert.FfnDaReferenceIdeal.main (F := Ideal))) ⟨m, fun _ => 0, g⟩ (fun r => (∀ c : Dev Cert.FfnDaReferenceIdeal.nD,
      r.2.mem ((c.tc : Thread Cert.FfnDaReferenceIdeal.nD Cert.FfnDaReferenceIdeal.τ).loc Cert.FfnDaReferenceIdeal.main_arg0) = m ((c.tc : Thread Cert.FfnDaReferenceIdeal.nD Cert.FfnDaReferenceIdeal.τ).loc Cert.FfnDaReferenceIdeal.main_arg0)
      ∧ r.2.mem ((c.tc : Thread Cert.FfnDaReferenceIdeal.nD Cert.FfnDaReferenceIdeal.τ).loc Cert.FfnDaReferenceIdeal.main_arg1) = m ((c.tc : Thread Cert.FfnDaReferenceIdeal.nD Cert.FfnDaReferenceIdeal.τ).loc Cert.FfnDaReferenceIdeal.main_arg1))
      ∧ r.2.sem = fun _ => 0)

def quiescent_FfnDwd [hFfnDwd : Cert.FfnDwd.Facts] : Prop :=
  ∀ (m : (ℓ : Loc Cert.FfnDwd.nD Cert.FfnDwd.τ Cert.FfnDwd.sig) → Buf (Elt Bits) ℓ) (g : Dev Cert.FfnDwd.nD → PrngReg), Pre_FfnDwd m →
    θ_run (Cert.FfnDwd.defs (F := Bits)) (onTc (τ := Cert.FfnDwd.τ) (Cert.FfnDwd.main (F := Bits))) ⟨m, fun _ => 0, g⟩ (fun r => (∀ c : Dev Cert.FfnDwd.nD,
      r.2.mem ((c.tc : Thread Cert.FfnDwd.nD Cert.FfnDwd.τ).loc Cert.FfnDwd.main_arg0) = m ((c.tc : Thread Cert.FfnDwd.nD Cert.FfnDwd.τ).loc Cert.FfnDwd.main_arg0)
      ∧ r.2.mem ((c.tc : Thread Cert.FfnDwd.nD Cert.FfnDwd.τ).loc Cert.FfnDwd.main_arg1) = m ((c.tc : Thread Cert.FfnDwd.nD Cert.FfnDwd.τ).loc Cert.FfnDwd.main_arg1))
      ∧ r.2.sem = fun _ => 0)

def quiescent_FfnDwdIdeal [hFfnDwdIdeal : Cert.FfnDwdIdeal.Facts] : Prop :=
  ∀ (m : (ℓ : Loc Cert.FfnDwdIdeal.nD Cert.FfnDwdIdeal.τ Cert.FfnDwdIdeal.sig) → Buf (Elt Ideal) ℓ) (g : Dev Cert.FfnDwdIdeal.nD → PrngReg), Pre_FfnDwdIdeal m →
    θ_run (Cert.FfnDwdIdeal.defs (F := Ideal)) (onTc (τ := Cert.FfnDwdIdeal.τ) (Cert.FfnDwdIdeal.main (F := Ideal))) ⟨m, fun _ => 0, g⟩ (fun r => (∀ c : Dev Cert.FfnDwdIdeal.nD,
      r.2.mem ((c.tc : Thread Cert.FfnDwdIdeal.nD Cert.FfnDwdIdeal.τ).loc Cert.FfnDwdIdeal.main_arg0) = m ((c.tc : Thread Cert.FfnDwdIdeal.nD Cert.FfnDwdIdeal.τ).loc Cert.FfnDwdIdeal.main_arg0)
      ∧ r.2.mem ((c.tc : Thread Cert.FfnDwdIdeal.nD Cert.FfnDwdIdeal.τ).loc Cert.FfnDwdIdeal.main_arg1) = m ((c.tc : Thread Cert.FfnDwdIdeal.nD Cert.FfnDwdIdeal.τ).loc Cert.FfnDwdIdeal.main_arg1))
      ∧ r.2.sem = fun _ => 0)

def quiescent_FfnDwdReferenceIdeal [hFfnDwdReferenceIdeal : Cert.FfnDwdReferenceIdeal.Facts] : Prop :=
  ∀ (m : (ℓ : Loc Cert.FfnDwdReferenceIdeal.nD Cert.FfnDwdReferenceIdeal.τ Cert.FfnDwdReferenceIdeal.sig) → Buf (Elt Ideal) ℓ) (g : Dev Cert.FfnDwdReferenceIdeal.nD → PrngReg), Pre_FfnDwdReferenceIdeal m →
    θ_run (Cert.FfnDwdReferenceIdeal.defs (F := Ideal)) (onTc (τ := Cert.FfnDwdReferenceIdeal.τ) (Cert.FfnDwdReferenceIdeal.main (F := Ideal))) ⟨m, fun _ => 0, g⟩ (fun r => (∀ c : Dev Cert.FfnDwdReferenceIdeal.nD,
      r.2.mem ((c.tc : Thread Cert.FfnDwdReferenceIdeal.nD Cert.FfnDwdReferenceIdeal.τ).loc Cert.FfnDwdReferenceIdeal.main_arg0) = m ((c.tc : Thread Cert.FfnDwdReferenceIdeal.nD Cert.FfnDwdReferenceIdeal.τ).loc Cert.FfnDwdReferenceIdeal.main_arg0)
      ∧ r.2.mem ((c.tc : Thread Cert.FfnDwdReferenceIdeal.nD Cert.FfnDwdReferenceIdeal.τ).loc Cert.FfnDwdReferenceIdeal.main_arg1) = m ((c.tc : Thread Cert.FfnDwdReferenceIdeal.nD Cert.FfnDwdReferenceIdeal.τ).loc Cert.FfnDwdReferenceIdeal.main_arg1))
      ∧ r.2.sem = fun _ => 0)

def quiescent_FfnDwgu [hFfnDwgu : Cert.FfnDwgu.Facts] : Prop :=
  ∀ (m : (ℓ : Loc Cert.FfnDwgu.nD Cert.FfnDwgu.τ Cert.FfnDwgu.sig) → Buf (Elt Bits) ℓ) (g : Dev Cert.FfnDwgu.nD → PrngReg), Pre_FfnDwgu m →
    θ_run (Cert.FfnDwgu.defs (F := Bits)) (onTc (τ := Cert.FfnDwgu.τ) (Cert.FfnDwgu.main (F := Bits))) ⟨m, fun _ => 0, g⟩ (fun r => (∀ c : Dev Cert.FfnDwgu.nD,
      r.2.mem ((c.tc : Thread Cert.FfnDwgu.nD Cert.FfnDwgu.τ).loc Cert.FfnDwgu.main_arg0) = m ((c.tc : Thread Cert.FfnDwgu.nD Cert.FfnDwgu.τ).loc Cert.FfnDwgu.main_arg0)
      ∧ r.2.mem ((c.tc : Thread Cert.FfnDwgu.nD Cert.FfnDwgu.τ).loc Cert.FfnDwgu.main_arg1) = m ((c.tc : Thread Cert.FfnDwgu.nD Cert.FfnDwgu.τ).loc Cert.FfnDwgu.main_arg1))
      ∧ r.2.sem = fun _ => 0)

def quiescent_FfnDwguIdeal [hFfnDwguIdeal : Cert.FfnDwguIdeal.Facts] : Prop :=
  ∀ (m : (ℓ : Loc Cert.FfnDwguIdeal.nD Cert.FfnDwguIdeal.τ Cert.FfnDwguIdeal.sig) → Buf (Elt Ideal) ℓ) (g : Dev Cert.FfnDwguIdeal.nD → PrngReg), Pre_FfnDwguIdeal m →
    θ_run (Cert.FfnDwguIdeal.defs (F := Ideal)) (onTc (τ := Cert.FfnDwguIdeal.τ) (Cert.FfnDwguIdeal.main (F := Ideal))) ⟨m, fun _ => 0, g⟩ (fun r => (∀ c : Dev Cert.FfnDwguIdeal.nD,
      r.2.mem ((c.tc : Thread Cert.FfnDwguIdeal.nD Cert.FfnDwguIdeal.τ).loc Cert.FfnDwguIdeal.main_arg0) = m ((c.tc : Thread Cert.FfnDwguIdeal.nD Cert.FfnDwguIdeal.τ).loc Cert.FfnDwguIdeal.main_arg0)
      ∧ r.2.mem ((c.tc : Thread Cert.FfnDwguIdeal.nD Cert.FfnDwguIdeal.τ).loc Cert.FfnDwguIdeal.main_arg1) = m ((c.tc : Thread Cert.FfnDwguIdeal.nD Cert.FfnDwguIdeal.τ).loc Cert.FfnDwguIdeal.main_arg1))
      ∧ r.2.sem = fun _ => 0)

def quiescent_FfnDwguReferenceIdeal [hFfnDwguReferenceIdeal : Cert.FfnDwguReferenceIdeal.Facts] : Prop :=
  ∀ (m : (ℓ : Loc Cert.FfnDwguReferenceIdeal.nD Cert.FfnDwguReferenceIdeal.τ Cert.FfnDwguReferenceIdeal.sig) → Buf (Elt Ideal) ℓ) (g : Dev Cert.FfnDwguReferenceIdeal.nD → PrngReg), Pre_FfnDwguReferenceIdeal m →
    θ_run (Cert.FfnDwguReferenceIdeal.defs (F := Ideal)) (onTc (τ := Cert.FfnDwguReferenceIdeal.τ) (Cert.FfnDwguReferenceIdeal.main (F := Ideal))) ⟨m, fun _ => 0, g⟩ (fun r => (∀ c : Dev Cert.FfnDwguReferenceIdeal.nD,
      r.2.mem ((c.tc : Thread Cert.FfnDwguReferenceIdeal.nD Cert.FfnDwguReferenceIdeal.τ).loc Cert.FfnDwguReferenceIdeal.main_arg0) = m ((c.tc : Thread Cert.FfnDwguReferenceIdeal.nD Cert.FfnDwguReferenceIdeal.τ).loc Cert.FfnDwguReferenceIdeal.main_arg0)
      ∧ r.2.mem ((c.tc : Thread Cert.FfnDwguReferenceIdeal.nD Cert.FfnDwguReferenceIdeal.τ).loc Cert.FfnDwguReferenceIdeal.main_arg1) = m ((c.tc : Thread Cert.FfnDwguReferenceIdeal.nD Cert.FfnDwguReferenceIdeal.τ).loc Cert.FfnDwguReferenceIdeal.main_arg1))
      ∧ r.2.sem = fun _ => 0)

def quiescent_FfnDh [hFfnDh : Cert.FfnDh.Facts] : Prop :=
  ∀ (m : (ℓ : Loc Cert.FfnDh.nD Cert.FfnDh.τ Cert.FfnDh.sig) → Buf (Elt Bits) ℓ) (g : Dev Cert.FfnDh.nD → PrngReg), Pre_FfnDh m →
    θ_run (Cert.FfnDh.defs (F := Bits)) (onTc (τ := Cert.FfnDh.τ) (Cert.FfnDh.main (F := Bits))) ⟨m, fun _ => 0, g⟩ (fun r => (∀ c : Dev Cert.FfnDh.nD,
      r.2.mem ((c.tc : Thread Cert.FfnDh.nD Cert.FfnDh.τ).loc Cert.FfnDh.main_arg0) = m ((c.tc : Thread Cert.FfnDh.nD Cert.FfnDh.τ).loc Cert.FfnDh.main_arg0)
      ∧ r.2.mem ((c.tc : Thread Cert.FfnDh.nD Cert.FfnDh.τ).loc Cert.FfnDh.main_arg1) = m ((c.tc : Thread Cert.FfnDh.nD Cert.FfnDh.τ).loc Cert.FfnDh.main_arg1))
      ∧ r.2.sem = fun _ => 0)

def quiescent_FfnDhIdeal [hFfnDhIdeal : Cert.FfnDhIdeal.Facts] : Prop :=
  ∀ (m : (ℓ : Loc Cert.FfnDhIdeal.nD Cert.FfnDhIdeal.τ Cert.FfnDhIdeal.sig) → Buf (Elt Ideal) ℓ) (g : Dev Cert.FfnDhIdeal.nD → PrngReg), Pre_FfnDhIdeal m →
    θ_run (Cert.FfnDhIdeal.defs (F := Ideal)) (onTc (τ := Cert.FfnDhIdeal.τ) (Cert.FfnDhIdeal.main (F := Ideal))) ⟨m, fun _ => 0, g⟩ (fun r => (∀ c : Dev Cert.FfnDhIdeal.nD,
      r.2.mem ((c.tc : Thread Cert.FfnDhIdeal.nD Cert.FfnDhIdeal.τ).loc Cert.FfnDhIdeal.main_arg0) = m ((c.tc : Thread Cert.FfnDhIdeal.nD Cert.FfnDhIdeal.τ).loc Cert.FfnDhIdeal.main_arg0)
      ∧ r.2.mem ((c.tc : Thread Cert.FfnDhIdeal.nD Cert.FfnDhIdeal.τ).loc Cert.FfnDhIdeal.main_arg1) = m ((c.tc : Thread Cert.FfnDhIdeal.nD Cert.FfnDhIdeal.τ).loc Cert.FfnDhIdeal.main_arg1))
      ∧ r.2.sem = fun _ => 0)

def quiescent_FfnDhReferenceIdeal [hFfnDhReferenceIdeal : Cert.FfnDhReferenceIdeal.Facts] : Prop :=
  ∀ (m : (ℓ : Loc Cert.FfnDhReferenceIdeal.nD Cert.FfnDhReferenceIdeal.τ Cert.FfnDhReferenceIdeal.sig) → Buf (Elt Ideal) ℓ) (g : Dev Cert.FfnDhReferenceIdeal.nD → PrngReg), Pre_FfnDhReferenceIdeal m →
    θ_run (Cert.FfnDhReferenceIdeal.defs (F := Ideal)) (onTc (τ := Cert.FfnDhReferenceIdeal.τ) (Cert.FfnDhReferenceIdeal.main (F := Ideal))) ⟨m, fun _ => 0, g⟩ (fun r => (∀ c : Dev Cert.FfnDhReferenceIdeal.nD,
      r.2.mem ((c.tc : Thread Cert.FfnDhReferenceIdeal.nD Cert.FfnDhReferenceIdeal.τ).loc Cert.FfnDhReferenceIdeal.main_arg0) = m ((c.tc : Thread Cert.FfnDhReferenceIdeal.nD Cert.FfnDhReferenceIdeal.τ).loc Cert.FfnDhReferenceIdeal.main_arg0)
      ∧ r.2.mem ((c.tc : Thread Cert.FfnDhReferenceIdeal.nD Cert.FfnDhReferenceIdeal.τ).loc Cert.FfnDhReferenceIdeal.main_arg1) = m ((c.tc : Thread Cert.FfnDhReferenceIdeal.nD Cert.FfnDhReferenceIdeal.τ).loc Cert.FfnDhReferenceIdeal.main_arg1))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1))
      ∧ r.2.sem = fun _ => 0)

def quiescent_MixInReferenceIdeal [hMixInReferenceIdeal : Cert.MixInReferenceIdeal.Facts] : Prop :=
  ∀ (m : (ℓ : Loc Cert.MixInReferenceIdeal.nD Cert.MixInReferenceIdeal.τ Cert.MixInReferenceIdeal.sig) → Buf (Elt Ideal) ℓ) (g : Dev Cert.MixInReferenceIdeal.nD → PrngReg), Pre_MixInReferenceIdeal m →
    θ_run (Cert.MixInReferenceIdeal.defs (F := Ideal)) (onTc (τ := Cert.MixInReferenceIdeal.τ) (Cert.MixInReferenceIdeal.main (F := Ideal))) ⟨m, fun _ => 0, g⟩ (fun r => (∀ c : Dev Cert.MixInReferenceIdeal.nD,
      r.2.mem ((c.tc : Thread Cert.MixInReferenceIdeal.nD Cert.MixInReferenceIdeal.τ).loc Cert.MixInReferenceIdeal.main_arg0) = m ((c.tc : Thread Cert.MixInReferenceIdeal.nD Cert.MixInReferenceIdeal.τ).loc Cert.MixInReferenceIdeal.main_arg0)
      ∧ r.2.mem ((c.tc : Thread Cert.MixInReferenceIdeal.nD Cert.MixInReferenceIdeal.τ).loc Cert.MixInReferenceIdeal.main_arg1) = m ((c.tc : Thread Cert.MixInReferenceIdeal.nD Cert.MixInReferenceIdeal.τ).loc Cert.MixInReferenceIdeal.main_arg1))
      ∧ r.2.sem = fun _ => 0)

def quiescent_MixInDw [hMixInDw : Cert.MixInDw.Facts] : Prop :=
  ∀ (m : (ℓ : Loc Cert.MixInDw.nD Cert.MixInDw.τ Cert.MixInDw.sig) → Buf (Elt Bits) ℓ) (g : Dev Cert.MixInDw.nD → PrngReg), Pre_MixInDw m →
    θ_run (Cert.MixInDw.defs (F := Bits)) (onTc (τ := Cert.MixInDw.τ) (Cert.MixInDw.main (F := Bits))) ⟨m, fun _ => 0, g⟩ (fun r => (∀ c : Dev Cert.MixInDw.nD,
      r.2.mem ((c.tc : Thread Cert.MixInDw.nD Cert.MixInDw.τ).loc Cert.MixInDw.main_arg0) = m ((c.tc : Thread Cert.MixInDw.nD Cert.MixInDw.τ).loc Cert.MixInDw.main_arg0)
      ∧ r.2.mem ((c.tc : Thread Cert.MixInDw.nD Cert.MixInDw.τ).loc Cert.MixInDw.main_arg1) = m ((c.tc : Thread Cert.MixInDw.nD Cert.MixInDw.τ).loc Cert.MixInDw.main_arg1))
      ∧ r.2.sem = fun _ => 0)

def quiescent_MixInDwIdeal [hMixInDwIdeal : Cert.MixInDwIdeal.Facts] : Prop :=
  ∀ (m : (ℓ : Loc Cert.MixInDwIdeal.nD Cert.MixInDwIdeal.τ Cert.MixInDwIdeal.sig) → Buf (Elt Ideal) ℓ) (g : Dev Cert.MixInDwIdeal.nD → PrngReg), Pre_MixInDwIdeal m →
    θ_run (Cert.MixInDwIdeal.defs (F := Ideal)) (onTc (τ := Cert.MixInDwIdeal.τ) (Cert.MixInDwIdeal.main (F := Ideal))) ⟨m, fun _ => 0, g⟩ (fun r => (∀ c : Dev Cert.MixInDwIdeal.nD,
      r.2.mem ((c.tc : Thread Cert.MixInDwIdeal.nD Cert.MixInDwIdeal.τ).loc Cert.MixInDwIdeal.main_arg0) = m ((c.tc : Thread Cert.MixInDwIdeal.nD Cert.MixInDwIdeal.τ).loc Cert.MixInDwIdeal.main_arg0)
      ∧ r.2.mem ((c.tc : Thread Cert.MixInDwIdeal.nD Cert.MixInDwIdeal.τ).loc Cert.MixInDwIdeal.main_arg1) = m ((c.tc : Thread Cert.MixInDwIdeal.nD Cert.MixInDwIdeal.τ).loc Cert.MixInDwIdeal.main_arg1))
      ∧ r.2.sem = fun _ => 0)

def quiescent_MixInDwReferenceIdeal [hMixInDwReferenceIdeal : Cert.MixInDwReferenceIdeal.Facts] : Prop :=
  ∀ (m : (ℓ : Loc Cert.MixInDwReferenceIdeal.nD Cert.MixInDwReferenceIdeal.τ Cert.MixInDwReferenceIdeal.sig) → Buf (Elt Ideal) ℓ) (g : Dev Cert.MixInDwReferenceIdeal.nD → PrngReg), Pre_MixInDwReferenceIdeal m →
    θ_run (Cert.MixInDwReferenceIdeal.defs (F := Ideal)) (onTc (τ := Cert.MixInDwReferenceIdeal.τ) (Cert.MixInDwReferenceIdeal.main (F := Ideal))) ⟨m, fun _ => 0, g⟩ (fun r => (∀ c : Dev Cert.MixInDwReferenceIdeal.nD,
      r.2.mem ((c.tc : Thread Cert.MixInDwReferenceIdeal.nD Cert.MixInDwReferenceIdeal.τ).loc Cert.MixInDwReferenceIdeal.main_arg0) = m ((c.tc : Thread Cert.MixInDwReferenceIdeal.nD Cert.MixInDwReferenceIdeal.τ).loc Cert.MixInDwReferenceIdeal.main_arg0)
      ∧ r.2.mem ((c.tc : Thread Cert.MixInDwReferenceIdeal.nD Cert.MixInDwReferenceIdeal.τ).loc Cert.MixInDwReferenceIdeal.main_arg1) = m ((c.tc : Thread Cert.MixInDwReferenceIdeal.nD Cert.MixInDwReferenceIdeal.τ).loc Cert.MixInDwReferenceIdeal.main_arg1))
      ∧ r.2.sem = fun _ => 0)

def quiescent_MixInDx [hMixInDx : Cert.MixInDx.Facts] : Prop :=
  ∀ (m : (ℓ : Loc Cert.MixInDx.nD Cert.MixInDx.τ Cert.MixInDx.sig) → Buf (Elt Bits) ℓ) (g : Dev Cert.MixInDx.nD → PrngReg), Pre_MixInDx m →
    θ_run (Cert.MixInDx.defs (F := Bits)) (onTc (τ := Cert.MixInDx.τ) (Cert.MixInDx.main (F := Bits))) ⟨m, fun _ => 0, g⟩ (fun r => (∀ c : Dev Cert.MixInDx.nD,
      r.2.mem ((c.tc : Thread Cert.MixInDx.nD Cert.MixInDx.τ).loc Cert.MixInDx.main_arg0) = m ((c.tc : Thread Cert.MixInDx.nD Cert.MixInDx.τ).loc Cert.MixInDx.main_arg0)
      ∧ r.2.mem ((c.tc : Thread Cert.MixInDx.nD Cert.MixInDx.τ).loc Cert.MixInDx.main_arg1) = m ((c.tc : Thread Cert.MixInDx.nD Cert.MixInDx.τ).loc Cert.MixInDx.main_arg1))
      ∧ r.2.sem = fun _ => 0)

def quiescent_MixInDxIdeal [hMixInDxIdeal : Cert.MixInDxIdeal.Facts] : Prop :=
  ∀ (m : (ℓ : Loc Cert.MixInDxIdeal.nD Cert.MixInDxIdeal.τ Cert.MixInDxIdeal.sig) → Buf (Elt Ideal) ℓ) (g : Dev Cert.MixInDxIdeal.nD → PrngReg), Pre_MixInDxIdeal m →
    θ_run (Cert.MixInDxIdeal.defs (F := Ideal)) (onTc (τ := Cert.MixInDxIdeal.τ) (Cert.MixInDxIdeal.main (F := Ideal))) ⟨m, fun _ => 0, g⟩ (fun r => (∀ c : Dev Cert.MixInDxIdeal.nD,
      r.2.mem ((c.tc : Thread Cert.MixInDxIdeal.nD Cert.MixInDxIdeal.τ).loc Cert.MixInDxIdeal.main_arg0) = m ((c.tc : Thread Cert.MixInDxIdeal.nD Cert.MixInDxIdeal.τ).loc Cert.MixInDxIdeal.main_arg0)
      ∧ r.2.mem ((c.tc : Thread Cert.MixInDxIdeal.nD Cert.MixInDxIdeal.τ).loc Cert.MixInDxIdeal.main_arg1) = m ((c.tc : Thread Cert.MixInDxIdeal.nD Cert.MixInDxIdeal.τ).loc Cert.MixInDxIdeal.main_arg1))
      ∧ r.2.sem = fun _ => 0)

def quiescent_MixInDxReferenceIdeal [hMixInDxReferenceIdeal : Cert.MixInDxReferenceIdeal.Facts] : Prop :=
  ∀ (m : (ℓ : Loc Cert.MixInDxReferenceIdeal.nD Cert.MixInDxReferenceIdeal.τ Cert.MixInDxReferenceIdeal.sig) → Buf (Elt Ideal) ℓ) (g : Dev Cert.MixInDxReferenceIdeal.nD → PrngReg), Pre_MixInDxReferenceIdeal m →
    θ_run (Cert.MixInDxReferenceIdeal.defs (F := Ideal)) (onTc (τ := Cert.MixInDxReferenceIdeal.τ) (Cert.MixInDxReferenceIdeal.main (F := Ideal))) ⟨m, fun _ => 0, g⟩ (fun r => (∀ c : Dev Cert.MixInDxReferenceIdeal.nD,
      r.2.mem ((c.tc : Thread Cert.MixInDxReferenceIdeal.nD Cert.MixInDxReferenceIdeal.τ).loc Cert.MixInDxReferenceIdeal.main_arg0) = m ((c.tc : Thread Cert.MixInDxReferenceIdeal.nD Cert.MixInDxReferenceIdeal.τ).loc Cert.MixInDxReferenceIdeal.main_arg0)
      ∧ r.2.mem ((c.tc : Thread Cert.MixInDxReferenceIdeal.nD Cert.MixInDxReferenceIdeal.τ).loc Cert.MixInDxReferenceIdeal.main_arg1) = m ((c.tc : Thread Cert.MixInDxReferenceIdeal.nD Cert.MixInDxReferenceIdeal.τ).loc Cert.MixInDxReferenceIdeal.main_arg1))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_v57) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Dgu_DguIdeal : Prop :=
  True

def algebraic_DguIdeal_DguReferenceIdeal_pre_finite_dgu [hDguIdeal : Cert.DguIdeal.Facts] [hDguReferenceIdeal : Cert.DguReferenceIdeal.Facts] [hPre_finite_dgu : Cert.Pre_finite_dgu.Facts] : Prop :=
  ∀ (m : (ℓ : Loc Cert.DguIdeal.nD Cert.DguIdeal.τ Cert.DguIdeal.sig) → Buf (Elt Ideal) ℓ) (g : Dev Cert.DguIdeal.nD → PrngReg)
    (m' : (ℓ : Loc Cert.DguReferenceIdeal.nD Cert.DguReferenceIdeal.τ Cert.DguReferenceIdeal.sig) → Buf (Elt Ideal) ℓ) (g' : Dev Cert.DguReferenceIdeal.nD → PrngReg), Pre_DguIdeal_finite_dgu m →
    (∀ c : Dev Cert.DguIdeal.nD,
      m' ((c.tc : Thread Cert.DguReferenceIdeal.nD Cert.DguReferenceIdeal.τ).loc Cert.DguReferenceIdeal.main_arg0) = m ((c.tc : Thread Cert.DguIdeal.nD Cert.DguIdeal.τ).loc Cert.DguIdeal.main_arg0)
      ∧ m' ((c.tc : Thread Cert.DguReferenceIdeal.nD Cert.DguReferenceIdeal.τ).loc Cert.DguReferenceIdeal.main_arg1) = m ((c.tc : Thread Cert.DguIdeal.nD Cert.DguIdeal.τ).loc Cert.DguIdeal.main_arg1)
      ∧ m' ((c.tc : Thread Cert.DguReferenceIdeal.nD Cert.DguReferenceIdeal.τ).loc Cert.DguReferenceIdeal.main_arg2) = m ((c.tc : Thread Cert.DguIdeal.nD Cert.DguIdeal.τ).loc Cert.DguIdeal.main_arg2)) →
    ∃ (v0 : (c : Dev Cert.DguIdeal.nD) → Buf (Elt Ideal) ((c.tc : Thread Cert.DguIdeal.nD Cert.DguIdeal.τ).loc Cert.DguIdeal.main_v1)),
      θ_run (Cert.DguIdeal.defs (F := Ideal)) (onTc (τ := Cert.DguIdeal.τ) (Cert.DguIdeal.main (F := Ideal))) ⟨m, fun _ => 0, g⟩ (fun r => ∀ c : Dev Cert.DguIdeal.nD,
          r.2.mem ((c.tc : Thread Cert.DguIdeal.nD Cert.DguIdeal.τ).loc Cert.DguIdeal.main_v1) = v0 c
          ∧ r.2.mem ((c.tc : Thread Cert.DguIdeal.nD Cert.DguIdeal.τ).loc Cert.DguIdeal.main_arg0) = m ((c.tc : Thread Cert.DguIdeal.nD Cert.DguIdeal.τ).loc Cert.DguIdeal.main_arg0)
          ∧ r.2.mem ((c.tc : Thread Cert.DguIdeal.nD Cert.DguIdeal.τ).loc Cert.DguIdeal.main_arg1) = m ((c.tc : Thread Cert.DguIdeal.nD Cert.DguIdeal.τ).loc Cert.DguIdeal.main_arg1)
          ∧ r.2.mem ((c.tc : Thread Cert.DguIdeal.nD Cert.DguIdeal.τ).loc Cert.DguIdeal.main_arg2) = m ((c.tc : Thread Cert.DguIdeal.nD Cert.DguIdeal.τ).loc Cert.DguIdeal.main_arg2))
      ∧ θ_run (Cert.DguReferenceIdeal.defs (F := Ideal)) (onTc (τ := Cert.DguReferenceIdeal.τ) (Cert.DguReferenceIdeal.main (F := Ideal))) ⟨m', fun _ => 0, g'⟩ (fun r => ∀ c : Dev Cert.DguReferenceIdeal.nD,
          r.2.mem ((c.tc : Thread Cert.DguReferenceIdeal.nD Cert.DguReferenceIdeal.τ).loc Cert.DguReferenceIdeal.main_v19) = v0 c
          ∧ r.2.mem ((c.tc : Thread Cert.DguReferenceIdeal.nD Cert.DguReferenceIdeal.τ).loc Cert.DguReferenceIdeal.main_arg0) = m' ((c.tc : Thread Cert.DguReferenceIdeal.nD Cert.DguReferenceIdeal.τ).loc Cert.DguReferenceIdeal.main_arg0)
          ∧ r.2.mem ((c.tc : Thread Cert.DguReferenceIdeal.nD Cert.DguReferenceIdeal.τ).loc Cert.DguReferenceIdeal.main_arg1) = m' ((c.tc : Thread Cert.DguReferenceIdeal.nD Cert.DguReferenceIdeal.τ).loc Cert.DguReferenceIdeal.main_arg1)
          ∧ r.2.mem ((c.tc : Thread Cert.DguReferenceIdeal.nD Cert.DguReferenceIdeal.τ).loc Cert.DguReferenceIdeal.main_arg2) = m' ((c.tc : Thread Cert.DguReferenceIdeal.nD Cert.DguReferenceIdeal.τ).loc Cert.DguReferenceIdeal.main_arg2))

def preserves_Rms_RmsIdeal : Prop :=
  True

def algebraic_RmsIdeal_RmsReferenceIdeal_pre_finite_rms [hRmsIdeal : Cert.RmsIdeal.Facts] [hRmsReferenceIdeal : Cert.RmsReferenceIdeal.Facts] [hPre_finite_rms : Cert.Pre_finite_rms.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RmsReferenceIdeal.nD Cert.RmsReferenceIdeal.τ Cert.RmsReferenceIdeal.sig) → Buf (Elt Ideal) ℓ) (g' : Dev Cert.RmsReferenceIdeal.nD → PrngReg), Pre_RmsIdeal_finite_rms m →
    (∀ c : Dev Cert.RmsIdeal.nD,
      m' ((c.tc : Thread Cert.RmsReferenceIdeal.nD Cert.RmsReferenceIdeal.τ).loc Cert.RmsReferenceIdeal.main_arg0) = m ((c.tc : Thread Cert.RmsIdeal.nD Cert.RmsIdeal.τ).loc Cert.RmsIdeal.main_arg0)
      ∧ m' ((c.tc : Thread Cert.RmsReferenceIdeal.nD Cert.RmsReferenceIdeal.τ).loc Cert.RmsReferenceIdeal.main_arg1) = m ((c.tc : Thread Cert.RmsIdeal.nD Cert.RmsIdeal.τ).loc Cert.RmsIdeal.main_arg1)
      ∧ m' ((c.tc : Thread Cert.RmsReferenceIdeal.nD Cert.RmsReferenceIdeal.τ).loc Cert.RmsReferenceIdeal.main_arg2) = m ((c.tc : Thread Cert.RmsIdeal.nD Cert.RmsIdeal.τ).loc Cert.RmsIdeal.main_arg2)
      ∧ m' ((c.tc : Thread Cert.RmsReferenceIdeal.nD Cert.RmsReferenceIdeal.τ).loc Cert.RmsReferenceIdeal.main_arg3) = m ((c.tc : Thread Cert.RmsIdeal.nD Cert.RmsIdeal.τ).loc Cert.RmsIdeal.main_arg3)) →
    ∃ (v0 : (c : Dev Cert.RmsIdeal.nD) → Buf (Elt Ideal) ((c.tc : Thread Cert.RmsIdeal.nD Cert.RmsIdeal.τ).loc Cert.RmsIdeal.main_v0_0)) (v1 : (c : Dev Cert.RmsIdeal.nD) → Buf (Elt Ideal) ((c.tc : Thread Cert.RmsIdeal.nD Cert.RmsIdeal.τ).loc Cert.RmsIdeal.main_v0_1)) (v2 : (c : Dev Cert.RmsIdeal.nD) → Buf (Elt Ideal) ((c.tc : Thread Cert.RmsIdeal.nD Cert.RmsIdeal.τ).loc Cert.RmsIdeal.main_v0_2)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v0_0) = v0 c
          ∧ r.2.mem ((c.tc : Thread Cert.RmsIdeal.nD Cert.RmsIdeal.τ).loc Cert.RmsIdeal.main_v0_1) = v1 c
          ∧ r.2.mem ((c.tc : Thread Cert.RmsIdeal.nD Cert.RmsIdeal.τ).loc Cert.RmsIdeal.main_v0_2) = v2 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
          ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
          ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3))
      ∧ θ_run (Cert.RmsReferenceIdeal.defs (F := Ideal)) (onTc (τ := Cert.RmsReferenceIdeal.τ) (Cert.RmsReferenceIdeal.main (F := Ideal))) ⟨m', fun _ => 0, g'⟩ (fun r => ∀ c : Dev Cert.RmsReferenceIdeal.nD,
          r.2.mem ((c.tc : Thread Cert.RmsReferenceIdeal.nD Cert.RmsReferenceIdeal.τ).loc Cert.RmsReferenceIdeal.main_v34) = v0 c
          ∧ r.2.mem ((c.tc : Thread Cert.RmsReferenceIdeal.nD Cert.RmsReferenceIdeal.τ).loc Cert.RmsReferenceIdeal.main_v35) = v1 c
          ∧ r.2.mem ((c.tc : Thread Cert.RmsReferenceIdeal.nD Cert.RmsReferenceIdeal.τ).loc Cert.RmsReferenceIdeal.main_v17) = v2 c
          ∧ r.2.mem ((c.tc : Thread Cert.RmsReferenceIdeal.nD Cert.RmsReferenceIdeal.τ).loc Cert.RmsReferenceIdeal.main_arg0) = m' ((c.tc : Thread Cert.RmsReferenceIdeal.nD Cert.RmsReferenceIdeal.τ).loc Cert.RmsReferenceIdeal.main_arg0)
          ∧ r.2.mem ((c.tc : Thread Cert.RmsReferenceIdeal.nD Cert.RmsReferenceIdeal.τ).loc Cert.RmsReferenceIdeal.main_arg1) = m' ((c.tc : Thread Cert.RmsReferenceIdeal.nD Cert.RmsReferenceIdeal.τ).loc Cert.RmsReferenceIdeal.main_arg1)
          ∧ r.2.mem ((c.tc : Thread Cert.RmsReferenceIdeal.nD Cert.RmsReferenceIdeal.τ).loc Cert.RmsReferenceIdeal.main_arg2) = m' ((c.tc : Thread Cert.RmsReferenceIdeal.nD Cert.RmsReferenceIdeal.τ).loc Cert.RmsReferenceIdeal.main_arg2)
          ∧ r.2.mem ((c.tc : Thread Cert.RmsReferenceIdeal.nD Cert.RmsReferenceIdeal.τ).loc Cert.RmsReferenceIdeal.main_arg3) = m' ((c.tc : Thread Cert.RmsReferenceIdeal.nD Cert.RmsReferenceIdeal.τ).loc Cert.RmsReferenceIdeal.main_arg3))

def preserves_MemDrms_MemDrmsIdeal : Prop :=
  True

def algebraic_MemDrmsIdeal_MemDrmsReferenceIdeal_pre_finite_mem_drms [hMemDrmsIdeal : Cert.MemDrmsIdeal.Facts] [hMemDrmsReferenceIdeal : Cert.MemDrmsReferenceIdeal.Facts] [hPre_finite_mem_drms : Cert.Pre_finite_mem_drms.Facts] : Prop :=
  ∀ (m : (ℓ : Loc Cert.MemDrmsIdeal.nD Cert.MemDrmsIdeal.τ Cert.MemDrmsIdeal.sig) → Buf (Elt Ideal) ℓ) (g : Dev Cert.MemDrmsIdeal.nD → PrngReg)
    (m' : (ℓ : Loc Cert.MemDrmsReferenceIdeal.nD Cert.MemDrmsReferenceIdeal.τ Cert.MemDrmsReferenceIdeal.sig) → Buf (Elt Ideal) ℓ) (g' : Dev Cert.MemDrmsReferenceIdeal.nD → PrngReg), Pre_MemDrmsIdeal_finite_mem_drms m →
    (∀ c : Dev Cert.MemDrmsIdeal.nD,
      m' ((c.tc : Thread Cert.MemDrmsReferenceIdeal.nD Cert.MemDrmsReferenceIdeal.τ).loc Cert.MemDrmsReferenceIdeal.main_arg0) = m ((c.tc : Thread Cert.MemDrmsIdeal.nD Cert.MemDrmsIdeal.τ).loc Cert.MemDrmsIdeal.main_arg0)
      ∧ m' ((c.tc : Thread Cert.MemDrmsReferenceIdeal.nD Cert.MemDrmsReferenceIdeal.τ).loc Cert.MemDrmsReferenceIdeal.main_arg1) = m ((c.tc : Thread Cert.MemDrmsIdeal.nD Cert.MemDrmsIdeal.τ).loc Cert.MemDrmsIdeal.main_arg1)
      ∧ m' ((c.tc : Thread Cert.MemDrmsReferenceIdeal.nD Cert.MemDrmsReferenceIdeal.τ).loc Cert.MemDrmsReferenceIdeal.main_arg2) = m ((c.tc : Thread Cert.MemDrmsIdeal.nD Cert.MemDrmsIdeal.τ).loc Cert.MemDrmsIdeal.main_arg2)) →
    ∃ (v0 : (c : Dev Cert.MemDrmsIdeal.nD) → Buf (Elt Ideal) ((c.tc : Thread Cert.MemDrmsIdeal.nD Cert.MemDrmsIdeal.τ).loc Cert.MemDrmsIdeal.main_v0_0)) (v1 : (c : Dev Cert.MemDrmsIdeal.nD) → Buf (Elt Ideal) ((c.tc : Thread Cert.MemDrmsIdeal.nD Cert.MemDrmsIdeal.τ).loc Cert.MemDrmsIdeal.main_v0_1)) (v2 : (c : Dev Cert.MemDrmsIdeal.nD) → Buf (Elt Ideal) ((c.tc : Thread Cert.MemDrmsIdeal.nD Cert.MemDrmsIdeal.τ).loc Cert.MemDrmsIdeal.main_v0_2)),
      θ_run (Cert.MemDrmsIdeal.defs (F := Ideal)) (onTc (τ := Cert.MemDrmsIdeal.τ) (Cert.MemDrmsIdeal.main (F := Ideal))) ⟨m, fun _ => 0, g⟩ (fun r => ∀ c : Dev Cert.MemDrmsIdeal.nD,
          r.2.mem ((c.tc : Thread Cert.MemDrmsIdeal.nD Cert.MemDrmsIdeal.τ).loc Cert.MemDrmsIdeal.main_v0_0) = v0 c
          ∧ r.2.mem ((c.tc : Thread Cert.MemDrmsIdeal.nD Cert.MemDrmsIdeal.τ).loc Cert.MemDrmsIdeal.main_v0_1) = v1 c
          ∧ r.2.mem ((c.tc : Thread Cert.MemDrmsIdeal.nD Cert.MemDrmsIdeal.τ).loc Cert.MemDrmsIdeal.main_v0_2) = v2 c
          ∧ r.2.mem ((c.tc : Thread Cert.MemDrmsIdeal.nD Cert.MemDrmsIdeal.τ).loc Cert.MemDrmsIdeal.main_arg0) = m ((c.tc : Thread Cert.MemDrmsIdeal.nD Cert.MemDrmsIdeal.τ).loc Cert.MemDrmsIdeal.main_arg0)
          ∧ r.2.mem ((c.tc : Thread Cert.MemDrmsIdeal.nD Cert.MemDrmsIdeal.τ).loc Cert.MemDrmsIdeal.main_arg1) = m ((c.tc : Thread Cert.MemDrmsIdeal.nD Cert.MemDrmsIdeal.τ).loc Cert.MemDrmsIdeal.main_arg1)
          ∧ r.2.mem ((c.tc : Thread Cert.MemDrmsIdeal.nD Cert.MemDrmsIdeal.τ).loc Cert.MemDrmsIdeal.main_arg2) = m ((c.tc : Thread Cert.MemDrmsIdeal.nD Cert.MemDrmsIdeal.τ).loc Cert.MemDrmsIdeal.main_arg2))
      ∧ θ_run (Cert.MemDrmsReferenceIdeal.defs (F := Ideal)) (onTc (τ := Cert.MemDrmsReferenceIdeal.τ) (Cert.MemDrmsReferenceIdeal.main (F := Ideal))) ⟨m', fun _ => 0, g'⟩ (fun r => ∀ c : Dev Cert.MemDrmsReferenceIdeal.nD,
          r.2.mem ((c.tc : Thread Cert.MemDrmsReferenceIdeal.nD Cert.MemDrmsReferenceIdeal.τ).loc Cert.MemDrmsReferenceIdeal.main_v33) = v0 c
          ∧ r.2.mem ((c.tc : Thread Cert.MemDrmsReferenceIdeal.nD Cert.MemDrmsReferenceIdeal.τ).loc Cert.MemDrmsReferenceIdeal.main_v34) = v1 c
          ∧ r.2.mem ((c.tc : Thread Cert.MemDrmsReferenceIdeal.nD Cert.MemDrmsReferenceIdeal.τ).loc Cert.MemDrmsReferenceIdeal.main_v17) = v2 c
          ∧ r.2.mem ((c.tc : Thread Cert.MemDrmsReferenceIdeal.nD Cert.MemDrmsReferenceIdeal.τ).loc Cert.MemDrmsReferenceIdeal.main_arg0) = m' ((c.tc : Thread Cert.MemDrmsReferenceIdeal.nD Cert.MemDrmsReferenceIdeal.τ).loc Cert.MemDrmsReferenceIdeal.main_arg0)
          ∧ r.2.mem ((c.tc : Thread Cert.MemDrmsReferenceIdeal.nD Cert.MemDrmsReferenceIdeal.τ).loc Cert.MemDrmsReferenceIdeal.main_arg1) = m' ((c.tc : Thread Cert.MemDrmsReferenceIdeal.nD Cert.MemDrmsReferenceIdeal.τ).loc Cert.MemDrmsReferenceIdeal.main_arg1)
          ∧ r.2.mem ((c.tc : Thread Cert.MemDrmsReferenceIdeal.nD Cert.MemDrmsReferenceIdeal.τ).loc Cert.MemDrmsReferenceIdeal.main_arg2) = m' ((c.tc : Thread Cert.MemDrmsReferenceIdeal.nD Cert.MemDrmsReferenceIdeal.τ).loc Cert.MemDrmsReferenceIdeal.main_arg2))

def preserves_Loss_LossIdeal : Prop :=
  True

def algebraic_LossIdeal_LossReferenceIdeal [hLossIdeal : Cert.LossIdeal.Facts] [hLossReferenceIdeal : Cert.LossReferenceIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossIdeal m →
    (∀ c : Dev Cert.LossIdeal.nD,
      m' ((c.tc : Thread Cert.LossReferenceIdeal.nD Cert.LossReferenceIdeal.τ).loc Cert.LossReferenceIdeal.main_arg0) = m ((c.tc : Thread Cert.LossIdeal.nD Cert.LossIdeal.τ).loc Cert.LossIdeal.main_arg0)
      ∧ m' ((c.tc : Thread Cert.LossReferenceIdeal.nD Cert.LossReferenceIdeal.τ).loc Cert.LossReferenceIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v14) = v0 c
          ∧ r.2.mem ((c.tc : Thread Cert.LossReferenceIdeal.nD Cert.LossReferenceIdeal.τ).loc Cert.LossReferenceIdeal.main_v15) = v1 c
          ∧ r.2.mem ((c.tc : Thread Cert.LossReferenceIdeal.nD Cert.LossReferenceIdeal.τ).loc Cert.LossReferenceIdeal.main_v16) = v2 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1))

def preserves_MemFwd_MemFwdIdeal : Prop :=
  True

def algebraic_MemFwdIdeal_MemFwdReferenceIdeal [hMemFwdIdeal : Cert.MemFwdIdeal.Facts] [hMemFwdReferenceIdeal : Cert.MemFwdReferenceIdeal.Facts] : Prop :=
  ∀ (m : (ℓ : Loc Cert.MemFwdIdeal.nD Cert.MemFwdIdeal.τ Cert.MemFwdIdeal.sig) → Buf (Elt Ideal) ℓ) (g : Dev Cert.MemFwdIdeal.nD → PrngReg)
    (m' : (ℓ : Loc Cert.MemFwdReferenceIdeal.nD Cert.MemFwdReferenceIdeal.τ Cert.MemFwdReferenceIdeal.sig) → Buf (Elt Ideal) ℓ) (g' : Dev Cert.MemFwdReferenceIdeal.nD → PrngReg), Pre_MemFwdIdeal m →
    (∀ c : Dev Cert.MemFwdIdeal.nD,
      m' ((c.tc : Thread Cert.MemFwdReferenceIdeal.nD Cert.MemFwdReferenceIdeal.τ).loc Cert.MemFwdReferenceIdeal.main_arg0) = m ((c.tc : Thread Cert.MemFwdIdeal.nD Cert.MemFwdIdeal.τ).loc Cert.MemFwdIdeal.main_arg0)
      ∧ m' ((c.tc : Thread Cert.MemFwdReferenceIdeal.nD Cert.MemFwdReferenceIdeal.τ).loc Cert.MemFwdReferenceIdeal.main_arg1) = m ((c.tc : Thread Cert.MemFwdIdeal.nD Cert.MemFwdIdeal.τ).loc Cert.MemFwdIdeal.main_arg1)
      ∧ m' ((c.tc : Thread Cert.MemFwdReferenceIdeal.nD Cert.MemFwdReferenceIdeal.τ).loc Cert.MemFwdReferenceIdeal.main_arg2) = m ((c.tc : Thread Cert.MemFwdIdeal.nD Cert.MemFwdIdeal.τ).loc Cert.MemFwdIdeal.main_arg2)) →
    ∃ (v0 : (c : Dev Cert.MemFwdIdeal.nD) → Buf (Elt Ideal) ((c.tc : Thread Cert.MemFwdIdeal.nD Cert.MemFwdIdeal.τ).loc Cert.MemFwdIdeal.main_v6)),
      θ_run (Cert.MemFwdIdeal.defs (F := Ideal)) (onTc (τ := Cert.MemFwdIdeal.τ) (Cert.MemFwdIdeal.main (F := Ideal))) ⟨m, fun _ => 0, g⟩ (fun r => ∀ c : Dev Cert.MemFwdIdeal.nD,
          r.2.mem ((c.tc : Thread Cert.MemFwdIdeal.nD Cert.MemFwdIdeal.τ).loc Cert.MemFwdIdeal.main_v6) = v0 c
          ∧ r.2.mem ((c.tc : Thread Cert.MemFwdIdeal.nD Cert.MemFwdIdeal.τ).loc Cert.MemFwdIdeal.main_arg0) = m ((c.tc : Thread Cert.MemFwdIdeal.nD Cert.MemFwdIdeal.τ).loc Cert.MemFwdIdeal.main_arg0)
          ∧ r.2.mem ((c.tc : Thread Cert.MemFwdIdeal.nD Cert.MemFwdIdeal.τ).loc Cert.MemFwdIdeal.main_arg1) = m ((c.tc : Thread Cert.MemFwdIdeal.nD Cert.MemFwdIdeal.τ).loc Cert.MemFwdIdeal.main_arg1)
          ∧ r.2.mem ((c.tc : Thread Cert.MemFwdIdeal.nD Cert.MemFwdIdeal.τ).loc Cert.MemFwdIdeal.main_arg2) = m ((c.tc : Thread Cert.MemFwdIdeal.nD Cert.MemFwdIdeal.τ).loc Cert.MemFwdIdeal.main_arg2))
      ∧ θ_run (Cert.MemFwdReferenceIdeal.defs (F := Ideal)) (onTc (τ := Cert.MemFwdReferenceIdeal.τ) (Cert.MemFwdReferenceIdeal.main (F := Ideal))) ⟨m', fun _ => 0, g'⟩ (fun r => ∀ c : Dev Cert.MemFwdReferenceIdeal.nD,
          r.2.mem ((c.tc : Thread Cert.MemFwdReferenceIdeal.nD Cert.MemFwdReferenceIdeal.τ).loc Cert.MemFwdReferenceIdeal.main_v16) = v0 c
          ∧ r.2.mem ((c.tc : Thread Cert.MemFwdReferenceIdeal.nD Cert.MemFwdReferenceIdeal.τ).loc Cert.MemFwdReferenceIdeal.main_arg0) = m' ((c.tc : Thread Cert.MemFwdReferenceIdeal.nD Cert.MemFwdReferenceIdeal.τ).loc Cert.MemFwdReferenceIdeal.main_arg0)
          ∧ r.2.mem ((c.tc : Thread Cert.MemFwdReferenceIdeal.nD Cert.MemFwdReferenceIdeal.τ).loc Cert.MemFwdReferenceIdeal.main_arg1) = m' ((c.tc : Thread Cert.MemFwdReferenceIdeal.nD Cert.MemFwdReferenceIdeal.τ).loc Cert.MemFwdReferenceIdeal.main_arg1)
          ∧ r.2.mem ((c.tc : Thread Cert.MemFwdReferenceIdeal.nD Cert.MemFwdReferenceIdeal.τ).loc Cert.MemFwdReferenceIdeal.main_arg2) = m' ((c.tc : Thread Cert.MemFwdReferenceIdeal.nD Cert.MemFwdReferenceIdeal.τ).loc Cert.MemFwdReferenceIdeal.main_arg2))

def preserves_FoxFwd_FoxFwdIdeal : Prop :=
  IdealRules.named_const.Statement Cert.FoxFwdIdeal.κ "masked" .f32 0xF149F2CA#32 ⊥

def algebraic_FoxFwdIdeal_FoxFwdReferenceIdeal_pre_finite_fox [hFoxFwdIdeal : Cert.FoxFwdIdeal.Facts] [hFoxFwdReferenceIdeal : Cert.FoxFwdReferenceIdeal.Facts] [hPre_finite_fox : Cert.Pre_finite_fox.Facts] : Prop :=
  ∀ (m : (ℓ : Loc Cert.FoxFwdIdeal.nD Cert.FoxFwdIdeal.τ Cert.FoxFwdIdeal.sig) → Buf (Elt Ideal) ℓ) (g : Dev Cert.FoxFwdIdeal.nD → PrngReg)
    (m' : (ℓ : Loc Cert.FoxFwdReferenceIdeal.nD Cert.FoxFwdReferenceIdeal.τ Cert.FoxFwdReferenceIdeal.sig) → Buf (Elt Ideal) ℓ) (g' : Dev Cert.FoxFwdReferenceIdeal.nD → PrngReg), Pre_FoxFwdIdeal_finite_fox m →
    (∀ c : Dev Cert.FoxFwdIdeal.nD,
      m' ((c.tc : Thread Cert.FoxFwdReferenceIdeal.nD Cert.FoxFwdReferenceIdeal.τ).loc Cert.FoxFwdReferenceIdeal.main_arg0) = m ((c.tc : Thread Cert.FoxFwdIdeal.nD Cert.FoxFwdIdeal.τ).loc Cert.FoxFwdIdeal.main_arg0)
      ∧ m' ((c.tc : Thread Cert.FoxFwdReferenceIdeal.nD Cert.FoxFwdReferenceIdeal.τ).loc Cert.FoxFwdReferenceIdeal.main_arg1) = m ((c.tc : Thread Cert.FoxFwdIdeal.nD Cert.FoxFwdIdeal.τ).loc Cert.FoxFwdIdeal.main_arg1)
      ∧ m' ((c.tc : Thread Cert.FoxFwdReferenceIdeal.nD Cert.FoxFwdReferenceIdeal.τ).loc Cert.FoxFwdReferenceIdeal.main_arg2) = m ((c.tc : Thread Cert.FoxFwdIdeal.nD Cert.FoxFwdIdeal.τ).loc Cert.FoxFwdIdeal.main_arg2)
      ∧ m' ((c.tc : Thread Cert.FoxFwdReferenceIdeal.nD Cert.FoxFwdReferenceIdeal.τ).loc Cert.FoxFwdReferenceIdeal.main_arg3) = m ((c.tc : Thread Cert.FoxFwdIdeal.nD Cert.FoxFwdIdeal.τ).loc Cert.FoxFwdIdeal.main_arg3)) →
    ∃ (v0 : (c : Dev Cert.FoxFwdIdeal.nD) → Buf (Elt Ideal) ((c.tc : Thread Cert.FoxFwdIdeal.nD Cert.FoxFwdIdeal.τ).loc Cert.FoxFwdIdeal.main_v8_0)) (v1 : (c : Dev Cert.FoxFwdIdeal.nD) → Buf (Elt Ideal) ((c.tc : Thread Cert.FoxFwdIdeal.nD Cert.FoxFwdIdeal.τ).loc Cert.FoxFwdIdeal.main_v8_1)),
      θ_run (Cert.FoxFwdIdeal.defs (F := Ideal)) (onTc (τ := Cert.FoxFwdIdeal.τ) (Cert.FoxFwdIdeal.main (F := Ideal))) ⟨m, fun _ => 0, g⟩ (fun r => ∀ c : Dev Cert.FoxFwdIdeal.nD,
          r.2.mem ((c.tc : Thread Cert.FoxFwdIdeal.nD Cert.FoxFwdIdeal.τ).loc Cert.FoxFwdIdeal.main_v8_0) = v0 c
          ∧ r.2.mem ((c.tc : Thread Cert.FoxFwdIdeal.nD Cert.FoxFwdIdeal.τ).loc Cert.FoxFwdIdeal.main_v8_1) = v1 c
          ∧ r.2.mem ((c.tc : Thread Cert.FoxFwdIdeal.nD Cert.FoxFwdIdeal.τ).loc Cert.FoxFwdIdeal.main_arg0) = m ((c.tc : Thread Cert.FoxFwdIdeal.nD Cert.FoxFwdIdeal.τ).loc Cert.FoxFwdIdeal.main_arg0)
          ∧ r.2.mem ((c.tc : Thread Cert.FoxFwdIdeal.nD Cert.FoxFwdIdeal.τ).loc Cert.FoxFwdIdeal.main_arg1) = m ((c.tc : Thread Cert.FoxFwdIdeal.nD Cert.FoxFwdIdeal.τ).loc Cert.FoxFwdIdeal.main_arg1)
          ∧ r.2.mem ((c.tc : Thread Cert.FoxFwdIdeal.nD Cert.FoxFwdIdeal.τ).loc Cert.FoxFwdIdeal.main_arg2) = m ((c.tc : Thread Cert.FoxFwdIdeal.nD Cert.FoxFwdIdeal.τ).loc Cert.FoxFwdIdeal.main_arg2)
          ∧ r.2.mem ((c.tc : Thread Cert.FoxFwdIdeal.nD Cert.FoxFwdIdeal.τ).loc Cert.FoxFwdIdeal.main_arg3) = m ((c.tc : Thread Cert.FoxFwdIdeal.nD Cert.FoxFwdIdeal.τ).loc Cert.FoxFwdIdeal.main_arg3))
      ∧ θ_run (Cert.FoxFwdReferenceIdeal.defs (F := Ideal)) (onTc (τ := Cert.FoxFwdReferenceIdeal.τ) (Cert.FoxFwdReferenceIdeal.main (F := Ideal))) ⟨m', fun _ => 0, g'⟩ (fun r => ∀ c : Dev Cert.FoxFwdReferenceIdeal.nD,
          r.2.mem ((c.tc : Thread Cert.FoxFwdReferenceIdeal.nD Cert.FoxFwdReferenceIdeal.τ).loc Cert.FoxFwdReferenceIdeal.main_v48) = v0 c
          ∧ r.2.mem ((c.tc : Thread Cert.FoxFwdReferenceIdeal.nD Cert.FoxFwdReferenceIdeal.τ).loc Cert.FoxFwdReferenceIdeal.main_v49) = v1 c
          ∧ r.2.mem ((c.tc : Thread Cert.FoxFwdReferenceIdeal.nD Cert.FoxFwdReferenceIdeal.τ).loc Cert.FoxFwdReferenceIdeal.main_arg0) = m' ((c.tc : Thread Cert.FoxFwdReferenceIdeal.nD Cert.FoxFwdReferenceIdeal.τ).loc Cert.FoxFwdReferenceIdeal.main_arg0)
          ∧ r.2.mem ((c.tc : Thread Cert.FoxFwdReferenceIdeal.nD Cert.FoxFwdReferenceIdeal.τ).loc Cert.FoxFwdReferenceIdeal.main_arg1) = m' ((c.tc : Thread Cert.FoxFwdReferenceIdeal.nD Cert.FoxFwdReferenceIdeal.τ).loc Cert.FoxFwdReferenceIdeal.main_arg1)
          ∧ r.2.mem ((c.tc : Thread Cert.FoxFwdReferenceIdeal.nD Cert.FoxFwdReferenceIdeal.τ).loc Cert.FoxFwdReferenceIdeal.main_arg2) = m' ((c.tc : Thread Cert.FoxFwdReferenceIdeal.nD Cert.FoxFwdReferenceIdeal.τ).loc Cert.FoxFwdReferenceIdeal.main_arg2)
          ∧ r.2.mem ((c.tc : Thread Cert.FoxFwdReferenceIdeal.nD Cert.FoxFwdReferenceIdeal.τ).loc Cert.FoxFwdReferenceIdeal.main_arg3) = m' ((c.tc : Thread Cert.FoxFwdReferenceIdeal.nD Cert.FoxFwdReferenceIdeal.τ).loc Cert.FoxFwdReferenceIdeal.main_arg3))

def preserves_Gate_GateIdeal : Prop :=
  True

def algebraic_GateIdeal_GateReferenceIdeal [hGateIdeal : Cert.GateIdeal.Facts] [hGateReferenceIdeal : Cert.GateReferenceIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateIdeal m →
    (∀ c : Dev Cert.GateIdeal.nD,
      m' ((c.tc : Thread Cert.GateReferenceIdeal.nD Cert.GateReferenceIdeal.τ).loc Cert.GateReferenceIdeal.main_arg0) = m ((c.tc : Thread Cert.GateIdeal.nD Cert.GateIdeal.τ).loc Cert.GateIdeal.main_arg0)
      ∧ m' ((c.tc : Thread Cert.GateReferenceIdeal.nD Cert.GateReferenceIdeal.τ).loc Cert.GateReferenceIdeal.main_arg1) = m ((c.tc : Thread Cert.GateIdeal.nD Cert.GateIdeal.τ).loc Cert.GateIdeal.main_arg1)
      ∧ m' ((c.tc : Thread Cert.GateReferenceIdeal.nD Cert.GateReferenceIdeal.τ).loc Cert.GateReferenceIdeal.main_arg2) = m ((c.tc : Thread Cert.GateIdeal.nD Cert.GateIdeal.τ).loc Cert.GateIdeal.main_arg2)
      ∧ m' ((c.tc : Thread Cert.GateReferenceIdeal.nD Cert.GateReferenceIdeal.τ).loc Cert.GateReferenceIdeal.main_arg3) = m ((c.tc : Thread Cert.GateIdeal.nD Cert.GateIdeal.τ).loc Cert.GateIdeal.main_arg3)
      ∧ m' ((c.tc : Thread Cert.GateReferenceIdeal.nD Cert.GateReferenceIdeal.τ).loc Cert.GateReferenceIdeal.main_arg4) = m ((c.tc : Thread Cert.GateIdeal.nD Cert.GateIdeal.τ).loc Cert.GateIdeal.main_arg4)) →
    ∃ (v0 : (c : Dev Cert.GateIdeal.nD) → Buf (Elt Ideal) ((c.tc : Thread Cert.GateIdeal.nD Cert.GateIdeal.τ).loc Cert.GateIdeal.main_v0_0)) (v1 : (c : Dev Cert.GateIdeal.nD) → Buf (Elt Ideal) ((c.tc : Thread Cert.GateIdeal.nD Cert.GateIdeal.τ).loc Cert.GateIdeal.main_v0_1)) (v2 : (c : Dev Cert.GateIdeal.nD) → Buf (Elt Ideal) ((c.tc : Thread Cert.GateIdeal.nD Cert.GateIdeal.τ).loc Cert.GateIdeal.main_v0_2)) (v3 : (c : Dev Cert.GateIdeal.nD) → Buf (Elt Ideal) ((c.tc : Thread Cert.GateIdeal.nD Cert.GateIdeal.τ).loc Cert.GateIdeal.main_v0_3)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0_0) = v0 c
          ∧ r.2.mem ((c.tc : Thread Cert.GateIdeal.nD Cert.GateIdeal.τ).loc Cert.GateIdeal.main_v0_1) = v1 c
          ∧ r.2.mem ((c.tc : Thread Cert.GateIdeal.nD Cert.GateIdeal.τ).loc Cert.GateIdeal.main_v0_2) = v2 c
          ∧ r.2.mem ((c.tc : Thread Cert.GateIdeal.nD Cert.GateIdeal.τ).loc Cert.GateIdeal.main_v0_3) = v3 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v28) = v0 c
          ∧ r.2.mem ((c.tc : Thread Cert.GateReferenceIdeal.nD Cert.GateReferenceIdeal.τ).loc Cert.GateReferenceIdeal.main_v29) = v1 c
          ∧ r.2.mem ((c.tc : Thread Cert.GateReferenceIdeal.nD Cert.GateReferenceIdeal.τ).loc Cert.GateReferenceIdeal.main_v30) = v2 c
          ∧ r.2.mem ((c.tc : Thread Cert.GateReferenceIdeal.nD Cert.GateReferenceIdeal.τ).loc Cert.GateReferenceIdeal.main_v31) = v3 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3)
          ∧ r.2.mem ((c.tc : Thread Cert.GateReferenceIdeal.nD Cert.GateReferenceIdeal.τ).loc Cert.GateReferenceIdeal.main_arg4) = m' ((c.tc : Thread Cert.GateReferenceIdeal.nD Cert.GateReferenceIdeal.τ).loc Cert.GateReferenceIdeal.main_arg4))

def preserves_Dwd_DwdIdeal : Prop :=
  True

def algebraic_DwdIdeal_DwdReferenceIdeal [hDwdIdeal : Cert.DwdIdeal.Facts] [hDwdReferenceIdeal : Cert.DwdReferenceIdeal.Facts] : Prop :=
  ∀ (m : (ℓ : Loc Cert.DwdIdeal.nD Cert.DwdIdeal.τ Cert.DwdIdeal.sig) → Buf (Elt Ideal) ℓ) (g : Dev Cert.DwdIdeal.nD → PrngReg)
    (m' : (ℓ : Loc Cert.DwdReferenceIdeal.nD Cert.DwdReferenceIdeal.τ Cert.DwdReferenceIdeal.sig) → Buf (Elt Ideal) ℓ) (g' : Dev Cert.DwdReferenceIdeal.nD → PrngReg), Pre_DwdIdeal m →
    (∀ c : Dev Cert.DwdIdeal.nD,
      m' ((c.tc : Thread Cert.DwdReferenceIdeal.nD Cert.DwdReferenceIdeal.τ).loc Cert.DwdReferenceIdeal.main_arg0) = m ((c.tc : Thread Cert.DwdIdeal.nD Cert.DwdIdeal.τ).loc Cert.DwdIdeal.main_arg0)
      ∧ m' ((c.tc : Thread Cert.DwdReferenceIdeal.nD Cert.DwdReferenceIdeal.τ).loc Cert.DwdReferenceIdeal.main_arg1) = m ((c.tc : Thread Cert.DwdIdeal.nD Cert.DwdIdeal.τ).loc Cert.DwdIdeal.main_arg1)) →
    ∃ (v0 : (c : Dev Cert.DwdIdeal.nD) → Buf (Elt Ideal) ((c.tc : Thread Cert.DwdIdeal.nD Cert.DwdIdeal.τ).loc Cert.DwdIdeal.main_v0)),
      θ_run (Cert.DwdIdeal.defs (F := Ideal)) (onTc (τ := Cert.DwdIdeal.τ) (Cert.DwdIdeal.main (F := Ideal))) ⟨m, fun _ => 0, g⟩ (fun r => ∀ c : Dev Cert.DwdIdeal.nD,
          r.2.mem ((c.tc : Thread Cert.DwdIdeal.nD Cert.DwdIdeal.τ).loc Cert.DwdIdeal.main_v0) = v0 c
          ∧ r.2.mem ((c.tc : Thread Cert.DwdIdeal.nD Cert.DwdIdeal.τ).loc Cert.DwdIdeal.main_arg0) = m ((c.tc : Thread Cert.DwdIdeal.nD Cert.DwdIdeal.τ).loc Cert.DwdIdeal.main_arg0)
          ∧ r.2.mem ((c.tc : Thread Cert.DwdIdeal.nD Cert.DwdIdeal.τ).loc Cert.DwdIdeal.main_arg1) = m ((c.tc : Thread Cert.DwdIdeal.nD Cert.DwdIdeal.τ).loc Cert.DwdIdeal.main_arg1))
      ∧ θ_run (Cert.DwdReferenceIdeal.defs (F := Ideal)) (onTc (τ := Cert.DwdReferenceIdeal.τ) (Cert.DwdReferenceIdeal.main (F := Ideal))) ⟨m', fun _ => 0, g'⟩ (fun r => ∀ c : Dev Cert.DwdReferenceIdeal.nD,
          r.2.mem ((c.tc : Thread Cert.DwdReferenceIdeal.nD Cert.DwdReferenceIdeal.τ).loc Cert.DwdReferenceIdeal.main_v9) = v0 c
          ∧ r.2.mem ((c.tc : Thread Cert.DwdReferenceIdeal.nD Cert.DwdReferenceIdeal.τ).loc Cert.DwdReferenceIdeal.main_arg0) = m' ((c.tc : Thread Cert.DwdReferenceIdeal.nD Cert.DwdReferenceIdeal.τ).loc Cert.DwdReferenceIdeal.main_arg0)
          ∧ r.2.mem ((c.tc : Thread Cert.DwdReferenceIdeal.nD Cert.DwdReferenceIdeal.τ).loc Cert.DwdReferenceIdeal.main_arg1) = m' ((c.tc : Thread Cert.DwdReferenceIdeal.nD Cert.DwdReferenceIdeal.τ).loc Cert.DwdReferenceIdeal.main_arg1))

def preserves_Gu_GuIdeal : Prop :=
  True

def algebraic_GuIdeal_GuReferenceIdeal [hGuIdeal : Cert.GuIdeal.Facts] [hGuReferenceIdeal : Cert.GuReferenceIdeal.Facts] : Prop :=
  ∀ (m : (ℓ : Loc Cert.GuIdeal.nD Cert.GuIdeal.τ Cert.GuIdeal.sig) → Buf (Elt Ideal) ℓ) (g : Dev Cert.GuIdeal.nD → PrngReg)
    (m' : (ℓ : Loc Cert.GuReferenceIdeal.nD Cert.GuReferenceIdeal.τ Cert.GuReferenceIdeal.sig) → Buf (Elt Ideal) ℓ) (g' : Dev Cert.GuReferenceIdeal.nD → PrngReg), Pre_GuIdeal m →
    (∀ c : Dev Cert.GuIdeal.nD,
      m' ((c.tc : Thread Cert.GuReferenceIdeal.nD Cert.GuReferenceIdeal.τ).loc Cert.GuReferenceIdeal.main_arg0) = m ((c.tc : Thread Cert.GuIdeal.nD Cert.GuIdeal.τ).loc Cert.GuIdeal.main_arg0)
      ∧ m' ((c.tc : Thread Cert.GuReferenceIdeal.nD Cert.GuReferenceIdeal.τ).loc Cert.GuReferenceIdeal.main_arg1) = m ((c.tc : Thread Cert.GuIdeal.nD Cert.GuIdeal.τ).loc Cert.GuIdeal.main_arg1)) →
    ∃ (v0 : (c : Dev Cert.GuIdeal.nD) → Buf (Elt Ideal) ((c.tc : Thread Cert.GuIdeal.nD Cert.GuIdeal.τ).loc Cert.GuIdeal.main_v0_0)) (v1 : (c : Dev Cert.GuIdeal.nD) → Buf (Elt Ideal) ((c.tc : Thread Cert.GuIdeal.nD Cert.GuIdeal.τ).loc Cert.GuIdeal.main_v0_1)),
      θ_run (Cert.GuIdeal.defs (F := Ideal)) (onTc (τ := Cert.GuIdeal.τ) (Cert.GuIdeal.main (F := Ideal))) ⟨m, fun _ => 0, g⟩ (fun r => ∀ c : Dev Cert.GuIdeal.nD,
          r.2.mem ((c.tc : Thread Cert.GuIdeal.nD Cert.GuIdeal.τ).loc Cert.GuIdeal.main_v0_0) = v0 c
          ∧ r.2.mem ((c.tc : Thread Cert.GuIdeal.nD Cert.GuIdeal.τ).loc Cert.GuIdeal.main_v0_1) = v1 c
          ∧ r.2.mem ((c.tc : Thread Cert.GuIdeal.nD Cert.GuIdeal.τ).loc Cert.GuIdeal.main_arg0) = m ((c.tc : Thread Cert.GuIdeal.nD Cert.GuIdeal.τ).loc Cert.GuIdeal.main_arg0)
          ∧ r.2.mem ((c.tc : Thread Cert.GuIdeal.nD Cert.GuIdeal.τ).loc Cert.GuIdeal.main_arg1) = m ((c.tc : Thread Cert.GuIdeal.nD Cert.GuIdeal.τ).loc Cert.GuIdeal.main_arg1))
      ∧ θ_run (Cert.GuReferenceIdeal.defs (F := Ideal)) (onTc (τ := Cert.GuReferenceIdeal.τ) (Cert.GuReferenceIdeal.main (F := Ideal))) ⟨m', fun _ => 0, g'⟩ (fun r => ∀ c : Dev Cert.GuReferenceIdeal.nD,
          r.2.mem ((c.tc : Thread Cert.GuReferenceIdeal.nD Cert.GuReferenceIdeal.τ).loc Cert.GuReferenceIdeal.main_v9) = v0 c
          ∧ r.2.mem ((c.tc : Thread Cert.GuReferenceIdeal.nD Cert.GuReferenceIdeal.τ).loc Cert.GuReferenceIdeal.main_v12) = v1 c
          ∧ r.2.mem ((c.tc : Thread Cert.GuReferenceIdeal.nD Cert.GuReferenceIdeal.τ).loc Cert.GuReferenceIdeal.main_arg0) = m' ((c.tc : Thread Cert.GuReferenceIdeal.nD Cert.GuReferenceIdeal.τ).loc Cert.GuReferenceIdeal.main_arg0)
          ∧ r.2.mem ((c.tc : Thread Cert.GuReferenceIdeal.nD Cert.GuReferenceIdeal.τ).loc Cert.GuReferenceIdeal.main_arg1) = m' ((c.tc : Thread Cert.GuReferenceIdeal.nD Cert.GuReferenceIdeal.τ).loc Cert.GuReferenceIdeal.main_arg1))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v5) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2))

def preserves_MixOut_MixOutIdeal : Prop :=
  True

def algebraic_MixOutIdeal_MixOutReferenceIdeal [hMixOutIdeal : Cert.MixOutIdeal.Facts] [hMixOutReferenceIdeal : Cert.MixOutReferenceIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutReferenceIdeal.nD Cert.MixOutReferenceIdeal.τ Cert.MixOutReferenceIdeal.sig) → Buf (Elt Ideal) ℓ) (g' : Dev Cert.MixOutReferenceIdeal.nD → PrngReg), Pre_MixOutIdeal m →
    (∀ c : Dev Cert.MixOutIdeal.nD,
      m' ((c.tc : Thread Cert.MixOutReferenceIdeal.nD Cert.MixOutReferenceIdeal.τ).loc Cert.MixOutReferenceIdeal.main_arg0) = m ((c.tc : Thread Cert.MixOutIdeal.nD Cert.MixOutIdeal.τ).loc Cert.MixOutIdeal.main_arg0)
      ∧ m' ((c.tc : Thread Cert.MixOutReferenceIdeal.nD Cert.MixOutReferenceIdeal.τ).loc Cert.MixOutReferenceIdeal.main_arg1) = m ((c.tc : Thread Cert.MixOutIdeal.nD Cert.MixOutIdeal.τ).loc Cert.MixOutIdeal.main_arg1)
      ∧ m' ((c.tc : Thread Cert.MixOutReferenceIdeal.nD Cert.MixOutReferenceIdeal.τ).loc Cert.MixOutReferenceIdeal.main_arg2) = m ((c.tc : Thread Cert.MixOutIdeal.nD Cert.MixOutIdeal.τ).loc Cert.MixOutIdeal.main_arg2)) →
    ∃ (v0 : (c : Dev Cert.MixOutIdeal.nD) → Buf (Elt Ideal) ((c.tc : Thread Cert.MixOutIdeal.nD Cert.MixOutIdeal.τ).loc Cert.MixOutIdeal.main_v0)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ θ_run (Cert.MixOutReferenceIdeal.defs (F := Ideal)) (onTc (τ := Cert.MixOutReferenceIdeal.τ) (Cert.MixOutReferenceIdeal.main (F := Ideal))) ⟨m', fun _ => 0, g'⟩ (fun r => ∀ c : Dev Cert.MixOutReferenceIdeal.nD,
          r.2.mem ((c.tc : Thread Cert.MixOutReferenceIdeal.nD Cert.MixOutReferenceIdeal.τ).loc Cert.MixOutReferenceIdeal.main_v3) = v0 c
          ∧ r.2.mem ((c.tc : Thread Cert.MixOutReferenceIdeal.nD Cert.MixOutReferenceIdeal.τ).loc Cert.MixOutReferenceIdeal.main_arg0) = m' ((c.tc : Thread Cert.MixOutReferenceIdeal.nD Cert.MixOutReferenceIdeal.τ).loc Cert.MixOutReferenceIdeal.main_arg0)
          ∧ r.2.mem ((c.tc : Thread Cert.MixOutReferenceIdeal.nD Cert.MixOutReferenceIdeal.τ).loc Cert.MixOutReferenceIdeal.main_arg1) = m' ((c.tc : Thread Cert.MixOutReferenceIdeal.nD Cert.MixOutReferenceIdeal.τ).loc Cert.MixOutReferenceIdeal.main_arg1)
          ∧ r.2.mem ((c.tc : Thread Cert.MixOutReferenceIdeal.nD Cert.MixOutReferenceIdeal.τ).loc Cert.MixOutReferenceIdeal.main_arg2) = m' ((c.tc : Thread Cert.MixOutReferenceIdeal.nD Cert.MixOutReferenceIdeal.τ).loc Cert.MixOutReferenceIdeal.main_arg2))

def preserves_MixOutDx_MixOutDxIdeal : Prop :=
  True

def algebraic_MixOutDxIdeal_MixOutDxReferenceIdeal [hMixOutDxIdeal : Cert.MixOutDxIdeal.Facts] [hMixOutDxReferenceIdeal : Cert.MixOutDxReferenceIdeal.Facts] : Prop :=
  ∀ (m : (ℓ : Loc Cert.MixOutDxIdeal.nD Cert.MixOutDxIdeal.τ Cert.MixOutDxIdeal.sig) → Buf (Elt Ideal) ℓ) (g : Dev Cert.MixOutDxIdeal.nD → PrngReg)
    (m' : (ℓ : Loc Cert.MixOutDxReferenceIdeal.nD Cert.MixOutDxReferenceIdeal.τ Cert.MixOutDxReferenceIdeal.sig) → Buf (Elt Ideal) ℓ) (g' : Dev Cert.MixOutDxReferenceIdeal.nD → PrngReg), Pre_MixOutDxIdeal m →
    (∀ c : Dev Cert.MixOutDxIdeal.nD,
      m' ((c.tc : Thread Cert.MixOutDxReferenceIdeal.nD Cert.MixOutDxReferenceIdeal.τ).loc Cert.MixOutDxReferenceIdeal.main_arg0) = m ((c.tc : Thread Cert.MixOutDxIdeal.nD Cert.MixOutDxIdeal.τ).loc Cert.MixOutDxIdeal.main_arg0)
      ∧ m' ((c.tc : Thread Cert.MixOutDxReferenceIdeal.nD Cert.MixOutDxReferenceIdeal.τ).loc Cert.MixOutDxReferenceIdeal.main_arg1) = m ((c.tc : Thread Cert.MixOutDxIdeal.nD Cert.MixOutDxIdeal.τ).loc Cert.MixOutDxIdeal.main_arg1)) →
    ∃ (v0 : (c : Dev Cert.MixOutDxIdeal.nD) → Buf (Elt Ideal) ((c.tc : Thread Cert.MixOutDxIdeal.nD Cert.MixOutDxIdeal.τ).loc Cert.MixOutDxIdeal.main_v0)),
      θ_run (Cert.MixOutDxIdeal.defs (F := Ideal)) (onTc (τ := Cert.MixOutDxIdeal.τ) (Cert.MixOutDxIdeal.main (F := Ideal))) ⟨m, fun _ => 0, g⟩ (fun r => ∀ c : Dev Cert.MixOutDxIdeal.nD,
          r.2.mem ((c.tc : Thread Cert.MixOutDxIdeal.nD Cert.MixOutDxIdeal.τ).loc Cert.MixOutDxIdeal.main_v0) = v0 c
          ∧ r.2.mem ((c.tc : Thread Cert.MixOutDxIdeal.nD Cert.MixOutDxIdeal.τ).loc Cert.MixOutDxIdeal.main_arg0) = m ((c.tc : Thread Cert.MixOutDxIdeal.nD Cert.MixOutDxIdeal.τ).loc Cert.MixOutDxIdeal.main_arg0)
          ∧ r.2.mem ((c.tc : Thread Cert.MixOutDxIdeal.nD Cert.MixOutDxIdeal.τ).loc Cert.MixOutDxIdeal.main_arg1) = m ((c.tc : Thread Cert.MixOutDxIdeal.nD Cert.MixOutDxIdeal.τ).loc Cert.MixOutDxIdeal.main_arg1))
      ∧ θ_run (Cert.MixOutDxReferenceIdeal.defs (F := Ideal)) (onTc (τ := Cert.MixOutDxReferenceIdeal.τ) (Cert.MixOutDxReferenceIdeal.main (F := Ideal))) ⟨m', fun _ => 0, g'⟩ (fun r => ∀ c : Dev Cert.MixOutDxReferenceIdeal.nD,
          r.2.mem ((c.tc : Thread Cert.MixOutDxReferenceIdeal.nD Cert.MixOutDxReferenceIdeal.τ).loc Cert.MixOutDxReferenceIdeal.main_v4) = v0 c
          ∧ r.2.mem ((c.tc : Thread Cert.MixOutDxReferenceIdeal.nD Cert.MixOutDxReferenceIdeal.τ).loc Cert.MixOutDxReferenceIdeal.main_arg0) = m' ((c.tc : Thread Cert.MixOutDxReferenceIdeal.nD Cert.MixOutDxReferenceIdeal.τ).loc Cert.MixOutDxReferenceIdeal.main_arg0)
          ∧ r.2.mem ((c.tc : Thread Cert.MixOutDxReferenceIdeal.nD Cert.MixOutDxReferenceIdeal.τ).loc Cert.MixOutDxReferenceIdeal.main_arg1) = m' ((c.tc : Thread Cert.MixOutDxReferenceIdeal.nD Cert.MixOutDxReferenceIdeal.τ).loc Cert.MixOutDxReferenceIdeal.main_arg1))

def preserves_MixOutDw_MixOutDwIdeal : Prop :=
  True

def algebraic_MixOutDwIdeal_MixOutDwReferenceIdeal [hMixOutDwIdeal : Cert.MixOutDwIdeal.Facts] [hMixOutDwReferenceIdeal : Cert.MixOutDwReferenceIdeal.Facts] : Prop :=
  ∀ (m : (ℓ : Loc Cert.MixOutDwIdeal.nD Cert.MixOutDwIdeal.τ Cert.MixOutDwIdeal.sig) → Buf (Elt Ideal) ℓ) (g : Dev Cert.MixOutDwIdeal.nD → PrngReg)
    (m' : (ℓ : Loc Cert.MixOutDwReferenceIdeal.nD Cert.MixOutDwReferenceIdeal.τ Cert.MixOutDwReferenceIdeal.sig) → Buf (Elt Ideal) ℓ) (g' : Dev Cert.MixOutDwReferenceIdeal.nD → PrngReg), Pre_MixOutDwIdeal m →
    (∀ c : Dev Cert.MixOutDwIdeal.nD,
      m' ((c.tc : Thread Cert.MixOutDwReferenceIdeal.nD Cert.MixOutDwReferenceIdeal.τ).loc Cert.MixOutDwReferenceIdeal.main_arg0) = m ((c.tc : Thread Cert.MixOutDwIdeal.nD Cert.MixOutDwIdeal.τ).loc Cert.MixOutDwIdeal.main_arg0)
      ∧ m' ((c.tc : Thread Cert.MixOutDwReferenceIdeal.nD Cert.MixOutDwReferenceIdeal.τ).loc Cert.MixOutDwReferenceIdeal.main_arg1) = m ((c.tc : Thread Cert.MixOutDwIdeal.nD Cert.MixOutDwIdeal.τ).loc Cert.MixOutDwIdeal.main_arg1)) →
    ∃ (v0 : (c : Dev Cert.MixOutDwIdeal.nD) → Buf (Elt Ideal) ((c.tc : Thread Cert.MixOutDwIdeal.nD Cert.MixOutDwIdeal.τ).loc Cert.MixOutDwIdeal.main_v0)),
      θ_run (Cert.MixOutDwIdeal.defs (F := Ideal)) (onTc (τ := Cert.MixOutDwIdeal.τ) (Cert.MixOutDwIdeal.main (F := Ideal))) ⟨m, fun _ => 0, g⟩ (fun r => ∀ c : Dev Cert.MixOutDwIdeal.nD,
          r.2.mem ((c.tc : Thread Cert.MixOutDwIdeal.nD Cert.MixOutDwIdeal.τ).loc Cert.MixOutDwIdeal.main_v0) = v0 c
          ∧ r.2.mem ((c.tc : Thread Cert.MixOutDwIdeal.nD Cert.MixOutDwIdeal.τ).loc Cert.MixOutDwIdeal.main_arg0) = m ((c.tc : Thread Cert.MixOutDwIdeal.nD Cert.MixOutDwIdeal.τ).loc Cert.MixOutDwIdeal.main_arg0)
          ∧ r.2.mem ((c.tc : Thread Cert.MixOutDwIdeal.nD Cert.MixOutDwIdeal.τ).loc Cert.MixOutDwIdeal.main_arg1) = m ((c.tc : Thread Cert.MixOutDwIdeal.nD Cert.MixOutDwIdeal.τ).loc Cert.MixOutDwIdeal.main_arg1))
      ∧ θ_run (Cert.MixOutDwReferenceIdeal.defs (F := Ideal)) (onTc (τ := Cert.MixOutDwReferenceIdeal.τ) (Cert.MixOutDwReferenceIdeal.main (F := Ideal))) ⟨m', fun _ => 0, g'⟩ (fun r => ∀ c : Dev Cert.MixOutDwReferenceIdeal.nD,
          r.2.mem ((c.tc : Thread Cert.MixOutDwReferenceIdeal.nD Cert.MixOutDwReferenceIdeal.τ).loc Cert.MixOutDwReferenceIdeal.main_v5) = v0 c
          ∧ r.2.mem ((c.tc : Thread Cert.MixOutDwReferenceIdeal.nD Cert.MixOutDwReferenceIdeal.τ).loc Cert.MixOutDwReferenceIdeal.main_arg0) = m' ((c.tc : Thread Cert.MixOutDwReferenceIdeal.nD Cert.MixOutDwReferenceIdeal.τ).loc Cert.MixOutDwReferenceIdeal.main_arg0)
          ∧ r.2.mem ((c.tc : Thread Cert.MixOutDwReferenceIdeal.nD Cert.MixOutDwReferenceIdeal.τ).loc Cert.MixOutDwReferenceIdeal.main_arg1) = m' ((c.tc : Thread Cert.MixOutDwReferenceIdeal.nD Cert.MixOutDwReferenceIdeal.τ).loc Cert.MixOutDwReferenceIdeal.main_arg1))

def preserves_FoxO_FoxOIdeal : Prop :=
  True

def algebraic_FoxOIdeal_FoxOReferenceIdeal [hFoxOIdeal : Cert.FoxOIdeal.Facts] [hFoxOReferenceIdeal : Cert.FoxOReferenceIdeal.Facts] : Prop :=
  ∀ (m : (ℓ : Loc Cert.FoxOIdeal.nD Cert.FoxOIdeal.τ Cert.FoxOIdeal.sig) → Buf (Elt Ideal) ℓ) (g : Dev Cert.FoxOIdeal.nD → PrngReg)
    (m' : (ℓ : Loc Cert.FoxOReferenceIdeal.nD Cert.FoxOReferenceIdeal.τ Cert.FoxOReferenceIdeal.sig) → Buf (Elt Ideal) ℓ) (g' : Dev Cert.FoxOReferenceIdeal.nD → PrngReg), Pre_FoxOIdeal m →
    (∀ c : Dev Cert.FoxOIdeal.nD,
      m' ((c.tc : Thread Cert.FoxOReferenceIdeal.nD Cert.FoxOReferenceIdeal.τ).loc Cert.FoxOReferenceIdeal.main_arg0) = m ((c.tc : Thread Cert.FoxOIdeal.nD Cert.FoxOIdeal.τ).loc Cert.FoxOIdeal.main_arg0)
      ∧ m' ((c.tc : Thread Cert.FoxOReferenceIdeal.nD Cert.FoxOReferenceIdeal.τ).loc Cert.FoxOReferenceIdeal.main_arg1) = m ((c.tc : Thread Cert.FoxOIdeal.nD Cert.FoxOIdeal.τ).loc Cert.FoxOIdeal.main_arg1)) →
    ∃ (v0 : (c : Dev Cert.FoxOIdeal.nD) → Buf (Elt Ideal) ((c.tc : Thread Cert.FoxOIdeal.nD Cert.FoxOIdeal.τ).loc Cert.FoxOIdeal.main_v0)),
      θ_run (Cert.FoxOIdeal.defs (F := Ideal)) (onTc (τ := Cert.FoxOIdeal.τ) (Cert.FoxOIdeal.main (F := Ideal))) ⟨m, fun _ => 0, g⟩ (fun r => ∀ c : Dev Cert.FoxOIdeal.nD,
          r.2.mem ((c.tc : Thread Cert.FoxOIdeal.nD Cert.FoxOIdeal.τ).loc Cert.FoxOIdeal.main_v0) = v0 c
          ∧ r.2.mem ((c.tc : Thread Cert.FoxOIdeal.nD Cert.FoxOIdeal.τ).loc Cert.FoxOIdeal.main_arg0) = m ((c.tc : Thread Cert.FoxOIdeal.nD Cert.FoxOIdeal.τ).loc Cert.FoxOIdeal.main_arg0)
          ∧ r.2.mem ((c.tc : Thread Cert.FoxOIdeal.nD Cert.FoxOIdeal.τ).loc Cert.FoxOIdeal.main_arg1) = m ((c.tc : Thread Cert.FoxOIdeal.nD Cert.FoxOIdeal.τ).loc Cert.FoxOIdeal.main_arg1))
      ∧ θ_run (Cert.FoxOReferenceIdeal.defs (F := Ideal)) (onTc (τ := Cert.FoxOReferenceIdeal.τ) (Cert.FoxOReferenceIdeal.main (F := Ideal))) ⟨m', fun _ => 0, g'⟩ (fun r => ∀ c : Dev Cert.FoxOReferenceIdeal.nD,
          r.2.mem ((c.tc : Thread Cert.FoxOReferenceIdeal.nD Cert.FoxOReferenceIdeal.τ).loc Cert.FoxOReferenceIdeal.main_v1) = v0 c
          ∧ r.2.mem ((c.tc : Thread Cert.FoxOReferenceIdeal.nD Cert.FoxOReferenceIdeal.τ).loc Cert.FoxOReferenceIdeal.main_arg0) = m' ((c.tc : Thread Cert.FoxOReferenceIdeal.nD Cert.FoxOReferenceIdeal.τ).loc Cert.FoxOReferenceIdeal.main_arg0)
          ∧ r.2.mem ((c.tc : Thread Cert.FoxOReferenceIdeal.nD Cert.FoxOReferenceIdeal.τ).loc Cert.FoxOReferenceIdeal.main_arg1) = m' ((c.tc : Thread Cert.FoxOReferenceIdeal.nD Cert.FoxOReferenceIdeal.τ).loc Cert.FoxOReferenceIdeal.main_arg1))

def preserves_FoxODx_FoxODxIdeal : Prop :=
  True

def algebraic_FoxODxIdeal_FoxODxReferenceIdeal [hFoxODxIdeal : Cert.FoxODxIdeal.Facts] [hFoxODxReferenceIdeal : Cert.FoxODxReferenceIdeal.Facts] : Prop :=
  ∀ (m : (ℓ : Loc Cert.FoxODxIdeal.nD Cert.FoxODxIdeal.τ Cert.FoxODxIdeal.sig) → Buf (Elt Ideal) ℓ) (g : Dev Cert.FoxODxIdeal.nD → PrngReg)
    (m' : (ℓ : Loc Cert.FoxODxReferenceIdeal.nD Cert.FoxODxReferenceIdeal.τ Cert.FoxODxReferenceIdeal.sig) → Buf (Elt Ideal) ℓ) (g' : Dev Cert.FoxODxReferenceIdeal.nD → PrngReg), Pre_FoxODxIdeal m →
    (∀ c : Dev Cert.FoxODxIdeal.nD,
      m' ((c.tc : Thread Cert.FoxODxReferenceIdeal.nD Cert.FoxODxReferenceIdeal.τ).loc Cert.FoxODxReferenceIdeal.main_arg0) = m ((c.tc : Thread Cert.FoxODxIdeal.nD Cert.FoxODxIdeal.τ).loc Cert.FoxODxIdeal.main_arg0)
      ∧ m' ((c.tc : Thread Cert.FoxODxReferenceIdeal.nD Cert.FoxODxReferenceIdeal.τ).loc Cert.FoxODxReferenceIdeal.main_arg1) = m ((c.tc : Thread Cert.FoxODxIdeal.nD Cert.FoxODxIdeal.τ).loc Cert.FoxODxIdeal.main_arg1)) →
    ∃ (v0 : (c : Dev Cert.FoxODxIdeal.nD) → Buf (Elt Ideal) ((c.tc : Thread Cert.FoxODxIdeal.nD Cert.FoxODxIdeal.τ).loc Cert.FoxODxIdeal.main_v0)),
      θ_run (Cert.FoxODxIdeal.defs (F := Ideal)) (onTc (τ := Cert.FoxODxIdeal.τ) (Cert.FoxODxIdeal.main (F := Ideal))) ⟨m, fun _ => 0, g⟩ (fun r => ∀ c : Dev Cert.FoxODxIdeal.nD,
          r.2.mem ((c.tc : Thread Cert.FoxODxIdeal.nD Cert.FoxODxIdeal.τ).loc Cert.FoxODxIdeal.main_v0) = v0 c
          ∧ r.2.mem ((c.tc : Thread Cert.FoxODxIdeal.nD Cert.FoxODxIdeal.τ).loc Cert.FoxODxIdeal.main_arg0) = m ((c.tc : Thread Cert.FoxODxIdeal.nD Cert.FoxODxIdeal.τ).loc Cert.FoxODxIdeal.main_arg0)
          ∧ r.2.mem ((c.tc : Thread Cert.FoxODxIdeal.nD Cert.FoxODxIdeal.τ).loc Cert.FoxODxIdeal.main_arg1) = m ((c.tc : Thread Cert.FoxODxIdeal.nD Cert.FoxODxIdeal.τ).loc Cert.FoxODxIdeal.main_arg1))
      ∧ θ_run (Cert.FoxODxReferenceIdeal.defs (F := Ideal)) (onTc (τ := Cert.FoxODxReferenceIdeal.τ) (Cert.FoxODxReferenceIdeal.main (F := Ideal))) ⟨m', fun _ => 0, g'⟩ (fun r => ∀ c : Dev Cert.FoxODxReferenceIdeal.nD,
          r.2.mem ((c.tc : Thread Cert.FoxODxReferenceIdeal.nD Cert.FoxODxReferenceIdeal.τ).loc Cert.FoxODxReferenceIdeal.main_v4) = v0 c
          ∧ r.2.mem ((c.tc : Thread Cert.FoxODxReferenceIdeal.nD Cert.FoxODxReferenceIdeal.τ).loc Cert.FoxODxReferenceIdeal.main_arg0) = m' ((c.tc : Thread Cert.FoxODxReferenceIdeal.nD Cert.FoxODxReferenceIdeal.τ).loc Cert.FoxODxReferenceIdeal.main_arg0)
          ∧ r.2.mem ((c.tc : Thread Cert.FoxODxReferenceIdeal.nD Cert.FoxODxReferenceIdeal.τ).loc Cert.FoxODxReferenceIdeal.main_arg1) = m' ((c.tc : Thread Cert.FoxODxReferenceIdeal.nD Cert.FoxODxReferenceIdeal.τ).loc Cert.FoxODxReferenceIdeal.main_arg1))

def preserves_FoxODw_FoxODwIdeal : Prop :=
  True

def algebraic_FoxODwIdeal_FoxODwReferenceIdeal [hFoxODwIdeal : Cert.FoxODwIdeal.Facts] [hFoxODwReferenceIdeal : Cert.FoxODwReferenceIdeal.Facts] : Prop :=
  ∀ (m : (ℓ : Loc Cert.FoxODwIdeal.nD Cert.FoxODwIdeal.τ Cert.FoxODwIdeal.sig) → Buf (Elt Ideal) ℓ) (g : Dev Cert.FoxODwIdeal.nD → PrngReg)
    (m' : (ℓ : Loc Cert.FoxODwReferenceIdeal.nD Cert.FoxODwReferenceIdeal.τ Cert.FoxODwReferenceIdeal.sig) → Buf (Elt Ideal) ℓ) (g' : Dev Cert.FoxODwReferenceIdeal.nD → PrngReg), Pre_FoxODwIdeal m →
    (∀ c : Dev Cert.FoxODwIdeal.nD,
      m' ((c.tc : Thread Cert.FoxODwReferenceIdeal.nD Cert.FoxODwReferenceIdeal.τ).loc Cert.FoxODwReferenceIdeal.main_arg0) = m ((c.tc : Thread Cert.FoxODwIdeal.nD Cert.FoxODwIdeal.τ).loc Cert.FoxODwIdeal.main_arg0)
      ∧ m' ((c.tc : Thread Cert.FoxODwReferenceIdeal.nD Cert.FoxODwReferenceIdeal.τ).loc Cert.FoxODwReferenceIdeal.main_arg1) = m ((c.tc : Thread Cert.FoxODwIdeal.nD Cert.FoxODwIdeal.τ).loc Cert.FoxODwIdeal.main_arg1)) →
    ∃ (v0 : (c : Dev Cert.FoxODwIdeal.nD) → Buf (Elt Ideal) ((c.tc : Thread Cert.FoxODwIdeal.nD Cert.FoxODwIdeal.τ).loc Cert.FoxODwIdeal.main_v0)),
      θ_run (Cert.FoxODwIdeal.defs (F := Ideal)) (onTc (τ := Cert.FoxODwIdeal.τ) (Cert.FoxODwIdeal.main (F := Ideal))) ⟨m, fun _ => 0, g⟩ (fun r => ∀ c : Dev Cert.FoxODwIdeal.nD,
          r.2.mem ((c.tc : Thread Cert.FoxODwIdeal.nD Cert.FoxODwIdeal.τ).loc Cert.FoxODwIdeal.main_v0) = v0 c
          ∧ r.2.mem ((c.tc : Thread Cert.FoxODwIdeal.nD Cert.FoxODwIdeal.τ).loc Cert.FoxODwIdeal.main_arg0) = m ((c.tc : Thread Cert.FoxODwIdeal.nD Cert.FoxODwIdeal.τ).loc Cert.FoxODwIdeal.main_arg0)
          ∧ r.2.mem ((c.tc : Thread Cert.FoxODwIdeal.nD Cert.FoxODwIdeal.τ).loc Cert.FoxODwIdeal.main_arg1) = m ((c.tc : Thread Cert.FoxODwIdeal.nD Cert.FoxODwIdeal.τ).loc Cert.FoxODwIdeal.main_arg1))
      ∧ θ_run (Cert.FoxODwReferenceIdeal.defs (F := Ideal)) (onTc (τ := Cert.FoxODwReferenceIdeal.τ) (Cert.FoxODwReferenceIdeal.main (F := Ideal))) ⟨m', fun _ => 0, g'⟩ (fun r => ∀ c : Dev Cert.FoxODwReferenceIdeal.nD,
          r.2.mem ((c.tc : Thread Cert.FoxODwReferenceIdeal.nD Cert.FoxODwReferenceIdeal.τ).loc Cert.FoxODwReferenceIdeal.main_v4) = v0 c
          ∧ r.2.mem ((c.tc : Thread Cert.FoxODwReferenceIdeal.nD Cert.FoxODwReferenceIdeal.τ).loc Cert.FoxODwReferenceIdeal.main_arg0) = m' ((c.tc : Thread Cert.FoxODwReferenceIdeal.nD Cert.FoxODwReferenceIdeal.τ).loc Cert.FoxODwReferenceIdeal.main_arg0)
          ∧ r.2.mem ((c.tc : Thread Cert.FoxODwReferenceIdeal.nD Cert.FoxODwReferenceIdeal.τ).loc Cert.FoxODwReferenceIdeal.main_arg1) = m' ((c.tc : Thread Cert.FoxODwReferenceIdeal.nD Cert.FoxODwReferenceIdeal.τ).loc Cert.FoxODwReferenceIdeal.main_arg1))

def preserves_PoolUp_PoolUpIdeal : Prop :=
  True

def algebraic_PoolUpIdeal_PoolUpReferenceIdeal [hPoolUpIdeal : Cert.PoolUpIdeal.Facts] [hPoolUpReferenceIdeal : Cert.PoolUpReferenceIdeal.Facts] : Prop :=
  ∀ (m : (ℓ : Loc Cert.PoolUpIdeal.nD Cert.PoolUpIdeal.τ Cert.PoolUpIdeal.sig) → Buf (Elt Ideal) ℓ) (g : Dev Cert.PoolUpIdeal.nD → PrngReg)
    (m' : (ℓ : Loc Cert.PoolUpReferenceIdeal.nD Cert.PoolUpReferenceIdeal.τ Cert.PoolUpReferenceIdeal.sig) → Buf (Elt Ideal) ℓ) (g' : Dev Cert.PoolUpReferenceIdeal.nD → PrngReg), Pre_PoolUpIdeal m →
    (∀ c : Dev Cert.PoolUpIdeal.nD,
      m' ((c.tc : Thread Cert.PoolUpReferenceIdeal.nD Cert.PoolUpReferenceIdeal.τ).loc Cert.PoolUpReferenceIdeal.main_arg0) = m ((c.tc : Thread Cert.PoolUpIdeal.nD Cert.PoolUpIdeal.τ).loc Cert.PoolUpIdeal.main_arg0)
      ∧ m' ((c.tc : Thread Cert.PoolUpReferenceIdeal.nD Cert.PoolUpReferenceIdeal.τ).loc Cert.PoolUpReferenceIdeal.main_arg1) = m ((c.tc : Thread Cert.PoolUpIdeal.nD Cert.PoolUpIdeal.τ).loc Cert.PoolUpIdeal.main_arg1)) →
    ∃ (v0 : (c : Dev Cert.PoolUpIdeal.nD) → Buf (Elt Ideal) ((c.tc : Thread Cert.PoolUpIdeal.nD Cert.PoolUpIdeal.τ).loc Cert.PoolUpIdeal.main_v0)),
      θ_run (Cert.PoolUpIdeal.defs (F := Ideal)) (onTc (τ := Cert.PoolUpIdeal.τ) (Cert.PoolUpIdeal.main (F := Ideal))) ⟨m, fun _ => 0, g⟩ (fun r => ∀ c : Dev Cert.PoolUpIdeal.nD,
          r.2.mem ((c.tc : Thread Cert.PoolUpIdeal.nD Cert.PoolUpIdeal.τ).loc Cert.PoolUpIdeal.main_v0) = v0 c
          ∧ r.2.mem ((c.tc : Thread Cert.PoolUpIdeal.nD Cert.PoolUpIdeal.τ).loc Cert.PoolUpIdeal.main_arg0) = m ((c.tc : Thread Cert.PoolUpIdeal.nD Cert.PoolUpIdeal.τ).loc Cert.PoolUpIdeal.main_arg0)
          ∧ r.2.mem ((c.tc : Thread Cert.PoolUpIdeal.nD Cert.PoolUpIdeal.τ).loc Cert.PoolUpIdeal.main_arg1) = m ((c.tc : Thread Cert.PoolUpIdeal.nD Cert.PoolUpIdeal.τ).loc Cert.PoolUpIdeal.main_arg1))
      ∧ θ_run (Cert.PoolUpReferenceIdeal.defs (F := Ideal)) (onTc (τ := Cert.PoolUpReferenceIdeal.τ) (Cert.PoolUpReferenceIdeal.main (F := Ideal))) ⟨m', fun _ => 0, g'⟩ (fun r => ∀ c : Dev Cert.PoolUpReferenceIdeal.nD,
          r.2.mem ((c.tc : Thread Cert.PoolUpReferenceIdeal.nD Cert.PoolUpReferenceIdeal.τ).loc Cert.PoolUpReferenceIdeal.main_v2) = v0 c
          ∧ r.2.mem ((c.tc : Thread Cert.PoolUpReferenceIdeal.nD Cert.PoolUpReferenceIdeal.τ).loc Cert.PoolUpReferenceIdeal.main_arg0) = m' ((c.tc : Thread Cert.PoolUpReferenceIdeal.nD Cert.PoolUpReferenceIdeal.τ).loc Cert.PoolUpReferenceIdeal.main_arg0)
          ∧ r.2.mem ((c.tc : Thread Cert.PoolUpReferenceIdeal.nD Cert.PoolUpReferenceIdeal.τ).loc Cert.PoolUpReferenceIdeal.main_arg1) = m' ((c.tc : Thread Cert.PoolUpReferenceIdeal.nD Cert.PoolUpReferenceIdeal.τ).loc Cert.PoolUpReferenceIdeal.main_arg1))

def preserves_PoolUpDx_PoolUpDxIdeal : Prop :=
  True

def algebraic_PoolUpDxIdeal_PoolUpDxReferenceIdeal [hPoolUpDxIdeal : Cert.PoolUpDxIdeal.Facts] [hPoolUpDxReferenceIdeal : Cert.PoolUpDxReferenceIdeal.Facts] : Prop :=
  ∀ (m : (ℓ : Loc Cert.PoolUpDxIdeal.nD Cert.PoolUpDxIdeal.τ Cert.PoolUpDxIdeal.sig) → Buf (Elt Ideal) ℓ) (g : Dev Cert.PoolUpDxIdeal.nD → PrngReg)
    (m' : (ℓ : Loc Cert.PoolUpDxReferenceIdeal.nD Cert.PoolUpDxReferenceIdeal.τ Cert.PoolUpDxReferenceIdeal.sig) → Buf (Elt Ideal) ℓ) (g' : Dev Cert.PoolUpDxReferenceIdeal.nD → PrngReg), Pre_PoolUpDxIdeal m →
    (∀ c : Dev Cert.PoolUpDxIdeal.nD,
      m' ((c.tc : Thread Cert.PoolUpDxReferenceIdeal.nD Cert.PoolUpDxReferenceIdeal.τ).loc Cert.PoolUpDxReferenceIdeal.main_arg0) = m ((c.tc : Thread Cert.PoolUpDxIdeal.nD Cert.PoolUpDxIdeal.τ).loc Cert.PoolUpDxIdeal.main_arg0)
      ∧ m' ((c.tc : Thread Cert.PoolUpDxReferenceIdeal.nD Cert.PoolUpDxReferenceIdeal.τ).loc Cert.PoolUpDxReferenceIdeal.main_arg1) = m ((c.tc : Thread Cert.PoolUpDxIdeal.nD Cert.PoolUpDxIdeal.τ).loc Cert.PoolUpDxIdeal.main_arg1)) →
    ∃ (v0 : (c : Dev Cert.PoolUpDxIdeal.nD) → Buf (Elt Ideal) ((c.tc : Thread Cert.PoolUpDxIdeal.nD Cert.PoolUpDxIdeal.τ).loc Cert.PoolUpDxIdeal.main_v0)),
      θ_run (Cert.PoolUpDxIdeal.defs (F := Ideal)) (onTc (τ := Cert.PoolUpDxIdeal.τ) (Cert.PoolUpDxIdeal.main (F := Ideal))) ⟨m, fun _ => 0, g⟩ (fun r => ∀ c : Dev Cert.PoolUpDxIdeal.nD,
          r.2.mem ((c.tc : Thread Cert.PoolUpDxIdeal.nD Cert.PoolUpDxIdeal.τ).loc Cert.PoolUpDxIdeal.main_v0) = v0 c
          ∧ r.2.mem ((c.tc : Thread Cert.PoolUpDxIdeal.nD Cert.PoolUpDxIdeal.τ).loc Cert.PoolUpDxIdeal.main_arg0) = m ((c.tc : Thread Cert.PoolUpDxIdeal.nD Cert.PoolUpDxIdeal.τ).loc Cert.PoolUpDxIdeal.main_arg0)
          ∧ r.2.mem ((c.tc : Thread Cert.PoolUpDxIdeal.nD Cert.PoolUpDxIdeal.τ).loc Cert.PoolUpDxIdeal.main_arg1) = m ((c.tc : Thread Cert.PoolUpDxIdeal.nD Cert.PoolUpDxIdeal.τ).loc Cert.PoolUpDxIdeal.main_arg1))
      ∧ θ_run (Cert.PoolUpDxReferenceIdeal.defs (F := Ideal)) (onTc (τ := Cert.PoolUpDxReferenceIdeal.τ) (Cert.PoolUpDxReferenceIdeal.main (F := Ideal))) ⟨m', fun _ => 0, g'⟩ (fun r => ∀ c : Dev Cert.PoolUpDxReferenceIdeal.nD,
          r.2.mem ((c.tc : Thread Cert.PoolUpDxReferenceIdeal.nD Cert.PoolUpDxReferenceIdeal.τ).loc Cert.PoolUpDxReferenceIdeal.main_v4) = v0 c
          ∧ r.2.mem ((c.tc : Thread Cert.PoolUpDxReferenceIdeal.nD Cert.PoolUpDxReferenceIdeal.τ).loc Cert.PoolUpDxReferenceIdeal.main_arg0) = m' ((c.tc : Thread Cert.PoolUpDxReferenceIdeal.nD Cert.PoolUpDxReferenceIdeal.τ).loc Cert.PoolUpDxReferenceIdeal.main_arg0)
          ∧ r.2.mem ((c.tc : Thread Cert.PoolUpDxReferenceIdeal.nD Cert.PoolUpDxReferenceIdeal.τ).loc Cert.PoolUpDxReferenceIdeal.main_arg1) = m' ((c.tc : Thread Cert.PoolUpDxReferenceIdeal.nD Cert.PoolUpDxReferenceIdeal.τ).loc Cert.PoolUpDxReferenceIdeal.main_arg1))

def preserves_PoolUpDw_PoolUpDwIdeal : Prop :=
  True

def algebraic_PoolUpDwIdeal_PoolUpDwReferenceIdeal [hPoolUpDwIdeal : Cert.PoolUpDwIdeal.Facts] [hPoolUpDwReferenceIdeal : Cert.PoolUpDwReferenceIdeal.Facts] : Prop :=
  ∀ (m : (ℓ : Loc Cert.PoolUpDwIdeal.nD Cert.PoolUpDwIdeal.τ Cert.PoolUpDwIdeal.sig) → Buf (Elt Ideal) ℓ) (g : Dev Cert.PoolUpDwIdeal.nD → PrngReg)
    (m' : (ℓ : Loc Cert.PoolUpDwReferenceIdeal.nD Cert.PoolUpDwReferenceIdeal.τ Cert.PoolUpDwReferenceIdeal.sig) → Buf (Elt Ideal) ℓ) (g' : Dev Cert.PoolUpDwReferenceIdeal.nD → PrngReg), Pre_PoolUpDwIdeal m →
    (∀ c : Dev Cert.PoolUpDwIdeal.nD,
      m' ((c.tc : Thread Cert.PoolUpDwReferenceIdeal.nD Cert.PoolUpDwReferenceIdeal.τ).loc Cert.PoolUpDwReferenceIdeal.main_arg0) = m ((c.tc : Thread Cert.PoolUpDwIdeal.nD Cert.PoolUpDwIdeal.τ).loc Cert.PoolUpDwIdeal.main_arg0)
      ∧ m' ((c.tc : Thread Cert.PoolUpDwReferenceIdeal.nD Cert.PoolUpDwReferenceIdeal.τ).loc Cert.PoolUpDwReferenceIdeal.main_arg1) = m ((c.tc : Thread Cert.PoolUpDwIdeal.nD Cert.PoolUpDwIdeal.τ).loc Cert.PoolUpDwIdeal.main_arg1)) →
    ∃ (v0 : (c : Dev Cert.PoolUpDwIdeal.nD) → Buf (Elt Ideal) ((c.tc : Thread Cert.PoolUpDwIdeal.nD Cert.PoolUpDwIdeal.τ).loc Cert.PoolUpDwIdeal.main_v0)),
      θ_run (Cert.PoolUpDwIdeal.defs (F := Ideal)) (onTc (τ := Cert.PoolUpDwIdeal.τ) (Cert.PoolUpDwIdeal.main (F := Ideal))) ⟨m, fun _ => 0, g⟩ (fun r => ∀ c : Dev Cert.PoolUpDwIdeal.nD,
          r.2.mem ((c.tc : Thread Cert.PoolUpDwIdeal.nD Cert.PoolUpDwIdeal.τ).loc Cert.PoolUpDwIdeal.main_v0) = v0 c
          ∧ r.2.mem ((c.tc : Thread Cert.PoolUpDwIdeal.nD Cert.PoolUpDwIdeal.τ).loc Cert.PoolUpDwIdeal.main_arg0) = m ((c.tc : Thread Cert.PoolUpDwIdeal.nD Cert.PoolUpDwIdeal.τ).loc Cert.PoolUpDwIdeal.main_arg0)
          ∧ r.2.mem ((c.tc : Thread Cert.PoolUpDwIdeal.nD Cert.PoolUpDwIdeal.τ).loc Cert.PoolUpDwIdeal.main_arg1) = m ((c.tc : Thread Cert.PoolUpDwIdeal.nD Cert.PoolUpDwIdeal.τ).loc Cert.PoolUpDwIdeal.main_arg1))
      ∧ θ_run (Cert.PoolUpDwReferenceIdeal.defs (F := Ideal)) (onTc (τ := Cert.PoolUpDwReferenceIdeal.τ) (Cert.PoolUpDwReferenceIdeal.main (F := Ideal))) ⟨m', fun _ => 0, g'⟩ (fun r => ∀ c : Dev Cert.PoolUpDwReferenceIdeal.nD,
          r.2.mem ((c.tc : Thread Cert.PoolUpDwReferenceIdeal.nD Cert.PoolUpDwReferenceIdeal.τ).loc Cert.PoolUpDwReferenceIdeal.main_v5) = v0 c
          ∧ r.2.mem ((c.tc : Thread Cert.PoolUpDwReferenceIdeal.nD Cert.PoolUpDwReferenceIdeal.τ).loc Cert.PoolUpDwReferenceIdeal.main_arg0) = m' ((c.tc : Thread Cert.PoolUpDwReferenceIdeal.nD Cert.PoolUpDwReferenceIdeal.τ).loc Cert.PoolUpDwReferenceIdeal.main_arg0)
          ∧ r.2.mem ((c.tc : Thread Cert.PoolUpDwReferenceIdeal.nD Cert.PoolUpDwReferenceIdeal.τ).loc Cert.PoolUpDwReferenceIdeal.main_arg1) = m' ((c.tc : Thread Cert.PoolUpDwReferenceIdeal.nD Cert.PoolUpDwReferenceIdeal.τ).loc Cert.PoolUpDwReferenceIdeal.main_arg1))

def preserves_MemO_MemOIdeal : Prop :=
  True

def algebraic_MemOIdeal_MemOReferenceIdeal [hMemOIdeal : Cert.MemOIdeal.Facts] [hMemOReferenceIdeal : Cert.MemOReferenceIdeal.Facts] : Prop :=
  ∀ (m : (ℓ : Loc Cert.MemOIdeal.nD Cert.MemOIdeal.τ Cert.MemOIdeal.sig) → Buf (Elt Ideal) ℓ) (g : Dev Cert.MemOIdeal.nD → PrngReg)
    (m' : (ℓ : Loc Cert.MemOReferenceIdeal.nD Cert.MemOReferenceIdeal.τ Cert.MemOReferenceIdeal.sig) → Buf (Elt Ideal) ℓ) (g' : Dev Cert.MemOReferenceIdeal.nD → PrngReg), Pre_MemOIdeal m →
    (∀ c : Dev Cert.MemOIdeal.nD,
      m' ((c.tc : Thread Cert.MemOReferenceIdeal.nD Cert.MemOReferenceIdeal.τ).loc Cert.MemOReferenceIdeal.main_arg0) = m ((c.tc : Thread Cert.MemOIdeal.nD Cert.MemOIdeal.τ).loc Cert.MemOIdeal.main_arg0)
      ∧ m' ((c.tc : Thread Cert.MemOReferenceIdeal.nD Cert.MemOReferenceIdeal.τ).loc Cert.MemOReferenceIdeal.main_arg1) = m ((c.tc : Thread Cert.MemOIdeal.nD Cert.MemOIdeal.τ).loc Cert.MemOIdeal.main_arg1)) →
    ∃ (v0 : (c : Dev Cert.MemOIdeal.nD) → Buf (Elt Ideal) ((c.tc : Thread Cert.MemOIdeal.nD Cert.MemOIdeal.τ).loc Cert.MemOIdeal.main_v0)),
      θ_run (Cert.MemOIdeal.defs (F := Ideal)) (onTc (τ := Cert.MemOIdeal.τ) (Cert.MemOIdeal.main (F := Ideal))) ⟨m, fun _ => 0, g⟩ (fun r => ∀ c : Dev Cert.MemOIdeal.nD,
          r.2.mem ((c.tc : Thread Cert.MemOIdeal.nD Cert.MemOIdeal.τ).loc Cert.MemOIdeal.main_v0) = v0 c
          ∧ r.2.mem ((c.tc : Thread Cert.MemOIdeal.nD Cert.MemOIdeal.τ).loc Cert.MemOIdeal.main_arg0) = m ((c.tc : Thread Cert.MemOIdeal.nD Cert.MemOIdeal.τ).loc Cert.MemOIdeal.main_arg0)
          ∧ r.2.mem ((c.tc : Thread Cert.MemOIdeal.nD Cert.MemOIdeal.τ).loc Cert.MemOIdeal.main_arg1) = m ((c.tc : Thread Cert.MemOIdeal.nD Cert.MemOIdeal.τ).loc Cert.MemOIdeal.main_arg1))
      ∧ θ_run (Cert.MemOReferenceIdeal.defs (F := Ideal)) (onTc (τ := Cert.MemOReferenceIdeal.τ) (Cert.MemOReferenceIdeal.main (F := Ideal))) ⟨m', fun _ => 0, g'⟩ (fun r => ∀ c : Dev Cert.MemOReferenceIdeal.nD,
          r.2.mem ((c.tc : Thread Cert.MemOReferenceIdeal.nD Cert.MemOReferenceIdeal.τ).loc Cert.MemOReferenceIdeal.main_v1) = v0 c
          ∧ r.2.mem ((c.tc : Thread Cert.MemOReferenceIdeal.nD Cert.MemOReferenceIdeal.τ).loc Cert.MemOReferenceIdeal.main_arg0) = m' ((c.tc : Thread Cert.MemOReferenceIdeal.nD Cert.MemOReferenceIdeal.τ).loc Cert.MemOReferenceIdeal.main_arg0)
          ∧ r.2.mem ((c.tc : Thread Cert.MemOReferenceIdeal.nD Cert.MemOReferenceIdeal.τ).loc Cert.MemOReferenceIdeal.main_arg1) = m' ((c.tc : Thread Cert.MemOReferenceIdeal.nD Cert.MemOReferenceIdeal.τ).loc Cert.MemOReferenceIdeal.main_arg1))

def preserves_MemODw_MemODwIdeal : Prop :=
  True

def algebraic_MemODwIdeal_MemODwReferenceIdeal [hMemODwIdeal : Cert.MemODwIdeal.Facts] [hMemODwReferenceIdeal : Cert.MemODwReferenceIdeal.Facts] : Prop :=
  ∀ (m : (ℓ : Loc Cert.MemODwIdeal.nD Cert.MemODwIdeal.τ Cert.MemODwIdeal.sig) → Buf (Elt Ideal) ℓ) (g : Dev Cert.MemODwIdeal.nD → PrngReg)
    (m' : (ℓ : Loc Cert.MemODwReferenceIdeal.nD Cert.MemODwReferenceIdeal.τ Cert.MemODwReferenceIdeal.sig) → Buf (Elt Ideal) ℓ) (g' : Dev Cert.MemODwReferenceIdeal.nD → PrngReg), Pre_MemODwIdeal m →
    (∀ c : Dev Cert.MemODwIdeal.nD,
      m' ((c.tc : Thread Cert.MemODwReferenceIdeal.nD Cert.MemODwReferenceIdeal.τ).loc Cert.MemODwReferenceIdeal.main_arg0) = m ((c.tc : Thread Cert.MemODwIdeal.nD Cert.MemODwIdeal.τ).loc Cert.MemODwIdeal.main_arg0)
      ∧ m' ((c.tc : Thread Cert.MemODwReferenceIdeal.nD Cert.MemODwReferenceIdeal.τ).loc Cert.MemODwReferenceIdeal.main_arg1) = m ((c.tc : Thread Cert.MemODwIdeal.nD Cert.MemODwIdeal.τ).loc Cert.MemODwIdeal.main_arg1)) →
    ∃ (v0 : (c : Dev Cert.MemODwIdeal.nD) → Buf (Elt Ideal) ((c.tc : Thread Cert.MemODwIdeal.nD Cert.MemODwIdeal.τ).loc Cert.MemODwIdeal.main_v0)),
      θ_run (Cert.MemODwIdeal.defs (F := Ideal)) (onTc (τ := Cert.MemODwIdeal.τ) (Cert.MemODwIdeal.main (F := Ideal))) ⟨m, fun _ => 0, g⟩ (fun r => ∀ c : Dev Cert.MemODwIdeal.nD,
          r.2.mem ((c.tc : Thread Cert.MemODwIdeal.nD Cert.MemODwIdeal.τ).loc Cert.MemODwIdeal.main_v0) = v0 c
          ∧ r.2.mem ((c.tc : Thread Cert.MemODwIdeal.nD Cert.MemODwIdeal.τ).loc Cert.MemODwIdeal.main_arg0) = m ((c.tc : Thread Cert.MemODwIdeal.nD Cert.MemODwIdeal.τ).loc Cert.MemODwIdeal.main_arg0)
          ∧ r.2.mem ((c.tc : Thread Cert.MemODwIdeal.nD Cert.MemODwIdeal.τ).loc Cert.MemODwIdeal.main_arg1) = m ((c.tc : Thread Cert.MemODwIdeal.nD Cert.MemODwIdeal.τ).loc Cert.MemODwIdeal.main_arg1))
      ∧ θ_run (Cert.MemODwReferenceIdeal.defs (F := Ideal)) (onTc (τ := Cert.MemODwReferenceIdeal.τ) (Cert.MemODwReferenceIdeal.main (F := Ideal))) ⟨m', fun _ => 0, g'⟩ (fun r => ∀ c : Dev Cert.MemODwReferenceIdeal.nD,
          r.2.mem ((c.tc : Thread Cert.MemODwReferenceIdeal.nD Cert.MemODwReferenceIdeal.τ).loc Cert.MemODwReferenceIdeal.main_v4) = v0 c
          ∧ r.2.mem ((c.tc : Thread Cert.MemODwReferenceIdeal.nD Cert.MemODwReferenceIdeal.τ).loc Cert.MemODwReferenceIdeal.main_arg0) = m' ((c.tc : Thread Cert.MemODwReferenceIdeal.nD Cert.MemODwReferenceIdeal.τ).loc Cert.MemODwReferenceIdeal.main_arg0)
          ∧ r.2.mem ((c.tc : Thread Cert.MemODwReferenceIdeal.nD Cert.MemODwReferenceIdeal.τ).loc Cert.MemODwReferenceIdeal.main_arg1) = m' ((c.tc : Thread Cert.MemODwReferenceIdeal.nD Cert.MemODwReferenceIdeal.τ).loc Cert.MemODwReferenceIdeal.main_arg1))

def preserves_MemKv_MemKvIdeal : Prop :=
  True

def algebraic_MemKvIdeal_MemKvReferenceIdeal [hMemKvIdeal : Cert.MemKvIdeal.Facts] [hMemKvReferenceIdeal : Cert.MemKvReferenceIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvReferenceIdeal.nD Cert.MemKvReferenceIdeal.τ Cert.MemKvReferenceIdeal.sig) → Buf (Elt Ideal) ℓ) (g' : Dev Cert.MemKvReferenceIdeal.nD → PrngReg), Pre_MemKvIdeal m →
    (∀ c : Dev Cert.MemKvIdeal.nD,
      m' ((c.tc : Thread Cert.MemKvReferenceIdeal.nD Cert.MemKvReferenceIdeal.τ).loc Cert.MemKvReferenceIdeal.main_arg0) = m ((c.tc : Thread Cert.MemKvIdeal.nD Cert.MemKvIdeal.τ).loc Cert.MemKvIdeal.main_arg0)
      ∧ m' ((c.tc : Thread Cert.MemKvReferenceIdeal.nD Cert.MemKvReferenceIdeal.τ).loc Cert.MemKvReferenceIdeal.main_arg1) = m ((c.tc : Thread Cert.MemKvIdeal.nD Cert.MemKvIdeal.τ).loc Cert.MemKvIdeal.main_arg1)) →
    ∃ (v0 : (c : Dev Cert.MemKvIdeal.nD) → Buf (Elt Ideal) ((c.tc : Thread Cert.MemKvIdeal.nD Cert.MemKvIdeal.τ).loc Cert.MemKvIdeal.main_v0)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v0) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ θ_run (Cert.MemKvReferenceIdeal.defs (F := Ideal)) (onTc (τ := Cert.MemKvReferenceIdeal.τ) (Cert.MemKvReferenceIdeal.main (F := Ideal))) ⟨m', fun _ => 0, g'⟩ (fun r => ∀ c : Dev Cert.MemKvReferenceIdeal.nD,
          r.2.mem ((c.tc : Thread Cert.MemKvReferenceIdeal.nD Cert.MemKvReferenceIdeal.τ).loc Cert.MemKvReferenceIdeal.main_v2) = v0 c
          ∧ r.2.mem ((c.tc : Thread Cert.MemKvReferenceIdeal.nD Cert.MemKvReferenceIdeal.τ).loc Cert.MemKvReferenceIdeal.main_arg0) = m' ((c.tc : Thread Cert.MemKvReferenceIdeal.nD Cert.MemKvReferenceIdeal.τ).loc Cert.MemKvReferenceIdeal.main_arg0)
          ∧ r.2.mem ((c.tc : Thread Cert.MemKvReferenceIdeal.nD Cert.MemKvReferenceIdeal.τ).loc Cert.MemKvReferenceIdeal.main_arg1) = m' ((c.tc : Thread Cert.MemKvReferenceIdeal.nD Cert.MemKvReferenceIdeal.τ).loc Cert.MemKvReferenceIdeal.main_arg1))

def preserves_MemKvDx_MemKvDxIdeal : Prop :=
  True

def algebraic_MemKvDxIdeal_MemKvDxReferenceIdeal [hMemKvDxIdeal : Cert.MemKvDxIdeal.Facts] [hMemKvDxReferenceIdeal : Cert.MemKvDxReferenceIdeal.Facts] : Prop :=
  ∀ (m : (ℓ : Loc Cert.MemKvDxIdeal.nD Cert.MemKvDxIdeal.τ Cert.MemKvDxIdeal.sig) → Buf (Elt Ideal) ℓ) (g : Dev Cert.MemKvDxIdeal.nD → PrngReg)
    (m' : (ℓ : Loc Cert.MemKvDxReferenceIdeal.nD Cert.MemKvDxReferenceIdeal.τ Cert.MemKvDxReferenceIdeal.sig) → Buf (Elt Ideal) ℓ) (g' : Dev Cert.MemKvDxReferenceIdeal.nD → PrngReg), Pre_MemKvDxIdeal m →
    (∀ c : Dev Cert.MemKvDxIdeal.nD,
      m' ((c.tc : Thread Cert.MemKvDxReferenceIdeal.nD Cert.MemKvDxReferenceIdeal.τ).loc Cert.MemKvDxReferenceIdeal.main_arg0) = m ((c.tc : Thread Cert.MemKvDxIdeal.nD Cert.MemKvDxIdeal.τ).loc Cert.MemKvDxIdeal.main_arg0)
      ∧ m' ((c.tc : Thread Cert.MemKvDxReferenceIdeal.nD Cert.MemKvDxReferenceIdeal.τ).loc Cert.MemKvDxReferenceIdeal.main_arg1) = m ((c.tc : Thread Cert.MemKvDxIdeal.nD Cert.MemKvDxIdeal.τ).loc Cert.MemKvDxIdeal.main_arg1)) →
    ∃ (v0 : (c : Dev Cert.MemKvDxIdeal.nD) → Buf (Elt Ideal) ((c.tc : Thread Cert.MemKvDxIdeal.nD Cert.MemKvDxIdeal.τ).loc Cert.MemKvDxIdeal.main_v0)),
      θ_run (Cert.MemKvDxIdeal.defs (F := Ideal)) (onTc (τ := Cert.MemKvDxIdeal.τ) (Cert.MemKvDxIdeal.main (F := Ideal))) ⟨m, fun _ => 0, g⟩ (fun r => ∀ c : Dev Cert.MemKvDxIdeal.nD,
          r.2.mem ((c.tc : Thread Cert.MemKvDxIdeal.nD Cert.MemKvDxIdeal.τ).loc Cert.MemKvDxIdeal.main_v0) = v0 c
          ∧ r.2.mem ((c.tc : Thread Cert.MemKvDxIdeal.nD Cert.MemKvDxIdeal.τ).loc Cert.MemKvDxIdeal.main_arg0) = m ((c.tc : Thread Cert.MemKvDxIdeal.nD Cert.MemKvDxIdeal.τ).loc Cert.MemKvDxIdeal.main_arg0)
          ∧ r.2.mem ((c.tc : Thread Cert.MemKvDxIdeal.nD Cert.MemKvDxIdeal.τ).loc Cert.MemKvDxIdeal.main_arg1) = m ((c.tc : Thread Cert.MemKvDxIdeal.nD Cert.MemKvDxIdeal.τ).loc Cert.MemKvDxIdeal.main_arg1))
      ∧ θ_run (Cert.MemKvDxReferenceIdeal.defs (F := Ideal)) (onTc (τ := Cert.MemKvDxReferenceIdeal.τ) (Cert.MemKvDxReferenceIdeal.main (F := Ideal))) ⟨m', fun _ => 0, g'⟩ (fun r => ∀ c : Dev Cert.MemKvDxReferenceIdeal.nD,
          r.2.mem ((c.tc : Thread Cert.MemKvDxReferenceIdeal.nD Cert.MemKvDxReferenceIdeal.τ).loc Cert.MemKvDxReferenceIdeal.main_v4) = v0 c
          ∧ r.2.mem ((c.tc : Thread Cert.MemKvDxReferenceIdeal.nD Cert.MemKvDxReferenceIdeal.τ).loc Cert.MemKvDxReferenceIdeal.main_arg0) = m' ((c.tc : Thread Cert.MemKvDxReferenceIdeal.nD Cert.MemKvDxReferenceIdeal.τ).loc Cert.MemKvDxReferenceIdeal.main_arg0)
          ∧ r.2.mem ((c.tc : Thread Cert.MemKvDxReferenceIdeal.nD Cert.MemKvDxReferenceIdeal.τ).loc Cert.MemKvDxReferenceIdeal.main_arg1) = m' ((c.tc : Thread Cert.MemKvDxReferenceIdeal.nD Cert.MemKvDxReferenceIdeal.τ).loc Cert.MemKvDxReferenceIdeal.main_arg1))

def preserves_MemKvDw_MemKvDwIdeal : Prop :=
  True

def algebraic_MemKvDwIdeal_MemKvDwReferenceIdeal [hMemKvDwIdeal : Cert.MemKvDwIdeal.Facts] [hMemKvDwReferenceIdeal : Cert.MemKvDwReferenceIdeal.Facts] : Prop :=
  ∀ (m : (ℓ : Loc Cert.MemKvDwIdeal.nD Cert.MemKvDwIdeal.τ Cert.MemKvDwIdeal.sig) → Buf (Elt Ideal) ℓ) (g : Dev Cert.MemKvDwIdeal.nD → PrngReg)
    (m' : (ℓ : Loc Cert.MemKvDwReferenceIdeal.nD Cert.MemKvDwReferenceIdeal.τ Cert.MemKvDwReferenceIdeal.sig) → Buf (Elt Ideal) ℓ) (g' : Dev Cert.MemKvDwReferenceIdeal.nD → PrngReg), Pre_MemKvDwIdeal m →
    (∀ c : Dev Cert.MemKvDwIdeal.nD,
      m' ((c.tc : Thread Cert.MemKvDwReferenceIdeal.nD Cert.MemKvDwReferenceIdeal.τ).loc Cert.MemKvDwReferenceIdeal.main_arg0) = m ((c.tc : Thread Cert.MemKvDwIdeal.nD Cert.MemKvDwIdeal.τ).loc Cert.MemKvDwIdeal.main_arg0)
      ∧ m' ((c.tc : Thread Cert.MemKvDwReferenceIdeal.nD Cert.MemKvDwReferenceIdeal.τ).loc Cert.MemKvDwReferenceIdeal.main_arg1) = m ((c.tc : Thread Cert.MemKvDwIdeal.nD Cert.MemKvDwIdeal.τ).loc Cert.MemKvDwIdeal.main_arg1)) →
    ∃ (v0 : (c : Dev Cert.MemKvDwIdeal.nD) → Buf (Elt Ideal) ((c.tc : Thread Cert.MemKvDwIdeal.nD Cert.MemKvDwIdeal.τ).loc Cert.MemKvDwIdeal.main_v0)),
      θ_run (Cert.MemKvDwIdeal.defs (F := Ideal)) (onTc (τ := Cert.MemKvDwIdeal.τ) (Cert.MemKvDwIdeal.main (F := Ideal))) ⟨m, fun _ => 0, g⟩ (fun r => ∀ c : Dev Cert.MemKvDwIdeal.nD,
          r.2.mem ((c.tc : Thread Cert.MemKvDwIdeal.nD Cert.MemKvDwIdeal.τ).loc Cert.MemKvDwIdeal.main_v0) = v0 c
          ∧ r.2.mem ((c.tc : Thread Cert.MemKvDwIdeal.nD Cert.MemKvDwIdeal.τ).loc Cert.MemKvDwIdeal.main_arg0) = m ((c.tc : Thread Cert.MemKvDwIdeal.nD Cert.MemKvDwIdeal.τ).loc Cert.MemKvDwIdeal.main_arg0)
          ∧ r.2.mem ((c.tc : Thread Cert.MemKvDwIdeal.nD Cert.MemKvDwIdeal.τ).loc Cert.MemKvDwIdeal.main_arg1) = m ((c.tc : Thread Cert.MemKvDwIdeal.nD Cert.MemKvDwIdeal.τ).loc Cert.MemKvDwIdeal.main_arg1))
      ∧ θ_run (Cert.MemKvDwReferenceIdeal.defs (F := Ideal)) (onTc (τ := Cert.MemKvDwReferenceIdeal.τ) (Cert.MemKvDwReferenceIdeal.main (F := Ideal))) ⟨m', fun _ => 0, g'⟩ (fun r => ∀ c : Dev Cert.MemKvDwReferenceIdeal.nD,
          r.2.mem ((c.tc : Thread Cert.MemKvDwReferenceIdeal.nD Cert.MemKvDwReferenceIdeal.τ).loc Cert.MemKvDwReferenceIdeal.main_v5) = v0 c
          ∧ r.2.mem ((c.tc : Thread Cert.MemKvDwReferenceIdeal.nD Cert.MemKvDwReferenceIdeal.τ).loc Cert.MemKvDwReferenceIdeal.main_arg0) = m' ((c.tc : Thread Cert.MemKvDwReferenceIdeal.nD Cert.MemKvDwReferenceIdeal.τ).loc Cert.MemKvDwReferenceIdeal.main_arg0)
          ∧ r.2.mem ((c.tc : Thread Cert.MemKvDwReferenceIdeal.nD Cert.MemKvDwReferenceIdeal.τ).loc Cert.MemKvDwReferenceIdeal.main_arg1) = m' ((c.tc : Thread Cert.MemKvDwReferenceIdeal.nD Cert.MemKvDwReferenceIdeal.τ).loc Cert.MemKvDwReferenceIdeal.main_arg1))

def preserves_FfnGu_FfnGuIdeal : Prop :=
  True

def algebraic_FfnGuIdeal_FfnGuReferenceIdeal [hFfnGuIdeal : Cert.FfnGuIdeal.Facts] [hFfnGuReferenceIdeal : Cert.FfnGuReferenceIdeal.Facts] : Prop :=
  ∀ (m : (ℓ : Loc Cert.FfnGuIdeal.nD Cert.FfnGuIdeal.τ Cert.FfnGuIdeal.sig) → Buf (Elt Ideal) ℓ) (g : Dev Cert.FfnGuIdeal.nD → PrngReg)
    (m' : (ℓ : Loc Cert.FfnGuReferenceIdeal.nD Cert.FfnGuReferenceIdeal.τ Cert.FfnGuReferenceIdeal.sig) → Buf (Elt Ideal) ℓ) (g' : Dev Cert.FfnGuReferenceIdeal.nD → PrngReg), Pre_FfnGuIdeal m →
    (∀ c : Dev Cert.FfnGuIdeal.nD,
      m' ((c.tc : Thread Cert.FfnGuReferenceIdeal.nD Cert.FfnGuReferenceIdeal.τ).loc Cert.FfnGuReferenceIdeal.main_arg0) = m ((c.tc : Thread Cert.FfnGuIdeal.nD Cert.FfnGuIdeal.τ).loc Cert.FfnGuIdeal.main_arg0)
      ∧ m' ((c.tc : Thread Cert.FfnGuReferenceIdeal.nD Cert.FfnGuReferenceIdeal.τ).loc Cert.FfnGuReferenceIdeal.main_arg1) = m ((c.tc : Thread Cert.FfnGuIdeal.nD Cert.FfnGuIdeal.τ).loc Cert.FfnGuIdeal.main_arg1)) →
    ∃ (v0 : (c : Dev Cert.FfnGuIdeal.nD) → Buf (Elt Ideal) ((c.tc : Thread Cert.FfnGuIdeal.nD Cert.FfnGuIdeal.τ).loc Cert.FfnGuIdeal.main_v0)),
      θ_run (Cert.FfnGuIdeal.defs (F := Ideal)) (onTc (τ := Cert.FfnGuIdeal.τ) (Cert.FfnGuIdeal.main (F := Ideal))) ⟨m, fun _ => 0, g⟩ (fun r => ∀ c : Dev Cert.FfnGuIdeal.nD,
          r.2.mem ((c.tc : Thread Cert.FfnGuIdeal.nD Cert.FfnGuIdeal.τ).loc Cert.FfnGuIdeal.main_v0) = v0 c
          ∧ r.2.mem ((c.tc : Thread Cert.FfnGuIdeal.nD Cert.FfnGuIdeal.τ).loc Cert.FfnGuIdeal.main_arg0) = m ((c.tc : Thread Cert.FfnGuIdeal.nD Cert.FfnGuIdeal.τ).loc Cert.FfnGuIdeal.main_arg0)
          ∧ r.2.mem ((c.tc : Thread Cert.FfnGuIdeal.nD Cert.FfnGuIdeal.τ).loc Cert.FfnGuIdeal.main_arg1) = m ((c.tc : Thread Cert.FfnGuIdeal.nD Cert.FfnGuIdeal.τ).loc Cert.FfnGuIdeal.main_arg1))
      ∧ θ_run (Cert.FfnGuReferenceIdeal.defs (F := Ideal)) (onTc (τ := Cert.FfnGuReferenceIdeal.τ) (Cert.FfnGuReferenceIdeal.main (F := Ideal))) ⟨m', fun _ => 0, g'⟩ (fun r => ∀ c : Dev Cert.FfnGuReferenceIdeal.nD,
          r.2.mem ((c.tc : Thread Cert.FfnGuReferenceIdeal.nD Cert.FfnGuReferenceIdeal.τ).loc Cert.FfnGuReferenceIdeal.main_v2) = v0 c
          ∧ r.2.mem ((c.tc : Thread Cert.FfnGuReferenceIdeal.nD Cert.FfnGuReferenceIdeal.τ).loc Cert.FfnGuReferenceIdeal.main_arg0) = m' ((c.tc : Thread Cert.FfnGuReferenceIdeal.nD Cert.FfnGuReferenceIdeal.τ).loc Cert.FfnGuReferenceIdeal.main_arg0)
          ∧ r.2.mem ((c.tc : Thread Cert.FfnGuReferenceIdeal.nD Cert.FfnGuReferenceIdeal.τ).loc Cert.FfnGuReferenceIdeal.main_arg1) = m' ((c.tc : Thread Cert.FfnGuReferenceIdeal.nD Cert.FfnGuReferenceIdeal.τ).loc Cert.FfnGuReferenceIdeal.main_arg1))

def preserves_FfnDown_FfnDownIdeal : Prop :=
  True

def algebraic_FfnDownIdeal_FfnDownReferenceIdeal [hFfnDownIdeal : Cert.FfnDownIdeal.Facts] [hFfnDownReferenceIdeal : Cert.FfnDownReferenceIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownReferenceIdeal.nD Cert.FfnDownReferenceIdeal.τ Cert.FfnDownReferenceIdeal.sig) → Buf (Elt Ideal) ℓ) (g' : Dev Cert.FfnDownReferenceIdeal.nD → PrngReg), Pre_FfnDownIdeal m →
    (∀ c : Dev Cert.FfnDownIdeal.nD,
      m' ((c.tc : Thread Cert.FfnDownReferenceIdeal.nD Cert.FfnDownReferenceIdeal.τ).loc Cert.FfnDownReferenceIdeal.main_arg0) = m ((c.tc : Thread Cert.FfnDownIdeal.nD Cert.FfnDownIdeal.τ).loc Cert.FfnDownIdeal.main_arg0)
      ∧ m' ((c.tc : Thread Cert.FfnDownReferenceIdeal.nD Cert.FfnDownReferenceIdeal.τ).loc Cert.FfnDownReferenceIdeal.main_arg1) = m ((c.tc : Thread Cert.FfnDownIdeal.nD Cert.FfnDownIdeal.τ).loc Cert.FfnDownIdeal.main_arg1)
      ∧ m' ((c.tc : Thread Cert.FfnDownReferenceIdeal.nD Cert.FfnDownReferenceIdeal.τ).loc Cert.FfnDownReferenceIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownReferenceIdeal.defs (F := Ideal)) (onTc (τ := Cert.FfnDownReferenceIdeal.τ) (Cert.FfnDownReferenceIdeal.main (F := Ideal))) ⟨m', fun _ => 0, g'⟩ (fun r => ∀ c : Dev Cert.FfnDownReferenceIdeal.nD,
          r.2.mem ((c.tc : Thread Cert.FfnDownReferenceIdeal.nD Cert.FfnDownReferenceIdeal.τ).loc Cert.FfnDownReferenceIdeal.main_v5) = v0 c
          ∧ r.2.mem ((c.tc : Thread Cert.FfnDownReferenceIdeal.nD Cert.FfnDownReferenceIdeal.τ).loc Cert.FfnDownReferenceIdeal.main_arg0) = m' ((c.tc : Thread Cert.FfnDownReferenceIdeal.nD Cert.FfnDownReferenceIdeal.τ).loc Cert.FfnDownReferenceIdeal.main_arg0)
          ∧ r.2.mem ((c.tc : Thread Cert.FfnDownReferenceIdeal.nD Cert.FfnDownReferenceIdeal.τ).loc Cert.FfnDownReferenceIdeal.main_arg1) = m' ((c.tc : Thread Cert.FfnDownReferenceIdeal.nD Cert.FfnDownReferenceIdeal.τ).loc Cert.FfnDownReferenceIdeal.main_arg1)
          ∧ r.2.mem ((c.tc : Thread Cert.FfnDownReferenceIdeal.nD Cert.FfnDownReferenceIdeal.τ).loc Cert.FfnDownReferenceIdeal.main_arg2) = m' ((c.tc : Thread Cert.FfnDownReferenceIdeal.nD Cert.FfnDownReferenceIdeal.τ).loc Cert.FfnDownReferenceIdeal.main_arg2))

def preserves_FfnDa_FfnDaIdeal : Prop :=
  True

def algebraic_FfnDaIdeal_FfnDaReferenceIdeal [hFfnDaIdeal : Cert.FfnDaIdeal.Facts] [hFfnDaReferenceIdeal : Cert.FfnDaReferenceIdeal.Facts] : Prop :=
  ∀ (m : (ℓ : Loc Cert.FfnDaIdeal.nD Cert.FfnDaIdeal.τ Cert.FfnDaIdeal.sig) → Buf (Elt Ideal) ℓ) (g : Dev Cert.FfnDaIdeal.nD → PrngReg)
    (m' : (ℓ : Loc Cert.FfnDaReferenceIdeal.nD Cert.FfnDaReferenceIdeal.τ Cert.FfnDaReferenceIdeal.sig) → Buf (Elt Ideal) ℓ) (g' : Dev Cert.FfnDaReferenceIdeal.nD → PrngReg), Pre_FfnDaIdeal m →
    (∀ c : Dev Cert.FfnDaIdeal.nD,
      m' ((c.tc : Thread Cert.FfnDaReferenceIdeal.nD Cert.FfnDaReferenceIdeal.τ).loc Cert.FfnDaReferenceIdeal.main_arg0) = m ((c.tc : Thread Cert.FfnDaIdeal.nD Cert.FfnDaIdeal.τ).loc Cert.FfnDaIdeal.main_arg0)
      ∧ m' ((c.tc : Thread Cert.FfnDaReferenceIdeal.nD Cert.FfnDaReferenceIdeal.τ).loc Cert.FfnDaReferenceIdeal.main_arg1) = m ((c.tc : Thread Cert.FfnDaIdeal.nD Cert.FfnDaIdeal.τ).loc Cert.FfnDaIdeal.main_arg1)) →
    ∃ (v0 : (c : Dev Cert.FfnDaIdeal.nD) → Buf (Elt Ideal) ((c.tc : Thread Cert.FfnDaIdeal.nD Cert.FfnDaIdeal.τ).loc Cert.FfnDaIdeal.main_v0)),
      θ_run (Cert.FfnDaIdeal.defs (F := Ideal)) (onTc (τ := Cert.FfnDaIdeal.τ) (Cert.FfnDaIdeal.main (F := Ideal))) ⟨m, fun _ => 0, g⟩ (fun r => ∀ c : Dev Cert.FfnDaIdeal.nD,
          r.2.mem ((c.tc : Thread Cert.FfnDaIdeal.nD Cert.FfnDaIdeal.τ).loc Cert.FfnDaIdeal.main_v0) = v0 c
          ∧ r.2.mem ((c.tc : Thread Cert.FfnDaIdeal.nD Cert.FfnDaIdeal.τ).loc Cert.FfnDaIdeal.main_arg0) = m ((c.tc : Thread Cert.FfnDaIdeal.nD Cert.FfnDaIdeal.τ).loc Cert.FfnDaIdeal.main_arg0)
          ∧ r.2.mem ((c.tc : Thread Cert.FfnDaIdeal.nD Cert.FfnDaIdeal.τ).loc Cert.FfnDaIdeal.main_arg1) = m ((c.tc : Thread Cert.FfnDaIdeal.nD Cert.FfnDaIdeal.τ).loc Cert.FfnDaIdeal.main_arg1))
      ∧ θ_run (Cert.FfnDaReferenceIdeal.defs (F := Ideal)) (onTc (τ := Cert.FfnDaReferenceIdeal.τ) (Cert.FfnDaReferenceIdeal.main (F := Ideal))) ⟨m', fun _ => 0, g'⟩ (fun r => ∀ c : Dev Cert.FfnDaReferenceIdeal.nD,
          r.2.mem ((c.tc : Thread Cert.FfnDaReferenceIdeal.nD Cert.FfnDaReferenceIdeal.τ).loc Cert.FfnDaReferenceIdeal.main_v7) = v0 c
          ∧ r.2.mem ((c.tc : Thread Cert.FfnDaReferenceIdeal.nD Cert.FfnDaReferenceIdeal.τ).loc Cert.FfnDaReferenceIdeal.main_arg0) = m' ((c.tc : Thread Cert.FfnDaReferenceIdeal.nD Cert.FfnDaReferenceIdeal.τ).loc Cert.FfnDaReferenceIdeal.main_arg0)
          ∧ r.2.mem ((c.tc : Thread Cert.FfnDaReferenceIdeal.nD Cert.FfnDaReferenceIdeal.τ).loc Cert.FfnDaReferenceIdeal.main_arg1) = m' ((c.tc : Thread Cert.FfnDaReferenceIdeal.nD Cert.FfnDaReferenceIdeal.τ).loc Cert.FfnDaReferenceIdeal.main_arg1))

def preserves_FfnDwd_FfnDwdIdeal : Prop :=
  True

def algebraic_FfnDwdIdeal_FfnDwdReferenceIdeal [hFfnDwdIdeal : Cert.FfnDwdIdeal.Facts] [hFfnDwdReferenceIdeal : Cert.FfnDwdReferenceIdeal.Facts] : Prop :=
  ∀ (m : (ℓ : Loc Cert.FfnDwdIdeal.nD Cert.FfnDwdIdeal.τ Cert.FfnDwdIdeal.sig) → Buf (Elt Ideal) ℓ) (g : Dev Cert.FfnDwdIdeal.nD → PrngReg)
    (m' : (ℓ : Loc Cert.FfnDwdReferenceIdeal.nD Cert.FfnDwdReferenceIdeal.τ Cert.FfnDwdReferenceIdeal.sig) → Buf (Elt Ideal) ℓ) (g' : Dev Cert.FfnDwdReferenceIdeal.nD → PrngReg), Pre_FfnDwdIdeal m →
    (∀ c : Dev Cert.FfnDwdIdeal.nD,
      m' ((c.tc : Thread Cert.FfnDwdReferenceIdeal.nD Cert.FfnDwdReferenceIdeal.τ).loc Cert.FfnDwdReferenceIdeal.main_arg0) = m ((c.tc : Thread Cert.FfnDwdIdeal.nD Cert.FfnDwdIdeal.τ).loc Cert.FfnDwdIdeal.main_arg0)
      ∧ m' ((c.tc : Thread Cert.FfnDwdReferenceIdeal.nD Cert.FfnDwdReferenceIdeal.τ).loc Cert.FfnDwdReferenceIdeal.main_arg1) = m ((c.tc : Thread Cert.FfnDwdIdeal.nD Cert.FfnDwdIdeal.τ).loc Cert.FfnDwdIdeal.main_arg1)) →
    ∃ (v0 : (c : Dev Cert.FfnDwdIdeal.nD) → Buf (Elt Ideal) ((c.tc : Thread Cert.FfnDwdIdeal.nD Cert.FfnDwdIdeal.τ).loc Cert.FfnDwdIdeal.main_v0)),
      θ_run (Cert.FfnDwdIdeal.defs (F := Ideal)) (onTc (τ := Cert.FfnDwdIdeal.τ) (Cert.FfnDwdIdeal.main (F := Ideal))) ⟨m, fun _ => 0, g⟩ (fun r => ∀ c : Dev Cert.FfnDwdIdeal.nD,
          r.2.mem ((c.tc : Thread Cert.FfnDwdIdeal.nD Cert.FfnDwdIdeal.τ).loc Cert.FfnDwdIdeal.main_v0) = v0 c
          ∧ r.2.mem ((c.tc : Thread Cert.FfnDwdIdeal.nD Cert.FfnDwdIdeal.τ).loc Cert.FfnDwdIdeal.main_arg0) = m ((c.tc : Thread Cert.FfnDwdIdeal.nD Cert.FfnDwdIdeal.τ).loc Cert.FfnDwdIdeal.main_arg0)
          ∧ r.2.mem ((c.tc : Thread Cert.FfnDwdIdeal.nD Cert.FfnDwdIdeal.τ).loc Cert.FfnDwdIdeal.main_arg1) = m ((c.tc : Thread Cert.FfnDwdIdeal.nD Cert.FfnDwdIdeal.τ).loc Cert.FfnDwdIdeal.main_arg1))
      ∧ θ_run (Cert.FfnDwdReferenceIdeal.defs (F := Ideal)) (onTc (τ := Cert.FfnDwdReferenceIdeal.τ) (Cert.FfnDwdReferenceIdeal.main (F := Ideal))) ⟨m', fun _ => 0, g'⟩ (fun r => ∀ c : Dev Cert.FfnDwdReferenceIdeal.nD,
          r.2.mem ((c.tc : Thread Cert.FfnDwdReferenceIdeal.nD Cert.FfnDwdReferenceIdeal.τ).loc Cert.FfnDwdReferenceIdeal.main_v8) = v0 c
          ∧ r.2.mem ((c.tc : Thread Cert.FfnDwdReferenceIdeal.nD Cert.FfnDwdReferenceIdeal.τ).loc Cert.FfnDwdReferenceIdeal.main_arg0) = m' ((c.tc : Thread Cert.FfnDwdReferenceIdeal.nD Cert.FfnDwdReferenceIdeal.τ).loc Cert.FfnDwdReferenceIdeal.main_arg0)
          ∧ r.2.mem ((c.tc : Thread Cert.FfnDwdReferenceIdeal.nD Cert.FfnDwdReferenceIdeal.τ).loc Cert.FfnDwdReferenceIdeal.main_arg1) = m' ((c.tc : Thread Cert.FfnDwdReferenceIdeal.nD Cert.FfnDwdReferenceIdeal.τ).loc Cert.FfnDwdReferenceIdeal.main_arg1))

def preserves_FfnDwgu_FfnDwguIdeal : Prop :=
  True

def algebraic_FfnDwguIdeal_FfnDwguReferenceIdeal [hFfnDwguIdeal : Cert.FfnDwguIdeal.Facts] [hFfnDwguReferenceIdeal : Cert.FfnDwguReferenceIdeal.Facts] : Prop :=
  ∀ (m : (ℓ : Loc Cert.FfnDwguIdeal.nD Cert.FfnDwguIdeal.τ Cert.FfnDwguIdeal.sig) → Buf (Elt Ideal) ℓ) (g : Dev Cert.FfnDwguIdeal.nD → PrngReg)
    (m' : (ℓ : Loc Cert.FfnDwguReferenceIdeal.nD Cert.FfnDwguReferenceIdeal.τ Cert.FfnDwguReferenceIdeal.sig) → Buf (Elt Ideal) ℓ) (g' : Dev Cert.FfnDwguReferenceIdeal.nD → PrngReg), Pre_FfnDwguIdeal m →
    (∀ c : Dev Cert.FfnDwguIdeal.nD,
      m' ((c.tc : Thread Cert.FfnDwguReferenceIdeal.nD Cert.FfnDwguReferenceIdeal.τ).loc Cert.FfnDwguReferenceIdeal.main_arg0) = m ((c.tc : Thread Cert.FfnDwguIdeal.nD Cert.FfnDwguIdeal.τ).loc Cert.FfnDwguIdeal.main_arg0)
      ∧ m' ((c.tc : Thread Cert.FfnDwguReferenceIdeal.nD Cert.FfnDwguReferenceIdeal.τ).loc Cert.FfnDwguReferenceIdeal.main_arg1) = m ((c.tc : Thread Cert.FfnDwguIdeal.nD Cert.FfnDwguIdeal.τ).loc Cert.FfnDwguIdeal.main_arg1)) →
    ∃ (v0 : (c : Dev Cert.FfnDwguIdeal.nD) → Buf (Elt Ideal) ((c.tc : Thread Cert.FfnDwguIdeal.nD Cert.FfnDwguIdeal.τ).loc Cert.FfnDwguIdeal.main_v0)),
      θ_run (Cert.FfnDwguIdeal.defs (F := Ideal)) (onTc (τ := Cert.FfnDwguIdeal.τ) (Cert.FfnDwguIdeal.main (F := Ideal))) ⟨m, fun _ => 0, g⟩ (fun r => ∀ c : Dev Cert.FfnDwguIdeal.nD,
          r.2.mem ((c.tc : Thread Cert.FfnDwguIdeal.nD Cert.FfnDwguIdeal.τ).loc Cert.FfnDwguIdeal.main_v0) = v0 c
          ∧ r.2.mem ((c.tc : Thread Cert.FfnDwguIdeal.nD Cert.FfnDwguIdeal.τ).loc Cert.FfnDwguIdeal.main_arg0) = m ((c.tc : Thread Cert.FfnDwguIdeal.nD Cert.FfnDwguIdeal.τ).loc Cert.FfnDwguIdeal.main_arg0)
          ∧ r.2.mem ((c.tc : Thread Cert.FfnDwguIdeal.nD Cert.FfnDwguIdeal.τ).loc Cert.FfnDwguIdeal.main_arg1) = m ((c.tc : Thread Cert.FfnDwguIdeal.nD Cert.FfnDwguIdeal.τ).loc Cert.FfnDwguIdeal.main_arg1))
      ∧ θ_run (Cert.FfnDwguReferenceIdeal.defs (F := Ideal)) (onTc (τ := Cert.FfnDwguReferenceIdeal.τ) (Cert.FfnDwguReferenceIdeal.main (F := Ideal))) ⟨m', fun _ => 0, g'⟩ (fun r => ∀ c : Dev Cert.FfnDwguReferenceIdeal.nD,
          r.2.mem ((c.tc : Thread Cert.FfnDwguReferenceIdeal.nD Cert.FfnDwguReferenceIdeal.τ).loc Cert.FfnDwguReferenceIdeal.main_v5) = v0 c
          ∧ r.2.mem ((c.tc : Thread Cert.FfnDwguReferenceIdeal.nD Cert.FfnDwguReferenceIdeal.τ).loc Cert.FfnDwguReferenceIdeal.main_arg0) = m' ((c.tc : Thread Cert.FfnDwguReferenceIdeal.nD Cert.FfnDwguReferenceIdeal.τ).loc Cert.FfnDwguReferenceIdeal.main_arg0)
          ∧ r.2.mem ((c.tc : Thread Cert.FfnDwguReferenceIdeal.nD Cert.FfnDwguReferenceIdeal.τ).loc Cert.FfnDwguReferenceIdeal.main_arg1) = m' ((c.tc : Thread Cert.FfnDwguReferenceIdeal.nD Cert.FfnDwguReferenceIdeal.τ).loc Cert.FfnDwguReferenceIdeal.main_arg1))

def preserves_FfnDh_FfnDhIdeal : Prop :=
  True

def algebraic_FfnDhIdeal_FfnDhReferenceIdeal [hFfnDhIdeal : Cert.FfnDhIdeal.Facts] [hFfnDhReferenceIdeal : Cert.FfnDhReferenceIdeal.Facts] : Prop :=
  ∀ (m : (ℓ : Loc Cert.FfnDhIdeal.nD Cert.FfnDhIdeal.τ Cert.FfnDhIdeal.sig) → Buf (Elt Ideal) ℓ) (g : Dev Cert.FfnDhIdeal.nD → PrngReg)
    (m' : (ℓ : Loc Cert.FfnDhReferenceIdeal.nD Cert.FfnDhReferenceIdeal.τ Cert.FfnDhReferenceIdeal.sig) → Buf (Elt Ideal) ℓ) (g' : Dev Cert.FfnDhReferenceIdeal.nD → PrngReg), Pre_FfnDhIdeal m →
    (∀ c : Dev Cert.FfnDhIdeal.nD,
      m' ((c.tc : Thread Cert.FfnDhReferenceIdeal.nD Cert.FfnDhReferenceIdeal.τ).loc Cert.FfnDhReferenceIdeal.main_arg0) = m ((c.tc : Thread Cert.FfnDhIdeal.nD Cert.FfnDhIdeal.τ).loc Cert.FfnDhIdeal.main_arg0)
      ∧ m' ((c.tc : Thread Cert.FfnDhReferenceIdeal.nD Cert.FfnDhReferenceIdeal.τ).loc Cert.FfnDhReferenceIdeal.main_arg1) = m ((c.tc : Thread Cert.FfnDhIdeal.nD Cert.FfnDhIdeal.τ).loc Cert.FfnDhIdeal.main_arg1)) →
    ∃ (v0 : (c : Dev Cert.FfnDhIdeal.nD) → Buf (Elt Ideal) ((c.tc : Thread Cert.FfnDhIdeal.nD Cert.FfnDhIdeal.τ).loc Cert.FfnDhIdeal.main_v0)),
      θ_run (Cert.FfnDhIdeal.defs (F := Ideal)) (onTc (τ := Cert.FfnDhIdeal.τ) (Cert.FfnDhIdeal.main (F := Ideal))) ⟨m, fun _ => 0, g⟩ (fun r => ∀ c : Dev Cert.FfnDhIdeal.nD,
          r.2.mem ((c.tc : Thread Cert.FfnDhIdeal.nD Cert.FfnDhIdeal.τ).loc Cert.FfnDhIdeal.main_v0) = v0 c
          ∧ r.2.mem ((c.tc : Thread Cert.FfnDhIdeal.nD Cert.FfnDhIdeal.τ).loc Cert.FfnDhIdeal.main_arg0) = m ((c.tc : Thread Cert.FfnDhIdeal.nD Cert.FfnDhIdeal.τ).loc Cert.FfnDhIdeal.main_arg0)
          ∧ r.2.mem ((c.tc : Thread Cert.FfnDhIdeal.nD Cert.FfnDhIdeal.τ).loc Cert.FfnDhIdeal.main_arg1) = m ((c.tc : Thread Cert.FfnDhIdeal.nD Cert.FfnDhIdeal.τ).loc Cert.FfnDhIdeal.main_arg1))
      ∧ θ_run (Cert.FfnDhReferenceIdeal.defs (F := Ideal)) (onTc (τ := Cert.FfnDhReferenceIdeal.τ) (Cert.FfnDhReferenceIdeal.main (F := Ideal))) ⟨m', fun _ => 0, g'⟩ (fun r => ∀ c : Dev Cert.FfnDhReferenceIdeal.nD,
          r.2.mem ((c.tc : Thread Cert.FfnDhReferenceIdeal.nD Cert.FfnDhReferenceIdeal.τ).loc Cert.FfnDhReferenceIdeal.main_v4) = v0 c
          ∧ r.2.mem ((c.tc : Thread Cert.FfnDhReferenceIdeal.nD Cert.FfnDhReferenceIdeal.τ).loc Cert.FfnDhReferenceIdeal.main_arg0) = m' ((c.tc : Thread Cert.FfnDhReferenceIdeal.nD Cert.FfnDhReferenceIdeal.τ).loc Cert.FfnDhReferenceIdeal.main_arg0)
          ∧ r.2.mem ((c.tc : Thread Cert.FfnDhReferenceIdeal.nD Cert.FfnDhReferenceIdeal.τ).loc Cert.FfnDhReferenceIdeal.main_arg1) = m' ((c.tc : Thread Cert.FfnDhReferenceIdeal.nD Cert.FfnDhReferenceIdeal.τ).loc Cert.FfnDhReferenceIdeal.main_arg1))

def preserves_MixIn_MixInIdeal : Prop :=
  True

def algebraic_MixInIdeal_MixInReferenceIdeal [hMixInIdeal : Cert.MixInIdeal.Facts] [hMixInReferenceIdeal : Cert.MixInReferenceIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInReferenceIdeal.nD Cert.MixInReferenceIdeal.τ Cert.MixInReferenceIdeal.sig) → Buf (Elt Ideal) ℓ) (g' : Dev Cert.MixInReferenceIdeal.nD → PrngReg), Pre_MixInIdeal m →
    (∀ c : Dev Cert.MixInIdeal.nD,
      m' ((c.tc : Thread Cert.MixInReferenceIdeal.nD Cert.MixInReferenceIdeal.τ).loc Cert.MixInReferenceIdeal.main_arg0) = m ((c.tc : Thread Cert.MixInIdeal.nD Cert.MixInIdeal.τ).loc Cert.MixInIdeal.main_arg0)
      ∧ m' ((c.tc : Thread Cert.MixInReferenceIdeal.nD Cert.MixInReferenceIdeal.τ).loc Cert.MixInReferenceIdeal.main_arg1) = m ((c.tc : Thread Cert.MixInIdeal.nD Cert.MixInIdeal.τ).loc Cert.MixInIdeal.main_arg1)) →
    ∃ (v0 : (c : Dev Cert.MixInIdeal.nD) → Buf (Elt Ideal) ((c.tc : Thread Cert.MixInIdeal.nD Cert.MixInIdeal.τ).loc Cert.MixInIdeal.main_v0)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v0) = v0 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1))
      ∧ θ_run (Cert.MixInReferenceIdeal.defs (F := Ideal)) (onTc (τ := Cert.MixInReferenceIdeal.τ) (Cert.MixInReferenceIdeal.main (F := Ideal))) ⟨m', fun _ => 0, g'⟩ (fun r => ∀ c : Dev Cert.MixInReferenceIdeal.nD,
          r.2.mem ((c.tc : Thread Cert.MixInReferenceIdeal.nD Cert.MixInReferenceIdeal.τ).loc Cert.MixInReferenceIdeal.main_v2) = v0 c
          ∧ r.2.mem ((c.tc : Thread Cert.MixInReferenceIdeal.nD Cert.MixInReferenceIdeal.τ).loc Cert.MixInReferenceIdeal.main_arg0) = m' ((c.tc : Thread Cert.MixInReferenceIdeal.nD Cert.MixInReferenceIdeal.τ).loc Cert.MixInReferenceIdeal.main_arg0)
          ∧ r.2.mem ((c.tc : Thread Cert.MixInReferenceIdeal.nD Cert.MixInReferenceIdeal.τ).loc Cert.MixInReferenceIdeal.main_arg1) = m' ((c.tc : Thread Cert.MixInReferenceIdeal.nD Cert.MixInReferenceIdeal.τ).loc Cert.MixInReferenceIdeal.main_arg1))

def preserves_MixInDw_MixInDwIdeal : Prop :=
  True

def algebraic_MixInDwIdeal_MixInDwReferenceIdeal [hMixInDwIdeal : Cert.MixInDwIdeal.Facts] [hMixInDwReferenceIdeal : Cert.MixInDwReferenceIdeal.Facts] : Prop :=
  ∀ (m : (ℓ : Loc Cert.MixInDwIdeal.nD Cert.MixInDwIdeal.τ Cert.MixInDwIdeal.sig) → Buf (Elt Ideal) ℓ) (g : Dev Cert.MixInDwIdeal.nD → PrngReg)
    (m' : (ℓ : Loc Cert.MixInDwReferenceIdeal.nD Cert.MixInDwReferenceIdeal.τ Cert.MixInDwReferenceIdeal.sig) → Buf (Elt Ideal) ℓ) (g' : Dev Cert.MixInDwReferenceIdeal.nD → PrngReg), Pre_MixInDwIdeal m →
    (∀ c : Dev Cert.MixInDwIdeal.nD,
      m' ((c.tc : Thread Cert.MixInDwReferenceIdeal.nD Cert.MixInDwReferenceIdeal.τ).loc Cert.MixInDwReferenceIdeal.main_arg0) = m ((c.tc : Thread Cert.MixInDwIdeal.nD Cert.MixInDwIdeal.τ).loc Cert.MixInDwIdeal.main_arg0)
      ∧ m' ((c.tc : Thread Cert.MixInDwReferenceIdeal.nD Cert.MixInDwReferenceIdeal.τ).loc Cert.MixInDwReferenceIdeal.main_arg1) = m ((c.tc : Thread Cert.MixInDwIdeal.nD Cert.MixInDwIdeal.τ).loc Cert.MixInDwIdeal.main_arg1)) →
    ∃ (v0 : (c : Dev Cert.MixInDwIdeal.nD) → Buf (Elt Ideal) ((c.tc : Thread Cert.MixInDwIdeal.nD Cert.MixInDwIdeal.τ).loc Cert.MixInDwIdeal.main_v0)),
      θ_run (Cert.MixInDwIdeal.defs (F := Ideal)) (onTc (τ := Cert.MixInDwIdeal.τ) (Cert.MixInDwIdeal.main (F := Ideal))) ⟨m, fun _ => 0, g⟩ (fun r => ∀ c : Dev Cert.MixInDwIdeal.nD,
          r.2.mem ((c.tc : Thread Cert.MixInDwIdeal.nD Cert.MixInDwIdeal.τ).loc Cert.MixInDwIdeal.main_v0) = v0 c
          ∧ r.2.mem ((c.tc : Thread Cert.MixInDwIdeal.nD Cert.MixInDwIdeal.τ).loc Cert.MixInDwIdeal.main_arg0) = m ((c.tc : Thread Cert.MixInDwIdeal.nD Cert.MixInDwIdeal.τ).loc Cert.MixInDwIdeal.main_arg0)
          ∧ r.2.mem ((c.tc : Thread Cert.MixInDwIdeal.nD Cert.MixInDwIdeal.τ).loc Cert.MixInDwIdeal.main_arg1) = m ((c.tc : Thread Cert.MixInDwIdeal.nD Cert.MixInDwIdeal.τ).loc Cert.MixInDwIdeal.main_arg1))
      ∧ θ_run (Cert.MixInDwReferenceIdeal.defs (F := Ideal)) (onTc (τ := Cert.MixInDwReferenceIdeal.τ) (Cert.MixInDwReferenceIdeal.main (F := Ideal))) ⟨m', fun _ => 0, g'⟩ (fun r => ∀ c : Dev Cert.MixInDwReferenceIdeal.nD,
          r.2.mem ((c.tc : Thread Cert.MixInDwReferenceIdeal.nD Cert.MixInDwReferenceIdeal.τ).loc Cert.MixInDwReferenceIdeal.main_v5) = v0 c
          ∧ r.2.mem ((c.tc : Thread Cert.MixInDwReferenceIdeal.nD Cert.MixInDwReferenceIdeal.τ).loc Cert.MixInDwReferenceIdeal.main_arg0) = m' ((c.tc : Thread Cert.MixInDwReferenceIdeal.nD Cert.MixInDwReferenceIdeal.τ).loc Cert.MixInDwReferenceIdeal.main_arg0)
          ∧ r.2.mem ((c.tc : Thread Cert.MixInDwReferenceIdeal.nD Cert.MixInDwReferenceIdeal.τ).loc Cert.MixInDwReferenceIdeal.main_arg1) = m' ((c.tc : Thread Cert.MixInDwReferenceIdeal.nD Cert.MixInDwReferenceIdeal.τ).loc Cert.MixInDwReferenceIdeal.main_arg1))

def preserves_MixInDx_MixInDxIdeal : Prop :=
  True

def algebraic_MixInDxIdeal_MixInDxReferenceIdeal [hMixInDxIdeal : Cert.MixInDxIdeal.Facts] [hMixInDxReferenceIdeal : Cert.MixInDxReferenceIdeal.Facts] : Prop :=
  ∀ (m : (ℓ : Loc Cert.MixInDxIdeal.nD Cert.MixInDxIdeal.τ Cert.MixInDxIdeal.sig) → Buf (Elt Ideal) ℓ) (g : Dev Cert.MixInDxIdeal.nD → PrngReg)
    (m' : (ℓ : Loc Cert.MixInDxReferenceIdeal.nD Cert.MixInDxReferenceIdeal.τ Cert.MixInDxReferenceIdeal.sig) → Buf (Elt Ideal) ℓ) (g' : Dev Cert.MixInDxReferenceIdeal.nD → PrngReg), Pre_MixInDxIdeal m →
    (∀ c : Dev Cert.MixInDxIdeal.nD,
      m' ((c.tc : Thread Cert.MixInDxReferenceIdeal.nD Cert.MixInDxReferenceIdeal.τ).loc Cert.MixInDxReferenceIdeal.main_arg0) = m ((c.tc : Thread Cert.MixInDxIdeal.nD Cert.MixInDxIdeal.τ).loc Cert.MixInDxIdeal.main_arg0)
      ∧ m' ((c.tc : Thread Cert.MixInDxReferenceIdeal.nD Cert.MixInDxReferenceIdeal.τ).loc Cert.MixInDxReferenceIdeal.main_arg1) = m ((c.tc : Thread Cert.MixInDxIdeal.nD Cert.MixInDxIdeal.τ).loc Cert.MixInDxIdeal.main_arg1)) →
    ∃ (v0 : (c : Dev Cert.MixInDxIdeal.nD) → Buf (Elt Ideal) ((c.tc : Thread Cert.MixInDxIdeal.nD Cert.MixInDxIdeal.τ).loc Cert.MixInDxIdeal.main_v0)),
      θ_run (Cert.MixInDxIdeal.defs (F := Ideal)) (onTc (τ := Cert.MixInDxIdeal.τ) (Cert.MixInDxIdeal.main (F := Ideal))) ⟨m, fun _ => 0, g⟩ (fun r => ∀ c : Dev Cert.MixInDxIdeal.nD,
          r.2.mem ((c.tc : Thread Cert.MixInDxIdeal.nD Cert.MixInDxIdeal.τ).loc Cert.MixInDxIdeal.main_v0) = v0 c
          ∧ r.2.mem ((c.tc : Thread Cert.MixInDxIdeal.nD Cert.MixInDxIdeal.τ).loc Cert.MixInDxIdeal.main_arg0) = m ((c.tc : Thread Cert.MixInDxIdeal.nD Cert.MixInDxIdeal.τ).loc Cert.MixInDxIdeal.main_arg0)
          ∧ r.2.mem ((c.tc : Thread Cert.MixInDxIdeal.nD Cert.MixInDxIdeal.τ).loc Cert.MixInDxIdeal.main_arg1) = m ((c.tc : Thread Cert.MixInDxIdeal.nD Cert.MixInDxIdeal.τ).loc Cert.MixInDxIdeal.main_arg1))
      ∧ θ_run (Cert.MixInDxReferenceIdeal.defs (F := Ideal)) (onTc (τ := Cert.MixInDxReferenceIdeal.τ) (Cert.MixInDxReferenceIdeal.main (F := Ideal))) ⟨m', fun _ => 0, g'⟩ (fun r => ∀ c : Dev Cert.MixInDxReferenceIdeal.nD,
          r.2.mem ((c.tc : Thread Cert.MixInDxReferenceIdeal.nD Cert.MixInDxReferenceIdeal.τ).loc Cert.MixInDxReferenceIdeal.main_v4) = v0 c
          ∧ r.2.mem ((c.tc : Thread Cert.MixInDxReferenceIdeal.nD Cert.MixInDxReferenceIdeal.τ).loc Cert.MixInDxReferenceIdeal.main_arg0) = m' ((c.tc : Thread Cert.MixInDxReferenceIdeal.nD Cert.MixInDxReferenceIdeal.τ).loc Cert.MixInDxReferenceIdeal.main_arg0)
          ∧ r.2.mem ((c.tc : Thread Cert.MixInDxReferenceIdeal.nD Cert.MixInDxReferenceIdeal.τ).loc Cert.MixInDxReferenceIdeal.main_arg1) = m' ((c.tc : Thread Cert.MixInDxReferenceIdeal.nD Cert.MixInDxReferenceIdeal.τ).loc Cert.MixInDxReferenceIdeal.main_arg1))

def Claim : Prop :=
  ∃ (hKernel : Cert.Kernel.Facts) (hKernelIdeal : Cert.KernelIdeal.Facts) (hReferenceIdeal : Cert.ReferenceIdeal.Facts) (hDgu : Cert.Dgu.Facts) (hDguIdeal : Cert.DguIdeal.Facts) (hDguReferenceIdeal : Cert.DguReferenceIdeal.Facts) (hRms : Cert.Rms.Facts) (hRmsIdeal : Cert.RmsIdeal.Facts) (hRmsReferenceIdeal : Cert.RmsReferenceIdeal.Facts) (hMemDrms : Cert.MemDrms.Facts) (hMemDrmsIdeal : Cert.MemDrmsIdeal.Facts) (hMemDrmsReferenceIdeal : Cert.MemDrmsReferenceIdeal.Facts) (hLoss : Cert.Loss.Facts) (hLossIdeal : Cert.LossIdeal.Facts) (hLossReferenceIdeal : Cert.LossReferenceIdeal.Facts) (hMemFwd : Cert.MemFwd.Facts) (hMemFwdIdeal : Cert.MemFwdIdeal.Facts) (hMemFwdReferenceIdeal : Cert.MemFwdReferenceIdeal.Facts) (hFoxFwd : Cert.FoxFwd.Facts) (hFoxFwdIdeal : Cert.FoxFwdIdeal.Facts) (hFoxFwdReferenceIdeal : Cert.FoxFwdReferenceIdeal.Facts) (hGate : Cert.Gate.Facts) (hGateIdeal : Cert.GateIdeal.Facts) (hGateReferenceIdeal : Cert.GateReferenceIdeal.Facts) (hDwd : Cert.Dwd.Facts) (hDwdIdeal : Cert.DwdIdeal.Facts) (hDwdReferenceIdeal : Cert.DwdReferenceIdeal.Facts) (hGu : Cert.Gu.Facts) (hGuIdeal : Cert.GuIdeal.Facts) (hGuReferenceIdeal : Cert.GuReferenceIdeal.Facts) (hDown : Cert.Down.Facts) (hDownIdeal : Cert.DownIdeal.Facts) (hDownReferenceIdeal : Cert.DownReferenceIdeal.Facts) (hMixOut : Cert.MixOut.Facts) (hMixOutIdeal : Cert.MixOutIdeal.Facts) (hMixOutReferenceIdeal : Cert.MixOutReferenceIdeal.Facts) (hMixOutDx : Cert.MixOutDx.Facts) (hMixOutDxIdeal : Cert.MixOutDxIdeal.Facts) (hMixOutDxReferenceIdeal : Cert.MixOutDxReferenceIdeal.Facts) (hMixOutDw : Cert.MixOutDw.Facts) (hMixOutDwIdeal : Cert.MixOutDwIdeal.Facts) (hMixOutDwReferenceIdeal : Cert.MixOutDwReferenceIdeal.Facts) (hFoxO : Cert.FoxO.Facts) (hFoxOIdeal : Cert.FoxOIdeal.Facts) (hFoxOReferenceIdeal : Cert.FoxOReferenceIdeal.Facts) (hFoxODx : Cert.FoxODx.Facts) (hFoxODxIdeal : Cert.FoxODxIdeal.Facts) (hFoxODxReferenceIdeal : Cert.FoxODxReferenceIdeal.Facts) (hFoxODw : Cert.FoxODw.Facts) (hFoxODwIdeal : Cert.FoxODwIdeal.Facts) (hFoxODwReferenceIdeal : Cert.FoxODwReferenceIdeal.Facts) (hPoolUp : Cert.PoolUp.Facts) (hPoolUpIdeal : Cert.PoolUpIdeal.Facts) (hPoolUpReferenceIdeal : Cert.PoolUpReferenceIdeal.Facts) (hPoolUpDx : Cert.PoolUpDx.Facts) (hPoolUpDxIdeal : Cert.PoolUpDxIdeal.Facts) (hPoolUpDxReferenceIdeal : Cert.PoolUpDxReferenceIdeal.Facts) (hPoolUpDw : Cert.PoolUpDw.Facts) (hPoolUpDwIdeal : Cert.PoolUpDwIdeal.Facts) (hPoolUpDwReferenceIdeal : Cert.PoolUpDwReferenceIdeal.Facts) (hMemO : Cert.MemO.Facts) (hMemOIdeal : Cert.MemOIdeal.Facts) (hMemOReferenceIdeal : Cert.MemOReferenceIdeal.Facts) (hMemODw : Cert.MemODw.Facts) (hMemODwIdeal : Cert.MemODwIdeal.Facts) (hMemODwReferenceIdeal : Cert.MemODwReferenceIdeal.Facts) (hMemKv : Cert.MemKv.Facts) (hMemKvIdeal : Cert.MemKvIdeal.Facts) (hMemKvReferenceIdeal : Cert.MemKvReferenceIdeal.Facts) (hMemKvDx : Cert.MemKvDx.Facts) (hMemKvDxIdeal : Cert.MemKvDxIdeal.Facts) (hMemKvDxReferenceIdeal : Cert.MemKvDxReferenceIdeal.Facts) (hMemKvDw : Cert.MemKvDw.Facts) (hMemKvDwIdeal : Cert.MemKvDwIdeal.Facts) (hMemKvDwReferenceIdeal : Cert.MemKvDwReferenceIdeal.Facts) (hFfnGu : Cert.FfnGu.Facts) (hFfnGuIdeal : Cert.FfnGuIdeal.Facts) (hFfnGuReferenceIdeal : Cert.FfnGuReferenceIdeal.Facts) (hFfnDown : Cert.FfnDown.Facts) (hFfnDownIdeal : Cert.FfnDownIdeal.Facts) (hFfnDownReferenceIdeal : Cert.FfnDownReferenceIdeal.Facts) (hFfnDa : Cert.FfnDa.Facts) (hFfnDaIdeal : Cert.FfnDaIdeal.Facts) (hFfnDaReferenceIdeal : Cert.FfnDaReferenceIdeal.Facts) (hFfnDwd : Cert.FfnDwd.Facts) (hFfnDwdIdeal : Cert.FfnDwdIdeal.Facts) (hFfnDwdReferenceIdeal : Cert.FfnDwdReferenceIdeal.Facts) (hFfnDwgu : Cert.FfnDwgu.Facts) (hFfnDwguIdeal : Cert.FfnDwguIdeal.Facts) (hFfnDwguReferenceIdeal : Cert.FfnDwguReferenceIdeal.Facts) (hFfnDh : Cert.FfnDh.Facts) (hFfnDhIdeal : Cert.FfnDhIdeal.Facts) (hFfnDhReferenceIdeal : Cert.FfnDhReferenceIdeal.Facts) (hMixIn : Cert.MixIn.Facts) (hMixInIdeal : Cert.MixInIdeal.Facts) (hMixInReferenceIdeal : Cert.MixInReferenceIdeal.Facts) (hMixInDw : Cert.MixInDw.Facts) (hMixInDwIdeal : Cert.MixInDwIdeal.Facts) (hMixInDwReferenceIdeal : Cert.MixInDwReferenceIdeal.Facts) (hMixInDx : Cert.MixInDx.Facts) (hMixInDxIdeal : Cert.MixInDxIdeal.Facts) (hMixInDxReferenceIdeal : Cert.MixInDxReferenceIdeal.Facts) (hPre_finite_qk : Cert.Pre_finite_qk.Facts) (hPre_finite_dgu : Cert.Pre_finite_dgu.Facts) (hPre_finite_rms : Cert.Pre_finite_rms.Facts) (hPre_finite_mem_drms : Cert.Pre_finite_mem_drms.Facts) (hPre_finite_fox : Cert.Pre_finite_fox.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Dgu (hDgu := hDgu)
    ∧ quiescent_DguIdeal (hDguIdeal := hDguIdeal)
    ∧ quiescent_DguIdeal_pre_finite_dgu (hDguIdeal := hDguIdeal) (hPre_finite_dgu := hPre_finite_dgu)
    ∧ quiescent_DguReferenceIdeal (hDguReferenceIdeal := hDguReferenceIdeal)
    ∧ quiescent_DguReferenceIdeal_pre_finite_dgu (hDguReferenceIdeal := hDguReferenceIdeal) (hPre_finite_dgu := hPre_finite_dgu)
    ∧ quiescent_Rms (hRms := hRms)
    ∧ quiescent_RmsIdeal (hRmsIdeal := hRmsIdeal)
    ∧ quiescent_RmsIdeal_pre_finite_rms (hRmsIdeal := hRmsIdeal) (hPre_finite_rms := hPre_finite_rms)
    ∧ quiescent_RmsReferenceIdeal (hRmsReferenceIdeal := hRmsReferenceIdeal)
    ∧ quiescent_RmsReferenceIdeal_pre_finite_rms (hRmsReferenceIdeal := hRmsReferenceIdeal) (hPre_finite_rms := hPre_finite_rms)
    ∧ quiescent_MemDrms (hMemDrms := hMemDrms)
    ∧ quiescent_MemDrmsIdeal (hMemDrmsIdeal := hMemDrmsIdeal)
    ∧ quiescent_MemDrmsIdeal_pre_finite_mem_drms (hMemDrmsIdeal := hMemDrmsIdeal) (hPre_finite_mem_drms := hPre_finite_mem_drms)
    ∧ quiescent_MemDrmsReferenceIdeal (hMemDrmsReferenceIdeal := hMemDrmsReferenceIdeal)
    ∧ quiescent_MemDrmsReferenceIdeal_pre_finite_mem_drms (hMemDrmsReferenceIdeal := hMemDrmsReferenceIdeal) (hPre_finite_mem_drms := hPre_finite_mem_drms)
    ∧ quiescent_Loss (hLoss := hLoss)
    ∧ quiescent_LossIdeal (hLossIdeal := hLossIdeal)
    ∧ quiescent_LossReferenceIdeal (hLossReferenceIdeal := hLossReferenceIdeal)
    ∧ quiescent_MemFwd (hMemFwd := hMemFwd)
    ∧ quiescent_MemFwdIdeal (hMemFwdIdeal := hMemFwdIdeal)
    ∧ quiescent_MemFwdReferenceIdeal (hMemFwdReferenceIdeal := hMemFwdReferenceIdeal)
    ∧ quiescent_FoxFwd (hFoxFwd := hFoxFwd)
    ∧ quiescent_FoxFwdIdeal (hFoxFwdIdeal := hFoxFwdIdeal)
    ∧ quiescent_FoxFwdIdeal_pre_finite_fox (hFoxFwdIdeal := hFoxFwdIdeal) (hPre_finite_fox := hPre_finite_fox)
    ∧ quiescent_FoxFwdReferenceIdeal (hFoxFwdReferenceIdeal := hFoxFwdReferenceIdeal)
    ∧ quiescent_FoxFwdReferenceIdeal_pre_finite_fox (hFoxFwdReferenceIdeal := hFoxFwdReferenceIdeal) (hPre_finite_fox := hPre_finite_fox)
    ∧ quiescent_Gate (hGate := hGate)
    ∧ quiescent_GateIdeal (hGateIdeal := hGateIdeal)
    ∧ quiescent_GateReferenceIdeal (hGateReferenceIdeal := hGateReferenceIdeal)
    ∧ quiescent_Dwd (hDwd := hDwd)
    ∧ quiescent_DwdIdeal (hDwdIdeal := hDwdIdeal)
    ∧ quiescent_DwdReferenceIdeal (hDwdReferenceIdeal := hDwdReferenceIdeal)
    ∧ quiescent_Gu (hGu := hGu)
    ∧ quiescent_GuIdeal (hGuIdeal := hGuIdeal)
    ∧ quiescent_GuReferenceIdeal (hGuReferenceIdeal := hGuReferenceIdeal)
    ∧ quiescent_Down (hDown := hDown)
    ∧ quiescent_DownIdeal (hDownIdeal := hDownIdeal)
    ∧ quiescent_DownReferenceIdeal (hDownReferenceIdeal := hDownReferenceIdeal)
    ∧ quiescent_MixOut (hMixOut := hMixOut)
    ∧ quiescent_MixOutIdeal (hMixOutIdeal := hMixOutIdeal)
    ∧ quiescent_MixOutReferenceIdeal (hMixOutReferenceIdeal := hMixOutReferenceIdeal)
    ∧ quiescent_MixOutDx (hMixOutDx := hMixOutDx)
    ∧ quiescent_MixOutDxIdeal (hMixOutDxIdeal := hMixOutDxIdeal)
    ∧ quiescent_MixOutDxReferenceIdeal (hMixOutDxReferenceIdeal := hMixOutDxReferenceIdeal)
    ∧ quiescent_MixOutDw (hMixOutDw := hMixOutDw)
    ∧ quiescent_MixOutDwIdeal (hMixOutDwIdeal := hMixOutDwIdeal)
    ∧ quiescent_MixOutDwReferenceIdeal (hMixOutDwReferenceIdeal := hMixOutDwReferenceIdeal)
    ∧ quiescent_FoxO (hFoxO := hFoxO)
    ∧ quiescent_FoxOIdeal (hFoxOIdeal := hFoxOIdeal)
    ∧ quiescent_FoxOReferenceIdeal (hFoxOReferenceIdeal := hFoxOReferenceIdeal)
    ∧ quiescent_FoxODx (hFoxODx := hFoxODx)
    ∧ quiescent_FoxODxIdeal (hFoxODxIdeal := hFoxODxIdeal)
    ∧ quiescent_FoxODxReferenceIdeal (hFoxODxReferenceIdeal := hFoxODxReferenceIdeal)
    ∧ quiescent_FoxODw (hFoxODw := hFoxODw)
    ∧ quiescent_FoxODwIdeal (hFoxODwIdeal := hFoxODwIdeal)
    ∧ quiescent_FoxODwReferenceIdeal (hFoxODwReferenceIdeal := hFoxODwReferenceIdeal)
    ∧ quiescent_PoolUp (hPoolUp := hPoolUp)
    ∧ quiescent_PoolUpIdeal (hPoolUpIdeal := hPoolUpIdeal)
    ∧ quiescent_PoolUpReferenceIdeal (hPoolUpReferenceIdeal := hPoolUpReferenceIdeal)
    ∧ quiescent_PoolUpDx (hPoolUpDx := hPoolUpDx)
    ∧ quiescent_PoolUpDxIdeal (hPoolUpDxIdeal := hPoolUpDxIdeal)
    ∧ quiescent_PoolUpDxReferenceIdeal (hPoolUpDxReferenceIdeal := hPoolUpDxReferenceIdeal)
    ∧ quiescent_PoolUpDw (hPoolUpDw := hPoolUpDw)
    ∧ quiescent_PoolUpDwIdeal (hPoolUpDwIdeal := hPoolUpDwIdeal)
    ∧ quiescent_PoolUpDwReferenceIdeal (hPoolUpDwReferenceIdeal := hPoolUpDwReferenceIdeal)
    ∧ quiescent_MemO (hMemO := hMemO)
    ∧ quiescent_MemOIdeal (hMemOIdeal := hMemOIdeal)
    ∧ quiescent_MemOReferenceIdeal (hMemOReferenceIdeal := hMemOReferenceIdeal)
    ∧ quiescent_MemODw (hMemODw := hMemODw)
    ∧ quiescent_MemODwIdeal (hMemODwIdeal := hMemODwIdeal)
    ∧ quiescent_MemODwReferenceIdeal (hMemODwReferenceIdeal := hMemODwReferenceIdeal)
    ∧ quiescent_MemKv (hMemKv := hMemKv)
    ∧ quiescent_MemKvIdeal (hMemKvIdeal := hMemKvIdeal)
    ∧ quiescent_MemKvReferenceIdeal (hMemKvReferenceIdeal := hMemKvReferenceIdeal)
    ∧ quiescent_MemKvDx (hMemKvDx := hMemKvDx)
    ∧ quiescent_MemKvDxIdeal (hMemKvDxIdeal := hMemKvDxIdeal)
    ∧ quiescent_MemKvDxReferenceIdeal (hMemKvDxReferenceIdeal := hMemKvDxReferenceIdeal)
    ∧ quiescent_MemKvDw (hMemKvDw := hMemKvDw)
    ∧ quiescent_MemKvDwIdeal (hMemKvDwIdeal := hMemKvDwIdeal)
    ∧ quiescent_MemKvDwReferenceIdeal (hMemKvDwReferenceIdeal := hMemKvDwReferenceIdeal)
    ∧ quiescent_FfnGu (hFfnGu := hFfnGu)
    ∧ quiescent_FfnGuIdeal (hFfnGuIdeal := hFfnGuIdeal)
    ∧ quiescent_FfnGuReferenceIdeal (hFfnGuReferenceIdeal := hFfnGuReferenceIdeal)
    ∧ quiescent_FfnDown (hFfnDown := hFfnDown)
    ∧ quiescent_FfnDownIdeal (hFfnDownIdeal := hFfnDownIdeal)
    ∧ quiescent_FfnDownReferenceIdeal (hFfnDownReferenceIdeal := hFfnDownReferenceIdeal)
    ∧ quiescent_FfnDa (hFfnDa := hFfnDa)
    ∧ quiescent_FfnDaIdeal (hFfnDaIdeal := hFfnDaIdeal)
    ∧ quiescent_FfnDaReferenceIdeal (hFfnDaReferenceIdeal := hFfnDaReferenceIdeal)
    ∧ quiescent_FfnDwd (hFfnDwd := hFfnDwd)
    ∧ quiescent_FfnDwdIdeal (hFfnDwdIdeal := hFfnDwdIdeal)
    ∧ quiescent_FfnDwdReferenceIdeal (hFfnDwdReferenceIdeal := hFfnDwdReferenceIdeal)
    ∧ quiescent_FfnDwgu (hFfnDwgu := hFfnDwgu)
    ∧ quiescent_FfnDwguIdeal (hFfnDwguIdeal := hFfnDwguIdeal)
    ∧ quiescent_FfnDwguReferenceIdeal (hFfnDwguReferenceIdeal := hFfnDwguReferenceIdeal)
    ∧ quiescent_FfnDh (hFfnDh := hFfnDh)
    ∧ quiescent_FfnDhIdeal (hFfnDhIdeal := hFfnDhIdeal)
    ∧ quiescent_FfnDhReferenceIdeal (hFfnDhReferenceIdeal := hFfnDhReferenceIdeal)
    ∧ quiescent_MixIn (hMixIn := hMixIn)
    ∧ quiescent_MixInIdeal (hMixInIdeal := hMixInIdeal)
    ∧ quiescent_MixInReferenceIdeal (hMixInReferenceIdeal := hMixInReferenceIdeal)
    ∧ quiescent_MixInDw (hMixInDw := hMixInDw)
    ∧ quiescent_MixInDwIdeal (hMixInDwIdeal := hMixInDwIdeal)
    ∧ quiescent_MixInDwReferenceIdeal (hMixInDwReferenceIdeal := hMixInDwReferenceIdeal)
    ∧ quiescent_MixInDx (hMixInDx := hMixInDx)
    ∧ quiescent_MixInDxIdeal (hMixInDxIdeal := hMixInDxIdeal)
    ∧ quiescent_MixInDxReferenceIdeal (hMixInDxReferenceIdeal := hMixInDxReferenceIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Dgu_DguIdeal
    ∧ algebraic_DguIdeal_DguReferenceIdeal_pre_finite_dgu (hDguIdeal := hDguIdeal) (hDguReferenceIdeal := hDguReferenceIdeal) (hPre_finite_dgu := hPre_finite_dgu)
    ∧ preserves_Rms_RmsIdeal
    ∧ algebraic_RmsIdeal_RmsReferenceIdeal_pre_finite_rms (hRmsIdeal := hRmsIdeal) (hRmsReferenceIdeal := hRmsReferenceIdeal) (hPre_finite_rms := hPre_finite_rms)
    ∧ preserves_MemDrms_MemDrmsIdeal
    ∧ algebraic_MemDrmsIdeal_MemDrmsReferenceIdeal_pre_finite_mem_drms (hMemDrmsIdeal := hMemDrmsIdeal) (hMemDrmsReferenceIdeal := hMemDrmsReferenceIdeal) (hPre_finite_mem_drms := hPre_finite_mem_drms)
    ∧ preserves_Loss_LossIdeal
    ∧ algebraic_LossIdeal_LossReferenceIdeal (hLossIdeal := hLossIdeal) (hLossReferenceIdeal := hLossReferenceIdeal)
    ∧ preserves_MemFwd_MemFwdIdeal
    ∧ algebraic_MemFwdIdeal_MemFwdReferenceIdeal (hMemFwdIdeal := hMemFwdIdeal) (hMemFwdReferenceIdeal := hMemFwdReferenceIdeal)
    ∧ preserves_FoxFwd_FoxFwdIdeal
    ∧ algebraic_FoxFwdIdeal_FoxFwdReferenceIdeal_pre_finite_fox (hFoxFwdIdeal := hFoxFwdIdeal) (hFoxFwdReferenceIdeal := hFoxFwdReferenceIdeal) (hPre_finite_fox := hPre_finite_fox)
    ∧ preserves_Gate_GateIdeal
    ∧ algebraic_GateIdeal_GateReferenceIdeal (hGateIdeal := hGateIdeal) (hGateReferenceIdeal := hGateReferenceIdeal)
    ∧ preserves_Dwd_DwdIdeal
    ∧ algebraic_DwdIdeal_DwdReferenceIdeal (hDwdIdeal := hDwdIdeal) (hDwdReferenceIdeal := hDwdReferenceIdeal)
    ∧ preserves_Gu_GuIdeal
    ∧ algebraic_GuIdeal_GuReferenceIdeal (hGuIdeal := hGuIdeal) (hGuReferenceIdeal := hGuReferenceIdeal)
    ∧ preserves_Down_DownIdeal
    ∧ algebraic_DownIdeal_DownReferenceIdeal (hDownIdeal := hDownIdeal) (hDownReferenceIdeal := hDownReferenceIdeal)
    ∧ preserves_MixOut_MixOutIdeal
    ∧ algebraic_MixOutIdeal_MixOutReferenceIdeal (hMixOutIdeal := hMixOutIdeal) (hMixOutReferenceIdeal := hMixOutReferenceIdeal)
    ∧ preserves_MixOutDx_MixOutDxIdeal
    ∧ algebraic_MixOutDxIdeal_MixOutDxReferenceIdeal (hMixOutDxIdeal := hMixOutDxIdeal) (hMixOutDxReferenceIdeal := hMixOutDxReferenceIdeal)
    ∧ preserves_MixOutDw_MixOutDwIdeal
    ∧ algebraic_MixOutDwIdeal_MixOutDwReferenceIdeal (hMixOutDwIdeal := hMixOutDwIdeal) (hMixOutDwReferenceIdeal := hMixOutDwReferenceIdeal)
    ∧ preserves_FoxO_FoxOIdeal
    ∧ algebraic_FoxOIdeal_FoxOReferenceIdeal (hFoxOIdeal := hFoxOIdeal) (hFoxOReferenceIdeal := hFoxOReferenceIdeal)
    ∧ preserves_FoxODx_FoxODxIdeal
    ∧ algebraic_FoxODxIdeal_FoxODxReferenceIdeal (hFoxODxIdeal := hFoxODxIdeal) (hFoxODxReferenceIdeal := hFoxODxReferenceIdeal)
    ∧ preserves_FoxODw_FoxODwIdeal
    ∧ algebraic_FoxODwIdeal_FoxODwReferenceIdeal (hFoxODwIdeal := hFoxODwIdeal) (hFoxODwReferenceIdeal := hFoxODwReferenceIdeal)
    ∧ preserves_PoolUp_PoolUpIdeal
    ∧ algebraic_PoolUpIdeal_PoolUpReferenceIdeal (hPoolUpIdeal := hPoolUpIdeal) (hPoolUpReferenceIdeal := hPoolUpReferenceIdeal)
    ∧ preserves_PoolUpDx_PoolUpDxIdeal
    ∧ algebraic_PoolUpDxIdeal_PoolUpDxReferenceIdeal (hPoolUpDxIdeal := hPoolUpDxIdeal) (hPoolUpDxReferenceIdeal := hPoolUpDxReferenceIdeal)
    ∧ preserves_PoolUpDw_PoolUpDwIdeal
    ∧ algebraic_PoolUpDwIdeal_PoolUpDwReferenceIdeal (hPoolUpDwIdeal := hPoolUpDwIdeal) (hPoolUpDwReferenceIdeal := hPoolUpDwReferenceIdeal)
    ∧ preserves_MemO_MemOIdeal
    ∧ algebraic_MemOIdeal_MemOReferenceIdeal (hMemOIdeal := hMemOIdeal) (hMemOReferenceIdeal := hMemOReferenceIdeal)
    ∧ preserves_MemODw_MemODwIdeal
    ∧ algebraic_MemODwIdeal_MemODwReferenceIdeal (hMemODwIdeal := hMemODwIdeal) (hMemODwReferenceIdeal := hMemODwReferenceIdeal)
    ∧ preserves_MemKv_MemKvIdeal
    ∧ algebraic_MemKvIdeal_MemKvReferenceIdeal (hMemKvIdeal := hMemKvIdeal) (hMemKvReferenceIdeal := hMemKvReferenceIdeal)
    ∧ preserves_MemKvDx_MemKvDxIdeal
    ∧ algebraic_MemKvDxIdeal_MemKvDxReferenceIdeal (hMemKvDxIdeal := hMemKvDxIdeal) (hMemKvDxReferenceIdeal := hMemKvDxReferenceIdeal)
    ∧ preserves_MemKvDw_MemKvDwIdeal
    ∧ algebraic_MemKvDwIdeal_MemKvDwReferenceIdeal (hMemKvDwIdeal := hMemKvDwIdeal) (hMemKvDwReferenceIdeal := hMemKvDwReferenceIdeal)
    ∧ preserves_FfnGu_FfnGuIdeal
    ∧ algebraic_FfnGuIdeal_FfnGuReferenceIdeal (hFfnGuIdeal := hFfnGuIdeal) (hFfnGuReferenceIdeal := hFfnGuReferenceIdeal)
    ∧ preserves_FfnDown_FfnDownIdeal
    ∧ algebraic_FfnDownIdeal_FfnDownReferenceIdeal (hFfnDownIdeal := hFfnDownIdeal) (hFfnDownReferenceIdeal := hFfnDownReferenceIdeal)
    ∧ preserves_FfnDa_FfnDaIdeal
    ∧ algebraic_FfnDaIdeal_FfnDaReferenceIdeal (hFfnDaIdeal := hFfnDaIdeal) (hFfnDaReferenceIdeal := hFfnDaReferenceIdeal)
    ∧ preserves_FfnDwd_FfnDwdIdeal
    ∧ algebraic_FfnDwdIdeal_FfnDwdReferenceIdeal (hFfnDwdIdeal := hFfnDwdIdeal) (hFfnDwdReferenceIdeal := hFfnDwdReferenceIdeal)
    ∧ preserves_FfnDwgu_FfnDwguIdeal
    ∧ algebraic_FfnDwguIdeal_FfnDwguReferenceIdeal (hFfnDwguIdeal := hFfnDwguIdeal) (hFfnDwguReferenceIdeal := hFfnDwguReferenceIdeal)
    ∧ preserves_FfnDh_FfnDhIdeal
    ∧ algebraic_FfnDhIdeal_FfnDhReferenceIdeal (hFfnDhIdeal := hFfnDhIdeal) (hFfnDhReferenceIdeal := hFfnDhReferenceIdeal)
    ∧ preserves_MixIn_MixInIdeal
    ∧ algebraic_MixInIdeal_MixInReferenceIdeal (hMixInIdeal := hMixInIdeal) (hMixInReferenceIdeal := hMixInReferenceIdeal)
    ∧ preserves_MixInDw_MixInDwIdeal
    ∧ algebraic_MixInDwIdeal_MixInDwReferenceIdeal (hMixInDwIdeal := hMixInDwIdeal) (hMixInDwReferenceIdeal := hMixInDwReferenceIdeal)
    ∧ preserves_MixInDx_MixInDxIdeal
    ∧ algebraic_MixInDxIdeal_MixInDxReferenceIdeal (hMixInDxIdeal := hMixInDxIdeal) (hMixInDxReferenceIdeal := hMixInDxReferenceIdeal)
-- ==== Pre_finite_dgu.lean ====
abbrev S4096x2048 : Shape := ⟨2, ![4096, 2048]⟩
abbrev S5632x2048 : Shape := ⟨2, ![5632, 2048]⟩
abbrev S2x4096x5632 : Shape := ⟨3, ![2, 4096, 5632]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  bcast_S_S5632x2048 : S_.BroadcastsInDim S5632x2048 (![] : Fin 0 → Fin S5632x2048.rank)
  bcast_S_S2x4096x5632 : S_.BroadcastsInDim S2x4096x5632 (![] : Fin 0 → Fin S2x4096x5632.rank)

variable [Facts]

def fn {F : FTy → Type} [FloatOps F] (main_arg0 : FVec F S4096x2048 .bf16) (main_arg1 : FVec F S5632x2048 .f32) (main_arg2 : FVec F S2x4096x5632 .f32) : IVec S4096x2048 1 × IVec S5632x2048 1 × IVec S2x4096x5632 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_v4 : FVec F S5632x2048 .f32 := Host.absf main_arg1
  let main_cst_0 : FVec F S_ .f32 := constant S_ .f32 0x7F800000#32
  let main_v5 : FVec F S5632x2048 .f32 := broadcastInDim S5632x2048 ![] bcast_S_S5632x2048 main_cst_0
  let main_v6 : IVec S5632x2048 1 := cmpf .olt main_v4 main_v5
  let main_v7 : FVec F S2x4096x5632 .f32 := Host.absf main_arg2
  let main_cst_1 : FVec F S_ .f32 := constant S_ .f32 0x7F800000#32
  let main_v8 : FVec F S2x4096x5632 .f32 := broadcastInDim S2x4096x5632 ![] bcast_S_S2x4096x5632 main_cst_1
  let main_v9 : IVec S2x4096x5632 1 := cmpf .olt main_v7 main_v8
  (main_v3, main_v6, main_v9)
-- ==== Pre_finite_fox.lean ====
abbrev S2x2048x16x64 : Shape := ⟨4, ![2, 2048, 16, 64]⟩
abbrev S2x2048x16 : Shape := ⟨3, ![2, 2048, 16]⟩
abbrev S_ : Shape := ⟨0, ![]⟩

class Facts : Prop where
  bcast_S_S2x2048x16x64 : S_.BroadcastsInDim S2x2048x16x64 (![] : Fin 0 → Fin S2x2048x16x64.rank)
  bcast_S_S2x2048x16 : S_.BroadcastsInDim S2x2048x16 (![] : Fin 0 → Fin S2x2048x16.rank)

variable [Facts]

def fn {F : FTy → Type} [FloatOps F] (main_arg0 : FVec F S2x2048x16x64 .f32) (main_arg1 : FVec F S2x2048x16x64 .f32) (main_arg2 : FVec F S2x2048x16x64 .f32) (main_arg3 : FVec F S2x2048x16 .f32) : IVec S2x2048x16x64 1 × IVec S2x2048x16x64 1 × IVec S2x2048x16 1 :=
  let main_v0 : FVec F S2x2048x16x64 .f32 := Host.absf main_arg0
  let main_cst : FVec F S_ .f32 := constant S_ .f32 0x7F800000#32
  let main_v1 : FVec F S2x2048x16x64 .f32 := broadcastInDim S2x2048x16x64 ![] bcast_S_S2x2048x16x64 main_cst
  let main_v2 : IVec S2x2048x16x64 1 := cmpf .olt main_v0 main_v1
  let main_v3 : FVec F S2x2048x16x64 .f32 := Host.absf main_arg1
  let main_cst_0 : FVec F S_ .f32 := constant S_ .f32 0x7F800000#32
  let main_v4 : FVec F S2x2048x16x64 .f32 := broadcastInDim S2x2048x16x64 ![] bcast_S_S2x2048x16x64 main_cst_0
  let main_v5 : IVec S2x2048x16x64 1 := cmpf .olt main_v3 main_v4
  let main_v6 : FVec F S2x2048x16 .f32 := Host.absf main_arg3
  let main_cst_1 : FVec F S_ .f32 := constant S_ .f32 0x7F800000#32
  let main_v7 : FVec F S2x2048x16 .f32 := broadcastInDim S2x2048x16 ![] bcast_S_S2x2048x16 main_cst_1
  let main_v8 : IVec S2x2048x16 1 := cmpf .olt main_v6 main_v7
  (main_v2, main_v5, main_v8)
-- ==== Pre_finite_mem_drms.lean ====
abbrev S512x2048 : Shape := ⟨2, ![512, 2048]⟩
abbrev S1x2048 : Shape := ⟨2, ![1, 2048]⟩
abbrev S_ : Shape := ⟨0, ![]⟩

class Facts : Prop where
  bcast_S_S512x2048 : S_.BroadcastsInDim S512x2048 (![] : Fin 0 → Fin S512x2048.rank)
  bcast_S_S1x2048 : S_.BroadcastsInDim S1x2048 (![] : Fin 0 → Fin S1x2048.rank)

variable [Facts]

def fn {F : FTy → Type} [FloatOps F] (main_arg0 : FVec F S512x2048 .f32) (main_arg1 : FVec F S1x2048 .f32) (main_arg2 : FVec F S512x2048 .f32) : IVec S512x2048 1 × IVec S1x2048 1 × IVec S512x2048 1 :=
  let main_v0 : FVec F S512x2048 .f32 := Host.absf main_arg0
  let main_cst : FVec F S_ .f32 := constant S_ .f32 0x7F800000#32
  let main_v1 : FVec F S512x2048 .f32 := broadcastInDim S512x2048 ![] bcast_S_S512x2048 main_cst
  let main_v2 : IVec S512x2048 1 := cmpf .olt main_v0 main_v1
  let main_v3 : FVec F S1x2048 .f32 := Host.absf main_arg1
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S512x2048 .f32 := Host.absf main_arg2
  let main_cst_1 : FVec F S_ .f32 := constant S_ .f32 0x7F800000#32
  let main_v7 : FVec F S512x2048 .f32 := broadcastInDim S512x2048 ![] bcast_S_S512x2048 main_cst_1
  let main_v8 : IVec S512x2048 1 := cmpf .olt main_v6 main_v7
  (main_v2, main_v5, main_v8)
-- ==== Pre_finite_qk.lean ====
abbrev S2x2048x4x128 : Shape := ⟨4, ![2, 2048, 4, 128]⟩
abbrev S2x256x4x128 : Shape := ⟨4, ![2, 256, 4, 128]⟩
abbrev S_ : Shape := ⟨0, ![]⟩

class Facts : Prop where
  bcast_S_S2x2048x4x128 : S_.BroadcastsInDim S2x2048x4x128 (![] : Fin 0 → Fin S2x2048x4x128.rank)
  bcast_S_S2x256x4x128 : S_.BroadcastsInDim S2x256x4x128 (![] : Fin 0 → Fin S2x256x4x128.rank)

variable [Facts]

def fn {F : FTy → Type} [FloatOps F] (main_arg0 : FVec F S2x2048x4x128 .f32) (main_arg1 : FVec F S2x256x4x128 .f32) (main_arg2 : FVec F S2x256x4x128 .f32) (main_arg3 : FVec F S2x2048x4x128 .f32) : IVec S2x2048x4x128 1 × IVec S2x256x4x128 1 :=
  let main_v0 : FVec F S2x2048x4x128 .f32 := Host.absf main_arg0
  let main_cst : FVec F S_ .f32 := constant S_ .f32 0x7F800000#32
  let main_v1 : FVec F S2x2048x4x128 .f32 := broadcastInDim S2x2048x4x128 ![] bcast_S_S2x2048x4x128 main_cst
  let main_v2 : IVec S2x2048x4x128 1 := cmpf .olt main_v0 main_v1
  let main_v3 : FVec F S2x256x4x128 .f32 := Host.absf main_arg1
  let main_cst_0 : FVec F S_ .f32 := constant S_ .f32 0x7F800000#32
  let main_v4 : FVec F S2x256x4x128 .f32 := broadcastInDim S2x256x4x128 ![] bcast_S_S2x256x4x128 main_cst_0
  let main_v5 : IVec S2x256x4x128 1 := cmpf .olt main_v3 main_v4
  (main_v2, main_v5)
-- ==== Pre_finite_rms.lean ====
abbrev S4096x2048 : Shape := ⟨2, ![4096, 2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  bcast_S_S1x2048 : S_.BroadcastsInDim S1x2048 (![] : Fin 0 → Fin S1x2048.rank)

variable [Facts]

def fn {F : FTy → Type} [FloatOps F] (main_arg0 : FVec F S4096x2048 .f32) (main_arg1 : FVec F S1x2048 .f32) (main_arg2 : FVec F S4096x2048 .f32) (main_arg3 : FVec F S4096x2048 .f32) : IVec S4096x2048 1 × IVec S1x2048 1 × IVec S4096x2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S1x2048 .f32 := Host.absf main_arg1
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S4096x2048 .f32 := Host.absf main_arg2
  let main_cst_1 : FVec F S_ .f32 := constant S_ .f32 0x7F800000#32
  let main_v7 : FVec F S4096x2048 .f32 := broadcastInDim S4096x2048 ![] bcast_S_S4096x2048 main_cst_1
  let main_v8 : IVec S4096x2048 1 := cmpf .olt main_v6 main_v7
  (main_v2, main_v5, main_v8)
-- ==== Kernel.lean ====
abbrev S2x2048x4x128 : Shape := ⟨4, ![2, 2048, 4, 128]⟩
abbrev S2x256x4x128 : Shape := ⟨4, ![2, 256, 4, 128]⟩
abbrev S4096x512 : Shape := ⟨2, ![4096, 512]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 14
  | .vmem => 14
  | .smem => 0
  | _ => 0

abbrev bufTy : (tb : Table) → Fin (tcTables nBuf tb) → BufTy
  | .hbm, ⟨0, _⟩ => ⟨S2x2048x4x128, .f32⟩
  | .hbm, ⟨1, _⟩ => ⟨S2x256x4x128, .f32⟩
  | .hbm, ⟨2, _⟩ => ⟨S2x256x4x128, .f32⟩
  | .hbm, ⟨3, _⟩ => ⟨S2x2048x4x128, .f32⟩
  | .hbm, ⟨4, _⟩ => ⟨S4096x512, .f32⟩
  | .hbm, ⟨5, _⟩ => ⟨S4096x512, .bf16⟩
  | .hbm, ⟨6, _⟩ => ⟨S512x512, .f32⟩
  | .hbm, ⟨7, _⟩ => ⟨S512x512, .bf16⟩
  | .hbm, ⟨8, _⟩ => ⟨S512x512, .f32⟩
  | .hbm, ⟨9, _⟩ => ⟨S512x512, .bf16⟩
  | .hbm, ⟨10, _⟩ => ⟨S4096x512, .f32⟩
  | .hbm, ⟨11, _⟩ => ⟨S4096x512, .f32⟩
  | .hbm, ⟨12, _⟩ => ⟨S512x512, .f32⟩
  | .hbm, ⟨13, _⟩ => ⟨S512x512, .f32⟩
  | .local _ .vmem, ⟨0, _⟩ => ⟨S512x128, .bf16⟩
  | .local _ .vmem, ⟨1, _⟩ => ⟨S512x128, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S2x2048x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 4, 4], ![false, false, false]⟩

def k0_cond1 (i : grid0.Coords) : BitVec 1 :=
  let arg2 : BitVec 32 := BitVec.ofNat 32 (i 2).val
  let c0_i32 : BitVec 32 := 0#32
  let v36 : BitVec 1 := Scalar.cmpi .eq arg2 c0_i32
  let v37 : BitVec 32 := Scalar.extui v36
  let c0_i32_18 : BitVec 32 := 0#32
  let v38 : BitVec 1 := Scalar.cmpi .ne v37 c0_i32_18
  v38

def k0_cond2 (i : grid0.Coords) : BitVec 1 :=
  let arg2 : BitVec 32 := BitVec.ofNat 32 (i 2).val
  let c0_i32_19 : BitVec 32 := 0#32
  let v39 : BitVec 1 := Scalar.cmpi .sgt arg2 c0_i32_19
  let v40 : BitVec 32 := Scalar.extui v39
  let c0_i32_20 : BitVec 32 := 0#32
  let v41 : BitVec 1 := Scalar.cmpi .ne v40 c0_i32_20
  v41

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== KernelIdeal.lean ====
abbrev S2x2048x4x128 : Shape := ⟨4, ![2, 2048, 4, 128]⟩
abbrev S2x256x4x128 : Shape := ⟨4, ![2, 256, 4, 128]⟩
abbrev S4096x512 : Shape := ⟨2, ![4096, 512]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 14
  | .vmem => 14
  | .smem => 0
  | _ => 0

abbrev bufTy : (tb : Table) → Fin (tcTables nBuf tb) → BufTy
  | .hbm, ⟨0, _⟩ => ⟨S2x2048x4x128, .f32⟩
  | .hbm, ⟨1, _⟩ => ⟨S2x256x4x128, .f32⟩
  | .hbm, ⟨2, _⟩ => ⟨S2x256x4x128, .f32⟩
  | .hbm, ⟨3, _⟩ => ⟨S2x2048x4x128, .f32⟩
  | .hbm, ⟨4, _⟩ => ⟨S4096x512, .f32⟩
  | .hbm, ⟨5, _⟩ => ⟨S4096x512, .bf16⟩
  | .hbm, ⟨6, _⟩ => ⟨S512x512, .f32⟩
  | .hbm, ⟨7, _⟩ => ⟨S512x512, .bf16⟩
  | .hbm, ⟨8, _⟩ => ⟨S512x512, .f32⟩
  | .hbm, ⟨9, _⟩ => ⟨S512x512, .bf16⟩
  | .hbm, ⟨10, _⟩ => ⟨S4096x512, .f32⟩
  | .hbm, ⟨11, _⟩ => ⟨S4096x512, .f32⟩
  | .hbm, ⟨12, _⟩ => ⟨S512x512, .f32⟩
  | .hbm, ⟨13, _⟩ => ⟨S512x512, .f32⟩
  | .local _ .vmem, ⟨0, _⟩ => ⟨S512x128, .bf16⟩
  | .local _ .vmem, ⟨1, _⟩ => ⟨S512x128, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S2x2048x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 4, 4], ![false, false, false]⟩

def k0_cond1 (i : grid0.Coords) : BitVec 1 :=
  let arg2 : BitVec 32 := BitVec.ofNat 32 (i 2).val
  let c0_i32 : BitVec 32 := 0#32
  let v36 : BitVec 1 := Scalar.cmpi .eq arg2 c0_i32
  let v37 : BitVec 32 := Scalar.extui v36
  let c0_i32_18 : BitVec 32 := 0#32
  let v38 : BitVec 1 := Scalar.cmpi .ne v37 c0_i32_18
  v38

def k0_cond2 (i : grid0.Coords) : BitVec 1 :=
  let arg2 : BitVec 32 := BitVec.ofNat 32 (i 2).val
  let c0_i32_19 : BitVec 32 := 0#32
  let v39 : BitVec 1 := Scalar.cmpi .sgt arg2 c0_i32_19
  let v40 : BitVec 32 := Scalar.extui v39
  let c0_i32_20 : BitVec 32 := 0#32
  let v41 : BitVec 1 := Scalar.cmpi .ne v40 c0_i32_20
  v41

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== ReferenceIdeal.lean ====
abbrev S2x2048x4x128 : Shape := ⟨4, ![2, 2048, 4, 128]⟩
abbrev S2x256x4x128 : Shape := ⟨4, ![2, 256, 4, 128]⟩
abbrev S2x4x2048x256 : Shape := ⟨4, ![2, 4, 2048, 256]⟩
abbrev S_ : Shape := ⟨0, ![]⟩
abbrev S2x4x2048 : Shape := ⟨3, ![2, 4, 2048]⟩
abbrev S2x4x2048x1 : Shape := ⟨4, ![2, 4, 2048, 1]⟩
abbrev S2x4x128x2048 : Shape := ⟨4, ![2, 4, 128, 2048]⟩
abbrev S2x4x128x256 : Shape := ⟨4, ![2, 4, 128, 256]⟩
abbrev S2x4x256x128 : Shape := ⟨4, ![2, 4, 256, 128]⟩
abbrev S2x4x2048x128 : Shape := ⟨4, ![2, 4, 2048, 128]⟩
abbrev S4096x512 : Shape := ⟨2, ![4096, 512]⟩
abbrev S512x512 : Shape := ⟨2, ![512, 512]⟩

abbrev nBuf : Space → Nat
  | .hbm => 76
  | .vmem => 0
  | .smem => 0
  | _ => 0

abbrev bufTy : (tb : Table) → Fin (tcTables nBuf tb) → BufTy
  | .hbm, ⟨0, _⟩ => ⟨S2x2048x4x128, .f32⟩
  | .hbm, ⟨1, _⟩ => ⟨S2x256x4x128, .f32⟩
  | .hbm, ⟨2, _⟩ => ⟨S2x256x4x128, .f32⟩
  | .hbm, ⟨3, _⟩ => ⟨S2x2048x4x128, .f32⟩
  | .hbm, ⟨4, _⟩ => ⟨S2x4x2048x256, .f32⟩
  | .hbm, ⟨5, _⟩ => ⟨S_, .f32⟩
  | .hbm, ⟨6, _⟩ => ⟨S2x4x2048x256, .f32⟩
  | .hbm, ⟨7, _⟩ => ⟨S2x4x2048x256, .f32⟩
  | .hbm, ⟨8, _⟩ => ⟨S_, .f32⟩
  | .hbm, ⟨9, _⟩ => ⟨S2x4x2048, .f32⟩
  | .hbm, ⟨10, _⟩ => ⟨S2x4x2048x1, .f32⟩
  | .hbm, ⟨11, _⟩ => ⟨S2x4x2048x256, .f32⟩
  | .hbm, ⟨12, _⟩ => ⟨S2x4x2048x256, .i1⟩
  | .hbm, ⟨13, _⟩ => ⟨S2x4x2048x256, .f32⟩
  | .hbm, ⟨14, _⟩ => ⟨S_, .f32⟩
  | .hbm, ⟨15, _⟩ => ⟨S2x4x2048, .f32⟩
  | .hbm, ⟨16, _⟩ => ⟨S_, .f32⟩
  | .hbm, ⟨17, _⟩ => ⟨S2x4x2048, .f32⟩
  | .hbm, ⟨18, _⟩ => ⟨S2x4x2048, .f32⟩
  | .hbm, ⟨19, _⟩ => ⟨S_, .f32⟩
  | .hbm, ⟨20, _⟩ => ⟨S2x4x2048, .f32⟩
  | .hbm, ⟨21, _⟩ => ⟨S2x4x2048, .i1⟩
  | .hbm, ⟨22, _⟩ => ⟨S_, .f32⟩
  | .hbm, ⟨23, _⟩ => ⟨S2x4x2048, .f32⟩
  | .hbm, ⟨24, _⟩ => ⟨S2x4x2048, .i1⟩
  | .hbm, ⟨25, _⟩ => ⟨S_, .f32⟩
  | .hbm, ⟨26, _⟩ => ⟨S2x4x2048, .f32⟩
  | .hbm, ⟨27, _⟩ => ⟨S_, .f32⟩
  | .hbm, ⟨28, _⟩ => ⟨S2x4x2048, .f32⟩
  | .hbm, ⟨29, _⟩ => ⟨S_, .f32⟩
  | .hbm, ⟨30, _⟩ => ⟨S2x4x2048, .f32⟩
  | .hbm, ⟨31, _⟩ => ⟨S2x4x2048, .f32⟩
  | .hbm, ⟨32, _⟩ => ⟨S2x4x2048, .f32⟩
  | .hbm, ⟨33, _⟩ => ⟨S2x4x2048x1, .f32⟩
  | .hbm, ⟨34, _⟩ => ⟨S2x4x2048x256, .f32⟩
  | .hbm, ⟨35, _⟩ => ⟨S2x4x2048x256, .f32⟩
  | .hbm, ⟨36, _⟩ => ⟨S2x4x2048x256, .f32⟩
  | .hbm, ⟨37, _⟩ => ⟨S_, .f32⟩
  | .hbm, ⟨38, _⟩ => ⟨S2x4x2048, .f32⟩
  | .hbm, ⟨39, _⟩ => ⟨S2x4x2048x1, .f32⟩
  | .hbm, ⟨40, _⟩ => ⟨S2x4x2048x256, .f32⟩
  | .hbm, ⟨41, _⟩ => ⟨S2x4x2048x256, .f32⟩
  | .hbm, ⟨42, _⟩ => ⟨S2x4x2048x1, .f32⟩
  | .hbm, ⟨43, _⟩ => ⟨S_, .f32⟩
  | .hbm, ⟨44, _⟩ => ⟨S2x4x2048x1, .f32⟩
  | .hbm, ⟨45, _⟩ => ⟨S2x4x2048x1, .f32⟩
  | .hbm, ⟨46, _⟩ => ⟨S2x4x128x2048, .f32⟩
  | .hbm, ⟨47, _⟩ => ⟨S2x2048x4x128, .f32⟩
  | .hbm, ⟨48, _⟩ => ⟨S2x4x128x2048, .f32⟩
  | .hbm, ⟨49, _⟩ => ⟨S2x4x2048x256, .f32⟩
  | .hbm, ⟨50, _⟩ => ⟨S2x4x128x256, .f32⟩
  | .hbm, ⟨51, _⟩ => ⟨S2x256x4x128, .f32⟩
  | .hbm, ⟨52, _⟩ => ⟨S2x4x2048x256, .f32⟩
  | .hbm, ⟨53, _⟩ => ⟨S2x4x2048x256, .f32⟩
  | .hbm, ⟨54, _⟩ => ⟨S2x4x2048x256, .f32⟩
  | .hbm, ⟨55, _⟩ => ⟨S_, .f32⟩
  | .hbm, ⟨56, _⟩ => ⟨S2x4x2048, .f32⟩
  | .hbm, ⟨57, _⟩ => ⟨S2x4x2048x1, .f32⟩
  | .hbm, ⟨58, _⟩ => ⟨S2x4x2048x1, .f32⟩
  | .hbm, ⟨59, _⟩ => ⟨S2x4x2048x256, .f32⟩
  | .hbm, ⟨60, _⟩ => ⟨S2x4x2048x256, .f32⟩
  | .hbm, ⟨61, _⟩ => ⟨S_, .f32⟩
  | .hbm, ⟨62, _⟩ => ⟨S2x4x2048, .f32⟩
  | .hbm, ⟨63, _⟩ => ⟨S2x4x2048x256, .f32⟩
  | .hbm, ⟨64, _⟩ => ⟨S2x4x2048x256, .f32⟩
  | .hbm, ⟨65, _⟩ => ⟨S2x4x2048x256, .f32⟩
  | .hbm, ⟨66, _⟩ => ⟨S_, .f32⟩
  | .hbm, ⟨67, _⟩ => ⟨S2x4x2048x256, .f32⟩
  | .hbm, ⟨68, _⟩ => ⟨S2x4x2048x256, .f32⟩
  | .hbm, ⟨69, _⟩ => ⟨S2x4x256x128, .f32⟩
  | .hbm, ⟨70, _⟩ => ⟨S2x256x4x128, .f32⟩
  | .hbm, ⟨71, _⟩ => ⟨S2x4x2048x128, .f32⟩
  | .hbm, ⟨72, _⟩ => ⟨S2x2048x4x128, .f32⟩
  | .hbm, ⟨73, _⟩ => ⟨S4096x512, .f32⟩
  | .hbm, ⟨74, _⟩ => ⟨S512x512, .f32⟩
  | .hbm, ⟨75, _⟩ => ⟨S512x512, .f32⟩
  | _, _ => ⟨S2x2048x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_cst_7 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_9 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_11 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_12 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩

abbrev nD : Nat := 1
abbrev τ : Topo := Topo.v7x

variable {F : FTy → Type} [FloatOps F]
-- ==== Dgu.lean ====
abbrev S4096x2048 : Shape := ⟨2, ![4096, 2048]⟩
abbrev S5632x2048 : Shape := ⟨2, ![5632, 2048]⟩
abbrev S2x4096x5632 : Shape := ⟨3, ![2, 4096, 5632]⟩
abbrev S1024x2048 : Shape := ⟨2, ![1024, 2048]⟩
abbrev S512x2048 : Shape := ⟨2, ![512, 2048]⟩
abbrev S2x1024x512 : Shape := ⟨3, ![2, 1024, 512]⟩
abbrev S1024x512 : Shape := ⟨2, ![1024, 512]⟩
abbrev S1x1024x512 : Shape := ⟨3, ![1, 1024, 512]⟩

abbrev nBuf : Space → Nat
  | .hbm => 5
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .f32⟩
  | .hbm, ⟨2, _⟩ => ⟨S2x4096x5632, .f32⟩
  | .hbm, ⟨3, _⟩ => ⟨S5632x2048, .bf16⟩
  | .hbm, ⟨4, _⟩ => ⟨S2x4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S2x1024x512, .f32⟩
  | .local _ .vmem, ⟨5, _⟩ => ⟨S2x1024x512, .f32⟩
  | .local _ .vmem, ⟨6, _⟩ => ⟨S2x1024x512, .bf16⟩
  | .local _ .vmem, ⟨7, _⟩ => ⟨S2x1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DguReferenceIdeal.lean ====
abbrev S4096x2048 : Shape := ⟨2, ![4096, 2048]⟩
abbrev S5632x2048 : Shape := ⟨2, ![5632, 2048]⟩
abbrev S2x4096x5632 : Shape := ⟨3, ![2, 4096, 5632]⟩
abbrev S1x4096x5632 : Shape := ⟨3, ![1, 4096, 5632]⟩
abbrev S4096x5632 : Shape := ⟨2, ![4096, 5632]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .f32⟩
  | .hbm, ⟨2, _⟩ => ⟨S2x4096x5632, .f32⟩
  | .hbm, ⟨3, _⟩ => ⟨S1x4096x5632, .f32⟩
  | .hbm, ⟨4, _⟩ => ⟨S4096x5632, .f32⟩
  | .hbm, ⟨5, _⟩ => ⟨S1x4096x5632, .f32⟩
  | .hbm, ⟨6, _⟩ => ⟨S4096x5632, .f32⟩
  | .hbm, ⟨7, _⟩ => ⟨S4096x5632, .f32⟩
  | .hbm, ⟨8, _⟩ => ⟨S4096x5632, .f32⟩
  | .hbm, ⟨9, _⟩ => ⟨S_, .f32⟩
  | .hbm, ⟨10, _⟩ => ⟨S4096x5632, .f32⟩
  | .hbm, ⟨11, _⟩ => ⟨S4096x5632, .f32⟩
  | .hbm, ⟨12, _⟩ => ⟨S_, .f32⟩
  | .hbm, ⟨13, _⟩ => ⟨S4096x5632, .f32⟩
  | .hbm, ⟨14, _⟩ => ⟨S4096x5632, .f32⟩
  | .hbm, ⟨15, _⟩ => ⟨S_, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S4096x5632, .f32⟩
  | .hbm, ⟨33, _⟩ => ⟨S4096x5632, .f32⟩
  | .hbm, ⟨34, _⟩ => ⟨S4096x5632, .f32⟩
  | .hbm, ⟨35, _⟩ => ⟨S4096x5632, .f32⟩
  | .hbm, ⟨36, _⟩ => ⟨S1x4096x5632, .f32⟩
  | .hbm, ⟨37, _⟩ => ⟨S1x4096x5632, .f32⟩
  | .hbm, ⟨38, _⟩ => ⟨S2x4096x5632, .f32⟩
  | .hbm, ⟨39, _⟩ => ⟨S2x4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v4_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v4_1 : Ref sig .tc := ⟨.hbm, 18, rfl⟩
abbrev main_v4_0 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩

abbrev nD : Nat := 1
abbrev τ : Topo := Topo.v7x

variable {F : FTy → Type} [FloatOps F]
-- ==== Rms.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v34 : BitVec 32 := Scalar.extui v0
  let c0_i32_16 : BitVec 32 := 0#32
  let v35 : BitVec 1 := Scalar.cmpi .ne v34 c0_i32_16
  v35

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v36 : BitVec 1 := Scalar.xori v0 v_true
  let v37 : BitVec 32 := Scalar.extui v36
  let c0_i32_17 : BitVec 32 := 0#32
  let v38 : BitVec 1 := Scalar.cmpi .ne v37 c0_i32_17
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RmsReferenceIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 48
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== MemDrms.lean ====
abbrev S512x2048 : Shape := ⟨2, ![512, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S512x2048, .f32⟩
  | .hbm, ⟨1, _⟩ => ⟨S1x2048, .f32⟩
  | .hbm, ⟨2, _⟩ => ⟨S512x2048, .f32⟩
  | .hbm, ⟨3, _⟩ => ⟨S512x2048, .f32⟩
  | .hbm, ⟨4, _⟩ => ⟨S512x2048, .bf16⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S1x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![2], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v32 : BitVec 32 := Scalar.extui v0
  let c0_i32_14 : BitVec 32 := 0#32
  let v33 : BitVec 1 := Scalar.cmpi .ne v32 c0_i32_14
  v33

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v34 : BitVec 1 := Scalar.xori v0 v_true
  let v35 : BitVec 32 := Scalar.extui v34
  let c0_i32_15 : BitVec 32 := 0#32
  let v36 : BitVec 1 := Scalar.cmpi .ne v35 c0_i32_15
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== MemDrmsReferenceIdeal.lean ====
abbrev S512x2048 : Shape := ⟨2, ![512, 2048]⟩
abbrev S1x2048 : Shape := ⟨2, ![1, 2048]⟩
abbrev S_ : Shape := ⟨0, ![]⟩
abbrev S512 : Shape := ⟨1, ![512]⟩
abbrev S512x1 : Shape := ⟨2, ![512, 1]⟩
abbrev S2048 : Shape := ⟨1, ![2048]⟩

abbrev nBuf : Space → Nat
  | .hbm => 46
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S1x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x1, .f32⟩
  | .hbm, ⟨15, _⟩ => ⟨S_, .f32⟩
  | .hbm, ⟨16, _⟩ => ⟨S512x1, .f32⟩
  | .hbm, ⟨17, _⟩ => ⟨S512x1, .f32⟩
  | .hbm, ⟨18, _⟩ => ⟨S512x2048, .f32⟩
  | .hbm, ⟨19, _⟩ => ⟨S512x2048, .f32⟩
  | .hbm, ⟨20, _⟩ => ⟨S512x2048, .f32⟩
  | .hbm, ⟨21, _⟩ => ⟨S512x2048, .f32⟩
  | .hbm, ⟨22, _⟩ => ⟨S512x2048, .f32⟩
  | .hbm, ⟨23, _⟩ => ⟨S_, .f32⟩
  | .hbm, ⟨24, _⟩ => ⟨S2048, .f32⟩
  | .hbm, ⟨25, _⟩ => ⟨S1x2048, .f32⟩
  | .hbm, ⟨26, _⟩ => ⟨S512x2048, .f32⟩
  | .hbm, ⟨27, _⟩ => ⟨S512x2048, .f32⟩
  | .hbm, ⟨28, _⟩ => ⟨S512x2048, .f32⟩
  | .hbm, ⟨29, _⟩ => ⟨S_, .f32⟩
  | .hbm, ⟨30, _⟩ => ⟨S512, .f32⟩
  | .hbm, ⟨31, _⟩ => ⟨S512x1, .f32⟩
  | .hbm, ⟨32, _⟩ => ⟨S512x2048, .f32⟩
  | .hbm, ⟨33, _⟩ => ⟨S512x2048, .f32⟩
  | .hbm, ⟨34, _⟩ => ⟨S512x1, .f32⟩
  | .hbm, ⟨35, _⟩ => ⟨S_, .f32⟩
  | .hbm, ⟨36, _⟩ => ⟨S512x1, .f32⟩
  | .hbm, ⟨37, _⟩ => ⟨S512x1, .f32⟩
  | .hbm, ⟨38, _⟩ => ⟨S_, .f32⟩
  | .hbm, ⟨39, _⟩ => ⟨S512, .f32⟩
  | .hbm, ⟨40, _⟩ => ⟨S512x2048, .f32⟩
  | .hbm, ⟨41, _⟩ => ⟨S512x2048, .f32⟩
  | .hbm, ⟨42, _⟩ => ⟨S512x2048, .f32⟩
  | .hbm, ⟨43, _⟩ => ⟨S512x2048, .f32⟩
  | .hbm, ⟨44, _⟩ => ⟨S512x2048, .f32⟩
  | .hbm, ⟨45, _⟩ => ⟨S512x2048, .bf16⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Loss.lean ====
abbrev S4096x2048 : Shape := ⟨2, ![4096, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 5
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .bf16⟩
  | .hbm, ⟨4, _⟩ => ⟨S1x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .bf16⟩
  | .local _ .vmem, ⟨7, _⟩ => ⟨S256x2048, .bf16⟩
  | .local _ .vmem, ⟨8, _⟩ => ⟨S1x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v20 : BitVec 32 := Scalar.extui v0
  let c0_i32_11 : BitVec 32 := 0#32
  let v21 : BitVec 1 := Scalar.cmpi .ne v20 c0_i32_11
  v21

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v22 : BitVec 1 := Scalar.xori v0 v_true
  let v23 : BitVec 32 := Scalar.extui v22
  let c0_i32_12 : BitVec 32 := 0#32
  let v24 : BitVec 1 := Scalar.cmpi .ne v23 c0_i32_12
  v24

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== LossReferenceIdeal.lean ====
abbrev S4096x2048 : Shape := ⟨2, ![4096, 2048]⟩
abbrev S_ : Shape := ⟨0, ![]⟩
abbrev S4096 : Shape := ⟨1, ![4096]⟩
abbrev S1x128 : Shape := ⟨2, ![1, 128]⟩

abbrev nBuf : Space → Nat
  | .hbm => 27
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x2048, .f32⟩
  | .hbm, ⟨24, _⟩ => ⟨S4096x2048, .f32⟩
  | .hbm, ⟨25, _⟩ => ⟨S4096x2048, .bf16⟩
  | .hbm, ⟨26, _⟩ => ⟨S1x128, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== MemFwd.lean ====
abbrev S2x2048x4x128 : Shape := ⟨4, ![2, 2048, 4, 128]⟩
abbrev S2x256x4x128 : Shape := ⟨4, ![2, 256, 4, 128]⟩
abbrev S4096x512 : Shape := ⟨2, ![4096, 512]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 10
  | .vmem => 8
  | .smem => 0
  | _ => 0

abbrev bufTy : (tb : Table) → Fin (tcTables nBuf tb) → BufTy
  | .hbm, ⟨0, _⟩ => ⟨S2x2048x4x128, .f32⟩
  | .hbm, ⟨1, _⟩ => ⟨S2x256x4x128, .f32⟩
  | .hbm, ⟨2, _⟩ => ⟨S2x256x4x128, .f32⟩
  | .hbm, ⟨3, _⟩ => ⟨S4096x512, .f32⟩
  | .hbm, ⟨4, _⟩ => ⟨S4096x512, .bf16⟩
  | .hbm, ⟨5, _⟩ => ⟨S512x512, .f32⟩
  | .hbm, ⟨6, _⟩ => ⟨S512x512, .bf16⟩
  | .hbm, ⟨7, _⟩ => ⟨S512x512, .f32⟩
  | .hbm, ⟨8, _⟩ => ⟨S512x512, .bf16⟩
  | .hbm, ⟨9, _⟩ => ⟨S4096x512, .f32⟩
  | .local _ .vmem, ⟨0, _⟩ => ⟨S512x128, .bf16⟩
  | .local _ .vmem, ⟨1, _⟩ => ⟨S512x128, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S512x128, .f32⟩
  | .local _ .vmem, ⟨7, _⟩ => ⟨S512x128, .f32⟩
  | _, _ => ⟨S2x2048x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== MemFwdReferenceIdeal.lean ====
abbrev S2x2048x4x128 : Shape := ⟨4, ![2, 2048, 4, 128]⟩
abbrev S2x256x4x128 : Shape := ⟨4, ![2, 256, 4, 128]⟩
abbrev S2x4x2048x256 : Shape := ⟨4, ![2, 4, 2048, 256]⟩
abbrev S_ : Shape := ⟨0, ![]⟩
abbrev S2x4x2048 : Shape := ⟨3, ![2, 4, 2048]⟩
abbrev S2x4x2048x1 : Shape := ⟨4, ![2, 4, 2048, 1]⟩
abbrev S2x4x128x2048 : Shape := ⟨4, ![2, 4, 128, 2048]⟩
abbrev S4096x512 : Shape := ⟨2, ![4096, 512]⟩

abbrev nBuf : Space → Nat
  | .hbm => 24
  | .vmem => 0
  | .smem => 0
  | _ => 0

abbrev bufTy : (tb : Table) → Fin (tcTables nBuf tb) → BufTy
  | .hbm, ⟨0, _⟩ => ⟨S2x2048x4x128, .f32⟩
  | .hbm, ⟨1, _⟩ => ⟨S2x256x4x128, .f32⟩
  | .hbm, ⟨2, _⟩ => ⟨S2x256x4x128, .f32⟩
  | .hbm, ⟨3, _⟩ => ⟨S2x4x2048x256, .f32⟩
  | .hbm, ⟨4, _⟩ => ⟨S_, .f32⟩
  | .hbm, ⟨5, _⟩ => ⟨S2x4x2048x256, .f32⟩
  | .hbm, ⟨6, _⟩ => ⟨S2x4x2048x256, .f32⟩
  | .hbm, ⟨7, _⟩ => ⟨S_, .f32⟩
  | .hbm, ⟨8, _⟩ => ⟨S2x4x2048, .f32⟩
  | .hbm, ⟨9, _⟩ => ⟨S_, .f32⟩
  | .hbm, ⟨10, _⟩ => ⟨S2x4x2048, .f32⟩
  | .hbm, ⟨11, _⟩ => ⟨S2x4x2048, .f32⟩
  | .hbm, ⟨12, _⟩ => ⟨S2x4x2048x1, .f32⟩
  | .hbm, ⟨13, _⟩ => ⟨S2x4x2048x256, .f32⟩
  | .hbm, ⟨14, _⟩ => ⟨S2x4x2048x256, .f32⟩
  | .hbm, ⟨15, _⟩ => ⟨S2x4x2048x256, .f32⟩
  | .hbm, ⟨16, _⟩ => ⟨S_, .f32⟩
  | .hbm, ⟨17, _⟩ => ⟨S2x4x2048, .f32⟩
  | .hbm, ⟨18, _⟩ => ⟨S2x4x2048x1, .f32⟩
  | .hbm, ⟨19, _⟩ => ⟨S2x4x2048x256, .f32⟩
  | .hbm, ⟨20, _⟩ => ⟨S2x4x2048x256, .f32⟩
  | .hbm, ⟨21, _⟩ => ⟨S2x4x128x2048, .f32⟩
  | .hbm, ⟨22, _⟩ => ⟨S2x2048x4x128, .f32⟩
  | .hbm, ⟨23, _⟩ => ⟨S4096x512, .f32⟩
  | _, _ => ⟨S2x2048x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== FoxFwd.lean ====
abbrev S2x2048x16x64 : Shape := ⟨4, ![2, 2048, 16, 64]⟩
abbrev S2x2048x16 : Shape := ⟨3, ![2, 2048, 16]⟩
abbrev S4096x1024 : Shape := ⟨2, ![4096, 1024]⟩
abbrev S2x16x2048 : Shape := ⟨3, ![2, 16, 2048]⟩
abbrev S16x2x2048 : Shape := ⟨3, ![16, 2, 2048]⟩
abbrev S512x128 : Shape := ⟨2, ![512, 128]⟩
abbrev S2048x128 : Shape := ⟨2, ![2048, 128]⟩
abbrev S1x2x2048 : Shape := ⟨3, ![1, 2, 2048]⟩
abbrev S1x128 : Shape := ⟨2, ![1, 128]⟩
abbrev S512x512 : Shape := ⟨2, ![512, 512]⟩
abbrev S512x1 : Shape := ⟨2, ![512, 1]⟩
abbrev S1x1x512 : Shape := ⟨3, ![1, 1, 512]⟩
abbrev S1x512 : Shape := ⟨2, ![1, 512]⟩
abbrev S512 : Shape := ⟨1, ![512]⟩

abbrev nBuf : Space → Nat
  | .hbm => 14
  | .vmem => 12
  | .smem => 0
  | _ => 0

abbrev bufTy : (tb : Table) → Fin (tcTables nBuf tb) → BufTy
  | .hbm, ⟨0, _⟩ => ⟨S2x2048x16x64, .f32⟩
  | .hbm, ⟨1, _⟩ => ⟨S2x2048x16x64, .f32⟩
  | .hbm, ⟨2, _⟩ => ⟨S2x2048x16x64, .f32⟩
  | .hbm, ⟨3, _⟩ => ⟨S2x2048x16, .f32⟩
  | .hbm, ⟨4, _⟩ => ⟨S4096x1024, .f32⟩
  | .hbm, ⟨5, _⟩ => ⟨S4096x1024, .bf16⟩
  | .hbm, ⟨6, _⟩ => ⟨S4096x1024, .f32⟩
  | .hbm, ⟨7, _⟩ => ⟨S4096x1024, .bf16⟩
  | .hbm, ⟨8, _⟩ => ⟨S4096x1024, .f32⟩
  | .hbm, ⟨9, _⟩ => ⟨S4096x1024, .bf16⟩
  | .hbm, ⟨10, _⟩ => ⟨S2x16x2048, .f32⟩
  | .hbm, ⟨11, _⟩ => ⟨S16x2x2048, .f32⟩
  | .hbm, ⟨12, _⟩ => ⟨S4096x1024, .f32⟩
  | .hbm, ⟨13, _⟩ => ⟨S4096x1024, .f32⟩
  | .local _ .vmem, ⟨0, _⟩ => ⟨S512x128, .bf16⟩
  | .local _ .vmem, ⟨1, _⟩ => ⟨S512x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S1x2x2048, .f32⟩
  | .local _ .vmem, ⟨7, _⟩ => ⟨S1x2x2048, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | _, _ => ⟨S2x2048x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 8, 4], ![false, false, false]⟩

@[reducible] def k0_t1_loop (i : grid0.Coords) : Scf.Loop 32 :=
  let c0_i32 : BitVec 32 := 0#32
  let arg2 : BitVec 32 := BitVec.ofNat 32 (i 2).val
  let c1_i32 : BitVec 32 := 1#32
  let v14 : BitVec 32 := Scalar.addi arg2 c1_i32
  let v15 : BitVec 32 := Scalar.subi v14 c0_i32
  let c1_i32_4 : BitVec 32 := 1#32
  let v17 : BitVec 32 := Scalar.divsi v15 c1_i32_4
  let v18 : BitVec 32 := Scalar.muli v17 c1_i32_4
  let v19 : BitVec 32 := Scalar.addi c0_i32 v18
  let c1_i32_5 : BitVec 32 := 1#32
  ⟨c0_i32, v19, c1_i32_5⟩
def k0_mult1 (i : grid0.Coords) (k0_t1 : Fin (k0_t1_loop i).trips) : BitVec 32 :=
  let c0_i32 : BitVec 32 := 0#32
  let c1_i32_5 : BitVec 32 := 1#32
  let arg9 : BitVec 32 := Scf.iv c0_i32 c1_i32_5 k0_t1
  let c512_i32 : BitVec 32 := 512#32
  let v63 : BitVec 32 := Scalar.muli arg9 c512_i32
  v63
def k0_off1 (i : grid0.Coords) (k0_t1 : Fin (k0_t1_loop i).trips) : Fin 2 → Nat :=
  let c0_i32 : BitVec 32 := 0#32
  let c1_i32_5 : BitVec 32 := 1#32
  let arg9 : BitVec 32 := Scf.iv c0_i32 c1_i32_5 k0_t1
  let c512_i32 : BitVec 32 := 512#32
  let v63 : BitVec 32 := Scalar.muli arg9 c512_i32
  let v64 : BitVec 32 := v63
  let v65 : Index := Scalar.indexCast v64
  let c0_23 : Index := 0#32
  ![v65.toNat, 0]
def k0_off2 (i : grid0.Coords) (k0_t1 : Fin (k0_t1_loop i).trips) : Fin 3 → Nat :=
  let c0_27 : Index := 0#32
  let c0_28 : Index := 0#32
  let c0_i32 : BitVec 32 := 0#32
  let c1_i32_5 : BitVec 32 := 1#32
  let arg9 : BitVec 32 := Scf.iv c0_i32 c1_i32_5 k0_t1
  let c512_i32 : BitVec 32 := 512#32
  let v63 : BitVec 32 := Scalar.muli arg9 c512_i32
  let v64 : BitVec 32 := v63
  let v74 : Index := Scalar.indexCast v64
  ![0, 0, v74.toNat]
@[reducible] def k0_t2_loop (i : grid0.Coords) : Scf.Loop 32 :=
  let c0_i32 : BitVec 32 := 0#32
  let arg2 : BitVec 32 := BitVec.ofNat 32 (i 2).val
  let c1_i32 : BitVec 32 := 1#32
  let v14 : BitVec 32 := Scalar.addi arg2 c1_i32
  let v15 : BitVec 32 := Scalar.subi v14 c0_i32
  let c1_i32_4 : BitVec 32 := 1#32
  let v17 : BitVec 32 := Scalar.divsi v15 c1_i32_4
  let v18 : BitVec 32 := Scalar.muli v17 c1_i32_4
  let v19 : BitVec 32 := Scalar.addi c0_i32 v18
  let v16 : BitVec 32 := Scalar.addi c0_i32 v15
  let c1_i32_6 : BitVec 32 := 1#32
  ⟨v19, v16, c1_i32_6⟩
def k0_mult2 (i : grid0.Coords) (k0_t2 : Fin (k0_t2_loop i).trips) : BitVec 32 :=
  let c0_i32 : BitVec 32 := 0#32
  let arg2 : BitVec 32 := BitVec.ofNat 32 (i 2).val
  let c1_i32 : BitVec 32 := 1#32
  let v14 : BitVec 32 := Scalar.addi arg2 c1_i32
  let v15 : BitVec 32 := Scalar.subi v14 c0_i32
  let c1_i32_4 : BitVec 32 := 1#32
  let v17 : BitVec 32 := Scalar.divsi v15 c1_i32_4
  let v18 : BitVec 32 := Scalar.muli v17 c1_i32_4
  let v19 : BitVec 32 := Scalar.addi c0_i32 v18
  let c1_i32_6 : BitVec 32 := 1#32
  let arg9 : BitVec 32 := Scf.iv v19 c1_i32_6 k0_t2
  let c512_i32 : BitVec 32 := 512#32
  let v63 : BitVec 32 := Scalar.muli arg9 c512_i32
  v63
def k0_off3 (i : grid0.Coords) (k0_t2 : Fin (k0_t2_loop i).trips) : Fin 2 → Nat :=
  let c0_i32 : BitVec 32 := 0#32
  let arg2 : BitVec 32 := BitVec.ofNat 32 (i 2).val
  let c1_i32 : BitVec 32 := 1#32
  let v14 : BitVec 32 := Scalar.addi arg2 c1_i32
  let v15 : BitVec 32 := Scalar.subi v14 c0_i32
  let c1_i32_4 : BitVec 32 := 1#32
  let v17 : BitVec 32 := Scalar.divsi v15 c1_i32_4
  let v18 : BitVec 32 := Scalar.muli v17 c1_i32_4
  let v19 : BitVec 32 := Scalar.addi c0_i32 v18
  let c1_i32_6 : BitVec 32 := 1#32
  let arg9 : BitVec 32 := Scf.iv v19 c1_i32_6 k0_t2
  let c512_i32 : BitVec 32 := 512#32
  let v63 : BitVec 32 := Scalar.muli arg9 c512_i32
  let v64 : BitVec 32 := v63
  let v65 : Index := Scalar.indexCast v64
  let c0_23 : Index := 0#32
  ![v65.toNat, 0]
def k0_off4 (i : grid0.Coords) (k0_t2 : Fin (k0_t2_loop i).trips) : Fin 3 → Nat :=
  let c0_27 : Index := 0#32
  let c0_28 : Index := 0#32
  let c0_i32 : BitVec 32 := 0#32
  let arg2 : BitVec 32 := BitVec.ofNat 32 (i 2).val
  let c1_i32 : BitVec 32 := 1#32
  let v14 : BitVec 32 := Scalar.addi arg2 c1_i32
  let v15 : BitVec 32 := Scalar.subi v14 c0_i32
  let c1_i32_4 : BitVec 32 := 1#32
  let v17 : BitVec 32 := Scalar.divsi v15 c1_i32_4
  let v18 : BitVec 32 := Scalar.muli v17 c1_i32_4
  let v19 : BitVec 32 := Scalar.addi c0_i32 v18
  let c1_i32_6 : BitVec 32 := 1#32
  let arg9 : BitVec 32 := Scf.iv v19 c1_i32_6 k0_t2
  let c512_i32 : BitVec 32 := 512#32
  let v63 : BitVec 32 := Scalar.muli arg9 c512_i32
  let v64 : BitVec 32 := v63
  let v74 : Index := Scalar.indexCast v64
  ![0, 0, v74.toNat]
@[reducible] def k0_t3_loop (i : grid0.Coords) : Scf.Loop 32 :=
  let c0_i32_13 : BitVec 32 := 0#32
  let arg2 : BitVec 32 := BitVec.ofNat 32 (i 2).val
  let c1_i32_12 : BitVec 32 := 1#32
  let v37 : BitVec 32 := Scalar.addi arg2 c1_i32_12
  let v38 : BitVec 32 := Scalar.subi v37 c0_i32_13
  let c1_i32_14 : BitVec 32 := 1#32
  let v40 : BitVec 32 := Scalar.divsi v38 c1_i32_14
  let v41 : BitVec 32 := Scalar.muli v40 c1_i32_14
  let v42 : BitVec 32 := Scalar.addi c0_i32_13 v41
  let c1_i32_15 : BitVec 32 := 1#32
  ⟨c0_i32_13, v42, c1_i32_15⟩
def k0_mult3 (i : grid0.Coords) (k0_t3 : Fin (k0_t3_loop i).trips) : BitVec 32 :=
  let c0_i32_13 : BitVec 32 := 0#32
  let c1_i32_15 : BitVec 32 := 1#32
  let arg9 : BitVec 32 := Scf.iv c0_i32_13 c1_i32_15 k0_t3
  let c512_i32 : BitVec 32 := 512#32
  let v63 : BitVec 32 := Scalar.muli arg9 c512_i32
  v63
def k0_off5 (i : grid0.Coords) (k0_t3 : Fin (k0_t3_loop i).trips) : Fin 2 → Nat :=
  let c0_i32_13 : BitVec 32 := 0#32
  let c1_i32_15 : BitVec 32 := 1#32
  let arg9 : BitVec 32 := Scf.iv c0_i32_13 c1_i32_15 k0_t3
  let c512_i32 : BitVec 32 := 512#32
  let v63 : BitVec 32 := Scalar.muli arg9 c512_i32
  let v64 : BitVec 32 := v63
  let v65 : Index := Scalar.indexCast v64
  let c0_23 : Index := 0#32
  ![v65.toNat, 0]
def k0_off6 (i : grid0.Coords) (k0_t3 : Fin (k0_t3_loop i).trips) : Fin 3 → Nat :=
  let c0_27 : Index := 0#32
  let c1 : Index := 1#32
  let c0_i32_13 : BitVec 32 := 0#32
  let c1_i32_15 : BitVec 32 := 1#32
  let arg9 : BitVec 32 := Scf.iv c0_i32_13 c1_i32_15 k0_t3
  let c512_i32 : BitVec 32 := 512#32
  let v63 : BitVec 32 := Scalar.muli arg9 c512_i32
  let v64 : BitVec 32 := v63
  let v74 : Index := Scalar.indexCast v64
  ![0, 1, v74.toNat]
@[reducible] def k0_t4_loop (i : grid0.Coords) : Scf.Loop 32 :=
  let c0_i32_13 : BitVec 32 := 0#32
  let arg2 : BitVec 32 := BitVec.ofNat 32 (i 2).val
  let c1_i32_12 : BitVec 32 := 1#32
  let v37 : BitVec 32 := Scalar.addi arg2 c1_i32_12
  let v38 : BitVec 32 := Scalar.subi v37 c0_i32_13
  let c1_i32_14 : BitVec 32 := 1#32
  let v40 : BitVec 32 := Scalar.divsi v38 c1_i32_14
  let v41 : BitVec 32 := Scalar.muli v40 c1_i32_14
  let v42 : BitVec 32 := Scalar.addi c0_i32_13 v41
  let v39 : BitVec 32 := Scalar.addi c0_i32_13 v38
  let c1_i32_16 : BitVec 32 := 1#32
  ⟨v42, v39, c1_i32_16⟩
def k0_mult4 (i : grid0.Coords) (k0_t4 : Fin (k0_t4_loop i).trips) : BitVec 32 :=
  let c0_i32_13 : BitVec 32 := 0#32
  let arg2 : BitVec 32 := BitVec.ofNat 32 (i 2).val
  let c1_i32_12 : BitVec 32 := 1#32
  let v37 : BitVec 32 := Scalar.addi arg2 c1_i32_12
  let v38 : BitVec 32 := Scalar.subi v37 c0_i32_13
  let c1_i32_14 : BitVec 32 := 1#32
  let v40 : BitVec 32 := Scalar.divsi v38 c1_i32_14
  let v41 : BitVec 32 := Scalar.muli v40 c1_i32_14
  let v42 : BitVec 32 := Scalar.addi c0_i32_13 v41
  let c1_i32_16 : BitVec 32 := 1#32
  let arg9 : BitVec 32 := Scf.iv v42 c1_i32_16 k0_t4
  let c512_i32 : BitVec 32 := 512#32
  let v63 : BitVec 32 := Scalar.muli arg9 c512_i32
  v63
def k0_off7 (i : grid0.Coords) (k0_t4 : Fin (k0_t4_loop i).trips) : Fin 2 → Nat :=
  let c0_i32_13 : BitVec 32 := 0#32
  let arg2 : BitVec 32 := BitVec.ofNat 32 (i 2).val
  let c1_i32_12 : BitVec 32 := 1#32
  let v37 : BitVec 32 := Scalar.addi arg2 c1_i32_12
  let v38 : BitVec 32 := Scalar.subi v37 c0_i32_13
  let c1_i32_14 : BitVec 32 := 1#32
  let v40 : BitVec 32 := Scalar.divsi v38 c1_i32_14
  let v41 : BitVec 32 := Scalar.muli v40 c1_i32_14
  let v42 : BitVec 32 := Scalar.addi c0_i32_13 v41
  let c1_i32_16 : BitVec 32 := 1#32
  let arg9 : BitVec 32 := Scf.iv v42 c1_i32_16 k0_t4
  let c512_i32 : BitVec 32 := 512#32
  let v63 : BitVec 32 := Scalar.muli arg9 c512_i32
  let v64 : BitVec 32 := v63
  let v65 : Index := Scalar.indexCast v64
  let c0_23 : Index := 0#32
  ![v65.toNat, 0]
def k0_off8 (i : grid0.Coords) (k0_t4 : Fin (k0_t4_loop i).trips) : Fin 3 → Nat :=
  let c0_27 : Index := 0#32
  let c1 : Index := 1#32
  let c0_i32_13 : BitVec 32 := 0#32
  let arg2 : BitVec 32 := BitVec.ofNat 32 (i 2).val
  let c1_i32_12 : BitVec 32 := 1#32
  let v37 : BitVec 32 := Scalar.addi arg2 c1_i32_12
  let v38 : BitVec 32 := Scalar.subi v37 c0_i32_13
  let c1_i32_14 : BitVec 32 := 1#32
  let v40 : BitVec 32 := Scalar.divsi v38 c1_i32_14
  let v41 : BitVec 32 := Scalar.muli v40 c1_i32_14
  let v42 : BitVec 32 := Scalar.addi c0_i32_13 v41
  let c1_i32_16 : BitVec 32 := 1#32
  let arg9 : BitVec 32 := Scf.iv v42 c1_i32_16 k0_t4
  let c512_i32 : BitVec 32 := 512#32
  let v63 : BitVec 32 := Scalar.muli arg9 c512_i32
  let v64 : BitVec 32 := v63
  let v74 : Index := Scalar.indexCast v64
  ![0, 1, v74.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== FoxFwdIdeal.lean ====
variable {F : FTy → Type} [FloatOps F] [Named F]
def κ : String → Option EReal := fun
  | "masked" => some ⊥
  | _ => none
-- ==== FoxFwdReferenceIdeal.lean ====
abbrev S2x2048x16x64 : Shape := ⟨4, ![2, 2048, 16, 64]⟩
abbrev S2x2048x16 : Shape := ⟨3, ![2, 2048, 16]⟩
abbrev S2x16x2048 : Shape := ⟨3, ![2, 16, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2x16x2048x2048 : Shape := ⟨4, ![2, 16, 2048, 2048]⟩
abbrev S_ : Shape := ⟨0, ![]⟩
abbrev S2x16x2048x1 : Shape := ⟨4, ![2, 16, 2048, 1]⟩
abbrev S2x16x1x2048 : Shape := ⟨4, ![2, 16, 1, 2048]⟩
abbrev S2x16x64x2048 : Shape := ⟨4, ![2, 16, 64, 2048]⟩
abbrev S2x2048x16x1 : Shape := ⟨4, ![2, 2048, 16, 1]⟩
abbrev S4096x1024 : Shape := ⟨2, ![4096, 1024]⟩

abbrev nBuf : Space → Nat
  | .hbm => 61
  | .vmem => 0
  | .smem => 0
  | _ => 0

abbrev bufTy : (tb : Table) → Fin (tcTables nBuf tb) → BufTy
  | .hbm, ⟨0, _⟩ => ⟨S2x2048x16x64, .f32⟩
  | .hbm, ⟨1, _⟩ => ⟨S2x2048x16x64, .f32⟩
  | .hbm, ⟨2, _⟩ => ⟨S2x2048x16x64, .f32⟩
  | .hbm, ⟨3, _⟩ => ⟨S2x2048x16, .f32⟩
  | .hbm, ⟨4, _⟩ => ⟨S2x16x2048, .f32⟩
  | .hbm, ⟨5, _⟩ => ⟨S2048, .i32⟩
  | .hbm, ⟨6, _⟩ => ⟨S2048x1, .i32⟩
  | .hbm, ⟨7, _⟩ => ⟨S2048, .i32⟩
  | .hbm, ⟨8, _⟩ => ⟨S1x2048, .i32⟩
  | .hbm, ⟨9, _⟩ => ⟨S2048x2048, .i32⟩
  | .hbm, ⟨10, _⟩ => ⟨S2048x2048, .i32⟩
  | .hbm, ⟨11, _⟩ => ⟨S2048x2048, .i1⟩
  | .hbm, ⟨12, _⟩ => ⟨S2x16x2048x2048, .i1⟩
  | .hbm, ⟨13, _⟩ => ⟨S_, .f32⟩
  | .hbm, ⟨14, _⟩ => ⟨S2x16x2048x2048, .f32⟩
  | .hbm, ⟨15, _⟩ => ⟨S2x16x2048x2048, .f32⟩
  | .hbm, ⟨16, _⟩ => ⟨S_, .f32⟩
  | .hbm, ⟨17, _⟩ => ⟨S2x16x2048x2048, .f32⟩
  | .hbm, ⟨18, _⟩ => ⟨S2x16x2048x2048, .f32⟩
  | .hbm, ⟨19, _⟩ => ⟨S2x16x2048x1, .f32⟩
  | .hbm, ⟨20, _⟩ => ⟨S2x16x2048x2048, .f32⟩
  | .hbm, ⟨21, _⟩ => ⟨S2x16x2048x2048, .f32⟩
  | .hbm, ⟨22, _⟩ => ⟨S2x16x1x2048, .f32⟩
  | .hbm, ⟨23, _⟩ => ⟨S2x16x2048x2048, .f32⟩
  | .hbm, ⟨24, _⟩ => ⟨S2x16x2048x2048, .f32⟩
  | .hbm, ⟨25, _⟩ => ⟨S2x16x2048x2048, .f32⟩
  | .hbm, ⟨26, _⟩ => ⟨S_, .f32⟩
  | .hbm, ⟨27, _⟩ => ⟨S2x16x2048, .f32⟩
  | .hbm, ⟨28, _⟩ => ⟨S_, .f32⟩
  | .hbm, ⟨29, _⟩ => ⟨S2x16x2048, .f32⟩
  | .hbm, ⟨30, _⟩ => ⟨S2x16x2048, .f32⟩
  | .hbm, ⟨31, _⟩ => ⟨S2x16x2048x1, .f32⟩
  | .hbm, ⟨32, _⟩ => ⟨S2x16x2048x2048, .f32⟩
  | .hbm, ⟨33, _⟩ => ⟨S2x16x2048x2048, .f32⟩
  | .hbm, ⟨34, _⟩ => ⟨S2x16x2048x2048, .f32⟩
  | .hbm, ⟨35, _⟩ => ⟨S_, .f32⟩
  | .hbm, ⟨36, _⟩ => ⟨S2x16x2048, .f32⟩
  | .hbm, ⟨37, _⟩ => ⟨S2x16x2048x1, .f32⟩
  | .hbm, ⟨38, _⟩ => ⟨S2x16x2048x2048, .f32⟩
  | .hbm, ⟨39, _⟩ => ⟨S2x16x2048x2048, .f32⟩
  | .hbm, ⟨40, _⟩ => ⟨S2x16x64x2048, .f32⟩
  | .hbm, ⟨41, _⟩ => ⟨S2x2048x16x64, .f32⟩
  | .hbm, ⟨42, _⟩ => ⟨S2x16x1x2048, .f32⟩
  | .hbm, ⟨43, _⟩ => ⟨S2x16x2048x2048, .f32⟩
  | .hbm, ⟨44, _⟩ => ⟨S2x16x2048x2048, .f32⟩
  | .hbm, ⟨45, _⟩ => ⟨S2x16x2048x2048, .f32⟩
  | .hbm, ⟨46, _⟩ => ⟨S_, .f32⟩
  | .hbm, ⟨47, _⟩ => ⟨S2x16x2048, .f32⟩
  | .hbm, ⟨48, _⟩ => ⟨S2x16x2048x1, .f32⟩
  | .hbm, ⟨49, _⟩ => ⟨S2x16x2048x2048, .f32⟩
  | .hbm, ⟨50, _⟩ => ⟨S2x16x2048x2048, .f32⟩
  | .hbm, ⟨51, _⟩ => ⟨S2x16x2048x2048, .f32⟩
  | .hbm, ⟨52, _⟩ => ⟨S_, .f32⟩
  | .hbm, ⟨53, _⟩ => ⟨S2x16x2048, .f32⟩
  | .hbm, ⟨54, _⟩ => ⟨S2x16x2048x1, .f32⟩
  | .hbm, ⟨55, _⟩ => ⟨S2x16x2048x1, .f32⟩
  | .hbm, ⟨56, _⟩ => ⟨S2x16x2048x1, .f32⟩
  | .hbm, ⟨57, _⟩ => ⟨S2x2048x16x1, .f32⟩
  | .hbm, ⟨58, _⟩ => ⟨S2x2048x16x64, .f32⟩
  | .hbm, ⟨59, _⟩ => ⟨S4096x1024, .f32⟩
  | .hbm, ⟨60, _⟩ => ⟨S4096x1024, .f32⟩
  | _, _ => ⟨S2x2048x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_4 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_5 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩

abbrev nD : Nat := 1
abbrev τ : Topo := Topo.v7x

variable {F : FTy → Type} [FloatOps F]
-- ==== Gate.lean ====
abbrev S4096x10368 : Shape := ⟨2, ![4096, 10368]⟩
abbrev S4096x2048 : Shape := ⟨2, ![4096, 2048]⟩
abbrev S4096x6144 : Shape := ⟨2, ![4096, 6144]⟩
abbrev S128x2048 : Shape := ⟨2, ![128, 2048]⟩
abbrev S128x6144 : Shape := ⟨2, ![128, 6144]⟩

abbrev nBuf : Space → Nat
  | .hbm => 9
  | .vmem => 22
  | .smem => 0
  | _ => 0

abbrev bufTy : (tb : Table) → Fin (tcTables nBuf tb) → BufTy
  | .hbm, ⟨0, _⟩ => ⟨S4096x10368, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x6144, .bf16⟩
  | .hbm, ⟨6, _⟩ => ⟨S4096x2048, .bf16⟩
  | .hbm, ⟨7, _⟩ => ⟨S4096x2048, .bf16⟩
  | .hbm, ⟨8, _⟩ => ⟨S4096x2048, .bf16⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x6144, .bf16⟩
  | .local _ .vmem, ⟨15, _⟩ => ⟨S128x6144, .bf16⟩
  | .local _ .vmem, ⟨16, _⟩ => ⟨S128x2048, .bf16⟩
  | .local _ .vmem, ⟨17, _⟩ => ⟨S128x2048, .bf16⟩
  | .local _ .vmem, ⟨18, _⟩ => ⟨S128x2048, .bf16⟩
  | .local _ .vmem, ⟨19, _⟩ => ⟨S128x2048, .bf16⟩
  | .local _ .vmem, ⟨20, _⟩ => ⟨S128x2048, .bf16⟩
  | .local _ .vmem, ⟨21, _⟩ => ⟨S128x2048, .bf16⟩
  | _, _ => ⟨S4096x10368, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x6144 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== GateReferenceIdeal.lean ====
abbrev S4096x10368 : Shape := ⟨2, ![4096, 10368]⟩
abbrev S4096x2048 : Shape := ⟨2, ![4096, 2048]⟩
abbrev S4096x6144 : Shape := ⟨2, ![4096, 6144]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4096x10368, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x6144, .f32⟩
  | .hbm, ⟨6, _⟩ => ⟨S4096x6144, .f32⟩
  | .hbm, ⟨7, _⟩ => ⟨S4096x6144, .f32⟩
  | .hbm, ⟨8, _⟩ => ⟨S_, .f32⟩
  | .hbm, ⟨9, _⟩ => ⟨S4096x6144, .f32⟩
  | .hbm, ⟨10, _⟩ => ⟨S4096x6144, .f32⟩
  | .hbm, ⟨11, _⟩ => ⟨S_, .f32⟩
  | .hbm, ⟨12, _⟩ => ⟨S4096x6144, .f32⟩
  | .hbm, ⟨13, _⟩ => ⟨S4096x6144, .f32⟩
  | .hbm, ⟨14, _⟩ => ⟨S_, .f32⟩
  | .hbm, ⟨15, _⟩ => ⟨S4096x6144, .f32⟩
  | .hbm, ⟨16, _⟩ => ⟨S4096x6144, .f32⟩
  | .hbm, ⟨17, _⟩ => ⟨S4096x6144, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x6144, .f32⟩
  | .hbm, ⟨35, _⟩ => ⟨S4096x6144, .f32⟩
  | .hbm, ⟨36, _⟩ => ⟨S4096x6144, .bf16⟩
  | .hbm, ⟨37, _⟩ => ⟨S4096x2048, .bf16⟩
  | .hbm, ⟨38, _⟩ => ⟨S4096x2048, .bf16⟩
  | .hbm, ⟨39, _⟩ => ⟨S4096x2048, .bf16⟩
  | _, _ => ⟨S4096x10368, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]
-- ==== Dwd.lean ====
abbrev S4096x5632 : Shape := ⟨2, ![4096, 5632]⟩
abbrev S4096x2048 : Shape := ⟨2, ![4096, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwdReferenceIdeal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 15
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S5632x2048, .f32⟩
  | .hbm, ⟨4, _⟩ => ⟨S4096x5632, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S2048x5632, .f32⟩
  | .hbm, ⟨14, _⟩ => ⟨S5632x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Gu.lean ====
abbrev S4096x2048 : Shape := ⟨2, ![4096, 2048]⟩
abbrev S8x2048x1408 : Shape := ⟨3, ![8, 2048, 1408]⟩
abbrev S2x4096x5632 : Shape := ⟨3, ![2, 4096, 5632]⟩
abbrev S4096x5632 : Shape := ⟨2, ![4096, 5632]⟩
abbrev S512x2048 : Shape := ⟨2, ![512, 2048]⟩
abbrev S1x2048x1408 : Shape := ⟨3, ![1, 2048, 1408]⟩
abbrev S2x512x1408 : Shape := ⟨3, ![2, 512, 1408]⟩
abbrev S512x1408 : Shape := ⟨2, ![512, 1408]⟩
abbrev S2048x1408 : Shape := ⟨2, ![2048, 1408]⟩
abbrev S1x512x1408 : Shape := ⟨3, ![1, 512, 1408]⟩

abbrev nBuf : Space → Nat
  | .hbm => 4
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S8x2048x1408, .bf16⟩
  | .hbm, ⟨2, _⟩ => ⟨S2x4096x5632, .f32⟩
  | .hbm, ⟨3, _⟩ => ⟨S4096x5632, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S2x512x1408, .f32⟩
  | .local _ .vmem, ⟨7, _⟩ => ⟨S2x512x1408, .f32⟩
  | .local _ .vmem, ⟨8, _⟩ => ⟨S512x1408, .bf16⟩
  | .local _ .vmem, ⟨9, _⟩ => ⟨S512x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GuReferenceIdeal.lean ====
abbrev S4096x2048 : Shape := ⟨2, ![4096, 2048]⟩
abbrev S8x2048x1408 : Shape := ⟨3, ![8, 2048, 1408]⟩
abbrev S2048x8x1408 : Shape := ⟨3, ![2048, 8, 1408]⟩
abbrev S2048x11264 : Shape := ⟨2, ![2048, 11264]⟩
abbrev S4096x11264 : Shape := ⟨2, ![4096, 11264]⟩
abbrev S4096x5632 : Shape := ⟨2, ![4096, 5632]⟩
abbrev S1x4096x5632 : Shape := ⟨3, ![1, 4096, 5632]⟩
abbrev S2x4096x5632 : Shape := ⟨3, ![2, 4096, 5632]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x1408, .bf16⟩
  | .hbm, ⟨2, _⟩ => ⟨S2048x8x1408, .bf16⟩
  | .hbm, ⟨3, _⟩ => ⟨S2048x11264, .bf16⟩
  | .hbm, ⟨4, _⟩ => ⟨S2048x11264, .f32⟩
  | .hbm, ⟨5, _⟩ => ⟨S4096x2048, .f32⟩
  | .hbm, ⟨6, _⟩ => ⟨S4096x11264, .f32⟩
  | .hbm, ⟨7, _⟩ => ⟨S4096x5632, .f32⟩
  | .hbm, ⟨8, _⟩ => ⟨S4096x5632, .f32⟩
  | .hbm, ⟨9, _⟩ => ⟨S1x4096x5632, .f32⟩
  | .hbm, ⟨10, _⟩ => ⟨S1x4096x5632, .f32⟩
  | .hbm, ⟨11, _⟩ => ⟨S2x4096x5632, .f32⟩
  | .hbm, ⟨12, _⟩ => ⟨S4096x5632, .f32⟩
  | .hbm, ⟨13, _⟩ => ⟨S4096x5632, .f32⟩
  | .hbm, ⟨14, _⟩ => ⟨S_, .f32⟩
  | .hbm, ⟨15, _⟩ => ⟨S4096x5632, .f32⟩
  | .hbm, ⟨16, _⟩ => ⟨S4096x5632, .f32⟩
  | .hbm, ⟨17, _⟩ => ⟨S_, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S4096x5632, .f32⟩
  | .hbm, ⟨22, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩

abbrev nD : Nat := 1
abbrev τ : Topo := Topo.v7x

variable {F : FTy → Type} [FloatOps F]
-- ==== Down.lean ====
abbrev S4096x5632 : Shape := ⟨2, ![4096, 5632]⟩
abbrev S5632x2048 : Shape := ⟨2, ![5632, 2048]⟩
abbrev S4096x2048 : Shape := ⟨2, ![4096, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownReferenceIdeal.lean ====
abbrev S4096x5632 : Shape := ⟨2, ![4096, 5632]⟩
abbrev S5632x2048 : Shape := ⟨2, ![5632, 2048]⟩
abbrev S4096x2048 : Shape := ⟨2, ![4096, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== MixOut.lean ====
abbrev S4096x2048 : Shape := ⟨2, ![4096, 2048]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MixOutIdeal.lean ====
abbrev S4096x2048 : Shape := ⟨2, ![4096, 2048]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MixOutReferenceIdeal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MixOutDx.lean ====
abbrev S4096x2048 : Shape := ⟨2, ![4096, 2048]⟩
abbrev S2048x2048 : Shape := ⟨2, ![2048, 2048]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutDxIdeal.lean ====
abbrev S4096x2048 : Shape := ⟨2, ![4096, 2048]⟩
abbrev S2048x2048 : Shape := ⟨2, ![2048, 2048]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutDxReferenceIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MixOutDw.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutDwIdeal.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutDwReferenceIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FoxO.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x2048, .bf16⟩
  | .hbm, ⟨2, _⟩ => ⟨S4096x2048, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FoxOIdeal.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x2048, .bf16⟩
  | .hbm, ⟨2, _⟩ => ⟨S4096x2048, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FoxOReferenceIdeal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2048, .bf16⟩
  | .hbm, ⟨2, _⟩ => ⟨S1024x2048, .f32⟩
  | .hbm, ⟨3, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== FoxODx.lean ====
abbrev S4096x2048 : Shape := ⟨2, ![4096, 2048]⟩
abbrev S1024x2048 : Shape := ⟨2, ![1024, 2048]⟩
abbrev S4096x1024 : Shape := ⟨2, ![4096, 1024]⟩
abbrev S512x2048 : Shape := ⟨2, ![512, 2048]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FoxODxIdeal.lean ====
abbrev S4096x2048 : Shape := ⟨2, ![4096, 2048]⟩
abbrev S1024x2048 : Shape := ⟨2, ![1024, 2048]⟩
abbrev S4096x1024 : Shape := ⟨2, ![4096, 1024]⟩
abbrev S512x2048 : Shape := ⟨2, ![512, 2048]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FoxODxReferenceIdeal.lean ====
abbrev S4096x2048 : Shape := ⟨2, ![4096, 2048]⟩
abbrev S1024x2048 : Shape := ⟨2, ![1024, 2048]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S_, .f32⟩
  | .hbm, ⟨3, _⟩ => ⟨S4096x1024, .f32⟩
  | .hbm, ⟨4, _⟩ => ⟨S1024x2048, .f32⟩
  | .hbm, ⟨5, _⟩ => ⟨S4096x2048, .f32⟩
  | .hbm, ⟨6, _⟩ => ⟨S4096x2048, .f32⟩
  | .hbm, ⟨7, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FoxODw.lean ====
abbrev S4096x1024 : Shape := ⟨2, ![4096, 1024]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x2048, .bf16⟩
  | .hbm, ⟨2, _⟩ => ⟨S1024x2048, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FoxODwIdeal.lean ====
abbrev S4096x1024 : Shape := ⟨2, ![4096, 1024]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x2048, .bf16⟩
  | .hbm, ⟨2, _⟩ => ⟨S1024x2048, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FoxODwReferenceIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .bf16⟩
  | .hbm, ⟨2, _⟩ => ⟨S_, .f32⟩
  | .hbm, ⟨3, _⟩ => ⟨S1024x2048, .f32⟩
  | .hbm, ⟨4, _⟩ => ⟨S4096x2048, .f32⟩
  | .hbm, ⟨5, _⟩ => ⟨S4096x2048, .f32⟩
  | .hbm, ⟨6, _⟩ => ⟨S2048x1024, .f32⟩
  | .hbm, ⟨7, _⟩ => ⟨S1024x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== PoolUp.lean ====
abbrev S4096x512 : Shape := ⟨2, ![4096, 512]⟩
abbrev S512x2048 : Shape := ⟨2, ![512, 2048]⟩
abbrev S4096x2048 : Shape := ⟨2, ![4096, 2048]⟩
abbrev S1024x512 : Shape := ⟨2, ![1024, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S512x2048, .bf16⟩
  | .hbm, ⟨2, _⟩ => ⟨S4096x2048, .f32⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S1024x512, .f32⟩
  | .local _ .vmem, ⟨5, _⟩ => ⟨S1024x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PoolUpIdeal.lean ====
abbrev S4096x512 : Shape := ⟨2, ![4096, 512]⟩
abbrev S512x2048 : Shape := ⟨2, ![512, 2048]⟩
abbrev S4096x2048 : Shape := ⟨2, ![4096, 2048]⟩
abbrev S1024x512 : Shape := ⟨2, ![1024, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S512x2048, .bf16⟩
  | .hbm, ⟨2, _⟩ => ⟨S4096x2048, .f32⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S1024x512, .f32⟩
  | .local _ .vmem, ⟨5, _⟩ => ⟨S1024x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PoolUpReferenceIdeal.lean ====
abbrev S4096x512 : Shape := ⟨2, ![4096, 512]⟩
abbrev S512x2048 : Shape := ⟨2, ![512, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x2048, .bf16⟩
  | .hbm, ⟨2, _⟩ => ⟨S4096x512, .f32⟩
  | .hbm, ⟨3, _⟩ => ⟨S512x2048, .f32⟩
  | .hbm, ⟨4, _⟩ => ⟨S4096x2048, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== PoolUpDx.lean ====
abbrev S4096x2048 : Shape := ⟨2, ![4096, 2048]⟩
abbrev S512x2048 : Shape := ⟨2, ![512, 2048]⟩
abbrev S4096x512 : Shape := ⟨2, ![4096, 512]⟩
abbrev S1024x2048 : Shape := ⟨2, ![1024, 2048]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S512x2048, .bf16⟩
  | .hbm, ⟨2, _⟩ => ⟨S4096x512, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S1024x512, .f32⟩
  | .local _ .vmem, ⟨4, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PoolUpDxIdeal.lean ====
abbrev S4096x2048 : Shape := ⟨2, ![4096, 2048]⟩
abbrev S512x2048 : Shape := ⟨2, ![512, 2048]⟩
abbrev S4096x512 : Shape := ⟨2, ![4096, 512]⟩
abbrev S1024x2048 : Shape := ⟨2, ![1024, 2048]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S512x2048, .bf16⟩
  | .hbm, ⟨2, _⟩ => ⟨S4096x512, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S1024x512, .f32⟩
  | .local _ .vmem, ⟨4, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PoolUpDxReferenceIdeal.lean ====
abbrev S4096x2048 : Shape := ⟨2, ![4096, 2048]⟩
abbrev S512x2048 : Shape := ⟨2, ![512, 2048]⟩
abbrev S_ : Shape := ⟨0, ![]⟩
abbrev S4096x512 : Shape := ⟨2, ![4096, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S512x2048, .bf16⟩
  | .hbm, ⟨2, _⟩ => ⟨S_, .f32⟩
  | .hbm, ⟨3, _⟩ => ⟨S4096x512, .f32⟩
  | .hbm, ⟨4, _⟩ => ⟨S512x2048, .f32⟩
  | .hbm, ⟨5, _⟩ => ⟨S4096x2048, .f32⟩
  | .hbm, ⟨6, _⟩ => ⟨S4096x2048, .f32⟩
  | .hbm, ⟨7, _⟩ => ⟨S4096x512, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== PoolUpDw.lean ====
abbrev S4096x512 : Shape := ⟨2, ![4096, 512]⟩
abbrev S4096x2048 : Shape := ⟨2, ![4096, 2048]⟩
abbrev S512x2048 : Shape := ⟨2, ![512, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S4096x2048, .bf16⟩
  | .hbm, ⟨2, _⟩ => ⟨S512x2048, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PoolUpDwIdeal.lean ====
abbrev S4096x512 : Shape := ⟨2, ![4096, 512]⟩
abbrev S4096x2048 : Shape := ⟨2, ![4096, 2048]⟩
abbrev S512x2048 : Shape := ⟨2, ![512, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S4096x2048, .bf16⟩
  | .hbm, ⟨2, _⟩ => ⟨S512x2048, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PoolUpDwReferenceIdeal.lean ====
abbrev S4096x512 : Shape := ⟨2, ![4096, 512]⟩
abbrev S4096x2048 : Shape := ⟨2, ![4096, 2048]⟩
abbrev S_ : Shape := ⟨0, ![]⟩
abbrev S512x2048 : Shape := ⟨2, ![512, 2048]⟩
abbrev S2048x512 : Shape := ⟨2, ![2048, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x2048, .bf16⟩
  | .hbm, ⟨2, _⟩ => ⟨S_, .f32⟩
  | .hbm, ⟨3, _⟩ => ⟨S512x2048, .f32⟩
  | .hbm, ⟨4, _⟩ => ⟨S4096x512, .f32⟩
  | .hbm, ⟨5, _⟩ => ⟨S4096x2048, .f32⟩
  | .hbm, ⟨6, _⟩ => ⟨S4096x2048, .f32⟩
  | .hbm, ⟨7, _⟩ => ⟨S2048x512, .f32⟩
  | .hbm, ⟨8, _⟩ => ⟨S512x2048, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MemO.lean ====
abbrev S4096x512 : Shape := ⟨2, ![4096, 512]⟩
abbrev S512x2048 : Shape := ⟨2, ![512, 2048]⟩
abbrev S4096x2048 : Shape := ⟨2, ![4096, 2048]⟩
abbrev S1024x512 : Shape := ⟨2, ![1024, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S512x2048, .bf16⟩
  | .hbm, ⟨2, _⟩ => ⟨S4096x2048, .f32⟩
  | .local _ .vmem, ⟨0, _⟩ => ⟨S1024x512, .f32⟩
  | .local _ .vmem, ⟨1, _⟩ => ⟨S1024x512, .f32⟩
  | .local _ .vmem, ⟨2, _⟩ => ⟨S512x512, .bf16⟩
  | .local _ .vmem, ⟨3, _⟩ => ⟨S512x512, .bf16⟩
  | .local _ .vmem, ⟨4, _⟩ => ⟨S1024x512, .f32⟩
  | .local _ .vmem, ⟨5, _⟩ => ⟨S1024x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MemOIdeal.lean ====
abbrev S4096x512 : Shape := ⟨2, ![4096, 512]⟩
abbrev S512x2048 : Shape := ⟨2, ![512, 2048]⟩
abbrev S4096x2048 : Shape := ⟨2, ![4096, 2048]⟩
abbrev S1024x512 : Shape := ⟨2, ![1024, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S512x2048, .bf16⟩
  | .hbm, ⟨2, _⟩ => ⟨S4096x2048, .f32⟩
  | .local _ .vmem, ⟨0, _⟩ => ⟨S1024x512, .f32⟩
  | .local _ .vmem, ⟨1, _⟩ => ⟨S1024x512, .f32⟩
  | .local _ .vmem, ⟨2, _⟩ => ⟨S512x512, .bf16⟩
  | .local _ .vmem, ⟨3, _⟩ => ⟨S512x512, .bf16⟩
  | .local _ .vmem, ⟨4, _⟩ => ⟨S1024x512, .f32⟩
  | .local _ .vmem, ⟨5, _⟩ => ⟨S1024x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MemOReferenceIdeal.lean ====
abbrev S4096x512 : Shape := ⟨2, ![4096, 512]⟩
abbrev S512x2048 : Shape := ⟨2, ![512, 2048]⟩
abbrev S4096x2048 : Shape := ⟨2, ![4096, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x2048, .bf16⟩
  | .hbm, ⟨2, _⟩ => ⟨S512x2048, .f32⟩
  | .hbm, ⟨3, _⟩ => ⟨S4096x2048, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MemODw.lean ====
abbrev S4096x512 : Shape := ⟨2, ![4096, 512]⟩
abbrev S4096x2048 : Shape := ⟨2, ![4096, 2048]⟩
abbrev S512x2048 : Shape := ⟨2, ![512, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S4096x2048, .bf16⟩
  | .hbm, ⟨2, _⟩ => ⟨S512x2048, .f32⟩
  | .local _ .vmem, ⟨0, _⟩ => ⟨S2048x512, .f32⟩
  | .local _ .vmem, ⟨1, _⟩ => ⟨S2048x512, .f32⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MemODwIdeal.lean ====
abbrev S4096x512 : Shape := ⟨2, ![4096, 512]⟩
abbrev S4096x2048 : Shape := ⟨2, ![4096, 2048]⟩
abbrev S512x2048 : Shape := ⟨2, ![512, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S4096x2048, .bf16⟩
  | .hbm, ⟨2, _⟩ => ⟨S512x2048, .f32⟩
  | .local _ .vmem, ⟨0, _⟩ => ⟨S2048x512, .f32⟩
  | .local _ .vmem, ⟨1, _⟩ => ⟨S2048x512, .f32⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MemODwReferenceIdeal.lean ====
abbrev S4096x512 : Shape := ⟨2, ![4096, 512]⟩
abbrev S4096x2048 : Shape := ⟨2, ![4096, 2048]⟩
abbrev S_ : Shape := ⟨0, ![]⟩
abbrev S512x2048 : Shape := ⟨2, ![512, 2048]⟩
abbrev S2048x512 : Shape := ⟨2, ![2048, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x2048, .bf16⟩
  | .hbm, ⟨2, _⟩ => ⟨S_, .f32⟩
  | .hbm, ⟨3, _⟩ => ⟨S512x2048, .f32⟩
  | .hbm, ⟨4, _⟩ => ⟨S4096x2048, .f32⟩
  | .hbm, ⟨5, _⟩ => ⟨S4096x2048, .f32⟩
  | .hbm, ⟨6, _⟩ => ⟨S2048x512, .f32⟩
  | .hbm, ⟨7, _⟩ => ⟨S512x2048, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MemKv.lean ====
abbrev S512x2048 : Shape := ⟨2, ![512, 2048]⟩
abbrev S2048x1024 : Shape := ⟨2, ![2048, 1024]⟩
abbrev S512x1024 : Shape := ⟨2, ![512, 1024]⟩
abbrev S2048x512 : Shape := ⟨2, ![2048, 512]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S512x2048, .bf16⟩
  | .hbm, ⟨1, _⟩ => ⟨S2048x1024, .bf16⟩
  | .hbm, ⟨2, _⟩ => ⟨S512x1024, .f32⟩
  | .local _ .vmem, ⟨0, _⟩ => ⟨S512x2048, .bf16⟩
  | .local _ .vmem, ⟨1, _⟩ => ⟨S2048x512, .bf16⟩
  | .local _ .vmem, ⟨2, _⟩ => ⟨S2048x512, .bf16⟩
  | .local _ .vmem, ⟨3, _⟩ => ⟨S512x512, .f32⟩
  | .local _ .vmem, ⟨4, _⟩ => ⟨S512x512, .f32⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MemKvIdeal.lean ====
abbrev S512x2048 : Shape := ⟨2, ![512, 2048]⟩
abbrev S2048x1024 : Shape := ⟨2, ![2048, 1024]⟩
abbrev S512x1024 : Shape := ⟨2, ![512, 1024]⟩
abbrev S2048x512 : Shape := ⟨2, ![2048, 512]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S512x2048, .bf16⟩
  | .hbm, ⟨1, _⟩ => ⟨S2048x1024, .bf16⟩
  | .hbm, ⟨2, _⟩ => ⟨S512x1024, .f32⟩
  | .local _ .vmem, ⟨0, _⟩ => ⟨S512x2048, .bf16⟩
  | .local _ .vmem, ⟨1, _⟩ => ⟨S2048x512, .bf16⟩
  | .local _ .vmem, ⟨2, _⟩ => ⟨S2048x512, .bf16⟩
  | .local _ .vmem, ⟨3, _⟩ => ⟨S512x512, .f32⟩
  | .local _ .vmem, ⟨4, _⟩ => ⟨S512x512, .f32⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MemKvReferenceIdeal.lean ====
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 5
  | .vmem => 0
  | .smem => 0
  | _ => 0

abbrev bufTy : (tb : Table) → Fin (tcTables nBuf tb) → BufTy
  | .hbm, ⟨0, _⟩ => ⟨S512x2048, .bf16⟩
  | .hbm, ⟨1, _⟩ => ⟨S2048x1024, .bf16⟩
  | .hbm, ⟨2, _⟩ => ⟨S512x2048, .f32⟩
  | .hbm, ⟨3, _⟩ => ⟨S2048x1024, .f32⟩
  | .hbm, ⟨4, _⟩ => ⟨S512x1024, .f32⟩
  | _, _ => ⟨S512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MemKvDx.lean ====
abbrev S512x1024 : Shape := ⟨2, ![512, 1024]⟩
abbrev S2048x1024 : Shape := ⟨2, ![2048, 1024]⟩
abbrev S512x2048 : Shape := ⟨2, ![512, 2048]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S512x1024, .bf16⟩
  | .hbm, ⟨1, _⟩ => ⟨S2048x1024, .bf16⟩
  | .hbm, ⟨2, _⟩ => ⟨S512x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x512, .f32⟩
  | .local _ .vmem, ⟨4, _⟩ => ⟨S512x512, .f32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MemKvDxIdeal.lean ====
abbrev S512x1024 : Shape := ⟨2, ![512, 1024]⟩
abbrev S2048x1024 : Shape := ⟨2, ![2048, 1024]⟩
abbrev S512x2048 : Shape := ⟨2, ![512, 2048]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S512x1024, .bf16⟩
  | .hbm, ⟨1, _⟩ => ⟨S2048x1024, .bf16⟩
  | .hbm, ⟨2, _⟩ => ⟨S512x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x512, .f32⟩
  | .local _ .vmem, ⟨4, _⟩ => ⟨S512x512, .f32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MemKvDxReferenceIdeal.lean ====
abbrev S512x1024 : Shape := ⟨2, ![512, 1024]⟩
abbrev S2048x1024 : Shape := ⟨2, ![2048, 1024]⟩
abbrev S_ : Shape := ⟨0, ![]⟩
abbrev S512x2048 : Shape := ⟨2, ![512, 2048]⟩

abbrev nBuf : Space → Nat
  | .hbm => 8
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S2048x1024, .bf16⟩
  | .hbm, ⟨2, _⟩ => ⟨S_, .f32⟩
  | .hbm, ⟨3, _⟩ => ⟨S512x2048, .f32⟩
  | .hbm, ⟨4, _⟩ => ⟨S2048x1024, .f32⟩
  | .hbm, ⟨5, _⟩ => ⟨S512x1024, .f32⟩
  | .hbm, ⟨6, _⟩ => ⟨S512x1024, .f32⟩
  | .hbm, ⟨7, _⟩ => ⟨S512x2048, .f32⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MemKvDw.lean ====
abbrev S512x2048 : Shape := ⟨2, ![512, 2048]⟩
abbrev S512x1024 : Shape := ⟨2, ![512, 1024]⟩
abbrev S2048x1024 : Shape := ⟨2, ![2048, 1024]⟩
abbrev S512x512 : Shape := ⟨2, ![512, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S512x2048, .bf16⟩
  | .hbm, ⟨1, _⟩ => ⟨S512x1024, .bf16⟩
  | .hbm, ⟨2, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S1024x512, .f32⟩
  | .local _ .vmem, ⟨5, _⟩ => ⟨S1024x512, .f32⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MemKvDwIdeal.lean ====
abbrev S512x2048 : Shape := ⟨2, ![512, 2048]⟩
abbrev S512x1024 : Shape := ⟨2, ![512, 1024]⟩
abbrev S2048x1024 : Shape := ⟨2, ![2048, 1024]⟩
abbrev S512x512 : Shape := ⟨2, ![512, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S512x2048, .bf16⟩
  | .hbm, ⟨1, _⟩ => ⟨S512x1024, .bf16⟩
  | .hbm, ⟨2, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S1024x512, .f32⟩
  | .local _ .vmem, ⟨5, _⟩ => ⟨S1024x512, .f32⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MemKvDwReferenceIdeal.lean ====
abbrev S512x2048 : Shape := ⟨2, ![512, 2048]⟩
abbrev S512x1024 : Shape := ⟨2, ![512, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S512x2048, .bf16⟩
  | .hbm, ⟨1, _⟩ => ⟨S512x1024, .bf16⟩
  | .hbm, ⟨2, _⟩ => ⟨S_, .f32⟩
  | .hbm, ⟨3, _⟩ => ⟨S2048x1024, .f32⟩
  | .hbm, ⟨4, _⟩ => ⟨S512x2048, .f32⟩
  | .hbm, ⟨5, _⟩ => ⟨S512x1024, .f32⟩
  | .hbm, ⟨6, _⟩ => ⟨S512x1024, .f32⟩
  | .hbm, ⟨7, _⟩ => ⟨S1024x2048, .f32⟩
  | .hbm, ⟨8, _⟩ => ⟨S2048x1024, .f32⟩
  | _, _ => ⟨S512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FfnGu.lean ====
abbrev S4096x2048 : Shape := ⟨2, ![4096, 2048]⟩
abbrev S2048x11264 : Shape := ⟨2, ![2048, 11264]⟩
abbrev S4096x11264 : Shape := ⟨2, ![4096, 11264]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .bf16⟩
  | .hbm, ⟨2, _⟩ => ⟨S4096x11264, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 22, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnGuIdeal.lean ====
abbrev S4096x2048 : Shape := ⟨2, ![4096, 2048]⟩
abbrev S2048x11264 : Shape := ⟨2, ![2048, 11264]⟩
abbrev S4096x11264 : Shape := ⟨2, ![4096, 11264]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .bf16⟩
  | .hbm, ⟨2, _⟩ => ⟨S4096x11264, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 22, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnGuReferenceIdeal.lean ====
abbrev S4096x2048 : Shape := ⟨2, ![4096, 2048]⟩
abbrev S2048x11264 : Shape := ⟨2, ![2048, 11264]⟩
abbrev S4096x11264 : Shape := ⟨2, ![4096, 11264]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .bf16⟩
  | .hbm, ⟨2, _⟩ => ⟨S4096x2048, .f32⟩
  | .hbm, ⟨3, _⟩ => ⟨S2048x11264, .f32⟩
  | .hbm, ⟨4, _⟩ => ⟨S4096x11264, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FfnDown.lean ====
abbrev S4096x5632 : Shape := ⟨2, ![4096, 5632]⟩
abbrev S5632x2048 : Shape := ⟨2, ![5632, 2048]⟩
abbrev S4096x2048 : Shape := ⟨2, ![4096, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x2048, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 11], ![false, false, false]⟩

def k0_cond3 (i : grid0.Coords) : BitVec 1 :=
  let arg2 : BitVec 32 := BitVec.ofNat 32 (i 2).val
  let c10_i32 : BitVec 32 := 10#32
  let v9 : BitVec 1 := Scalar.cmpi .eq arg2 c10_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnDownIdeal.lean ====
abbrev S4096x5632 : Shape := ⟨2, ![4096, 5632]⟩
abbrev S5632x2048 : Shape := ⟨2, ![5632, 2048]⟩
abbrev S4096x2048 : Shape := ⟨2, ![4096, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x2048, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 11], ![false, false, false]⟩

def k0_cond3 (i : grid0.Coords) : BitVec 1 :=
  let arg2 : BitVec 32 := BitVec.ofNat 32 (i 2).val
  let c10_i32 : BitVec 32 := 10#32
  let v9 : BitVec 1 := Scalar.cmpi .eq arg2 c10_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnDownReferenceIdeal.lean ====
abbrev S4096x5632 : Shape := ⟨2, ![4096, 5632]⟩
abbrev S5632x2048 : Shape := ⟨2, ![5632, 2048]⟩
abbrev S4096x2048 : Shape := ⟨2, ![4096, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== FfnDa.lean ====
abbrev S4096x2048 : Shape := ⟨2, ![4096, 2048]⟩
abbrev S5632x2048 : Shape := ⟨2, ![5632, 2048]⟩
abbrev S4096x5632 : Shape := ⟨2, ![4096, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S5632x2048, .bf16⟩
  | .hbm, ⟨2, _⟩ => ⟨S4096x5632, .f32⟩
  | .local _ .vmem, ⟨0, _⟩ => ⟨S1024x2048, .f32⟩
  | .local _ .vmem, ⟨1, _⟩ => ⟨S1024x2048, .f32⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDaIdeal.lean ====
abbrev S4096x2048 : Shape := ⟨2, ![4096, 2048]⟩
abbrev S5632x2048 : Shape := ⟨2, ![5632, 2048]⟩
abbrev S4096x5632 : Shape := ⟨2, ![4096, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S5632x2048, .bf16⟩
  | .hbm, ⟨2, _⟩ => ⟨S4096x5632, .f32⟩
  | .local _ .vmem, ⟨0, _⟩ => ⟨S1024x2048, .f32⟩
  | .local _ .vmem, ⟨1, _⟩ => ⟨S1024x2048, .f32⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDaReferenceIdeal.lean ====
abbrev S4096x2048 : Shape := ⟨2, ![4096, 2048]⟩
abbrev S5632x2048 : Shape := ⟨2, ![5632, 2048]⟩
abbrev S_ : Shape := ⟨0, ![]⟩
abbrev S4096x5632 : Shape := ⟨2, ![4096, 5632]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S5632x2048, .bf16⟩
  | .hbm, ⟨2, _⟩ => ⟨S_, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S4096x5632, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== FfnDwd.lean ====
abbrev S4096x5632 : Shape := ⟨2, ![4096, 5632]⟩
abbrev S4096x2048 : Shape := ⟨2, ![4096, 2048]⟩
abbrev S5632x2048 : Shape := ⟨2, ![5632, 2048]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .f32⟩
  | .hbm, ⟨2, _⟩ => ⟨S5632x2048, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDwdIdeal.lean ====
abbrev S4096x5632 : Shape := ⟨2, ![4096, 5632]⟩
abbrev S4096x2048 : Shape := ⟨2, ![4096, 2048]⟩
abbrev S5632x2048 : Shape := ⟨2, ![5632, 2048]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .f32⟩
  | .hbm, ⟨2, _⟩ => ⟨S5632x2048, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDwdReferenceIdeal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 14
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .f32⟩
  | .hbm, ⟨2, _⟩ => ⟨S_, .f32⟩
  | .hbm, ⟨3, _⟩ => ⟨S5632x2048, .f32⟩
  | .hbm, ⟨4, _⟩ => ⟨S4096x5632, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S2048x5632, .f32⟩
  | .hbm, ⟨13, _⟩ => ⟨S5632x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== FfnDwgu.lean ====
abbrev S4096x2048 : Shape := ⟨2, ![4096, 2048]⟩
abbrev S4096x11264 : Shape := ⟨2, ![4096, 11264]⟩
abbrev S2048x11264 : Shape := ⟨2, ![2048, 11264]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x11264, .bf16⟩
  | .hbm, ⟨2, _⟩ => ⟨S2048x11264, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDwguIdeal.lean ====
abbrev S4096x2048 : Shape := ⟨2, ![4096, 2048]⟩
abbrev S4096x11264 : Shape := ⟨2, ![4096, 11264]⟩
abbrev S2048x11264 : Shape := ⟨2, ![2048, 11264]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x11264, .bf16⟩
  | .hbm, ⟨2, _⟩ => ⟨S2048x11264, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDwguReferenceIdeal.lean ====
abbrev S4096x2048 : Shape := ⟨2, ![4096, 2048]⟩
abbrev S4096x11264 : Shape := ⟨2, ![4096, 11264]⟩
abbrev S_ : Shape := ⟨0, ![]⟩
abbrev S2048x11264 : Shape := ⟨2, ![2048, 11264]⟩
abbrev S11264x2048 : Shape := ⟨2, ![11264, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x11264, .bf16⟩
  | .hbm, ⟨2, _⟩ => ⟨S_, .f32⟩
  | .hbm, ⟨3, _⟩ => ⟨S2048x11264, .f32⟩
  | .hbm, ⟨4, _⟩ => ⟨S4096x2048, .f32⟩
  | .hbm, ⟨5, _⟩ => ⟨S4096x11264, .f32⟩
  | .hbm, ⟨6, _⟩ => ⟨S4096x11264, .f32⟩
  | .hbm, ⟨7, _⟩ => ⟨S11264x2048, .f32⟩
  | .hbm, ⟨8, _⟩ => ⟨S2048x11264, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FfnDh.lean ====
abbrev S4096x11264 : Shape := ⟨2, ![4096, 11264]⟩
abbrev S2048x11264 : Shape := ⟨2, ![2048, 11264]⟩
abbrev S4096x2048 : Shape := ⟨2, ![4096, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x11264, .bf16⟩
  | .hbm, ⟨1, _⟩ => ⟨S2048x11264, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 11], ![false, false, false]⟩

def k0_cond3 (i : grid0.Coords) : BitVec 1 :=
  let arg2 : BitVec 32 := BitVec.ofNat 32 (i 2).val
  let c10_i32 : BitVec 32 := 10#32
  let v9 : BitVec 1 := Scalar.cmpi .eq arg2 c10_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDhIdeal.lean ====
abbrev S4096x11264 : Shape := ⟨2, ![4096, 11264]⟩
abbrev S2048x11264 : Shape := ⟨2, ![2048, 11264]⟩
abbrev S4096x2048 : Shape := ⟨2, ![4096, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x11264, .bf16⟩
  | .hbm, ⟨1, _⟩ => ⟨S2048x11264, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 11], ![false, false, false]⟩

def k0_cond3 (i : grid0.Coords) : BitVec 1 :=
  let arg2 : BitVec 32 := BitVec.ofNat 32 (i 2).val
  let c10_i32 : BitVec 32 := 10#32
  let v9 : BitVec 1 := Scalar.cmpi .eq arg2 c10_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDhReferenceIdeal.lean ====
abbrev S4096x11264 : Shape := ⟨2, ![4096, 11264]⟩
abbrev S2048x11264 : Shape := ⟨2, ![2048, 11264]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S2048x11264, .bf16⟩
  | .hbm, ⟨2, _⟩ => ⟨S_, .f32⟩
  | .hbm, ⟨3, _⟩ => ⟨S4096x2048, .f32⟩
  | .hbm, ⟨4, _⟩ => ⟨S2048x11264, .f32⟩
  | .hbm, ⟨5, _⟩ => ⟨S4096x11264, .f32⟩
  | .hbm, ⟨6, _⟩ => ⟨S4096x11264, .f32⟩
  | .hbm, ⟨7, _⟩ => ⟨S4096x2048, .f32⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MixIn.lean ====
abbrev S4096x2048 : Shape := ⟨2, ![4096, 2048]⟩
abbrev S2048x10368 : Shape := ⟨2, ![2048, 10368]⟩
abbrev S4096x10368 : Shape := ⟨2, ![4096, 10368]⟩
abbrev S1024x2048 : Shape := ⟨2, ![1024, 2048]⟩
abbrev S2048x384 : Shape := ⟨2, ![2048, 384]⟩
abbrev S1024x384 : Shape := ⟨2, ![1024, 384]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x10368, .bf16⟩
  | .hbm, ⟨2, _⟩ => ⟨S4096x10368, .f32⟩
  | .local _ .vmem, ⟨0, _⟩ => ⟨S1024x2048, .bf16⟩
  | .local _ .vmem, ⟨1, _⟩ => ⟨S1024x2048, .bf16⟩
  | .local _ .vmem, ⟨2, _⟩ => ⟨S2048x384, .bf16⟩
  | .local _ .vmem, ⟨3, _⟩ => ⟨S2048x384, .bf16⟩
  | .local _ .vmem, ⟨4, _⟩ => ⟨S1024x384, .f32⟩
  | .local _ .vmem, ⟨5, _⟩ => ⟨S1024x384, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 27, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixInIdeal.lean ====
abbrev S4096x2048 : Shape := ⟨2, ![4096, 2048]⟩
abbrev S2048x10368 : Shape := ⟨2, ![2048, 10368]⟩
abbrev S4096x10368 : Shape := ⟨2, ![4096, 10368]⟩
abbrev S1024x2048 : Shape := ⟨2, ![1024, 2048]⟩
abbrev S2048x384 : Shape := ⟨2, ![2048, 384]⟩
abbrev S1024x384 : Shape := ⟨2, ![1024, 384]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x10368, .bf16⟩
  | .hbm, ⟨2, _⟩ => ⟨S4096x10368, .f32⟩
  | .local _ .vmem, ⟨0, _⟩ => ⟨S1024x2048, .bf16⟩
  | .local _ .vmem, ⟨1, _⟩ => ⟨S1024x2048, .bf16⟩
  | .local _ .vmem, ⟨2, _⟩ => ⟨S2048x384, .bf16⟩
  | .local _ .vmem, ⟨3, _⟩ => ⟨S2048x384, .bf16⟩
  | .local _ .vmem, ⟨4, _⟩ => ⟨S1024x384, .f32⟩
  | .local _ .vmem, ⟨5, _⟩ => ⟨S1024x384, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 27, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixInReferenceIdeal.lean ====
abbrev S4096x2048 : Shape := ⟨2, ![4096, 2048]⟩
abbrev S2048x10368 : Shape := ⟨2, ![2048, 10368]⟩
abbrev S4096x10368 : Shape := ⟨2, ![4096, 10368]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x10368, .bf16⟩
  | .hbm, ⟨2, _⟩ => ⟨S4096x2048, .f32⟩
  | .hbm, ⟨3, _⟩ => ⟨S2048x10368, .f32⟩
  | .hbm, ⟨4, _⟩ => ⟨S4096x10368, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MixInDw.lean ====
abbrev S4096x2048 : Shape := ⟨2, ![4096, 2048]⟩
abbrev S4096x10368 : Shape := ⟨2, ![4096, 10368]⟩
abbrev S2048x10368 : Shape := ⟨2, ![2048, 10368]⟩
abbrev S1024x1024 : Shape := ⟨2, ![1024, 1024]⟩
abbrev S1024x384 : Shape := ⟨2, ![1024, 384]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x10368, .bf16⟩
  | .hbm, ⟨2, _⟩ => ⟨S2048x10368, .f32⟩
  | .local _ .vmem, ⟨0, _⟩ => ⟨S1024x1024, .bf16⟩
  | .local _ .vmem, ⟨1, _⟩ => ⟨S1024x1024, .bf16⟩
  | .local _ .vmem, ⟨2, _⟩ => ⟨S1024x384, .bf16⟩
  | .local _ .vmem, ⟨3, _⟩ => ⟨S1024x384, .bf16⟩
  | .local _ .vmem, ⟨4, _⟩ => ⟨S1024x384, .f32⟩
  | .local _ .vmem, ⟨5, _⟩ => ⟨S1024x384, .f32⟩
  | .local _ .vmem, ⟨6, _⟩ => ⟨S1024x384, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 27, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixInDwIdeal.lean ====
abbrev S4096x2048 : Shape := ⟨2, ![4096, 2048]⟩
abbrev S4096x10368 : Shape := ⟨2, ![4096, 10368]⟩
abbrev S2048x10368 : Shape := ⟨2, ![2048, 10368]⟩
abbrev S1024x1024 : Shape := ⟨2, ![1024, 1024]⟩
abbrev S1024x384 : Shape := ⟨2, ![1024, 384]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x10368, .bf16⟩
  | .hbm, ⟨2, _⟩ => ⟨S2048x10368, .f32⟩
  | .local _ .vmem, ⟨0, _⟩ => ⟨S1024x1024, .bf16⟩
  | .local _ .vmem, ⟨1, _⟩ => ⟨S1024x1024, .bf16⟩
  | .local _ .vmem, ⟨2, _⟩ => ⟨S1024x384, .bf16⟩
  | .local _ .vmem, ⟨3, _⟩ => ⟨S1024x384, .bf16⟩
  | .local _ .vmem, ⟨4, _⟩ => ⟨S1024x384, .f32⟩
  | .local _ .vmem, ⟨5, _⟩ => ⟨S1024x384, .f32⟩
  | .local _ .vmem, ⟨6, _⟩ => ⟨S1024x384, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 27, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixInDwReferenceIdeal.lean ====
abbrev S4096x2048 : Shape := ⟨2, ![4096, 2048]⟩
abbrev S4096x10368 : Shape := ⟨2, ![4096, 10368]⟩
abbrev S_ : Shape := ⟨0, ![]⟩
abbrev S2048x10368 : Shape := ⟨2, ![2048, 10368]⟩
abbrev S10368x2048 : Shape := ⟨2, ![10368, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x10368, .bf16⟩
  | .hbm, ⟨2, _⟩ => ⟨S_, .f32⟩
  | .hbm, ⟨3, _⟩ => ⟨S2048x10368, .f32⟩
  | .hbm, ⟨4, _⟩ => ⟨S4096x2048, .f32⟩
  | .hbm, ⟨5, _⟩ => ⟨S4096x10368, .f32⟩
  | .hbm, ⟨6, _⟩ => ⟨S4096x10368, .f32⟩
  | .hbm, ⟨7, _⟩ => ⟨S10368x2048, .f32⟩
  | .hbm, ⟨8, _⟩ => ⟨S2048x10368, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MixInDx.lean ====
abbrev S4096x10368 : Shape := ⟨2, ![4096, 10368]⟩
abbrev S2048x10368 : Shape := ⟨2, ![2048, 10368]⟩
abbrev S4096x2048 : Shape := ⟨2, ![4096, 2048]⟩
abbrev S1024x384 : Shape := ⟨2, ![1024, 384]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x10368, .bf16⟩
  | .hbm, ⟨1, _⟩ => ⟨S2048x10368, .bf16⟩
  | .hbm, ⟨2, _⟩ => ⟨S4096x2048, .f32⟩
  | .local _ .vmem, ⟨0, _⟩ => ⟨S1024x384, .bf16⟩
  | .local _ .vmem, ⟨1, _⟩ => ⟨S1024x384, .bf16⟩
  | .local _ .vmem, ⟨2, _⟩ => ⟨S1024x384, .bf16⟩
  | .local _ .vmem, ⟨3, _⟩ => ⟨S1024x384, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x10368, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 27], ![false, false, false]⟩

def k0_cond3 (i : grid0.Coords) : BitVec 1 :=
  let arg2 : BitVec 32 := BitVec.ofNat 32 (i 2).val
  let c26_i32 : BitVec 32 := 26#32
  let v9 : BitVec 1 := Scalar.cmpi .eq arg2 c26_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixInDxReferenceIdeal.lean ====
abbrev S4096x10368 : Shape := ⟨2, ![4096, 10368]⟩
abbrev S2048x10368 : Shape := ⟨2, ![2048, 10368]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x10368, .bf16⟩
  | .hbm, ⟨1, _⟩ => ⟨S2048x10368, .bf16⟩
  | .hbm, ⟨2, _⟩ => ⟨S_, .f32⟩
  | .hbm, ⟨3, _⟩ => ⟨S4096x2048, .f32⟩
  | .hbm, ⟨4, _⟩ => ⟨S2048x10368, .f32⟩
  | .hbm, ⟨5, _⟩ => ⟨S4096x10368, .f32⟩
  | .hbm, ⟨6, _⟩ => ⟨S4096x10368, .f32⟩
  | .hbm, ⟨7, _⟩ => ⟨S4096x2048, .f32⟩
  | _, _ => ⟨S4096x10368, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.SoftmaxVjp.lean ====
/- The softmax row and the gradient through it, over the extended reals: what one row of an attention matrix computes,
   written the way a kernel does (`p * (dp - sum (p * dp))`) and the way reverse-mode differentiation does, and the
   theorem that the two are one whenever the exponentials are real numbers that do not all vanish. -/
module

public import Idealize.ShloMosaic.Lib.ValueIdx
public import Idealize.ShloMosaic.PureOps.Ideal.Laws

@[expose] public section

noncomputable section

namespace Cert.Softmax

open Idealize.ShloMosaic

variable {n : Nat}

/-- The largest entry of a row (the bottom element if the row is empty). -/
def rowMax (s : Fin n → EReal) : EReal := Finset.univ.fold max ⊥ s

/-- The exponentials of a row, after its largest entry is subtracted. -/
def expRow (s : Fin n → EReal) (j : Fin n) : EReal := Ideal.exp (s j - rowMax s)

/-- The softmax of a row from its exponentials. -/
def normRow (e : Fin n → EReal) (j : Fin n) : EReal := Ideal.div (e j) (∑ k, e k)

/-- The gradient with respect to the scores: probabilities times what is left of the incoming gradient. -/
def gradRow (p dp : Fin n → EReal) (j : Fin n) : EReal := p j * (dp j - ∑ k, p k * dp k)

/-- The same gradient as differentiating the quotient gives it, one term for the numerator and one for the sum. -/
def gradQuot (e dp : Fin n → EReal) (j : Fin n) : EReal :=
  (Ideal.div (dp j) (∑ k, e k)
    + -(∑ k, dp k * Ideal.div 1 ((∑ l, e l) * ∑ l, e l) * e k)) * e j

/-- A finite sum of real numbers, read in the extended reals. -/
theorem coe_sum {ι : Type*} (t : Finset ι) (f : ι → ℝ) : ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

/-- A nonnegative real factor distributes over any finite sum of extended reals. -/
theorem mul_sum_of_nonneg {ι : Type*} (t : Finset ι) {c : ℝ} (hc : 0 ≤ c) (f : ι → EReal) :
    (c : EReal) * ∑ k ∈ t, f k = ∑ k ∈ t, (c : EReal) * f k := by
  classical
  induction t using Finset.induction_on with
  | empty => simp
  | insert a t ha ih =>
    rw [Finset.sum_insert ha, Finset.sum_insert ha,
      EReal.left_distrib_of_nonneg_of_ne_top (by exact_mod_cast hc) (EReal.coe_ne_top c), ih]

/-- Real nonnegative exponentials with a positive sum: the probability is a real number. -/
theorem normRow_coe (E : Fin n → ℝ) (hL : 0 < ∑ k, E k) (j : Fin n) :
    normRow (fun k => (E k : EReal)) j = ((E j * (1 / ∑ k, E k) : ℝ) : EReal) := by
  unfold normRow
  rw [← coe_sum, Ideal.div_coe hL.ne', EReal.coe_mul]

/-- The two gradients of a row agree. -/
theorem gradQuot_eq (E : Fin n → ℝ) (h0 : ∀ k, 0 ≤ E k) (hL : 0 < ∑ k, E k) (dp : Fin n → EReal) (j : Fin n) :
    gradQuot (fun k => (E k : EReal)) dp j = gradRow (normRow fun k => (E k : EReal)) dp j := by
  unfold gradQuot gradRow
  simp only [normRow_coe E hL]
  rw [← coe_sum, ← EReal.coe_mul]
  generalize hLe : (∑ k, E k) = L at hL
  have hi : (0 : ℝ) ≤ 1 / L := by positivity
  rw [Ideal.div_coe hL.ne', Ideal.div_coe (mul_pos hL hL).ne', one_mul]
  have hs : (∑ k, dp k * ((1 / (L * L) : ℝ) : EReal) * (E k : EReal))
      = ((1 / L : ℝ) : EReal) * ∑ k, ((E k * (1 / L) : ℝ) : EReal) * dp k := by
    rw [mul_sum_of_nonneg _ hi]
    refine Finset.sum_congr rfl fun k _ => ?_
    rw [mul_assoc, ← EReal.coe_mul, ← mul_assoc, ← EReal.coe_mul, mul_comm]
    congr 2
    field_simp
  rw [hs, ← mul_neg, mul_comm (dp j), ← EReal.left_distrib_of_nonneg_of_ne_top (by exact_mod_cast hi) (EReal.coe_ne_top _),
    mul_comm _ (E j : EReal), ← mul_assoc, ← EReal.coe_mul, sub_eq_add_neg]

/-- The largest entry of a nonempty row is one of its entries. -/
theorem rowMax_mem (s : Fin n → EReal) (j : Fin n) : ∃ k, rowMax s = s k := by
  have hne : (Finset.univ : Finset (Fin n)).Nonempty := ⟨j, Finset.mem_univ j⟩
  obtain ⟨k, -, hk⟩ := Finset.exists_mem_eq_sup' hne s
  refine ⟨k, ?_⟩
  rw [← hk, Finset.sup'_eq_sup]
  rfl

/-- No entry exceeds the largest. -/
theorem le_rowMax (s : Fin n → EReal) (j : Fin n) : s j ≤ rowMax s := by
  unfold rowMax
  exact Finset.le_fold_max (b := ⊥) (s j) |>.mpr (.inr ⟨j, Finset.mem_univ j, le_rfl⟩)

/-- A row with no `+∞` and one entry above `-∞` has real, nonnegative exponentials with a positive sum. -/
theorem expRow_real (s : Fin n → EReal) (ht : ∀ k, s k ≠ ⊤) (j : Fin n) (hj : s j ≠ ⊥) :
    ∃ E : Fin n → ℝ, expRow s = (fun k => (E k : EReal)) ∧ (∀ k, 0 ≤ E k) ∧ 0 < ∑ k, E k := by
  obtain ⟨k, hk⟩ := rowMax_mem s j
  have hb : rowMax s ≠ ⊥ := fun h => hj (le_bot_iff.mp (h ▸ le_rowMax s j))
  have htop : rowMax s ≠ ⊤ := hk ▸ ht k
  obtain ⟨M, hM⟩ : ∃ M : ℝ, rowMax s = (M : EReal) := ⟨_, (EReal.coe_toReal htop hb).symm⟩
  have h1 : ∀ l, ∃ r : ℝ, expRow s l = (r : EReal) ∧ 0 ≤ r ∧ (s l ≠ ⊥ → 0 < r) := by
    intro l
    unfold expRow
    rw [hM]
    by_cases hl : s l = ⊥
    · refine ⟨0, ?_, le_rfl, fun h => absurd hl h⟩
      rw [hl, sub_eq_add_neg, EReal.bot_add]
      rfl
    · obtain ⟨r, hr⟩ : ∃ r : ℝ, s l = (r : EReal) := ⟨_, (EReal.coe_toReal (ht l) hl).symm⟩
      refine ⟨Real.exp (r - M), ?_, (Real.exp_pos _).le, fun _ => Real.exp_pos _⟩
      rw [hr, ← EReal.coe_sub]
      rfl
  choose E hE h0 hp using h1
  refine ⟨E, funext hE, h0, ?_⟩
  exact Finset.sum_pos' (fun l _ => h0 l) ⟨j, Finset.mem_univ j, hp j hj⟩

end Cert.Softmax

end
-- ==== Proof.MemPayloads.lean ====
/- What one grid point of the memory-attention backward computes, read at an index: the probabilities of a block of
   queries against all memory slots, the gradient of the scaled scores, and the three products taken from it. -/
module

public import proofs.«01_k».proof.Proof.Gen.KernelIdeal.Value
public import proofs.«01_k».proof.Proof.SoftmaxVjp
public import Idealize.ShloMosaic.Lib.Pointwise

@[expose] public section

noncomputable section

namespace Cert.MemBlock

open Cert.KernelIdeal Cert.KernelIdeal.Gen Idealize.ShloMosaic Cert.Softmax

/-- The scale on the scores, the literal both programs print. -/
def scale : EReal := Ideal.ofBits .f32 0x3DB504F3#32

/-- The word a row maximum starts from is the bottom element. -/
theorem ofBits_neg_inf : Ideal.ofBits .f32 0xFF800000#32 = ⊥ := by simp [Ideal.ofBits, Ideal.ieee]

/-- The scores of one query `u` against the keys `y`. -/
def score {n : Nat} (u : Fin 128 → EReal) (y : Fin n → Fin 128 → EReal) (j : Fin n) : EReal :=
  (∑ d : Fin 128, u d * y j d) * scale

/-- The gradient of the probabilities of one query: the incoming row `g` against the values `z`. -/
def dprob {n : Nat} (g : Fin 128 → EReal) (z : Fin n → Fin 128 → EReal) (j : Fin n) : EReal :=
  ∑ d : Fin 128, g d * z j d

/-- The probabilities of one query. -/
def prob {n : Nat} (u : Fin 128 → EReal) (y : Fin n → Fin 128 → EReal) (j : Fin n) : EReal :=
  normRow (expRow (score u y)) j

/-- The gradient of one query's unscaled scores. -/
def dscore {n : Nat} (u : Fin 128 → EReal) (y z : Fin n → Fin 128 → EReal) (g : Fin 128 → EReal) (j : Fin n) : EReal :=
  gradRow (prob u y) (dprob g z) j * scale

variable (x : FVec Ideal S512x128 .bf16) (y z : FVec Ideal S256x128 .bf16) (g : FVec Ideal S512x128 .f32)

/-- The rows of a block of 512 queries. -/
abbrev rowQ (x : S512x128.Idx → EReal) (r : Fin 512) (d : Fin 128) : EReal := x (ix2 r d)
/-- The rows of a block of 256 memory slots. -/
abbrev rowM (y : S256x128.Idx → EReal) (j : Fin 256) (d : Fin 128) : EReal := y (ix2 j d)

/-- The probabilities of a block. -/
theorem pay6_apply (r : Fin 512) (j : Fin 256) :
    k0_pay6 (F := Ideal) x y (ix2 r j) = prob (rowQ x r) (rowM y) j := by
  unfold k0_pay6 k0_pay3 k0_pay4
  pointwise
  rw [ofBits_neg_inf]
  rfl

/-- The gradient of the unscaled scores of a block. -/
theorem pay7_apply (r : Fin 512) (j : Fin 256) :
    k0_pay7 (F := Ideal) x y z g (ix2 r j) = dscore (rowQ x r) (rowM y) (rowM z) (rowQ g r) j := by
  unfold k0_pay7 k0_pay5
  pointwise
  simp only [pay6_apply]
  rfl

/-- The gradient of a block's queries. -/
theorem pay8_apply (r : Fin 512) (d : Fin 128) :
    k0_pay8 (F := Ideal) x y z g (ix2 r d)
      = ∑ j : Fin 256, dscore (rowQ x r) (rowM y) (rowM z) (rowQ g r) j * y (ix2 j d) := by
  unfold k0_pay8 k0_pay4
  pointwise
  simp only [pay7_apply]

/-- What a block of queries adds to the gradient of the keys. -/
theorem pay9_apply (j : Fin 256) (d : Fin 128) :
    k0_pay9 (F := Ideal) x y z g (ix2 j d)
      = ∑ r : Fin 512, dscore (rowQ x r) (rowM y) (rowM z) (rowQ g r) j * x (ix2 r d) := by
  unfold k0_pay9 k0_pay3
  pointwise
  simp only [pay7_apply]

/-- What a block of queries adds to the gradient of the values. -/
theorem pay10_apply (j : Fin 256) (d : Fin 128) :
    k0_pay10 (F := Ideal) x y g (ix2 j d) = ∑ r : Fin 512, prob (rowQ x r) (rowM y) j * g (ix2 r d) := by
  unfold k0_pay10 k0_pay5
  pointwise
  simp only [pay6_apply]

/-- Adding a block's share to the running gradient of the keys. -/
theorem pay1_apply (a b : FVec Ideal S256x128 .f32) (i : S256x128.Idx) : k0_pay1 (F := Ideal) a b i = b i + a i := by
  unfold k0_pay1
  pointwise

/-- Adding a block's share to the running gradient of the values. -/
theorem pay2_apply (a b : FVec Ideal S256x128 .f32) (i : S256x128.Idx) : k0_pay2 (F := Ideal) a b i = b i + a i := by
  unfold k0_pay2
  pointwise

end Cert.MemBlock

end
-- ==== Proof.MemCases.lean ====
/- What the body of the memory-attention backward leaves in its three outputs, in either case of its reset: the value
   of each covering store as a function of the blocks read. -/
module

public import proofs.«01_k».proof.Proof.MemPayloads
public import Idealize.ShloMosaic.Lib.Tactic

@[expose] public section

noncomputable section

namespace Cert.MemCases

open Cert.KernelIdeal Cert.KernelIdeal.Gen Idealize.ShloMosaic Idealize.ShloMosaic.TcCoe Idealize.SL.Sem

variable {F : FTy → Type} [FloatOps F]

/-- Every rectangle of the body starts at the origin. -/
theorem origin : (![0, 0] : Fin 2 → Nat) = fun _ => 0 := funext fun a => by fin_cases a <;> rfl

variable (c : Dev nD) (i : grid0.Coords)
  (a3 : Memref sig .tc .vmem S512x128 .bf16) (h3 : a3.IsWhole)
  (a4 : Memref sig .tc .vmem S256x128 .bf16) (h4 : a4.IsWhole)
  (a5 : Memref sig .tc .vmem S256x128 .bf16) (h5 : a5.IsWhole)
  (a6 : Memref sig .tc .vmem S512x128 .f32) (h6 : a6.IsWhole)
  (a7 : Memref sig .tc .vmem S512x128 .f32) (h7 : a7.IsWhole)
  (a8 : Memref sig .tc .vmem S256x128 .f32) (h8 : a8.IsWhole)
  (a9 : Memref sig .tc .vmem S256x128 .f32) (h9 : a9.IsWhole)
  (x0 : Vec F S512x128 .bf16) (x1 x2 : Vec F S256x128 .bf16) (x3 : Vec F S512x128 .f32) (o5 o6 : Vec F S256x128 .f32)

/-- At a first block of queries, the gradient of the block's queries. -/
theorem outA_4 (hc0 : cond0_0 i) (hc1 : ¬cond0_1 i) :
    out0_A_4 (F := F) c i a3 h3 a4 h4 a5 h5 a6 h6 a7 h7 a8 h8 a9 h9 hc0 hc1 x0 x1 x2 x3 = k0_pay8 x0 x1 x2 x3 := by
  unfold out0_A_4
  rw [View.read_writes_eq_canon _ _ _ (cover0_A_4 c i a3 h3 a4 h4 a5 h5 a6 h6 a7 h7 a8 h8 a9 h9 hc0 hc1 x0 x1 x2 x3)]
  unfold kernelRun0_A
  dsimp only
  sl_unfold_words
  rw [View.canon_unit_zero origin]
  simp only [View.readAt_eq_ld, h3.read_unread, h4.read_unread, h5.read_unread, h6.read_unread, h7.read_unread, h8.read_unread, h9.read_unread, View.ld_unit_zero (S := S512x128) origin, View.ld_unit_zero (S := S256x128) origin]

/-- At a first block of queries, the gradient of the keys. -/
theorem outA_5 (hc0 : cond0_0 i) (hc1 : ¬cond0_1 i) :
    out0_A_5 (F := F) c i a3 h3 a4 h4 a5 h5 a6 h6 a7 h7 a8 h8 a9 h9 hc0 hc1 x0 x1 x2 x3 = k0_pay9 x0 x1 x2 x3 := by
  unfold out0_A_5
  rw [View.read_writes_eq_canon _ _ _ (cover0_A_5 c i a3 h3 a4 h4 a5 h5 a6 h6 a7 h7 a8 h8 a9 h9 hc0 hc1 x0 x1 x2 x3)]
  unfold kernelRun0_A
  dsimp only
  sl_unfold_words
  rw [View.canon_unit_zero origin]
  simp only [View.readAt_eq_ld, h3.read_unread, h4.read_unread, h5.read_unread, h6.read_unread, h7.read_unread, h8.read_unread, h9.read_unread, View.ld_unit_zero (S := S512x128) origin, View.ld_unit_zero (S := S256x128) origin]

/-- At a first block of queries, the gradient of the values. -/
theorem outA_6 (hc0 : cond0_0 i) (hc1 : ¬cond0_1 i) :
    out0_A_6 (F := F) c i a3 h3 a4 h4 a5 h5 a6 h6 a7 h7 a8 h8 a9 h9 hc0 hc1 x0 x1 x2 x3 = k0_pay10 x0 x1 x3 := by
  unfold out0_A_6
  rw [View.read_writes_eq_canon _ _ _ (cover0_A_6 c i a3 h3 a4 h4 a5 h5 a6 h6 a7 h7 a8 h8 a9 h9 hc0 hc1 x0 x1 x2 x3)]
  unfold kernelRun0_A
  dsimp only
  sl_unfold_words
  rw [View.canon_unit_zero origin]
  simp only [View.readAt_eq_ld, h3.read_unread, h4.read_unread, h5.read_unread, h6.read_unread, h7.read_unread, h8.read_unread, h9.read_unread, View.ld_unit_zero (S := S512x128) origin, View.ld_unit_zero (S := S256x128) origin]

/-- At a later block of queries, the gradient of the block's queries. -/
theorem outB_4 (hc0 : ¬cond0_0 i) (hc1 : cond0_1 i) :
    out0_B_4 (F := F) c i a3 h3 a4 h4 a5 h5 a6 h6 a7 h7 a8 h8 a9 h9 hc0 hc1 x0 x1 x2 x3 o5 o6 = k0_pay8 x0 x1 x2 x3 := by
  unfold out0_B_4
  rw [View.read_writes_eq_canon _ _ _ (cover0_B_4 c i a3 h3 a4 h4 a5 h5 a6 h6 a7 h7 a8 h8 a9 h9 hc0 hc1 x0 x1 x2 x3 o5 o6)]
  unfold kernelRun0_B
  dsimp only
  sl_unfold_words
  rw [View.canon_unit_zero origin]
  simp only [View.readAt_eq_ld, h3.read_unread, h4.read_unread, h5.read_unread, h6.read_unread, h7.read_unread, h8.read_unread, h9.read_unread, View.ld_unit_zero (S := S512x128) origin, View.ld_unit_zero (S := S256x128) origin]

/-- At a later block of queries, the gradient of the keys. -/
theorem outB_5 (hc0 : ¬cond0_0 i) (hc1 : cond0_1 i) :
    out0_B_5 (F := F) c i a3 h3 a4 h4 a5 h5 a6 h6 a7 h7 a8 h8 a9 h9 hc0 hc1 x0 x1 x2 x3 o5 o6 = k0_pay1 (k0_pay9 x0 x1 x2 x3) o5 := by
  unfold out0_B_5
  rw [View.read_writes_eq_canon _ _ _ (cover0_B_5 c i a3 h3 a4 h4 a5 h5 a6 h6 a7 h7 a8 h8 a9 h9 hc0 hc1 x0 x1 x2 x3 o5 o6)]
  unfold kernelRun0_B
  dsimp only
  sl_unfold_words
  rw [View.canon_unit_zero origin]
  simp only [View.readAt_eq_ld, h3.read_unread, h4.read_unread, h5.read_unread, h6.read_unread, h7.read_unread, h8.read_unread, h9.read_unread, View.ld_unit_zero (S := S512x128) origin, View.ld_unit_zero (S := S256x128) origin]

/-- At a later block of queries, the gradient of the values. -/
theorem outB_6 (hc0 : ¬cond0_0 i) (hc1 : cond0_1 i) :
    out0_B_6 (F := F) c i a3 h3 a4 h4 a5 h5 a6 h6 a7 h7 a8 h8 a9 h9 hc0 hc1 x0 x1 x2 x3 o5 o6 = k0_pay2 (k0_pay10 x0 x1 x3) o6 := by
  unfold out0_B_6
  rw [View.read_writes_eq_canon _ _ _ (cover0_B_6 c i a3 h3 a4 h4 a5 h5 a6 h6 a7 h7 a8 h8 a9 h9 hc0 hc1 x0 x1 x2 x3 o5 o6)]
  unfold kernelRun0_B
  dsimp only
  sl_unfold_words
  rw [View.canon_unit_zero origin]
  simp only [View.readAt_eq_ld, h3.read_unread, h4.read_unread, h5.read_unread, h6.read_unread, h7.read_unread, h8.read_unread, h9.read_unread, View.ld_unit_zero (S := S512x128) origin, View.ld_unit_zero (S := S256x128) origin]

end Cert.MemCases

end
-- ==== Proof.MemHost.lean ====
/- What the grid of the memory-attention backward reads, in terms of the arguments: the host code before the grid only
   flattens and rounds, so every block read is a piece of one head of one batch entry of an argument. -/
module

public import proofs.«01_k».proof.Proof.MemCases
public import Idealize.ShloMosaic.Lib.StableHlo.Run

@[expose] public section

noncomputable section

namespace Cert.MemHost

open Cert.KernelIdeal Cert.KernelIdeal.Gen Idealize.ShloMosaic Idealize.ShloMosaic.TcCoe Idealize.SL.Sem Cert.MemBlock

variable (m : (ℓ : Loc nD τ sig) → Buf (Elt Ideal) ℓ) (c : Dev nD)

/-- The four arguments as arrays of extended reals. -/
abbrev argQ : S2x2048x4x128.Idx → EReal := m ((c : Thread nD τ).loc main_arg0)
abbrev argK : S2x256x4x128.Idx → EReal := m ((c : Thread nD τ).loc main_arg1)
abbrev argV : S2x256x4x128.Idx → EReal := m ((c : Thread nD τ).loc main_arg2)
abbrev argG : S2x2048x4x128.Idx → EReal := m ((c : Thread nD τ).loc main_arg3)

/-- The flattened queries. -/
theorem V_v1 : (V (F := Ideal) m c main_v1 : S4096x512.Idx → EReal)
    = shapeCast S4096x512 (argQ m c) shapeCasts_S2x2048x4x128_S4096x512 := by
  unfold_abbrev_sides
  after_results
  rfl

/-- The flattened keys. -/
theorem V_v3 : (V (F := Ideal) m c main_v3 : S512x512.Idx → EReal)
    = shapeCast S512x512 (argK m c) shapeCasts_S2x256x4x128_S512x512 := by
  unfold_abbrev_sides
  after_results
  rfl

/-- The flattened values. -/
theorem V_v5 : (V (F := Ideal) m c main_v5 : S512x512.Idx → EReal)
    = shapeCast S512x512 (argV m c) shapeCasts_S2x256x4x128_S512x512 := by
  unfold_abbrev_sides
  after_results
  rfl

/-- The flattened incoming gradient. -/
theorem V_v6 : (V (F := Ideal) m c main_v6 : S4096x512.Idx → EReal)
    = shapeCast S4096x512 (argG m c) shapeCasts_S2x2048x4x128_S4096x512 := by
  unfold_abbrev_sides
  after_results
  rfl

/-- An entry of a flattened [2, 2048, 4, 128] array. -/
theorem flatQ (A : S2x2048x4x128.Idx → EReal) (b : Fin 2) (s : Fin 2048) (h : Fin 4) (d : Fin 128)
    (i : S4096x512.Idx) (h0 : (i 0).val = b.val * 2048 + s.val) (h1 : (i 1).val = h.val * 128 + d.val) :
    shapeCast S4096x512 A shapeCasts_S2x2048x4x128_S4096x512 i = A (ix4 b s h d) :=
  shapeCast_apply A _ i _ (by
    rw [Shape.rowMajor_val_four, Shape.rowMajor_val_two]
    show ((b.val * 2048 + s.val) * 4 + h.val) * 128 + d.val = (i 0).val * 512 + (i 1).val
    rw [h0, h1]; ring)

/-- An entry of a flattened [2, 256, 4, 128] array. -/
theorem flatM (A : S2x256x4x128.Idx → EReal) (b : Fin 2) (s : Fin 256) (h : Fin 4) (d : Fin 128)
    (i : S512x512.Idx) (h0 : (i 0).val = b.val * 256 + s.val) (h1 : (i 1).val = h.val * 128 + d.val) :
    shapeCast S512x512 A shapeCasts_S2x256x4x128_S512x512 i = A (ix4 b s h d) :=
  shapeCast_apply A _ i _ (by
    rw [Shape.rowMajor_val_four, Shape.rowMajor_val_two]
    show ((b.val * 256 + s.val) * 4 + h.val) * 128 + d.val = (i 0).val * 512 + (i 1).val
    rw [h0, h1]; ring)

/-- The number of grid points. -/
theorem N_eq : cfg0.N = 32 := N_0

/-- The batch entry, the head and the block of queries of a grid point. -/
def ptB (t : Fin cfg0.N) : Fin 2 := ⟨t.val / 16, by have h : t.val < 32 := lt_of_lt_of_eq t.isLt N_eq; omega⟩
@[inherit_doc ptB] def ptH (t : Fin cfg0.N) : Fin 4 := ⟨t.val / 4 % 4, by omega⟩
@[inherit_doc ptB] def ptQ (t : Fin cfg0.N) : Fin 4 := ⟨t.val % 4, by omega⟩

/-- Query `r` of block `q`. -/
def pos (q : Fin 4) (r : Fin 512) : Fin 2048 := ⟨q.val * 512 + r.val, by omega⟩

/-- Where the windows over queries and those over memory slots lie. -/
theorem index_eq : ∀ t : Fin grid0.N,
    (win0_0.index t 0 = t.val / 16 * 4 + t.val % 4 ∧ win0_0.index t 1 = t.val / 4 % 4)
    ∧ (win0_1.index t 0 = t.val / 16 ∧ win0_1.index t 1 = t.val / 4 % 4)
    ∧ (win0_2.index t 0 = t.val / 16 ∧ win0_2.index t 1 = t.val / 4 % 4)
    ∧ (win0_3.index t 0 = t.val / 16 * 4 + t.val % 4 ∧ win0_3.index t 1 = t.val / 4 % 4)
    ∧ (win0_4.index t 0 = t.val / 16 * 4 + t.val % 4 ∧ win0_4.index t 1 = t.val / 4 % 4)
    ∧ (win0_5.index t 0 = t.val / 16 ∧ win0_5.index t 1 = t.val / 4 % 4)
    ∧ (win0_6.index t 0 = t.val / 16 ∧ win0_6.index t 1 = t.val / 4 % 4) := by decide +kernel

/-- The block of queries read at a point. -/
theorem iblk_q (t : Fin cfg0.N) (r : Fin 512) (d : Fin 128) :
    (iblk (F := Ideal) m c 0 t : S512x128.Idx → EReal) (ix2 r d) = argQ m c (ix4 (ptB t) (pos (ptQ t) r) (ptH t) d) := by
  obtain ⟨⟨e0, e1⟩, -⟩ := index_eq t
  show (V (F := Ideal) m c main_v1 : S4096x512.Idx → EReal) ((win0_0.rect t).emb (ix2 r d)) = _
  rw [V_v1]
  refine flatQ _ _ _ _ _ _ ?_ ?_
  · refine (Pipeline.Window.rect_emb_val win0_0 t _ 0).trans ?_; rw [e0]
    show (t.val / 16 * 4 + t.val % 4) * 512 + r.val = t.val / 16 * 2048 + (t.val % 4 * 512 + r.val)
    omega
  · refine (Pipeline.Window.rect_emb_val win0_0 t _ 1).trans ?_; rw [e1]
    rfl

/-- The block of keys read at a point. -/
theorem iblk_k (t : Fin cfg0.N) (j : Fin 256) (d : Fin 128) :
    (iblk (F := Ideal) m c 1 t : S256x128.Idx → EReal) (ix2 j d) = argK m c (ix4 (ptB t) j (ptH t) d) := by
  obtain ⟨-, ⟨e0, e1⟩, -⟩ := index_eq t
  show (V (F := Ideal) m c main_v3 : S512x512.Idx → EReal) ((win0_1.rect t).emb (ix2 j d)) = _
  rw [V_v3]
  refine flatM _ _ _ _ _ _ ?_ ?_
  · refine (Pipeline.Window.rect_emb_val win0_1 t _ 0).trans ?_; rw [e0]; rfl
  · refine (Pipeline.Window.rect_emb_val win0_1 t _ 1).trans ?_; rw [e1]; rfl

/-- The block of values read at a point. -/
theorem iblk_v (t : Fin cfg0.N) (j : Fin 256) (d : Fin 128) :
    (iblk (F := Ideal) m c 2 t : S256x128.Idx → EReal) (ix2 j d) = argV m c (ix4 (ptB t) j (ptH t) d) := by
  obtain ⟨-, -, ⟨e0, e1⟩, -⟩ := index_eq t
  show (V (F := Ideal) m c main_v5 : S512x512.Idx → EReal) ((win0_2.rect t).emb (ix2 j d)) = _
  rw [V_v5]
  refine flatM _ _ _ _ _ _ ?_ ?_
  · refine (Pipeline.Window.rect_emb_val win0_2 t _ 0).trans ?_; rw [e0]; rfl
  · refine (Pipeline.Window.rect_emb_val win0_2 t _ 1).trans ?_; rw [e1]; rfl

/-- The block of the incoming gradient read at a point. -/
theorem iblk_g (t : Fin cfg0.N) (r : Fin 512) (d : Fin 128) :
    (iblk (F := Ideal) m c 3 t : S512x128.Idx → EReal) (ix2 r d) = argG m c (ix4 (ptB t) (pos (ptQ t) r) (ptH t) d) := by
  obtain ⟨-, -, -, ⟨e0, e1⟩, -⟩ := index_eq t
  show (V (F := Ideal) m c main_v6 : S4096x512.Idx → EReal) ((win0_3.rect t).emb (ix2 r d)) = _
  rw [V_v6]
  refine flatQ _ _ _ _ _ _ ?_ ?_
  · refine (Pipeline.Window.rect_emb_val win0_3 t _ 0).trans ?_; rw [e0]
    show (t.val / 16 * 4 + t.val % 4) * 512 + r.val = t.val / 16 * 2048 + (t.val % 4 * 512 + r.val)
    omega
  · refine (Pipeline.Window.rect_emb_val win0_3 t _ 1).trans ?_; rw [e1]
    rfl

end Cert.MemHost

end
-- ==== Proof.MemArrays.lean ====
/- The three arrays the memory-attention backward ends with, as functions of its arguments: every block of queries is
   written once, and the gradients of the keys and of the values add up over the four blocks of queries of a head. -/
module

public import proofs.«01_k».proof.Proof.MemHost

@[expose] public section

noncomputable section

namespace Cert.MemArrays

open Cert.KernelIdeal Cert.KernelIdeal.Gen Cert.KernelIdeal.Value Idealize.ShloMosaic Idealize.ShloMosaic.TcCoe
open Idealize.SL.Sem Cert.MemBlock Cert.MemHost Cert.MemCases

/-- Query `s` of head `h` of batch entry `b`. -/
abbrev rowAt (A : S2x2048x4x128.Idx → EReal) (b : Fin 2) (h : Fin 4) (s : Fin 2048) (d : Fin 128) : EReal := A (ix4 b s h d)
/-- The memory slots of head `h` of batch entry `b`. -/
abbrev slotAt (A : S2x256x4x128.Idx → EReal) (b : Fin 2) (h : Fin 4) (j : Fin 256) (d : Fin 128) : EReal := A (ix4 b j h d)

section Spec
variable (Q : S2x2048x4x128.Idx → EReal) (K V : S2x256x4x128.Idx → EReal) (G : S2x2048x4x128.Idx → EReal)

/-- The gradient of the unscaled scores of one query. -/
def ds (b : Fin 2) (h : Fin 4) (s : Fin 2048) (j : Fin 256) : EReal :=
  dscore (rowAt Q b h s) (slotAt K b h) (slotAt V b h) (rowAt G b h s) j
/-- The probabilities of one query. -/
def pr (b : Fin 2) (h : Fin 4) (s : Fin 2048) (j : Fin 256) : EReal := prob (rowAt Q b h s) (slotAt K b h) j

/-- The gradient of the queries. -/
def dqAt (b : Fin 2) (h : Fin 4) (s : Fin 2048) (d : Fin 128) : EReal := ∑ j : Fin 256, ds Q K V G b h s j * K (ix4 b j h d)
/-- The gradient of the keys. -/
def dkAt (b : Fin 2) (h : Fin 4) (j : Fin 256) (d : Fin 128) : EReal := ∑ s : Fin 2048, ds Q K V G b h s j * Q (ix4 b s h d)
/-- The gradient of the values. -/
def dvAt (b : Fin 2) (h : Fin 4) (j : Fin 256) (d : Fin 128) : EReal := ∑ s : Fin 2048, pr Q K b h s j * G (ix4 b s h d)

/-- The head and the lane of a flattened column. -/
def colH (n : Fin 512) : Fin 4 := ⟨n.val / 128, by omega⟩
@[inherit_doc colH] def colD (n : Fin 512) : Fin 128 := ⟨n.val % 128, by omega⟩
/-- The batch entry and the position of a flattened row of queries. -/
def rowB (n : Fin 4096) : Fin 2 := ⟨n.val / 2048, by omega⟩
@[inherit_doc rowB] def rowS (n : Fin 4096) : Fin 2048 := ⟨n.val % 2048, by omega⟩
/-- The batch entry and the position of a flattened row of memory slots. -/
def memB (n : Fin 512) : Fin 2 := ⟨n.val / 256, by omega⟩
@[inherit_doc memB] def memS (n : Fin 512) : Fin 256 := ⟨n.val % 256, by omega⟩

/-- The three arrays, flattened. -/
def dq : S4096x512.Idx → EReal := fun i => dqAt Q K V G (rowB (i 0)) (colH (i 1)) (rowS (i 0)) (colD (i 1))
@[inherit_doc dq] def dk : S512x512.Idx → EReal := fun i => dkAt Q K V G (memB (i 0)) (colH (i 1)) (memS (i 0)) (colD (i 1))
@[inherit_doc dq] def dv : S512x512.Idx → EReal := fun i => dvAt Q K G (memB (i 0)) (colH (i 1)) (memS (i 0)) (colD (i 1))
end Spec

/-- What the blocks of queries up to the `n`-th add up to, for a quantity given per query. -/
def upTo (f : Fin 2048 → EReal) (n : ℕ) : EReal :=
  ∑ q ∈ Finset.range (n + 1), if hq : q < 4 then ∑ r : Fin 512, f (pos ⟨q, hq⟩ r) else 0

/-- The first block alone. -/
theorem upTo_zero (f : Fin 2048 → EReal) : upTo f 0 = ∑ r : Fin 512, f (pos 0 r) := by
  simp [upTo]

/-- One block more. -/
theorem upTo_succ (f : Fin 2048 → EReal) (n : ℕ) (q : Fin 4) (hq : q.val = n + 1) :
    upTo f (n + 1) = upTo f n + ∑ r : Fin 512, f (pos q r) := by
  have h4 : n + 1 < 4 := hq ▸ q.isLt
  obtain rfl : q = ⟨n + 1, h4⟩ := Fin.ext hq
  unfold upTo
  rw [Finset.sum_range_succ, dif_pos h4]

/-- All four blocks are all the queries. -/
theorem upTo_three (f : Fin 2048 → EReal) : upTo f 3 = ∑ s : Fin 2048, f s := by
  have e : (∑ s : Fin 2048, f s) = ∑ q : Fin 4, ∑ r : Fin 512, f (pos q r) := by
    rw [← Equiv.sum_comp (finProdFinEquiv (m := 4) (n := 512)) f, Fintype.sum_prod_type]
    refine Finset.sum_congr rfl fun q _ => Finset.sum_congr rfl fun r _ => congrArg f (Fin.ext ?_)
    show r.val + 512 * q.val = q.val * 512 + r.val
    omega
  rw [e]
  simp [upTo, Finset.sum_range_succ, Fin.sum_univ_four]

variable (m : (ℓ : Loc nD τ sig) → Buf (Elt Ideal) ℓ) (c : Dev nD)

/-- The rows a grid point reads are rows of the arguments. -/
theorem rowQ_q (t : Fin cfg0.N) (r : Fin 512) :
    rowQ (iblk (F := Ideal) m c 0 t : S512x128.Idx → EReal) r = rowAt (argQ m c) (ptB t) (ptH t) (pos (ptQ t) r) :=
  funext fun d => iblk_q m c t r d
@[inherit_doc rowQ_q] theorem rowM_k (t : Fin cfg0.N) :
    rowM (iblk (F := Ideal) m c 1 t : S256x128.Idx → EReal) = slotAt (argK m c) (ptB t) (ptH t) :=
  funext fun j => funext fun d => iblk_k m c t j d
@[inherit_doc rowQ_q] theorem rowM_v (t : Fin cfg0.N) :
    rowM (iblk (F := Ideal) m c 2 t : S256x128.Idx → EReal) = slotAt (argV m c) (ptB t) (ptH t) :=
  funext fun j => funext fun d => iblk_v m c t j d
@[inherit_doc rowQ_q] theorem rowQ_g (t : Fin cfg0.N) (r : Fin 512) :
    rowQ (iblk (F := Ideal) m c 3 t : S512x128.Idx → EReal) r = rowAt (argG m c) (ptB t) (ptH t) (pos (ptQ t) r) :=
  funext fun d => iblk_g m c t r d

/-- A point's share of the three gradients. -/
theorem share_q (t : Fin cfg0.N) (r : Fin 512) (d : Fin 128) :
    k0_pay8 (F := Ideal) (iblk m c 0 t) (iblk m c 1 t) (iblk m c 2 t) (iblk m c 3 t) (ix2 r d)
      = dqAt (argQ m c) (argK m c) (argV m c) (argG m c) (ptB t) (ptH t) (pos (ptQ t) r) d := by
  refine (pay8_apply _ _ _ _ r d).trans ?_
  rw [rowQ_q, rowM_k, rowM_v, rowQ_g]
  exact Finset.sum_congr rfl fun j _ => congrArg _ (iblk_k m c t j d)
@[inherit_doc share_q] theorem share_k (t : Fin cfg0.N) (j : Fin 256) (d : Fin 128) :
    k0_pay9 (F := Ideal) (iblk m c 0 t) (iblk m c 1 t) (iblk m c 2 t) (iblk m c 3 t) (ix2 j d)
      = ∑ r : Fin 512, ds (argQ m c) (argK m c) (argV m c) (argG m c) (ptB t) (ptH t) (pos (ptQ t) r) j
          * argQ m c (ix4 (ptB t) (pos (ptQ t) r) (ptH t) d) := by
  refine (pay9_apply _ _ _ _ j d).trans ?_
  refine Finset.sum_congr rfl fun r _ => ?_
  rw [rowQ_q, rowM_k, rowM_v, rowQ_g]
  exact congrArg _ (iblk_q m c t r d)
@[inherit_doc share_q] theorem share_v (t : Fin cfg0.N) (j : Fin 256) (d : Fin 128) :
    k0_pay10 (F := Ideal) (iblk m c 0 t) (iblk m c 1 t) (iblk m c 3 t) (ix2 j d)
      = ∑ r : Fin 512, pr (argQ m c) (argK m c) (ptB t) (ptH t) (pos (ptQ t) r) j
          * argG m c (ix4 (ptB t) (pos (ptQ t) r) (ptH t) d) := by
  refine (pay10_apply _ _ _ j d).trans ?_
  refine Finset.sum_congr rfl fun r _ => ?_
  rw [rowQ_q, rowM_k]
  exact congrArg _ (iblk_g m c t r d)

/-- The gradient of a block of queries is written whole at its point. -/
theorem outs_q (t : Fin cfg0.N) (r : Fin 512) (d : Fin 128) :
    ((outsAt0 (F := Ideal) m c t.val t.isLt).1 : S512x128.Idx → EReal) (ix2 r d)
      = dqAt (argQ m c) (argK m c) (argV m c) (argG m c) (ptB t) (ptH t) (pos (ptQ t) r) d := by
  by_cases h0 : t.val % 4 = 0
  · rw [outsAt0_A m c t h0 (by omega)]
    dsimp only
    rw [outA_4]
    exact share_q m c t r d
  · rw [outsAt0_B m c t h0 (by omega)]
    dsimp only
    rw [outB_4]
    exact share_q m c t r d

/-- The gradients of keys and values hold, after a point, what the blocks of queries so far add up to. -/
theorem outs_kv : ∀ (n : ℕ) (hn : n < cfg0.N) (j : Fin 256) (d : Fin 128),
    ((outsAt0 (F := Ideal) m c n hn).2.1 : S256x128.Idx → EReal) (ix2 j d)
        = upTo (fun s => ds (argQ m c) (argK m c) (argV m c) (argG m c) (ptB ⟨n, hn⟩) (ptH ⟨n, hn⟩) s j
            * argQ m c (ix4 (ptB ⟨n, hn⟩) s (ptH ⟨n, hn⟩) d)) (n % 4)
    ∧ ((outsAt0 (F := Ideal) m c n hn).2.2 : S256x128.Idx → EReal) (ix2 j d)
        = upTo (fun s => pr (argQ m c) (argK m c) (ptB ⟨n, hn⟩) (ptH ⟨n, hn⟩) s j
            * argG m c (ix4 (ptB ⟨n, hn⟩) s (ptH ⟨n, hn⟩) d)) (n % 4) := by
  intro n
  induction n with
  | zero =>
    intro hn j d
    rw [outsAt0_A m c ⟨0, hn⟩ rfl (by dsimp only; omega)]
    dsimp only
    rw [outA_5, outA_6]
    refine ⟨?_, ?_⟩
    · rw [Nat.zero_mod, upTo_zero]
      exact share_k m c ⟨0, hn⟩ j d
    · rw [Nat.zero_mod, upTo_zero]
      exact share_v m c ⟨0, hn⟩ j d
  | succ n ih =>
    intro hn j d
    by_cases h0 : (n + 1) % 4 = 0
    · rw [outsAt0_A m c ⟨n + 1, hn⟩ h0 (by dsimp only; omega)]
      dsimp only
      rw [outA_5, outA_6, h0, upTo_zero, upTo_zero]
      have hq : ptQ ⟨n + 1, hn⟩ = 0 := Fin.ext h0
      refine ⟨?_, ?_⟩
      · rw [← hq]; exact share_k m c ⟨n + 1, hn⟩ j d
      · rw [← hq]; exact share_v m c ⟨n + 1, hn⟩ j d
    · have hn' : n < cfg0.N := Nat.lt_of_succ_lt hn
      have hb : ptB ⟨n, hn'⟩ = ptB ⟨n + 1, hn⟩ := Fin.ext (by show n / 16 = (n + 1) / 16; omega)
      have hh : ptH ⟨n, hn'⟩ = ptH ⟨n + 1, hn⟩ := Fin.ext (by show n / 4 % 4 = (n + 1) / 4 % 4; omega)
      have hs : (n + 1) % 4 = n % 4 + 1 := by omega
      obtain ⟨ik, iv⟩ := ih hn' j d
      rw [hb, hh] at ik iv
      rw [outsAt0_B m c ⟨n + 1, hn⟩ h0 (by dsimp only; omega)]
      dsimp only
      rw [outB_5, outB_6]
      refine ⟨?_, ?_⟩
      · refine (pay1_apply _ _ _).trans ?_
        rw [hs, upTo_succ _ _ (ptQ ⟨n + 1, hn⟩) hs, ← ik, share_k]
        rfl
      · refine (pay2_apply _ _ _).trans ?_
        rw [hs, upTo_succ _ _ (ptQ ⟨n + 1, hn⟩) hs, ← iv, share_v]
        rfl

/-- The array of the gradient of the queries. -/
theorem final_q : (dats (F := Ideal) m 0 c).arrAt 4 cfg0.N
    = (dq (argQ m c) (argK m c) (argV m c) (argG m c) : S4096x512.Idx → EReal) := by
  refine (dats (F := Ideal) m 0 c).arrAt_eq_of_cover 4 _ (fun t _ => ?_) (fun i => ?_)
  · rw [flushed4]
    obtain ⟨-, -, -, -, ⟨e0, e1⟩, -⟩ := index_eq t
    funext y
    obtain ⟨r, d, rfl⟩ : ∃ (r : Fin 512) (d : Fin 128), y = ix2 r d := ⟨y 0, y 1, eq_ix2 y⟩
    refine (outs_q m c t r d).trans ?_
    show _ = dq _ _ _ _ ((win0_4.rect t).emb (ix2 r d))
    have f0 : ((win0_4.rect t).emb (ix2 r d) 0 : ℕ) = (t.val / 16 * 4 + t.val % 4) * 512 + r.val := by
      refine (Pipeline.Window.rect_emb_val win0_4 t _ 0).trans ?_; rw [e0]; rfl
    have f1 : ((win0_4.rect t).emb (ix2 r d) 1 : ℕ) = t.val / 4 % 4 * 128 + d.val := by
      refine (Pipeline.Window.rect_emb_val win0_4 t _ 1).trans ?_; rw [e1]; rfl
    unfold dq
    have hb : rowB ((win0_4.rect t).emb (ix2 r d) 0) = ptB t := Fin.ext (by
      show ((win0_4.rect t).emb (ix2 r d) 0 : ℕ) / 2048 = t.val / 16; rw [f0]; omega)
    have hs : rowS ((win0_4.rect t).emb (ix2 r d) 0) = pos (ptQ t) r := Fin.ext (by
      show ((win0_4.rect t).emb (ix2 r d) 0 : ℕ) % 2048 = t.val % 4 * 512 + r.val; rw [f0]; omega)
    have hh : colH ((win0_4.rect t).emb (ix2 r d) 1) = ptH t := Fin.ext (by
      show ((win0_4.rect t).emb (ix2 r d) 1 : ℕ) / 128 = t.val / 4 % 4; rw [f1]; omega)
    have hd : colD ((win0_4.rect t).emb (ix2 r d) 1) = d := Fin.ext (by
      show ((win0_4.rect t).emb (ix2 r d) 1 : ℕ) % 128 = d.val; rw [f1]; omega)
    rw [hb, hs, hh, hd]
  · have h0 : (i 0 : ℕ) < 4096 := (i 0).isLt
    have h1 : (i 1 : ℕ) < 512 := (i 1).isLt
    let t : Fin cfg0.N := ⟨(i 0 : ℕ) / 2048 * 16 + (i 1 : ℕ) / 128 * 4 + (i 0 : ℕ) / 512 % 4, lt_of_lt_of_eq (by omega) N_eq.symm⟩
    refine ⟨t, flush0_4 t, ?_⟩
    obtain ⟨-, -, -, -, ⟨e0, e1⟩, -⟩ := index_eq t
    have ht : t.val = (i 0 : ℕ) / 2048 * 16 + (i 1 : ℕ) / 128 * 4 + (i 0 : ℕ) / 512 % 4 := rfl
    show i ∈ ((View.whole main_v7_0).slice (win0_4.rect t)).set
    rw [View.set_slice_whole, Rect.mem_set_unit]
    intro a
    match a with
    | ⟨0, _⟩ =>
      show win0_4.index t 0 * 512 ≤ (i 0 : ℕ) ∧ (i 0 : ℕ) < win0_4.index t 0 * 512 + 512
      rw [e0, ht]; omega
    | ⟨1, _⟩ =>
      show win0_4.index t 1 * 128 ≤ (i 1 : ℕ) ∧ (i 1 : ℕ) < win0_4.index t 1 * 128 + 128
      rw [e1, ht]; omega

/-- The point that writes back the block of memory slots holding an index. -/
def lastPt (i : S512x512.Idx) : Fin cfg0.N :=
  ⟨(i 0 : ℕ) / 256 * 16 + (i 1 : ℕ) / 128 * 4 + 3, lt_of_lt_of_eq (by
    have h0 : (i 0 : ℕ) < 512 := (i 0).isLt
    have h1 : (i 1 : ℕ) < 512 := (i 1).isLt
    omega) N_eq.symm⟩

/-- The array of the gradient of the keys. -/
theorem final_k : (dats (F := Ideal) m 0 c).arrAt 5 cfg0.N
    = (dk (argQ m c) (argK m c) (argV m c) (argG m c) : S512x512.Idx → EReal) := by
  refine (dats (F := Ideal) m 0 c).arrAt_eq_of_cover 5 _ (fun t hf => ?_) (fun i => ?_)
  · rw [flushed5]
    have h3 : t.val % 4 = 3 := (flush0_5 t).mp hf
    obtain ⟨-, -, -, -, -, ⟨e0, e1⟩, -⟩ := index_eq t
    funext y
    obtain ⟨j, d, rfl⟩ : ∃ (j : Fin 256) (d : Fin 128), y = ix2 j d := ⟨y 0, y 1, eq_ix2 y⟩
    refine (outs_kv m c t.val t.isLt j d).1.trans ?_
    rw [h3, upTo_three]
    show _ = dk _ _ _ _ ((win0_5.rect t).emb (ix2 j d))
    have f0 : ((win0_5.rect t).emb (ix2 j d) 0 : ℕ) = t.val / 16 * 256 + j.val := by
      refine (Pipeline.Window.rect_emb_val win0_5 t _ 0).trans ?_; rw [e0]; rfl
    have f1 : ((win0_5.rect t).emb (ix2 j d) 1 : ℕ) = t.val / 4 % 4 * 128 + d.val := by
      refine (Pipeline.Window.rect_emb_val win0_5 t _ 1).trans ?_; rw [e1]; rfl
    unfold dk
    have hb : memB ((win0_5.rect t).emb (ix2 j d) 0) = ptB t := Fin.ext (by
      show ((win0_5.rect t).emb (ix2 j d) 0 : ℕ) / 256 = t.val / 16; rw [f0]; omega)
    have hs : memS ((win0_5.rect t).emb (ix2 j d) 0) = j := Fin.ext (by
      show ((win0_5.rect t).emb (ix2 j d) 0 : ℕ) % 256 = j.val; rw [f0]; omega)
    have hh : colH ((win0_5.rect t).emb (ix2 j d) 1) = ptH t := Fin.ext (by
      show ((win0_5.rect t).emb (ix2 j d) 1 : ℕ) / 128 = t.val / 4 % 4; rw [f1]; omega)
    have hd : colD ((win0_5.rect t).emb (ix2 j d) 1) = d := Fin.ext (by
      show ((win0_5.rect t).emb (ix2 j d) 1 : ℕ) % 128 = d.val; rw [f1]; omega)
    rw [hb, hs, hh, hd]
    rfl
  · have h0 : (i 0 : ℕ) < 512 := (i 0).isLt
    have h1 : (i 1 : ℕ) < 512 := (i 1).isLt
    have ht : (lastPt i).val = (i 0 : ℕ) / 256 * 16 + (i 1 : ℕ) / 128 * 4 + 3 := rfl
    refine ⟨lastPt i, (flush0_5 _).mpr (by rw [ht]; omega), ?_⟩
    obtain ⟨-, -, -, -, -, ⟨e0, e1⟩, -⟩ := index_eq (lastPt i)
    show i ∈ ((View.whole main_v7_1).slice (win0_5.rect (lastPt i))).set
    rw [View.set_slice_whole, Rect.mem_set_unit]
    intro a
    match a with
    | ⟨0, _⟩ =>
      show win0_5.index (lastPt i) 0 * 256 ≤ (i 0 : ℕ) ∧ (i 0 : ℕ) < win0_5.index (lastPt i) 0 * 256 + 256
      rw [e0, ht]; omega
    | ⟨1, _⟩ =>
      show win0_5.index (lastPt i) 1 * 128 ≤ (i 1 : ℕ) ∧ (i 1 : ℕ) < win0_5.index (lastPt i) 1 * 128 + 128
      rw [e1, ht]; omega

/-- The array of the gradient of the values. -/
theorem final_v : (dats (F := Ideal) m 0 c).arrAt 6 cfg0.N
    = (dv (argQ m c) (argK m c) (argG m c) : S512x512.Idx → EReal) := by
  refine (dats (F := Ideal) m 0 c).arrAt_eq_of_cover 6 _ (fun t hf => ?_) (fun i => ?_)
  · rw [flushed6]
    have h3 : t.val % 4 = 3 := (flush0_6 t).mp hf
    obtain ⟨-, -, -, -, -, -, ⟨e0, e1⟩⟩ := index_eq t
    funext y
    obtain ⟨j, d, rfl⟩ : ∃ (j : Fin 256) (d : Fin 128), y = ix2 j d := ⟨y 0, y 1, eq_ix2 y⟩
    refine (outs_kv m c t.val t.isLt j d).2.trans ?_
    rw [h3, upTo_three]
    show _ = dv _ _ _ ((win0_6.rect t).emb (ix2 j d))
    have f0 : ((win0_6.rect t).emb (ix2 j d) 0 : ℕ) = t.val / 16 * 256 + j.val := by
      refine (Pipeline.Window.rect_emb_val win0_6 t _ 0).trans ?_; rw [e0]; rfl
    have f1 : ((win0_6.rect t).emb (ix2 j d) 1 : ℕ) = t.val / 4 % 4 * 128 + d.val := by
      refine (Pipeline.Window.rect_emb_val win0_6 t _ 1).trans ?_; rw [e1]; rfl
    unfold dv
    have hb : memB ((win0_6.rect t).emb (ix2 j d) 0) = ptB t := Fin.ext (by
      show ((win0_6.rect t).emb (ix2 j d) 0 : ℕ) / 256 = t.val / 16; rw [f0]; omega)
    have hs : memS ((win0_6.rect t).emb (ix2 j d) 0) = j := Fin.ext (by
      show ((win0_6.rect t).emb (ix2 j d) 0 : ℕ) % 256 = j.val; rw [f0]; omega)
    have hh : colH ((win0_6.rect t).emb (ix2 j d) 1) = ptH t := Fin.ext (by
      show ((win0_6.rect t).emb (ix2 j d) 1 : ℕ) / 128 = t.val / 4 % 4; rw [f1]; omega)
    have hd : colD ((win0_6.rect t).emb (ix2 j d) 1) = d := Fin.ext (by
      show ((win0_6.rect t).emb (ix2 j d) 1 : ℕ) % 128 = d.val; rw [f1]; omega)
    rw [hb, hs, hh, hd]
    rfl
  · have h0 : (i 0 : ℕ) < 512 := (i 0).isLt
    have h1 : (i 1 : ℕ) < 512 := (i 1).isLt
    have ht : (lastPt i).val = (i 0 : ℕ) / 256 * 16 + (i 1 : ℕ) / 128 * 4 + 3 := rfl
    refine ⟨lastPt i, (flush0_6 _).mpr (by rw [ht]; omega), ?_⟩
    obtain ⟨-, -, -, -, -, -, ⟨e0, e1⟩⟩ := index_eq (lastPt i)
    show i ∈ ((View.whole main_v7_2).slice (win0_6.rect (lastPt i))).set
    rw [View.set_slice_whole, Rect.mem_set_unit]
    intro a
    match a with
    | ⟨0, _⟩ =>
      show win0_6.index (lastPt i) 0 * 256 ≤ (i 0 : ℕ) ∧ (i 0 : ℕ) < win0_6.index (lastPt i) 0 * 256 + 256
      rw [e0, ht]; omega
    | ⟨1, _⟩ =>
      show win0_6.index (lastPt i) 1 * 128 ≤ (i 1 : ℕ) ∧ (i 1 : ℕ) < win0_6.index (lastPt i) 1 * 128 + 128
      rw [e1, ht]; omega

end Cert.MemArrays

end
-- ==== Proof.MemRef.lean ====
/- The plain reference of the memory-attention backward, read at an index: the differentiation of the normalised
   exponentials as a quotient gives the same gradient of the scores as the kernel's form, for finite scores. -/
module

public import proofs.«01_k».proof.Proof.MemArrays
public import proofs.«01_k».proof.Proof.Gen.ReferenceIdeal.Read

@[expose] public section

noncomputable section

namespace Cert.MemRef

open Cert.ReferenceIdeal Cert.ReferenceIdeal.Gen Cert.ReferenceIdeal.Read Idealize.ShloMosaic Cert.MemBlock Cert.MemArrays Cert.Softmax

variable (Q : FVec Ideal S2x2048x4x128 .f32) (K V : FVec Ideal S2x256x4x128 .f32) (G : FVec Ideal S2x2048x4x128 .f32)

/-- The scores of one query. -/
abbrev sc (b : Fin 2) (h : Fin 4) (s : Fin 2048) : Fin 256 → EReal := score (rowAt Q b h s) (slotAt K b h)
/-- The gradient of the probabilities of one query. -/
abbrev dp (b : Fin 2) (h : Fin 4) (s : Fin 2048) : Fin 256 → EReal := dprob (rowAt G b h s) (slotAt V b h)

theorem v2_apply (b : Fin 2) (h : Fin 4) (s : Fin 2048) (j : Fin 256) :
    val_main_v2 (F := Ideal) Q K (ix4 b h s j) = sc Q K b h s j := by
  unfold val_main_v2 val_main_v0 val_main_v1 val_main_cst
  pointwise
  rfl

/-- The host's maximum over the memory slots is the row maximum. -/
theorem hostMax (x : FVec Ideal S2x4x2048x256 .f32) (b : Fin 2) (h : Fin 4) (s : Fin 2048) :
    Host.reduce FloatOps.maximumf x (constant S_ .f32 0xFF800000#32) reducesTo_S2x4x2048x256_S2x4x2048_d3 h_S_ (ix3 b h s)
      = rowMax fun j => x (ix4 b h s j) := by
  have hr : S2x4x2048x256.Reduces [3] S2x4x2048 := by decide
  rw [Host.reduce_eq_fold_single FloatOps.maximumf x _ reducesTo_S2x4x2048x256_S2x4x2048_d3 hr h_S_]
  have hf : (x ∘ hr.lift (ix3 b h s)) = fun j : Fin 256 => x (ix4 b h s j) := funext fun j => congrArg x (by
    funext a; apply Fin.ext
    match a with | ⟨0, _⟩ => rfl | ⟨1, _⟩ => rfl | ⟨2, _⟩ => rfl | ⟨3, _⟩ => rfl)
  have hb : constant (F := Ideal) S_ .f32 0xFF800000#32 (Shape.Idx.first h_S_) = (⊥ : EReal) := ofBits_neg_inf
  rw [hb]
  exact congrArg (fun f => Finset.fold max (⊥ : EReal) f (Finset.univ : Finset (Fin 256))) hf

theorem v3_apply (b : Fin 2) (h : Fin 4) (s : Fin 2048) :
    val_main_v3 (F := Ideal) Q K (ix3 b h s) = rowMax (sc Q K b h s) := by
  unfold val_main_v3 val_main_cst_0
  refine (hostMax _ b h s).trans (congrArg rowMax (funext fun j => v2_apply Q K b h s j))

theorem v10_apply (b : Fin 2) (h : Fin 4) (s : Fin 2048) :
    val_main_v10 (F := Ideal) Q K (ix3 b h s) = rowMax (sc Q K b h s) := by
  rw [val_main_v10_apply, v3_apply, val_main_v9_apply, val_main_cst_2_apply]
  generalize rowMax (sc Q K b h s) = x
  show max (Ideal.ofBits .f32 0xFF800000#32) x = x
  rw [ofBits_neg_inf]
  exact max_eq_right bot_le

theorem v23_apply (b : Fin 2) (h : Fin 4) (s : Fin 2048) (j : Fin 256) :
    val_main_v23 (F := Ideal) Q K (ix4 b h s j) = expRow (sc Q K b h s) j := by
  unfold val_main_v23 val_main_v22 val_main_v21 val_main_v20
  pointwise
  simp only [v2_apply, v10_apply]
  rfl

theorem v24_apply (b : Fin 2) (h : Fin 4) (s : Fin 2048) :
    val_main_v24 (F := Ideal) Q K (ix3 b h s) = ∑ k, expRow (sc Q K b h s) k := by
  unfold val_main_v24 val_main_cst_8
  pointwise
  simp only [v23_apply]

theorem v27_apply (b : Fin 2) (h : Fin 4) (s : Fin 2048) (j : Fin 256) :
    val_main_v27 (F := Ideal) Q K (ix4 b h s j) = pr Q K b h s j := by
  unfold val_main_v27 val_main_v26 val_main_v25
  pointwise
  simp only [v23_apply, v24_apply]
  rfl

theorem v34_apply (b : Fin 2) (h : Fin 4) (s : Fin 2048) (j : Fin 256) :
    val_main_v34 (F := Ideal) V G (ix4 b h s j) = dp V G b h s j := by
  unfold val_main_v34 val_main_v33
  pointwise
  rfl

/-- The exponentials of one query. -/
abbrev ex (b : Fin 2) (h : Fin 4) (s : Fin 2048) : Fin 256 → EReal := expRow (sc Q K b h s)

theorem v30_apply (b : Fin 2) (h : Fin 4) (s : Fin 2048) :
    val_main_v30 (F := Ideal) Q K (ix4 b h s 0) = Ideal.div 1 ((∑ k, ex Q K b h s k) * ∑ k, ex Q K b h s k) := by
  unfold val_main_v30 val_main_v29 val_main_cst_9 val_main_v28 val_main_v25
  pointwise
  simp only [v24_apply]

theorem v39_apply (b : Fin 2) (h : Fin 4) (s : Fin 2048) (j : Fin 256) :
    val_main_v39 (F := Ideal) Q K V G (ix4 b h s j)
      = dp V G b h s j * Ideal.div 1 ((∑ k, ex Q K b h s k) * ∑ k, ex Q K b h s k) * ex Q K b h s j := by
  unfold val_main_v39 val_main_v38 val_main_v37
  pointwise
  simp only [v34_apply, v23_apply, v30_apply]

theorem v46_apply (b : Fin 2) (h : Fin 4) (s : Fin 2048) (j : Fin 256) :
    val_main_v46 (F := Ideal) Q K V G (ix4 b h s j)
      = -(∑ k, dp V G b h s k * Ideal.div 1 ((∑ k, ex Q K b h s k) * ∑ k, ex Q K b h s k) * ex Q K b h s k) := by
  unfold val_main_v46 val_main_v45 val_main_cst_11 val_main_v42 val_main_v41 val_main_v40 val_main_cst_10
  pointwise
  simp only [v39_apply]
  exact Fin.sum_univ_one _

theorem v50_apply (b : Fin 2) (h : Fin 4) (s : Fin 2048) (j : Fin 256) :
    val_main_v50 (F := Ideal) Q K V G (ix4 b h s j) = gradQuot (ex Q K b h s) (dp V G b h s) j * scale := by
  unfold val_main_v50 val_main_v49 val_main_cst_12 val_main_v48 val_main_v47 val_main_v44 val_main_v43 val_main_v25
  pointwise
  simp only [v46_apply, v34_apply, v23_apply, v24_apply]
  rfl

/-- Finite entries. -/
def Fin' {ι : Type} (A : ι → EReal) : Prop := ∀ i, ∃ a : ℝ, A i = a

variable {Q K}

/-- The scores of finite queries and keys are finite. -/
theorem sc_real (hQ : Fin' Q) (hK : Fin' K) (b : Fin 2) (h : Fin 4) (s : Fin 2048) (j : Fin 256) :
    ∃ a : ℝ, sc Q K b h s j = a := by
  choose q hq using hQ
  choose k hk using hK
  have hs : ∃ c : ℝ, scale = c := ⟨_, (EReal.coe_toReal (by unfold scale; decide +revert) (by unfold scale; decide +revert)).symm⟩
  obtain ⟨c, hc⟩ := hs
  refine ⟨(∑ d : Fin 128, q (ix4 b s h d) * k (ix4 b j h d)) * c, ?_⟩
  unfold sc score
  rw [hc, EReal.coe_mul, coe_sum]
  refine congrArg (· * (c : EReal)) (Finset.sum_congr rfl fun d _ => ?_)
  rw [EReal.coe_mul, ← hq, ← hk]

/-- The gradient of the unscaled scores, for finite queries and keys. -/
theorem v50_ds (hQ : Fin' Q) (hK : Fin' K) (b : Fin 2) (h : Fin 4) (s : Fin 2048) (j : Fin 256) :
    val_main_v50 (F := Ideal) Q K V G (ix4 b h s j) = ds Q K V G b h s j := by
  rw [v50_apply]
  have hr := sc_real hQ hK b h s
  obtain ⟨E, hE, h0, hL⟩ := expRow_real (sc Q K b h s) (fun k => by obtain ⟨a, ha⟩ := hr k; rw [ha]; exact EReal.coe_ne_top a)
    j (by obtain ⟨a, ha⟩ := hr j; rw [ha]; exact EReal.coe_ne_bot a)
  show gradQuot (expRow (sc Q K b h s)) (dp V G b h s) j * scale
    = gradRow (normRow (expRow (sc Q K b h s))) (dp V G b h s) j * scale
  rw [hE, gradQuot_eq E h0 hL]

theorem v54_apply (hQ : Fin' Q) (hK : Fin' K) (b : Fin 2) (s : Fin 2048) (h : Fin 4) (d : Fin 128) :
    val_main_v54 (F := Ideal) Q K V G (ix4 b s h d) = dqAt Q K V G b h s d := by
  unfold val_main_v54 val_main_v53
  pointwise
  simp only [v50_ds V G hQ hK]
  rfl

theorem v52_apply (hQ : Fin' Q) (hK : Fin' K) (b : Fin 2) (j : Fin 256) (h : Fin 4) (d : Fin 128) :
    val_main_v52 (F := Ideal) Q K V G (ix4 b j h d) = dkAt Q K V G b h j d := by
  unfold val_main_v52 val_main_v51
  pointwise
  simp only [v50_ds V G hQ hK]
  rfl

theorem v36_apply (b : Fin 2) (j : Fin 256) (h : Fin 4) (d : Fin 128) :
    val_main_v36 (F := Ideal) Q K G (ix4 b j h d) = dvAt Q K G b h j d := by
  unfold val_main_v36 val_main_v35 val_main_v33
  pointwise
  simp only [v27_apply]
  exact Finset.sum_congr rfl fun s _ => mul_comm _ _

/-- The reference's gradient of the queries is the kernel's. -/
theorem v55_eq (hQ : Fin' Q) (hK : Fin' K) : val_main_v55 (F := Ideal) Q K V G = dq Q K V G := by
  funext i
  rw [val_main_v55_apply]
  have h0 : (i 0 : ℕ) < 4096 := (i 0).isLt
  have h1 : (i 1 : ℕ) < 512 := (i 1).isLt
  have e : idx_main_v55 i = ix4 (rowB (i 0)) (rowS (i 0)) (colH (i 1)) (colD (i 1)) := by
    funext a; apply Fin.ext
    match a with
    | ⟨0, _⟩ => show ((i 0 : ℕ) * 512 + (i 1 : ℕ)) / 1048576 = (i 0 : ℕ) / 2048; omega
    | ⟨1, _⟩ => show ((i 0 : ℕ) * 512 + (i 1 : ℕ)) / 512 % 2048 = (i 0 : ℕ) % 2048; omega
    | ⟨2, _⟩ => show ((i 0 : ℕ) * 512 + (i 1 : ℕ)) / 128 % 4 = (i 1 : ℕ) / 128; omega
    | ⟨3, _⟩ => show ((i 0 : ℕ) * 512 + (i 1 : ℕ)) % 128 = (i 1 : ℕ) % 128; omega
  rw [e, v54_apply V G hQ hK]
  rfl

/-- The index of a memory slot behind a flattened row and column. -/
theorem idx_mem (i : S512x512.Idx) : idx_main_v56 i = ix4 (memB (i 0)) (memS (i 0)) (colH (i 1)) (colD (i 1)) := by
  have h0 : (i 0 : ℕ) < 512 := (i 0).isLt
  have h1 : (i 1 : ℕ) < 512 := (i 1).isLt
  funext a; apply Fin.ext
  match a with
  | ⟨0, _⟩ => show ((i 0 : ℕ) * 512 + (i 1 : ℕ)) / 131072 = (i 0 : ℕ) / 256; omega
  | ⟨1, _⟩ => show ((i 0 : ℕ) * 512 + (i 1 : ℕ)) / 512 % 256 = (i 0 : ℕ) % 256; omega
  | ⟨2, _⟩ => show ((i 0 : ℕ) * 512 + (i 1 : ℕ)) / 128 % 4 = (i 1 : ℕ) / 128; omega
  | ⟨3, _⟩ => show ((i 0 : ℕ) * 512 + (i 1 : ℕ)) % 128 = (i 1 : ℕ) % 128; omega

/-- The reference's gradient of the keys is the kernel's. -/
theorem v56_eq (hQ : Fin' Q) (hK : Fin' K) : val_main_v56 (F := Ideal) Q K V G = dk Q K V G := by
  funext i
  rw [val_main_v56_apply, idx_mem, v52_apply V G hQ hK]
  rfl

/-- The reference's gradient of the values is the kernel's. -/
theorem v57_eq : val_main_v57 (F := Ideal) Q K G = dv Q K G := by
  funext i
  rw [val_main_v57_apply]
  refine (congrArg _ (idx_mem i)).trans ?_
  rw [v36_apply G]
  rfl

end Cert.MemRef

end
-- ==== Proof.Finite.lean ====
/- What the printed test for a finite entry says: the entry is a real number. -/
module

public import Idealize.ShloMosaic.Lib.Pointwise

@[expose] public section

noncomputable section

namespace Cert.Finite

open Idealize.ShloMosaic

/-- The word of the positive infinity is the top element. -/
theorem ofBits_inf : Ideal.ofBits .f32 0x7F800000#32 = ⊤ := by simp [Ideal.ofBits, Ideal.ieee]

/-- An extended real whose absolute value is below the top element is real. -/
theorem real_of_abs (x : EReal) (h : Ideal.cmp .olt (max x (-x)) (Ideal.ofBits .f32 0x7F800000#32) = 1#1) : ∃ a : ℝ, x = a := by
  rw [ofBits_inf] at h
  have hlt : max x (-x) < ⊤ := by
    by_contra hn
    simp [Ideal.cmp, hn] at h
  rw [max_lt_iff] at hlt
  have hb : x ≠ ⊥ := fun hx => by simp [hx] at hlt
  exact ⟨x.toReal, (EReal.coe_toReal hlt.1.ne hb).symm⟩

/-- An array that passes the test at every entry has real entries. -/
theorem real_of_test {s : Shape} (A : FVec Ideal s .f32) (bc : (⟨0, ![]⟩ : Shape).BroadcastsInDim s (![] : Fin 0 → Fin s.rank))
    (h : cmpf .olt (Host.absf A) (broadcastInDim s ![] bc (constant (F := Ideal) ⟨0, ![]⟩ .f32 0x7F800000#32)) = fun _ => 1#1)
    (i : s.Idx) : ∃ a : ℝ, A i = a :=
  real_of_abs (A i) (congrFun h i)

end Cert.Finite

end
-- ==== Proof.MemClaim.lean ====
/- The claims about the memory-attention backward and its reference. -/
module

public import proofs.«01_k».proof.Defs
public import proofs.«01_k».proof.Proof.MemRef
public import proofs.«01_k».proof.Proof.Finite
public import proofs.«01_k».proof.Proof.Gen.Kernel.Frame
public import proofs.«01_k».proof.Proof.Gen.ReferenceIdeal.Run
public import proofs.«01_k».proof.Proof.Gen.Pre_finite_qk
public import Idealize.ShloMosaic.Adequacy
public import Idealize.ShloMosaic.Init

@[expose] public section

noncomputable section

namespace Cert.MemClaim

open Idealize.ShloMosaic Idealize.SL.Sem

/-- The reference runs and keeps its arguments. -/
theorem frame_ref : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The precondition makes queries and keys real. -/
theorem real_of_pre (m : (ℓ : Loc Cert.KernelIdeal.nD Cert.KernelIdeal.τ Cert.KernelIdeal.sig) → Buf (Elt Ideal) ℓ)
    (h : Cert.Pre_KernelIdeal_finite_qk m) (c : Dev Cert.KernelIdeal.nD) :
    MemRef.Fin' (MemHost.argQ m c) ∧ MemRef.Fin' (MemHost.argK m c) := by
  obtain ⟨hq, hk⟩ := h c
  exact ⟨fun i => Finite.real_of_test _ Cert.Pre_finite_qk.Gen.bcast_S_S2x2048x4x128 hq i,
    fun i => Finite.real_of_test _ Cert.Pre_finite_qk.Gen.bcast_S_S2x256x4x128 hk i⟩

/-- The kernel and the reference end with equal gradients of the queries, the keys and the values. -/
theorem algebraic : Cert.algebraic_KernelIdeal_ReferenceIdeal_pre_finite_qk := by
  intro m g m' g' hpre hagree
  refine ⟨fun c => MemArrays.dq (MemHost.argQ m c) (MemHost.argK m c) (MemHost.argV m c) (MemHost.argG m c),
    fun c => MemArrays.dk (MemHost.argQ m c) (MemHost.argK m c) (MemHost.argV m c) (MemHost.argG m c),
    fun c => MemArrays.dv (MemHost.argQ m c) (MemHost.argK m c) (MemHost.argG m c), ?_, ?_⟩
  · refine (θ_run Cert.KernelIdeal.defs _ _).mono (fun r h c => ?_) (Cert.KernelIdeal.Value.run_blocks (F := Ideal) m g)
    obtain ⟨h0, h1, h2, hargs⟩ := h c
    exact ⟨h0.trans (MemArrays.final_q m c), h1.trans (MemArrays.final_k m c), h2.trans (MemArrays.final_v m c), hargs⟩
  · refine (θ_run Cert.ReferenceIdeal.defs _ _).mono (fun r h c => ?_) (Cert.ReferenceIdeal.Value.run (F := Ideal) m' g')
    obtain ⟨h0, h1, h2, hargs⟩ := h c
    obtain ⟨a0, a1, a2, a3⟩ := hagree c
    obtain ⟨fq, fk⟩ := real_of_pre m hpre c
    refine ⟨h0.trans ?_, h1.trans ?_, h2.trans ?_, hargs⟩
    · rw [Cert.ReferenceIdeal.Read.val_main_v55_eq, a0, a1, a2, a3]
      exact MemRef.v55_eq _ _ fq fk
    · rw [Cert.ReferenceIdeal.Read.val_main_v56_eq, a0, a1, a2, a3]
      exact MemRef.v56_eq _ _ fq fk
    · refine (Cert.ReferenceIdeal.Read.val_main_v57_eq _ _ _).trans ?_
      rw [a0, a1, a3]
      exact MemRef.v57_eq _

end Cert.MemClaim

end
-- ==== Proof.Reals.lean ====
/- Real entries among extended reals: sums, products and the logistic function of real numbers are real, the constants
   one half, one and zero, and how a sum over a long axis splits into the sums over its two halves. -/
module

public import proofs.«01_k».proof.Proof.SoftmaxVjp
public import Idealize.ShloMosaic.Lib.Pointwise
public import Idealize.ShloMosaic.Lib.IdealHost

@[expose] public section

noncomputable section

namespace Cert.Reals

open Idealize.ShloMosaic

/-- An extended real that is a real number. -/
def IsReal (x : EReal) : Prop := ∃ a : ℝ, x = a

/-- A product of reals is real. -/
theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- A sum of two reals is real. -/
theorem IsReal.add {x y : EReal} (hx : IsReal x) (hy : IsReal y) : IsReal (x + y) := by
  obtain ⟨a, rfl⟩ := hx; obtain ⟨b, rfl⟩ := hy
  exact ⟨a + b, (EReal.coe_add a b).symm⟩

/-- A finite sum of reals is real. -/
theorem IsReal.sum {n : Nat} {f : Fin n → EReal} (h : ∀ k, IsReal (f k)) : IsReal (∑ k, f k) := by
  choose a ha using h
  refine ⟨∑ k, a k, ?_⟩
  rw [Softmax.coe_sum]
  exact Finset.sum_congr rfl fun k _ => ha k

/-- The word of one half, in both formats. -/
theorem half_bf16 : Ideal.ofBits .bf16 0x3F00#16 = ((1 / 2 : ℝ) : EReal) := by
  simp [Ideal.ofBits, Ideal.ieee, -EReal.coe_mul]; norm_num
@[inherit_doc half_bf16] theorem half_f32 : Ideal.ofBits .f32 0x3F000000#32 = ((1 / 2 : ℝ) : EReal) := by
  simp [Ideal.ofBits, Ideal.ieee, -EReal.coe_mul]; norm_num

/-- One half is real. -/
theorem isReal_half : IsReal (Ideal.ofBits .bf16 0x3F00#16) := ⟨1 / 2, half_bf16⟩

/-- The logistic function of a real is real. -/
theorem IsReal.logistic {x : EReal} (hx : IsReal x) : IsReal (Ideal.logistic x) := by
  obtain ⟨a, rfl⟩ := hx
  have hp : (0 : ℝ) < 1 + Real.exp (-a) := by positivity
  refine ⟨1 * (1 / (1 + Real.exp (-a))), ?_⟩
  unfold Ideal.logistic
  rw [← EReal.coe_neg, Ideal.exp_coe, ← EReal.coe_one, ← EReal.coe_add, Ideal.div_coe hp.ne', ← EReal.coe_mul]

/-- The gradient through `g * s`, `s` the logistic of `g`: the factored form and the sum of two products. -/
theorem silu_grad {x g s : EReal} (hx : IsReal x) (hg : IsReal g) (hs : IsReal s) :
    x * (s * (1 + g * (1 - s))) = x * s + g * x * (s * (1 - s)) := by
  obtain ⟨a, rfl⟩ := hx; obtain ⟨b, rfl⟩ := hg; obtain ⟨c, rfl⟩ := hs
  simp only [← EReal.coe_one, ← EReal.coe_sub, ← EReal.coe_mul, ← EReal.coe_add]
  congr 1
  ring

/-- A sum over `n + n` terms as the sum over the first and over the last `n`. -/
theorem sum_two_blocks {N n : Nat} (h : N = n + n) (f : Fin N → EReal) :
    ∑ k, f k = (∑ k : Fin n, f ⟨k.val, by omega⟩) + ∑ k : Fin n, f ⟨n + k.val, by omega⟩ := by
  subst h
  rw [Fin.sum_univ_add]
  rfl

end Cert.Reals

end
-- ==== Proof.DguBlock.lean ====
/- The gradient through the gated feed-forward layer's output product and gate: what one grid point computes, which blocks
   it reads and writes, and the array the grid ends with as one function of the arguments. -/
module

public import proofs.«01_k».proof.Proof.Gen.DguIdeal.Value
public import proofs.«01_k».proof.Proof.Reals
public import Idealize.ShloMosaic.Lib.StableHlo.Run

@[expose] public section

noncomputable section

namespace Cert.DguBlock

open Cert.DguIdeal Cert.DguIdeal.Gen Cert.DguIdeal.Value Idealize.ShloMosaic Idealize.ShloMosaic.TcCoe Idealize.SL.Sem

/-- The gradient of the activation: half the incoming row against a row of the output weights. -/
def da (dy w : Fin 2048 → EReal) : EReal := ∑ d : Fin 2048, dy d * Ideal.ofBits .bf16 0x3F00#16 * w d

/-- The gradient of the gate and of the up branch, from the activation's gradient, the gate and the up branch. -/
def dgate (a g u : EReal) : EReal := a * u * (Ideal.logistic g * (1 + g * (1 - Ideal.logistic g)))
@[inherit_doc dgate] def dup (a g : EReal) : EReal := a * (g * Ideal.logistic g)

section Payload
variable (x : FVec Ideal S1024x2048 .bf16) (w : FVec Ideal S512x2048 .bf16) (g u : FVec Ideal S1x1024x512 .f32)

theorem pay2_apply (r : Fin 1024) (j : Fin 512) :
    k0_pay2 (F := Ideal) x w (ix2 r j) = da (fun d => x (ix2 r d)) (fun d => w (ix2 j d)) := by
  unfold k0_pay2
  pointwise
  rfl

theorem pay3_apply (r : Fin 1024) (j : Fin 512) : k0_pay3 (F := Ideal) g (ix2 r j) = g (ix3 0 r j) := by
  unfold k0_pay3
  pointwise

theorem pay4_apply (r : Fin 1024) (j : Fin 512) :
    k0_pay4 (F := Ideal) g (ix2 r j) = Ideal.logistic (g (ix3 0 r j)) := by
  unfold k0_pay4
  pointwise
  simp only [pay3_apply]
  unfold Ideal.logistic
  simp [sub_eq_add_neg]

/-- A grid point's gradient of the gate. -/
theorem pay5_apply (k : Fin 1) (r : Fin 1024) (j : Fin 512) :
    k0_pay5 (F := Ideal) x w g u (ix3 k r j)
      = dgate (da (fun d => x (ix2 r d)) (fun d => w (ix2 j d))) (g (ix3 0 r j)) (u (ix3 0 r j)) := by
  unfold k0_pay5
  pointwise
  simp only [pay2_apply, pay3_apply, pay4_apply, Ideal.ofBits_one_f32]
  rfl

/-- A grid point's gradient of the up branch. -/
theorem pay6_apply (k : Fin 1) (r : Fin 1024) (j : Fin 512) :
    k0_pay1 (k0_pay6 (F := Ideal) x w g) (ix3 k r j)
      = dup (da (fun d => x (ix2 r d)) (fun d => w (ix2 j d))) (g (ix3 0 r j)) := by
  unfold k0_pay1 k0_pay6
  pointwise
  simp only [pay2_apply, pay3_apply, pay4_apply]
  rfl
end Payload

section Spec
variable (DY : S4096x2048.Idx → EReal) (W : S5632x2048.Idx → EReal) (GU : S2x4096x5632.Idx → EReal)

/-- The activation's gradient at a token and a hidden unit. -/
def daAt (r : Fin 4096) (j : Fin 5632) : EReal := da (fun d => DY (ix2 r d)) (fun d => W (ix2 j d))

/-- The two gradients, stacked: gate first, up branch second. -/
def specAt (k : Fin 2) (r : Fin 4096) (j : Fin 5632) : EReal :=
  if k = 0 then dgate (daAt DY W r j) (GU (ix3 0 r j)) (GU (ix3 1 r j)) else dup (daAt DY W r j) (GU (ix3 0 r j))
@[inherit_doc specAt] def spec : S2x4096x5632.Idx → EReal := fun i => specAt DY W GU (i 0) (i 1) (i 2)
end Spec

variable (m : (ℓ : Loc nD τ sig) → Buf (Elt Ideal) ℓ) (c : Dev nD)

/-- The arguments as arrays of extended reals. -/
abbrev argDY : S4096x2048.Idx → EReal := m ((c : Thread nD τ).loc main_arg0)
@[inherit_doc argDY] abbrev argW : S5632x2048.Idx → EReal := m ((c : Thread nD τ).loc main_arg1)
@[inherit_doc argDY] abbrev argGU : S2x4096x5632.Idx → EReal := m ((c : Thread nD τ).loc main_arg2)

/-- The rounded weights are the weights. -/
theorem V_v0 : (V (F := Ideal) m c main_v0 : S5632x2048.Idx → EReal) = argW m c := by
  unfold_abbrev_sides
  after_results
  rfl

/-- The number of grid points. -/
theorem N_eq : cfg0.N = 44 := N_0

/-- The token of a row and the hidden unit of a column of a grid point's block. -/
def tok (t : Fin cfg0.N) (r : Fin 1024) : Fin 4096 :=
  ⟨t.val / 11 * 1024 + r.val, by have h : t.val < 44 := lt_of_lt_of_eq t.isLt N_eq; omega⟩
@[inherit_doc tok] def hid (t : Fin cfg0.N) (j : Fin 512) : Fin 5632 := ⟨t.val % 11 * 512 + j.val, by omega⟩

/-- Where the windows lie. -/
theorem index_eq : ∀ t : Fin grid0.N,
    (win0_0.index t 0 = t.val / 11 ∧ win0_0.index t 1 = 0)
    ∧ (win0_1.index t 0 = t.val % 11 ∧ win0_1.index t 1 = 0)
    ∧ (win0_2.index t 0 = 0 ∧ win0_2.index t 1 = t.val / 11 ∧ win0_2.index t 2 = t.val % 11)
    ∧ (win0_3.index t 0 = 0 ∧ win0_3.index t 1 = t.val / 11 ∧ win0_3.index t 2 = t.val % 11) := by decide +kernel

/-- The block of incoming gradients read at a point. -/
theorem iblk_dy (t : Fin cfg0.N) (r : Fin 1024) (d : Fin 2048) :
    (iblk (F := Ideal) m c 0 t : S1024x2048.Idx → EReal) (ix2 r d) = argDY m c (ix2 (tok t r) d) := by
  obtain ⟨⟨e0, e1⟩, -⟩ := index_eq t
  show (V (F := Ideal) m c main_arg0 : S4096x2048.Idx → EReal) ((win0_0.rect t).emb (ix2 r d)) = _
  rw [V_main_arg0]
  refine congrArg (argDY m c) (funext fun a => Fin.ext ?_)
  match a with
  | ⟨0, _⟩ => refine (Pipeline.Window.rect_emb_val win0_0 t _ 0).trans ?_; rw [e0]; rfl
  | ⟨1, _⟩ => refine (Pipeline.Window.rect_emb_val win0_0 t _ 1).trans ?_; rw [e1]; show 0 * 2048 + d.val = d.val; omega

/-- The block of weights read at a point. -/
theorem iblk_w (t : Fin cfg0.N) (j : Fin 512) (d : Fin 2048) :
    (iblk (F := Ideal) m c 1 t : S512x2048.Idx → EReal) (ix2 j d) = argW m c (ix2 (hid t j) d) := by
  obtain ⟨-, ⟨e0, e1⟩, -⟩ := index_eq t
  show (V (F := Ideal) m c main_v0 : S5632x2048.Idx → EReal) ((win0_1.rect t).emb (ix2 j d)) = _
  rw [V_v0]
  refine congrArg (argW m c) (funext fun a => Fin.ext ?_)
  match a with
  | ⟨0, _⟩ => refine (Pipeline.Window.rect_emb_val win0_1 t _ 0).trans ?_; rw [e0]; rfl
  | ⟨1, _⟩ => refine (Pipeline.Window.rect_emb_val win0_1 t _ 1).trans ?_; rw [e1]; show 0 * 2048 + d.val = d.val; omega

/-- The block of gate and up values read at a point. -/
theorem iblk_gu (t : Fin cfg0.N) (k : Fin 2) (r : Fin 1024) (j : Fin 512) :
    (iblk (F := Ideal) m c 2 t : S2x1024x512.Idx → EReal) (ix3 k r j) = argGU m c (ix3 k (tok t r) (hid t j)) := by
  obtain ⟨-, -, ⟨e0, e1, e2⟩, -⟩ := index_eq t
  show (V (F := Ideal) m c main_arg2 : S2x4096x5632.Idx → EReal) ((win0_2.rect t).emb (ix3 k r j)) = _
  rw [V_main_arg2]
  refine congrArg (argGU m c) (funext fun a => Fin.ext ?_)
  match a with
  | ⟨0, _⟩ => refine (Pipeline.Window.rect_emb_val win0_2 t _ 0).trans ?_; rw [e0]; show 0 * 2 + k.val = k.val; omega
  | ⟨1, _⟩ => refine (Pipeline.Window.rect_emb_val win0_2 t _ 1).trans ?_; rw [e1]; rfl
  | ⟨2, _⟩ => refine (Pipeline.Window.rect_emb_val win0_2 t _ 2).trans ?_; rw [e2]; rfl

/-- A layer of a two-layer block, as the body loads it. -/
theorem ld_gate (x : S2x1024x512.Idx → EReal) (r : Fin 1024) (j : Fin 512) :
    View.ld (Val := Elt Ideal) (e' := .f32) x r0_2 (ix3 0 r j) = x (ix3 0 r j) :=
  congrArg x (funext fun a => Fin.ext (match a with
    | ⟨0, _⟩ => rfl
    | ⟨1, _⟩ => by show 0 + 1 * r.val = r.val; omega
    | ⟨2, _⟩ => by show 0 + 1 * j.val = j.val; omega))
@[inherit_doc ld_gate] theorem ld_up (x : S2x1024x512.Idx → EReal) (r : Fin 1024) (j : Fin 512) :
    View.ld (Val := Elt Ideal) (e' := .f32) x r0_3 (ix3 0 r j) = x (ix3 1 r j) :=
  congrArg x (funext fun a => Fin.ext (match a with
    | ⟨0, _⟩ => rfl
    | ⟨1, _⟩ => by show 0 + 1 * r.val = r.val; omega
    | ⟨2, _⟩ => by show 0 + 1 * j.val = j.val; omega))

theorem origin : (![0, 0] : Fin 2 → Nat) = fun _ => 0 := by decide

/-- The two gradients of a block, from the block's own incoming rows, weight rows, gate and up values. -/
def blockAt (x : S1024x2048.Idx → EReal) (w : S512x2048.Idx → EReal) (g : S2x1024x512.Idx → EReal) (k : Fin 2) (r : Fin 1024)
    (j : Fin 512) : EReal :=
  if k = 0 then dgate (da (fun d => x (ix2 r d)) (fun d => w (ix2 j d))) (g (ix3 0 r j)) (g (ix3 1 r j))
  else dup (da (fun d => x (ix2 r d)) (fun d => w (ix2 j d))) (g (ix3 0 r j))

/-- What a grid point leaves in its block of the output, from the blocks it reads. -/
theorem out_block (x : FVec Ideal S1024x2048 .bf16) (w : FVec Ideal S512x2048 .bf16) (g : FVec Ideal S2x1024x512 .f32)
    (k : Fin 2) (r : Fin 1024) (j : Fin 512) :
    out0_3 (F := Ideal) x w g (ix3 k r j) = blockAt x w g k r j := by
  unfold out0_3
  have hx : View.ld (Val := Elt Ideal) (e' := .bf16) x r0_0 = x := View.ld_unit_zero (S := S1024x2048) origin _ _
  have hw : View.ld (Val := Elt Ideal) (e' := .bf16) w r0_1 = w := View.ld_unit_zero (S := S512x2048) origin _ _
  rw [hx, hw]
  refine (View.canon_apply_of_pieces (Val := Elt Ideal) (e := .bf16)
    (fun y : S2x1024x512.Idx => blockAt x w g (y 0) (y 1) (y 2)) _ ?_ _ (cover0_3 (F := Ideal) _ _ _)).trans rfl
  intro p hp y
  rcases List.mem_cons.mp hp with rfl | hp
  · obtain ⟨k, r, j, rfl⟩ : ∃ (k : Fin 1) (r : Fin 1024) (j : Fin 512), y = ix3 k r j := ⟨y 0, y 1, y 2, eq_ix3 y⟩
    have e : r0_3.emb (ix3 k r j) = ix3 1 r j := funext fun a => Fin.ext (match a with
      | ⟨0, _⟩ => by show 1 + 1 * k.val = 1; omega
      | ⟨1, _⟩ => by show 0 + 1 * r.val = r.val; omega
      | ⟨2, _⟩ => by show 0 + 1 * j.val = j.val; omega)
    refine (pay6_apply x w _ k r j).trans ?_
    rw [ld_gate]
    refine Eq.trans ?_ (congrArg (fun y : S2x1024x512.Idx => blockAt x w g (y 0) (y 1) (y 2)) e).symm
    rfl
  · obtain rfl := List.mem_singleton.mp hp
    obtain ⟨k, r, j, rfl⟩ : ∃ (k : Fin 1) (r : Fin 1024) (j : Fin 512), y = ix3 k r j := ⟨y 0, y 1, y 2, eq_ix3 y⟩
    have e : r0_2.emb (ix3 k r j) = ix3 0 r j := funext fun a => Fin.ext (match a with
      | ⟨0, _⟩ => by show 0 + 1 * k.val = 0; omega
      | ⟨1, _⟩ => by show 0 + 1 * r.val = r.val; omega
      | ⟨2, _⟩ => by show 0 + 1 * j.val = j.val; omega)
    refine (pay5_apply x w _ _ k r j).trans ?_
    rw [ld_gate, ld_up]
    refine Eq.trans ?_ (congrArg (fun y : S2x1024x512.Idx => blockAt x w g (y 0) (y 1) (y 2)) e).symm
    rfl

/-- What a grid point leaves in its block of the output, from the arguments. -/
theorem out_apply (t : Fin cfg0.N) (k : Fin 2) (r : Fin 1024) (j : Fin 512) :
    (out0_3 (F := Ideal) (iblk m c 0 t) (iblk m c 1 t) (iblk m c 2 t) : S2x1024x512.Idx → EReal) (ix3 k r j)
      = specAt (argDY m c) (argW m c) (argGU m c) k (tok t r) (hid t j) := by
  refine (out_block _ _ _ k r j).trans ?_
  unfold blockAt specAt daAt
  rw [iblk_gu, iblk_gu, funext fun d => iblk_dy m c t r d, funext fun d => iblk_w m c t j d]

/-- The output array after the grid. -/
theorem final : (dats (F := Ideal) m 0 c).arrAt 3 cfg0.N
    = (spec (argDY m c) (argW m c) (argGU m c) : S2x4096x5632.Idx → EReal) := by
  refine (dats (F := Ideal) m 0 c).arrAt_eq_of_cover 3 _ (fun t _ => ?_) (fun i => ?_)
  · rw [flushed3]
    obtain ⟨-, -, -, e0, e1, e2⟩ := index_eq t
    funext y
    obtain ⟨k, r, j, rfl⟩ : ∃ (k : Fin 2) (r : Fin 1024) (j : Fin 512), y = ix3 k r j := ⟨y 0, y 1, y 2, eq_ix3 y⟩
    refine (out_apply m c t k r j).trans ?_
    show _ = spec _ _ _ ((win0_3.rect t).emb (ix3 k r j))
    have f : (win0_3.rect t).emb (ix3 k r j) = ix3 k (tok t r) (hid t j) := funext fun a => Fin.ext (by
      match a with
      | ⟨0, _⟩ => refine (Pipeline.Window.rect_emb_val win0_3 t _ 0).trans ?_; rw [e0]; show 0 * 2 + k.val = k.val; omega
      | ⟨1, _⟩ => refine (Pipeline.Window.rect_emb_val win0_3 t _ 1).trans ?_; rw [e1]; rfl
      | ⟨2, _⟩ => refine (Pipeline.Window.rect_emb_val win0_3 t _ 2).trans ?_; rw [e2]; rfl)
    rw [f]
    rfl
  · have h0 : (i 0 : ℕ) < 2 := (i 0).isLt
    have h1 : (i 1 : ℕ) < 4096 := (i 1).isLt
    have h2 : (i 2 : ℕ) < 5632 := (i 2).isLt
    let t : Fin cfg0.N := ⟨(i 1 : ℕ) / 1024 * 11 + (i 2 : ℕ) / 512, lt_of_lt_of_eq (by omega) N_eq.symm⟩
    refine ⟨t, flush0_3 t, ?_⟩
    obtain ⟨-, -, -, e0, e1, e2⟩ := index_eq t
    have ht : t.val = (i 1 : ℕ) / 1024 * 11 + (i 2 : ℕ) / 512 := rfl
    show i ∈ ((View.whole main_v1).slice (win0_3.rect t)).set
    rw [View.set_slice_whole, Rect.mem_set_unit]
    intro a
    match a with
    | ⟨0, _⟩ =>
      show win0_3.index t 0 * 2 ≤ (i 0 : ℕ) ∧ (i 0 : ℕ) < win0_3.index t 0 * 2 + 2
      rw [e0]; omega
    | ⟨1, _⟩ =>
      show win0_3.index t 1 * 1024 ≤ (i 1 : ℕ) ∧ (i 1 : ℕ) < win0_3.index t 1 * 1024 + 1024
      rw [e1, ht]; omega
    | ⟨2, _⟩ =>
      show win0_3.index t 2 * 512 ≤ (i 2 : ℕ) ∧ (i 2 : ℕ) < win0_3.index t 2 * 512 + 512
      rw [e2, ht]; omega

end Cert.DguBlock

end
-- ==== Proof.DguClaim.lean ====
/- The claims about the gradient through the gated feed-forward layer: the differentiated plain layer, read at an index, gives
   the array the grid ends with whenever the arguments are finite. -/
module

public import proofs.«01_k».proof.Defs
public import proofs.«01_k».proof.Proof.DguBlock
public import proofs.«01_k».proof.Proof.Finite
public import proofs.«01_k».proof.Proof.Gen.DguReferenceIdeal.Read
public import proofs.«01_k».proof.Proof.Gen.Pre_finite_dgu
public import Idealize.ShloMosaic.Adequacy
public import Idealize.ShloMosaic.Init

@[expose] public section

noncomputable section

namespace Cert.DguClaim

open Idealize.ShloMosaic Idealize.SL.Sem Cert.DguBlock Cert.Reals

section Ref
open Cert.DguReferenceIdeal Cert.DguReferenceIdeal.Gen Cert.DguReferenceIdeal.Read

variable (DY : FVec Ideal S4096x2048 .bf16) (W : FVec Ideal S5632x2048 .f32) (GU : FVec Ideal S2x4096x5632 .f32)

theorem v1_apply (r : Fin 4096) (j : Fin 5632) : val_main_v1 (F := Ideal) GU (ix2 r j) = GU (ix3 0 r j) := by
  unfold val_main_v1 val_main_v0
  pointwise

theorem v3_apply (r : Fin 4096) (j : Fin 5632) : val_main_v3 (F := Ideal) GU (ix2 r j) = GU (ix3 1 r j) := by
  unfold val_main_v3 val_main_v2
  pointwise

theorem sig_apply (r : Fin 4096) (j : Fin 5632) :
    val_main_v4_2 (F := Ideal) GU (ix2 r j) = Ideal.logistic (GU (ix3 0 r j)) := by
  unfold val_main_v4_2 val_main_call0_v4 val_main_call0_cst_0 val_main_call0_v3 val_main_call0_v2 val_main_call0_cst
    val_main_call0_v1 val_main_call0_v0
  pointwise
  simp only [v1_apply, Ideal.ofBits_one_f32]
  rfl

theorem da_apply (r : Fin 4096) (j : Fin 5632) : val_main_v12 (F := Ideal) DY W (ix2 r j) = daAt DY W r j := by
  unfold val_main_v12 val_main_v11 val_main_v10 val_main_cst_0 val_main_v9
  pointwise
  unfold daAt da
  refine Finset.sum_congr rfl fun d _ => ?_
  rw [half_bf16, half_f32, mul_comm (DY _)]

theorem v13_apply (r : Fin 4096) (j : Fin 5632) :
    val_main_v13 (F := Ideal) DY W GU (ix2 r j) = dup (daAt DY W r j) (GU (ix3 0 r j)) := by
  unfold val_main_v13 val_main_v4_0
  pointwise
  simp only [v1_apply, sig_apply, da_apply]
  exact mul_comm _ _

theorem v15_apply (r : Fin 4096) (j : Fin 5632) (ha : IsReal (daAt DY W r j)) (hg : ∀ i, IsReal (GU i)) :
    val_main_v15 (F := Ideal) DY W GU (ix2 r j) = dgate (daAt DY W r j) (GU (ix3 0 r j)) (GU (ix3 1 r j)) := by
  unfold val_main_v15 val_main_call1_v1 val_main_call1_v2 val_main_call1_v0 val_main_v14 val_main_v4_1 val_main_call0_v7
    val_main_call0_v6 val_main_call0_cst_1
  pointwise
  simp only [v1_apply, v3_apply, sig_apply, da_apply, Ideal.ofBits_one_f32]
  exact (silu_grad (ha.mul (hg _)) (hg _) (hg _).logistic).symm

/-- The reference's result is the array the grid ends with. -/
theorem v19_eq (hdy : ∀ i, IsReal (DY i)) (hw : ∀ i, IsReal (W i)) (hg : ∀ i, IsReal (GU i)) :
    (val_main_v19 (F := Ideal) DY W GU : S2x4096x5632.Idx → EReal) = spec DY W GU := by
  have ha : ∀ r j, IsReal (daAt DY W r j) := fun r j => IsReal.sum fun d => ((hdy _).mul isReal_half).mul (hw _)
  funext i
  obtain ⟨k, r, j, rfl⟩ : ∃ (k : Fin 2) (r : Fin 4096) (j : Fin 5632), i = ix3 k r j := ⟨i 0, i 1, i 2, eq_ix3 i⟩
  show _ = specAt DY W GU k r j
  unfold val_main_v19 val_main_v18 val_main_v17 val_main_v16 specAt
  match k with
  | ⟨0, _⟩ =>
    rw [if_pos (show (⟨0, _⟩ : Fin 2) = 0 from rfl), ← v15_apply DY W GU r j (ha r j) hg]
    pointwise
  | ⟨1, _⟩ =>
    rw [if_neg (show ¬(⟨1, _⟩ : Fin 2) = 0 from Fin.ne_of_val_ne Nat.one_ne_zero), ← v13_apply DY W GU r j]
    pointwise
end Ref

/-- The reference runs and keeps its arguments. -/
theorem frame_ref : Cert.quiescent_DguReferenceIdeal := fun m ρ _ =>
  (θ_run Cert.DguReferenceIdeal.defs _ _).mono (fun r h => ⟨fun c => (h c).2, sem_eq_zero_of_no_sems (by decide) r.2⟩)
    (Cert.DguReferenceIdeal.Value.run (F := Ideal) m ρ)

/-- The precondition makes every argument real. -/
theorem real_of_pre (m : (ℓ : Loc Cert.DguIdeal.nD Cert.DguIdeal.τ Cert.DguIdeal.sig) → Buf (Elt Ideal) ℓ)
    (h : Cert.Pre_DguIdeal_finite_dgu m) (c : Dev Cert.DguIdeal.nD) :
    (∀ i, IsReal (argDY m c i)) ∧ (∀ i, IsReal (argW m c i)) ∧ ∀ i, IsReal (argGU m c i) := by
  obtain ⟨h0, h1, h2⟩ := h c
  exact ⟨fun i => Finite.real_of_test _ Cert.Pre_finite_dgu.Gen.bcast_S_S4096x2048 h0 i,
    fun i => Finite.real_of_test _ Cert.Pre_finite_dgu.Gen.bcast_S_S5632x2048 h1 i,
    fun i => Finite.real_of_test _ Cert.Pre_finite_dgu.Gen.bcast_S_S2x4096x5632 h2 i⟩

/-- The kernel and the reference end with equal gradients of the gate and of the up branch. -/
theorem algebraic : Cert.algebraic_DguIdeal_DguReferenceIdeal_pre_finite_dgu := by
  intro m g m' g' hpre hagree
  refine ⟨fun c => spec (argDY m c) (argW m c) (argGU m c), ?_, ?_⟩
  · refine (θ_run Cert.DguIdeal.defs _ _).mono (fun r h c => ?_) (Cert.DguIdeal.Value.run_blocks (F := Ideal) m g)
    obtain ⟨h0, hargs⟩ := h c
    exact ⟨h0.trans (final m c), hargs⟩
  · refine (θ_run Cert.DguReferenceIdeal.defs _ _).mono (fun r h c => ?_) (Cert.DguReferenceIdeal.Value.run (F := Ideal) m' g')
    obtain ⟨h0, hargs⟩ := h c
    obtain ⟨a0, a1, a2⟩ := hagree c
    obtain ⟨r0, r1, r2⟩ := real_of_pre m hpre c
    refine ⟨h0.trans ?_, hargs⟩
    rw [Cert.DguReferenceIdeal.Read.val_main_v19_eq, a0, a1, a2]
    exact v19_eq _ _ _ r0 r1 r2

end Cert.DguClaim

end
-- ==== Proof.RmsRow.lean ====
/- One row of the root-mean-square norm and its gradient: the factored form of the gradient, and the derivative of the
   plain formula, equal wherever the row, the gain and the incoming gradient are real. -/
module

public import proofs.«01_k».proof.Proof.Reals
public import Idealize.ShloMosaic.Lib.Pointwise

@[expose] public section

noncomputable section

namespace Cert.RmsRow

open Idealize.ShloMosaic Cert.Reals

/-- The width, the small constant under the root and minus one half, as their words. -/
abbrev width : EReal := Ideal.ofBits .f32 0x45000000#32
@[inherit_doc width] abbrev eps : EReal := Ideal.ofBits .f32 0x358637BD#32
@[inherit_doc width] abbrev negHalf : EReal := Ideal.ofBits .f32 0xBF000000#32

/-- The word of the width is 2048. -/
theorem width_eq : width = ((2048 : ℝ) : EReal) := by
  simp [width, Ideal.ofBits, Ideal.ieee, -EReal.coe_mul]; norm_num

/-- The small constant is a positive real. -/
theorem eps_pos : ∃ e : ℝ, 0 < e ∧ eps = (e : EReal) := by
  refine ⟨8796093 / 2 ^ 43, by norm_num, ?_⟩
  simp [eps, Ideal.ofBits, Ideal.ieee, -EReal.coe_mul]; norm_num

/-- The word of minus one half. -/
theorem negHalf_eq : negHalf = ((-(1 / 2) : ℝ) : EReal) := by
  simp [negHalf, Ideal.ofBits, Ideal.ieee, -EReal.coe_mul]; norm_num

section Row
variable (x g h : Fin 2048 → EReal)

/-- The mean square of a row, with the small constant. -/
def ms : EReal := Ideal.div (∑ d, x d * x d) width + eps
/-- One over the root of the mean square. -/
def rr : EReal := Ideal.rsqrt (ms x)
/-- The normalised entry. -/
def hat (p : Fin 2048) : EReal := x p * rr x
/-- The gradient through the norm, factored: what arrives less the normalised entry times the mean of their product. -/
def grad (p : Fin 2048) : EReal :=
  rr x * (h p * g p - hat x p * Ideal.div (∑ d, h d * g d * hat x d) width)

/-- The derivative's factor at a row: the gradient of the mean square. -/
def coef : EReal := Ideal.div ((∑ d, x d * (h d * g d)) * (negHalf * Ideal.div (rr x) (ms x))) width

/-- The mean square of a real row is a positive real. -/
theorem ms_real (a : Fin 2048 → ℝ) : ∃ s : ℝ, 0 < s ∧ ms (fun d => (a d : EReal)) = (s : EReal) := by
  obtain ⟨e, he, h⟩ := eps_pos
  refine ⟨(∑ d, a d * a d) * (1 / 2048) + e, ?_, ?_⟩
  · have : (0 : ℝ) ≤ ∑ d, a d * a d := Finset.sum_nonneg fun d _ => mul_self_nonneg _
    positivity
  · unfold ms
    rw [h, width_eq, Ideal.div_coe (by norm_num)]
    simp only [← EReal.coe_mul]
    rw [← Softmax.coe_sum, ← EReal.coe_mul, ← EReal.coe_add]

/-- The factored gradient added to what the residual carries is the derivative of the plain formula. -/
theorem grad_eq (r : EReal) (hx : ∀ d, IsReal (x d)) (hg : ∀ d, IsReal (g d)) (hh : ∀ d, IsReal (h d)) (p : Fin 2048) :
    r + h p * g p * rr x + x p * coef x g h + coef x g h * x p = r + grad x g h p := by
  choose a ha using hx
  choose b hb using hg
  choose c hc using hh
  obtain rfl : x = fun d => (a d : EReal) := funext ha
  obtain rfl : g = fun d => (b d : EReal) := funext hb
  obtain rfl : h = fun d => (c d : EReal) := funext hc
  obtain ⟨s, hs, hms⟩ := ms_real a
  have hr : rr (fun d => (a d : EReal)) = (((Real.sqrt s)⁻¹ : ℝ) : EReal) := by
    unfold rr
    rw [hms, Ideal.rsqrt_coe, if_neg (not_lt.mpr hs.le), if_neg hs.ne']
  have hq : (Real.sqrt s)⁻¹ * (Real.sqrt s)⁻¹ = 1 / s := by
    rw [← mul_inv, Real.mul_self_sqrt hs.le, one_div]
  have hcoef : coef (fun d => (a d : EReal)) (fun d => (b d : EReal)) (fun d => (c d : EReal))
      = (((∑ d, a d * (c d * b d)) * (-(1 / 2) * ((Real.sqrt s)⁻¹ * (1 / s))) * (1 / 2048) : ℝ) : EReal) := by
    unfold coef
    rw [hr, hms, width_eq, negHalf_eq, Ideal.div_coe (by norm_num), Ideal.div_coe hs.ne']
    simp only [← EReal.coe_mul]
    rw [← Softmax.coe_sum]
    simp only [← EReal.coe_mul]
  have hsum : (∑ d, c d * b d * (a d * (Real.sqrt s)⁻¹)) = (∑ d, a d * (c d * b d)) * (Real.sqrt s)⁻¹ := by
    rw [Finset.sum_mul]
    exact Finset.sum_congr rfl fun d _ => by ring
  have hgrad : grad (fun d => (a d : EReal)) (fun d => (b d : EReal)) (fun d => (c d : EReal)) p
      = (((Real.sqrt s)⁻¹ * (c p * b p - a p * (Real.sqrt s)⁻¹ * ((∑ d, a d * (c d * b d)) * (Real.sqrt s)⁻¹ * (1 / 2048))) : ℝ) : EReal) := by
    unfold grad hat
    rw [hr, width_eq, Ideal.div_coe (by norm_num)]
    simp only [← EReal.coe_mul]
    rw [← Softmax.coe_sum, hsum]
    simp only [← EReal.coe_mul, ← EReal.coe_sub]
  rw [hcoef, hgrad, hr, add_assoc, add_assoc]
  simp only [← EReal.coe_mul, ← EReal.coe_add]
  refine congrArg (fun z : ℝ => r + (z : EReal)) ?_
  rw [← hq]
  ring
end Row

end Cert.RmsRow

end
-- ==== Proof.Partial.lean ====
/- Sums taken a block at a time: what the blocks of equal width up to the n-th add up to. -/
module

public import Idealize.ShloMosaic.Lib.Pointwise

@[expose] public section

noncomputable section

namespace Cert.Partial

open Idealize.ShloMosaic

variable {N w : ℕ} (f : Fin N → EReal)

/-- A family continued by zero. -/
def ext (d : ℕ) : EReal := if h : d < N then f ⟨d, h⟩ else 0

/-- What the blocks of width `w` up to the `n`-th add up to. -/
def upTo (w n : ℕ) : EReal := ∑ d ∈ Finset.range ((n + 1) * w), ext f d

/-- One block of the continued family. -/
theorem block (n : ℕ) (p : Fin w → Fin N) (hp : ∀ r, (p r).val = n * w + r.val) :
    ∑ d ∈ Finset.range w, ext f (n * w + d) = ∑ r : Fin w, f (p r) := by
  rw [Finset.sum_range]
  refine Finset.sum_congr rfl fun r _ => ?_
  unfold ext
  rw [dif_pos (show n * w + r.val < N from hp r ▸ (p r).isLt)]
  exact congrArg f (Fin.ext (hp r).symm)

/-- The first block alone. -/
theorem upTo_zero (p : Fin w → Fin N) (hp : ∀ r, (p r).val = r.val) : upTo f w 0 = ∑ r : Fin w, f (p r) := by
  rw [← block f 0 p fun r => (hp r).trans (by omega)]
  unfold upTo
  simp only [Nat.zero_add, Nat.one_mul, Nat.zero_mul]

/-- One block more. -/
theorem upTo_succ (n : ℕ) (p : Fin w → Fin N) (hp : ∀ r, (p r).val = (n + 1) * w + r.val) :
    upTo f w (n + 1) = upTo f w n + ∑ r : Fin w, f (p r) := by
  rw [← block f (n + 1) p hp]
  unfold upTo
  rw [show (n + 1 + 1) * w = (n + 1) * w + w by ring, Finset.sum_range_add]

/-- All the blocks are the whole family. -/
theorem upTo_last (n : ℕ) (h : (n + 1) * w = N) : upTo f w n = ∑ d : Fin N, f d := by
  unfold upTo
  rw [h, Finset.sum_range]
  refine Finset.sum_congr rfl fun d _ => ?_
  unfold ext
  rw [dif_pos d.isLt]

end Cert.Partial

end
-- ==== Proof.Products.lean ====
/- The three plain products of two matrices over the extended reals: as they stand, with the right factor transposed, and
   with the left one transposed. -/
module

public import Idealize.ShloMosaic.Lib.Pointwise

@[expose] public section

noncomputable section

namespace Cert.Products

open Idealize.ShloMosaic

/-- An array of extended reals with two axes. -/
abbrev Mat (m n : Nat) : Type := (⟨2, ![m, n]⟩ : Shape).Idx → EReal

variable {m n k : Nat}

/-- Rows of the left factor against columns of the right one. -/
def nn (a : Mat m k) (b : Mat k n) : Mat m n := fun i => ∑ d : Fin k, a (ix2 (i 0) d) * b (ix2 d (i 1))

/-- Rows of the left factor against rows of the right one. -/
def nt (a : Mat m k) (b : Mat n k) : Mat m n := fun i => ∑ d : Fin k, a (ix2 (i 0) d) * b (ix2 (i 1) d)

/-- Columns of the left factor against columns of the right one. -/
def tn (a : Mat k m) (b : Mat k n) : Mat m n := fun i => ∑ d : Fin k, a (ix2 d (i 0)) * b (ix2 d (i 1))

/-- A matrix added to a product. -/
def plus (x y : Mat m n) : Mat m n := fun i => x i + y i

/-- One half. -/
def half : EReal := ((1 / 2 : ℝ) : EReal)

/-- Half of a matrix. -/
def halved (y : Mat m n) : Mat m n := fun i => half * y i

/-- Half of a sum is the sum of the halves, at the infinities too. -/
theorem half_mul_sum {ι : Type} (s : Finset ι) (f : ι → EReal) : half * ∑ d ∈ s, f d = ∑ d ∈ s, half * f d := by
  classical
  induction s using Finset.induction with
  | empty => simp
  | insert a s ha ih =>
    rw [Finset.sum_insert ha, Finset.sum_insert ha, ← ih]
    exact EReal.left_distrib_of_nonneg_of_ne_top (EReal.coe_nonneg.mpr (by norm_num)) (EReal.coe_ne_top _) _ _

/-- Both coordinates of a buffer's whole rectangle start at zero. -/
theorem origin : (![0, 0] : Fin 2 → Nat) = fun _ => 0 := by decide

end Cert.Products

end
-- ==== Proof.RmsBlock.lean ====
/- The gradient of the root-mean-square norm: what one grid point computes, which rows it reads and writes, and the three
   arrays the grid ends with as functions of the arguments. -/
module

public import proofs.«01_k».proof.Proof.Gen.RmsIdeal.Value
public import proofs.«01_k».proof.Proof.RmsRow
public import proofs.«01_k».proof.Proof.Partial
public import proofs.«01_k».proof.Proof.Products
public import Idealize.ShloMosaic.Lib.Tactic

@[expose] public section

noncomputable section

namespace Cert.RmsBlock

open Cert.RmsIdeal Cert.RmsIdeal.Gen Cert.RmsIdeal.Value Idealize.ShloMosaic Idealize.ShloMosaic.TcCoe Idealize.SL.Sem
open Cert.RmsRow Cert.Partial
open Cert.Products (origin)

section Payload
variable (x h d : FVec Ideal S256x2048 .f32) (g : FVec Ideal S1x2048 .f32)

/-- A row of a block. -/
abbrev row (x : S256x2048.Idx → EReal) (r : Fin 256) (p : Fin 2048) : EReal := x (ix2 r p)
/-- The one row of the gain. -/
abbrev one (g : S1x2048.Idx → EReal) (p : Fin 2048) : EReal := g (ix2 0 p)

theorem pay2_apply (r : Fin 256) (z : Fin 1) : k0_pay2 (F := Ideal) x (ix2 r z) = rr (row x r) := by
  unfold k0_pay2
  pointwise
  rfl

theorem pay3_apply (r : Fin 256) (p : Fin 2048) : k0_pay3 (F := Ideal) x (ix2 r p) = hat (row x r) p := by
  unfold k0_pay3
  pointwise
  simp only [pay2_apply]
  rfl

/-- The gradient of a row. -/
theorem pay4_apply (r : Fin 256) (p : Fin 2048) :
    k0_pay4 (F := Ideal) x h d g (ix2 r p) = d (ix2 r p) + grad (row x r) (one g) (row h r) p := by
  unfold k0_pay4
  pointwise
  simp only [pay2_apply, pay3_apply]
  rfl

/-- The gradient of the gain from a block of rows. -/
theorem pay5_apply (z : Fin 1) (p : Fin 2048) :
    k0_pay5 (F := Ideal) x h (ix2 z p) = ∑ r : Fin 256, h (ix2 r p) * hat (row x r) p := by
  unfold k0_pay5
  pointwise
  simp only [pay3_apply]

theorem pay6_apply (r : Fin 256) (p : Fin 2048) :
    k0_pay6 (F := Ideal) x h d g (ix2 r p) = d (ix2 r p) + grad (row x r) (one g) (row h r) p := by
  unfold k0_pay6
  pointwise
  exact pay4_apply x h d g r p

theorem pay1_apply (a b : FVec Ideal S1x2048 .f32) (z : Fin 1) (p : Fin 2048) :
    k0_pay1 (F := Ideal) a b (ix2 z p) = b (ix2 z p) + a (ix2 z p) := by
  unfold k0_pay1
  pointwise
end Payload

section Cases
variable {F : FTy → Type} [FloatOps F]
variable (c : Dev nD) (i : grid0.Coords)
  (a1 : Memref sig .tc .vmem S256x2048 .f32) (h1 : a1.IsWhole)
  (a2 : Memref sig .tc .vmem S256x2048 .f32) (h2 : a2.IsWhole)
  (a3 : Memref sig .tc .vmem S256x2048 .f32) (h3 : a3.IsWhole)
  (a4 : Memref sig .tc .vmem S1x2048 .f32) (h4 : a4.IsWhole)
  (a5 : Memref sig .tc .vmem S256x2048 .f32) (h5 : a5.IsWhole)
  (a6 : Memref sig .tc .vmem S256x2048 .bf16) (h6 : a6.IsWhole)
  (a7 : Memref sig .tc .vmem S1x2048 .f32) (h7 : a7.IsWhole)
  (x0 x1 x2 : Vec F S256x2048 .f32) (x3 : Vec F S1x2048 .f32) (o6 : Vec F S1x2048 .f32)

/-- At the first block of rows, the gradient of the rows. -/
theorem outA_4 (hc0 : cond0_0 i) (hc1 : ¬cond0_1 i) :
    out0_A_4 (F := F) c i a1 h1 a2 h2 a3 h3 a4 h4 a5 h5 a6 h6 a7 h7 hc0 hc1 x0 x1 x2 x3 = k0_pay4 x0 x1 x2 x3 := by
  unfold out0_A_4
  rw [View.read_writes_eq_canon _ _ _ (cover0_A_4 c i a1 h1 a2 h2 a3 h3 a4 h4 a5 h5 a6 h6 a7 h7 hc0 hc1 x0 x1 x2 x3)]
  unfold kernelRun0_A
  dsimp only
  sl_unfold_words
  rw [View.canon_unit_zero origin]
  simp only [View.readAt_eq_ld, h1.read_unread, h2.read_unread, h3.read_unread, h4.read_unread, h5.read_unread, h6.read_unread, h7.read_unread, View.ld_unit_zero (S := S256x2048) origin, View.ld_unit_zero (S := S1x2048) origin]

/-- At the first block of rows, the rounded gradient of the rows. -/
theorem outA_5 (hc0 : cond0_0 i) (hc1 : ¬cond0_1 i) :
    out0_A_5 (F := F) c i a1 h1 a2 h2 a3 h3 a4 h4 a5 h5 a6 h6 a7 h7 hc0 hc1 x0 x1 x2 x3 = k0_pay6 x0 x1 x2 x3 := by
  unfold out0_A_5
  rw [View.read_writes_eq_canon _ _ _ (cover0_A_5 c i a1 h1 a2 h2 a3 h3 a4 h4 a5 h5 a6 h6 a7 h7 hc0 hc1 x0 x1 x2 x3)]
  unfold kernelRun0_A
  dsimp only
  sl_unfold_words
  rw [View.canon_unit_zero origin]
  simp only [View.readAt_eq_ld, h1.read_unread, h2.read_unread, h3.read_unread, h4.read_unread, h5.read_unread, h6.read_unread, h7.read_unread, View.ld_unit_zero (S := S256x2048) origin, View.ld_unit_zero (S := S1x2048) origin]

/-- At the first block of rows, the gradient of the gain. -/
theorem outA_6 (hc0 : cond0_0 i) (hc1 : ¬cond0_1 i) :
    out0_A_6 (F := F) c i a1 h1 a2 h2 a3 h3 a4 h4 a5 h5 a6 h6 a7 h7 hc0 hc1 x0 x1 x2 x3 = k0_pay5 x0 x1 := by
  unfold out0_A_6
  rw [View.read_writes_eq_canon _ _ _ (cover0_A_6 c i a1 h1 a2 h2 a3 h3 a4 h4 a5 h5 a6 h6 a7 h7 hc0 hc1 x0 x1 x2 x3)]
  unfold kernelRun0_A
  dsimp only
  sl_unfold_words
  rw [View.canon_unit_zero origin]
  simp only [View.readAt_eq_ld, h1.read_unread, h2.read_unread, h3.read_unread, h4.read_unread, h5.read_unread, h6.read_unread, h7.read_unread, View.ld_unit_zero (S := S256x2048) origin, View.ld_unit_zero (S := S1x2048) origin]

/-- At a later block of rows, the gradient of the rows. -/
theorem outB_4 (hc0 : ¬cond0_0 i) (hc1 : cond0_1 i) :
    out0_B_4 (F := F) c i a1 h1 a2 h2 a3 h3 a4 h4 a5 h5 a6 h6 a7 h7 hc0 hc1 x0 x1 x2 x3 o6 = k0_pay4 x0 x1 x2 x3 := by
  unfold out0_B_4
  rw [View.read_writes_eq_canon _ _ _ (cover0_B_4 c i a1 h1 a2 h2 a3 h3 a4 h4 a5 h5 a6 h6 a7 h7 hc0 hc1 x0 x1 x2 x3 o6)]
  unfold kernelRun0_B
  dsimp only
  sl_unfold_words
  rw [View.canon_unit_zero origin]
  simp only [View.readAt_eq_ld, h1.read_unread, h2.read_unread, h3.read_unread, h4.read_unread, h5.read_unread, h6.read_unread, h7.read_unread, View.ld_unit_zero (S := S256x2048) origin, View.ld_unit_zero (S := S1x2048) origin]

/-- At a later block of rows, the rounded gradient of the rows. -/
theorem outB_5 (hc0 : ¬cond0_0 i) (hc1 : cond0_1 i) :
    out0_B_5 (F := F) c i a1 h1 a2 h2 a3 h3 a4 h4 a5 h5 a6 h6 a7 h7 hc0 hc1 x0 x1 x2 x3 o6 = k0_pay6 x0 x1 x2 x3 := by
  unfold out0_B_5
  rw [View.read_writes_eq_canon _ _ _ (cover0_B_5 c i a1 h1 a2 h2 a3 h3 a4 h4 a5 h5 a6 h6 a7 h7 hc0 hc1 x0 x1 x2 x3 o6)]
  unfold kernelRun0_B
  dsimp only
  sl_unfold_words
  rw [View.canon_unit_zero origin]
  simp only [View.readAt_eq_ld, h1.read_unread, h2.read_unread, h3.read_unread, h4.read_unread, h5.read_unread, h6.read_unread, h7.read_unread, View.ld_unit_zero (S := S256x2048) origin, View.ld_unit_zero (S := S1x2048) origin]

/-- At a later block of rows, the gradient of the gain. -/
theorem outB_6 (hc0 : ¬cond0_0 i) (hc1 : cond0_1 i) :
    out0_B_6 (F := F) c i a1 h1 a2 h2 a3 h3 a4 h4 a5 h5 a6 h6 a7 h7 hc0 hc1 x0 x1 x2 x3 o6 = k0_pay1 (k0_pay5 x0 x1) o6 := by
  unfold out0_B_6
  rw [View.read_writes_eq_canon _ _ _ (cover0_B_6 c i a1 h1 a2 h2 a3 h3 a4 h4 a5 h5 a6 h6 a7 h7 hc0 hc1 x0 x1 x2 x3 o6)]
  unfold kernelRun0_B
  dsimp only
  sl_unfold_words
  rw [View.canon_unit_zero origin]
  simp only [View.readAt_eq_ld, h1.read_unread, h2.read_unread, h3.read_unread, h4.read_unread, h5.read_unread, h6.read_unread, h7.read_unread, View.ld_unit_zero (S := S256x2048) origin, View.ld_unit_zero (S := S1x2048) origin]

end Cases

section Spec
variable (X : S4096x2048.Idx → EReal) (G : S1x2048.Idx → EReal) (H D : S4096x2048.Idx → EReal)

/-- A row of the activations. -/
abbrev rowAt (A : S4096x2048.Idx → EReal) (r : Fin 4096) (p : Fin 2048) : EReal := A (ix2 r p)
/-- The gradient of the activations: what the residual carries plus the gradient through the norm. -/
def dx : S4096x2048.Idx → EReal := fun i => D (ix2 (i 0) (i 1)) + grad (rowAt X (i 0)) (one G) (rowAt H (i 0)) (i 1)
/-- One token's share of the gradient of the gain. -/
def gain (p : Fin 2048) (r : Fin 4096) : EReal := H (ix2 r p) * hat (rowAt X r) p
/-- The gradient of the gain. -/
def dgain : S1x2048.Idx → EReal := fun i => ∑ r : Fin 4096, gain X H (i 1) r
end Spec

variable (m : (ℓ : Loc nD τ sig) → Buf (Elt Ideal) ℓ) (c : Dev nD)

/-- The arguments as arrays of extended reals. -/
abbrev argX : S4096x2048.Idx → EReal := m ((c : Thread nD τ).loc main_arg0)
@[inherit_doc argX] abbrev argG : S1x2048.Idx → EReal := m ((c : Thread nD τ).loc main_arg1)
@[inherit_doc argX] abbrev argH : S4096x2048.Idx → EReal := m ((c : Thread nD τ).loc main_arg2)
@[inherit_doc argX] abbrev argD : S4096x2048.Idx → EReal := m ((c : Thread nD τ).loc main_arg3)

/-- The number of grid points. -/
theorem N_eq : cfg0.N = 16 := N_0

/-- The token of a row of a grid point's block. -/
def tok (t : Fin cfg0.N) (r : Fin 256) : Fin 4096 :=
  ⟨t.val * 256 + r.val, by have h : t.val < 16 := lt_of_lt_of_eq t.isLt N_eq; omega⟩

/-- Where the windows lie. -/
theorem index_eq : ∀ t : Fin grid0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0)
    ∧ (win0_4.index t 0 = t.val ∧ win0_4.index t 1 = 0) ∧ (win0_5.index t 0 = t.val ∧ win0_5.index t 1 = 0)
    ∧ (win0_6.index t 0 = 0 ∧ win0_6.index t 1 = 0) := by decide +kernel

/-- The rows of an argument read at a point. -/
theorem iblk_x (t : Fin cfg0.N) (r : Fin 256) (p : Fin 2048) :
    (iblk (F := Ideal) m c 0 t : S256x2048.Idx → EReal) (ix2 r p) = argX m c (ix2 (tok t r) p) := by
  obtain ⟨⟨e0, e1⟩, -⟩ := index_eq t
  show (V (F := Ideal) m c main_arg0 : S4096x2048.Idx → EReal) ((win0_0.rect t).emb (ix2 r p)) = _
  rw [V_main_arg0]
  refine congrArg (argX m c) (funext fun a => Fin.ext ?_)
  match a with
  | ⟨0, _⟩ => refine (Pipeline.Window.rect_emb_val win0_0 t _ 0).trans ?_; rw [e0]; rfl
  | ⟨1, _⟩ => refine (Pipeline.Window.rect_emb_val win0_0 t _ 1).trans ?_; rw [e1]; show 0 * 2048 + p.val = p.val; omega

/-- The rows of an argument read at a point. -/
theorem iblk_h (t : Fin cfg0.N) (r : Fin 256) (p : Fin 2048) :
    (iblk (F := Ideal) m c 1 t : S256x2048.Idx → EReal) (ix2 r p) = argH m c (ix2 (tok t r) p) := by
  obtain ⟨-, ⟨e0, e1⟩, -⟩ := index_eq t
  show (V (F := Ideal) m c main_arg2 : S4096x2048.Idx → EReal) ((win0_1.rect t).emb (ix2 r p)) = _
  rw [V_main_arg2]
  refine congrArg (argH m c) (funext fun a => Fin.ext ?_)
  match a with
  | ⟨0, _⟩ => refine (Pipeline.Window.rect_emb_val win0_1 t _ 0).trans ?_; rw [e0]; rfl
  | ⟨1, _⟩ => refine (Pipeline.Window.rect_emb_val win0_1 t _ 1).trans ?_; rw [e1]; show 0 * 2048 + p.val = p.val; omega

/-- The rows of an argument read at a point. -/
theorem iblk_d (t : Fin cfg0.N) (r : Fin 256) (p : Fin 2048) :
    (iblk (F := Ideal) m c 2 t : S256x2048.Idx → EReal) (ix2 r p) = argD m c (ix2 (tok t r) p) := by
  obtain ⟨-, -, ⟨e0, e1⟩, -⟩ := index_eq t
  show (V (F := Ideal) m c main_arg3 : S4096x2048.Idx → EReal) ((win0_2.rect t).emb (ix2 r p)) = _
  rw [V_main_arg3]
  refine congrArg (argD m c) (funext fun a => Fin.ext ?_)
  match a with
  | ⟨0, _⟩ => refine (Pipeline.Window.rect_emb_val win0_2 t _ 0).trans ?_; rw [e0]; rfl
  | ⟨1, _⟩ => refine (Pipeline.Window.rect_emb_val win0_2 t _ 1).trans ?_; rw [e1]; show 0 * 2048 + p.val = p.val; omega

/-- The gain read at a point. -/
theorem iblk_g (t : Fin cfg0.N) (z : Fin 1) (p : Fin 2048) :
    (iblk (F := Ideal) m c 3 t : S1x2048.Idx → EReal) (ix2 z p) = argG m c (ix2 z p) := by
  obtain ⟨-, -, -, ⟨e0, e1⟩, -⟩ := index_eq t
  show (V (F := Ideal) m c main_arg1 : S1x2048.Idx → EReal) ((win0_3.rect t).emb (ix2 z p)) = _
  rw [V_main_arg1]
  refine congrArg (argG m c) (funext fun a => Fin.ext ?_)
  match a with
  | ⟨0, _⟩ => refine (Pipeline.Window.rect_emb_val win0_3 t _ 0).trans ?_; rw [e0]; show 0 * 1 + z.val = z.val; omega
  | ⟨1, _⟩ => refine (Pipeline.Window.rect_emb_val win0_3 t _ 1).trans ?_; rw [e1]; show 0 * 2048 + p.val = p.val; omega

/-- What a point computes, from the arguments. -/
theorem share_x (t : Fin cfg0.N) (r : Fin 256) (p : Fin 2048) :
    k0_pay4 (F := Ideal) (iblk m c 0 t) (iblk m c 1 t) (iblk m c 2 t) (iblk m c 3 t) (ix2 r p)
      = dx (argX m c) (argG m c) (argH m c) (argD m c) (ix2 (tok t r) p) := by
  refine (pay4_apply _ _ _ _ r p).trans ?_
  rw [show row (iblk (F := Ideal) m c 0 t : S256x2048.Idx → EReal) r = rowAt (argX m c) (tok t r) from funext fun q => iblk_x m c t r q,
    show row (iblk (F := Ideal) m c 1 t : S256x2048.Idx → EReal) r = rowAt (argH m c) (tok t r) from funext fun q => iblk_h m c t r q,
    show one (iblk (F := Ideal) m c 3 t : S1x2048.Idx → EReal) = one (argG m c) from funext fun q => iblk_g m c t 0 q]
  exact congrArg (· + _) (iblk_d m c t r p)
@[inherit_doc share_x] theorem share_r (t : Fin cfg0.N) (r : Fin 256) (p : Fin 2048) :
    k0_pay6 (F := Ideal) (iblk m c 0 t) (iblk m c 1 t) (iblk m c 2 t) (iblk m c 3 t) (ix2 r p)
      = dx (argX m c) (argG m c) (argH m c) (argD m c) (ix2 (tok t r) p) :=
  ((pay6_apply _ _ _ _ r p).trans (pay4_apply _ _ _ _ r p).symm).trans (share_x m c t r p)
@[inherit_doc share_x] theorem share_g (t : Fin cfg0.N) (z : Fin 1) (p : Fin 2048) :
    k0_pay5 (F := Ideal) (iblk m c 0 t) (iblk m c 1 t) (ix2 z p) = ∑ r : Fin 256, gain (argX m c) (argH m c) p (tok t r) := by
  refine (pay5_apply _ _ z p).trans ?_
  refine Finset.sum_congr rfl fun r _ => ?_
  rw [show row (iblk (F := Ideal) m c 0 t : S256x2048.Idx → EReal) r = rowAt (argX m c) (tok t r) from funext fun q => iblk_x m c t r q]
  exact congrArg (· * _) (iblk_h m c t r p)

/-- The gradient of a block of rows is written whole at its point, in both precisions. -/
theorem outs_x (t : Fin cfg0.N) (r : Fin 256) (p : Fin 2048) :
    ((outsAt0 (F := Ideal) m c t.val t.isLt).1 : S256x2048.Idx → EReal) (ix2 r p)
        = dx (argX m c) (argG m c) (argH m c) (argD m c) (ix2 (tok t r) p)
    ∧ ((outsAt0 (F := Ideal) m c t.val t.isLt).2.1 : S256x2048.Idx → EReal) (ix2 r p)
        = dx (argX m c) (argG m c) (argH m c) (argD m c) (ix2 (tok t r) p) := by
  have ht : t.val < 16 := lt_of_lt_of_eq t.isLt N_eq
  by_cases h0 : t.val % 16 = 0
  · rw [outsAt0_A m c t h0 (by omega)]
    dsimp only
    rw [outA_4, outA_5]
    exact ⟨share_x m c t r p, share_r m c t r p⟩
  · rw [outsAt0_B m c t h0 (by omega)]
    dsimp only
    rw [outB_4, outB_5]
    exact ⟨share_x m c t r p, share_r m c t r p⟩

/-- The gradient of the gain holds, after a point, what the blocks of rows so far add up to. -/
theorem outs_g : ∀ (n : ℕ) (hn : n < cfg0.N) (z : Fin 1) (p : Fin 2048),
    ((outsAt0 (F := Ideal) m c n hn).2.2 : S1x2048.Idx → EReal) (ix2 z p) = upTo (gain (argX m c) (argH m c) p) 256 n := by
  intro n
  induction n with
  | zero =>
    intro hn z p
    rw [outsAt0_A m c ⟨0, hn⟩ rfl (by dsimp only; omega)]
    dsimp only
    rw [outA_6, upTo_zero _ (tok ⟨0, hn⟩) (fun r => by show 0 * 256 + r.val = r.val; omega)]
    exact share_g m c ⟨0, hn⟩ z p
  | succ n ih =>
    intro hn z p
    have hn' : n < cfg0.N := Nat.lt_of_succ_lt hn
    have h16 : n + 1 < 16 := lt_of_lt_of_eq hn N_eq
    rw [outsAt0_B m c ⟨n + 1, hn⟩ (by dsimp only; omega) (by dsimp only; omega)]
    dsimp only
    rw [outB_6]
    refine (pay1_apply _ _ z p).trans ?_
    rw [upTo_succ _ n (tok ⟨n + 1, hn⟩) (fun r => rfl), ← ih hn' z p, share_g]
    rfl

/-- The array of the gradient of the activations. -/
theorem final_x : (dats (F := Ideal) m 0 c).arrAt 4 cfg0.N
    = (dx (argX m c) (argG m c) (argH m c) (argD m c) : S4096x2048.Idx → EReal) := by
  refine (dats (F := Ideal) m 0 c).arrAt_eq_of_cover 4 _ (fun t _ => ?_) (fun i => ?_)
  · rw [flushed4]
    obtain ⟨-, -, -, -, ⟨e0, e1⟩, -⟩ := index_eq t
    funext y
    obtain ⟨r, p, rfl⟩ : ∃ (r : Fin 256) (p : Fin 2048), y = ix2 r p := ⟨y 0, y 1, eq_ix2 y⟩
    refine (outs_x m c t r p).1.trans ?_
    show _ = dx _ _ _ _ ((win0_4.rect t).emb (ix2 r p))
    refine congrArg _ (funext fun a => Fin.ext ?_)
    match a with
    | ⟨0, _⟩ => refine Eq.symm ((Pipeline.Window.rect_emb_val win0_4 t _ 0).trans ?_); rw [e0]; rfl
    | ⟨1, _⟩ => refine Eq.symm ((Pipeline.Window.rect_emb_val win0_4 t _ 1).trans ?_); rw [e1]; show 0 * 2048 + p.val = p.val; omega
  · have h0 : (i 0 : ℕ) < 4096 := (i 0).isLt
    have h1 : (i 1 : ℕ) < 2048 := (i 1).isLt
    let t : Fin cfg0.N := ⟨(i 0 : ℕ) / 256, lt_of_lt_of_eq (by omega) N_eq.symm⟩
    refine ⟨t, flush0_4 t, ?_⟩
    obtain ⟨-, -, -, -, ⟨e0, e1⟩, -⟩ := index_eq t
    have ht : t.val = (i 0 : ℕ) / 256 := rfl
    show i ∈ ((View.whole main_v0_0).slice (win0_4.rect t)).set
    rw [View.set_slice_whole, Rect.mem_set_unit]
    intro a
    match a with
    | ⟨0, _⟩ =>
      show win0_4.index t 0 * 256 ≤ (i 0 : ℕ) ∧ (i 0 : ℕ) < win0_4.index t 0 * 256 + 256
      rw [e0, ht]; omega
    | ⟨1, _⟩ =>
      show win0_4.index t 1 * 2048 ≤ (i 1 : ℕ) ∧ (i 1 : ℕ) < win0_4.index t 1 * 2048 + 2048
      rw [e1]; omega

/-- The array of the gradient of the activations. -/
theorem final_r : (dats (F := Ideal) m 0 c).arrAt 5 cfg0.N
    = (dx (argX m c) (argG m c) (argH m c) (argD m c) : S4096x2048.Idx → EReal) := by
  refine (dats (F := Ideal) m 0 c).arrAt_eq_of_cover 5 _ (fun t _ => ?_) (fun i => ?_)
  · rw [flushed5]
    obtain ⟨-, -, -, -, -, ⟨e0, e1⟩, -⟩ := index_eq t
    funext y
    obtain ⟨r, p, rfl⟩ : ∃ (r : Fin 256) (p : Fin 2048), y = ix2 r p := ⟨y 0, y 1, eq_ix2 y⟩
    refine (outs_x m c t r p).2.trans ?_
    show _ = dx _ _ _ _ ((win0_5.rect t).emb (ix2 r p))
    refine congrArg _ (funext fun a => Fin.ext ?_)
    match a with
    | ⟨0, _⟩ => refine Eq.symm ((Pipeline.Window.rect_emb_val win0_5 t _ 0).trans ?_); rw [e0]; rfl
    | ⟨1, _⟩ => refine Eq.symm ((Pipeline.Window.rect_emb_val win0_5 t _ 1).trans ?_); rw [e1]; show 0 * 2048 + p.val = p.val; omega
  · have h0 : (i 0 : ℕ) < 4096 := (i 0).isLt
    have h1 : (i 1 : ℕ) < 2048 := (i 1).isLt
    let t : Fin cfg0.N := ⟨(i 0 : ℕ) / 256, lt_of_lt_of_eq (by omega) N_eq.symm⟩
    refine ⟨t, flush0_5 t, ?_⟩
    obtain ⟨-, -, -, -, -, ⟨e0, e1⟩, -⟩ := index_eq t
    have ht : t.val = (i 0 : ℕ) / 256 := rfl
    show i ∈ ((View.whole main_v0_1).slice (win0_5.rect t)).set
    rw [View.set_slice_whole, Rect.mem_set_unit]
    intro a
    match a with
    | ⟨0, _⟩ =>
      show win0_5.index t 0 * 256 ≤ (i 0 : ℕ) ∧ (i 0 : ℕ) < win0_5.index t 0 * 256 + 256
      rw [e0, ht]; omega
    | ⟨1, _⟩ =>
      show win0_5.index t 1 * 2048 ≤ (i 1 : ℕ) ∧ (i 1 : ℕ) < win0_5.index t 1 * 2048 + 2048
      rw [e1]; omega

/-- The array of the gradient of the gain. -/
theorem final_g : (dats (F := Ideal) m 0 c).arrAt 6 cfg0.N = (dgain (argX m c) (argH m c) : S1x2048.Idx → EReal) := by
  refine (dats (F := Ideal) m 0 c).arrAt_eq_of_cover 6 _ (fun t hf => ?_) (fun i => ?_)
  · rw [flushed6]
    have h15 : t.val % 16 = 15 := (flush0_6 t).mp hf
    have ht : t.val < 16 := lt_of_lt_of_eq t.isLt N_eq
    obtain ⟨-, -, -, -, -, -, ⟨e0, e1⟩⟩ := index_eq t
    funext y
    obtain ⟨z, p, rfl⟩ : ∃ (z : Fin 1) (p : Fin 2048), y = ix2 z p := ⟨y 0, y 1, eq_ix2 y⟩
    refine (outs_g m c t.val t.isLt z p).trans ?_
    rw [upTo_last _ _ (by omega)]
    show _ = dgain _ _ ((win0_6.rect t).emb (ix2 z p))
    have f : (win0_6.rect t).emb (ix2 z p) 1 = p := Fin.ext (by
      refine (Pipeline.Window.rect_emb_val win0_6 t _ 1).trans ?_; rw [e1]; show 0 * 2048 + p.val = p.val; omega)
    unfold dgain
    rw [f]
  · have h0 : (i 0 : ℕ) < 1 := (i 0).isLt
    have h1 : (i 1 : ℕ) < 2048 := (i 1).isLt
    let t : Fin cfg0.N := ⟨15, lt_of_lt_of_eq (by omega) N_eq.symm⟩
    refine ⟨t, (flush0_6 t).mpr rfl, ?_⟩
    obtain ⟨-, -, -, -, -, -, ⟨e0, e1⟩⟩ := index_eq t
    show i ∈ ((View.whole main_v0_2).slice (win0_6.rect t)).set
    rw [View.set_slice_whole, Rect.mem_set_unit]
    intro a
    match a with
    | ⟨0, _⟩ =>
      show win0_6.index t 0 * 1 ≤ (i 0 : ℕ) ∧ (i 0 : ℕ) < win0_6.index t 0 * 1 + 1
      rw [e0]; omega
    | ⟨1, _⟩ =>
      show win0_6.index t 1 * 2048 ≤ (i 1 : ℕ) ∧ (i 1 : ℕ) < win0_6.index t 1 * 2048 + 2048
      rw [e1]; omega

end Cert.RmsBlock

end
-- ==== Proof.RmsClaim.lean ====
/- The claims about the gradient of the root-mean-square norm: the differentiated plain norm, read at an index, gives the
   arrays the grid ends with whenever the activations, the gain and the incoming gradient are finite. -/
module

public import proofs.«01_k».proof.Defs
public import proofs.«01_k».proof.Proof.RmsBlock
public import proofs.«01_k».proof.Proof.Finite
public import proofs.«01_k».proof.Proof.Gen.RmsReferenceIdeal.Read
public import proofs.«01_k».proof.Proof.Gen.Pre_finite_rms
public import Idealize.ShloMosaic.Adequacy
public import Idealize.ShloMosaic.Init

@[expose] public section

noncomputable section

namespace Cert.RmsClaim

open Idealize.ShloMosaic Idealize.SL.Sem Cert.RmsBlock Cert.RmsRow Cert.Reals

section Ref
open Cert.RmsReferenceIdeal Cert.RmsReferenceIdeal.Gen Cert.RmsReferenceIdeal.Read

variable (X : FVec Ideal S4096x2048 .f32) (G : FVec Ideal S1x2048 .f32) (H D : FVec Ideal S4096x2048 .f32)

theorem v6_apply (r : Fin 4096) (z : Fin 1) : val_main_v6 (F := Ideal) X (ix2 r z) = ms (rowAt X r) := by
  unfold val_main_v6 val_main_v5 val_main_cst_1 val_main_v4 val_main_v3 val_main_cst_0 val_main_v2 val_main_v1 val_main_cst
    val_main_v0
  pointwise
  rfl

theorem v7_apply (r : Fin 4096) (z : Fin 1) : val_main_v7 (F := Ideal) X (ix2 r z) = rr (rowAt X r) := by
  unfold val_main_v7
  pointwise
  simp only [v6_apply]
  rfl

theorem v12_apply (r : Fin 4096) (p : Fin 2048) : val_main_v12 (F := Ideal) X (ix2 r p) = hat (rowAt X r) p := by
  unfold val_main_v12 val_main_v11
  pointwise
  simp only [v7_apply]
  rfl

theorem v19_apply (r : Fin 4096) (p : Fin 2048) :
    val_main_v19 (F := Ideal) G H (ix2 r p) = rowAt H r p * one G p := by
  unfold val_main_v19 val_main_v18
  pointwise

theorem v28_apply (r : Fin 4096) (z : Fin 1) :
    val_main_v28 (F := Ideal) X G H (ix2 r z) = coef (rowAt X r) (one G) (rowAt H r) := by
  unfold val_main_v28 val_main_v27 val_main_cst_5 val_main_v26 val_main_v22 val_main_v21 val_main_cst_4 val_main_v20
    val_main_v10 val_main_v9 val_main_cst_2 val_main_v8
  pointwise
  simp only [v6_apply, v7_apply, v19_apply]
  rfl

theorem v30_apply (r : Fin 4096) (p : Fin 2048) :
    val_main_v30 (F := Ideal) X G H (ix2 r p) = coef (rowAt X r) (one G) (rowAt H r) := by
  unfold val_main_v30 val_main_v29 val_main_cst_6
  pointwise
  simp only [v28_apply]
  exact Fin.sum_univ_one _

/-- The reference's gradient of the activations is the array the grid ends with. -/
theorem v34_eq (hx : ∀ i, IsReal (X i)) (hg : ∀ i, IsReal (G i)) (hh : ∀ i, IsReal (H i)) :
    (val_main_v34 (F := Ideal) X G H D : S4096x2048.Idx → EReal) = dx X G H D := by
  funext i
  obtain ⟨r, p, rfl⟩ : ∃ (r : Fin 4096) (p : Fin 2048), i = ix2 r p := ⟨i 0, i 1, eq_ix2 i⟩
  refine Eq.trans ?_ (grad_eq (rowAt X r) (one G) (rowAt H r) (D (ix2 r p)) (fun _ => hx _) (fun _ => hg _) (fun _ => hh _) p)
  unfold val_main_v34 val_main_v33 val_main_v32 val_main_v31 val_main_v25 val_main_v24 val_main_v23
  pointwise
  simp only [v30_apply, v19_apply, v7_apply]

/-- The rounded gradient is the gradient. -/
theorem v35_eq (hx : ∀ i, IsReal (X i)) (hg : ∀ i, IsReal (G i)) (hh : ∀ i, IsReal (H i)) :
    (val_main_v35 (F := Ideal) X G H D : S4096x2048.Idx → EReal) = dx X G H D := by
  rw [← v34_eq X G H D hx hg hh]
  funext i
  obtain ⟨r, p, rfl⟩ : ∃ (r : Fin 4096) (p : Fin 2048), i = ix2 r p := ⟨i 0, i 1, eq_ix2 i⟩
  unfold val_main_v35
  pointwise

/-- The reference's gradient of the gain is the array the grid ends with. -/
theorem v17_eq : (val_main_v17 (F := Ideal) X H : S1x2048.Idx → EReal) = dgain X H := by
  funext i
  obtain ⟨z, p, rfl⟩ : ∃ (z : Fin 1) (p : Fin 2048), i = ix2 z p := ⟨i 0, i 1, eq_ix2 i⟩
  unfold val_main_v17 val_main_v16 val_main_cst_3 val_main_v15
  pointwise
  simp only [v12_apply]
  exact Finset.sum_congr rfl fun r _ => mul_comm _ _
end Ref

/-- The reference runs and keeps its arguments. -/
theorem frame_ref : Cert.quiescent_RmsReferenceIdeal := fun m ρ _ =>
  (θ_run Cert.RmsReferenceIdeal.defs _ _).mono (fun r h => ⟨fun c => (h c).2.2.2, sem_eq_zero_of_no_sems (by decide) r.2⟩)
    (Cert.RmsReferenceIdeal.Value.run (F := Ideal) m ρ)

/-- The precondition makes the activations, the gain and the incoming gradient real. -/
theorem real_of_pre (m : (ℓ : Loc Cert.RmsIdeal.nD Cert.RmsIdeal.τ Cert.RmsIdeal.sig) → Buf (Elt Ideal) ℓ)
    (h : Cert.Pre_RmsIdeal_finite_rms m) (c : Dev Cert.RmsIdeal.nD) :
    (∀ i, IsReal (argX m c i)) ∧ (∀ i, IsReal (argG m c i)) ∧ ∀ i, IsReal (argH m c i) := by
  obtain ⟨h0, h1, h2⟩ := h c
  exact ⟨fun i => Finite.real_of_test _ Cert.Pre_finite_rms.Gen.bcast_S_S4096x2048 h0 i,
    fun i => Finite.real_of_test _ Cert.Pre_finite_rms.Gen.bcast_S_S1x2048 h1 i,
    fun i => Finite.real_of_test _ Cert.Pre_finite_rms.Gen.bcast_S_S4096x2048 h2 i⟩

/-- The kernel and the reference end with equal gradients of the activations, in both precisions, and of the gain. -/
theorem algebraic : Cert.algebraic_RmsIdeal_RmsReferenceIdeal_pre_finite_rms := by
  intro m g m' g' hpre hagree
  refine ⟨fun c => dx (argX m c) (argG m c) (argH m c) (argD m c), fun c => dx (argX m c) (argG m c) (argH m c) (argD m c),
    fun c => dgain (argX m c) (argH m c), ?_, ?_⟩
  · refine (θ_run Cert.RmsIdeal.defs _ _).mono (fun r h c => ?_) (Cert.RmsIdeal.Value.run_blocks (F := Ideal) m g)
    obtain ⟨h0, h1, h2, hargs⟩ := h c
    exact ⟨h0.trans (final_x m c), h1.trans (final_r m c), h2.trans (final_g m c), hargs⟩
  · refine (θ_run Cert.RmsReferenceIdeal.defs _ _).mono (fun r h c => ?_) (Cert.RmsReferenceIdeal.Value.run (F := Ideal) m' g')
    obtain ⟨h0, h1, h2, hargs⟩ := h c
    obtain ⟨a0, a1, a2, a3⟩ := hagree c
    obtain ⟨r0, r1, r2⟩ := real_of_pre m hpre c
    refine ⟨h0.trans ?_, h1.trans ?_, h2.trans ?_, hargs⟩
    · rw [Cert.RmsReferenceIdeal.Read.val_main_v34_eq, a0, a1, a2, a3]
      exact v34_eq _ _ _ _ r0 r1 r2
    · rw [Cert.RmsReferenceIdeal.Read.val_main_v35_eq, a0, a1, a2, a3]
      exact v35_eq _ _ _ _ r0 r1 r2
    · rw [Cert.RmsReferenceIdeal.Read.val_main_v17_eq, a0, a2]
      exact v17_eq _ _

end Cert.RmsClaim

end
-- ==== Proof.MemDrmsBlock.lean ====
/- The gradient of the root-mean-square norm of the memory: what one grid point computes, which rows it reads and writes, and the three
   arrays the grid ends with as functions of the arguments. -/
module

public import proofs.«01_k».proof.Proof.Gen.MemDrmsIdeal.Value
public import proofs.«01_k».proof.Proof.RmsRow
public import proofs.«01_k».proof.Proof.Partial
public import proofs.«01_k».proof.Proof.Products
public import Idealize.ShloMosaic.Lib.Tactic

@[expose] public section

noncomputable section

namespace Cert.MemDrmsBlock

open Cert.MemDrmsIdeal Cert.MemDrmsIdeal.Gen Cert.MemDrmsIdeal.Value Idealize.ShloMosaic Idealize.ShloMosaic.TcCoe Idealize.SL.Sem
open Cert.RmsRow Cert.Partial
open Cert.Products (origin)

section Payload
variable (x h : FVec Ideal S256x2048 .f32) (g : FVec Ideal S1x2048 .f32)

/-- A row of a block. -/
abbrev row (x : S256x2048.Idx → EReal) (r : Fin 256) (p : Fin 2048) : EReal := x (ix2 r p)
/-- The one row of the gain. -/
abbrev one (g : S1x2048.Idx → EReal) (p : Fin 2048) : EReal := g (ix2 0 p)

theorem pay2_apply (r : Fin 256) (z : Fin 1) : k0_pay2 (F := Ideal) x (ix2 r z) = rr (row x r) := by
  unfold k0_pay2
  pointwise
  rfl

theorem pay3_apply (r : Fin 256) (p : Fin 2048) : k0_pay3 (F := Ideal) x (ix2 r p) = hat (row x r) p := by
  unfold k0_pay3
  pointwise
  simp only [pay2_apply]
  rfl

/-- The gradient of a row. -/
theorem pay4_apply (r : Fin 256) (p : Fin 2048) :
    k0_pay4 (F := Ideal) x h g (ix2 r p) = grad (row x r) (one g) (row h r) p := by
  unfold k0_pay4
  pointwise
  simp only [pay2_apply, pay3_apply]
  rfl

/-- The gradient of the gain from a block of rows. -/
theorem pay5_apply (z : Fin 1) (p : Fin 2048) :
    k0_pay5 (F := Ideal) x h (ix2 z p) = ∑ r : Fin 256, h (ix2 r p) * hat (row x r) p := by
  unfold k0_pay5
  pointwise
  simp only [pay3_apply]

theorem pay6_apply (r : Fin 256) (p : Fin 2048) :
    k0_pay6 (F := Ideal) x h g (ix2 r p) = grad (row x r) (one g) (row h r) p := by
  unfold k0_pay6
  pointwise
  exact pay4_apply x h g r p

theorem pay1_apply (a b : FVec Ideal S1x2048 .f32) (z : Fin 1) (p : Fin 2048) :
    k0_pay1 (F := Ideal) a b (ix2 z p) = b (ix2 z p) + a (ix2 z p) := by
  unfold k0_pay1
  pointwise
end Payload

section Cases
variable {F : FTy → Type} [FloatOps F]
variable (c : Dev nD) (i : grid0.Coords)
  (a1 : Memref sig .tc .vmem S256x2048 .f32) (h1 : a1.IsWhole)
  (a2 : Memref sig .tc .vmem S256x2048 .f32) (h2 : a2.IsWhole)
  (a3 : Memref sig .tc .vmem S1x2048 .f32) (h3 : a3.IsWhole)
  (a4 : Memref sig .tc .vmem S256x2048 .f32) (h4 : a4.IsWhole)
  (a5 : Memref sig .tc .vmem S256x2048 .bf16) (h5 : a5.IsWhole)
  (a6 : Memref sig .tc .vmem S1x2048 .f32) (h6 : a6.IsWhole)
  (x0 x1 : Vec F S256x2048 .f32) (x2 : Vec F S1x2048 .f32) (o5 : Vec F S1x2048 .f32)

/-- At the first block of rows, the gradient of the rows. -/
theorem outA_3 (hc0 : cond0_0 i) (hc1 : ¬cond0_1 i) :
    out0_A_3 (F := F) c i a1 h1 a2 h2 a3 h3 a4 h4 a5 h5 a6 h6 hc0 hc1 x0 x1 x2 = k0_pay4 x0 x1 x2 := by
  unfold out0_A_3
  rw [View.read_writes_eq_canon _ _ _ (cover0_A_3 c i a1 h1 a2 h2 a3 h3 a4 h4 a5 h5 a6 h6 hc0 hc1 x0 x1 x2)]
  unfold kernelRun0_A
  dsimp only
  sl_unfold_words
  rw [View.canon_unit_zero origin]
  simp only [View.readAt_eq_ld, h1.read_unread, h2.read_unread, h3.read_unread, h4.read_unread, h5.read_unread, h6.read_unread, View.ld_unit_zero (S := S256x2048) origin, View.ld_unit_zero (S := S1x2048) origin]

/-- At the first block of rows, the rounded gradient of the rows. -/
theorem outA_4 (hc0 : cond0_0 i) (hc1 : ¬cond0_1 i) :
    out0_A_4 (F := F) c i a1 h1 a2 h2 a3 h3 a4 h4 a5 h5 a6 h6 hc0 hc1 x0 x1 x2 = k0_pay6 x0 x1 x2 := by
  unfold out0_A_4
  rw [View.read_writes_eq_canon _ _ _ (cover0_A_4 c i a1 h1 a2 h2 a3 h3 a4 h4 a5 h5 a6 h6 hc0 hc1 x0 x1 x2)]
  unfold kernelRun0_A
  dsimp only
  sl_unfold_words
  rw [View.canon_unit_zero origin]
  simp only [View.readAt_eq_ld, h1.read_unread, h2.read_unread, h3.read_unread, h4.read_unread, h5.read_unread, h6.read_unread, View.ld_unit_zero (S := S256x2048) origin, View.ld_unit_zero (S := S1x2048) origin]

/-- At the first block of rows, the gradient of the gain. -/
theorem outA_5 (hc0 : cond0_0 i) (hc1 : ¬cond0_1 i) :
    out0_A_5 (F := F) c i a1 h1 a2 h2 a3 h3 a4 h4 a5 h5 a6 h6 hc0 hc1 x0 x1 x2 = k0_pay5 x0 x1 := by
  unfold out0_A_5
  rw [View.read_writes_eq_canon _ _ _ (cover0_A_5 c i a1 h1 a2 h2 a3 h3 a4 h4 a5 h5 a6 h6 hc0 hc1 x0 x1 x2)]
  unfold kernelRun0_A
  dsimp only
  sl_unfold_words
  rw [View.canon_unit_zero origin]
  simp only [View.readAt_eq_ld, h1.read_unread, h2.read_unread, h3.read_unread, h4.read_unread, h5.read_unread, h6.read_unread, View.ld_unit_zero (S := S256x2048) origin, View.ld_unit_zero (S := S1x2048) origin]

/-- At a later block of rows, the gradient of the rows. -/
theorem outB_3 (hc0 : ¬cond0_0 i) (hc1 : cond0_1 i) :
    out0_B_3 (F := F) c i a1 h1 a2 h2 a3 h3 a4 h4 a5 h5 a6 h6 hc0 hc1 x0 x1 x2 o5 = k0_pay4 x0 x1 x2 := by
  unfold out0_B_3
  rw [View.read_writes_eq_canon _ _ _ (cover0_B_3 c i a1 h1 a2 h2 a3 h3 a4 h4 a5 h5 a6 h6 hc0 hc1 x0 x1 x2 o5)]
  unfold kernelRun0_B
  dsimp only
  sl_unfold_words
  rw [View.canon_unit_zero origin]
  simp only [View.readAt_eq_ld, h1.read_unread, h2.read_unread, h3.read_unread, h4.read_unread, h5.read_unread, h6.read_unread, View.ld_unit_zero (S := S256x2048) origin, View.ld_unit_zero (S := S1x2048) origin]

/-- At a later block of rows, the rounded gradient of the rows. -/
theorem outB_4 (hc0 : ¬cond0_0 i) (hc1 : cond0_1 i) :
    out0_B_4 (F := F) c i a1 h1 a2 h2 a3 h3 a4 h4 a5 h5 a6 h6 hc0 hc1 x0 x1 x2 o5 = k0_pay6 x0 x1 x2 := by
  unfold out0_B_4
  rw [View.read_writes_eq_canon _ _ _ (cover0_B_4 c i a1 h1 a2 h2 a3 h3 a4 h4 a5 h5 a6 h6 hc0 hc1 x0 x1 x2 o5)]
  unfold kernelRun0_B
  dsimp only
  sl_unfold_words
  rw [View.canon_unit_zero origin]
  simp only [View.readAt_eq_ld, h1.read_unread, h2.read_unread, h3.read_unread, h4.read_unread, h5.read_unread, h6.read_unread, View.ld_unit_zero (S := S256x2048) origin, View.ld_unit_zero (S := S1x2048) origin]

/-- At a later block of rows, the gradient of the gain. -/
theorem outB_5 (hc0 : ¬cond0_0 i) (hc1 : cond0_1 i) :
    out0_B_5 (F := F) c i a1 h1 a2 h2 a3 h3 a4 h4 a5 h5 a6 h6 hc0 hc1 x0 x1 x2 o5 = k0_pay1 (k0_pay5 x0 x1) o5 := by
  unfold out0_B_5
  rw [View.read_writes_eq_canon _ _ _ (cover0_B_5 c i a1 h1 a2 h2 a3 h3 a4 h4 a5 h5 a6 h6 hc0 hc1 x0 x1 x2 o5)]
  unfold kernelRun0_B
  dsimp only
  sl_unfold_words
  rw [View.canon_unit_zero origin]
  simp only [View.readAt_eq_ld, h1.read_unread, h2.read_unread, h3.read_unread, h4.read_unread, h5.read_unread, h6.read_unread, View.ld_unit_zero (S := S256x2048) origin, View.ld_unit_zero (S := S1x2048) origin]

end Cases

section Spec
variable (X : S512x2048.Idx → EReal) (G : S1x2048.Idx → EReal) (H : S512x2048.Idx → EReal)

/-- A row of the activations. -/
abbrev rowAt (A : S512x2048.Idx → EReal) (r : Fin 512) (p : Fin 2048) : EReal := A (ix2 r p)
/-- The gradient of the activations through the norm. -/
def dx : S512x2048.Idx → EReal := fun i => grad (rowAt X (i 0)) (one G) (rowAt H (i 0)) (i 1)
/-- One token's share of the gradient of the gain. -/
def gain (p : Fin 2048) (r : Fin 512) : EReal := H (ix2 r p) * hat (rowAt X r) p
/-- The gradient of the gain. -/
def dgain : S1x2048.Idx → EReal := fun i => ∑ r : Fin 512, gain X H (i 1) r
end Spec

variable (m : (ℓ : Loc nD τ sig) → Buf (Elt Ideal) ℓ) (c : Dev nD)

/-- The arguments as arrays of extended reals. -/
abbrev argX : S512x2048.Idx → EReal := m ((c : Thread nD τ).loc main_arg0)
@[inherit_doc argX] abbrev argG : S1x2048.Idx → EReal := m ((c : Thread nD τ).loc main_arg1)
@[inherit_doc argX] abbrev argH : S512x2048.Idx → EReal := m ((c : Thread nD τ).loc main_arg2)

/-- The number of grid points. -/
theorem N_eq : cfg0.N = 2 := N_0

/-- The token of a row of a grid point's block. -/
def tok (t : Fin cfg0.N) (r : Fin 256) : Fin 512 :=
  ⟨t.val * 256 + r.val, by have h : t.val < 2 := lt_of_lt_of_eq t.isLt N_eq; omega⟩

/-- Where the windows lie. -/
theorem index_eq : ∀ t : Fin grid0.N,
    (win0_0.index t 0 = t.val ∧ win0_0.index t 1 = 0) ∧ (win0_1.index t 0 = t.val ∧ win0_1.index t 1 = 0)
    ∧ (win0_2.index t 0 = 0 ∧ win0_2.index t 1 = 0)
    ∧ (win0_3.index t 0 = t.val ∧ win0_3.index t 1 = 0) ∧ (win0_4.index t 0 = t.val ∧ win0_4.index t 1 = 0)
    ∧ (win0_5.index t 0 = 0 ∧ win0_5.index t 1 = 0) := by decide +kernel

/-- The rows of an argument read at a point. -/
theorem iblk_x (t : Fin cfg0.N) (r : Fin 256) (p : Fin 2048) :
    (iblk (F := Ideal) m c 0 t : S256x2048.Idx → EReal) (ix2 r p) = argX m c (ix2 (tok t r) p) := by
  obtain ⟨⟨e0, e1⟩, -⟩ := index_eq t
  show (V (F := Ideal) m c main_arg0 : S512x2048.Idx → EReal) ((win0_0.rect t).emb (ix2 r p)) = _
  rw [V_main_arg0]
  refine congrArg (argX m c) (funext fun a => Fin.ext ?_)
  match a with
  | ⟨0, _⟩ => refine (Pipeline.Window.rect_emb_val win0_0 t _ 0).trans ?_; rw [e0]; rfl
  | ⟨1, _⟩ => refine (Pipeline.Window.rect_emb_val win0_0 t _ 1).trans ?_; rw [e1]; show 0 * 2048 + p.val = p.val; omega

/-- The rows of an argument read at a point. -/
theorem iblk_h (t : Fin cfg0.N) (r : Fin 256) (p : Fin 2048) :
    (iblk (F := Ideal) m c 1 t : S256x2048.Idx → EReal) (ix2 r p) = argH m c (ix2 (tok t r) p) := by
  obtain ⟨-, ⟨e0, e1⟩, -⟩ := index_eq t
  show (V (F := Ideal) m c main_arg2 : S512x2048.Idx → EReal) ((win0_1.rect t).emb (ix2 r p)) = _
  rw [V_main_arg2]
  refine congrArg (argH m c) (funext fun a => Fin.ext ?_)
  match a with
  | ⟨0, _⟩ => refine (Pipeline.Window.rect_emb_val win0_1 t _ 0).trans ?_; rw [e0]; rfl
  | ⟨1, _⟩ => refine (Pipeline.Window.rect_emb_val win0_1 t _ 1).trans ?_; rw [e1]; show 0 * 2048 + p.val = p.val; omega

/-- The gain read at a point. -/
theorem iblk_g (t : Fin cfg0.N) (z : Fin 1) (p : Fin 2048) :
    (iblk (F := Ideal) m c 2 t : S1x2048.Idx → EReal) (ix2 z p) = argG m c (ix2 z p) := by
  obtain ⟨-, -, ⟨e0, e1⟩, -⟩ := index_eq t
  show (V (F := Ideal) m c main_arg1 : S1x2048.Idx → EReal) ((win0_2.rect t).emb (ix2 z p)) = _
  rw [V_main_arg1]
  refine congrArg (argG m c) (funext fun a => Fin.ext ?_)
  match a with
  | ⟨0, _⟩ => refine (Pipeline.Window.rect_emb_val win0_2 t _ 0).trans ?_; rw [e0]; show 0 * 1 + z.val = z.val; omega
  | ⟨1, _⟩ => refine (Pipeline.Window.rect_emb_val win0_2 t _ 1).trans ?_; rw [e1]; show 0 * 2048 + p.val = p.val; omega

/-- What a point computes, from the arguments. -/
theorem share_x (t : Fin cfg0.N) (r : Fin 256) (p : Fin 2048) :
    k0_pay4 (F := Ideal) (iblk m c 0 t) (iblk m c 1 t) (iblk m c 2 t) (ix2 r p)
      = dx (argX m c) (argG m c) (argH m c) (ix2 (tok t r) p) := by
  refine (pay4_apply _ _ _ r p).trans ?_
  rw [show row (iblk (F := Ideal) m c 0 t : S256x2048.Idx → EReal) r = rowAt (argX m c) (tok t r) from funext fun q => iblk_x m c t r q,
    show row (iblk (F := Ideal) m c 1 t : S256x2048.Idx → EReal) r = rowAt (argH m c) (tok t r) from funext fun q => iblk_h m c t r q,
    show one (iblk (F := Ideal) m c 2 t : S1x2048.Idx → EReal) = one (argG m c) from funext fun q => iblk_g m c t 0 q]
  rfl
@[inherit_doc share_x] theorem share_r (t : Fin cfg0.N) (r : Fin 256) (p : Fin 2048) :
    k0_pay6 (F := Ideal) (iblk m c 0 t) (iblk m c 1 t) (iblk m c 2 t) (ix2 r p)
      = dx (argX m c) (argG m c) (argH m c) (ix2 (tok t r) p) :=
  ((pay6_apply _ _ _ r p).trans (pay4_apply _ _ _ r p).symm).trans (share_x m c t r p)
@[inherit_doc share_x] theorem share_g (t : Fin cfg0.N) (z : Fin 1) (p : Fin 2048) :
    k0_pay5 (F := Ideal) (iblk m c 0 t) (iblk m c 1 t) (ix2 z p) = ∑ r : Fin 256, gain (argX m c) (argH m c) p (tok t r) := by
  refine (pay5_apply _ _ z p).trans ?_
  refine Finset.sum_congr rfl fun r _ => ?_
  rw [show row (iblk (F := Ideal) m c 0 t : S256x2048.Idx → EReal) r = rowAt (argX m c) (tok t r) from funext fun q => iblk_x m c t r q]
  exact congrArg (· * _) (iblk_h m c t r p)

/-- The gradient of a block of rows is written whole at its point, in both precisions. -/
theorem outs_x (t : Fin cfg0.N) (r : Fin 256) (p : Fin 2048) :
    ((outsAt0 (F := Ideal) m c t.val t.isLt).1 : S256x2048.Idx → EReal) (ix2 r p)
        = dx (argX m c) (argG m c) (argH m c) (ix2 (tok t r) p)
    ∧ ((outsAt0 (F := Ideal) m c t.val t.isLt).2.1 : S256x2048.Idx → EReal) (ix2 r p)
        = dx (argX m c) (argG m c) (argH m c) (ix2 (tok t r) p) := by
  have ht : t.val < 2 := lt_of_lt_of_eq t.isLt N_eq
  by_cases h0 : t.val % 2 = 0
  · rw [outsAt0_A m c t h0 (by omega)]
    dsimp only
    rw [outA_3, outA_4]
    exact ⟨share_x m c t r p, share_r m c t r p⟩
  · rw [outsAt0_B m c t h0 (by omega)]
    dsimp only
    rw [outB_3, outB_4]
    exact ⟨share_x m c t r p, share_r m c t r p⟩

/-- The gradient of the gain holds, after a point, what the blocks of rows so far add up to. -/
theorem outs_g : ∀ (n : ℕ) (hn : n < cfg0.N) (z : Fin 1) (p : Fin 2048),
    ((outsAt0 (F := Ideal) m c n hn).2.2 : S1x2048.Idx → EReal) (ix2 z p) = upTo (gain (argX m c) (argH m c) p) 256 n := by
  intro n
  induction n with
  | zero =>
    intro hn z p
    rw [outsAt0_A m c ⟨0, hn⟩ rfl (by dsimp only; omega)]
    dsimp only
    rw [outA_5, upTo_zero _ (tok ⟨0, hn⟩) (fun r => by show 0 * 256 + r.val = r.val; omega)]
    exact share_g m c ⟨0, hn⟩ z p
  | succ n ih =>
    intro hn z p
    have hn' : n < cfg0.N := Nat.lt_of_succ_lt hn
    have h16 : n + 1 < 2 := lt_of_lt_of_eq hn N_eq
    rw [outsAt0_B m c ⟨n + 1, hn⟩ (by dsimp only; omega) (by dsimp only; omega)]
    dsimp only
    rw [outB_5]
    refine (pay1_apply _ _ z p).trans ?_
    rw [upTo_succ _ n (tok ⟨n + 1, hn⟩) (fun r => rfl), ← ih hn' z p, share_g]
    rfl

/-- The array of the gradient of the activations. -/
theorem final_x : (dats (F := Ideal) m 0 c).arrAt 3 cfg0.N
    = (dx (argX m c) (argG m c) (argH m c) : S512x2048.Idx → EReal) := by
  refine (dats (F := Ideal) m 0 c).arrAt_eq_of_cover 3 _ (fun t _ => ?_) (fun i => ?_)
  · rw [flushed3]
    obtain ⟨-, -, -, ⟨e0, e1⟩, -⟩ := index_eq t
    funext y
    obtain ⟨r, p, rfl⟩ : ∃ (r : Fin 256) (p : Fin 2048), y = ix2 r p := ⟨y 0, y 1, eq_ix2 y⟩
    refine (outs_x m c t r p).1.trans ?_
    show _ = dx _ _ _ ((win0_3.rect t).emb (ix2 r p))
    refine congrArg _ (funext fun a => Fin.ext ?_)
    match a with
    | ⟨0, _⟩ => refine Eq.symm ((Pipeline.Window.rect_emb_val win0_3 t _ 0).trans ?_); rw [e0]; rfl
    | ⟨1, _⟩ => refine Eq.symm ((Pipeline.Window.rect_emb_val win0_3 t _ 1).trans ?_); rw [e1]; show 0 * 2048 + p.val = p.val; omega
  · have h0 : (i 0 : ℕ) < 512 := (i 0).isLt
    have h1 : (i 1 : ℕ) < 2048 := (i 1).isLt
    let t : Fin cfg0.N := ⟨(i 0 : ℕ) / 256, lt_of_lt_of_eq (by omega) N_eq.symm⟩
    refine ⟨t, flush0_3 t, ?_⟩
    obtain ⟨-, -, -, ⟨e0, e1⟩, -⟩ := index_eq t
    have ht : t.val = (i 0 : ℕ) / 256 := rfl
    show i ∈ ((View.whole main_v0_0).slice (win0_3.rect t)).set
    rw [View.set_slice_whole, Rect.mem_set_unit]
    intro a
    match a with
    | ⟨0, _⟩ =>
      show win0_3.index t 0 * 256 ≤ (i 0 : ℕ) ∧ (i 0 : ℕ) < win0_3.index t 0 * 256 + 256
      rw [e0, ht]; omega
    | ⟨1, _⟩ =>
      show win0_3.index t 1 * 2048 ≤ (i 1 : ℕ) ∧ (i 1 : ℕ) < win0_3.index t 1 * 2048 + 2048
      rw [e1]; omega

/-- The array of the gradient of the activations. -/
theorem final_r : (dats (F := Ideal) m 0 c).arrAt 4 cfg0.N
    = (dx (argX m c) (argG m c) (argH m c) : S512x2048.Idx → EReal) := by
  refine (dats (F := Ideal) m 0 c).arrAt_eq_of_cover 4 _ (fun t _ => ?_) (fun i => ?_)
  · rw [flushed4]
    obtain ⟨-, -, -, -, ⟨e0, e1⟩, -⟩ := index_eq t
    funext y
    obtain ⟨r, p, rfl⟩ : ∃ (r : Fin 256) (p : Fin 2048), y = ix2 r p := ⟨y 0, y 1, eq_ix2 y⟩
    refine (outs_x m c t r p).2.trans ?_
    show _ = dx _ _ _ ((win0_4.rect t).emb (ix2 r p))
    refine congrArg _ (funext fun a => Fin.ext ?_)
    match a with
    | ⟨0, _⟩ => refine Eq.symm ((Pipeline.Window.rect_emb_val win0_4 t _ 0).trans ?_); rw [e0]; rfl
    | ⟨1, _⟩ => refine Eq.symm ((Pipeline.Window.rect_emb_val win0_4 t _ 1).trans ?_); rw [e1]; show 0 * 2048 + p.val = p.val; omega
  · have h0 : (i 0 : ℕ) < 512 := (i 0).isLt
    have h1 : (i 1 : ℕ) < 2048 := (i 1).isLt
    let t : Fin cfg0.N := ⟨(i 0 : ℕ) / 256, lt_of_lt_of_eq (by omega) N_eq.symm⟩
    refine ⟨t, flush0_4 t, ?_⟩
    obtain ⟨-, -, -, -, ⟨e0, e1⟩, -⟩ := index_eq t
    have ht : t.val = (i 0 : ℕ) / 256 := rfl
    show i ∈ ((View.whole main_v0_1).slice (win0_4.rect t)).set
    rw [View.set_slice_whole, Rect.mem_set_unit]
    intro a
    match a with
    | ⟨0, _⟩ =>
      show win0_4.index t 0 * 256 ≤ (i 0 : ℕ) ∧ (i 0 : ℕ) < win0_4.index t 0 * 256 + 256
      rw [e0, ht]; omega
    | ⟨1, _⟩ =>
      show win0_4.index t 1 * 2048 ≤ (i 1 : ℕ) ∧ (i 1 : ℕ) < win0_4.index t 1 * 2048 + 2048
      rw [e1]; omega

/-- The array of the gradient of the gain. -/
theorem final_g : (dats (F := Ideal) m 0 c).arrAt 5 cfg0.N = (dgain (argX m c) (argH m c) : S1x2048.Idx → EReal) := by
  refine (dats (F := Ideal) m 0 c).arrAt_eq_of_cover 5 _ (fun t hf => ?_) (fun i => ?_)
  · rw [flushed5]
    have h15 : t.val % 2 = 1 := (flush0_5 t).mp hf
    have ht : t.val < 2 := lt_of_lt_of_eq t.isLt N_eq
    obtain ⟨-, -, -, -, -, e0, e1⟩ := index_eq t
    funext y
    obtain ⟨z, p, rfl⟩ : ∃ (z : Fin 1) (p : Fin 2048), y = ix2 z p := ⟨y 0, y 1, eq_ix2 y⟩
    refine (outs_g m c t.val t.isLt z p).trans ?_
    rw [upTo_last _ _ (by omega)]
    show _ = dgain _ _ ((win0_5.rect t).emb (ix2 z p))
    have f : (win0_5.rect t).emb (ix2 z p) 1 = p := Fin.ext (by
      refine (Pipeline.Window.rect_emb_val win0_5 t _ 1).trans ?_; rw [e1]; show 0 * 2048 + p.val = p.val; omega)
    unfold dgain
    rw [f]
  · have h0 : (i 0 : ℕ) < 1 := (i 0).isLt
    have h1 : (i 1 : ℕ) < 2048 := (i 1).isLt
    let t : Fin cfg0.N := ⟨1, lt_of_lt_of_eq (by omega) N_eq.symm⟩
    refine ⟨t, (flush0_5 t).mpr rfl, ?_⟩
    obtain ⟨-, -, -, -, -, e0, e1⟩ := index_eq t
    show i ∈ ((View.whole main_v0_2).slice (win0_5.rect t)).set
    rw [View.set_slice_whole, Rect.mem_set_unit]
    intro a
    match a with
    | ⟨0, _⟩ =>
      show win0_5.index t 0 * 1 ≤ (i 0 : ℕ) ∧ (i 0 : ℕ) < win0_5.index t 0 * 1 + 1
      rw [e0]; omega
    | ⟨1, _⟩ =>
      show win0_5.index t 1 * 2048 ≤ (i 1 : ℕ) ∧ (i 1 : ℕ) < win0_5.index t 1 * 2048 + 2048
      rw [e1]; omega

end Cert.MemDrmsBlock

end
-- ==== Proof.MemDrmsClaim.lean ====
/- The claims about the gradient of the root-mean-square norm of the memory: the differentiated plain norm, read at an index, gives the
   arrays the grid ends with whenever the activations, the gain and the incoming gradient are finite. -/
module

public import proofs.«01_k».proof.Defs
public import proofs.«01_k».proof.Proof.MemDrmsBlock
public import proofs.«01_k».proof.Proof.Finite
public import proofs.«01_k».proof.Proof.Gen.MemDrmsReferenceIdeal.Read
public import proofs.«01_k».proof.Proof.Gen.Pre_finite_mem_drms
public import Idealize.ShloMosaic.Adequacy
public import Idealize.ShloMosaic.Init

@[expose] public section

noncomputable section

namespace Cert.MemDrmsClaim

open Idealize.ShloMosaic Idealize.SL.Sem Cert.MemDrmsBlock Cert.RmsRow Cert.Reals

section Ref
open Cert.MemDrmsReferenceIdeal Cert.MemDrmsReferenceIdeal.Gen Cert.MemDrmsReferenceIdeal.Read

variable (X : FVec Ideal S512x2048 .f32) (G : FVec Ideal S1x2048 .f32) (H : FVec Ideal S512x2048 .f32)

theorem v6_apply (r : Fin 512) (z : Fin 1) : val_main_v6 (F := Ideal) X (ix2 r z) = ms (rowAt X r) := by
  unfold val_main_v6 val_main_v5 val_main_cst_1 val_main_v4 val_main_v3 val_main_cst_0 val_main_v2 val_main_v1 val_main_cst
    val_main_v0
  pointwise
  rfl

theorem v7_apply (r : Fin 512) (z : Fin 1) : val_main_v7 (F := Ideal) X (ix2 r z) = rr (rowAt X r) := by
  unfold val_main_v7
  pointwise
  simp only [v6_apply]
  rfl

theorem v12_apply (r : Fin 512) (p : Fin 2048) : val_main_v12 (F := Ideal) X (ix2 r p) = hat (rowAt X r) p := by
  unfold val_main_v12 val_main_v11
  pointwise
  simp only [v7_apply]
  rfl

theorem v19_apply (r : Fin 512) (p : Fin 2048) :
    val_main_v19 (F := Ideal) G H (ix2 r p) = rowAt H r p * one G p := by
  unfold val_main_v19 val_main_v18
  pointwise

theorem v27_apply (r : Fin 512) (z : Fin 1) :
    val_main_v27 (F := Ideal) X G H (ix2 r z) = coef (rowAt X r) (one G) (rowAt H r) := by
  unfold val_main_v27 val_main_v26 val_main_cst_5 val_main_v25 val_main_v22 val_main_v21 val_main_cst_4 val_main_v20
    val_main_v10 val_main_v9 val_main_cst_2 val_main_v8
  pointwise
  simp only [v6_apply, v7_apply, v19_apply]
  rfl

theorem v29_apply (r : Fin 512) (p : Fin 2048) :
    val_main_v29 (F := Ideal) X G H (ix2 r p) = coef (rowAt X r) (one G) (rowAt H r) := by
  unfold val_main_v29 val_main_v28 val_main_cst_6
  pointwise
  simp only [v27_apply]
  exact Fin.sum_univ_one _

/-- The reference's gradient of the activations is the array the grid ends with. -/
theorem v33_eq (hx : ∀ i, IsReal (X i)) (hg : ∀ i, IsReal (G i)) (hh : ∀ i, IsReal (H i)) :
    (val_main_v33 (F := Ideal) X G H : S512x2048.Idx → EReal) = dx X G H := by
  funext i
  obtain ⟨r, p, rfl⟩ : ∃ (r : Fin 512) (p : Fin 2048), i = ix2 r p := ⟨i 0, i 1, eq_ix2 i⟩
  have e := grad_eq (rowAt X r) (one G) (rowAt H r) 0 (fun _ => hx _) (fun _ => hg _) (fun _ => hh _) p
  rw [zero_add, zero_add] at e
  refine Eq.trans ?_ e
  unfold val_main_v33 val_main_v32 val_main_v31 val_main_v30 val_main_v24 val_main_v23
  pointwise
  simp only [v29_apply, v19_apply, v7_apply]

/-- The rounded gradient is the gradient. -/
theorem v34_eq (hx : ∀ i, IsReal (X i)) (hg : ∀ i, IsReal (G i)) (hh : ∀ i, IsReal (H i)) :
    (val_main_v34 (F := Ideal) X G H : S512x2048.Idx → EReal) = dx X G H := by
  rw [← v33_eq X G H hx hg hh]
  funext i
  obtain ⟨r, p, rfl⟩ : ∃ (r : Fin 512) (p : Fin 2048), i = ix2 r p := ⟨i 0, i 1, eq_ix2 i⟩
  unfold val_main_v34
  pointwise

/-- The reference's gradient of the gain is the array the grid ends with. -/
theorem v17_eq : (val_main_v17 (F := Ideal) X H : S1x2048.Idx → EReal) = dgain X H := by
  funext i
  obtain ⟨z, p, rfl⟩ : ∃ (z : Fin 1) (p : Fin 2048), i = ix2 z p := ⟨i 0, i 1, eq_ix2 i⟩
  unfold val_main_v17 val_main_v16 val_main_cst_3 val_main_v15
  pointwise
  simp only [v12_apply]
  exact Finset.sum_congr rfl fun r _ => mul_comm _ _
end Ref

/-- The reference runs and keeps its arguments. -/
theorem frame_ref : Cert.quiescent_MemDrmsReferenceIdeal := fun m ρ _ =>
  (θ_run Cert.MemDrmsReferenceIdeal.defs _ _).mono (fun r h => ⟨fun c => (h c).2.2.2, sem_eq_zero_of_no_sems (by decide) r.2⟩)
    (Cert.MemDrmsReferenceIdeal.Value.run (F := Ideal) m ρ)

/-- The precondition makes the activations, the gain and the incoming gradient real. -/
theorem real_of_pre (m : (ℓ : Loc Cert.MemDrmsIdeal.nD Cert.MemDrmsIdeal.τ Cert.MemDrmsIdeal.sig) → Buf (Elt Ideal) ℓ)
    (h : Cert.Pre_MemDrmsIdeal_finite_mem_drms m) (c : Dev Cert.MemDrmsIdeal.nD) :
    (∀ i, IsReal (argX m c i)) ∧ (∀ i, IsReal (argG m c i)) ∧ ∀ i, IsReal (argH m c i) := by
  obtain ⟨h0, h1, h2⟩ := h c
  exact ⟨fun i => Finite.real_of_test _ Cert.Pre_finite_mem_drms.Gen.bcast_S_S512x2048 h0 i,
    fun i => Finite.real_of_test _ Cert.Pre_finite_mem_drms.Gen.bcast_S_S1x2048 h1 i,
    fun i => Finite.real_of_test _ Cert.Pre_finite_mem_drms.Gen.bcast_S_S512x2048 h2 i⟩

/-- The kernel and the reference end with equal gradients of the activations, in both precisions, and of the gain. -/
theorem algebraic : Cert.algebraic_MemDrmsIdeal_MemDrmsReferenceIdeal_pre_finite_mem_drms := by
  intro m g m' g' hpre hagree
  refine ⟨fun c => dx (argX m c) (argG m c) (argH m c), fun c => dx (argX m c) (argG m c) (argH m c),
    fun c => dgain (argX m c) (argH m c), ?_, ?_⟩
  · refine (θ_run Cert.MemDrmsIdeal.defs _ _).mono (fun r h c => ?_) (Cert.MemDrmsIdeal.Value.run_blocks (F := Ideal) m g)
    obtain ⟨h0, h1, h2, hargs⟩ := h c
    exact ⟨h0.trans (final_x m c), h1.trans (final_r m c), h2.trans (final_g m c), hargs⟩
  · refine (θ_run Cert.MemDrmsReferenceIdeal.defs _ _).mono (fun r h c => ?_) (Cert.MemDrmsReferenceIdeal.Value.run (F := Ideal) m' g')
    obtain ⟨h0, h1, h2, hargs⟩ := h c
    obtain ⟨a0, a1, a2⟩ := hagree c
    obtain ⟨r0, r1, r2⟩ := real_of_pre m hpre c
    refine ⟨h0.trans ?_, h1.trans ?_, h2.trans ?_, hargs⟩
    · rw [Cert.MemDrmsReferenceIdeal.Read.val_main_v33_eq, a0, a1, a2]
      exact v33_eq _ _ _ r0 r1 r2
    · rw [Cert.MemDrmsReferenceIdeal.Read.val_main_v34_eq, a0, a1, a2]
      exact v34_eq _ _ _ r0 r1 r2
    · rw [Cert.MemDrmsReferenceIdeal.Read.val_main_v17_eq, a0, a2]
      exact v17_eq _ _

end Cert.MemDrmsClaim

end
-- ==== Proof.LossBlock.lean ====
/- The loss head: what one grid point computes, which rows it reads and writes, and the three arrays the grid ends with
   as functions of the arguments. -/
module

public import proofs.«01_k».proof.Proof.Gen.LossIdeal.Value
public import proofs.«01_k».proof.Proof.Partial
public import proofs.«01_k».proof.Proof.Products
public import Idealize.ShloMosaic.Lib.Pointwise
public import Idealize.ShloMosaic.Lib.Tactic

@[expose] public section

noncomputable section

namespace Cert.LossBlock

open Cert.LossIdeal Cert.LossIdeal.Gen Cert.LossIdeal.Value Idealize.ShloMosaic Idealize.ShloMosaic.TcCoe Idealize.SL.Sem
open Cert.Partial
open Cert.Products (origin)

/-- The width of a row. -/
def width : EReal := Ideal.ofBits .f32 0x45000000#32
/-- The weight of a squared error: one half over the width. -/
def weight : EReal := Ideal.ofBits .f32 0x39800000#32

theorem width_eq : width = ((2048 : ℝ) : EReal) := by
  simp [width, Ideal.ofBits, Ideal.ieee, -EReal.coe_mul]; norm_num

theorem weight_eq : weight = ((1 / 4096 : ℝ) : EReal) := by
  simp [weight, Ideal.ofBits, Ideal.ieee, -EReal.coe_mul]; norm_num

/-- The weight, a nonnegative real, distributes over every sum. -/
theorem weight_sum {n : ℕ} (f : Fin n → EReal) : weight * ∑ k, f k = ∑ k, weight * f k := by
  have h0 : (0 : EReal) ≤ weight := by rw [weight_eq]; exact EReal.coe_nonneg.mpr (by norm_num)
  have h1 : weight ≠ ⊤ := by rw [weight_eq]; exact EReal.coe_ne_top _
  induction (Finset.univ : Finset (Fin n)) using Finset.cons_induction with
  | empty => simp
  | cons a s ha ih => rw [Finset.sum_cons, Finset.sum_cons, EReal.left_distrib_of_nonneg_of_ne_top h0 h1, ih]

section Payload
variable (y w : FVec Ideal S256x2048 .f32)

/-- The error of an entry. -/
theorem pay1_apply (r : Fin 256) (p : Fin 2048) : k0_pay1 (F := Ideal) y w (ix2 r p) = y (ix2 r p) - w (ix2 r p) := by
  unfold k0_pay1
  pointwise

/-- The gradient of an entry. -/
theorem pay2_apply (r : Fin 256) (p : Fin 2048) :
    k0_pay2 (F := Ideal) y w (ix2 r p) = Ideal.div (y (ix2 r p) - w (ix2 r p)) width := by
  unfold k0_pay2
  pointwise
  simp only [pay1_apply]
  rfl

theorem pay4_apply (r : Fin 256) (p : Fin 2048) :
    k0_pay4 (F := Ideal) y w (ix2 r p) = Ideal.div (y (ix2 r p) - w (ix2 r p)) width := by
  unfold k0_pay4
  pointwise
  simp only [pay1_apply]
  rfl

/-- The loss of a block of rows. -/
theorem pay3_apply (z : Fin 1) (l : Fin 128) :
    k0_pay3 (F := Ideal) y w (ix2 z l)
      = weight * ∑ r : Fin 256, ∑ p : Fin 2048, (y (ix2 r p) - w (ix2 r p)) * (y (ix2 r p) - w (ix2 r p)) := by
  unfold k0_pay3
  pointwise
  simp only [pay1_apply]
  rfl

theorem pay5_apply (a : FVec Ideal S1x128 .f32) (z : Fin 1) (l : Fin 128) :
    k0_pay5 (F := Ideal) y w a (ix2 z l) = a (ix2 z l) + k0_pay3 (F := Ideal) y w (ix2 z l) := by
  unfold k0_pay5
  pointwise
end Payload

section Cases
variable {F : FTy → Type} [FloatOps F]
variable (c : Dev nD) (i : grid0.Coords)
  (a1 : Memref sig .tc .vmem S256x2048 .f32) (h1 : a1.IsWhole)
  (a2 : Memref sig .tc .vmem S256x2048 .f32) (h2 : a2.IsWhole)
  (a3 : Memref sig .tc .vmem S256x2048 .f32) (h3 : a3.IsWhole)
  (a4 : Memref sig .tc .vmem S256x2048 .bf16) (h4 : a4.IsWhole)
  (a5 : Memref sig .tc .vmem S1x128 .f32) (h5 : a5.IsWhole)
  (x0 x1 : Vec F S256x2048 .f32) (o4 : Vec F S1x128 .f32)

/-- At the first block of rows, the gradient of the rows. -/
theorem outA_2 (hc0 : cond0_0 i) (hc1 : ¬cond0_1 i) :
    out0_A_2 (F := F) c i a1 h1 a2 h2 a3 h3 a4 h4 a5 h5 hc0 hc1 x0 x1 = k0_pay2 x0 x1 := by
  unfold out0_A_2
  rw [View.read_writes_eq_canon _ _ _ (cover0_A_2 c i a1 h1 a2 h2 a3 h3 a4 h4 a5 h5 hc0 hc1 x0 x1)]
  unfold kernelRun0_A
  dsimp only
  sl_unfold_words
  rw [View.canon_unit_zero origin]
  simp only [View.readAt_eq_ld, h1.read_unread, h2.read_unread, h3.read_unread, h4.read_unread, h5.read_unread, View.ld_unit_zero (S := S256x2048) origin, View.ld_unit_zero (S := S1x128) origin]

/-- At the first block of rows, the rounded gradient of the rows. -/
theorem outA_3 (hc0 : cond0_0 i) (hc1 : ¬cond0_1 i) :
    out0_A_3 (F := F) c i a1 h1 a2 h2 a3 h3 a4 h4 a5 h5 hc0 hc1 x0 x1 = k0_pay4 x0 x1 := by
  unfold out0_A_3
  rw [View.read_writes_eq_canon _ _ _ (cover0_A_3 c i a1 h1 a2 h2 a3 h3 a4 h4 a5 h5 hc0 hc1 x0 x1)]
  unfold kernelRun0_A
  dsimp only
  sl_unfold_words
  rw [View.canon_unit_zero origin]
  simp only [View.readAt_eq_ld, h1.read_unread, h2.read_unread, h3.read_unread, h4.read_unread, h5.read_unread, View.ld_unit_zero (S := S256x2048) origin, View.ld_unit_zero (S := S1x128) origin]

/-- At the first block of rows, the loss. -/
theorem outA_4 (hc0 : cond0_0 i) (hc1 : ¬cond0_1 i) :
    out0_A_4 (F := F) c i a1 h1 a2 h2 a3 h3 a4 h4 a5 h5 hc0 hc1 x0 x1 = k0_pay3 x0 x1 := by
  unfold out0_A_4
  rw [View.read_writes_eq_canon _ _ _ (cover0_A_4 c i a1 h1 a2 h2 a3 h3 a4 h4 a5 h5 hc0 hc1 x0 x1)]
  unfold kernelRun0_A
  dsimp only
  sl_unfold_words
  rw [View.canon_unit_zero origin]
  simp only [View.readAt_eq_ld, h1.read_unread, h2.read_unread, h3.read_unread, h4.read_unread, h5.read_unread, View.ld_unit_zero (S := S256x2048) origin, View.ld_unit_zero (S := S1x128) origin]

/-- At a later block of rows, the gradient of the rows. -/
theorem outB_2 (hc0 : ¬cond0_0 i) (hc1 : cond0_1 i) :
    out0_B_2 (F := F) c i a1 h1 a2 h2 a3 h3 a4 h4 a5 h5 hc0 hc1 x0 x1 o4 = k0_pay2 x0 x1 := by
  unfold out0_B_2
  rw [View.read_writes_eq_canon _ _ _ (cover0_B_2 c i a1 h1 a2 h2 a3 h3 a4 h4 a5 h5 hc0 hc1 x0 x1 o4)]
  unfold kernelRun0_B
  dsimp only
  sl_unfold_words
  rw [View.canon_unit_zero origin]
  simp only [View.readAt_eq_ld, h1.read_unread, h2.read_unread, h3.read_unread, h4.read_unread, h5.read_unread, View.ld_unit_zero (S := S256x2048) origin, View.ld_unit_zero (S := S1x128) origin]

/-- At a later block of rows, the rounded gradient of the rows. -/
theorem outB_3 (hc0 : ¬cond0_0 i) (hc1 : cond0_1 i) :
    out0_B_3 (F := F) c i a1 h1 a2 h2 a3 h3 a4 h4 a5 h5 hc0 hc1 x0 x1 o4 = k0_pay4 x0 x1 := by
  unfold out0_B_3
  rw [View.read_writes_eq_canon _ _ _ (cover0_B_3 c i a1 h1 a2 h2 a3 h3 a4 h4 a5 h5 hc0 hc1 x0 x1 o4)]
  unfold kernelRun0_B
  dsimp only
  sl_unfold_words
  rw [View.canon_unit_zero origin]
  simp only [View.readAt_eq_ld, h1.read_unread, h2.read_unread, h3.read_unread, h4.read_unread, h5.read_unread, View.ld_unit_zero (S := S256x2048) origin, View.ld_unit_zero (S := S1x128) origin]

/-- At a later block of rows, the loss. -/
theorem outB_4 (hc0 : ¬cond0_0 i) (hc1 : cond0_1 i) :
    out0_B_4 (F := F) c i a1 h1 a2 h2 a3 h3 a4 h4 a5 h5 hc0 hc1 x0 x1 o4 = k0_pay5 x0 x1 o4 := by
  unfold out0_B_4
  rw [View.read_writes_eq_canon _ _ _ (cover0_B_4 c i a1 h1 a2 h2 a3 h3 a4 h4 a5 h5 hc0 hc1 x0 x1 o4)]
  unfold kernelRun0_B
  dsimp only
  sl_unfold_words
  rw [View.canon_unit_zero origin]
  simp only [View.readAt_eq_ld, h1.read_unread, h2.read_unread, h3.read_unread, h4.read_unread, h5.read_unread, View.ld_unit_zero (S := S256x2048) origin, View.ld_unit_zero (S := S1x128) origin]

end Cases

section Spec
variable (Y W : S4096x2048.Idx → EReal)

/-- The gradient of the loss. -/
def dy : S4096x2048.Idx → EReal := fun i => Ideal.div (Y i - W i) width
/-- One token's share of the loss. -/
def tokenLoss (r : Fin 4096) : EReal := weight * ∑ p : Fin 2048, (Y (ix2 r p) - W (ix2 r p)) * (Y (ix2 r p) - W (ix2 r p))
/-- The loss, on every lane. -/
def loss : S1x128.Idx → EReal := fun _ => ∑ r : Fin 4096, tokenLoss Y W r
end Spec

variable (m : (ℓ : Loc nD τ sig) → Buf (Elt Ideal) ℓ) (c : Dev nD)

/-- The arguments as arrays of extended reals. -/
abbrev argY : S4096x2048.Idx → EReal := m ((c : Thread nD τ).loc main_arg0)
@[inherit_doc argY] abbrev argT : S4096x2048.Idx → EReal := m ((c : Thread nD τ).loc main_arg1)

/-- The number of grid points. -/
theorem N_eq : cfg0.N = 16 := N_0

/-- The token of a row of a grid point's block. -/
def tok (t : Fin cfg0.N) (r : Fin 256) : Fin 4096 :=
  ⟨t.val * 256 + r.val, by have h : t.val < 16 := lt_of_lt_of_eq t.isLt N_eq; omega⟩

/-- Where the windows lie. -/
theorem index_eq : ∀ t : Fin grid0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = 0 ∧ win0_4.index t 1 = 0) := by decide +kernel

/-- The rows of an argument read at a point. -/
theorem iblk_y (t : Fin cfg0.N) (r : Fin 256) (p : Fin 2048) :
    (iblk (F := Ideal) m c 0 t : S256x2048.Idx → EReal) (ix2 r p) = argY m c (ix2 (tok t r) p) := by
  obtain ⟨⟨e0, e1⟩, -⟩ := index_eq t
  show (V (F := Ideal) m c main_arg0 : S4096x2048.Idx → EReal) ((win0_0.rect t).emb (ix2 r p)) = _
  rw [V_main_arg0]
  refine congrArg (argY m c) (funext fun a => Fin.ext ?_)
  match a with
  | ⟨0, _⟩ => refine (Pipeline.Window.rect_emb_val win0_0 t _ 0).trans ?_; rw [e0]; rfl
  | ⟨1, _⟩ => refine (Pipeline.Window.rect_emb_val win0_0 t _ 1).trans ?_; rw [e1]; show 0 * 2048 + p.val = p.val; omega

/-- The rows of an argument read at a point. -/
theorem iblk_t (t : Fin cfg0.N) (r : Fin 256) (p : Fin 2048) :
    (iblk (F := Ideal) m c 1 t : S256x2048.Idx → EReal) (ix2 r p) = argT m c (ix2 (tok t r) p) := by
  obtain ⟨-, ⟨e0, e1⟩, -⟩ := index_eq t
  show (V (F := Ideal) m c main_arg1 : S4096x2048.Idx → EReal) ((win0_1.rect t).emb (ix2 r p)) = _
  rw [V_main_arg1]
  refine congrArg (argT m c) (funext fun a => Fin.ext ?_)
  match a with
  | ⟨0, _⟩ => refine (Pipeline.Window.rect_emb_val win0_1 t _ 0).trans ?_; rw [e0]; rfl
  | ⟨1, _⟩ => refine (Pipeline.Window.rect_emb_val win0_1 t _ 1).trans ?_; rw [e1]; show 0 * 2048 + p.val = p.val; omega

/-- What a point computes, from the arguments. -/
theorem share_y (t : Fin cfg0.N) (r : Fin 256) (p : Fin 2048) :
    k0_pay2 (F := Ideal) (iblk m c 0 t) (iblk m c 1 t) (ix2 r p) = dy (argY m c) (argT m c) (ix2 (tok t r) p) := by
  refine (pay2_apply _ _ r p).trans ?_
  rw [iblk_y, iblk_t]
  rfl
@[inherit_doc share_y] theorem share_r (t : Fin cfg0.N) (r : Fin 256) (p : Fin 2048) :
    k0_pay4 (F := Ideal) (iblk m c 0 t) (iblk m c 1 t) (ix2 r p) = dy (argY m c) (argT m c) (ix2 (tok t r) p) :=
  ((pay4_apply _ _ r p).trans (pay2_apply _ _ r p).symm).trans (share_y m c t r p)
@[inherit_doc share_y] theorem share_l (t : Fin cfg0.N) (z : Fin 1) (l : Fin 128) :
    k0_pay3 (F := Ideal) (iblk m c 0 t) (iblk m c 1 t) (ix2 z l) = ∑ r : Fin 256, tokenLoss (argY m c) (argT m c) (tok t r) := by
  refine (pay3_apply _ _ z l).trans ?_
  rw [weight_sum]
  refine Finset.sum_congr rfl fun r _ => ?_
  unfold tokenLoss
  refine congrArg (weight * ·) (Finset.sum_congr rfl fun p _ => ?_)
  rw [iblk_y, iblk_t]

/-- The gradient of a block of rows is written whole at its point, in both precisions. -/
theorem outs_y (t : Fin cfg0.N) (r : Fin 256) (p : Fin 2048) :
    ((outsAt0 (F := Ideal) m c t.val t.isLt).1 : S256x2048.Idx → EReal) (ix2 r p) = dy (argY m c) (argT m c) (ix2 (tok t r) p)
    ∧ ((outsAt0 (F := Ideal) m c t.val t.isLt).2.1 : S256x2048.Idx → EReal) (ix2 r p)
        = dy (argY m c) (argT m c) (ix2 (tok t r) p) := by
  have ht : t.val < 16 := lt_of_lt_of_eq t.isLt N_eq
  by_cases h0 : t.val % 16 = 0
  · rw [outsAt0_A m c t h0 (by omega)]
    dsimp only
    rw [outA_2, outA_3]
    exact ⟨share_y m c t r p, share_r m c t r p⟩
  · rw [outsAt0_B m c t h0 (by omega)]
    dsimp only
    rw [outB_2, outB_3]
    exact ⟨share_y m c t r p, share_r m c t r p⟩

/-- The loss holds, after a point, what the blocks of rows so far add up to. -/
theorem outs_l : ∀ (n : ℕ) (hn : n < cfg0.N) (z : Fin 1) (l : Fin 128),
    ((outsAt0 (F := Ideal) m c n hn).2.2 : S1x128.Idx → EReal) (ix2 z l) = upTo (tokenLoss (argY m c) (argT m c)) 256 n := by
  intro n
  induction n with
  | zero =>
    intro hn z l
    rw [outsAt0_A m c ⟨0, hn⟩ rfl (by dsimp only; omega)]
    dsimp only
    rw [outA_4, upTo_zero _ (tok ⟨0, hn⟩) (fun r => by show 0 * 256 + r.val = r.val; omega)]
    exact share_l m c ⟨0, hn⟩ z l
  | succ n ih =>
    intro hn z l
    have hn' : n < cfg0.N := Nat.lt_of_succ_lt hn
    have h16 : n + 1 < 16 := lt_of_lt_of_eq hn N_eq
    rw [outsAt0_B m c ⟨n + 1, hn⟩ (by dsimp only; omega) (by dsimp only; omega)]
    dsimp only
    rw [outB_4]
    refine (pay5_apply _ _ _ z l).trans ?_
    rw [upTo_succ _ n (tok ⟨n + 1, hn⟩) (fun r => rfl), ← ih hn' z l, share_l]
    rfl

/-- The array of the gradient. -/
theorem final_y : (dats (F := Ideal) m 0 c).arrAt 2 cfg0.N = (dy (argY m c) (argT m c) : S4096x2048.Idx → EReal) := by
  refine (dats (F := Ideal) m 0 c).arrAt_eq_of_cover 2 _ (fun t _ => ?_) (fun i => ?_)
  · rw [flushed2]
    obtain ⟨-, -, ⟨e0, e1⟩, -⟩ := index_eq t
    funext y
    obtain ⟨r, p, rfl⟩ : ∃ (r : Fin 256) (p : Fin 2048), y = ix2 r p := ⟨y 0, y 1, eq_ix2 y⟩
    refine (outs_y m c t r p).1.trans ?_
    show _ = dy _ _ ((win0_2.rect t).emb (ix2 r p))
    refine congrArg _ (funext fun a => Fin.ext ?_)
    match a with
    | ⟨0, _⟩ => refine Eq.symm ((Pipeline.Window.rect_emb_val win0_2 t _ 0).trans ?_); rw [e0]; rfl
    | ⟨1, _⟩ => refine Eq.symm ((Pipeline.Window.rect_emb_val win0_2 t _ 1).trans ?_); rw [e1]; show 0 * 2048 + p.val = p.val; omega
  · have h0 : (i 0 : ℕ) < 4096 := (i 0).isLt
    have h1 : (i 1 : ℕ) < 2048 := (i 1).isLt
    let t : Fin cfg0.N := ⟨(i 0 : ℕ) / 256, lt_of_lt_of_eq (by omega) N_eq.symm⟩
    refine ⟨t, flush0_2 t, ?_⟩
    obtain ⟨-, -, ⟨e0, e1⟩, -⟩ := index_eq t
    have ht : t.val = (i 0 : ℕ) / 256 := rfl
    show i ∈ ((View.whole main_v0_0).slice (win0_2.rect t)).set
    rw [View.set_slice_whole, Rect.mem_set_unit]
    intro a
    match a with
    | ⟨0, _⟩ =>
      show win0_2.index t 0 * 256 ≤ (i 0 : ℕ) ∧ (i 0 : ℕ) < win0_2.index t 0 * 256 + 256
      rw [e0, ht]; omega
    | ⟨1, _⟩ =>
      show win0_2.index t 1 * 2048 ≤ (i 1 : ℕ) ∧ (i 1 : ℕ) < win0_2.index t 1 * 2048 + 2048
      rw [e1]; omega

/-- The array of the rounded gradient. -/
theorem final_r : (dats (F := Ideal) m 0 c).arrAt 3 cfg0.N = (dy (argY m c) (argT m c) : S4096x2048.Idx → EReal) := by
  refine (dats (F := Ideal) m 0 c).arrAt_eq_of_cover 3 _ (fun t _ => ?_) (fun i => ?_)
  · rw [flushed3]
    obtain ⟨-, -, -, ⟨e0, e1⟩, -⟩ := index_eq t
    funext y
    obtain ⟨r, p, rfl⟩ : ∃ (r : Fin 256) (p : Fin 2048), y = ix2 r p := ⟨y 0, y 1, eq_ix2 y⟩
    refine (outs_y m c t r p).2.trans ?_
    show _ = dy _ _ ((win0_3.rect t).emb (ix2 r p))
    refine congrArg _ (funext fun a => Fin.ext ?_)
    match a with
    | ⟨0, _⟩ => refine Eq.symm ((Pipeline.Window.rect_emb_val win0_3 t _ 0).trans ?_); rw [e0]; rfl
    | ⟨1, _⟩ => refine Eq.symm ((Pipeline.Window.rect_emb_val win0_3 t _ 1).trans ?_); rw [e1]; show 0 * 2048 + p.val = p.val; omega
  · have h0 : (i 0 : ℕ) < 4096 := (i 0).isLt
    have h1 : (i 1 : ℕ) < 2048 := (i 1).isLt
    let t : Fin cfg0.N := ⟨(i 0 : ℕ) / 256, lt_of_lt_of_eq (by omega) N_eq.symm⟩
    refine ⟨t, flush0_3 t, ?_⟩
    obtain ⟨-, -, -, ⟨e0, e1⟩, -⟩ := index_eq t
    have ht : t.val = (i 0 : ℕ) / 256 := rfl
    show i ∈ ((View.whole main_v0_1).slice (win0_3.rect t)).set
    rw [View.set_slice_whole, Rect.mem_set_unit]
    intro a
    match a with
    | ⟨0, _⟩ =>
      show win0_3.index t 0 * 256 ≤ (i 0 : ℕ) ∧ (i 0 : ℕ) < win0_3.index t 0 * 256 + 256
      rw [e0, ht]; omega
    | ⟨1, _⟩ =>
      show win0_3.index t 1 * 2048 ≤ (i 1 : ℕ) ∧ (i 1 : ℕ) < win0_3.index t 1 * 2048 + 2048
      rw [e1]; omega

/-- The array of the loss. -/
theorem final_l : (dats (F := Ideal) m 0 c).arrAt 4 cfg0.N = (loss (argY m c) (argT m c) : S1x128.Idx → EReal) := by
  refine (dats (F := Ideal) m 0 c).arrAt_eq_of_cover 4 _ (fun t hf => ?_) (fun i => ?_)
  · rw [flushed4]
    have h15 : t.val % 16 = 15 := (flush0_4 t).mp hf
    have ht : t.val < 16 := lt_of_lt_of_eq t.isLt N_eq
    funext y
    obtain ⟨z, l, rfl⟩ : ∃ (z : Fin 1) (l : Fin 128), y = ix2 z l := ⟨y 0, y 1, eq_ix2 y⟩
    refine (outs_l m c t.val t.isLt z l).trans ?_
    rw [upTo_last _ _ (by omega)]
    rfl
  · have h0 : (i 0 : ℕ) < 1 := (i 0).isLt
    have h1 : (i 1 : ℕ) < 128 := (i 1).isLt
    let t : Fin cfg0.N := ⟨15, lt_of_lt_of_eq (by omega) N_eq.symm⟩
    refine ⟨t, (flush0_4 t).mpr rfl, ?_⟩
    obtain ⟨-, -, -, -, e0, e1⟩ := index_eq t
    show i ∈ ((View.whole main_v0_2).slice (win0_4.rect t)).set
    rw [View.set_slice_whole, Rect.mem_set_unit]
    intro a
    match a with
    | ⟨0, _⟩ =>
      show win0_4.index t 0 * 1 ≤ (i 0 : ℕ) ∧ (i 0 : ℕ) < win0_4.index t 0 * 1 + 1
      rw [e0]; omega
    | ⟨1, _⟩ =>
      show win0_4.index t 1 * 128 ≤ (i 1 : ℕ) ∧ (i 1 : ℕ) < win0_4.index t 1 * 128 + 128
      rw [e1]; omega

end Cert.LossBlock

end
-- ==== Proof.LossClaim.lean ====
/- The claims about the loss head: the plain mean squared error and its gradient, read at an index, give the three arrays
   the grid ends with. -/
module

public import proofs.«01_k».proof.Defs
public import proofs.«01_k».proof.Proof.LossBlock
public import proofs.«01_k».proof.Proof.Gen.LossReferenceIdeal.Read
public import Idealize.ShloMosaic.Adequacy
public import Idealize.ShloMosaic.Init

@[expose] public section

noncomputable section

namespace Cert.LossClaim

open Idealize.ShloMosaic Idealize.SL.Sem Cert.LossBlock

section Arithmetic
/-- One half. -/
def half : EReal := Ideal.ofBits .f32 0x3F000000#32
/-- Two. -/
def two : EReal := Ideal.ofBits .f32 0x40000000#32

theorem half_eq : half = ((1 / 2 : ℝ) : EReal) := by
  simp [half, Ideal.ofBits, Ideal.ieee, -EReal.coe_mul]; norm_num
theorem two_eq : two = ((2 : ℝ) : EReal) := by
  simp [two, Ideal.ofBits, Ideal.ieee, -EReal.coe_mul]; norm_num

/-- Half of a mean over the width is the weighted sum. -/
theorem half_div (x : EReal) : half * Ideal.div x width = weight * x := by
  rw [width_eq, Ideal.div_coe (by norm_num), half_eq, weight_eq, mul_comm x, ← mul_assoc, ← EReal.coe_mul]
  norm_num

/-- One half, a nonnegative real, distributes over every sum. -/
theorem half_sum {n : ℕ} (f : Fin n → EReal) : half * ∑ k, f k = ∑ k, half * f k := by
  have h0 : (0 : EReal) ≤ half := by rw [half_eq]; exact EReal.coe_nonneg.mpr (by norm_num)
  have h1 : half ≠ ⊤ := by rw [half_eq]; exact EReal.coe_ne_top _
  induction (Finset.univ : Finset (Fin n)) using Finset.cons_induction with
  | empty => simp
  | cons a s ha ih => rw [Finset.sum_cons, Finset.sum_cons, EReal.left_distrib_of_nonneg_of_ne_top h0 h1, ih]

/-- The pulled back weight of an error is the error over the width. -/
theorem pull_eq (e : EReal) : Ideal.div half width * (two * e) = Ideal.div e width := by
  rw [width_eq, Ideal.div_coe (by norm_num), Ideal.div_coe (by norm_num), half_eq, two_eq, ← mul_assoc, mul_comm e,
    ← EReal.coe_mul, ← EReal.coe_mul]
  norm_num
end Arithmetic

section Ref
open Cert.LossReferenceIdeal Cert.LossReferenceIdeal.Gen Cert.LossReferenceIdeal.Read

variable (Y T : FVec Ideal S4096x2048 .f32)

/-- A token's mean squared error. -/
theorem v6_apply (r : Fin 4096) :
    val_main_v6 (F := Ideal) Y T (ix1 r)
      = Ideal.div (∑ p : Fin 2048, (Y (ix2 r p) - T (ix2 r p)) * (Y (ix2 r p) - T (ix2 r p))) width := by
  unfold val_main_v6 val_main_v5 val_main_cst_1 val_main_v4 val_main_v1 val_main_cst_0 val_main_v0
  pointwise
  rfl

/-- The loss. -/
theorem v8_apply (i : S_.Idx) : val_main_v8 (F := Ideal) Y T i = ∑ r : Fin 4096, tokenLoss Y T r := by
  have h : val_main_v8 (F := Ideal) Y T i = half * ∑ r : Fin 4096, val_main_v6 (F := Ideal) Y T (ix1 r) := by
    obtain rfl : i = ix0 := funext fun a => a.elim0
    unfold val_main_v8 val_main_cst_3 val_main_v7 val_main_cst_2
    pointwise
    rfl
  rw [h, half_sum]
  refine Finset.sum_congr rfl fun r _ => ?_
  rw [v6_apply, half_div]
  rfl

/-- The reference's loss, on every lane. -/
theorem v16_eq : (val_main_v16 (F := Ideal) Y T : S1x128.Idx → EReal) = loss Y T := by
  funext i
  rw [val_main_v16_apply, v8_apply]
  rfl

/-- The reference's gradient is the array the grid ends with. -/
theorem v14_eq : (val_main_v14 (F := Ideal) Y T : S4096x2048.Idx → EReal) = dy Y T := by
  funext i
  obtain ⟨r, p, rfl⟩ : ∃ (r : Fin 4096) (p : Fin 2048), i = ix2 r p := ⟨i 0, i 1, eq_ix2 i⟩
  have h : val_main_v14 (F := Ideal) Y T (ix2 r p)
      = Ideal.div half width * (two * (Y (ix2 r p) - T (ix2 r p))) := by
    unfold val_main_v14 val_main_v13 val_main_v12 val_main_v11 val_main_cst_6 val_main_v10 val_main_v9 val_main_cst_4
      val_main_cst_5 val_main_v3 val_main_v2 val_main_cst val_main_v0
    pointwise
    rfl
  rw [h, pull_eq]
  rfl

@[inherit_doc v14_eq] theorem v15_eq : (val_main_v15 (F := Ideal) Y T : S4096x2048.Idx → EReal) = dy Y T := by
  rw [← v14_eq Y T]
  funext i
  rw [val_main_v15_apply]
  rfl
end Ref

/-- The reference runs and keeps its arguments. -/
theorem frame_ref : Cert.quiescent_LossReferenceIdeal := fun m ρ _ =>
  (θ_run Cert.LossReferenceIdeal.defs _ _).mono (fun r h => ⟨fun c => (h c).2.2.2, sem_eq_zero_of_no_sems (by decide) r.2⟩)
    (Cert.LossReferenceIdeal.Value.run (F := Ideal) m ρ)

/-- The kernel and the reference end with equal gradients, in both precisions, and equal losses. -/
theorem algebraic : Cert.algebraic_LossIdeal_LossReferenceIdeal := by
  intro m g m' g' _ hagree
  refine ⟨fun c => dy (argY m c) (argT m c), fun c => dy (argY m c) (argT m c), fun c => loss (argY m c) (argT m c), ?_, ?_⟩
  · refine (θ_run Cert.LossIdeal.defs _ _).mono (fun r h c => ?_) (Cert.LossIdeal.Value.run_blocks (F := Ideal) m g)
    obtain ⟨h0, h1, h2, hargs⟩ := h c
    exact ⟨h0.trans (final_y m c), h1.trans (final_r m c), h2.trans (final_l m c), hargs⟩
  · refine (θ_run Cert.LossReferenceIdeal.defs _ _).mono (fun r h c => ?_) (Cert.LossReferenceIdeal.Value.run (F := Ideal) m' g')
    obtain ⟨h0, h1, h2, hargs⟩ := h c
    obtain ⟨a0, a1⟩ := hagree c
    refine ⟨h0.trans ?_, h1.trans ?_, h2.trans ?_, hargs⟩
    · rw [Cert.LossReferenceIdeal.Read.val_main_v14_eq, a0, a1]
      exact v14_eq _ _
    · rw [Cert.LossReferenceIdeal.Read.val_main_v15_eq, a0, a1]
      exact v15_eq _ _
    · rw [Cert.LossReferenceIdeal.Read.val_main_v16_eq, a0, a1]
      exact v16_eq _ _

end Cert.LossClaim

end
-- ==== Proof.MemFwdClaim.lean ====
/- The forward memory attention. Each grid point's softmax-weighted sum of the memory values, the array the grid ends
   with, and the claims against the plain attention. -/
module

public import proofs.«01_k».proof.Defs
public import proofs.«01_k».proof.Proof.Gen.MemFwdIdeal.Value
public import proofs.«01_k».proof.Proof.Gen.MemFwdReferenceIdeal.Read
public import proofs.«01_k».proof.Proof.SoftmaxVjp
public import Idealize.ShloMosaic.Lib.Pointwise
public import Idealize.ShloMosaic.Lib.Tactic
public import Idealize.ShloMosaic.Lib.StableHlo.Run
public import Idealize.ShloMosaic.Adequacy
public import Idealize.ShloMosaic.Init

@[expose] public section

noncomputable section

namespace Cert.MemFwdClaim

open Idealize.ShloMosaic Idealize.SL.Sem Cert.Softmax

/-- The scale on the scores. -/
def scale : EReal := Ideal.ofBits .f32 0x3DB504F3#32

/-- The word a row maximum starts from is the bottom element. -/
theorem ofBits_neg_inf : Ideal.ofBits .f32 0xFF800000#32 = ⊥ := by simp [Ideal.ofBits, Ideal.ieee]

/-- The scores of one query `u` against the keys `y`. -/
def score (u : Fin 128 → EReal) (y : Fin 256 → Fin 128 → EReal) (j : Fin 256) : EReal :=
  (∑ d : Fin 128, u d * y j d) * scale

/-- One query's attention over the memory slots. -/
def attend (u : Fin 128 → EReal) (y z : Fin 256 → Fin 128 → EReal) (d : Fin 128) : EReal :=
  ∑ j : Fin 256, normRow (expRow (score u y)) j * z j d

section Kernel
open Cert.MemFwdIdeal Cert.MemFwdIdeal.Gen Cert.MemFwdIdeal.Value Idealize.ShloMosaic.TcCoe

/-- A grid point's attention of its blocks. -/
theorem pay1_apply (x : FVec Ideal S512x128 .bf16) (y z : FVec Ideal S256x128 .bf16) (r : Fin 512) (d : Fin 128) :
    k0_pay1 (F := Ideal) x y z (ix2 r d)
      = attend (fun d => x (ix2 r d)) (fun j d => y (ix2 j d)) (fun j d => z (ix2 j d)) d := by
  unfold k0_pay1
  pointwise
  rw [ofBits_neg_inf]
  rfl

/-- Every rectangle of the body starts at the origin. -/
theorem origin : (![0, 0] : Fin 2 → Nat) = fun _ => 0 := funext fun a => by fin_cases a <;> rfl

/-- What a grid point leaves in its block. -/
theorem out_eq (x : FVec Ideal S512x128 .bf16) (y z : FVec Ideal S256x128 .bf16) :
    out0_3 (F := Ideal) x y z = k0_pay1 (F := Ideal) x y z := by
  unfold out0_3
  rw [View.canon_unit_zero origin]
  simp only [View.ld_unit_zero (S := S512x128) origin, View.ld_unit_zero (S := S256x128) origin]

variable (m : (ℓ : Loc nD τ sig) → Buf (Elt Ideal) ℓ) (c : Dev nD)

/-- The three arguments as arrays of extended reals. -/
abbrev argQ : S2x2048x4x128.Idx → EReal := m ((c : Thread nD τ).loc main_arg0)
@[inherit_doc argQ] abbrev argK : S2x256x4x128.Idx → EReal := m ((c : Thread nD τ).loc main_arg1)
@[inherit_doc argQ] abbrev argV : S2x256x4x128.Idx → EReal := m ((c : Thread nD τ).loc main_arg2)

/-- The flattened queries, keys and values. -/
theorem V_v1 : (V (F := Ideal) m c main_v1 : S4096x512.Idx → EReal)
    = shapeCast S4096x512 (argQ m c) shapeCasts_S2x2048x4x128_S4096x512 := by
  unfold_abbrev_sides
  after_results
  rfl
@[inherit_doc V_v1] theorem V_v3 : (V (F := Ideal) m c main_v3 : S512x512.Idx → EReal)
    = shapeCast S512x512 (argK m c) shapeCasts_S2x256x4x128_S512x512 := by
  unfold_abbrev_sides
  after_results
  rfl
@[inherit_doc V_v1] theorem V_v5 : (V (F := Ideal) m c main_v5 : S512x512.Idx → EReal)
    = shapeCast S512x512 (argV m c) shapeCasts_S2x256x4x128_S512x512 := by
  unfold_abbrev_sides
  after_results
  rfl

/-- An entry of a flattened array of queries. -/
theorem flatQ (A : S2x2048x4x128.Idx → EReal) (b : Fin 2) (s : Fin 2048) (h : Fin 4) (d : Fin 128)
    (i : S4096x512.Idx) (h0 : (i 0).val = b.val * 2048 + s.val) (h1 : (i 1).val = h.val * 128 + d.val) :
    shapeCast S4096x512 A shapeCasts_S2x2048x4x128_S4096x512 i = A (ix4 b s h d) :=
  shapeCast_apply A _ i _ (by
    rw [Shape.rowMajor_val_four, Shape.rowMajor_val_two]
    show ((b.val * 2048 + s.val) * 4 + h.val) * 128 + d.val = (i 0).val * 512 + (i 1).val
    rw [h0, h1]; ring)

/-- An entry of a flattened array of memory slots. -/
theorem flatM (A : S2x256x4x128.Idx → EReal) (b : Fin 2) (s : Fin 256) (h : Fin 4) (d : Fin 128)
    (i : S512x512.Idx) (h0 : (i 0).val = b.val * 256 + s.val) (h1 : (i 1).val = h.val * 128 + d.val) :
    shapeCast S512x512 A shapeCasts_S2x256x4x128_S512x512 i = A (ix4 b s h d) :=
  shapeCast_apply A _ i _ (by
    rw [Shape.rowMajor_val_four, Shape.rowMajor_val_two]
    show ((b.val * 256 + s.val) * 4 + h.val) * 128 + d.val = (i 0).val * 512 + (i 1).val
    rw [h0, h1]; ring)

/-- The number of grid points. -/
theorem N_eq : cfg0.N = 32 := N_0

/-- The batch entry, the head and the block of queries of a grid point. -/
def ptB (t : Fin cfg0.N) : Fin 2 := ⟨t.val / 16, by have h : t.val < 32 := lt_of_lt_of_eq t.isLt N_eq; omega⟩
@[inherit_doc ptB] def ptH (t : Fin cfg0.N) : Fin 4 := ⟨t.val / 4 % 4, by omega⟩
@[inherit_doc ptB] def ptQ (t : Fin cfg0.N) : Fin 4 := ⟨t.val % 4, by omega⟩

/-- Query `r` of block `q`. -/
def pos (q : Fin 4) (r : Fin 512) : Fin 2048 := ⟨q.val * 512 + r.val, by omega⟩

/-- Where the windows lie. -/
theorem index_eq : ∀ t : Fin grid0.N,
    (win0_0.index t 0 = t.val / 16 * 4 + t.val % 4 ∧ win0_0.index t 1 = t.val / 4 % 4)
    ∧ (win0_1.index t 0 = t.val / 16 ∧ win0_1.index t 1 = t.val / 4 % 4)
    ∧ (win0_2.index t 0 = t.val / 16 ∧ win0_2.index t 1 = t.val / 4 % 4)
    ∧ (win0_3.index t 0 = t.val / 16 * 4 + t.val % 4 ∧ win0_3.index t 1 = t.val / 4 % 4) := by decide +kernel

/-- The block of queries read at a point. -/
theorem iblk_q (t : Fin cfg0.N) (r : Fin 512) (d : Fin 128) :
    (iblk (F := Ideal) m c 0 t : S512x128.Idx → EReal) (ix2 r d) = argQ m c (ix4 (ptB t) (pos (ptQ t) r) (ptH t) d) := by
  obtain ⟨⟨e0, e1⟩, -⟩ := index_eq t
  show (V (F := Ideal) m c main_v1 : S4096x512.Idx → EReal) ((win0_0.rect t).emb (ix2 r d)) = _
  rw [V_v1]
  refine flatQ _ _ _ _ _ _ ?_ ?_
  · refine (Pipeline.Window.rect_emb_val win0_0 t _ 0).trans ?_; rw [e0]
    show (t.val / 16 * 4 + t.val % 4) * 512 + r.val = t.val / 16 * 2048 + (t.val % 4 * 512 + r.val)
    omega
  · refine (Pipeline.Window.rect_emb_val win0_0 t _ 1).trans ?_; rw [e1]
    rfl

/-- The block of keys read at a point. -/
theorem iblk_k (t : Fin cfg0.N) (j : Fin 256) (d : Fin 128) :
    (iblk (F := Ideal) m c 1 t : S256x128.Idx → EReal) (ix2 j d) = argK m c (ix4 (ptB t) j (ptH t) d) := by
  obtain ⟨-, ⟨e0, e1⟩, -⟩ := index_eq t
  show (V (F := Ideal) m c main_v3 : S512x512.Idx → EReal) ((win0_1.rect t).emb (ix2 j d)) = _
  rw [V_v3]
  refine flatM _ _ _ _ _ _ ?_ ?_
  · refine (Pipeline.Window.rect_emb_val win0_1 t _ 0).trans ?_; rw [e0]; rfl
  · refine (Pipeline.Window.rect_emb_val win0_1 t _ 1).trans ?_; rw [e1]; rfl

/-- The block of values read at a point. -/
theorem iblk_v (t : Fin cfg0.N) (j : Fin 256) (d : Fin 128) :
    (iblk (F := Ideal) m c 2 t : S256x128.Idx → EReal) (ix2 j d) = argV m c (ix4 (ptB t) j (ptH t) d) := by
  obtain ⟨-, -, ⟨e0, e1⟩, -⟩ := index_eq t
  show (V (F := Ideal) m c main_v5 : S512x512.Idx → EReal) ((win0_2.rect t).emb (ix2 j d)) = _
  rw [V_v5]
  refine flatM _ _ _ _ _ _ ?_ ?_
  · refine (Pipeline.Window.rect_emb_val win0_2 t _ 0).trans ?_; rw [e0]; rfl
  · refine (Pipeline.Window.rect_emb_val win0_2 t _ 1).trans ?_; rw [e1]; rfl

/-- The head and the lane of a flattened column, the batch entry and the position of a flattened row. -/
def colH (n : Fin 512) : Fin 4 := ⟨n.val / 128, by omega⟩
@[inherit_doc colH] def colD (n : Fin 512) : Fin 128 := ⟨n.val % 128, by omega⟩
@[inherit_doc colH] def rowB (n : Fin 4096) : Fin 2 := ⟨n.val / 2048, by omega⟩
@[inherit_doc colH] def rowS (n : Fin 4096) : Fin 2048 := ⟨n.val % 2048, by omega⟩

/-- The attention of one query of one head of one batch entry. -/
def oAt (Q : S2x2048x4x128.Idx → EReal) (K W : S2x256x4x128.Idx → EReal) (b : Fin 2) (s : Fin 2048) (h : Fin 4) (d : Fin 128) :
    EReal :=
  attend (fun d => Q (ix4 b s h d)) (fun j d => K (ix4 b j h d)) (fun j d => W (ix4 b j h d)) d

/-- The attention of all queries, flattened. -/
def oAll (Q : S2x2048x4x128.Idx → EReal) (K W : S2x256x4x128.Idx → EReal) : S4096x512.Idx → EReal := fun i =>
  oAt Q K W (rowB (i 0)) (rowS (i 0)) (colH (i 1)) (colD (i 1))

/-- A grid point's block is its part of the attention. -/
theorem share (t : Fin cfg0.N) (r : Fin 512) (d : Fin 128) :
    (out0_3 (F := Ideal) (iblk m c 0 t) (iblk m c 1 t) (iblk m c 2 t) : S512x128.Idx → EReal) (ix2 r d)
      = oAt (argQ m c) (argK m c) (argV m c) (ptB t) (pos (ptQ t) r) (ptH t) d := by
  rw [out_eq]
  refine (pay1_apply _ _ _ r d).trans ?_
  unfold oAt
  congr 1
  · exact funext fun d => iblk_q m c t r d
  · exact funext fun j => funext fun d => iblk_k m c t j d
  · exact funext fun j => funext fun d => iblk_v m c t j d

/-- The array the grid ends with. -/
theorem final : (dats (F := Ideal) m 0 c).arrAt 3 cfg0.N
    = (oAll (argQ m c) (argK m c) (argV m c) : S4096x512.Idx → EReal) := by
  refine (dats (F := Ideal) m 0 c).arrAt_eq_of_cover 3 _ (fun t _ => ?_) (fun i => ?_)
  · rw [flushed3]
    obtain ⟨-, -, -, e0, e1⟩ := index_eq t
    funext y
    obtain ⟨r, d, rfl⟩ : ∃ (r : Fin 512) (d : Fin 128), y = ix2 r d := ⟨y 0, y 1, eq_ix2 y⟩
    refine (share m c t r d).trans ?_
    show _ = oAll _ _ _ ((win0_3.rect t).emb (ix2 r d))
    have f0 : ((win0_3.rect t).emb (ix2 r d) 0 : ℕ) = (t.val / 16 * 4 + t.val % 4) * 512 + r.val := by
      refine (Pipeline.Window.rect_emb_val win0_3 t _ 0).trans ?_; rw [e0]; rfl
    have f1 : ((win0_3.rect t).emb (ix2 r d) 1 : ℕ) = t.val / 4 % 4 * 128 + d.val := by
      refine (Pipeline.Window.rect_emb_val win0_3 t _ 1).trans ?_; rw [e1]; rfl
    unfold oAll
    have hb : rowB ((win0_3.rect t).emb (ix2 r d) 0) = ptB t := Fin.ext (by
      show ((win0_3.rect t).emb (ix2 r d) 0 : ℕ) / 2048 = t.val / 16; rw [f0]; omega)
    have hs : rowS ((win0_3.rect t).emb (ix2 r d) 0) = pos (ptQ t) r := Fin.ext (by
      show ((win0_3.rect t).emb (ix2 r d) 0 : ℕ) % 2048 = t.val % 4 * 512 + r.val; rw [f0]; omega)
    have hh : colH ((win0_3.rect t).emb (ix2 r d) 1) = ptH t := Fin.ext (by
      show ((win0_3.rect t).emb (ix2 r d) 1 : ℕ) / 128 = t.val / 4 % 4; rw [f1]; omega)
    have hd : colD ((win0_3.rect t).emb (ix2 r d) 1) = d := Fin.ext (by
      show ((win0_3.rect t).emb (ix2 r d) 1 : ℕ) % 128 = d.val; rw [f1]; omega)
    rw [hb, hs, hh, hd]
  · have h0 : (i 0 : ℕ) < 4096 := (i 0).isLt
    have h1 : (i 1 : ℕ) < 512 := (i 1).isLt
    let t : Fin cfg0.N := ⟨(i 0 : ℕ) / 2048 * 16 + (i 1 : ℕ) / 128 * 4 + (i 0 : ℕ) / 512 % 4, lt_of_lt_of_eq (by omega) N_eq.symm⟩
    refine ⟨t, flush0_3 t, ?_⟩
    obtain ⟨-, -, -, e0, e1⟩ := index_eq t
    have ht : t.val = (i 0 : ℕ) / 2048 * 16 + (i 1 : ℕ) / 128 * 4 + (i 0 : ℕ) / 512 % 4 := rfl
    show i ∈ ((View.whole main_v6).slice (win0_3.rect t)).set
    rw [View.set_slice_whole, Rect.mem_set_unit]
    intro a
    match a with
    | ⟨0, _⟩ =>
      show win0_3.index t 0 * 512 ≤ (i 0 : ℕ) ∧ (i 0 : ℕ) < win0_3.index t 0 * 512 + 512
      rw [e0, ht]; omega
    | ⟨1, _⟩ =>
      show win0_3.index t 1 * 128 ≤ (i 1 : ℕ) ∧ (i 1 : ℕ) < win0_3.index t 1 * 128 + 128
      rw [e1, ht]; omega

end Kernel

section Reference
open Cert.MemFwdReferenceIdeal Cert.MemFwdReferenceIdeal.Gen Cert.MemFwdReferenceIdeal.Read

variable (Q : FVec Ideal S2x2048x4x128 .f32) (K W : FVec Ideal S2x256x4x128 .f32)

/-- The scores of one query. -/
abbrev sc (b : Fin 2) (h : Fin 4) (s : Fin 2048) : Fin 256 → EReal :=
  score (fun d => Q (ix4 b s h d)) (fun j d => K (ix4 b j h d))

theorem v2_apply (b : Fin 2) (h : Fin 4) (s : Fin 2048) (j : Fin 256) :
    val_main_v2 (F := Ideal) Q K (ix4 b h s j) = sc Q K b h s j := by
  unfold val_main_v2 val_main_v0 val_main_v1 val_main_cst
  pointwise
  rfl

/-- The host's maximum over the memory slots is the row maximum. -/
theorem hostMax (x : FVec Ideal S2x4x2048x256 .f32) (b : Fin 2) (h : Fin 4) (s : Fin 2048) :
    Host.reduce FloatOps.maximumf x (constant S_ .f32 0xFF800000#32) reducesTo_S2x4x2048x256_S2x4x2048_d3 h_S_ (ix3 b h s)
      = rowMax fun j => x (ix4 b h s j) := by
  have hr : S2x4x2048x256.Reduces [3] S2x4x2048 := by decide
  rw [Host.reduce_eq_fold_single FloatOps.maximumf x _ reducesTo_S2x4x2048x256_S2x4x2048_d3 hr h_S_]
  have hf : (x ∘ hr.lift (ix3 b h s)) = fun j : Fin 256 => x (ix4 b h s j) := funext fun j => congrArg x (by
    funext a; apply Fin.ext
    match a with | ⟨0, _⟩ => rfl | ⟨1, _⟩ => rfl | ⟨2, _⟩ => rfl | ⟨3, _⟩ => rfl)
  have hb : constant (F := Ideal) S_ .f32 0xFF800000#32 (Shape.Idx.first h_S_) = (⊥ : EReal) := ofBits_neg_inf
  rw [hb]
  exact congrArg (fun f => Finset.fold max (⊥ : EReal) f (Finset.univ : Finset (Fin 256))) hf

theorem v5_apply (b : Fin 2) (h : Fin 4) (s : Fin 2048) :
    val_main_v5 (F := Ideal) Q K (ix3 b h s) = rowMax (sc Q K b h s) := by
  have e : val_main_v3 (F := Ideal) Q K (ix3 b h s) = rowMax (sc Q K b h s) := by
    unfold val_main_v3 val_main_cst_0
    exact (hostMax _ b h s).trans (congrArg rowMax (funext fun j => v2_apply Q K b h s j))
  rw [val_main_v5_apply, e, val_main_v4_apply, val_main_cst_1_apply]
  generalize rowMax (sc Q K b h s) = x
  show max (Ideal.ofBits .f32 0xFF800000#32) x = x
  rw [ofBits_neg_inf]
  exact max_eq_right bot_le

theorem v9_apply (b : Fin 2) (h : Fin 4) (s : Fin 2048) (j : Fin 256) :
    val_main_v9 (F := Ideal) Q K (ix4 b h s j) = expRow (sc Q K b h s) j := by
  unfold val_main_v9 val_main_v8 val_main_v7 val_main_v6
  pointwise
  simp only [v2_apply, v5_apply]
  rfl

theorem v13_apply (b : Fin 2) (h : Fin 4) (s : Fin 2048) (j : Fin 256) :
    val_main_v13 (F := Ideal) Q K (ix4 b h s j) = normRow (expRow (sc Q K b h s)) j := by
  unfold val_main_v13 val_main_v12 val_main_v11 val_main_v10 val_main_cst_2
  pointwise
  simp only [v9_apply]
  rfl

theorem v15_apply (b : Fin 2) (s : Fin 2048) (h : Fin 4) (d : Fin 128) :
    val_main_v15 (F := Ideal) Q K W (ix4 b s h d) = oAt Q K W b s h d := by
  unfold val_main_v15 val_main_v14
  pointwise
  simp only [v13_apply]
  exact Finset.sum_congr rfl fun j _ => mul_comm _ _

/-- The reference's attention is the kernel's. -/
theorem v16_eq : val_main_v16 (F := Ideal) Q K W = oAll Q K W := by
  funext i
  rw [val_main_v16_apply]
  have h0 : (i 0 : ℕ) < 4096 := (i 0).isLt
  have h1 : (i 1 : ℕ) < 512 := (i 1).isLt
  have e : idx_main_v16 i = ix4 (rowB (i 0)) (rowS (i 0)) (colH (i 1)) (colD (i 1)) := by
    funext a; apply Fin.ext
    match a with
    | ⟨0, _⟩ => show ((i 0 : ℕ) * 512 + (i 1 : ℕ)) / 1048576 = (i 0 : ℕ) / 2048; omega
    | ⟨1, _⟩ => show ((i 0 : ℕ) * 512 + (i 1 : ℕ)) / 512 % 2048 = (i 0 : ℕ) % 2048; omega
    | ⟨2, _⟩ => show ((i 0 : ℕ) * 512 + (i 1 : ℕ)) / 128 % 4 = (i 1 : ℕ) / 128; omega
    | ⟨3, _⟩ => show ((i 0 : ℕ) * 512 + (i 1 : ℕ)) % 128 = (i 1 : ℕ) % 128; omega
  rw [e, v15_apply]
  rfl

end Reference

/-- The reference runs and keeps its arguments. -/
theorem frame_ref : Cert.quiescent_MemFwdReferenceIdeal := fun m ρ _ =>
  (θ_run Cert.MemFwdReferenceIdeal.defs _ _).mono (fun r h => ⟨fun c => (h c).2, sem_eq_zero_of_no_sems (by decide) r.2⟩)
    (Cert.MemFwdReferenceIdeal.Value.run (F := Ideal) m ρ)

/-- The kernel and the reference end with equal attention. -/
theorem algebraic : Cert.algebraic_MemFwdIdeal_MemFwdReferenceIdeal := by
  intro m g m' g' _ hagree
  refine ⟨fun c => oAll (argQ m c) (argK m c) (argV m c), ?_, ?_⟩
  · refine (θ_run Cert.MemFwdIdeal.defs _ _).mono (fun r h c => ?_) (Cert.MemFwdIdeal.Value.run_blocks (F := Ideal) m g)
    obtain ⟨h0, hargs⟩ := h c
    exact ⟨h0.trans (final m c), hargs⟩
  · refine (θ_run Cert.MemFwdReferenceIdeal.defs _ _).mono (fun r h c => ?_) (Cert.MemFwdReferenceIdeal.Value.run (F := Ideal) m' g')
    obtain ⟨h0, hargs⟩ := h c
    obtain ⟨a0, a1, a2⟩ := hagree c
    refine ⟨h0.trans ?_, hargs⟩
    rw [Cert.MemFwdReferenceIdeal.Read.val_main_v16_eq, a0, a1, a2]
    exact v16_eq _ _ _

end Cert.MemFwdClaim

end
-- ==== Proof.Online.lean ====
/- A softmax taken block by block: a running maximum, a running sum of exponentials and a running weighted sum, each
   rescaled when the maximum grows, end with the same values as the softmax of the whole row. -/
module

public import proofs.«01_k».proof.Proof.SoftmaxVjp
public import Idealize.ShloMosaic.Lib.Pointwise

@[expose] public section

noncomputable section

namespace Cert.Online

open Idealize.ShloMosaic Cert.Softmax

variable {w : Nat}

/-- The largest score of the first `n` blocks. -/
def top (B : ℕ → Fin w → EReal) : ℕ → EReal
  | 0 => ⊥
  | n + 1 => max (top B n) (rowMax (B n))

/-- The weighted sum over the first `n` blocks of the exponentials below a level `M`. -/
def acc (B U : ℕ → Fin w → EReal) (M : EReal) (n : ℕ) : EReal :=
  ∑ j ∈ Finset.range n, ∑ r : Fin w, Ideal.exp (B j r - M) * U j r

/-- The exponential of a difference that is `-∞` vanishes. -/
theorem exp_bot_sub (M : EReal) : Ideal.exp (⊥ - M) = 0 := by
  rw [sub_eq_add_neg, EReal.bot_add]
  rfl

/-- Lowering the level by a real rescaling of the exponential. -/
theorem exp_rescale {a : EReal} (ha : a ≠ ⊤) (M N : ℝ) :
    Ideal.exp ((M : EReal) - N) * Ideal.exp (a - M) = Ideal.exp (a - N) := by
  by_cases hb : a = ⊥
  · rw [hb, exp_bot_sub, exp_bot_sub, mul_zero]
  · obtain ⟨x, rfl⟩ : ∃ x : ℝ, a = (x : EReal) := ⟨_, (EReal.coe_toReal ha hb).symm⟩
    rw [← EReal.coe_sub, ← EReal.coe_sub, ← EReal.coe_sub, Ideal.exp_coe, Ideal.exp_coe, Ideal.exp_coe, ← EReal.coe_mul,
      ← Real.exp_add]
    congr 2
    ring

/-- A nonnegative real factor distributes over the doubly indexed sum. -/
theorem acc_rescale (B U : ℕ → Fin w → EReal) (hB : ∀ j r, B j r ≠ ⊤) (M N : ℝ) (n : ℕ) :
    Ideal.exp ((M : EReal) - N) * acc B U M n = acc B U N n := by
  unfold acc
  have e : Ideal.exp ((M : EReal) - N) = ((Real.exp (M - N) : ℝ) : EReal) := by rw [← EReal.coe_sub, Ideal.exp_coe]
  have h0 : (0 : ℝ) ≤ Real.exp (M - N) := (Real.exp_pos _).le
  rw [e, mul_sum_of_nonneg _ h0]
  refine Finset.sum_congr rfl fun j _ => ?_
  rw [mul_sum_of_nonneg _ h0]
  refine Finset.sum_congr rfl fun r _ => ?_
  rw [← mul_assoc, ← e, exp_rescale (hB j r)]

/-- The largest score of some blocks, the first of which holds a real score, is real. -/
theorem top_real (B : ℕ → Fin w → EReal) (hB : ∀ j r, B j r ≠ ⊤) (r0 : Fin w) (h0 : B 0 r0 ≠ ⊥) (n : ℕ) :
    ∃ M : ℝ, top B (n + 1) = M := by
  have hb : ∀ n, top B (n + 1) ≠ ⊥ := by
    intro n
    induction n with
    | zero =>
      intro h
      have : B 0 r0 ≤ top B 1 := (le_rowMax _ r0).trans (le_max_right _ _)
      exact h0 (le_bot_iff.mp (h ▸ this))
    | succ n ih => intro h; exact ih (le_bot_iff.mp (h ▸ le_max_left _ _))
  have ht : ∀ n, top B n ≠ ⊤ := by
    intro n
    induction n with
    | zero => exact bot_ne_top
    | succ n ih =>
      obtain ⟨k, hk⟩ := rowMax_mem (B n) r0
      rw [top, hk]
      intro h
      rcases max_choice (top B n) (B n k) with h' | h'
      · exact ih (h' ▸ h)
      · exact hB n k (h' ▸ h)
  exact ⟨_, (EReal.coe_toReal (ht _) (hb _)).symm⟩

/-- One block more of the running weighted sum. -/
theorem acc_step (B U : ℕ → Fin w → EReal) (hB : ∀ j r, B j r ≠ ⊤) (r0 : Fin w) (h0 : B 0 r0 ≠ ⊥) (n : ℕ) :
    Ideal.exp (top B n - top B (n + 1)) * acc B U (top B n) n
        + ∑ r : Fin w, Ideal.exp (B n r - top B (n + 1)) * U n r
      = acc B U (top B (n + 1)) (n + 1) := by
  have e : Ideal.exp (top B n - top B (n + 1)) * acc B U (top B n) n = acc B U (top B (n + 1)) n := by
    cases n with
    | zero => simp [acc]
    | succ n =>
      obtain ⟨M, hM⟩ := top_real B hB r0 h0 n
      obtain ⟨N, hN⟩ := top_real B hB r0 h0 (n + 1)
      rw [hM, hN, acc_rescale B U hB]
  rw [e]
  unfold acc
  rw [Finset.sum_range_succ]

/-- Blocks of masked scores leave the largest score as it is. -/
theorem top_masked (B : ℕ → Fin w → EReal) (n k : ℕ) (h : ∀ j, n ≤ j → ∀ r, B j r = ⊥) : top B (n + k) = top B n := by
  induction k with
  | zero => rfl
  | succ k ih =>
    show max (top B (n + k)) (rowMax (B (n + k))) = _
    have hb : rowMax (B (n + k)) = ⊥ := by
      unfold rowMax
      have : B (n + k) = fun _ => ⊥ := funext fun r => h _ (Nat.le_add_right _ _) r
      rw [this]
      exact le_bot_iff.mp (Finset.fold_max_le (c := (⊥ : EReal)) |>.mpr ⟨le_rfl, fun _ _ => le_rfl⟩)
    rw [hb, ih]
    exact max_eq_left bot_le

/-- Blocks of masked scores add nothing to the weighted sum. -/
theorem acc_masked (B U : ℕ → Fin w → EReal) (M : EReal) (n k : ℕ) (h : ∀ j, n ≤ j → ∀ r, B j r = ⊥) :
    acc B U M (n + k) = acc B U M n := by
  induction k with
  | zero => rfl
  | succ k ih =>
    unfold acc at ih ⊢
    rw [← Nat.add_assoc, Finset.sum_range_succ, ih]
    have : (∑ r : Fin w, Ideal.exp (B (n + k) r - M) * U (n + k) r) = 0 :=
      Finset.sum_eq_zero fun r _ => by rw [h _ (Nat.le_add_right _ _) r, exp_bot_sub, zero_mul]
    rw [this, add_zero]

/-- The weighted sum over the four blocks of a row of 2048, as one sum. -/
theorem acc_four (S W : Fin 2048 → EReal) (B U : ℕ → Fin 512 → EReal)
    (hB : ∀ (j : Fin 4) (r : Fin 512), B j r = S ⟨j.val * 512 + r.val, by omega⟩)
    (hU : ∀ (j : Fin 4) (r : Fin 512), U j r = W ⟨j.val * 512 + r.val, by omega⟩) (M : EReal) :
    acc B U M 4 = ∑ k : Fin 2048, Ideal.exp (S k - M) * W k := by
  rw [← Equiv.sum_comp (finProdFinEquiv (m := 4) (n := 512)), Fintype.sum_prod_type]
  unfold acc
  rw [Finset.sum_range]
  refine Finset.sum_congr rfl fun j _ => Finset.sum_congr rfl fun r _ => ?_
  have hp : (finProdFinEquiv (j, r) : Fin 2048) = ⟨j.val * 512 + r.val, by omega⟩ := Fin.ext (by
    show r.val + 512 * j.val = j.val * 512 + r.val
    omega)
  rw [hp, ← hB, ← hU]

/-- The largest score over the four blocks of a row of 2048 is the row's. -/
theorem top_four (S : Fin 2048 → EReal) (B : ℕ → Fin 512 → EReal)
    (hB : ∀ (j : Fin 4) (r : Fin 512), B j r = S ⟨j.val * 512 + r.val, by omega⟩) : top B 4 = rowMax S := by
  have hle : ∀ n, n ≤ 4 → top B n ≤ rowMax S := by
    intro n
    induction n with
    | zero => exact fun _ => bot_le
    | succ n ih =>
      intro hn
      refine max_le (ih (by omega)) ?_
      unfold rowMax
      refine Finset.fold_max_le _ |>.mpr ⟨bot_le, fun r _ => ?_⟩
      rw [show B n r = _ from hB ⟨n, by omega⟩ r]
      exact le_rowMax S _
  have hge : ∀ n j r, j < n → B j r ≤ top B n := by
    intro n
    induction n with
    | zero => intro j r h; omega
    | succ n ih =>
      intro j r h
      by_cases hj : j = n
      · subst hj; exact (le_rowMax _ r).trans (le_max_right _ _)
      · exact (ih j r (by omega)).trans (le_max_left _ _)
  refine le_antisymm (hle 4 le_rfl) ?_
  unfold rowMax
  refine Finset.fold_max_le _ |>.mpr ⟨bot_le, fun k _ => ?_⟩
  have hk : k.val < 2048 := k.isLt
  have := hge 4 (k.val / 512) ⟨k.val % 512, by omega⟩ (by omega)
  rw [show B (k.val / 512) ⟨k.val % 512, _⟩ = _ from hB ⟨k.val / 512, by omega⟩ ⟨k.val % 512, by omega⟩] at this
  refine le_trans (le_of_eq (congrArg S (Fin.ext ?_))) this
  show k.val = k.val / 512 * 512 + k.val % 512
  omega

/-- Adding one real number to every score adds it to the largest. -/
theorem rowMax_add {n : Nat} (s : Fin n → EReal) (j : Fin n) (c : ℝ) : rowMax (fun k => s k + c) = rowMax s + c := by
  refine le_antisymm ?_ ?_
  · unfold rowMax
    refine Finset.fold_max_le _ |>.mpr ⟨bot_le, fun k _ => ?_⟩
    exact add_le_add (le_rowMax s k) le_rfl
  · obtain ⟨k, hk⟩ := rowMax_mem s j
    rw [hk]
    exact le_rowMax (fun k => s k + c) k

/-- Adding one real number to every score leaves the exponentials as they are. -/
theorem expRow_add {n : Nat} (s : Fin n → EReal) (ht : ∀ k, s k ≠ ⊤) (j : Fin n) (hj : s j ≠ ⊥) (c : ℝ) :
    expRow (fun k => s k + c) = expRow s := by
  funext k
  show Ideal.exp (s k + c - rowMax (fun k => s k + c)) = Ideal.exp (s k - rowMax s)
  rw [rowMax_add s j c]
  obtain ⟨l, hl⟩ := rowMax_mem s j
  have hb : rowMax s ≠ ⊥ := fun h => hj (le_bot_iff.mp (h ▸ le_rowMax s j))
  obtain ⟨M, hM⟩ : ∃ M : ℝ, rowMax s = (M : EReal) := ⟨_, (EReal.coe_toReal (hl ▸ ht l) hb).symm⟩
  rw [hM, ← EReal.coe_add]
  by_cases hk : s k = ⊥
  · rw [hk, EReal.bot_add, exp_bot_sub, exp_bot_sub]
  · obtain ⟨x, hx⟩ : ∃ x : ℝ, s k = (x : EReal) := ⟨_, (EReal.coe_toReal (ht k) hk).symm⟩
    rw [hx, ← EReal.coe_add, ← EReal.coe_sub, ← EReal.coe_sub]
    congr 2
    ring

/-- Dividing the weighted sum by the sum of the exponentials, or each weight first. -/
theorem div_acc {n : Nat} (s W : Fin n → EReal) (ht : ∀ k, s k ≠ ⊤) (j : Fin n) (hj : s j ≠ ⊥) :
    Ideal.div (∑ k, expRow s k * W k) (∑ k, expRow s k) = ∑ k, W k * normRow (expRow s) k := by
  obtain ⟨E, hE, h0, hL⟩ := expRow_real s ht j hj
  rw [hE]
  simp only [normRow_coe E hL]
  rw [← coe_sum, Ideal.div_coe hL.ne', mul_comm]
  have hi : (0 : ℝ) ≤ 1 / ∑ k, E k := by positivity
  rw [mul_sum_of_nonneg _ hi]
  refine Finset.sum_congr rfl fun k _ => ?_
  rw [EReal.coe_mul, ← mul_assoc, mul_comm (W k), mul_comm ((E k : ℝ) : EReal)]

end Cert.Online

end
-- ==== Proof.FoxCases.lean ====
/- The gated attention of one grid point: a block of 512 queries of two heads. Each head's loop goes over the blocks of
   keys up to the diagonal and carries the running maximum, the running sum and the running weighted sum; here are the
   values each loop ends with and the values the body stores. -/
module

public import proofs.«01_k».proof.Proof.Gen.FoxFwdIdeal.Value
public import proofs.«01_k».proof.Proof.Online
public import Idealize.ShloMosaic.Lib.Tactic
public import Idealize.ShloMosaic.Lib.Pointwise
public import Idealize.ShloMosaic.Lib.WordCmp

@[expose] public section

noncomputable section

namespace Cert.FoxCases

open Idealize.ShloMosaic Idealize.ShloMosaic.TcCoe Idealize.ShloMosaic.Tactic Idealize.SL.RA Idealize.SL.BI Idealize.SL.Sem
open Cert.FoxFwdIdeal Cert.FoxFwdIdeal.Gen Cert.Softmax Cert.Online

/-- The scale on the scores. -/
def scale : EReal := Ideal.ofBits .f32 0x3E000000#32

/-- The word a row maximum starts from is the bottom element. -/
theorem ofBits_neg_inf : Ideal.ofBits .f32 0xFF800000#32 = ⊥ := by simp [Ideal.ofBits, Ideal.ieee]

/-- The constant of the masked scores is the bottom element. -/
theorem named_masked : (Named.named (F := Ideal) κ "masked" (φ := .f32) 0xF149F2CA#32 : EReal) = ⊥ := rfl

/-- The row of each entry of a square block, as words. -/
def rows : IVec S512x512 32 := iota .tc S512x512 32 [0] iota_S512x512_d0_w32
/-- The column of each entry of a square block, as words. -/
def cols : IVec S512x512 32 := iota .tc S512x512 32 [1] iota_S512x512_d1_w32

/-! ## One block of keys -/

/-- A position of the sequence as a word. -/
theorem word_pos (q a : ℕ) :
    IntOp.addi (Scalar.muli (BitVec.ofNat 32 q) 512#32) (BitVec.ofNat 32 a) = BitVec.ofNat 32 (q * 512 + a) := by
  show BitVec.ofNat 32 q * BitVec.ofNat 32 512 + BitVec.ofNat 32 a = _
  rw [BitVec.ofNat_add, BitVec.ofNat_mul]

/-- The word of a trip of a loop that starts at zero. -/
theorem word_trip (k : ℕ) : Scf.iv 0#32 1#32 k = BitVec.ofNat 32 k := by
  unfold Scf.iv
  simp

/-- The scores of a block of queries against a block of keys, masked to the keys up to the query. -/
theorem pay1_apply (i : grid0.Coords) (u : FVec Ideal S512x128 .bf16) (k : Fin (k0_t3_loop i).trips)
    (y : FVec Ideal S512x128 .bf16) (z : FVec Ideal S1x1x512 .f32) (a r : Fin 512) :
    k0_pay1 (F := Ideal) i (BitVec.ofNat 32 (i 2).val) rows cols u 0#32 k y z (ix2 a r)
      = if k.val * 512 + r.val ≤ (i 2).val * 512 + a.val
        then (∑ l : Fin 128, u (ix2 a l) * y (ix2 r l)) * scale - z (ix3 0 0 r) else ⊥ := by
  have hk : k.val < 4 := lt_of_lt_of_le k.isLt (k0_t3_abs i).2.1
  have hi : (i 2).val < 4 := (i 2).isLt
  unfold k0_pay1 rows cols
  pointwise
  rw [named_masked, word_trip, word_pos, word_pos, WordCmp.cmpi_sge_ofNat (by omega) (by omega), WordCmp.select_ofBool]
  simp only [decide_eq_true_eq]
  rfl

/-- The running maximum after one block of keys. -/
theorem pay2_apply (i : grid0.Coords) (u : FVec Ideal S512x128 .bf16) (k : Fin (k0_t3_loop i).trips)
    (y : FVec Ideal S512x128 .bf16) (z : FVec Ideal S1x1x512 .f32) (m : FVec Ideal S512x1 .f32) (a : Fin 512) :
    k0_pay2 (F := Ideal) i (BitVec.ofNat 32 (i 2).val) rows cols u 0#32 k m y z (ix2 a 0)
      = max (m (ix2 a 0))
          (rowMax fun r => k0_pay1 (F := Ideal) i (BitVec.ofNat 32 (i 2).val) rows cols u 0#32 k y z (ix2 a r)) := by
  unfold k0_pay2
  pointwise
  rw [ofBits_neg_inf]
  rfl

/-- The running sum of the exponentials after one block of keys. -/
theorem pay5_apply (i : grid0.Coords) (u : FVec Ideal S512x128 .bf16) (k : Fin (k0_t3_loop i).trips)
    (y : FVec Ideal S512x128 .bf16) (z : FVec Ideal S1x1x512 .f32) (m l : FVec Ideal S512x1 .f32) (a : Fin 512) :
    k0_pay5 (F := Ideal) i (BitVec.ofNat 32 (i 2).val) rows cols u 0#32 k m l y z (ix2 a 0)
      = Ideal.exp (m (ix2 a 0) - k0_pay2 (F := Ideal) i (BitVec.ofNat 32 (i 2).val) rows cols u 0#32 k m y z (ix2 a 0))
            * l (ix2 a 0)
          + ∑ r : Fin 512, Ideal.exp (k0_pay1 (F := Ideal) i (BitVec.ofNat 32 (i 2).val) rows cols u 0#32 k y z (ix2 a r)
              - k0_pay2 (F := Ideal) i (BitVec.ofNat 32 (i 2).val) rows cols u 0#32 k m y z (ix2 a 0)) := by
  unfold k0_pay5 k0_pay3 k0_pay4
  pointwise

/-- The running weighted sum of the values after one block of keys. -/
theorem pay6_apply (i : grid0.Coords) (u : FVec Ideal S512x128 .bf16) (k : Fin (k0_t3_loop i).trips)
    (y w : FVec Ideal S512x128 .bf16) (z : FVec Ideal S1x1x512 .f32) (m : FVec Ideal S512x1 .f32)
    (o : FVec Ideal S512x128 .f32) (a : Fin 512) (l : Fin 128) :
    k0_pay6 (F := Ideal) i (BitVec.ofNat 32 (i 2).val) rows cols u 0#32 k m o y w z (ix2 a l)
      = Ideal.exp (m (ix2 a 0) - k0_pay2 (F := Ideal) i (BitVec.ofNat 32 (i 2).val) rows cols u 0#32 k m y z (ix2 a 0))
            * o (ix2 a l)
          + ∑ r : Fin 512, Ideal.exp (k0_pay1 (F := Ideal) i (BitVec.ofNat 32 (i 2).val) rows cols u 0#32 k y z (ix2 a r)
              - k0_pay2 (F := Ideal) i (BitVec.ofNat 32 (i 2).val) rows cols u 0#32 k m y z (ix2 a 0)) * w (ix2 r l) := by
  unfold k0_pay6 k0_pay3 k0_pay4
  pointwise

/-! ## The loops -/

/-- The scores of query `a` of the point's block against the whole sequence of keys, for head `h` of the point. -/
def row (q : ℕ) (u : S512x128.Idx → EReal) (x1 : S2048x128.Idx → EReal) (x3 : S1x2x2048.Idx → EReal) (h : Fin 2) (a : Fin 512)
    (k : Fin 2048) : EReal :=
  if k.val ≤ q * 512 + a.val then (∑ l : Fin 128, u (ix2 a l) * x1 (ix2 k l)) * scale - x3 (ix3 0 h k) else ⊥

/-- Block `j` of a sequence of 2048. -/
def blk (S : Fin 2048 → EReal) (j : ℕ) (r : Fin 512) : EReal := if h : j * 512 + r.val < 2048 then S ⟨j * 512 + r.val, h⟩ else ⊥

/-- What a loop carries after `n` blocks of keys, for scores `S` and values `x2`. -/
def Good (S : Fin 512 → Fin 2048 → EReal) (x2 : S2048x128.Idx → EReal) (n : ℕ) (st : FVec Ideal S512x1 .f32 × FVec Ideal S512x1 .f32 × FVec Ideal S512x128 .f32) : Prop :=
  ∀ a : Fin 512, st.1 (ix2 a 0) = top (blk (S a)) n
    ∧ st.2.1 (ix2 a 0) = acc (blk (S a)) (fun _ _ => 1) (top (blk (S a)) n) n
    ∧ ∀ l : Fin 128, st.2.2 (ix2 a l) = acc (blk (S a)) (blk fun k => x2 (ix2 k l)) (top (blk (S a)) n) n

/-- A loaded block of keys or values. -/
theorem ld_rows (x : S2048x128.Idx → EReal) (n : ℕ) (hn : n < 4) (off : Fin 2 → ℕ) (ho : off = ![512 * n, 0])
    (inb : ∀ a, off a + S512x128.size a ≤ S2048x128.size a) (r : Fin 512) (l : Fin 128) :
    (View.ld (Val := Elt Ideal) (e' := .bf16) x (Rect.unit (s := S2048x128) off S512x128.size inb) : S512x128.Idx → EReal) (ix2 r l)
      = x (ix2 ⟨n * 512 + r.val, by omega⟩ l) := by
  subst ho
  show x ((Rect.unit (s := S2048x128) ![512 * n, 0] S512x128.size inb).emb (ix2 r l)) = _
  congr 1
  funext b
  apply Fin.ext
  rw [Rect.emb_apply]
  match b with
  | ⟨0, _⟩ => show 512 * n + 1 * r.val = n * 512 + r.val; omega
  | ⟨1, _⟩ => show 0 + 1 * l.val = l.val; omega

/-- A loaded block of cumulated gates. -/
theorem ld_gates (x : S1x2x2048.Idx → EReal) (h : Fin 2) (n : ℕ) (hn : n < 4) (off : Fin 3 → ℕ) (ho : off = ![0, h.val, 512 * n])
    (inb : ∀ a, off a + S1x1x512.size a ≤ S1x2x2048.size a) (r : Fin 512) :
    (View.ld (Val := Elt Ideal) (e' := .f32) x (Rect.unit (s := S1x2x2048) off S1x1x512.size inb) : S1x1x512.Idx → EReal) (ix3 0 0 r)
      = x (ix3 0 h ⟨n * 512 + r.val, by omega⟩) := by
  subst ho
  show x ((Rect.unit (s := S1x2x2048) ![0, h.val, 512 * n] S1x1x512.size inb).emb (ix3 0 0 r)) = _
  congr 1
  funext b
  apply Fin.ext
  rw [Rect.emb_apply]
  match b with
  | ⟨0, _⟩ => rfl
  | ⟨1, _⟩ => show h.val + 1 * 0 = h.val; omega
  | ⟨2, _⟩ => show 512 * n + 1 * r.val = n * 512 + r.val; omega

/-- One block of keys more. -/
theorem good_step (i : grid0.Coords) (u : FVec Ideal S512x128 .bf16) (x1 x2 : S2048x128.Idx → EReal) (x3 : S1x2x2048.Idx → EReal) (h : Fin 2)
    (ht : ∀ a k, row (i 2).val u x1 x3 h a k ≠ ⊤) (hb : ∀ a, row (i 2).val u x1 x3 h a 0 ≠ ⊥)
    (k : Fin (k0_t3_loop i).trips) (y w : FVec Ideal S512x128 .bf16) (z : FVec Ideal S1x1x512 .f32)
    (hy : ∀ r l (hr : k.val * 512 + r.val < 2048), y (ix2 r l) = x1 (ix2 ⟨k.val * 512 + r.val, hr⟩ l))
    (hw : ∀ r l (hr : k.val * 512 + r.val < 2048), w (ix2 r l) = x2 (ix2 ⟨k.val * 512 + r.val, hr⟩ l))
    (hz : ∀ (r : Fin 512) (hr : k.val * 512 + r.val < 2048), z (ix3 0 0 r) = x3 (ix3 0 h ⟨k.val * 512 + r.val, hr⟩))
    (st : FVec Ideal S512x1 .f32 × FVec Ideal S512x1 .f32 × FVec Ideal S512x128 .f32) (g : Good (row (i 2).val u x1 x3 h) x2 k.val st) :
    Good (row (i 2).val u x1 x3 h) x2 (k.val + 1)
      (k0_pay2 (F := Ideal) i (BitVec.ofNat 32 (i 2).val) rows cols u 0#32 k st.1 y z,
        k0_pay5 (F := Ideal) i (BitVec.ofNat 32 (i 2).val) rows cols u 0#32 k st.1 st.2.1 y z,
        k0_pay6 (F := Ideal) i (BitVec.ofNat 32 (i 2).val) rows cols u 0#32 k st.1 st.2.2 y w z) := by
  have hk : k.val < 4 := lt_of_lt_of_le k.isLt (k0_t3_abs i).2.1
  intro a
  obtain ⟨g1, g2, g3⟩ := g a
  have hB : ∀ j r, blk (row (i 2).val u x1 x3 h a) j r ≠ ⊤ := by
    intro j r
    unfold blk
    split
    · exact ht a _
    · exact bot_ne_top
  have hB0 : blk (row (i 2).val u x1 x3 h a) 0 0 ≠ ⊥ := by
    unfold blk
    rw [dif_pos (by decide)]
    exact hb a
  have e1 : ∀ r : Fin 512, k0_pay1 (F := Ideal) i (BitVec.ofNat 32 (i 2).val) rows cols u 0#32 k y z (ix2 a r)
      = blk (row (i 2).val u x1 x3 h a) k.val r := by
    intro r
    have hr : k.val * 512 + r.val < 2048 := by omega
    rw [pay1_apply, hz r hr]
    unfold blk row
    rw [dif_pos hr]
    simp only [hy r _ hr]
  have e2 : k0_pay2 (F := Ideal) i (BitVec.ofNat 32 (i 2).val) rows cols u 0#32 k st.1 y z (ix2 a 0)
      = top (blk (row (i 2).val u x1 x3 h a)) (k.val + 1) := by
    rw [pay2_apply, g1]
    simp only [e1]
    rfl
  refine ⟨e2, ?_, fun l => ?_⟩
  · show k0_pay5 (F := Ideal) i (BitVec.ofNat 32 (i 2).val) rows cols u 0#32 k st.1 st.2.1 y z (ix2 a 0) = _
    rw [pay5_apply, e2, g1, g2]
    simp only [e1]
    have := acc_step (blk (row (i 2).val u x1 x3 h a)) (fun _ _ => 1) hB 0 hB0 k.val
    simp only [mul_one] at this
    exact this
  · show k0_pay6 (F := Ideal) i (BitVec.ofNat 32 (i 2).val) rows cols u 0#32 k st.1 st.2.2 y w z (ix2 a l) = _
    rw [pay6_apply, e2, g1, g3]
    simp only [e1]
    rw [← acc_step _ _ hB 0 hB0 k.val]
    congr 1
    refine Finset.sum_congr rfl fun r _ => ?_
    have hr : k.val * 512 + r.val < 2048 := by omega
    rw [hw r l hr]
    congr 1
    unfold blk
    rw [dif_pos hr]

/-- The number of blocks of keys up to the diagonal. -/
theorem trips1 (i : grid0.Coords) : (k0_t1_loop i).trips = (i 2).val + 1 := by
  have h : (i 2).val < 4 := (i 2).isLt
  unfold k0_t1_loop
  generalize (i 2).val = q at h ⊢
  interval_cases q <;> decide
@[inherit_doc trips1] theorem trips3 (i : grid0.Coords) : (k0_t3_loop i).trips = (i 2).val + 1 := trips1 i

section Loads

variable (i : grid0.Coords)

/-- The block of keys or values the first head's loop loads at a trip. -/
def rows1 (k : Fin (k0_t1_loop i).trips) (x : FVec Ideal S2048x128 .bf16) : FVec Ideal S512x128 .bf16 :=
  View.ld (Val := Elt Ideal) (e' := .bf16) x (Rect.unit (s := S2048x128) (k0_off1 i k) S512x128.size (k0_off1_inb i k))
/-- The block of keys or values the second head's loop loads at a trip. -/
def rows5 (k : Fin (k0_t3_loop i).trips) (x : FVec Ideal S2048x128 .bf16) : FVec Ideal S512x128 .bf16 :=
  View.ld (Val := Elt Ideal) (e' := .bf16) x (Rect.unit (s := S2048x128) (k0_off5 i k) S512x128.size (k0_off5_inb i k))
/-- The block of gates the first head's loop loads at a trip. -/
def gates2 (k : Fin (k0_t1_loop i).trips) (x : FVec Ideal S1x2x2048 .f32) : FVec Ideal S1x1x512 .f32 :=
  View.ld (Val := Elt Ideal) (e' := .f32) x (Rect.unit (s := S1x2x2048) (k0_off2 i k) S1x1x512.size (k0_off2_inb i k))
/-- The block of gates the second head's loop loads at a trip. -/
def gates6 (k : Fin (k0_t3_loop i).trips) (x : FVec Ideal S1x2x2048 .f32) : FVec Ideal S1x1x512 .f32 :=
  View.ld (Val := Elt Ideal) (e' := .f32) x (Rect.unit (s := S1x2x2048) (k0_off6 i k) S1x1x512.size (k0_off6_inb i k))

end Loads

section Loops

variable (𝒱 : Variants) (bd : Option 𝒱.V) (c : Dev nD) (i : grid0.Coords) (arg3 : Memref sig .tc .vmem S512x128 .bf16) (harg3 : arg3.IsWhole)
  (arg4 : Memref sig .tc .vmem S2048x128 .bf16) (harg4 : arg4.IsWhole) (arg5 : Memref sig .tc .vmem S2048x128 .bf16) (harg5 : arg5.IsWhole)
  (arg6 : Memref sig .tc .vmem S1x2x2048 .f32) (harg6 : arg6.IsWhole) (arg7 : Memref sig .tc .vmem S512x128 .f32) (harg7 : arg7.IsWhole)
  (arg8 : Memref sig .tc .vmem S512x128 .f32) (harg8 : arg8.IsWhole)

/-- One trip of the first head's loop. -/
theorem trip1 (v3 : FVec Ideal S512x128 .bf16) (x1 x2 : FVec Ideal S2048x128 .bf16) (x3 : FVec Ideal S1x2x2048 .f32)
    (k : Fin (k0_t1_loop i).trips) (st : FVec Ideal S512x1 .f32 × FVec Ideal S512x1 .f32 × FVec Ideal S512x128 .f32) :
    tripR_k0_t1 (F := Ideal) 𝒱 c bd i arg3 harg3 arg4 harg4 arg5 harg5 arg6 harg6 arg7 harg7 arg8 harg8 v3 (harg4.unread x1) (harg5.unread x2) (harg6.unread x3) k st
      = (k0_pay2 (F := Ideal) i (BitVec.ofNat 32 (i 2).val) rows cols (k0_pay16 v3) 0#32 k st.1
            (rows1 i k x1)
            (gates2 i k x3),
          k0_pay5 (F := Ideal) i (BitVec.ofNat 32 (i 2).val) rows cols (k0_pay16 v3) 0#32 k st.1 st.2.1
            (rows1 i k x1)
            (gates2 i k x3),
          k0_pay6 (F := Ideal) i (BitVec.ofNat 32 (i 2).val) rows cols (k0_pay16 v3) 0#32 k st.1 st.2.2
            (rows1 i k x1)
            (rows1 i k x2)
            (gates2 i k x3)) := by
  unfold tripR_k0_t1
  unfold trip_k0_t1
  dsimp only
  simp only [View.readAt_eq_ld, harg4.read_unread, harg5.read_unread, harg6.read_unread]
  rfl

/-- One trip of the second head's loop. -/
theorem trip3 (u : FVec Ideal S512x128 .bf16) (x1 x2 : FVec Ideal S2048x128 .bf16) (x3 : FVec Ideal S1x2x2048 .f32)
    (k : Fin (k0_t3_loop i).trips) (st : FVec Ideal S512x1 .f32 × FVec Ideal S512x1 .f32 × FVec Ideal S512x128 .f32) :
    tripR_k0_t3 (F := Ideal) 𝒱 c bd i arg3 harg3 arg4 harg4 arg5 harg5 arg6 harg6 arg7 harg7 arg8 harg8 (BitVec.ofNat 32 (i 2).val) rows cols u 0#32
        (harg4.unread x1) (harg5.unread x2) (harg6.unread x3) k st
      = (k0_pay2 (F := Ideal) i (BitVec.ofNat 32 (i 2).val) rows cols u 0#32 k st.1
            (rows5 i k x1)
            (gates6 i k x3),
          k0_pay5 (F := Ideal) i (BitVec.ofNat 32 (i 2).val) rows cols u 0#32 k st.1 st.2.1
            (rows5 i k x1)
            (gates6 i k x3),
          k0_pay6 (F := Ideal) i (BitVec.ofNat 32 (i 2).val) rows cols u 0#32 k st.1 st.2.2
            (rows5 i k x1)
            (rows5 i k x2)
            (gates6 i k x3)) := by
  unfold tripR_k0_t3
  unfold trip_k0_t3
  dsimp only
  simp only [View.readAt_eq_ld, harg4.read_unread, harg5.read_unread, harg6.read_unread]
  rfl

/-- The initial values of a loop. -/
theorem good_zero (S : Fin 512 → Fin 2048 → EReal) (x2 : S2048x128.Idx → EReal) :
    Good S x2 0 (k0_pay17 (F := Ideal), k0_pay18 (F := Ideal), k0_pay19 (F := Ideal)) := by
  intro a
  refine ⟨?_, ?_, fun l => ?_⟩
  · show k0_pay17 (F := Ideal) (ix2 a 0) = ⊥
    unfold k0_pay17
    pointwise
    rw [named_masked]
  · show k0_pay18 (F := Ideal) (ix2 a 0) = 0
    unfold k0_pay18
    pointwise
  · show k0_pay19 (F := Ideal) (ix2 a l) = 0
    unfold k0_pay19
    pointwise

/-- What the first head's loop carries. -/
theorem good1 (v3 : FVec Ideal S512x128 .bf16) (x1 x2 : FVec Ideal S2048x128 .bf16) (x3 : FVec Ideal S1x2x2048 .f32)
    (ht : ∀ a k, row (i 2).val (k0_pay16 (F := Ideal) v3) x1 x3 0 a k ≠ ⊤) (hb : ∀ a, row (i 2).val (k0_pay16 (F := Ideal) v3) x1 x3 0 a 0 ≠ ⊥)
    (n : ℕ) (hn : n ≤ (i 2).val + 1) :
    Good (row (i 2).val (k0_pay16 (F := Ideal) v3) x1 x3 0) x2 n (st_k0_t1 (F := Ideal) 𝒱 c bd i arg3 harg3 arg4 harg4 arg5 harg5 arg6 harg6 arg7 harg7 arg8 harg8 v3
      (harg4.unread x1) (harg5.unread x2) (harg6.unread x3) (k0_pay17, k0_pay18, k0_pay19) n) := by
  induction n with
  | zero => exact good_zero _ _
  | succ n ih =>
    have hi : (i 2).val < 4 := (i 2).isLt
    have hk : n < (k0_t1_loop i).trips := by rw [trips1]; omega
    rw [st_k0_t1_succ (F := Ideal) 𝒱 c bd i arg3 harg3 arg4 harg4 arg5 harg5 arg6 harg6 arg7 harg7 arg8 harg8 v3 (harg4.unread x1) (harg5.unread x2) (harg6.unread x3)
      (k0_pay17, k0_pay18, k0_pay19) ⟨n, hk⟩, trip1]
    exact good_step i (k0_pay16 v3) x1 x2 x3 0 ht hb (⟨n, hk⟩ : Fin (k0_t3_loop i).trips) _ _ _
      (fun r l hr => ld_rows x1 n (by omega) _ (k0_off1_eq i ⟨n, hk⟩) _ r l)
      (fun r l hr => ld_rows x2 n (by omega) _ (k0_off1_eq i ⟨n, hk⟩) _ r l)
      (fun r hr => ld_gates x3 0 n (by omega) _ (k0_off2_eq i ⟨n, hk⟩) _ r) _ (ih (by omega))

/-- What the second head's loop carries. -/
theorem good3 (u : FVec Ideal S512x128 .bf16) (x1 x2 : FVec Ideal S2048x128 .bf16) (x3 : FVec Ideal S1x2x2048 .f32)
    (ht : ∀ a k, row (i 2).val u x1 x3 1 a k ≠ ⊤) (hb : ∀ a, row (i 2).val u x1 x3 1 a 0 ≠ ⊥)
    (n : ℕ) (hn : n ≤ (i 2).val + 1) :
    Good (row (i 2).val u x1 x3 1) x2 n (st_k0_t3 (F := Ideal) 𝒱 c bd i arg3 harg3 arg4 harg4 arg5 harg5 arg6 harg6 arg7 harg7 arg8 harg8
      (BitVec.ofNat 32 (i 2).val) rows cols u 0#32
      (harg4.unread x1) (harg5.unread x2) (harg6.unread x3) (k0_pay35, k0_pay36, k0_pay37) n) := by
  induction n with
  | zero => exact good_zero _ _
  | succ n ih =>
    have hi : (i 2).val < 4 := (i 2).isLt
    have hk : n < (k0_t3_loop i).trips := by rw [trips3]; omega
    rw [st_k0_t3_succ (F := Ideal) 𝒱 c bd i arg3 harg3 arg4 harg4 arg5 harg5 arg6 harg6 arg7 harg7 arg8 harg8 (BitVec.ofNat 32 (i 2).val) rows cols u 0#32
      (harg4.unread x1) (harg5.unread x2) (harg6.unread x3)
      (k0_pay35, k0_pay36, k0_pay37) ⟨n, hk⟩, trip3]
    exact good_step i u x1 x2 x3 1 ht hb ⟨n, hk⟩ _ _ _
      (fun r l hr => ld_rows x1 n (by omega) _ (k0_off5_eq i ⟨n, hk⟩) _ r l)
      (fun r l hr => ld_rows x2 n (by omega) _ (k0_off5_eq i ⟨n, hk⟩) _ r l)
      (fun r hr => ld_gates x3 1 n (by omega) _ (k0_off6_eq i ⟨n, hk⟩) _ r) _ (ih (by omega))

/-! ## What the body stores -/

/-- The lanes of a block as words. -/
def lanes : IVec S1x128 32 := iota .tc S1x128 32 [1] iota_S1x128_d1_w32

/-- Every stored rectangle starts at the origin. -/
theorem origin : (![0, 0] : Fin 2 → Nat) = fun _ => 0 := funext fun a => by fin_cases a <;> rfl

/-- What the first head's loop ends with. -/
abbrev end1 (x0 : FVec Ideal S512x128 .bf16) (x1 x2 : FVec Ideal S2048x128 .bf16) (x3 : FVec Ideal S1x2x2048 .f32) : FVec Ideal S512x1 .f32 × FVec Ideal S512x1 .f32 × FVec Ideal S512x128 .f32 :=
  st_k0_t1 (F := Ideal) Variants.none c none i arg3 harg3 arg4 harg4 arg5 harg5 arg6 harg6 arg7 harg7 arg8 harg8 x0 (harg4.unread x1) (harg5.unread x2) (harg6.unread x3)
    (k0_pay17, k0_pay18, k0_pay19) ((i 2).val + 1)
/-- What the second head's loop ends with. -/
abbrev end3 (x0 : FVec Ideal S512x128 .bf16) (x1 x2 : FVec Ideal S2048x128 .bf16) (x3 : FVec Ideal S1x2x2048 .f32) : FVec Ideal S512x1 .f32 × FVec Ideal S512x1 .f32 × FVec Ideal S512x128 .f32 :=
  st_k0_t3 (F := Ideal) Variants.none c none i arg3 harg3 arg4 harg4 arg5 harg5 arg6 harg6 arg7 harg7 arg8 harg8 (BitVec.ofNat 32 (i 2).val) rows cols (k0_pay34 x0) 0#32
    (harg4.unread x1) (harg5.unread x2) (harg6.unread x3) (k0_pay35, k0_pay36, k0_pay37) ((i 2).val + 1)

set_option maxRecDepth 65536 in
/-- The block of the output a grid point leaves. -/
theorem out4_eq (x0 : FVec Ideal S512x128 .bf16) (x1 x2 : FVec Ideal S2048x128 .bf16) (x3 : FVec Ideal S1x2x2048 .f32) :
    out0_A_4 (F := Ideal) c i arg3 harg3 arg4 harg4 arg5 harg5 arg6 harg6 arg7 harg7 arg8 harg8 x0 x1 x2 x3
      = k0_pay13 (F := Ideal) lanes
          (k0_pay32 (end1 c i arg3 harg3 arg4 harg4 arg5 harg5 arg6 harg6 arg7 harg7 arg8 harg8 x0 x1 x2 x3).2.1 (end1 c i arg3 harg3 arg4 harg4 arg5 harg5 arg6 harg6 arg7 harg7 arg8 harg8 x0 x1 x2 x3).2.2)
          (end3 c i arg3 harg3 arg4 harg4 arg5 harg5 arg6 harg6 arg7 harg7 arg8 harg8 x0 x1 x2 x3).2.1 (end3 c i arg3 harg3 arg4 harg4 arg5 harg5 arg6 harg6 arg7 harg7 arg8 harg8 x0 x1 x2 x3).2.2 := by
  unfold out0_A_4
  rw [View.read_writes_eq_canon _ _ _ (cover0_A_4 (F := Ideal) c i arg3 harg3 arg4 harg4 arg5 harg5 arg6 harg6 arg7 harg7 arg8 harg8 x0 x1 x2 x3)]
  unfold kernelRun0_A
  dsimp only
  sl_unfold_words
  rw [View.canon_unit_zero origin]
  simp only [View.readAt_eq_ld, harg3.read_unread, View.ld_unit_zero (S := S512x128) origin]
  have t1 : Scf.trips (0#32) (Scalar.addi (0#32) (Scalar.muli (Scalar.divsi (Scalar.subi
      (Scalar.addi (BitVec.ofNat 32 (i 2).val) 1#32) 0#32) 1#32) 1#32)) 1#32 = (i 2).val + 1 := trips1 i
  have t2 : Scf.trips (Scalar.addi (0#32) (Scalar.muli (Scalar.divsi (Scalar.subi
      (Scalar.addi (BitVec.ofNat 32 (i 2).val) 1#32) 0#32) 1#32) 1#32))
      (Scalar.addi (0#32) (Scalar.subi (Scalar.addi (BitVec.ofNat 32 (i 2).val) 1#32) 0#32)) 1#32 = 0 :=
    Nat.le_zero.mp (k0_t2_abs i).2.1
  simp only [t1, t2, st_k0_t2_zero, st_k0_t4_zero]
  rfl

set_option maxRecDepth 65536 in
/-- The block of the log-sums a grid point leaves. -/
theorem out5_eq (x0 : FVec Ideal S512x128 .bf16) (x1 x2 : FVec Ideal S2048x128 .bf16) (x3 : FVec Ideal S1x2x2048 .f32) :
    out0_A_5 (F := Ideal) c i arg3 harg3 arg4 harg4 arg5 harg5 arg6 harg6 arg7 harg7 arg8 harg8 x0 x1 x2 x3
      = k0_pay14 (F := Ideal) lanes
          (k0_pay33 (end1 c i arg3 harg3 arg4 harg4 arg5 harg5 arg6 harg6 arg7 harg7 arg8 harg8 x0 x1 x2 x3).1 (end1 c i arg3 harg3 arg4 harg4 arg5 harg5 arg6 harg6 arg7 harg7 arg8 harg8 x0 x1 x2 x3).2.1)
          (end3 c i arg3 harg3 arg4 harg4 arg5 harg5 arg6 harg6 arg7 harg7 arg8 harg8 x0 x1 x2 x3).1 (end3 c i arg3 harg3 arg4 harg4 arg5 harg5 arg6 harg6 arg7 harg7 arg8 harg8 x0 x1 x2 x3).2.1 := by
  unfold out0_A_5
  rw [View.read_writes_eq_canon _ _ _ (cover0_A_5 (F := Ideal) c i arg3 harg3 arg4 harg4 arg5 harg5 arg6 harg6 arg7 harg7 arg8 harg8 x0 x1 x2 x3)]
  unfold kernelRun0_A
  dsimp only
  sl_unfold_words
  rw [View.canon_unit_zero origin]
  simp only [View.readAt_eq_ld, harg3.read_unread, View.ld_unit_zero (S := S512x128) origin]
  have t1 : Scf.trips (0#32) (Scalar.addi (0#32) (Scalar.muli (Scalar.divsi (Scalar.subi
      (Scalar.addi (BitVec.ofNat 32 (i 2).val) 1#32) 0#32) 1#32) 1#32)) 1#32 = (i 2).val + 1 := trips1 i
  have t2 : Scf.trips (Scalar.addi (0#32) (Scalar.muli (Scalar.divsi (Scalar.subi
      (Scalar.addi (BitVec.ofNat 32 (i 2).val) 1#32) 0#32) 1#32) 1#32))
      (Scalar.addi (0#32) (Scalar.subi (Scalar.addi (BitVec.ofNat 32 (i 2).val) 1#32) 0#32)) 1#32 = 0 :=
    Nat.le_zero.mp (k0_t2_abs i).2.1
  simp only [t1, t2, st_k0_t2_zero, st_k0_t4_zero]
  rfl

/-- A block of queries kept on the first head's lanes. -/
theorem pay16_apply (x : FVec Ideal S512x128 .bf16) (a : Fin 512) (l : Fin 128) :
    k0_pay16 (F := Ideal) x (ix2 a l) = if l.val < 64 then x (ix2 a l) else 0 := by
  unfold k0_pay16 k0_pay15
  pointwise
  rw [WordCmp.cmpi_slt_ofNat (by omega) (by norm_num), WordCmp.select_ofBool]
  simp only [decide_eq_true_eq]

/-- A block of queries kept on the second head's lanes. -/
theorem pay34_apply (x : FVec Ideal S512x128 .bf16) (a : Fin 512) (l : Fin 128) :
    k0_pay34 (F := Ideal) x (ix2 a l) = if 64 ≤ l.val then x (ix2 a l) else 0 := by
  unfold k0_pay34 k0_pay15
  pointwise
  rw [WordCmp.cmpi_sge_ofNat (by omega) (by norm_num), WordCmp.select_ofBool]
  simp only [decide_eq_true_eq]

/-- The head a lane belongs to. -/
def head (l : Fin 128) : Fin 2 := ⟨l.val / 64, by omega⟩

/-- Lane `d` of head `h`. -/
def lane (h : Fin 2) (d : Fin 64) : Fin 128 := ⟨h.val * 64 + d.val, by omega⟩

/-- The masked scores of query `a` of block `q` against the sequence of keys, over the lanes of head `h`. -/
def srow (q : ℕ) (x0 : S512x128.Idx → EReal) (x1 : S2048x128.Idx → EReal) (x3 : S1x2x2048.Idx → EReal) (h : Fin 2) (a : Fin 512)
    (k : Fin 2048) : EReal :=
  if k.val ≤ q * 512 + a.val
  then (∑ d : Fin 64, x0 (ix2 a (lane h d)) * x1 (ix2 k (lane h d))) * scale - x3 (ix3 0 h k) else ⊥

/-- A sum over all lanes of what is kept on the first half. -/
theorem sum_low (f g : Fin 128 → EReal) :
    (∑ l : Fin 128, (if l.val < 64 then f l else 0) * g l) = ∑ d : Fin 64, f (lane 0 d) * g (lane 0 d) := by
  refine (Fin.sum_univ_add (a := 64) (b := 64) _).trans ?_
  have z : (∑ d : Fin 64, (if (Fin.natAdd 64 d : Fin 128).val < 64 then f (Fin.natAdd 64 d) else 0) * g (Fin.natAdd 64 d)) = 0 :=
    Finset.sum_eq_zero fun d _ => by
      rw [if_neg (by show ¬ (64 + d.val < 64); omega), zero_mul]
  rw [z, add_zero]
  refine Finset.sum_congr rfl fun d _ => ?_
  have e : (Fin.castAdd 64 d : Fin 128) = lane 0 d := Fin.ext (by show d.val = 0 * 64 + d.val; omega)
  rw [e, if_pos (by show 0 * 64 + d.val < 64; omega)]

/-- A sum over all lanes of what is kept on the second half. -/
theorem sum_high (f g : Fin 128 → EReal) :
    (∑ l : Fin 128, (if 64 ≤ l.val then f l else 0) * g l) = ∑ d : Fin 64, f (lane 1 d) * g (lane 1 d) := by
  refine (Fin.sum_univ_add (a := 64) (b := 64) _).trans ?_
  have z : (∑ d : Fin 64, (if 64 ≤ (Fin.castAdd 64 d : Fin 128).val then f (Fin.castAdd 64 d) else 0) * g (Fin.castAdd 64 d)) = 0 :=
    Finset.sum_eq_zero fun d _ => by
      rw [if_neg (by show ¬ (64 ≤ d.val); omega), zero_mul]
  rw [z, zero_add]
  refine Finset.sum_congr rfl fun d _ => ?_
  have e : (Fin.natAdd 64 d : Fin 128) = lane 1 d := Fin.ext (by show 64 + d.val = 1 * 64 + d.val; omega)
  rw [e, if_pos (by show 64 ≤ 1 * 64 + d.val; omega)]

/-- The scores of the first head. -/
theorem row_low (q : ℕ) (x0 : FVec Ideal S512x128 .bf16) (x1 : S2048x128.Idx → EReal) (x3 : S1x2x2048.Idx → EReal) :
    row q (k0_pay16 (F := Ideal) x0) x1 x3 0 = srow q x0 x1 x3 0 := by
  funext a k
  unfold row srow
  simp only [pay16_apply]
  rw [sum_low (fun l => x0 (ix2 a l)) (fun l => x1 (ix2 k l))]

/-- The scores of the second head. -/
theorem row_high (q : ℕ) (x0 : FVec Ideal S512x128 .bf16) (x1 : S2048x128.Idx → EReal) (x3 : S1x2x2048.Idx → EReal) :
    row q (k0_pay34 (F := Ideal) x0) x1 x3 1 = srow q x0 x1 x3 1 := by
  funext a k
  unfold row srow
  simp only [pay34_apply]
  rw [sum_high (fun l => x0 (ix2 a l)) (fun l => x1 (ix2 k l))]

/-- The logarithm of the sum of the exponentials of a row. -/
def logSum (S : Fin 2048 → EReal) : EReal := rowMax S + Ideal.log (∑ k, expRow S k)

/-- The values weighted by the softmax of a row. -/
def weigh (S W : Fin 2048 → EReal) : EReal := ∑ k, W k * normRow (expRow S) k

/-- The loops' carried values after the block on the diagonal, as the softmax of the whole row. -/
theorem good_end (q : ℕ) (hq : q < 4) (S : Fin 512 → Fin 2048 → EReal) (hS : ∀ a k, q * 512 + a.val < k.val → S a k = ⊥)
    (ht : ∀ a k, S a k ≠ ⊤) (hb : ∀ a, S a 0 ≠ ⊥) (x2 : S2048x128.Idx → EReal) (st : FVec Ideal S512x1 .f32 × FVec Ideal S512x1 .f32 × FVec Ideal S512x128 .f32) (g : Good S x2 (q + 1) st) (a : Fin 512) :
    (∀ l, Ideal.div (st.2.2 (ix2 a l)) (st.2.1 (ix2 a 0)) = weigh (S a) fun k => x2 (ix2 k l))
      ∧ st.1 (ix2 a 0) + Ideal.log (st.2.1 (ix2 a 0)) = logSum (S a) := by
  obtain ⟨g1, g2, g3⟩ := g a
  have hz : ∀ j, q + 1 ≤ j → ∀ r, blk (S a) j r = ⊥ := by
    intro j hj r
    unfold blk
    split
    · exact hS a _ (by show q * 512 + a.val < j * 512 + r.val; omega)
    · rfl
  have hblk : ∀ (W : Fin 2048 → EReal) (j : Fin 4) (r : Fin 512), blk W j.val r = W ⟨j.val * 512 + r.val, by omega⟩ :=
    fun W j r => dif_pos _
  have e4 : q + 1 + (3 - q) = 4 := by omega
  have htop : top (blk (S a)) (q + 1) = rowMax (S a) := by
    rw [← top_masked (blk (S a)) (q + 1) (3 - q) hz, e4]
    exact top_four (S a) _ (hblk _)
  have hL : st.2.1 (ix2 a 0) = ∑ k, expRow (S a) k := by
    rw [g2, htop, ← acc_masked (blk (S a)) _ _ (q + 1) (3 - q) hz, e4, acc_four (S a) (fun _ => 1) _ _ (hblk _) (fun _ _ => rfl)]
    simp only [mul_one]
    rfl
  have hA : ∀ l, st.2.2 (ix2 a l) = ∑ k, expRow (S a) k * x2 (ix2 k l) := by
    intro l
    rw [g3, htop, ← acc_masked (blk (S a)) _ _ (q + 1) (3 - q) hz, e4, acc_four (S a) (fun k => x2 (ix2 k l)) _ _ (hblk _) (hblk _)]
    rfl
  refine ⟨fun l => ?_, ?_⟩
  · rw [hA, hL]
    exact div_acc (S a) (fun k => x2 (ix2 k l)) (ht a) 0 (hb a)
  · rw [g1, hL, htop]
    rfl

/-- Keys after the query are masked. -/
theorem srow_masked (q : ℕ) (x0 : S512x128.Idx → EReal) (x1 : S2048x128.Idx → EReal) (x3 : S1x2x2048.Idx → EReal) (h : Fin 2)
    (a : Fin 512) (k : Fin 2048) (hk : q * 512 + a.val < k.val) : srow q x0 x1 x3 h a k = ⊥ := if_neg (by omega)

/-- What the first head's loop ends with. -/
theorem end1_good (x0 : FVec Ideal S512x128 .bf16) (x1 x2 : FVec Ideal S2048x128 .bf16) (x3 : FVec Ideal S1x2x2048 .f32)
    (ht : ∀ h a k, srow (i 2).val x0 x1 x3 h a k ≠ ⊤) (hb : ∀ h a, srow (i 2).val x0 x1 x3 h a 0 ≠ ⊥) :
    Good (srow (i 2).val x0 x1 x3 0) x2 ((i 2).val + 1) (end1 c i arg3 harg3 arg4 harg4 arg5 harg5 arg6 harg6 arg7 harg7 arg8 harg8 x0 x1 x2 x3) := by
  have := good1 Variants.none none c i arg3 harg3 arg4 harg4 arg5 harg5 arg6 harg6 arg7 harg7 arg8 harg8 x0 x1 x2 x3
    (by rw [row_low]; exact ht 0) (by rw [row_low]; exact hb 0) ((i 2).val + 1) le_rfl
  rw [row_low] at this
  exact this

/-- What the second head's loop ends with. -/
theorem end3_good (x0 : FVec Ideal S512x128 .bf16) (x1 x2 : FVec Ideal S2048x128 .bf16) (x3 : FVec Ideal S1x2x2048 .f32)
    (ht : ∀ h a k, srow (i 2).val x0 x1 x3 h a k ≠ ⊤) (hb : ∀ h a, srow (i 2).val x0 x1 x3 h a 0 ≠ ⊥) :
    Good (srow (i 2).val x0 x1 x3 1) x2 ((i 2).val + 1) (end3 c i arg3 harg3 arg4 harg4 arg5 harg5 arg6 harg6 arg7 harg7 arg8 harg8 x0 x1 x2 x3) := by
  have := good3 Variants.none none c i arg3 harg3 arg4 harg4 arg5 harg5 arg6 harg6 arg7 harg7 arg8 harg8 (k0_pay34 x0) x1 x2 x3
    (by rw [row_high]; exact ht 1) (by rw [row_high]; exact hb 1) ((i 2).val + 1) le_rfl
  rw [row_high] at this
  exact this

/-- The output a grid point stores: each query's values weighted by the softmax of its head's scores. -/
theorem out4_apply (x0 : FVec Ideal S512x128 .bf16) (x1 x2 : FVec Ideal S2048x128 .bf16) (x3 : FVec Ideal S1x2x2048 .f32)
    (ht : ∀ h a k, srow (i 2).val x0 x1 x3 h a k ≠ ⊤) (hb : ∀ h a, srow (i 2).val x0 x1 x3 h a 0 ≠ ⊥) (a : Fin 512) (l : Fin 128) :
    (out0_A_4 (F := Ideal) c i arg3 harg3 arg4 harg4 arg5 harg5 arg6 harg6 arg7 harg7 arg8 harg8 x0 x1 x2 x3 : S512x128.Idx → EReal) (ix2 a l)
      = weigh (srow (i 2).val x0 x1 x3 (head l) a) fun k => x2 (ix2 k l) := by
  have hi : (i 2).val < 4 := (i 2).isLt
  have g1 := (good_end (i 2).val hi _ (srow_masked _ _ _ _ _) (ht 0) (hb 0) x2 _
    (end1_good c i arg3 harg3 arg4 harg4 arg5 harg5 arg6 harg6 arg7 harg7 arg8 harg8 x0 x1 x2 x3 ht hb) a).1 l
  have g3 := (good_end (i 2).val hi _ (srow_masked _ _ _ _ _) (ht 1) (hb 1) x2 _
    (end3_good c i arg3 harg3 arg4 harg4 arg5 harg5 arg6 harg6 arg7 harg7 arg8 harg8 x0 x1 x2 x3 ht hb) a).1 l
  rw [out4_eq]
  generalize end1 c i arg3 harg3 arg4 harg4 arg5 harg5 arg6 harg6 arg7 harg7 arg8 harg8 x0 x1 x2 x3 = s1 at g1
  generalize end3 c i arg3 harg3 arg4 harg4 arg5 harg5 arg6 harg6 arg7 harg7 arg8 harg8 x0 x1 x2 x3 = s3 at g3
  unfold k0_pay13 k0_pay32 lanes
  pointwise
  rw [WordCmp.cmpi_slt_ofNat (by omega) (by norm_num), WordCmp.select_ofBool, g1, g3]
  simp only [decide_eq_true_eq]
  have hl : l.val < 128 := l.isLt
  split
  · rw [show head l = 0 from Fin.ext (by show l.val / 64 = 0; omega)]
  · rw [show head l = 1 from Fin.ext (by show l.val / 64 = 1; omega)]

/-- The log-sums a grid point stores, repeated over the lanes of each head. -/
theorem out5_apply (x0 : FVec Ideal S512x128 .bf16) (x1 x2 : FVec Ideal S2048x128 .bf16) (x3 : FVec Ideal S1x2x2048 .f32)
    (ht : ∀ h a k, srow (i 2).val x0 x1 x3 h a k ≠ ⊤) (hb : ∀ h a, srow (i 2).val x0 x1 x3 h a 0 ≠ ⊥) (a : Fin 512) (l : Fin 128) :
    (out0_A_5 (F := Ideal) c i arg3 harg3 arg4 harg4 arg5 harg5 arg6 harg6 arg7 harg7 arg8 harg8 x0 x1 x2 x3 : S512x128.Idx → EReal) (ix2 a l)
      = logSum (srow (i 2).val x0 x1 x3 (head l) a) := by
  have hi : (i 2).val < 4 := (i 2).isLt
  have g1 := (good_end (i 2).val hi _ (srow_masked _ _ _ _ _) (ht 0) (hb 0) x2 _
    (end1_good c i arg3 harg3 arg4 harg4 arg5 harg5 arg6 harg6 arg7 harg7 arg8 harg8 x0 x1 x2 x3 ht hb) a).2
  have g3 := (good_end (i 2).val hi _ (srow_masked _ _ _ _ _) (ht 1) (hb 1) x2 _
    (end3_good c i arg3 harg3 arg4 harg4 arg5 harg5 arg6 harg6 arg7 harg7 arg8 harg8 x0 x1 x2 x3 ht hb) a).2
  rw [out5_eq]
  generalize end1 c i arg3 harg3 arg4 harg4 arg5 harg5 arg6 harg6 arg7 harg7 arg8 harg8 x0 x1 x2 x3 = s1 at g1
  generalize end3 c i arg3 harg3 arg4 harg4 arg5 harg5 arg6 harg6 arg7 harg7 arg8 harg8 x0 x1 x2 x3 = s3 at g3
  unfold k0_pay14 k0_pay33 lanes
  pointwise
  rw [WordCmp.cmpi_slt_ofNat (by omega) (by norm_num), WordCmp.select_ofBool]
  simp only [decide_eq_true_eq]
  have hl : l.val < 128 := l.isLt
  split
  · rw [show head l = 0 from Fin.ext (by show l.val / 64 = 0; omega)]
    exact g1
  · rw [show head l = 1 from Fin.ext (by show l.val / 64 = 1; omega)]
    exact g3

end Loops

end Cert.FoxCases

end
-- ==== Proof.FoxRef.lean ====
/- The plain gated attention the reference computes: its scores, its weights and its log-sums. -/
module

public import proofs.«01_k».proof.Proof.FoxCases
public import proofs.«01_k».proof.Proof.Reals
public import proofs.«01_k».proof.Proof.Gen.FoxFwdReferenceIdeal.Read
public import Idealize.ShloMosaic.Lib.Pointwise
public import Idealize.ShloMosaic.Lib.WordCmp
public import Idealize.ShloMosaic.Lib.Tactic

@[expose] public section

noncomputable section

namespace Cert.FoxRef

open Idealize.ShloMosaic Idealize.SL.Sem Cert.Softmax Cert.Online Cert.Reals
open Cert.FoxCases (scale weigh logSum ofBits_neg_inf)
open Cert.FoxFwdReferenceIdeal Cert.FoxFwdReferenceIdeal.Gen Cert.FoxFwdReferenceIdeal.Read

/-- The scaled product of a query and a key of one head. -/
def prod (Q K : S2x2048x16x64.Idx → EReal) (b : Fin 2) (h : Fin 16) (s k : Fin 2048) : EReal :=
  (∑ d : Fin 64, Q (ix4 b s h d) * K (ix4 b k h d)) * scale

/-- The score of a query for a key: the product less the key's gate, masked to the keys up to the query. -/
def gscore (Q K : S2x2048x16x64.Idx → EReal) (C : S2x2048x16.Idx → EReal) (b : Fin 2) (h : Fin 16) (s k : Fin 2048) : EReal :=
  if k.val ≤ s.val then prod Q K b h s k - C (ix3 b k h) else ⊥

/-- The batch entry and the position of a flattened row, the head and the lane of a flattened column. -/
def rowB (n : Fin 4096) : Fin 2 := ⟨n.val / 2048, by omega⟩
@[inherit_doc rowB] def rowS (n : Fin 4096) : Fin 2048 := ⟨n.val % 2048, by omega⟩
@[inherit_doc rowB] def colH (n : Fin 1024) : Fin 16 := ⟨n.val / 64, by omega⟩
@[inherit_doc rowB] def colD (n : Fin 1024) : Fin 64 := ⟨n.val % 64, by omega⟩

/-- The attention of every query, flattened. -/
def oAll (Q K W : S2x2048x16x64.Idx → EReal) (C : S2x2048x16.Idx → EReal) : S4096x1024.Idx → EReal := fun i =>
  weigh (gscore Q K C (rowB (i 0)) (colH (i 1)) (rowS (i 0))) fun k => W (ix4 (rowB (i 0)) k (colH (i 1)) (colD (i 1)))

/-- The log-sum of every query, flattened and repeated over the lanes. -/
def lseAll (Q K : S2x2048x16x64.Idx → EReal) (C : S2x2048x16.Idx → EReal) : S4096x1024.Idx → EReal := fun i =>
  logSum (gscore Q K C (rowB (i 0)) (colH (i 1)) (rowS (i 0)))

/-- The scale is a real number. -/
theorem isReal_scale : IsReal scale := ⟨1 / 8, by
  unfold scale
  simp [Ideal.ofBits, Ideal.ieee, -EReal.coe_mul]; norm_num⟩

/-- The product of real queries and keys is real. -/
theorem isReal_prod (Q K : S2x2048x16x64.Idx → EReal) (hQ : ∀ i, IsReal (Q i)) (hK : ∀ i, IsReal (K i)) (b : Fin 2) (h : Fin 16)
    (s k : Fin 2048) : IsReal (prod Q K b h s k) :=
  (IsReal.sum fun d => (hQ _).mul (hK _)).mul isReal_scale

/-- No score is infinite upwards. -/
theorem gscore_ne_top (Q K : S2x2048x16x64.Idx → EReal) (C : S2x2048x16.Idx → EReal) (hQ : ∀ i, IsReal (Q i)) (hK : ∀ i, IsReal (K i))
    (hC : ∀ i, IsReal (C i)) (b : Fin 2) (h : Fin 16) (s k : Fin 2048) : gscore Q K C b h s k ≠ ⊤ := by
  unfold gscore
  split
  · obtain ⟨x, hx⟩ := isReal_prod Q K hQ hK b h s k
    obtain ⟨y, hy⟩ := hC (ix3 b k h)
    rw [hx, hy, ← EReal.coe_sub]
    exact EReal.coe_ne_top _
  · exact bot_ne_top

/-- The first key is never masked. -/
theorem gscore_zero (Q K : S2x2048x16x64.Idx → EReal) (C : S2x2048x16.Idx → EReal) (hQ : ∀ i, IsReal (Q i)) (hK : ∀ i, IsReal (K i))
    (hC : ∀ i, IsReal (C i)) (b : Fin 2) (h : Fin 16) (s : Fin 2048) : gscore Q K C b h s 0 ≠ ⊥ := by
  unfold gscore
  rw [if_pos (show (0 : Fin 2048).val ≤ s.val from Nat.zero_le _)]
  obtain ⟨x, hx⟩ := isReal_prod Q K hQ hK b h s 0
  obtain ⟨y, hy⟩ := hC (ix3 b 0 h)
  rw [hx, hy, ← EReal.coe_sub]
  exact EReal.coe_ne_bot _

variable (Q K W : FVec Ideal S2x2048x16x64 .f32) (C : FVec Ideal S2x2048x16 .f32)

/-- The mask compares positions. -/
theorem v7_apply (s k : Fin 2048) : val_main_v7 (F := Ideal) (ix2 s k) = BitVec.ofBool (decide (k.val ≤ s.val)) := by
  have hs : s.val < 2 ^ (32 - 1) := lt_trans s.isLt (by norm_num)
  have hk : k.val < 2 ^ (32 - 1) := lt_trans k.isLt (by norm_num)
  rw [val_main_v7_apply]
  exact WordCmp.cmpi_sge_ofNat (w := 32) hs hk

/-- The scaled products. -/
theorem v12_apply (b : Fin 2) (h : Fin 16) (s k : Fin 2048) : val_main_v12 (F := Ideal) Q K (ix4 b h s k) = prod Q K b h s k := by
  unfold val_main_v12 val_main_v11 val_main_v10 val_main_cst_0
  pointwise
  rfl

/-- The mask at every head. -/
theorem v8_apply (b : Fin 2) (h : Fin 16) (s k : Fin 2048) :
    val_main_v8 (F := Ideal) (ix4 b h s k) = BitVec.ofBool (decide (k.val ≤ s.val)) := by
  unfold val_main_v8
  pointwise
  exact v7_apply s k

/-- What is hidden is infinite downwards. -/
theorem v9_apply (b : Fin 2) (h : Fin 16) (s k : Fin 2048) : val_main_v9 (F := Ideal) (ix4 b h s k) = ⊥ := by
  unfold val_main_v9 val_main_cst
  pointwise
  exact ofBits_neg_inf

/-- The scores with both gates, masked. -/
theorem v19_apply (hQ : ∀ i, IsReal (Q i)) (hK : ∀ i, IsReal (K i)) (hC : ∀ i, IsReal (C i)) (b : Fin 2) (h : Fin 16) (s k : Fin 2048) :
    val_main_v19 (F := Ideal) Q K C (ix4 b h s k) = gscore Q K C b h s k + C (ix3 b s h) := by
  have e1 : val_main_v18 (F := Ideal) Q K C (ix4 b h s k) = (prod Q K b h s k + C (ix3 b s h)) - C (ix3 b k h) := by
    unfold val_main_v18 val_main_v17 val_main_v16 val_main_v15 val_main_v14 val_main_v13 val_main_v0
    pointwise
    simp only [v12_apply]
  rw [val_main_v19_apply, e1, v8_apply, v9_apply, WordCmp.select_ofBool]
  unfold gscore
  simp only [decide_eq_true_eq]
  obtain ⟨x, hx⟩ := isReal_prod Q K hQ hK b h s k
  obtain ⟨y, hy⟩ := hC (ix3 b k h)
  obtain ⟨z, hz⟩ := hC (ix3 b s h)
  split
  · rw [hx, hy, hz, ← EReal.coe_add, ← EReal.coe_sub, ← EReal.coe_sub, ← EReal.coe_add]
    congr 1
    ring
  · exact (EReal.bot_add _).symm

/-- The scores without the query's gate, masked. -/
theorem v36_apply (b : Fin 2) (h : Fin 16) (s k : Fin 2048) : val_main_v36 (F := Ideal) Q K C (ix4 b h s k) = gscore Q K C b h s k := by
  have e1 : val_main_v35 (F := Ideal) Q K C (ix4 b h s k) = prod Q K b h s k - C (ix3 b k h) := by
    unfold val_main_v35 val_main_v34 val_main_v33 val_main_v0
    pointwise
    simp only [v12_apply]
  rw [val_main_v36_apply, e1, v8_apply, v9_apply, WordCmp.select_ofBool]
  simp only [decide_eq_true_eq]
  rfl

/-- The host's maximum over the keys is the row maximum. -/
theorem hostMax (x : FVec Ideal S2x16x2048x2048 .f32) (b : Fin 2) (h : Fin 16) (s : Fin 2048) :
    Host.reduce FloatOps.maximumf x (constant S_ .f32 0xFF800000#32) reducesTo_S2x16x2048x2048_S2x16x2048_d3 h_S_ (ix3 b h s)
      = rowMax fun j => x (ix4 b h s j) := by
  have hr : S2x16x2048x2048.Reduces [3] S2x16x2048 := by decide
  rw [Host.reduce_eq_fold_single FloatOps.maximumf x _ reducesTo_S2x16x2048x2048_S2x16x2048_d3 hr h_S_]
  have hf : (x ∘ hr.lift (ix3 b h s)) = fun j : Fin 2048 => x (ix4 b h s j) := funext fun j => congrArg x (by
    funext a; apply Fin.ext
    match a with | ⟨0, _⟩ => rfl | ⟨1, _⟩ => rfl | ⟨2, _⟩ => rfl | ⟨3, _⟩ => rfl)
  have hb : constant (F := Ideal) S_ .f32 0xFF800000#32 (Shape.Idx.first h_S_) = (⊥ : EReal) := ofBits_neg_inf
  rw [hb]
  exact congrArg (fun f => Finset.fold max (⊥ : EReal) f (Finset.univ : Finset (Fin 2048))) hf

section Output
variable (hQ : ∀ i, IsReal (Q i)) (hK : ∀ i, IsReal (K i)) (hC : ∀ i, IsReal (C i))
include hQ hK hC

/-- The scores of a query with its own gate. -/
abbrev shifted (b : Fin 2) (h : Fin 16) (s : Fin 2048) : Fin 2048 → EReal := fun k => gscore Q K C b h s k + C (ix3 b s h)

theorem v22_apply (b : Fin 2) (h : Fin 16) (s : Fin 2048) :
    val_main_v22 (F := Ideal) Q K C (ix3 b h s) = rowMax (shifted Q K C b h s) := by
  have e : val_main_v20 (F := Ideal) Q K C (ix3 b h s) = rowMax (shifted Q K C b h s) := by
    unfold val_main_v20 val_main_cst_1
    exact (hostMax _ b h s).trans (congrArg rowMax (funext fun j => v19_apply Q K C hQ hK hC b h s j))
  rw [val_main_v22_apply, e, val_main_v21_apply, val_main_cst_2_apply]
  generalize rowMax (shifted Q K C b h s) = x
  show max (Ideal.ofBits .f32 0xFF800000#32) x = x
  rw [ofBits_neg_inf]
  exact max_eq_right bot_le

/-- The exponentials; a query's own gate cancels. -/
theorem v26_apply (b : Fin 2) (h : Fin 16) (s k : Fin 2048) :
    val_main_v26 (F := Ideal) Q K C (ix4 b h s k) = expRow (gscore Q K C b h s) k := by
  have e : val_main_v26 (F := Ideal) Q K C (ix4 b h s k) = expRow (shifted Q K C b h s) k := by
    unfold val_main_v26 val_main_v25 val_main_v24 val_main_v23
    pointwise
    simp only [v19_apply Q K C hQ hK hC, v22_apply Q K C hQ hK hC]
    rfl
  rw [e]
  obtain ⟨z, hz⟩ := hC (ix3 b s h)
  unfold shifted
  rw [hz, expRow_add _ (gscore_ne_top Q K C hQ hK hC b h s) 0 (gscore_zero Q K C hQ hK hC b h s) z]

theorem v30_apply (b : Fin 2) (h : Fin 16) (s k : Fin 2048) :
    val_main_v30 (F := Ideal) Q K C (ix4 b h s k) = normRow (expRow (gscore Q K C b h s)) k := by
  unfold val_main_v30 val_main_v29 val_main_v28 val_main_v27 val_main_cst_3
  pointwise
  simp only [v26_apply Q K C hQ hK hC]
  rfl

theorem v32_apply (b : Fin 2) (s : Fin 2048) (h : Fin 16) (d : Fin 64) :
    val_main_v32 (F := Ideal) Q K W C (ix4 b s h d) = weigh (gscore Q K C b h s) fun k => W (ix4 b k h d) := by
  unfold val_main_v32 val_main_v31
  pointwise
  simp only [v30_apply Q K C hQ hK hC]
  rfl

/-- The reference's attention. -/
theorem v48_eq : val_main_v48 (F := Ideal) Q K W C = oAll Q K W C := by
  funext i
  rw [val_main_v48_apply]
  have h0 : (i 0 : ℕ) < 4096 := (i 0).isLt
  have h1 : (i 1 : ℕ) < 1024 := (i 1).isLt
  have e : idx_main_v48 i = ix4 (rowB (i 0)) (rowS (i 0)) (colH (i 1)) (colD (i 1)) := by
    funext a; apply Fin.ext
    match a with
    | ⟨0, _⟩ => show ((i 0 : ℕ) * 1024 + (i 1 : ℕ)) / 2097152 = (i 0 : ℕ) / 2048; omega
    | ⟨1, _⟩ => show ((i 0 : ℕ) * 1024 + (i 1 : ℕ)) / 1024 % 2048 = (i 0 : ℕ) % 2048; omega
    | ⟨2, _⟩ => show ((i 0 : ℕ) * 1024 + (i 1 : ℕ)) / 64 % 16 = (i 1 : ℕ) / 64; omega
    | ⟨3, _⟩ => show ((i 0 : ℕ) * 1024 + (i 1 : ℕ)) % 64 = (i 1 : ℕ) % 64; omega
  rw [e, v32_apply Q K W C hQ hK hC]
  rfl

end Output

theorem v37_apply (b : Fin 2) (h : Fin 16) (s : Fin 2048) :
    val_main_v37 (F := Ideal) Q K C (ix3 b h s) = rowMax (gscore Q K C b h s) := by
  unfold val_main_v37 val_main_cst_4
  exact (hostMax _ b h s).trans (congrArg rowMax (funext fun j => v36_apply Q K C b h s j))

theorem v41_apply (b : Fin 2) (h : Fin 16) (s k : Fin 2048) :
    val_main_v41 (F := Ideal) Q K C (ix4 b h s k) = expRow (gscore Q K C b h s) k := by
  unfold val_main_v41 val_main_v40 val_main_v39 val_main_v38
  pointwise
  simp only [v36_apply, v37_apply]
  rfl

theorem v42_apply (b : Fin 2) (h : Fin 16) (s : Fin 2048) :
    val_main_v42 (F := Ideal) Q K C (ix3 b h s) = ∑ k, expRow (gscore Q K C b h s) k := by
  unfold val_main_v42 val_main_cst_5
  pointwise
  simp only [v41_apply]

/-- The log-sum of one query. -/
theorem v45_apply (b : Fin 2) (h : Fin 16) (s : Fin 2048) :
    val_main_v45 (F := Ideal) Q K C (ix4 b h s 0) = logSum (gscore Q K C b h s) := by
  have e3 : idx_main_v43 (ix4 b h s 0) = ix3 b h s := by
    funext a; apply Fin.ext
    match a with | ⟨0, _⟩ => rfl | ⟨1, _⟩ => rfl | ⟨2, _⟩ => rfl
  have e8 : idx_main_v38 (ix4 b h s 0) = ix3 b h s := by
    funext a; apply Fin.ext
    match a with | ⟨0, _⟩ => rfl | ⟨1, _⟩ => rfl | ⟨2, _⟩ => rfl
  rw [val_main_v45_apply, val_main_v44_apply, val_main_v43_apply, val_main_v38_apply, e3, e8, v42_apply, v37_apply]
  unfold logSum
  generalize rowMax (gscore Q K C b h s) = x
  generalize (∑ k, expRow (gscore Q K C b h s) k) = y
  rfl

/-- The log-sum of one query, on every lane. -/
theorem v47_apply (b : Fin 2) (s : Fin 2048) (h : Fin 16) (d : Fin 64) :
    val_main_v47 (F := Ideal) Q K C (ix4 b s h d) = logSum (gscore Q K C b h s) := by
  have e : idx_main_v46 (idx_main_v47 (ix4 b s h d)) = ix4 b h s 0 := by
    funext a; apply Fin.ext
    match a with | ⟨0, _⟩ => rfl | ⟨1, _⟩ => rfl | ⟨2, _⟩ => rfl | ⟨3, _⟩ => rfl
  rw [val_main_v47_apply, val_main_v46_apply, e, v45_apply]

/-- The reference's log-sums. -/
theorem v49_eq : val_main_v49 (F := Ideal) Q K C = lseAll Q K C := by
  funext i
  rw [val_main_v49_apply]
  have h0 : (i 0 : ℕ) < 4096 := (i 0).isLt
  have h1 : (i 1 : ℕ) < 1024 := (i 1).isLt
  have e : idx_main_v49 i = ix4 (rowB (i 0)) (rowS (i 0)) (colH (i 1)) (colD (i 1)) := by
    funext a; apply Fin.ext
    match a with
    | ⟨0, _⟩ => show ((i 0 : ℕ) * 1024 + (i 1 : ℕ)) / 2097152 = (i 0 : ℕ) / 2048; omega
    | ⟨1, _⟩ => show ((i 0 : ℕ) * 1024 + (i 1 : ℕ)) / 1024 % 2048 = (i 0 : ℕ) % 2048; omega
    | ⟨2, _⟩ => show ((i 0 : ℕ) * 1024 + (i 1 : ℕ)) / 64 % 16 = (i 1 : ℕ) / 64; omega
    | ⟨3, _⟩ => show ((i 0 : ℕ) * 1024 + (i 1 : ℕ)) % 64 = (i 1 : ℕ) % 64; omega
  rw [e, v47_apply]
  rfl

end Cert.FoxRef

end
-- ==== Proof.FoxFwdClaim.lean ====
/- The forward gated attention. Where the windows lie, the arrays the grid ends with, and the claims against the plain
   attention. -/
module

public import proofs.«01_k».proof.Defs
public import proofs.«01_k».proof.Proof.FoxRef
public import proofs.«01_k».proof.Proof.Finite
public import proofs.«01_k».proof.Proof.Gen.Pre_finite_fox
public import Idealize.ShloMosaic.Lib.StableHlo.Run
public import Idealize.ShloMosaic.Adequacy
public import Idealize.ShloMosaic.Init

@[expose] public section

noncomputable section

namespace Cert.FoxFwdClaim

open Idealize.ShloMosaic Idealize.SL.Sem Cert.Softmax Cert.Reals Cert.FoxRef
open Cert.FoxCases (srow head lane weigh logSum out4_apply out5_apply)

section Kernel
open Cert.FoxFwdIdeal Cert.FoxFwdIdeal.Gen Cert.FoxFwdIdeal.Value Idealize.ShloMosaic.TcCoe

variable (m : (ℓ : Loc nD τ sig) → Buf (Elt Ideal) ℓ) (c : Dev nD)

/-- The four arguments as arrays of extended reals. -/
abbrev argQ : S2x2048x16x64.Idx → EReal := m ((c : Thread nD τ).loc main_arg0)
@[inherit_doc argQ] abbrev argK : S2x2048x16x64.Idx → EReal := m ((c : Thread nD τ).loc main_arg1)
@[inherit_doc argQ] abbrev argV : S2x2048x16x64.Idx → EReal := m ((c : Thread nD τ).loc main_arg2)
@[inherit_doc argQ] abbrev argC : S2x2048x16.Idx → EReal := m ((c : Thread nD τ).loc main_arg3)

/-- The flattened queries, keys and values, and the gates by head. -/
theorem V_v1 : (V (F := Ideal) m c main_v1 : S4096x1024.Idx → EReal)
    = shapeCast S4096x1024 (argQ m c) shapeCasts_S2x2048x16x64_S4096x1024 := by
  unfold_abbrev_sides
  after_results
  rfl
@[inherit_doc V_v1] theorem V_v3 : (V (F := Ideal) m c main_v3 : S4096x1024.Idx → EReal)
    = shapeCast S4096x1024 (argK m c) shapeCasts_S2x2048x16x64_S4096x1024 := by
  unfold_abbrev_sides
  after_results
  rfl
@[inherit_doc V_v1] theorem V_v5 : (V (F := Ideal) m c main_v5 : S4096x1024.Idx → EReal)
    = shapeCast S4096x1024 (argV m c) shapeCasts_S2x2048x16x64_S4096x1024 := by
  unfold_abbrev_sides
  after_results
  rfl
@[inherit_doc V_v1] theorem V_v7 : (V (F := Ideal) m c main_v7 : S16x2x2048.Idx → EReal)
    = shapeCast S16x2x2048 (transpose S2x16x2048 [0, 2, 1] (argC m c : FVec Ideal S2x2048x16 .f32) transposes_S2x2048x16_S2x16x2048_0_2_1)
        shapeCasts_S2x16x2048_S16x2x2048 := by
  unfold_abbrev_sides
  after_results
  rfl

/-- An entry of a flattened array. -/
theorem flat (A : S2x2048x16x64.Idx → EReal) (b : Fin 2) (s : Fin 2048) (h : Fin 16) (d : Fin 64)
    (i : S4096x1024.Idx) (h0 : (i 0).val = b.val * 2048 + s.val) (h1 : (i 1).val = h.val * 64 + d.val) :
    shapeCast S4096x1024 A shapeCasts_S2x2048x16x64_S4096x1024 i = A (ix4 b s h d) :=
  shapeCast_apply A _ i _ (by
    rw [Shape.rowMajor_val_four, Shape.rowMajor_val_two]
    show ((b.val * 2048 + s.val) * 16 + h.val) * 64 + d.val = (i 0).val * 1024 + (i 1).val
    rw [h0, h1]; ring)

/-- An entry of the gates by head. -/
theorem flatC (A : FVec Ideal S2x2048x16 .f32) (b : Fin 2) (s : Fin 2048) (h : Fin 16)
    (i : S16x2x2048.Idx) (h0 : (i 0).val * 2 + (i 1).val = b.val * 16 + h.val) (h1 : (i 2).val = s.val) :
    shapeCast S16x2x2048 (transpose S2x16x2048 [0, 2, 1] A transposes_S2x2048x16_S2x16x2048_0_2_1) shapeCasts_S2x16x2048_S16x2x2048 i
      = A (ix3 b s h) := by
  refine (shapeCast_apply _ _ i (ix3 b h s) (by
    rw [Shape.rowMajor_val_three, Shape.rowMajor_val_three]
    show (b.val * 16 + h.val) * 2048 + s.val = ((i 0).val * 2 + (i 1).val) * 2048 + (i 2).val
    rw [h0, h1])).trans ?_
  pointwise

/-- The number of grid points. -/
theorem N_eq : cfg0.N = 64 := N_0

/-- The batch entry, the pair of heads and the block of queries of a grid point. -/
def ptB (t : Fin cfg0.N) : Fin 2 := ⟨t.val / 32, by have h : t.val < 64 := lt_of_lt_of_eq t.isLt N_eq; omega⟩
@[inherit_doc ptB] def ptP (t : Fin cfg0.N) : Fin 8 := ⟨t.val / 4 % 8, by omega⟩
@[inherit_doc ptB] def ptQ (t : Fin cfg0.N) : Fin 4 := ⟨t.val % 4, by omega⟩

/-- Query `r` of block `q`. -/
def pos (q : Fin 4) (r : Fin 512) : Fin 2048 := ⟨q.val * 512 + r.val, by omega⟩

/-- Head `h` of pair `p`. -/
def two (p : Fin 8) (h : Fin 2) : Fin 16 := ⟨p.val * 2 + h.val, by omega⟩

/-- Where the windows lie. -/
theorem index_eq : ∀ t : Fin grid0.N,
    (win0_0.index t 0 = t.val / 32 * 4 + t.val % 4 ∧ win0_0.index t 1 = t.val / 4 % 8)
    ∧ (win0_1.index t 0 = t.val / 32 ∧ win0_1.index t 1 = t.val / 4 % 8)
    ∧ (win0_2.index t 0 = t.val / 32 ∧ win0_2.index t 1 = t.val / 4 % 8)
    ∧ (win0_3.index t 0 = t.val / 32 * 8 + t.val / 4 % 8 ∧ win0_3.index t 1 = 0 ∧ win0_3.index t 2 = 0)
    ∧ (win0_4.index t 0 = t.val / 32 * 4 + t.val % 4 ∧ win0_4.index t 1 = t.val / 4 % 8)
    ∧ (win0_5.index t 0 = t.val / 32 * 4 + t.val % 4 ∧ win0_5.index t 1 = t.val / 4 % 8)
    ∧ (grid0.coords t 2).val = t.val % 4 := by decide +kernel

/-- The block of queries read at a point. -/
theorem iblk_q (t : Fin cfg0.N) (a : Fin 512) (h : Fin 2) (d : Fin 64) :
    (iblk (F := Ideal) m c 0 t : S512x128.Idx → EReal) (ix2 a (lane h d)) = argQ m c (ix4 (ptB t) (pos (ptQ t) a) (two (ptP t) h) d) := by
  obtain ⟨⟨e0, e1⟩, -⟩ := index_eq t
  show (V (F := Ideal) m c main_v1 : S4096x1024.Idx → EReal) ((win0_0.rect t).emb (ix2 a (lane h d))) = _
  rw [V_v1]
  refine flat _ _ _ _ _ _ ?_ ?_
  · refine (Pipeline.Window.rect_emb_val win0_0 t _ 0).trans ?_; rw [e0]
    show (t.val / 32 * 4 + t.val % 4) * 512 + a.val = t.val / 32 * 2048 + (t.val % 4 * 512 + a.val)
    omega
  · refine (Pipeline.Window.rect_emb_val win0_0 t _ 1).trans ?_; rw [e1]
    show t.val / 4 % 8 * 128 + (h.val * 64 + d.val) = (t.val / 4 % 8 * 2 + h.val) * 64 + d.val
    omega

/-- The keys read at a point. -/
theorem iblk_k (t : Fin cfg0.N) (k : Fin 2048) (h : Fin 2) (d : Fin 64) :
    (iblk (F := Ideal) m c 1 t : S2048x128.Idx → EReal) (ix2 k (lane h d)) = argK m c (ix4 (ptB t) k (two (ptP t) h) d) := by
  obtain ⟨-, ⟨e0, e1⟩, -⟩ := index_eq t
  show (V (F := Ideal) m c main_v3 : S4096x1024.Idx → EReal) ((win0_1.rect t).emb (ix2 k (lane h d))) = _
  rw [V_v3]
  refine flat _ _ _ _ _ _ ?_ ?_
  · refine (Pipeline.Window.rect_emb_val win0_1 t _ 0).trans ?_; rw [e0]; rfl
  · refine (Pipeline.Window.rect_emb_val win0_1 t _ 1).trans ?_; rw [e1]
    show t.val / 4 % 8 * 128 + (h.val * 64 + d.val) = (t.val / 4 % 8 * 2 + h.val) * 64 + d.val
    omega

/-- The values read at a point. -/
theorem iblk_v (t : Fin cfg0.N) (k : Fin 2048) (h : Fin 2) (d : Fin 64) :
    (iblk (F := Ideal) m c 2 t : S2048x128.Idx → EReal) (ix2 k (lane h d)) = argV m c (ix4 (ptB t) k (two (ptP t) h) d) := by
  obtain ⟨-, -, ⟨e0, e1⟩, -⟩ := index_eq t
  show (V (F := Ideal) m c main_v5 : S4096x1024.Idx → EReal) ((win0_2.rect t).emb (ix2 k (lane h d))) = _
  rw [V_v5]
  refine flat _ _ _ _ _ _ ?_ ?_
  · refine (Pipeline.Window.rect_emb_val win0_2 t _ 0).trans ?_; rw [e0]; rfl
  · refine (Pipeline.Window.rect_emb_val win0_2 t _ 1).trans ?_; rw [e1]
    show t.val / 4 % 8 * 128 + (h.val * 64 + d.val) = (t.val / 4 % 8 * 2 + h.val) * 64 + d.val
    omega

/-- The gates read at a point. -/
theorem iblk_c (t : Fin cfg0.N) (h : Fin 2) (k : Fin 2048) :
    (iblk (F := Ideal) m c 3 t : S1x2x2048.Idx → EReal) (ix3 0 h k) = argC m c (ix3 (ptB t) k (two (ptP t) h)) := by
  obtain ⟨-, -, -, ⟨e0, e1, e2⟩, -⟩ := index_eq t
  show (V (F := Ideal) m c main_v7 : S16x2x2048.Idx → EReal) ((win0_3.rect t).emb (ix3 0 h k)) = _
  rw [V_v7]
  have f0 : ((win0_3.rect t).emb (ix3 0 h k) 0 : ℕ) = t.val / 32 * 8 + t.val / 4 % 8 := by
    refine (Pipeline.Window.rect_emb_val win0_3 t _ 0).trans ?_; rw [e0]
    show (t.val / 32 * 8 + t.val / 4 % 8) * 1 + 0 = _
    omega
  have f1 : ((win0_3.rect t).emb (ix3 0 h k) 1 : ℕ) = h.val := by
    refine (Pipeline.Window.rect_emb_val win0_3 t _ 1).trans ?_; rw [e1]
    show 0 * 2 + h.val = _
    omega
  have f2 : ((win0_3.rect t).emb (ix3 0 h k) 2 : ℕ) = k.val := by
    refine (Pipeline.Window.rect_emb_val win0_3 t _ 2).trans ?_; rw [e2]
    show 0 * 2048 + k.val = _
    omega
  refine flatC _ _ _ _ _ ?_ f2
  rw [f0, f1]
  show (t.val / 32 * 8 + t.val / 4 % 8) * 2 + h.val = t.val / 32 * 16 + (t.val / 4 % 8 * 2 + h.val)
  omega

/-- The scores of a grid point are its part of the attention's scores. -/
theorem srow_eq (t : Fin cfg0.N) (h : Fin 2) (a : Fin 512) :
    srow (grid0.coords t 2).val (iblk (F := Ideal) m c 0 t) (iblk (F := Ideal) m c 1 t) (iblk (F := Ideal) m c 3 t) h a
      = gscore (argQ m c) (argK m c) (argC m c) (ptB t) (two (ptP t) h) (pos (ptQ t) a) := by
  have e : (grid0.coords t 2).val = t.val % 4 := (index_eq t).2.2.2.2.2.2
  funext k
  unfold srow gscore prod
  rw [e, iblk_c]
  simp only [iblk_q, iblk_k]
  rfl

/-- The entry of the arrays that a grid point's entry is. -/
theorem place (t : Fin cfg0.N) (a : Fin 512) (l : Fin 128) (i : S4096x1024.Idx)
    (h0 : (i 0).val = (t.val / 32 * 4 + t.val % 4) * 512 + a.val) (h1 : (i 1).val = t.val / 4 % 8 * 128 + l.val) :
    rowB (i 0) = ptB t ∧ rowS (i 0) = pos (ptQ t) a ∧ colH (i 1) = two (ptP t) (head l) ∧ lane (head l) (colD (i 1)) = l := by
  have hl : l.val < 128 := l.isLt
  refine ⟨Fin.ext ?_, Fin.ext ?_, Fin.ext ?_, Fin.ext ?_⟩
  · show (i 0).val / 2048 = t.val / 32
    rw [h0]; omega
  · show (i 0).val % 2048 = t.val % 4 * 512 + a.val
    rw [h0]; omega
  · show (i 1).val / 64 = t.val / 4 % 8 * 2 + l.val / 64
    rw [h1]; omega
  · show l.val / 64 * 64 + (i 1).val % 64 = l.val
    rw [h1]; omega

/-- The point whose blocks hold an entry. -/
def point (i : S4096x1024.Idx) : Fin cfg0.N := ⟨(i 0).val / 2048 * 32 + (i 1).val / 128 * 4 + (i 0).val / 512 % 4, by
  have h0 : (i 0 : ℕ) < 4096 := (i 0).isLt
  have h1 : (i 1 : ℕ) < 1024 := (i 1).isLt
  exact lt_of_lt_of_eq (by omega) N_eq.symm⟩

variable (hQ : ∀ i, IsReal (argQ m c i)) (hK : ∀ i, IsReal (argK m c i)) (hC : ∀ i, IsReal (argC m c i))
include hQ hK hC

/-- No score of a grid point is infinite upwards, and the first is finite. -/
theorem srow_top (t : Fin cfg0.N) : (∀ h a k, srow (grid0.coords t 2).val (iblk (F := Ideal) m c 0 t) (iblk (F := Ideal) m c 1 t)
      (iblk (F := Ideal) m c 3 t) h a k ≠ ⊤)
    ∧ ∀ h a, srow (grid0.coords t 2).val (iblk (F := Ideal) m c 0 t) (iblk (F := Ideal) m c 1 t)
      (iblk (F := Ideal) m c 3 t) h a 0 ≠ ⊥ := by
  refine ⟨fun h a k => ?_, fun h a => ?_⟩
  · rw [srow_eq]; exact gscore_ne_top _ _ _ hQ hK hC _ _ _ _
  · rw [srow_eq]; exact gscore_zero _ _ _ hQ hK hC _ _ _

/-- The attention the grid ends with. -/
theorem final_o : (dats (F := Ideal) m 0 c).arrAt 4 cfg0.N
    = (oAll (argQ m c) (argK m c) (argV m c) (argC m c) : S4096x1024.Idx → EReal) := by
  refine (dats (F := Ideal) m 0 c).arrAt_eq_of_cover 4 _ (fun t _ => ?_) (fun i => ?_)
  · rw [flushed4_A]
    obtain ⟨-, -, -, -, ⟨e0, e1⟩, -, -⟩ := index_eq t
    obtain ⟨ht, hb⟩ := srow_top m c hQ hK hC t
    funext y
    obtain ⟨a, l, rfl⟩ : ∃ (a : Fin 512) (l : Fin 128), y = ix2 a l := ⟨y 0, y 1, eq_ix2 y⟩
    refine (out4_apply c (grid0.coords t) (ms0_0 t) (hs0_0 t) (ms0_1 t) (hs0_1 t) (ms0_2 t) (hs0_2 t) (ms0_3 t) (hs0_3 t) (ms0_4 t)
      (hs0_4 t) (ms0_5 t) (hs0_5 t) (iblk (F := Ideal) m c 0 t) (iblk (F := Ideal) m c 1 t) (iblk (F := Ideal) m c 2 t)
      (iblk (F := Ideal) m c 3 t) ht hb a l).trans ?_
    show _ = oAll _ _ _ _ ((win0_4.rect t).emb (ix2 a l))
    obtain ⟨p0, p1, p2, p3⟩ := place t a l ((win0_4.rect t).emb (ix2 a l))
      (by refine (Pipeline.Window.rect_emb_val win0_4 t _ 0).trans ?_; rw [e0]; rfl)
      (by refine (Pipeline.Window.rect_emb_val win0_4 t _ 1).trans ?_; rw [e1]; rfl)
    unfold oAll
    rw [p0, p1, p2, srow_eq]
    congr 1
    funext k
    rw [← iblk_v, p3]
  · have h0 : (i 0 : ℕ) < 4096 := (i 0).isLt
    have h1 : (i 1 : ℕ) < 1024 := (i 1).isLt
    refine ⟨point i, flush0_4 _, ?_⟩
    obtain ⟨-, -, -, -, ⟨e0, e1⟩, -, -⟩ := index_eq (point i)
    have ht : (point i).val = (i 0 : ℕ) / 2048 * 32 + (i 1 : ℕ) / 128 * 4 + (i 0 : ℕ) / 512 % 4 := rfl
    show i ∈ ((View.whole main_v8_0).slice (win0_4.rect (point i))).set
    rw [View.set_slice_whole, Rect.mem_set_unit]
    intro a
    match a with
    | ⟨0, _⟩ =>
      show win0_4.index (point i) 0 * 512 ≤ (i 0 : ℕ) ∧ (i 0 : ℕ) < win0_4.index (point i) 0 * 512 + 512
      rw [e0, ht]; omega
    | ⟨1, _⟩ =>
      show win0_4.index (point i) 1 * 128 ≤ (i 1 : ℕ) ∧ (i 1 : ℕ) < win0_4.index (point i) 1 * 128 + 128
      rw [e1, ht]; omega

/-- The log-sums the grid ends with. -/
theorem final_lse : (dats (F := Ideal) m 0 c).arrAt 5 cfg0.N
    = (lseAll (argQ m c) (argK m c) (argC m c) : S4096x1024.Idx → EReal) := by
  refine (dats (F := Ideal) m 0 c).arrAt_eq_of_cover 5 _ (fun t _ => ?_) (fun i => ?_)
  · rw [flushed5_A]
    obtain ⟨-, -, -, -, -, ⟨e0, e1⟩, -⟩ := index_eq t
    obtain ⟨ht, hb⟩ := srow_top m c hQ hK hC t
    funext y
    obtain ⟨a, l, rfl⟩ : ∃ (a : Fin 512) (l : Fin 128), y = ix2 a l := ⟨y 0, y 1, eq_ix2 y⟩
    refine (out5_apply c (grid0.coords t) (ms0_0 t) (hs0_0 t) (ms0_1 t) (hs0_1 t) (ms0_2 t) (hs0_2 t) (ms0_3 t) (hs0_3 t) (ms0_4 t)
      (hs0_4 t) (ms0_5 t) (hs0_5 t) (iblk (F := Ideal) m c 0 t) (iblk (F := Ideal) m c 1 t) (iblk (F := Ideal) m c 2 t)
      (iblk (F := Ideal) m c 3 t) ht hb a l).trans ?_
    show _ = lseAll _ _ _ ((win0_5.rect t).emb (ix2 a l))
    obtain ⟨p0, p1, p2, -⟩ := place t a l ((win0_5.rect t).emb (ix2 a l))
      (by refine (Pipeline.Window.rect_emb_val win0_5 t _ 0).trans ?_; rw [e0]; rfl)
      (by refine (Pipeline.Window.rect_emb_val win0_5 t _ 1).trans ?_; rw [e1]; rfl)
    unfold lseAll
    rw [p0, p1, p2, srow_eq]
  · have h0 : (i 0 : ℕ) < 4096 := (i 0).isLt
    have h1 : (i 1 : ℕ) < 1024 := (i 1).isLt
    refine ⟨point i, flush0_5 _, ?_⟩
    obtain ⟨-, -, -, -, -, ⟨e0, e1⟩, -⟩ := index_eq (point i)
    have ht : (point i).val = (i 0 : ℕ) / 2048 * 32 + (i 1 : ℕ) / 128 * 4 + (i 0 : ℕ) / 512 % 4 := rfl
    show i ∈ ((View.whole main_v8_1).slice (win0_5.rect (point i))).set
    rw [View.set_slice_whole, Rect.mem_set_unit]
    intro a
    match a with
    | ⟨0, _⟩ =>
      show win0_5.index (point i) 0 * 512 ≤ (i 0 : ℕ) ∧ (i 0 : ℕ) < win0_5.index (point i) 0 * 512 + 512
      rw [e0, ht]; omega
    | ⟨1, _⟩ =>
      show win0_5.index (point i) 1 * 128 ≤ (i 1 : ℕ) ∧ (i 1 : ℕ) < win0_5.index (point i) 1 * 128 + 128
      rw [e1, ht]; omega

end Kernel

/-- The precondition makes the queries, the keys and the gates real. -/
theorem real_of_pre (m : (ℓ : Loc Cert.FoxFwdIdeal.nD Cert.FoxFwdIdeal.τ Cert.FoxFwdIdeal.sig) → Buf (Elt Ideal) ℓ)
    (h : Cert.Pre_FoxFwdIdeal_finite_fox m) (c : Dev Cert.FoxFwdIdeal.nD) :
    (∀ i, IsReal (argQ m c i)) ∧ (∀ i, IsReal (argK m c i)) ∧ ∀ i, IsReal (argC m c i) := by
  obtain ⟨h0, h1, h2⟩ := h c
  exact ⟨fun i => Finite.real_of_test _ Cert.Pre_finite_fox.Gen.bcast_S_S2x2048x16x64 h0 i,
    fun i => Finite.real_of_test _ Cert.Pre_finite_fox.Gen.bcast_S_S2x2048x16x64 h1 i,
    fun i => Finite.real_of_test _ Cert.Pre_finite_fox.Gen.bcast_S_S2x2048x16 h2 i⟩

/-- The reference runs and keeps its arguments. -/
theorem frame_ref : Cert.quiescent_FoxFwdReferenceIdeal := fun m ρ _ =>
  (θ_run Cert.FoxFwdReferenceIdeal.defs _ _).mono (fun r h => ⟨fun c => (h c).2.2, sem_eq_zero_of_no_sems (by decide) r.2⟩)
    (Cert.FoxFwdReferenceIdeal.Value.run (F := Ideal) m ρ)

/-- The rewritten constant stands for the bottom element. -/
theorem masked : Cert.preserves_FoxFwd_FoxFwdIdeal :=
  IdealRules.named_const.statement Cert.FoxFwdIdeal.κ "masked" .f32 0xF149F2CA#32 ⊥ rfl

/-- The kernel and the reference end with equal attention and equal log-sums. -/
theorem algebraic : Cert.algebraic_FoxFwdIdeal_FoxFwdReferenceIdeal_pre_finite_fox := by
  intro m g m' g' hpre hagree
  refine ⟨fun c => oAll (argQ m c) (argK m c) (argV m c) (argC m c), fun c => lseAll (argQ m c) (argK m c) (argC m c), ?_, ?_⟩
  · refine (θ_run Cert.FoxFwdIdeal.defs _ _).mono (fun r h c => ?_) (Cert.FoxFwdIdeal.Value.run_blocks (F := Ideal) m g)
    obtain ⟨h0, h1, hargs⟩ := h c
    obtain ⟨r0, r1, r2⟩ := real_of_pre m hpre c
    exact ⟨h0.trans (final_o m c r0 r1 r2), h1.trans (final_lse m c r0 r1 r2), hargs⟩
  · refine (θ_run Cert.FoxFwdReferenceIdeal.defs _ _).mono (fun r h c => ?_) (Cert.FoxFwdReferenceIdeal.Value.run (F := Ideal) m' g')
    obtain ⟨h0, h1, hargs⟩ := h c
    obtain ⟨a0, a1, a2, a3⟩ := hagree c
    obtain ⟨r0, r1, r2⟩ := real_of_pre m hpre c
    refine ⟨h0.trans ?_, h1.trans ?_, hargs⟩
    · rw [Cert.FoxFwdReferenceIdeal.Read.val_main_v48_eq, a0, a1, a2, a3]
      exact v48_eq _ _ _ _ r0 r1 r2
    · rw [Cert.FoxFwdReferenceIdeal.Read.val_main_v49_eq, a0, a1, a3]
      exact v49_eq _ _ _

end Cert.FoxFwdClaim

end
-- ==== Proof.GateClaim.lean ====
/- The gradient of the three branches' gates: what one grid point computes, which rows it reads and writes, the four arrays the
   grid ends with, and the claims against the derivative of the gated sum. -/
module

public import proofs.«01_k».proof.Defs
public import proofs.«01_k».proof.Proof.Gen.GateIdeal.Value
public import proofs.«01_k».proof.Proof.Gen.GateReferenceIdeal.Read
public import proofs.«01_k».proof.Proof.Products
public import Idealize.ShloMosaic.Lib.Tactic
public import Idealize.ShloMosaic.Adequacy
public import Idealize.ShloMosaic.Init

@[expose] public section

noncomputable section

namespace Cert.GateClaim

open Idealize.ShloMosaic Idealize.SL.Sem
open Cert.Products (origin)

/-- The logistic function as both programs write it. -/
def sg (x : EReal) : EReal := Ideal.div 1 (1 + Ideal.exp (-x))

/-- Its derivative. -/
def dsg (x : EReal) : EReal := sg x * (1 - sg x)

section Kernel
open Cert.GateIdeal Cert.GateIdeal.Gen Cert.GateIdeal.Value Idealize.ShloMosaic.TcCoe

section Payload
variable (g y d : FVec Ideal S128x2048 .f32) (p : Fin 128) (q : Fin 2048)

/-- The first branch's gate. -/
theorem pay6_apply : k0_pay6 (F := Ideal) g (ix2 p q) = sg (g (ix2 p q)) := by
  unfold k0_pay6
  pointwise
  rw [zero_sub]
  rfl

/-- The gradient of the first branch's gate. -/
theorem pay7_apply : k0_pay7 (F := Ideal) g y d (ix2 p q) = d (ix2 p q) * y (ix2 p q) * dsg (g (ix2 p q)) := by
  unfold k0_pay7
  pointwise
  simp only [pay6_apply]
  rfl

/-- The gradient of the first branch. -/
theorem pay8_apply : k0_pay8 (F := Ideal) g d (ix2 p q) = d (ix2 p q) * sg (g (ix2 p q)) := by
  unfold k0_pay8
  pointwise
  rw [pay6_apply]

/-- The second branch's gate. -/
theorem pay9_apply : k0_pay9 (F := Ideal) g (ix2 p q) = sg (g (ix2 p q)) := by
  unfold k0_pay9
  pointwise
  rw [zero_sub]
  rfl

/-- The gradient of the second branch's gate. -/
theorem pay10_apply : k0_pay10 (F := Ideal) g y d (ix2 p q) = d (ix2 p q) * y (ix2 p q) * dsg (g (ix2 p q)) := by
  unfold k0_pay10
  pointwise
  simp only [pay9_apply]
  rfl

/-- The gradient of the second branch. -/
theorem pay11_apply : k0_pay11 (F := Ideal) g d (ix2 p q) = d (ix2 p q) * sg (g (ix2 p q)) := by
  unfold k0_pay11
  pointwise
  rw [pay9_apply]

/-- The exponential the third branch's gate is made of. -/
theorem pay12_apply : k0_pay12 (F := Ideal) g (ix2 p q) = Ideal.exp (-g (ix2 p q)) := by
  unfold k0_pay12
  pointwise
  rw [zero_sub]

/-- The third branch's gate. -/
theorem pay1_apply : k0_pay1 (F := Ideal) (k0_pay12 g) (ix2 p q) = sg (g (ix2 p q)) := by
  unfold k0_pay1
  pointwise
  rw [pay12_apply]
  rfl

/-- The gradient of the first branch, rounded. -/
theorem pay3_apply : k0_pay3 (F := Ideal) g (ix2 p q) = g (ix2 p q) := by
  unfold k0_pay3
  pointwise

/-- The gradient of the second branch, rounded. -/
theorem pay4_apply : k0_pay4 (F := Ideal) g (ix2 p q) = g (ix2 p q) := by
  unfold k0_pay4
  pointwise

/-- The gradient of the third branch, rounded. -/
theorem pay5_apply : k0_pay5 (F := Ideal) d (k0_pay12 g) (ix2 p q) = d (ix2 p q) * sg (g (ix2 p q)) := by
  unfold k0_pay5
  pointwise
  rw [pay1_apply]

/-- The gradients of the gates side by side. -/
theorem pay2_apply (a b : FVec Ideal S128x2048 .f32) (q : Fin 6144) :
    k0_pay2 (F := Ideal) y d a b (k0_pay12 g) (ix2 p q) =
      if h : q.val < 2048 then a (ix2 p ⟨q.val, h⟩)
      else if h' : q.val - 2048 < 2048 then b (ix2 p ⟨q.val - 2048, h'⟩)
      else d (ix2 p ⟨q.val - 2048 - 2048, by omega⟩) * y (ix2 p ⟨q.val - 2048 - 2048, by omega⟩)
        * dsg (g (ix2 p ⟨q.val - 2048 - 2048, by omega⟩)) := by
  unfold k0_pay2
  pointwise
  simp only [pay1_apply]
  rfl
end Payload

section Cases
variable {F : FTy → Type} [FloatOps F] (c : Dev nD) (i : grid0.Coords)
  (a1 : Memref sig .tc .vmem S128x2048 .f32) (h1 : a1.IsWhole)
  (a2 : Memref sig .tc .vmem S128x2048 .f32) (h2 : a2.IsWhole)
  (a3 : Memref sig .tc .vmem S128x2048 .f32) (h3 : a3.IsWhole)
  (a4 : Memref sig .tc .vmem S128x2048 .f32) (h4 : a4.IsWhole)
  (a5 : Memref sig .tc .vmem S128x2048 .f32) (h5 : a5.IsWhole)
  (a6 : Memref sig .tc .vmem S128x2048 .f32) (h6 : a6.IsWhole)
  (a7 : Memref sig .tc .vmem S128x2048 .f32) (h7 : a7.IsWhole)
  (a8 : Memref sig .tc .vmem S128x6144 .bf16) (h8 : a8.IsWhole)
  (a9 : Memref sig .tc .vmem S128x2048 .bf16) (h9 : a9.IsWhole)
  (a10 : Memref sig .tc .vmem S128x2048 .bf16) (h10 : a10.IsWhole)
  (a11 : Memref sig .tc .vmem S128x2048 .bf16) (h11 : a11.IsWhole)
  (x0 x1 x2 x3 x4 x5 x6 : Vec F S128x2048 .f32)

/-- The block of the gates' gradients at a grid point. -/
theorem out_7 : out0_A_7 (F := F) c i a1 h1 a2 h2 a3 h3 a4 h4 a5 h5 a6 h6 a7 h7 a8 h8 a9 h9 a10 h10 a11 h11 x0 x1 x2 x3 x4 x5 x6 = k0_pay2 x5 x6 (k0_pay7 x0 x3 x6) (k0_pay10 x1 x4 x6) (k0_pay12 x2) := by
  unfold out0_A_7
  rw [View.read_writes_eq_canon _ _ _ (cover0_A_7 c i a1 h1 a2 h2 a3 h3 a4 h4 a5 h5 a6 h6 a7 h7 a8 h8 a9 h9 a10 h10 a11 h11 x0 x1 x2 x3 x4 x5 x6)]
  unfold kernelRun0_A
  dsimp only
  sl_unfold_words
  rw [View.canon_unit_zero origin]
  simp only [View.readAt_eq_ld, h1.read_unread, h2.read_unread, h3.read_unread, h4.read_unread, h5.read_unread, h6.read_unread, h7.read_unread, View.ld_unit_zero (S := S128x2048) origin]

/-- The block of the first branch's gradient at a grid point. -/
theorem out_8 : out0_A_8 (F := F) c i a1 h1 a2 h2 a3 h3 a4 h4 a5 h5 a6 h6 a7 h7 a8 h8 a9 h9 a10 h10 a11 h11 x0 x1 x2 x3 x4 x5 x6 = k0_pay3 (k0_pay8 x0 x6) := by
  unfold out0_A_8
  rw [View.read_writes_eq_canon _ _ _ (cover0_A_8 c i a1 h1 a2 h2 a3 h3 a4 h4 a5 h5 a6 h6 a7 h7 a8 h8 a9 h9 a10 h10 a11 h11 x0 x1 x2 x3 x4 x5 x6)]
  unfold kernelRun0_A
  dsimp only
  sl_unfold_words
  rw [View.canon_unit_zero origin]
  simp only [View.readAt_eq_ld, h1.read_unread, h2.read_unread, h3.read_unread, h4.read_unread, h5.read_unread, h6.read_unread, h7.read_unread, View.ld_unit_zero (S := S128x2048) origin]

/-- The block of the second branch's gradient at a grid point. -/
theorem out_9 : out0_A_9 (F := F) c i a1 h1 a2 h2 a3 h3 a4 h4 a5 h5 a6 h6 a7 h7 a8 h8 a9 h9 a10 h10 a11 h11 x0 x1 x2 x3 x4 x5 x6 = k0_pay4 (k0_pay11 x1 x6) := by
  unfold out0_A_9
  rw [View.read_writes_eq_canon _ _ _ (cover0_A_9 c i a1 h1 a2 h2 a3 h3 a4 h4 a5 h5 a6 h6 a7 h7 a8 h8 a9 h9 a10 h10 a11 h11 x0 x1 x2 x3 x4 x5 x6)]
  unfold kernelRun0_A
  dsimp only
  sl_unfold_words
  rw [View.canon_unit_zero origin]
  simp only [View.readAt_eq_ld, h1.read_unread, h2.read_unread, h3.read_unread, h4.read_unread, h5.read_unread, h6.read_unread, h7.read_unread, View.ld_unit_zero (S := S128x2048) origin]

/-- The block of the third branch's gradient at a grid point. -/
theorem out_10 : out0_A_10 (F := F) c i a1 h1 a2 h2 a3 h3 a4 h4 a5 h5 a6 h6 a7 h7 a8 h8 a9 h9 a10 h10 a11 h11 x0 x1 x2 x3 x4 x5 x6 = k0_pay5 x6 (k0_pay12 x2) := by
  unfold out0_A_10
  rw [View.read_writes_eq_canon _ _ _ (cover0_A_10 c i a1 h1 a2 h2 a3 h3 a4 h4 a5 h5 a6 h6 a7 h7 a8 h8 a9 h9 a10 h10 a11 h11 x0 x1 x2 x3 x4 x5 x6)]
  unfold kernelRun0_A
  dsimp only
  sl_unfold_words
  rw [View.canon_unit_zero origin]
  simp only [View.readAt_eq_ld, h1.read_unread, h2.read_unread, h3.read_unread, h4.read_unread, h5.read_unread, h6.read_unread, h7.read_unread, View.ld_unit_zero (S := S128x2048) origin]

end Cases

section Spec
variable (Z : S4096x10368.Idx → EReal) (Y1 Y2 Y3 D : S4096x2048.Idx → EReal)

/-- A gate's column among the columns of the input product. -/
def wide (q : Fin 6144) : Fin 10368 := ⟨q.val, by omega⟩
/-- The columns of the three gates. -/
def first (q : Fin 2048) : Fin 6144 := ⟨q.val, by omega⟩
@[inherit_doc first] def second (q : Fin 2048) : Fin 6144 := ⟨2048 + q.val, by omega⟩
@[inherit_doc first] def third (q : Fin 2048) : Fin 6144 := ⟨4096 + q.val, by omega⟩

/-- The incoming gradient times the branch that a gate's column belongs to. -/
def side (u : Fin 4096) (q : Fin 6144) : EReal :=
  if h : q.val < 2048 then D (ix2 u ⟨q.val, h⟩) * Y1 (ix2 u ⟨q.val, h⟩)
  else if h' : q.val - 2048 < 2048 then D (ix2 u ⟨q.val - 2048, h'⟩) * Y2 (ix2 u ⟨q.val - 2048, h'⟩)
  else D (ix2 u ⟨q.val - 2048 - 2048, by omega⟩) * Y3 (ix2 u ⟨q.val - 2048 - 2048, by omega⟩)

/-- The gradient of the gates. -/
def dgate : S4096x6144.Idx → EReal := fun i => side Y1 Y2 Y3 D (i 0) (i 1) * dsg (Z (ix2 (i 0) (wide (i 1))))
/-- The gradient of a branch whose gate stands in given columns. -/
def dbranch (at_ : Fin 2048 → Fin 6144) : S4096x2048.Idx → EReal :=
  fun i => D (ix2 (i 0) (i 1)) * sg (Z (ix2 (i 0) (wide (at_ (i 1)))))
end Spec

variable (m : (ℓ : Loc nD τ sig) → Buf (Elt Ideal) ℓ) (c : Dev nD)

/-- The arguments as arrays of extended reals. -/
abbrev argZ : S4096x10368.Idx → EReal := m ((c : Thread nD τ).loc main_arg0)
@[inherit_doc argZ] abbrev argP : S4096x2048.Idx → EReal := m ((c : Thread nD τ).loc main_arg1)
@[inherit_doc argZ] abbrev argF : S4096x2048.Idx → EReal := m ((c : Thread nD τ).loc main_arg2)
@[inherit_doc argZ] abbrev argM : S4096x2048.Idx → EReal := m ((c : Thread nD τ).loc main_arg3)
@[inherit_doc argZ] abbrev argD : S4096x2048.Idx → EReal := m ((c : Thread nD τ).loc main_arg4)

/-- The number of grid points. -/
theorem N_eq : cfg0.N = 32 := N_0

/-- The token of a row of a grid point's block. -/
def tok (t : Fin cfg0.N) (p : Fin 128) : Fin 4096 :=
  ⟨t.val * 128 + p.val, by have h : t.val < 32 := lt_of_lt_of_eq t.isLt N_eq; omega⟩

/-- Where the windows lie. -/
theorem index_eq : ∀ t : Fin grid0.N,
    (win0_0.index t 0 = t.val ∧ win0_0.index t 1 = 0)
    ∧ (win0_1.index t 0 = t.val ∧ win0_1.index t 1 = 1)
    ∧ (win0_2.index t 0 = t.val ∧ win0_2.index t 1 = 2)
    ∧ (win0_3.index t 0 = t.val ∧ win0_3.index t 1 = 0)
    ∧ (win0_4.index t 0 = t.val ∧ win0_4.index t 1 = 0)
    ∧ (win0_5.index t 0 = t.val ∧ win0_5.index t 1 = 0)
    ∧ (win0_6.index t 0 = t.val ∧ win0_6.index t 1 = 0)
    ∧ (win0_7.index t 0 = t.val ∧ win0_7.index t 1 = 0)
    ∧ (win0_8.index t 0 = t.val ∧ win0_8.index t 1 = 0)
    ∧ (win0_9.index t 0 = t.val ∧ win0_9.index t 1 = 0)
    ∧ (win0_10.index t 0 = t.val ∧ win0_10.index t 1 = 0) := by decide +kernel

/-- The first gate's block read at a point. -/
theorem blk_0 (t : Fin cfg0.N) (p : Fin 128) (q : Fin 2048) :
    (X0_0 (F := Ideal) m c t : S128x2048.Idx → EReal) (ix2 p q) = argZ m c (ix2 (tok t p) (wide (first q))) := by
  obtain ⟨⟨e0, e1⟩, -⟩ := index_eq t
  unfold X0_0 Pipeline.Window.fill
  rw [dif_pos (moved0_0 t _)]
  show (V (F := Ideal) m c main_arg0 : S4096x10368.Idx → EReal) ((win0_0.rect t).emb _) = _
  rw [V_main_arg0]
  refine congrArg (argZ m c) (funext fun a => Fin.ext ?_)
  match a with
  | ⟨0, _⟩ => refine (Pipeline.Window.rect_emb_val win0_0 t _ 0).trans ?_; rw [e0]; rfl
  | ⟨1, _⟩ => refine (Pipeline.Window.rect_emb_val win0_0 t _ 1).trans ?_; rw [e1]; show 0 * 2048 + q.val = q.val; omega

/-- The second gate's block read at a point. -/
theorem blk_1 (t : Fin cfg0.N) (p : Fin 128) (q : Fin 2048) :
    (X0_1 (F := Ideal) m c t : S128x2048.Idx → EReal) (ix2 p q) = argZ m c (ix2 (tok t p) (wide (second q))) := by
  obtain ⟨-, ⟨e0, e1⟩, -⟩ := index_eq t
  unfold X0_1 Pipeline.Window.fill
  rw [dif_pos (moved0_1 t _)]
  show (V (F := Ideal) m c main_arg0 : S4096x10368.Idx → EReal) ((win0_1.rect t).emb _) = _
  rw [V_main_arg0]
  refine congrArg (argZ m c) (funext fun a => Fin.ext ?_)
  match a with
  | ⟨0, _⟩ => refine (Pipeline.Window.rect_emb_val win0_1 t _ 0).trans ?_; rw [e0]; rfl
  | ⟨1, _⟩ => refine (Pipeline.Window.rect_emb_val win0_1 t _ 1).trans ?_; rw [e1]; show 1 * 2048 + q.val = 2048 + q.val; omega

set_option maxRecDepth 65536 in
/-- The third gate's block read at a point. -/
theorem blk_2 (t : Fin cfg0.N) (p : Fin 128) (q : Fin 2048) :
    (X0_2 (F := Ideal) m c t : S128x2048.Idx → EReal) (ix2 p q) = argZ m c (ix2 (tok t p) (wide (third q))) := by
  obtain ⟨-, -, ⟨e0, e1⟩, -⟩ := index_eq t
  unfold X0_2 Pipeline.Window.fill
  rw [dif_pos (moved0_2 t _)]
  show (V (F := Ideal) m c main_arg0 : S4096x10368.Idx → EReal) ((win0_2.rect t).emb _) = _
  rw [V_main_arg0]
  refine congrArg (argZ m c) (funext fun a => Fin.ext ?_)
  match a with
  | ⟨0, _⟩ => refine (Pipeline.Window.rect_emb_val win0_2 t _ 0).trans ?_; rw [e0]; rfl
  | ⟨1, _⟩ => refine (Pipeline.Window.rect_emb_val win0_2 t _ 1).trans ?_; rw [e1]; show 2 * 2048 + q.val = 4096 + q.val; omega

/-- The rows of an argument read at a point. -/
theorem blk_3 (t : Fin cfg0.N) (p : Fin 128) (q : Fin 2048) :
    (iblk (F := Ideal) m c 3 t : S128x2048.Idx → EReal) (ix2 p q) = argP m c (ix2 (tok t p) q) := by
  obtain ⟨-, -, -, ⟨e0, e1⟩, -⟩ := index_eq t
  show (V (F := Ideal) m c main_arg1 : S4096x2048.Idx → EReal) ((win0_3.rect t).emb (ix2 p q)) = _
  rw [V_main_arg1]
  refine congrArg (argP m c) (funext fun a => Fin.ext ?_)
  match a with
  | ⟨0, _⟩ => refine (Pipeline.Window.rect_emb_val win0_3 t _ 0).trans ?_; rw [e0]; rfl
  | ⟨1, _⟩ => refine (Pipeline.Window.rect_emb_val win0_3 t _ 1).trans ?_; rw [e1]; show 0 * 2048 + q.val = q.val; omega

/-- The rows of an argument read at a point. -/
theorem blk_4 (t : Fin cfg0.N) (p : Fin 128) (q : Fin 2048) :
    (iblk (F := Ideal) m c 4 t : S128x2048.Idx → EReal) (ix2 p q) = argF m c (ix2 (tok t p) q) := by
  obtain ⟨-, -, -, -, ⟨e0, e1⟩, -⟩ := index_eq t
  show (V (F := Ideal) m c main_arg2 : S4096x2048.Idx → EReal) ((win0_4.rect t).emb (ix2 p q)) = _
  rw [V_main_arg2]
  refine congrArg (argF m c) (funext fun a => Fin.ext ?_)
  match a with
  | ⟨0, _⟩ => refine (Pipeline.Window.rect_emb_val win0_4 t _ 0).trans ?_; rw [e0]; rfl
  | ⟨1, _⟩ => refine (Pipeline.Window.rect_emb_val win0_4 t _ 1).trans ?_; rw [e1]; show 0 * 2048 + q.val = q.val; omega

/-- The rows of an argument read at a point. -/
theorem blk_5 (t : Fin cfg0.N) (p : Fin 128) (q : Fin 2048) :
    (iblk (F := Ideal) m c 5 t : S128x2048.Idx → EReal) (ix2 p q) = argM m c (ix2 (tok t p) q) := by
  obtain ⟨-, -, -, -, -, ⟨e0, e1⟩, -⟩ := index_eq t
  show (V (F := Ideal) m c main_arg3 : S4096x2048.Idx → EReal) ((win0_5.rect t).emb (ix2 p q)) = _
  rw [V_main_arg3]
  refine congrArg (argM m c) (funext fun a => Fin.ext ?_)
  match a with
  | ⟨0, _⟩ => refine (Pipeline.Window.rect_emb_val win0_5 t _ 0).trans ?_; rw [e0]; rfl
  | ⟨1, _⟩ => refine (Pipeline.Window.rect_emb_val win0_5 t _ 1).trans ?_; rw [e1]; show 0 * 2048 + q.val = q.val; omega

/-- The rows of an argument read at a point. -/
theorem blk_6 (t : Fin cfg0.N) (p : Fin 128) (q : Fin 2048) :
    (iblk (F := Ideal) m c 6 t : S128x2048.Idx → EReal) (ix2 p q) = argD m c (ix2 (tok t p) q) := by
  obtain ⟨-, -, -, -, -, -, ⟨e0, e1⟩, -⟩ := index_eq t
  show (V (F := Ideal) m c main_arg4 : S4096x2048.Idx → EReal) ((win0_6.rect t).emb (ix2 p q)) = _
  rw [V_main_arg4]
  refine congrArg (argD m c) (funext fun a => Fin.ext ?_)
  match a with
  | ⟨0, _⟩ => refine (Pipeline.Window.rect_emb_val win0_6 t _ 0).trans ?_; rw [e0]; rfl
  | ⟨1, _⟩ => refine (Pipeline.Window.rect_emb_val win0_6 t _ 1).trans ?_; rw [e1]; show 0 * 2048 + q.val = q.val; omega

/-- The block of the gates' gradients. -/
theorem dgate_block (t : Fin cfg0.N) (p : Fin 128) (q : Fin 6144) :
    k0_pay2 (F := Ideal) (iblk m c 5 t) (iblk m c 6 t) (k0_pay7 (X0_0 m c t) (iblk m c 3 t) (iblk m c 6 t))
      (k0_pay10 (X0_1 m c t) (iblk m c 4 t) (iblk m c 6 t)) (k0_pay12 (X0_2 m c t)) (ix2 p q)
      = dgate (argZ m c) (argP m c) (argF m c) (argM m c) (argD m c) (ix2 (tok t p) q) := by
  refine (pay2_apply _ _ _ p _ _ q).trans ?_
  show _ = side _ _ _ _ (tok t p) q * dsg (argZ m c (ix2 (tok t p) (wide q)))
  unfold side
  by_cases h : q.val < 2048
  · rw [dif_pos h, dif_pos h]
    refine (pay7_apply _ _ _ p _).trans ?_
    exact congrArg₂ (fun x y : EReal => x * y) (congrArg₂ (fun x y : EReal => x * y) (blk_6 m c t p _) (blk_3 m c t p _))
      (congrArg dsg (blk_0 m c t p _))
  · rw [dif_neg h, dif_neg h]
    by_cases h' : q.val - 2048 < 2048
    · rw [dif_pos h', dif_pos h']
      refine (pay10_apply _ _ _ p _).trans ?_
      have e : second ⟨q.val - 2048, h'⟩ = q := Fin.ext (by show 2048 + (q.val - 2048) = q.val; omega)
      exact congrArg₂ (fun x y : EReal => x * y) (congrArg₂ (fun x y : EReal => x * y) (blk_6 m c t p _) (blk_4 m c t p _))
        (congrArg dsg ((blk_1 m c t p _).trans (by rw [e])))
    · rw [dif_neg h', dif_neg h']
      have e : third ⟨q.val - 2048 - 2048, by omega⟩ = q := Fin.ext (by show 4096 + (q.val - 2048 - 2048) = q.val; omega)
      exact congrArg₂ (fun x y : EReal => x * y) (congrArg₂ (fun x y : EReal => x * y) (blk_6 m c t p _) (blk_5 m c t p _))
        (congrArg dsg ((blk_2 m c t p _).trans (by rw [e])))

/-- The array of the gates' gradients. -/
theorem final_7 : (dats (F := Ideal) m 0 c).arrAt 7 cfg0.N = (dgate (argZ m c) (argP m c) (argF m c) (argM m c) (argD m c) : S4096x6144.Idx → EReal) := by
  refine (dats (F := Ideal) m 0 c).arrAt_eq_of_cover 7 _ (fun t _ => ?_) (fun i => ?_)
  · rw [flushed7_A, out_7]
    obtain ⟨-, -, -, -, -, -, -, ⟨e0, e1⟩, -⟩ := index_eq t
    funext y
    obtain ⟨p, q, rfl⟩ : ∃ (p : Fin 128) (q : Fin 6144), y = ix2 p q := ⟨y 0, y 1, eq_ix2 y⟩
    show _ = (dgate (argZ m c) (argP m c) (argF m c) (argM m c) (argD m c) : S4096x6144.Idx → EReal) ((win0_7.rect t).emb (ix2 p q))
    have f : (win0_7.rect t).emb (ix2 p q) = ix2 (tok t p) q := funext fun a => Fin.ext (by
      match a with
      | ⟨0, _⟩ => refine (Pipeline.Window.rect_emb_val win0_7 t _ 0).trans ?_; rw [e0]; rfl
      | ⟨1, _⟩ => refine (Pipeline.Window.rect_emb_val win0_7 t _ 1).trans ?_; rw [e1]; show 0 * 6144 + q.val = q.val; omega)
    rw [f]
    exact dgate_block m c t p q
  · have h0 : (i 0 : ℕ) < 4096 := (i 0).isLt
    have h1 : (i 1 : ℕ) < 6144 := (i 1).isLt
    let t : Fin cfg0.N := ⟨(i 0 : ℕ) / 128, lt_of_lt_of_eq (by omega) N_eq.symm⟩
    have ht : t.val = (i 0 : ℕ) / 128 := rfl
    refine ⟨t, flush0_7 t, ?_⟩
    obtain ⟨-, -, -, -, -, -, -, ⟨e0, e1⟩, -⟩ := index_eq t
    show i ∈ ((View.whole main_v0_0).slice (win0_7.rect t)).set
    rw [View.set_slice_whole, Rect.mem_set_unit]
    intro a
    match a with
    | ⟨0, _⟩ =>
      show win0_7.index t 0 * 128 ≤ (i 0 : ℕ) ∧ (i 0 : ℕ) < win0_7.index t 0 * 128 + 128
      rw [e0]; omega
    | ⟨1, _⟩ =>
      show win0_7.index t 1 * 6144 ≤ (i 1 : ℕ) ∧ (i 1 : ℕ) < win0_7.index t 1 * 6144 + 6144
      rw [e1]; omega

/-- The array of the first branch's gradient. -/
theorem final_8 : (dats (F := Ideal) m 0 c).arrAt 8 cfg0.N = (dbranch (argZ m c) (argD m c) first : S4096x2048.Idx → EReal) := by
  refine (dats (F := Ideal) m 0 c).arrAt_eq_of_cover 8 _ (fun t _ => ?_) (fun i => ?_)
  · rw [flushed8_A, out_8]
    obtain ⟨-, -, -, -, -, -, -, -, ⟨e0, e1⟩, -⟩ := index_eq t
    funext y
    obtain ⟨p, q, rfl⟩ : ∃ (p : Fin 128) (q : Fin 2048), y = ix2 p q := ⟨y 0, y 1, eq_ix2 y⟩
    show _ = (dbranch (argZ m c) (argD m c) first : S4096x2048.Idx → EReal) ((win0_8.rect t).emb (ix2 p q))
    have f : (win0_8.rect t).emb (ix2 p q) = ix2 (tok t p) q := funext fun a => Fin.ext (by
      match a with
      | ⟨0, _⟩ => refine (Pipeline.Window.rect_emb_val win0_8 t _ 0).trans ?_; rw [e0]; rfl
      | ⟨1, _⟩ => refine (Pipeline.Window.rect_emb_val win0_8 t _ 1).trans ?_; rw [e1]; show 0 * 2048 + q.val = q.val; omega)
    rw [f]
    refine (pay3_apply _ p q).trans ((pay8_apply _ _ p q).trans ?_)
    exact congrArg₂ (fun x y : EReal => x * y) (blk_6 m c t p q) (congrArg sg (blk_0 m c t p q))
  · have h0 : (i 0 : ℕ) < 4096 := (i 0).isLt
    have h1 : (i 1 : ℕ) < 2048 := (i 1).isLt
    let t : Fin cfg0.N := ⟨(i 0 : ℕ) / 128, lt_of_lt_of_eq (by omega) N_eq.symm⟩
    have ht : t.val = (i 0 : ℕ) / 128 := rfl
    refine ⟨t, flush0_8 t, ?_⟩
    obtain ⟨-, -, -, -, -, -, -, -, ⟨e0, e1⟩, -⟩ := index_eq t
    show i ∈ ((View.whole main_v0_1).slice (win0_8.rect t)).set
    rw [View.set_slice_whole, Rect.mem_set_unit]
    intro a
    match a with
    | ⟨0, _⟩ =>
      show win0_8.index t 0 * 128 ≤ (i 0 : ℕ) ∧ (i 0 : ℕ) < win0_8.index t 0 * 128 + 128
      rw [e0]; omega
    | ⟨1, _⟩ =>
      show win0_8.index t 1 * 2048 ≤ (i 1 : ℕ) ∧ (i 1 : ℕ) < win0_8.index t 1 * 2048 + 2048
      rw [e1]; omega

/-- The array of the second branch's gradient. -/
theorem final_9 : (dats (F := Ideal) m 0 c).arrAt 9 cfg0.N = (dbranch (argZ m c) (argD m c) second : S4096x2048.Idx → EReal) := by
  refine (dats (F := Ideal) m 0 c).arrAt_eq_of_cover 9 _ (fun t _ => ?_) (fun i => ?_)
  · rw [flushed9_A, out_9]
    obtain ⟨-, -, -, -, -, -, -, -, -, ⟨e0, e1⟩, -⟩ := index_eq t
    funext y
    obtain ⟨p, q, rfl⟩ : ∃ (p : Fin 128) (q : Fin 2048), y = ix2 p q := ⟨y 0, y 1, eq_ix2 y⟩
    show _ = (dbranch (argZ m c) (argD m c) second : S4096x2048.Idx → EReal) ((win0_9.rect t).emb (ix2 p q))
    have f : (win0_9.rect t).emb (ix2 p q) = ix2 (tok t p) q := funext fun a => Fin.ext (by
      match a with
      | ⟨0, _⟩ => refine (Pipeline.Window.rect_emb_val win0_9 t _ 0).trans ?_; rw [e0]; rfl
      | ⟨1, _⟩ => refine (Pipeline.Window.rect_emb_val win0_9 t _ 1).trans ?_; rw [e1]; show 0 * 2048 + q.val = q.val; omega)
    rw [f]
    refine (pay4_apply _ p q).trans ((pay11_apply _ _ p q).trans ?_)
    exact congrArg₂ (fun x y : EReal => x * y) (blk_6 m c t p q) (congrArg sg (blk_1 m c t p q))
  · have h0 : (i 0 : ℕ) < 4096 := (i 0).isLt
    have h1 : (i 1 : ℕ) < 2048 := (i 1).isLt
    let t : Fin cfg0.N := ⟨(i 0 : ℕ) / 128, lt_of_lt_of_eq (by omega) N_eq.symm⟩
    have ht : t.val = (i 0 : ℕ) / 128 := rfl
    refine ⟨t, flush0_9 t, ?_⟩
    obtain ⟨-, -, -, -, -, -, -, -, -, ⟨e0, e1⟩, -⟩ := index_eq t
    show i ∈ ((View.whole main_v0_2).slice (win0_9.rect t)).set
    rw [View.set_slice_whole, Rect.mem_set_unit]
    intro a
    match a with
    | ⟨0, _⟩ =>
      show win0_9.index t 0 * 128 ≤ (i 0 : ℕ) ∧ (i 0 : ℕ) < win0_9.index t 0 * 128 + 128
      rw [e0]; omega
    | ⟨1, _⟩ =>
      show win0_9.index t 1 * 2048 ≤ (i 1 : ℕ) ∧ (i 1 : ℕ) < win0_9.index t 1 * 2048 + 2048
      rw [e1]; omega

/-- The array of the third branch's gradient. -/
theorem final_10 : (dats (F := Ideal) m 0 c).arrAt 10 cfg0.N = (dbranch (argZ m c) (argD m c) third : S4096x2048.Idx → EReal) := by
  refine (dats (F := Ideal) m 0 c).arrAt_eq_of_cover 10 _ (fun t _ => ?_) (fun i => ?_)
  · rw [flushed10_A, out_10]
    obtain ⟨-, -, -, -, -, -, -, -, -, -, e0, e1⟩ := index_eq t
    funext y
    obtain ⟨p, q, rfl⟩ : ∃ (p : Fin 128) (q : Fin 2048), y = ix2 p q := ⟨y 0, y 1, eq_ix2 y⟩
    show _ = (dbranch (argZ m c) (argD m c) third : S4096x2048.Idx → EReal) ((win0_10.rect t).emb (ix2 p q))
    have f : (win0_10.rect t).emb (ix2 p q) = ix2 (tok t p) q := funext fun a => Fin.ext (by
      match a with
      | ⟨0, _⟩ => refine (Pipeline.Window.rect_emb_val win0_10 t _ 0).trans ?_; rw [e0]; rfl
      | ⟨1, _⟩ => refine (Pipeline.Window.rect_emb_val win0_10 t _ 1).trans ?_; rw [e1]; show 0 * 2048 + q.val = q.val; omega)
    rw [f]
    refine (pay5_apply _ _ p q).trans ?_
    exact congrArg₂ (fun x y : EReal => x * y) (blk_6 m c t p q) (congrArg sg (blk_2 m c t p q))
  · have h0 : (i 0 : ℕ) < 4096 := (i 0).isLt
    have h1 : (i 1 : ℕ) < 2048 := (i 1).isLt
    let t : Fin cfg0.N := ⟨(i 0 : ℕ) / 128, lt_of_lt_of_eq (by omega) N_eq.symm⟩
    have ht : t.val = (i 0 : ℕ) / 128 := rfl
    refine ⟨t, flush0_10 t, ?_⟩
    obtain ⟨-, -, -, -, -, -, -, -, -, -, e0, e1⟩ := index_eq t
    show i ∈ ((View.whole main_v0_3).slice (win0_10.rect t)).set
    rw [View.set_slice_whole, Rect.mem_set_unit]
    intro a
    match a with
    | ⟨0, _⟩ =>
      show win0_10.index t 0 * 128 ≤ (i 0 : ℕ) ∧ (i 0 : ℕ) < win0_10.index t 0 * 128 + 128
      rw [e0]; omega
    | ⟨1, _⟩ =>
      show win0_10.index t 1 * 2048 ≤ (i 1 : ℕ) ∧ (i 1 : ℕ) < win0_10.index t 1 * 2048 + 2048
      rw [e1]; omega

end Kernel

section Ref
open Cert.GateReferenceIdeal Cert.GateReferenceIdeal.Read
variable (Z : FVec Ideal S4096x10368 .f32) (Y1 Y2 Y3 D : FVec Ideal S4096x2048 .f32)

/-- The reference's gates. -/
theorem v6_apply (u : Fin 4096) (q : Fin 6144) : val_main_v6 (F := Ideal) Z (ix2 u q) = sg (Z (ix2 u (wide q))) := by
  unfold val_main_v6 val_main_v5 val_main_v4 val_main_v3 val_main_v2 val_main_v1 val_main_v0 val_main_cst_0 val_main_cst
  pointwise
  rfl

/-- The reference's gradient of the gates. -/
theorem v28_eq : (val_main_v28 (F := Ideal) Z Y1 Y2 Y3 D : S4096x6144.Idx → EReal) = dgate Z Y1 Y2 Y3 D := by
  funext i
  obtain ⟨u, q, rfl⟩ : ∃ (u : Fin 4096) (q : Fin 6144), i = ix2 u q := ⟨i 0, i 1, eq_ix2 i⟩
  unfold val_main_v28 val_main_v27 val_main_v26 val_main_v25 val_main_v23 val_main_v21 val_main_v19 val_main_v18 val_main_v9
    val_main_v8 val_main_v7 val_main_cst_1
  pointwise
  simp only [v6_apply]
  rfl

/-- The reference's gradient of the first branch. -/
theorem v29_eq : (val_main_v29 (F := Ideal) Z D : S4096x2048.Idx → EReal) = dbranch Z D first := by
  funext i
  obtain ⟨u, q, rfl⟩ : ∃ (u : Fin 4096) (q : Fin 2048), i = ix2 u q := ⟨i 0, i 1, eq_ix2 i⟩
  unfold val_main_v29 val_main_v24 val_main_v18 val_main_v10
  pointwise
  simp only [v6_apply]
  first
  | exact mul_comm _ _
  | rfl

/-- The reference's gradient of the second branch. -/
theorem v30_eq : (val_main_v30 (F := Ideal) Z D : S4096x2048.Idx → EReal) = dbranch Z D second := by
  funext i
  obtain ⟨u, q, rfl⟩ : ∃ (u : Fin 4096) (q : Fin 2048), i = ix2 u q := ⟨i 0, i 1, eq_ix2 i⟩
  unfold val_main_v30 val_main_v22 val_main_v18 val_main_v11
  pointwise
  simp only [v6_apply]
  first
  | exact mul_comm _ _
  | rfl

/-- The reference's gradient of the third branch. -/
theorem v31_eq : (val_main_v31 (F := Ideal) Z D : S4096x2048.Idx → EReal) = dbranch Z D third := by
  funext i
  obtain ⟨u, q, rfl⟩ : ∃ (u : Fin 4096) (q : Fin 2048), i = ix2 u q := ⟨i 0, i 1, eq_ix2 i⟩
  unfold val_main_v31 val_main_v20 val_main_v19 val_main_v12
  pointwise
  simp only [v6_apply]
  first
  | exact mul_comm _ _
  | rfl

end Ref

/-- The reference runs and keeps its arguments. -/
theorem frame_ref : Cert.quiescent_GateReferenceIdeal := fun m ρ _ =>
  (θ_run Cert.GateReferenceIdeal.defs _ _).mono (fun r h => ⟨fun c => (h c).2.2.2.2, sem_eq_zero_of_no_sems (by decide) r.2⟩)
    (Cert.GateReferenceIdeal.Value.run (F := Ideal) m ρ)

/-- The kernel and the reference end with equal gradients of the gates and of the three branches. -/
theorem algebraic : Cert.algebraic_GateIdeal_GateReferenceIdeal := by
  intro m g m' g' _ hagree
  refine ⟨fun c => dgate (argZ m c) (argP m c) (argF m c) (argM m c) (argD m c), fun c => dbranch (argZ m c) (argD m c) first, fun c => dbranch (argZ m c) (argD m c) second, fun c => dbranch (argZ m c) (argD m c) third, ?_, ?_⟩
  · refine (θ_run Cert.GateIdeal.defs _ _).mono (fun r h c => ?_) (Cert.GateIdeal.Value.run_blocks (F := Ideal) m g)
    obtain ⟨h0, h1, h2, h3, hargs⟩ := h c
    exact ⟨h0.trans (final_7 m c), h1.trans (final_8 m c), h2.trans (final_9 m c), h3.trans (final_10 m c), hargs⟩
  · refine (θ_run Cert.GateReferenceIdeal.defs _ _).mono (fun r h c => ?_) (Cert.GateReferenceIdeal.Value.run (F := Ideal) m' g')
    obtain ⟨h0, h1, h2, h3, hargs⟩ := h c
    obtain ⟨a0, a1, a2, a3, a4⟩ := hagree c
    refine ⟨h0.trans ?_, h1.trans ?_, h2.trans ?_, h3.trans ?_, hargs⟩
    · rw [Cert.GateReferenceIdeal.Read.val_main_v28_eq, a0, a1, a2, a3, a4]
      exact v28_eq _ _ _ _ _
    · rw [Cert.GateReferenceIdeal.Read.val_main_v29_eq, a0, a4]
      exact v29_eq _ _
    · rw [Cert.GateReferenceIdeal.Read.val_main_v30_eq, a0, a4]
      exact v30_eq _ _
    · rw [Cert.GateReferenceIdeal.Read.val_main_v31_eq, a0, a4]
      exact v31_eq _ _

end Cert.GateClaim

end
-- ==== Proof.DwdClaim.lean ====
/- The weight gradient of the gated feed-forward layer's output product: a grid point's partial product, the two blocks of
   tokens accumulated one after the other, and the claims against the differentiated plain product. -/
module

public import proofs.«01_k».proof.Defs
public import proofs.«01_k».proof.Proof.Gen.DwdIdeal.Value
public import proofs.«01_k».proof.Proof.Gen.DwdReferenceIdeal.Read
public import proofs.«01_k».proof.Proof.Reals
public import Idealize.ShloMosaic.Adequacy
public import Idealize.ShloMosaic.Init

@[expose] public section

noncomputable section

namespace Cert.DwdClaim

open Idealize.ShloMosaic Idealize.SL.Sem Cert.Reals

/-- The weight gradient: half the activation of a hidden unit against an output column's gradient, over all tokens. -/
def spec (A : (⟨2, ![4096, 5632]⟩ : Shape).Idx → EReal) (DY : (⟨2, ![4096, 2048]⟩ : Shape).Idx → EReal) :
    (⟨2, ![5632, 2048]⟩ : Shape).Idx → EReal := fun i =>
  ∑ n : Fin 4096, A (ix2 n (i 0)) * Ideal.ofBits .bf16 0x3F00#16 * DY (ix2 n (i 1))

section Kernel
open Cert.DwdIdeal Cert.DwdIdeal.Gen Cert.DwdIdeal.Value Idealize.ShloMosaic.TcCoe

/-- The accumulator starts at zero. -/
theorem pay1_apply (p : Fin 1408) (q : Fin 1024) : k0_pay1 (F := Ideal) (ix2 p q) = 0 := by
  unfold k0_pay1
  pointwise

/-- A grid point adds its block's product to what the accumulator holds. -/
theorem pay2_apply (a : FVec Ideal S2048x1408 .bf16) (acc : FVec Ideal S1408x1024 .f32) (d : FVec Ideal S2048x1024 .bf16)
    (p : Fin 1408) (q : Fin 1024) :
    k0_pay2 (F := Ideal) a acc d (ix2 p q)
      = acc (ix2 p q) + ∑ n : Fin 2048, a (ix2 n p) * Ideal.ofBits .bf16 0x3F00#16 * d (ix2 n q) := by
  unfold k0_pay2
  pointwise

variable (m : (ℓ : Loc nD τ sig) → Buf (Elt Ideal) ℓ) (c : Dev nD)

/-- The arguments as arrays of extended reals. -/
abbrev argA : S4096x5632.Idx → EReal := m ((c : Thread nD τ).loc main_arg0)
@[inherit_doc argA] abbrev argDY : S4096x2048.Idx → EReal := m ((c : Thread nD τ).loc main_arg1)

/-- The number of grid points. -/
theorem N_eq : cfg0.N = 16 := N_0

/-- Where the windows lie. -/
theorem index_eq : ∀ t : Fin grid0.N,
    (win0_0.index t 0 = t.val % 2 ∧ win0_0.index t 1 = t.val / 4)
    ∧ (win0_1.index t 0 = t.val % 2 ∧ win0_1.index t 1 = t.val / 2 % 2) := by decide +kernel

/-- The block of activations read at a point. -/
theorem iblk_a (t : Fin cfg0.N) (n : Fin 2048) (p : Fin 1408) (n' : Fin 4096) (p' : Fin 5632)
    (hn : n'.val = t.val % 2 * 2048 + n.val) (hp : p'.val = t.val / 4 * 1408 + p.val) :
    (iblk (F := Ideal) m c 0 t : S2048x1408.Idx → EReal) (ix2 n p) = argA m c (ix2 n' p') := by
  obtain ⟨⟨e0, e1⟩, -⟩ := index_eq t
  show (V (F := Ideal) m c main_arg0 : S4096x5632.Idx → EReal) ((win0_0.rect t).emb (ix2 n p)) = _
  rw [V_main_arg0]
  refine congrArg (argA m c) (funext fun a => Fin.ext ?_)
  match a with
  | ⟨0, _⟩ => refine (Pipeline.Window.rect_emb_val win0_0 t _ 0).trans ?_; rw [e0]; exact hn.symm
  | ⟨1, _⟩ => refine (Pipeline.Window.rect_emb_val win0_0 t _ 1).trans ?_; rw [e1]; exact hp.symm

/-- The block of incoming gradients read at a point. -/
theorem iblk_dy (t : Fin cfg0.N) (n : Fin 2048) (q : Fin 1024) (n' : Fin 4096) (q' : Fin 2048)
    (hn : n'.val = t.val % 2 * 2048 + n.val) (hq : q'.val = t.val / 2 % 2 * 1024 + q.val) :
    (iblk (F := Ideal) m c 1 t : S2048x1024.Idx → EReal) (ix2 n q) = argDY m c (ix2 n' q') := by
  obtain ⟨-, e0, e1⟩ := index_eq t
  show (V (F := Ideal) m c main_arg1 : S4096x2048.Idx → EReal) ((win0_1.rect t).emb (ix2 n q)) = _
  rw [V_main_arg1]
  refine congrArg (argDY m c) (funext fun a => Fin.ext ?_)
  match a with
  | ⟨0, _⟩ => refine (Pipeline.Window.rect_emb_val win0_1 t _ 0).trans ?_; rw [e0]; exact hn.symm
  | ⟨1, _⟩ => refine (Pipeline.Window.rect_emb_val win0_1 t _ 1).trans ?_; rw [e1]; exact hq.symm

/-- The output array after the grid. -/
theorem final : G2 (F := Ideal) m c = spec (argA m c) (argDY m c) := by
  funext i
  obtain ⟨u, v, rfl⟩ : ∃ (u : Fin 5632) (v : Fin 2048), i = ix2 u v := ⟨i 0, i 1, eq_ix2 i⟩
  have hN := N_eq
  have hu := u.isLt
  have hv := v.isLt
  have hr : run2Of (ix2 u v) = 2 * (u.val / 1408) + v.val / 1024 := by
    show 2 * (u.val / 1408 - 0) + 1 * (v.val / 1024 - 0) = _
    omega
  have h1 : 2 * run2Of (ix2 u v) + 1 < cfg0.N := by omega
  have h0 : 2 * run2Of (ix2 u v) < cfg0.N := by omega
  have hl : loc2Of (ix2 u v) = ix2 ⟨u.val % 1408, Nat.mod_lt _ (by decide)⟩ ⟨v.val % 1024, Nat.mod_lt _ (by decide)⟩ :=
    eq_ix2 _
  unfold G2
  rw [dif_pos h1, Pipeline.accAt_succ, Pipeline.accAt_zero, hl]
  unfold step2 reset2
  refine (pay2_apply _ _ _ _ _).trans ?_
  rw [pay2_apply, pay1_apply, zero_add]
  unfold spec
  rw [sum_two_blocks (show 4096 = 2048 + 2048 from rfl)]
  refine congrArg₂ (· + ·) ?_ ?_ <;> refine Finset.sum_congr rfl fun n _ => ?_
  · exact congrArg₂ (fun x y : EReal => x * Ideal.ofBits .bf16 0x3F00#16 * y)
      (iblk_a m c ⟨2 * run2Of (ix2 u v), h0⟩ n _ ⟨n.val, by omega⟩ u (by dsimp only; omega) (by dsimp only; omega))
      (iblk_dy m c ⟨2 * run2Of (ix2 u v), h0⟩ n _ ⟨n.val, by omega⟩ v (by dsimp only; omega) (by dsimp only; omega))
  · exact congrArg₂ (fun x y : EReal => x * Ideal.ofBits .bf16 0x3F00#16 * y)
      (iblk_a m c ⟨2 * run2Of (ix2 u v) + 1, h1⟩ n _ ⟨2048 + n.val, by omega⟩ u (by dsimp only; omega) (by dsimp only; omega))
      (iblk_dy m c ⟨2 * run2Of (ix2 u v) + 1, h1⟩ n _ ⟨2048 + n.val, by omega⟩ v (by dsimp only; omega) (by dsimp only; omega))
end Kernel

/-- The reference's result is the array the grid ends with. -/
theorem v9_eq (A : FVec Ideal Cert.DwdReferenceIdeal.S4096x5632 .bf16) (DY : FVec Ideal Cert.DwdReferenceIdeal.S4096x2048 .bf16) :
    (Cert.DwdReferenceIdeal.Read.val_main_v9 (F := Ideal) A DY : Cert.DwdReferenceIdeal.S5632x2048.Idx → EReal) = spec A DY := by
  funext i
  obtain ⟨u, v, rfl⟩ : ∃ (u : Fin 5632) (v : Fin 2048), i = ix2 u v := ⟨i 0, i 1, eq_ix2 i⟩
  unfold Cert.DwdReferenceIdeal.Read.val_main_v9 Cert.DwdReferenceIdeal.Read.val_main_v8 Cert.DwdReferenceIdeal.Read.val_main_v7
    Cert.DwdReferenceIdeal.Read.val_main_v6 Cert.DwdReferenceIdeal.Read.val_main_v5 Cert.DwdReferenceIdeal.Read.val_main_v1
    Cert.DwdReferenceIdeal.Read.val_main_cst_1
  pointwise
  unfold spec
  refine Finset.sum_congr rfl fun n _ => ?_
  show _ = A (ix2 n u) * Ideal.ofBits .bf16 0x3F00#16 * DY (ix2 n v)
  rw [half_bf16, half_f32, mul_comm, mul_assoc]

/-- The reference runs and keeps its arguments. -/
theorem frame_ref : Cert.quiescent_DwdReferenceIdeal := fun m ρ _ =>
  (θ_run Cert.DwdReferenceIdeal.defs _ _).mono (fun r h => ⟨fun c => (h c).2, sem_eq_zero_of_no_sems (by decide) r.2⟩)
    (Cert.DwdReferenceIdeal.Value.run (F := Ideal) m ρ)

/-- The kernel and the reference end with equal weight gradients. -/
theorem algebraic : Cert.algebraic_DwdIdeal_DwdReferenceIdeal := by
  intro m g m' g' _ hagree
  refine ⟨fun c => spec (argA m c) (argDY m c), ?_, ?_⟩
  · refine (θ_run Cert.DwdIdeal.defs _ _).mono (fun r h c => ?_) (Cert.DwdIdeal.Value.run (F := Ideal) m g)
    obtain ⟨h0, hargs⟩ := h c
    exact ⟨h0.trans (final m c), hargs⟩
  · refine (θ_run Cert.DwdReferenceIdeal.defs _ _).mono (fun r h c => ?_) (Cert.DwdReferenceIdeal.Value.run (F := Ideal) m' g')
    obtain ⟨h0, hargs⟩ := h c
    obtain ⟨a0, a1⟩ := hagree c
    refine ⟨h0.trans ?_, hargs⟩
    rw [Cert.DwdReferenceIdeal.Read.val_main_v9_eq, a0, a1]
    exact v9_eq _ _

end Cert.DwdClaim

end
-- ==== Proof.GuClaim.lean ====
/- The gated feed-forward layer's gate and up products with the activation: what one grid point computes, which blocks it
   reads and writes, the two arrays the grid ends with, and the claims against the plain layer. -/
module

public import proofs.«01_k».proof.Defs
public import proofs.«01_k».proof.Proof.Gen.GuIdeal.Value
public import proofs.«01_k».proof.Proof.Gen.GuReferenceIdeal.Read
public import proofs.«01_k».proof.Proof.Reals
public import Idealize.ShloMosaic.Adequacy
public import Idealize.ShloMosaic.Init

@[expose] public section

noncomputable section

namespace Cert.GuClaim

open Idealize.ShloMosaic Idealize.SL.Sem Cert.Reals

section Spec
variable (H : (⟨2, ![4096, 2048]⟩ : Shape).Idx → EReal) (W : (⟨3, ![8, 2048, 1408]⟩ : Shape).Idx → EReal)

/-- The weight block and the column in it of a hidden unit: blocks 0 to 3 hold the gate, blocks 4 to 7 the up branch. -/
def blk (k : Fin 2) (j : Fin 5632) : Fin 8 := ⟨k.val * 4 + j.val / 1408, by omega⟩
@[inherit_doc blk] def col (j : Fin 5632) : Fin 1408 := ⟨j.val % 1408, Nat.mod_lt _ (by decide)⟩

/-- A token against a hidden unit of the gate (`k = 0`) or of the up branch (`k = 1`). -/
def proj (k : Fin 2) (r : Fin 4096) (j : Fin 5632) : EReal := ∑ d : Fin 2048, H (ix2 r d) * W (ix3 (blk k j) d (col j))

/-- The activation: the gate times its logistic, times the up branch. -/
def act (g u : EReal) : EReal := g * Ideal.logistic g * u

/-- The two products, stacked. -/
def specGU : (⟨3, ![2, 4096, 5632]⟩ : Shape).Idx → EReal := fun i => proj H W (i 0) (i 1) (i 2)
/-- The activations. -/
def specA : (⟨2, ![4096, 5632]⟩ : Shape).Idx → EReal := fun i => act (proj H W 0 (i 0) (i 1)) (proj H W 1 (i 0) (i 1))
end Spec

section Kernel
open Cert.GuIdeal Cert.GuIdeal.Gen Cert.GuIdeal.Value Idealize.ShloMosaic.TcCoe

section Block
variable (x : FVec Ideal S512x2048 .bf16) (g u : FVec Ideal S1x2048x1408 .bf16)

/-- A block's row against a column of a block of weights. -/
def dot (x : S512x2048.Idx → EReal) (w : S1x2048x1408.Idx → EReal) (p : Fin 512) (q : Fin 1408) : EReal :=
  ∑ d : Fin 2048, x (ix2 p d) * w (ix3 0 d q)

theorem pay1_apply (p : Fin 512) (q : Fin 1408) : k0_pay1 (F := Ideal) x g (ix2 p q) = dot x g p q := by
  unfold k0_pay1 dot
  pointwise

theorem pay2_apply (p : Fin 512) (q : Fin 1408) : k0_pay2 (F := Ideal) x g (ix2 p q) = dot x g p q := by
  unfold k0_pay2 dot
  pointwise

/-- A grid point's gate and up values. -/
theorem pay3_apply (k : Fin 1) (p : Fin 512) (q : Fin 1408) : k0_pay3 (F := Ideal) x g (ix3 k p q) = dot x g p q := by
  unfold k0_pay3
  pointwise
  simp only [pay1_apply]
@[inherit_doc pay3_apply] theorem pay4_apply (k : Fin 1) (p : Fin 512) (q : Fin 1408) :
    k0_pay4 (F := Ideal) x g (ix3 k p q) = dot x g p q := by
  unfold k0_pay4
  pointwise
  simp only [pay2_apply]

/-- A grid point's activations. -/
theorem pay5_apply (p : Fin 512) (q : Fin 1408) :
    k0_pay5 (F := Ideal) x g u (ix2 p q) = act (dot x g p q) (dot x u p q) := by
  unfold k0_pay5 act
  pointwise
  simp only [pay1_apply, pay2_apply]
  unfold Ideal.logistic
  simp [sub_eq_add_neg]

theorem origin2 : (![0, 0] : Fin 2 → Nat) = fun _ => 0 := by decide
theorem origin3 : (![0, 0, 0] : Fin 3 → Nat) = fun _ => 0 := by decide

theorem ld_x : View.ld (Val := Elt Ideal) (e' := .bf16) x r0_0 = x := View.ld_unit_zero (S := S512x2048) origin2 _ _
theorem ld_w : View.ld (Val := Elt Ideal) (e' := .bf16) g r0_1 = g := View.ld_unit_zero (S := S1x2048x1408) origin3 _ _

/-- The two products of a block, stacked. -/
def stack (k : Fin 2) (p : Fin 512) (q : Fin 1408) : EReal := if k = 0 then dot x g p q else dot x u p q

/-- What a grid point leaves in its block of the stacked products. -/
theorem out3_block (k : Fin 2) (p : Fin 512) (q : Fin 1408) :
    out0_3 (F := Ideal) x g u (ix3 k p q) = stack x g u k p q := by
  unfold out0_3
  rw [ld_x, ld_w, ld_w]
  refine (View.canon_apply_of_pieces (Val := Elt Ideal) (e := .f32)
    (fun y : S2x512x1408.Idx => stack x g u (y 0) (y 1) (y 2)) _ ?_ _ (cover0_3 (F := Ideal) _ _ _)).trans rfl
  intro pc hp y
  rcases List.mem_cons.mp hp with rfl | hp
  · obtain ⟨k, p, q, rfl⟩ : ∃ (k : Fin 1) (p : Fin 512) (q : Fin 1408), y = ix3 k p q := ⟨y 0, y 1, y 2, eq_ix3 y⟩
    have e : r0_3.emb (ix3 k p q) = ix3 1 p q := funext fun a => Fin.ext (match a with
      | ⟨0, _⟩ => by show 1 + 1 * k.val = 1; omega
      | ⟨1, _⟩ => by show 0 + 1 * p.val = p.val; omega
      | ⟨2, _⟩ => by show 0 + 1 * q.val = q.val; omega)
    refine (pay4_apply x u k p q).trans ?_
    refine Eq.trans ?_ (congrArg (fun y : S2x512x1408.Idx => stack x g u (y 0) (y 1) (y 2)) e).symm
    rfl
  · obtain rfl := List.mem_singleton.mp hp
    obtain ⟨k, p, q, rfl⟩ : ∃ (k : Fin 1) (p : Fin 512) (q : Fin 1408), y = ix3 k p q := ⟨y 0, y 1, y 2, eq_ix3 y⟩
    have e : r0_2.emb (ix3 k p q) = ix3 0 p q := funext fun a => Fin.ext (match a with
      | ⟨0, _⟩ => by show 0 + 1 * k.val = 0; omega
      | ⟨1, _⟩ => by show 0 + 1 * p.val = p.val; omega
      | ⟨2, _⟩ => by show 0 + 1 * q.val = q.val; omega)
    refine (pay3_apply x g k p q).trans ?_
    refine Eq.trans ?_ (congrArg (fun y : S2x512x1408.Idx => stack x g u (y 0) (y 1) (y 2)) e).symm
    rfl

/-- What a grid point leaves in its block of the activations. -/
theorem out4_block (p : Fin 512) (q : Fin 1408) :
    out0_4 (F := Ideal) x g u (ix2 p q) = act (dot x g p q) (dot x u p q) := by
  unfold out0_4
  rw [ld_x, ld_w, ld_w]
  refine Eq.trans (congrFun (View.canon_unit_zero (Val := Elt Ideal) (S := S512x1408) origin2 _ _) _) ?_
  exact pay5_apply x g u p q
end Block

variable (m : (ℓ : Loc nD τ sig) → Buf (Elt Ideal) ℓ) (c : Dev nD)

/-- The arguments as arrays of extended reals. -/
abbrev argH : S4096x2048.Idx → EReal := m ((c : Thread nD τ).loc main_arg0)
@[inherit_doc argH] abbrev argW : S8x2048x1408.Idx → EReal := m ((c : Thread nD τ).loc main_arg1)

/-- The number of grid points. -/
theorem N_eq : cfg0.N = 32 := N_0

/-- The token of a row and the hidden unit of a column of a grid point's block. -/
def tok (t : Fin cfg0.N) (p : Fin 512) : Fin 4096 := ⟨t.val % 8 * 512 + p.val, by omega⟩
@[inherit_doc tok] def hid (t : Fin cfg0.N) (q : Fin 1408) : Fin 5632 :=
  ⟨t.val / 8 * 1408 + q.val, by have h : t.val < 32 := lt_of_lt_of_eq t.isLt N_eq; omega⟩

/-- Where the windows lie. -/
theorem index_eq : ∀ t : Fin grid0.N,
    (win0_0.index t 0 = t.val % 8 ∧ win0_0.index t 1 = 0)
    ∧ (win0_1.index t 0 = t.val / 8 ∧ win0_1.index t 1 = 0 ∧ win0_1.index t 2 = 0)
    ∧ (win0_2.index t 0 = 4 + t.val / 8 ∧ win0_2.index t 1 = 0 ∧ win0_2.index t 2 = 0)
    ∧ (win0_3.index t 0 = 0 ∧ win0_3.index t 1 = t.val % 8 ∧ win0_3.index t 2 = t.val / 8)
    ∧ (win0_4.index t 0 = t.val % 8 ∧ win0_4.index t 1 = t.val / 8) := by decide +kernel

/-- The block of tokens read at a point. -/
theorem iblk_h (t : Fin cfg0.N) (p : Fin 512) (d : Fin 2048) :
    (iblk (F := Ideal) m c 0 t : S512x2048.Idx → EReal) (ix2 p d) = argH m c (ix2 (tok t p) d) := by
  obtain ⟨⟨e0, e1⟩, -⟩ := index_eq t
  show (V (F := Ideal) m c main_arg0 : S4096x2048.Idx → EReal) ((win0_0.rect t).emb (ix2 p d)) = _
  rw [V_main_arg0]
  refine congrArg (argH m c) (funext fun a => Fin.ext ?_)
  match a with
  | ⟨0, _⟩ => refine (Pipeline.Window.rect_emb_val win0_0 t _ 0).trans ?_; rw [e0]; rfl
  | ⟨1, _⟩ => refine (Pipeline.Window.rect_emb_val win0_0 t _ 1).trans ?_; rw [e1]; show 0 * 2048 + d.val = d.val; omega

/-- The block of gate weights read at a point. -/
theorem iblk_g (t : Fin cfg0.N) (d : Fin 2048) (q : Fin 1408) :
    (iblk (F := Ideal) m c 1 t : S1x2048x1408.Idx → EReal) (ix3 0 d q)
      = argW m c (ix3 (blk 0 (hid t q)) d (col (hid t q))) := by
  obtain ⟨-, ⟨e0, e1, e2⟩, -⟩ := index_eq t
  show (V (F := Ideal) m c main_arg1 : S8x2048x1408.Idx → EReal) ((win0_1.rect t).emb (ix3 0 d q)) = _
  rw [V_main_arg1]
  refine congrArg (argW m c) (funext fun a => Fin.ext ?_)
  match a with
  | ⟨0, _⟩ =>
    refine (Pipeline.Window.rect_emb_val win0_1 t _ 0).trans ?_; rw [e0]
    show t.val / 8 * 1 + 0 = 0 * 4 + (t.val / 8 * 1408 + q.val) / 1408; omega
  | ⟨1, _⟩ => refine (Pipeline.Window.rect_emb_val win0_1 t _ 1).trans ?_; rw [e1]; show 0 * 2048 + d.val = d.val; omega
  | ⟨2, _⟩ =>
    refine (Pipeline.Window.rect_emb_val win0_1 t _ 2).trans ?_; rw [e2]
    show 0 * 1408 + q.val = (t.val / 8 * 1408 + q.val) % 1408; omega

/-- The block of up weights read at a point. -/
theorem iblk_u (t : Fin cfg0.N) (d : Fin 2048) (q : Fin 1408) :
    (iblk (F := Ideal) m c 2 t : S1x2048x1408.Idx → EReal) (ix3 0 d q)
      = argW m c (ix3 (blk 1 (hid t q)) d (col (hid t q))) := by
  obtain ⟨-, -, ⟨e0, e1, e2⟩, -⟩ := index_eq t
  show (V (F := Ideal) m c main_arg1 : S8x2048x1408.Idx → EReal) ((win0_2.rect t).emb (ix3 0 d q)) = _
  rw [V_main_arg1]
  refine congrArg (argW m c) (funext fun a => Fin.ext ?_)
  match a with
  | ⟨0, _⟩ =>
    refine (Pipeline.Window.rect_emb_val win0_2 t _ 0).trans ?_; rw [e0]
    show (4 + t.val / 8) * 1 + 0 = 1 * 4 + (t.val / 8 * 1408 + q.val) / 1408; omega
  | ⟨1, _⟩ => refine (Pipeline.Window.rect_emb_val win0_2 t _ 1).trans ?_; rw [e1]; show 0 * 2048 + d.val = d.val; omega
  | ⟨2, _⟩ =>
    refine (Pipeline.Window.rect_emb_val win0_2 t _ 2).trans ?_; rw [e2]
    show 0 * 1408 + q.val = (t.val / 8 * 1408 + q.val) % 1408; omega

/-- The two products of a grid point's blocks are those of its tokens and hidden units. -/
theorem dot_g (t : Fin cfg0.N) (p : Fin 512) (q : Fin 1408) :
    dot (iblk (F := Ideal) m c 0 t) (iblk (F := Ideal) m c 1 t) p q = proj (argH m c) (argW m c) 0 (tok t p) (hid t q) :=
  Finset.sum_congr rfl fun d _ => congrArg₂ (fun x y : EReal => x * y) (iblk_h m c t p d) (iblk_g m c t d q)
@[inherit_doc dot_g] theorem dot_u (t : Fin cfg0.N) (p : Fin 512) (q : Fin 1408) :
    dot (iblk (F := Ideal) m c 0 t) (iblk (F := Ideal) m c 2 t) p q = proj (argH m c) (argW m c) 1 (tok t p) (hid t q) :=
  Finset.sum_congr rfl fun d _ => congrArg₂ (fun x y : EReal => x * y) (iblk_h m c t p d) (iblk_u m c t d q)

/-- The array of stacked products after the grid. -/
theorem final3 : (dats (F := Ideal) m 0 c).arrAt 3 cfg0.N
    = (specGU (argH m c) (argW m c) : S2x4096x5632.Idx → EReal) := by
  refine (dats (F := Ideal) m 0 c).arrAt_eq_of_cover 3 _ (fun t _ => ?_) (fun i => ?_)
  · rw [flushed3]
    obtain ⟨-, -, -, ⟨e0, e1, e2⟩, -⟩ := index_eq t
    funext y
    obtain ⟨k, p, q, rfl⟩ : ∃ (k : Fin 2) (p : Fin 512) (q : Fin 1408), y = ix3 k p q := ⟨y 0, y 1, y 2, eq_ix3 y⟩
    refine (out3_block _ _ _ k p q).trans ?_
    show _ = specGU _ _ ((win0_3.rect t).emb (ix3 k p q))
    have f : (win0_3.rect t).emb (ix3 k p q) = ix3 k (tok t p) (hid t q) := funext fun a => Fin.ext (by
      match a with
      | ⟨0, _⟩ => refine (Pipeline.Window.rect_emb_val win0_3 t _ 0).trans ?_; rw [e0]; show 0 * 2 + k.val = k.val; omega
      | ⟨1, _⟩ => refine (Pipeline.Window.rect_emb_val win0_3 t _ 1).trans ?_; rw [e1]; rfl
      | ⟨2, _⟩ => refine (Pipeline.Window.rect_emb_val win0_3 t _ 2).trans ?_; rw [e2]; rfl)
    rw [f]
    unfold stack
    match k with
    | ⟨0, _⟩ => exact (if_pos (show (⟨0, _⟩ : Fin 2) = 0 from rfl)).trans (dot_g m c t p q)
    | ⟨1, _⟩ => exact (if_neg (show ¬(⟨1, _⟩ : Fin 2) = 0 from Fin.ne_of_val_ne Nat.one_ne_zero)).trans (dot_u m c t p q)
  · have h0 : (i 0 : ℕ) < 2 := (i 0).isLt
    have h1 : (i 1 : ℕ) < 4096 := (i 1).isLt
    have h2 : (i 2 : ℕ) < 5632 := (i 2).isLt
    let t : Fin cfg0.N := ⟨(i 2 : ℕ) / 1408 * 8 + (i 1 : ℕ) / 512, lt_of_lt_of_eq (by omega) N_eq.symm⟩
    refine ⟨t, flush0_3 t, ?_⟩
    obtain ⟨-, -, -, ⟨e0, e1, e2⟩, -⟩ := index_eq t
    have ht : t.val = (i 2 : ℕ) / 1408 * 8 + (i 1 : ℕ) / 512 := rfl
    show i ∈ ((View.whole main_v0_0).slice (win0_3.rect t)).set
    rw [View.set_slice_whole, Rect.mem_set_unit]
    intro a
    match a with
    | ⟨0, _⟩ =>
      show win0_3.index t 0 * 2 ≤ (i 0 : ℕ) ∧ (i 0 : ℕ) < win0_3.index t 0 * 2 + 2
      rw [e0]; omega
    | ⟨1, _⟩ =>
      show win0_3.index t 1 * 512 ≤ (i 1 : ℕ) ∧ (i 1 : ℕ) < win0_3.index t 1 * 512 + 512
      rw [e1, ht]; omega
    | ⟨2, _⟩ =>
      show win0_3.index t 2 * 1408 ≤ (i 2 : ℕ) ∧ (i 2 : ℕ) < win0_3.index t 2 * 1408 + 1408
      rw [e2, ht]; omega

/-- The array of activations after the grid. -/
theorem final4 : (dats (F := Ideal) m 0 c).arrAt 4 cfg0.N = (specA (argH m c) (argW m c) : S4096x5632.Idx → EReal) := by
  refine (dats (F := Ideal) m 0 c).arrAt_eq_of_cover 4 _ (fun t _ => ?_) (fun i => ?_)
  · rw [flushed4]
    obtain ⟨-, -, -, -, e0, e1⟩ := index_eq t
    funext y
    obtain ⟨p, q, rfl⟩ : ∃ (p : Fin 512) (q : Fin 1408), y = ix2 p q := ⟨y 0, y 1, eq_ix2 y⟩
    refine (out4_block _ _ _ p q).trans ?_
    show _ = specA _ _ ((win0_4.rect t).emb (ix2 p q))
    have f : (win0_4.rect t).emb (ix2 p q) = ix2 (tok t p) (hid t q) := funext fun a => Fin.ext (by
      match a with
      | ⟨0, _⟩ => refine (Pipeline.Window.rect_emb_val win0_4 t _ 0).trans ?_; rw [e0]; rfl
      | ⟨1, _⟩ => refine (Pipeline.Window.rect_emb_val win0_4 t _ 1).trans ?_; rw [e1]; rfl)
    rw [f]
    exact congrArg₂ act (dot_g m c t p q) (dot_u m c t p q)
  · have h0 : (i 0 : ℕ) < 4096 := (i 0).isLt
    have h1 : (i 1 : ℕ) < 5632 := (i 1).isLt
    let t : Fin cfg0.N := ⟨(i 1 : ℕ) / 1408 * 8 + (i 0 : ℕ) / 512, lt_of_lt_of_eq (by omega) N_eq.symm⟩
    refine ⟨t, flush0_4 t, ?_⟩
    obtain ⟨-, -, -, -, e0, e1⟩ := index_eq t
    have ht : t.val = (i 1 : ℕ) / 1408 * 8 + (i 0 : ℕ) / 512 := rfl
    show i ∈ ((View.whole main_v0_1).slice (win0_4.rect t)).set
    rw [View.set_slice_whole, Rect.mem_set_unit]
    intro a
    match a with
    | ⟨0, _⟩ =>
      show win0_4.index t 0 * 512 ≤ (i 0 : ℕ) ∧ (i 0 : ℕ) < win0_4.index t 0 * 512 + 512
      rw [e0, ht]; omega
    | ⟨1, _⟩ =>
      show win0_4.index t 1 * 1408 ≤ (i 1 : ℕ) ∧ (i 1 : ℕ) < win0_4.index t 1 * 1408 + 1408
      rw [e1, ht]; omega
end Kernel

section Ref
open Cert.GuReferenceIdeal Cert.GuReferenceIdeal.Read

variable (H : FVec Ideal S4096x2048 .bf16) (W : FVec Ideal S8x2048x1408 .bf16)

theorem v4_apply (r : Fin 4096) (q : Fin 11264) (k : Fin 2) (j : Fin 5632) (hq : q.val = k.val * 5632 + j.val) :
    val_main_v4 (F := Ideal) H W (ix2 r q) = proj H W k r j := by
  unfold val_main_v4 val_main_v3 val_main_v2 val_main_v1 val_main_v0
  pointwise
  unfold proj
  refine Finset.sum_congr rfl fun d _ => congrArg (H (ix2 r d) * ·) (congrArg W ?_)
  have hb : (⟨q.val / 1408, by omega⟩ : Fin 8) = blk k j := Fin.ext (by show q.val / 1408 = k.val * 4 + j.val / 1408; omega)
  have hc : (⟨q.val % 1408, by omega⟩ : Fin 1408) = col j := Fin.ext (by show q.val % 1408 = j.val % 1408; omega)
  rw [← hb, ← hc]

theorem v5_apply (r : Fin 4096) (j : Fin 5632) : val_main_v5 (F := Ideal) H W (ix2 r j) = proj H W 0 r j := by
  unfold val_main_v5
  pointwise
  exact v4_apply H W r _ 0 j (by show j.val = 0 * 5632 + j.val; omega)

theorem v6_apply (r : Fin 4096) (j : Fin 5632) : val_main_v6 (F := Ideal) H W (ix2 r j) = proj H W 1 r j := by
  unfold val_main_v6
  pointwise
  exact v4_apply H W r _ 1 j (by show 5632 + j.val = 1 * 5632 + j.val; omega)

/-- The reference's stacked products are the array the grid ends with. -/
theorem v9_eq : (val_main_v9 (F := Ideal) H W : S2x4096x5632.Idx → EReal) = specGU H W := by
  funext i
  obtain ⟨k, r, j, rfl⟩ : ∃ (k : Fin 2) (r : Fin 4096) (j : Fin 5632), i = ix3 k r j := ⟨i 0, i 1, i 2, eq_ix3 i⟩
  unfold val_main_v9 val_main_v8 val_main_v7
  match k with
  | ⟨0, _⟩ =>
    refine Eq.trans ?_ (v5_apply H W r j)
    pointwise
  | ⟨1, _⟩ =>
    refine Eq.trans ?_ (v6_apply H W r j)
    pointwise

/-- The reference's activations are the array the grid ends with. -/
theorem v12_eq : (val_main_v12 (F := Ideal) H W : S4096x5632.Idx → EReal) = specA H W := by
  funext i
  obtain ⟨r, j, rfl⟩ : ∃ (r : Fin 4096) (j : Fin 5632), i = ix2 r j := ⟨i 0, i 1, eq_ix2 i⟩
  show _ = act (proj H W 0 r j) (proj H W 1 r j)
  unfold val_main_v12 val_main_v11 val_main_v10 val_main_call0_v5 val_main_call0_v4 val_main_call0_cst_0 val_main_call0_v3
    val_main_call0_v2 val_main_call0_cst val_main_call0_v1 val_main_call0_v0
  pointwise
  simp only [v5_apply, v6_apply, Ideal.ofBits_one_f32]
  rfl
end Ref

/-- The reference runs and keeps its arguments. -/
theorem frame_ref : Cert.quiescent_GuReferenceIdeal := fun m ρ _ =>
  (θ_run Cert.GuReferenceIdeal.defs _ _).mono (fun r h => ⟨fun c => (h c).2.2, sem_eq_zero_of_no_sems (by decide) r.2⟩)
    (Cert.GuReferenceIdeal.Value.run (F := Ideal) m ρ)

/-- The kernel and the reference end with equal products and equal activations. -/
theorem algebraic : Cert.algebraic_GuIdeal_GuReferenceIdeal := by
  intro m g m' g' _ hagree
  refine ⟨fun c => specGU (argH m c) (argW m c), fun c => specA (argH m c) (argW m c), ?_, ?_⟩
  · refine (θ_run Cert.GuIdeal.defs _ _).mono (fun r h c => ?_) (Cert.GuIdeal.Value.run_blocks (F := Ideal) m g)
    obtain ⟨h0, h1, hargs⟩ := h c
    exact ⟨h0.trans (final3 m c), h1.trans (final4 m c), hargs⟩
  · refine (θ_run Cert.GuReferenceIdeal.defs _ _).mono (fun r h c => ?_) (Cert.GuReferenceIdeal.Value.run (F := Ideal) m' g')
    obtain ⟨h0, h1, hargs⟩ := h c
    obtain ⟨a0, a1⟩ := hagree c
    refine ⟨h0.trans ?_, h1.trans ?_, hargs⟩
    · rw [Cert.GuReferenceIdeal.Read.val_main_v9_eq, a0, a1]
      exact v9_eq _ _
    · rw [Cert.GuReferenceIdeal.Read.val_main_v12_eq, a0, a1]
      exact v12_eq _ _

end Cert.GuClaim

end
-- ==== Proof.DownClaim.lean ====
/- The gated feed-forward layer's output product with its residual: a grid point's partial product, the two blocks of hidden
   units accumulated one after the other onto the residual, and the claims against the plain product. -/
module

public import proofs.«01_k».proof.Defs
public import proofs.«01_k».proof.Proof.Gen.DownIdeal.Value
public import proofs.«01_k».proof.Proof.Gen.DownReferenceIdeal.Read
public import proofs.«01_k».proof.Proof.Reals
public import Idealize.ShloMosaic.Adequacy
public import Idealize.ShloMosaic.Init

@[expose] public section

noncomputable section

namespace Cert.DownClaim

open Idealize.ShloMosaic Idealize.SL.Sem Cert.Reals

/-- The residual plus half a token's activations against an output column of the weights. -/
def spec (A : (⟨2, ![4096, 5632]⟩ : Shape).Idx → EReal) (W : (⟨2, ![5632, 2048]⟩ : Shape).Idx → EReal)
    (X : (⟨2, ![4096, 2048]⟩ : Shape).Idx → EReal) : (⟨2, ![4096, 2048]⟩ : Shape).Idx → EReal := fun i =>
  X i + ∑ k : Fin 5632, A (ix2 (i 0) k) * Ideal.ofBits .bf16 0x3F00#16 * W (ix2 k (i 1))

section Kernel
open Cert.DownIdeal Cert.DownIdeal.Gen Cert.DownIdeal.Value Idealize.ShloMosaic.TcCoe

/-- A grid point adds its block's product to what the accumulator holds. -/
theorem pay1_apply (a : FVec Ideal S1024x2816 .bf16) (acc : FVec Ideal S1024x1024 .f32) (w : FVec Ideal S2816x1024 .bf16)
    (p q : Fin 1024) :
    k0_pay1 (F := Ideal) a acc w (ix2 p q)
      = acc (ix2 p q) + ∑ k : Fin 2816, a (ix2 p k) * Ideal.ofBits .bf16 0x3F00#16 * w (ix2 k q) := by
  unfold k0_pay1
  pointwise

variable (m : (ℓ : Loc nD τ sig) → Buf (Elt Ideal) ℓ) (c : Dev nD)

/-- The arguments as arrays of extended reals. -/
abbrev argA : S4096x5632.Idx → EReal := m ((c : Thread nD τ).loc main_arg0)
@[inherit_doc argA] abbrev argW : S5632x2048.Idx → EReal := m ((c : Thread nD τ).loc main_arg1)
@[inherit_doc argA] abbrev argX : S4096x2048.Idx → EReal := m ((c : Thread nD τ).loc main_arg2)

/-- The number of grid points. -/
theorem N_eq : cfg0.N = 16 := N_0

/-- Where the windows lie. -/
theorem index_eq : ∀ t : Fin grid0.N,
    (win0_0.index t 0 = t.val / 4 ∧ win0_0.index t 1 = t.val % 2)
    ∧ (win0_1.index t 0 = t.val % 2 ∧ win0_1.index t 1 = t.val / 2 % 2)
    ∧ (win0_2.index t 0 = t.val / 4 ∧ win0_2.index t 1 = t.val / 2 % 2) := by decide +kernel

/-- The block of activations read at a point. -/
theorem iblk_a (t : Fin cfg0.N) (p : Fin 1024) (k : Fin 2816) (p' : Fin 4096) (k' : Fin 5632)
    (hp : p'.val = t.val / 4 * 1024 + p.val) (hk : k'.val = t.val % 2 * 2816 + k.val) :
    (iblk (F := Ideal) m c 0 t : S1024x2816.Idx → EReal) (ix2 p k) = argA m c (ix2 p' k') := by
  obtain ⟨⟨e0, e1⟩, -⟩ := index_eq t
  show (V (F := Ideal) m c main_arg0 : S4096x5632.Idx → EReal) ((win0_0.rect t).emb (ix2 p k)) = _
  rw [V_main_arg0]
  refine congrArg (argA m c) (funext fun a => Fin.ext ?_)
  match a with
  | ⟨0, _⟩ => refine (Pipeline.Window.rect_emb_val win0_0 t _ 0).trans ?_; rw [e0]; exact hp.symm
  | ⟨1, _⟩ => refine (Pipeline.Window.rect_emb_val win0_0 t _ 1).trans ?_; rw [e1]; exact hk.symm

/-- The block of weights read at a point. -/
theorem iblk_w (t : Fin cfg0.N) (k : Fin 2816) (q : Fin 1024) (k' : Fin 5632) (q' : Fin 2048)
    (hk : k'.val = t.val % 2 * 2816 + k.val) (hq : q'.val = t.val / 2 % 2 * 1024 + q.val) :
    (iblk (F := Ideal) m c 1 t : S2816x1024.Idx → EReal) (ix2 k q) = argW m c (ix2 k' q') := by
  obtain ⟨-, ⟨e0, e1⟩, -⟩ := index_eq t
  show (V (F := Ideal) m c main_arg1 : S5632x2048.Idx → EReal) ((win0_1.rect t).emb (ix2 k q)) = _
  rw [V_main_arg1]
  refine congrArg (argW m c) (funext fun a => Fin.ext ?_)
  match a with
  | ⟨0, _⟩ => refine (Pipeline.Window.rect_emb_val win0_1 t _ 0).trans ?_; rw [e0]; exact hk.symm
  | ⟨1, _⟩ => refine (Pipeline.Window.rect_emb_val win0_1 t _ 1).trans ?_; rw [e1]; exact hq.symm

/-- The block of the residual read at a point. -/
theorem iblk_x (t : Fin cfg0.N) (p q : Fin 1024) (p' : Fin 4096) (q' : Fin 2048)
    (hp : p'.val = t.val / 4 * 1024 + p.val) (hq : q'.val = t.val / 2 % 2 * 1024 + q.val) :
    (iblk (F := Ideal) m c 2 t : S1024x1024.Idx → EReal) (ix2 p q) = argX m c (ix2 p' q') := by
  obtain ⟨-, -, e0, e1⟩ := index_eq t
  show (V (F := Ideal) m c main_arg2 : S4096x2048.Idx → EReal) ((win0_2.rect t).emb (ix2 p q)) = _
  rw [V_main_arg2]
  refine congrArg (argX m c) (funext fun a => Fin.ext ?_)
  match a with
  | ⟨0, _⟩ => refine (Pipeline.Window.rect_emb_val win0_2 t _ 0).trans ?_; rw [e0]; exact hp.symm
  | ⟨1, _⟩ => refine (Pipeline.Window.rect_emb_val win0_2 t _ 1).trans ?_; rw [e1]; exact hq.symm

/-- The output array after the grid. -/
theorem final : G3 (F := Ideal) m c = spec (argA m c) (argW m c) (argX m c) := by
  funext i
  obtain ⟨u, v, rfl⟩ : ∃ (u : Fin 4096) (v : Fin 2048), i = ix2 u v := ⟨i 0, i 1, eq_ix2 i⟩
  have hN := N_eq
  have hu := u.isLt
  have hv := v.isLt
  have hr : run3Of (ix2 u v) = 2 * (u.val / 1024) + v.val / 1024 := by
    show 2 * (u.val / 1024 - 0) + 1 * (v.val / 1024 - 0) = _
    omega
  have h1 : 2 * run3Of (ix2 u v) + 1 < cfg0.N := by omega
  have h0 : 2 * run3Of (ix2 u v) < cfg0.N := by omega
  have hl : loc3Of (ix2 u v) = ix2 ⟨u.val % 1024, Nat.mod_lt _ (by decide)⟩ ⟨v.val % 1024, Nat.mod_lt _ (by decide)⟩ :=
    eq_ix2 _
  unfold G3
  rw [dif_pos h1, Pipeline.accAt_succ, Pipeline.accAt_zero, hl]
  unfold step3 reset3
  refine (pay1_apply _ _ _ _ _).trans ?_
  rw [pay1_apply]
  unfold spec
  rw [sum_two_blocks (show 5632 = 2816 + 2816 from rfl)]
  refine Eq.trans ?_ (add_assoc (G := EReal) _ _ _)
  refine congrArg₂ (· + ·) (congrArg₂ (· + ·) ?_ ?_) ?_
  · exact iblk_x m c ⟨2 * run3Of (ix2 u v), h0⟩ _ _ u v (by dsimp only; omega) (by dsimp only; omega)
  · refine Finset.sum_congr rfl fun k _ => ?_
    exact congrArg₂ (fun x y : EReal => x * Ideal.ofBits .bf16 0x3F00#16 * y)
      (iblk_a m c ⟨2 * run3Of (ix2 u v), h0⟩ _ k u ⟨k.val, by omega⟩ (by dsimp only; omega) (by dsimp only; omega))
      (iblk_w m c ⟨2 * run3Of (ix2 u v), h0⟩ k _ ⟨k.val, by omega⟩ v (by dsimp only; omega) (by dsimp only; omega))
  · refine Finset.sum_congr rfl fun k _ => ?_
    exact congrArg₂ (fun x y : EReal => x * Ideal.ofBits .bf16 0x3F00#16 * y)
      (iblk_a m c ⟨2 * run3Of (ix2 u v) + 1, h1⟩ _ k u ⟨2816 + k.val, by omega⟩ (by dsimp only; omega) (by dsimp only; omega))
      (iblk_w m c ⟨2 * run3Of (ix2 u v) + 1, h1⟩ k _ ⟨2816 + k.val, by omega⟩ v (by dsimp only; omega) (by dsimp only; omega))
end Kernel

section Ref
open Cert.DownReferenceIdeal Cert.DownReferenceIdeal.Read

/-- The reference's result is the array the grid ends with. -/
theorem v5_eq (A : FVec Ideal S4096x5632 .bf16) (W : FVec Ideal S5632x2048 .bf16) (X : FVec Ideal S4096x2048 .f32) :
    (val_main_v5 (F := Ideal) A W X : S4096x2048.Idx → EReal) = spec A W X := by
  funext i
  obtain ⟨u, v, rfl⟩ : ∃ (u : Fin 4096) (v : Fin 2048), i = ix2 u v := ⟨i 0, i 1, eq_ix2 i⟩
  unfold val_main_v5 val_main_v4 val_main_v3 val_main_v2 val_main_v1 val_main_v0 val_main_cst
  pointwise
  refine congrArg (X (ix2 u v) + ·) ?_
  rw [half_f32, Softmax.mul_sum_of_nonneg _ (by norm_num)]
  refine Finset.sum_congr rfl fun k _ => ?_
  show _ = A (ix2 u k) * Ideal.ofBits .bf16 0x3F00#16 * W (ix2 k v)
  rw [half_bf16, ← mul_assoc, mul_comm (A _)]
end Ref

/-- The reference runs and keeps its arguments. -/
theorem frame_ref : Cert.quiescent_DownReferenceIdeal := fun m ρ _ =>
  (θ_run Cert.DownReferenceIdeal.defs _ _).mono (fun r h => ⟨fun c => (h c).2, sem_eq_zero_of_no_sems (by decide) r.2⟩)
    (Cert.DownReferenceIdeal.Value.run (F := Ideal) m ρ)

/-- The kernel and the reference end with equal outputs. -/
theorem algebraic : Cert.algebraic_DownIdeal_DownReferenceIdeal := by
  intro m g m' g' _ hagree
  refine ⟨fun c => spec (argA m c) (argW m c) (argX m c), ?_, ?_⟩
  · refine (θ_run Cert.DownIdeal.defs _ _).mono (fun r h c => ?_) (Cert.DownIdeal.Value.run (F := Ideal) m g)
    obtain ⟨h0, hargs⟩ := h c
    exact ⟨h0.trans (final m c), hargs⟩
  · refine (θ_run Cert.DownReferenceIdeal.defs _ _).mono (fun r h c => ?_) (Cert.DownReferenceIdeal.Value.run (F := Ideal) m' g')
    obtain ⟨h0, hargs⟩ := h c
    obtain ⟨a0, a1, a2⟩ := hagree c
    refine ⟨h0.trans ?_, hargs⟩
    rw [Cert.DownReferenceIdeal.Read.val_main_v5_eq, a0, a1, a2]
    exact v5_eq _ _ _

end Cert.DownClaim

end
-- ==== Proof.MixOutClaim.lean ====
/- The mixer's output product, added to the residual. Each grid point's block of the product, the array the grid ends with,
   and the claims against the plain product. -/
module

public import proofs.«01_k».proof.Defs
public import proofs.«01_k».proof.Proof.Gen.MixOutIdeal.Value
public import proofs.«01_k».proof.Proof.Gen.MixOutReferenceIdeal.Read
public import proofs.«01_k».proof.Proof.Products
public import proofs.«01_k».proof.Proof.Reals
public import Idealize.ShloMosaic.Adequacy
public import Idealize.ShloMosaic.Init

@[expose] public section

noncomputable section

namespace Cert.MixOutClaim

open Idealize.ShloMosaic Idealize.SL.Sem Cert.Products Cert.Reals

section Kernel
open Cert.MixOutIdeal Cert.MixOutIdeal.Gen Cert.MixOutIdeal.Value Idealize.ShloMosaic.TcCoe

/-- A grid point's product of its blocks. -/
theorem pay1_apply (a : FVec Ideal S1024x2048 .bf16) (b : FVec Ideal S2048x512 .bf16) (x : FVec Ideal S1024x512 .f32) (p : Fin 1024) (q : Fin 512) :
    k0_pay1 (F := Ideal) a b x (ix2 p q) = x (ix2 p q) + ∑ d : Fin 2048, a (ix2 p d) * b (ix2 d q) := by
  unfold k0_pay1
  pointwise

variable (m : (ℓ : Loc nD τ sig) → Buf (Elt Ideal) ℓ) (c : Dev nD)

/-- The arguments as arrays of extended reals. -/
abbrev argA : S4096x2048.Idx → EReal := m ((c : Thread nD τ).loc main_arg0)
@[inherit_doc argA] abbrev argB : S2048x2048.Idx → EReal := m ((c : Thread nD τ).loc main_arg1)
@[inherit_doc argA] abbrev argX : S4096x2048.Idx → EReal := m ((c : Thread nD τ).loc main_arg2)

/-- The number of grid points. -/
theorem N_eq : cfg0.N = 16 := N_0

/-- Where the windows lie. -/
theorem index_eq : ∀ t : Fin grid0.N,
    (win0_0.index t 0 = t.val / 4 ∧ win0_0.index t 1 = 0)
    ∧ (win0_1.index t 0 = 0 ∧ win0_1.index t 1 = t.val % 4)
    ∧ (win0_3.index t 0 = t.val / 4 ∧ win0_3.index t 1 = t.val % 4)
    ∧ (win0_2.index t 0 = t.val / 4 ∧ win0_2.index t 1 = t.val % 4) := by decide +kernel

/-- The block of the left factor read at a point. -/
theorem iblk_a (t : Fin cfg0.N) (p : Fin 1024) (q : Fin 2048) (p' : Fin 4096) (q' : Fin 2048)
    (hp : p'.val = t.val / 4 * 1024 + p.val) (hq : q'.val = 0 * 2048 + q.val) :
    (iblk (F := Ideal) m c 0 t : S1024x2048.Idx → EReal) (ix2 p q) = argA m c (ix2 p' q') := by
  obtain ⟨⟨e0, e1⟩, -⟩ := index_eq t
  show (V (F := Ideal) m c main_arg0 : S4096x2048.Idx → EReal) ((win0_0.rect t).emb (ix2 p q)) = _
  rw [V_main_arg0]
  refine congrArg (argA m c) (funext fun a => Fin.ext ?_)
  match a with
  | ⟨0, _⟩ => refine (Pipeline.Window.rect_emb_val win0_0 t _ 0).trans ?_; rw [e0]; exact hp.symm
  | ⟨1, _⟩ => refine (Pipeline.Window.rect_emb_val win0_0 t _ 1).trans ?_; rw [e1]; exact hq.symm

/-- The block of the right factor read at a point. -/
theorem iblk_b (t : Fin cfg0.N) (p : Fin 2048) (q : Fin 512) (p' : Fin 2048) (q' : Fin 2048)
    (hp : p'.val = 0 * 2048 + p.val) (hq : q'.val = t.val % 4 * 512 + q.val) :
    (iblk (F := Ideal) m c 1 t : S2048x512.Idx → EReal) (ix2 p q) = argB m c (ix2 p' q') := by
  obtain ⟨-, ⟨e0, e1⟩, -⟩ := index_eq t
  show (V (F := Ideal) m c main_arg1 : S2048x2048.Idx → EReal) ((win0_1.rect t).emb (ix2 p q)) = _
  rw [V_main_arg1]
  refine congrArg (argB m c) (funext fun a => Fin.ext ?_)
  match a with
  | ⟨0, _⟩ => refine (Pipeline.Window.rect_emb_val win0_1 t _ 0).trans ?_; rw [e0]; exact hp.symm
  | ⟨1, _⟩ => refine (Pipeline.Window.rect_emb_val win0_1 t _ 1).trans ?_; rw [e1]; exact hq.symm

/-- The block of the added matrix read at a point. -/
theorem iblk_x (t : Fin cfg0.N) (p : Fin 1024) (q : Fin 512) (p' : Fin 4096) (q' : Fin 2048)
    (hp : p'.val = t.val / 4 * 1024 + p.val) (hq : q'.val = t.val % 4 * 512 + q.val) :
    (iblk (F := Ideal) m c 2 t : S1024x512.Idx → EReal) (ix2 p q) = argX m c (ix2 p' q') := by
  obtain ⟨-, -, -, e0, e1⟩ := index_eq t
  show (V (F := Ideal) m c main_arg2 : S4096x2048.Idx → EReal) ((win0_2.rect t).emb (ix2 p q)) = _
  rw [V_main_arg2]
  refine congrArg (argX m c) (funext fun a => Fin.ext ?_)
  match a with
  | ⟨0, _⟩ => refine (Pipeline.Window.rect_emb_val win0_2 t _ 0).trans ?_; rw [e0]; exact hp.symm
  | ⟨1, _⟩ => refine (Pipeline.Window.rect_emb_val win0_2 t _ 1).trans ?_; rw [e1]; exact hq.symm

/-- The row and the column of the product that a grid point's block holds. -/
def tok (t : Fin cfg0.N) (p : Fin 1024) : Fin 4096 :=
  ⟨t.val / 4 * 1024 + p.val, by have h : t.val < 16 := lt_of_lt_of_eq t.isLt N_eq; omega⟩
@[inherit_doc tok] def col (t : Fin cfg0.N) (q : Fin 512) : Fin 2048 :=
  ⟨t.val % 4 * 512 + q.val, by have h : t.val < 16 := lt_of_lt_of_eq t.isLt N_eq; omega⟩

/-- The array after the grid. -/
theorem final : (dats (F := Ideal) m 0 c).arrAt 3 cfg0.N = (plus (argX m c) (nn (argA m c) (argB m c)) : S4096x2048.Idx → EReal) := by
  refine (dats (F := Ideal) m 0 c).arrAt_eq_of_cover 3 _ (fun t _ => ?_) (fun i => ?_)
  · rw [flushed3]
    obtain ⟨-, -, ⟨e0, e1⟩, -⟩ := index_eq t
    funext y
    obtain ⟨p, q, rfl⟩ : ∃ (p : Fin 1024) (q : Fin 512), y = ix2 p q := ⟨y 0, y 1, eq_ix2 y⟩
    unfold out0_3
    refine Eq.trans (congrFun (View.canon_unit_zero (Val := Elt Ideal) (S := S1024x512) origin _ _) _) ?_
    refine (pay1_apply _ _ _ p q).trans ?_
    show _ = (plus (argX m c) (nn (argA m c) (argB m c)) : S4096x2048.Idx → EReal) ((win0_3.rect t).emb (ix2 p q))
    have f : (win0_3.rect t).emb (ix2 p q) = ix2 (tok t p) (col t q) := funext fun a => Fin.ext (by
      match a with
      | ⟨0, _⟩ => refine (Pipeline.Window.rect_emb_val win0_3 t _ 0).trans ?_; rw [e0]; rfl
      | ⟨1, _⟩ => refine (Pipeline.Window.rect_emb_val win0_3 t _ 1).trans ?_; rw [e1]; rfl)
    rw [f]
    refine congrArg₂ (fun x y : EReal => x + y) ((congrFun (View.ld_unit_zero (Val := Elt Ideal) (S := S1024x512) origin _ _) _).trans (iblk_x m c t p q (tok t p) (col t q) rfl rfl)) ?_
    exact Finset.sum_congr rfl fun d _ => congrArg₂ (fun x y : EReal => x * y)
      ((congrFun (View.ld_unit_zero (Val := Elt Ideal) (S := S1024x2048) origin _ _) _).trans (iblk_a m c t p d (tok t p) d rfl (by omega)))
      ((congrFun (View.ld_unit_zero (Val := Elt Ideal) (S := S2048x512) origin _ _) _).trans (iblk_b m c t d q d (col t q) (by omega) rfl))
  · have h0 : (i 0 : ℕ) < 4096 := (i 0).isLt
    have h1 : (i 1 : ℕ) < 2048 := (i 1).isLt
    let t : Fin cfg0.N := ⟨(i 0 : ℕ) / 1024 * 4 + (i 1 : ℕ) / 512, lt_of_lt_of_eq (by omega) N_eq.symm⟩
    refine ⟨t, flush0_3 t, ?_⟩
    obtain ⟨-, -, ⟨e0, e1⟩, -⟩ := index_eq t
    have ht : t.val = (i 0 : ℕ) / 1024 * 4 + (i 1 : ℕ) / 512 := rfl
    show i ∈ ((View.whole main_v0).slice (win0_3.rect t)).set
    rw [View.set_slice_whole, Rect.mem_set_unit]
    intro a
    match a with
    | ⟨0, _⟩ =>
      show win0_3.index t 0 * 1024 ≤ (i 0 : ℕ) ∧ (i 0 : ℕ) < win0_3.index t 0 * 1024 + 1024
      rw [e0]; omega
    | ⟨1, _⟩ =>
      show win0_3.index t 1 * 512 ≤ (i 1 : ℕ) ∧ (i 1 : ℕ) < win0_3.index t 1 * 512 + 512
      rw [e1]; omega

end Kernel

/-- The reference's result is the array the grid ends with. -/
theorem ref_eq (A : FVec Ideal Cert.MixOutReferenceIdeal.S4096x2048 .bf16) (B : FVec Ideal Cert.MixOutReferenceIdeal.S2048x2048 .bf16)
    (X : FVec Ideal Cert.MixOutReferenceIdeal.S4096x2048 .f32) :
    (Cert.MixOutReferenceIdeal.Read.val_main_v3 (F := Ideal) A B X : Cert.MixOutReferenceIdeal.S4096x2048.Idx → EReal) = plus (m := 4096) (n := 2048) X (nn (m := 4096) (n := 2048) (k := 2048) A B) := by
  funext i
  obtain ⟨u, v, rfl⟩ : ∃ (u : Fin 4096) (v : Fin 2048), i = ix2 u v := ⟨i 0, i 1, eq_ix2 i⟩
  unfold Cert.MixOutReferenceIdeal.Read.val_main_v3 Cert.MixOutReferenceIdeal.Read.val_main_v2 Cert.MixOutReferenceIdeal.Read.val_main_v1 Cert.MixOutReferenceIdeal.Read.val_main_v0
  pointwise
  rfl

/-- The reference runs and keeps its arguments. -/
theorem frame_ref : Cert.quiescent_MixOutReferenceIdeal := fun m ρ _ =>
  (θ_run Cert.MixOutReferenceIdeal.defs _ _).mono (fun r h => ⟨fun c => (h c).2, sem_eq_zero_of_no_sems (by decide) r.2⟩)
    (Cert.MixOutReferenceIdeal.Value.run (F := Ideal) m ρ)

/-- The kernel and the reference end with equal results. -/
theorem algebraic : Cert.algebraic_MixOutIdeal_MixOutReferenceIdeal := by
  intro m g m' g' _ hagree
  refine ⟨fun c => plus (argX m c) (nn (argA m c) (argB m c)), ?_, ?_⟩
  · refine (θ_run Cert.MixOutIdeal.defs _ _).mono (fun r h c => ?_) (Cert.MixOutIdeal.Value.run_blocks (F := Ideal) m g)
    obtain ⟨h0, hargs⟩ := h c
    exact ⟨h0.trans (final m c), hargs⟩
  · refine (θ_run Cert.MixOutReferenceIdeal.defs _ _).mono (fun r h c => ?_) (Cert.MixOutReferenceIdeal.Value.run (F := Ideal) m' g')
    obtain ⟨h0, hargs⟩ := h c
    obtain ⟨a0, a1, a2⟩ := hagree c
    refine ⟨h0.trans ?_, hargs⟩
    rw [Cert.MixOutReferenceIdeal.Read.val_main_v3_eq, a0, a1, a2]
    exact ref_eq _ _ _

end Cert.MixOutClaim

end
-- ==== Proof.MixOutDxClaim.lean ====
/- The gradient of the merged branches through the mixer's output product. Each grid point's block of the product, the array the grid ends with,
   and the claims against the plain product. -/
module

public import proofs.«01_k».proof.Defs
public import proofs.«01_k».proof.Proof.Gen.MixOutDxIdeal.Value
public import proofs.«01_k».proof.Proof.Gen.MixOutDxReferenceIdeal.Read
public import proofs.«01_k».proof.Proof.Products
public import proofs.«01_k».proof.Proof.Reals
public import Idealize.ShloMosaic.Adequacy
public import Idealize.ShloMosaic.Init

@[expose] public section

noncomputable section

namespace Cert.MixOutDxClaim

open Idealize.ShloMosaic Idealize.SL.Sem Cert.Products Cert.Reals

section Kernel
open Cert.MixOutDxIdeal Cert.MixOutDxIdeal.Gen Cert.MixOutDxIdeal.Value Idealize.ShloMosaic.TcCoe

/-- A grid point's product of its blocks. -/
theorem pay1_apply (a : FVec Ideal S1024x2048 .bf16) (b : FVec Ideal S512x2048 .bf16) (p : Fin 1024) (q : Fin 512) :
    k0_pay1 (F := Ideal) a b (ix2 p q) = ∑ d : Fin 2048, a (ix2 p d) * b (ix2 q d) := by
  unfold k0_pay1
  pointwise

variable (m : (ℓ : Loc nD τ sig) → Buf (Elt Ideal) ℓ) (c : Dev nD)

/-- The arguments as arrays of extended reals. -/
abbrev argA : S4096x2048.Idx → EReal := m ((c : Thread nD τ).loc main_arg0)
@[inherit_doc argA] abbrev argB : S2048x2048.Idx → EReal := m ((c : Thread nD τ).loc main_arg1)

/-- The number of grid points. -/
theorem N_eq : cfg0.N = 16 := N_0

/-- Where the windows lie. -/
theorem index_eq : ∀ t : Fin grid0.N,
    (win0_0.index t 0 = t.val / 4 ∧ win0_0.index t 1 = 0)
    ∧ (win0_1.index t 0 = t.val % 4 ∧ win0_1.index t 1 = 0)
    ∧ (win0_2.index t 0 = t.val / 4 ∧ win0_2.index t 1 = t.val % 4) := by decide +kernel

/-- The block of the left factor read at a point. -/
theorem iblk_a (t : Fin cfg0.N) (p : Fin 1024) (q : Fin 2048) (p' : Fin 4096) (q' : Fin 2048)
    (hp : p'.val = t.val / 4 * 1024 + p.val) (hq : q'.val = 0 * 2048 + q.val) :
    (iblk (F := Ideal) m c 0 t : S1024x2048.Idx → EReal) (ix2 p q) = argA m c (ix2 p' q') := by
  obtain ⟨⟨e0, e1⟩, -⟩ := index_eq t
  show (V (F := Ideal) m c main_arg0 : S4096x2048.Idx → EReal) ((win0_0.rect t).emb (ix2 p q)) = _
  rw [V_main_arg0]
  refine congrArg (argA m c) (funext fun a => Fin.ext ?_)
  match a with
  | ⟨0, _⟩ => refine (Pipeline.Window.rect_emb_val win0_0 t _ 0).trans ?_; rw [e0]; exact hp.symm
  | ⟨1, _⟩ => refine (Pipeline.Window.rect_emb_val win0_0 t _ 1).trans ?_; rw [e1]; exact hq.symm

/-- The block of the right factor read at a point. -/
theorem iblk_b (t : Fin cfg0.N) (p : Fin 512) (q : Fin 2048) (p' : Fin 2048) (q' : Fin 2048)
    (hp : p'.val = t.val % 4 * 512 + p.val) (hq : q'.val = 0 * 2048 + q.val) :
    (iblk (F := Ideal) m c 1 t : S512x2048.Idx → EReal) (ix2 p q) = argB m c (ix2 p' q') := by
  obtain ⟨-, ⟨e0, e1⟩, -⟩ := index_eq t
  show (V (F := Ideal) m c main_arg1 : S2048x2048.Idx → EReal) ((win0_1.rect t).emb (ix2 p q)) = _
  rw [V_main_arg1]
  refine congrArg (argB m c) (funext fun a => Fin.ext ?_)
  match a with
  | ⟨0, _⟩ => refine (Pipeline.Window.rect_emb_val win0_1 t _ 0).trans ?_; rw [e0]; exact hp.symm
  | ⟨1, _⟩ => refine (Pipeline.Window.rect_emb_val win0_1 t _ 1).trans ?_; rw [e1]; exact hq.symm

/-- The row and the column of the product that a grid point's block holds. -/
def tok (t : Fin cfg0.N) (p : Fin 1024) : Fin 4096 :=
  ⟨t.val / 4 * 1024 + p.val, by have h : t.val < 16 := lt_of_lt_of_eq t.isLt N_eq; omega⟩
@[inherit_doc tok] def col (t : Fin cfg0.N) (q : Fin 512) : Fin 2048 :=
  ⟨t.val % 4 * 512 + q.val, by have h : t.val < 16 := lt_of_lt_of_eq t.isLt N_eq; omega⟩

/-- The array after the grid. -/
theorem final : (dats (F := Ideal) m 0 c).arrAt 2 cfg0.N = (nt (argA m c) (argB m c) : S4096x2048.Idx → EReal) := by
  refine (dats (F := Ideal) m 0 c).arrAt_eq_of_cover 2 _ (fun t _ => ?_) (fun i => ?_)
  · rw [flushed2]
    obtain ⟨-, -, e0, e1⟩ := index_eq t
    funext y
    obtain ⟨p, q, rfl⟩ : ∃ (p : Fin 1024) (q : Fin 512), y = ix2 p q := ⟨y 0, y 1, eq_ix2 y⟩
    unfold out0_2
    refine Eq.trans (congrFun (View.canon_unit_zero (Val := Elt Ideal) (S := S1024x512) origin _ _) _) ?_
    refine (pay1_apply _ _ p q).trans ?_
    show _ = (nt (argA m c) (argB m c) : S4096x2048.Idx → EReal) ((win0_2.rect t).emb (ix2 p q))
    have f : (win0_2.rect t).emb (ix2 p q) = ix2 (tok t p) (col t q) := funext fun a => Fin.ext (by
      match a with
      | ⟨0, _⟩ => refine (Pipeline.Window.rect_emb_val win0_2 t _ 0).trans ?_; rw [e0]; rfl
      | ⟨1, _⟩ => refine (Pipeline.Window.rect_emb_val win0_2 t _ 1).trans ?_; rw [e1]; rfl)
    rw [f]
    exact Finset.sum_congr rfl fun d _ => congrArg₂ (fun x y : EReal => x * y)
      ((congrFun (View.ld_unit_zero (Val := Elt Ideal) (S := S1024x2048) origin _ _) _).trans (iblk_a m c t p d (tok t p) d rfl (by omega)))
      ((congrFun (View.ld_unit_zero (Val := Elt Ideal) (S := S512x2048) origin _ _) _).trans (iblk_b m c t q d (col t q) d rfl (by omega)))
  · have h0 : (i 0 : ℕ) < 4096 := (i 0).isLt
    have h1 : (i 1 : ℕ) < 2048 := (i 1).isLt
    let t : Fin cfg0.N := ⟨(i 0 : ℕ) / 1024 * 4 + (i 1 : ℕ) / 512, lt_of_lt_of_eq (by omega) N_eq.symm⟩
    refine ⟨t, flush0_2 t, ?_⟩
    obtain ⟨-, -, e0, e1⟩ := index_eq t
    have ht : t.val = (i 0 : ℕ) / 1024 * 4 + (i 1 : ℕ) / 512 := rfl
    show i ∈ ((View.whole main_v0).slice (win0_2.rect t)).set
    rw [View.set_slice_whole, Rect.mem_set_unit]
    intro a
    match a with
    | ⟨0, _⟩ =>
      show win0_2.index t 0 * 1024 ≤ (i 0 : ℕ) ∧ (i 0 : ℕ) < win0_2.index t 0 * 1024 + 1024
      rw [e0]; omega
    | ⟨1, _⟩ =>
      show win0_2.index t 1 * 512 ≤ (i 1 : ℕ) ∧ (i 1 : ℕ) < win0_2.index t 1 * 512 + 512
      rw [e1]; omega

end Kernel

/-- The reference's result is the array the grid ends with. -/
theorem ref_eq (A : FVec Ideal Cert.MixOutDxReferenceIdeal.S4096x2048 .bf16) (B : FVec Ideal Cert.MixOutDxReferenceIdeal.S2048x2048 .bf16) :
    (Cert.MixOutDxReferenceIdeal.Read.val_main_v4 (F := Ideal) A B : Cert.MixOutDxReferenceIdeal.S4096x2048.Idx → EReal) = nt (m := 4096) (n := 2048) (k := 2048) A B := by
  funext i
  obtain ⟨u, v, rfl⟩ : ∃ (u : Fin 4096) (v : Fin 2048), i = ix2 u v := ⟨i 0, i 1, eq_ix2 i⟩
  unfold Cert.MixOutDxReferenceIdeal.Read.val_main_v4 Cert.MixOutDxReferenceIdeal.Read.val_main_v3 Cert.MixOutDxReferenceIdeal.Read.val_main_v1
  pointwise
  rfl

/-- The reference runs and keeps its arguments. -/
theorem frame_ref : Cert.quiescent_MixOutDxReferenceIdeal := fun m ρ _ =>
  (θ_run Cert.MixOutDxReferenceIdeal.defs _ _).mono (fun r h => ⟨fun c => (h c).2, sem_eq_zero_of_no_sems (by decide) r.2⟩)
    (Cert.MixOutDxReferenceIdeal.Value.run (F := Ideal) m ρ)

/-- The kernel and the reference end with equal results. -/
theorem algebraic : Cert.algebraic_MixOutDxIdeal_MixOutDxReferenceIdeal := by
  intro m g m' g' _ hagree
  refine ⟨fun c => nt (argA m c) (argB m c), ?_, ?_⟩
  · refine (θ_run Cert.MixOutDxIdeal.defs _ _).mono (fun r h c => ?_) (Cert.MixOutDxIdeal.Value.run_blocks (F := Ideal) m g)
    obtain ⟨h0, hargs⟩ := h c
    exact ⟨h0.trans (final m c), hargs⟩
  · refine (θ_run Cert.MixOutDxReferenceIdeal.defs _ _).mono (fun r h c => ?_) (Cert.MixOutDxReferenceIdeal.Value.run (F := Ideal) m' g')
    obtain ⟨h0, hargs⟩ := h c
    obtain ⟨a0, a1⟩ := hagree c
    refine ⟨h0.trans ?_, hargs⟩
    rw [Cert.MixOutDxReferenceIdeal.Read.val_main_v4_eq, a0, a1]
    exact ref_eq _ _

end Cert.MixOutDxClaim

end
-- ==== Proof.MixOutDwClaim.lean ====
/- The gradient of the mixer's output weights. Each grid point's block of the product, the array the grid ends with,
   and the claims against the plain product. -/
module

public import proofs.«01_k».proof.Defs
public import proofs.«01_k».proof.Proof.Gen.MixOutDwIdeal.Value
public import proofs.«01_k».proof.Proof.Gen.MixOutDwReferenceIdeal.Read
public import proofs.«01_k».proof.Proof.Products
public import proofs.«01_k».proof.Proof.Reals
public import Idealize.ShloMosaic.Adequacy
public import Idealize.ShloMosaic.Init

@[expose] public section

noncomputable section

namespace Cert.MixOutDwClaim

open Idealize.ShloMosaic Idealize.SL.Sem Cert.Products Cert.Reals

section Kernel
open Cert.MixOutDwIdeal Cert.MixOutDwIdeal.Gen Cert.MixOutDwIdeal.Value Idealize.ShloMosaic.TcCoe

/-- The accumulator starts at zero. -/
theorem pay1_apply (p : Fin 1024) (q : Fin 1024) : k0_pay1 (F := Ideal) (ix2 p q) = 0 := by
  unfold k0_pay1
  pointwise

/-- A grid point adds its blocks' product to what the accumulator holds. -/
theorem pay2_apply (a : FVec Ideal S2048x1024 .bf16) (acc : FVec Ideal S1024x1024 .f32) (b : FVec Ideal S2048x1024 .bf16)
    (p : Fin 1024) (q : Fin 1024) :
    k0_pay2 (F := Ideal) a acc b (ix2 p q) = acc (ix2 p q) + ∑ d : Fin 2048, a (ix2 d p) * b (ix2 d q) := by
  unfold k0_pay2
  pointwise

variable (m : (ℓ : Loc nD τ sig) → Buf (Elt Ideal) ℓ) (c : Dev nD)

/-- The arguments as arrays of extended reals. -/
abbrev argA : S4096x2048.Idx → EReal := m ((c : Thread nD τ).loc main_arg0)
@[inherit_doc argA] abbrev argB : S4096x2048.Idx → EReal := m ((c : Thread nD τ).loc main_arg1)

/-- The number of grid points. -/
theorem N_eq : cfg0.N = 8 := N_0

/-- Where the windows lie. -/
theorem index_eq : ∀ t : Fin grid0.N,
    (win0_0.index t 0 = t.val % 2 ∧ win0_0.index t 1 = t.val / 4)
    ∧ (win0_1.index t 0 = t.val % 2 ∧ win0_1.index t 1 = t.val / 2 % 2)
    ∧ (win0_2.index t 0 = t.val / 4 ∧ win0_2.index t 1 = t.val / 2 % 2) := by decide +kernel

/-- The block of the left factor read at a point. -/
theorem iblk_a (t : Fin cfg0.N) (p : Fin 2048) (q : Fin 1024) (p' : Fin 4096) (q' : Fin 2048)
    (hp : p'.val = t.val % 2 * 2048 + p.val) (hq : q'.val = t.val / 4 * 1024 + q.val) :
    (iblk (F := Ideal) m c 0 t : S2048x1024.Idx → EReal) (ix2 p q) = argA m c (ix2 p' q') := by
  obtain ⟨⟨e0, e1⟩, -⟩ := index_eq t
  show (V (F := Ideal) m c main_arg0 : S4096x2048.Idx → EReal) ((win0_0.rect t).emb (ix2 p q)) = _
  rw [V_main_arg0]
  refine congrArg (argA m c) (funext fun a => Fin.ext ?_)
  match a with
  | ⟨0, _⟩ => refine (Pipeline.Window.rect_emb_val win0_0 t _ 0).trans ?_; rw [e0]; exact hp.symm
  | ⟨1, _⟩ => refine (Pipeline.Window.rect_emb_val win0_0 t _ 1).trans ?_; rw [e1]; exact hq.symm

/-- The block of the right factor read at a point. -/
theorem iblk_b (t : Fin cfg0.N) (p : Fin 2048) (q : Fin 1024) (p' : Fin 4096) (q' : Fin 2048)
    (hp : p'.val = t.val % 2 * 2048 + p.val) (hq : q'.val = t.val / 2 % 2 * 1024 + q.val) :
    (iblk (F := Ideal) m c 1 t : S2048x1024.Idx → EReal) (ix2 p q) = argB m c (ix2 p' q') := by
  obtain ⟨-, ⟨e0, e1⟩, -⟩ := index_eq t
  show (V (F := Ideal) m c main_arg1 : S4096x2048.Idx → EReal) ((win0_1.rect t).emb (ix2 p q)) = _
  rw [V_main_arg1]
  refine congrArg (argB m c) (funext fun a => Fin.ext ?_)
  match a with
  | ⟨0, _⟩ => refine (Pipeline.Window.rect_emb_val win0_1 t _ 0).trans ?_; rw [e0]; exact hp.symm
  | ⟨1, _⟩ => refine (Pipeline.Window.rect_emb_val win0_1 t _ 1).trans ?_; rw [e1]; exact hq.symm

/-- The array after the grid. -/
theorem final : G2 (F := Ideal) m c = tn (argA m c) (argB m c) := by
  funext i
  obtain ⟨u, v, rfl⟩ : ∃ (u : Fin 2048) (v : Fin 2048), i = ix2 u v := ⟨i 0, i 1, eq_ix2 i⟩
  have hN := N_eq
  have hu := u.isLt
  have hv := v.isLt
  have hr : run2Of (ix2 u v) = 2 * (u.val / 1024) + v.val / 1024 := by
    show 2 * (u.val / 1024 - 0) + 1 * (v.val / 1024 - 0) = _
    omega
  have h1 : 2 * run2Of (ix2 u v) + 1 < cfg0.N := by omega
  have h0 : 2 * run2Of (ix2 u v) < cfg0.N := by omega
  have hl : loc2Of (ix2 u v) = ix2 ⟨u.val % 1024, Nat.mod_lt _ (by decide)⟩ ⟨v.val % 1024, Nat.mod_lt _ (by decide)⟩ :=
    eq_ix2 _
  unfold G2
  rw [dif_pos h1, Pipeline.accAt_succ, Pipeline.accAt_zero, hl]
  unfold step2 reset2
  refine (pay2_apply _ _ _ _ _).trans ?_
  rw [pay2_apply, pay1_apply, zero_add]
  unfold tn
  rw [sum_two_blocks (show 4096 = 2048 + 2048 from rfl)]
  refine congrArg₂ (· + ·) ?_ ?_ <;> refine Finset.sum_congr rfl fun n _ => ?_
  · exact congrArg₂ (fun x y : EReal => x * y)
      (iblk_a m c ⟨2 * run2Of (ix2 u v), h0⟩ n _ ⟨n.val, by omega⟩ u (by dsimp only; omega) (by dsimp only; omega))
      (iblk_b m c ⟨2 * run2Of (ix2 u v), h0⟩ n _ ⟨n.val, by omega⟩ v (by dsimp only; omega) (by dsimp only; omega))
  · exact congrArg₂ (fun x y : EReal => x * y)
      (iblk_a m c ⟨2 * run2Of (ix2 u v) + 1, h1⟩ n _ ⟨2048 + n.val, by omega⟩ u (by dsimp only; omega) (by dsimp only; omega))
      (iblk_b m c ⟨2 * run2Of (ix2 u v) + 1, h1⟩ n _ ⟨2048 + n.val, by omega⟩ v (by dsimp only; omega) (by dsimp only; omega))

end Kernel

/-- The reference's result is the array the grid ends with. -/
theorem ref_eq (A : FVec Ideal Cert.MixOutDwReferenceIdeal.S4096x2048 .bf16) (B : FVec Ideal Cert.MixOutDwReferenceIdeal.S4096x2048 .bf16) :
    (Cert.MixOutDwReferenceIdeal.Read.val_main_v5 (F := Ideal) A B : Cert.MixOutDwReferenceIdeal.S2048x2048.Idx → EReal) = tn (m := 2048) (n := 2048) (k := 4096) A B := by
  funext i
  obtain ⟨u, v, rfl⟩ : ∃ (u : Fin 2048) (v : Fin 2048), i = ix2 u v := ⟨i 0, i 1, eq_ix2 i⟩
  unfold Cert.MixOutDwReferenceIdeal.Read.val_main_v5 Cert.MixOutDwReferenceIdeal.Read.val_main_v4 Cert.MixOutDwReferenceIdeal.Read.val_main_v3 Cert.MixOutDwReferenceIdeal.Read.val_main_v1
  pointwise
  unfold tn
  exact Finset.sum_congr rfl fun n _ => mul_comm _ _

/-- The reference runs and keeps its arguments. -/
theorem frame_ref : Cert.quiescent_MixOutDwReferenceIdeal := fun m ρ _ =>
  (θ_run Cert.MixOutDwReferenceIdeal.defs _ _).mono (fun r h => ⟨fun c => (h c).2, sem_eq_zero_of_no_sems (by decide) r.2⟩)
    (Cert.MixOutDwReferenceIdeal.Value.run (F := Ideal) m ρ)

/-- The kernel and the reference end with equal results. -/
theorem algebraic : Cert.algebraic_MixOutDwIdeal_MixOutDwReferenceIdeal := by
  intro m g m' g' _ hagree
  refine ⟨fun c => tn (argA m c) (argB m c), ?_, ?_⟩
  · refine (θ_run Cert.MixOutDwIdeal.defs _ _).mono (fun r h c => ?_) (Cert.MixOutDwIdeal.Value.run (F := Ideal) m g)
    obtain ⟨h0, hargs⟩ := h c
    exact ⟨h0.trans (final m c), hargs⟩
  · refine (θ_run Cert.MixOutDwReferenceIdeal.defs _ _).mono (fun r h c => ?_) (Cert.MixOutDwReferenceIdeal.Value.run (F := Ideal) m' g')
    obtain ⟨h0, hargs⟩ := h c
    obtain ⟨a0, a1⟩ := hagree c
    refine ⟨h0.trans ?_, hargs⟩
    rw [Cert.MixOutDwReferenceIdeal.Read.val_main_v5_eq, a0, a1]
    exact ref_eq _ _

end Cert.MixOutDwClaim

end
-- ==== Proof.FoxOClaim.lean ====
/- The output product of the forgetting attention. Each grid point's block of the product, the array the grid ends with,
   and the claims against the plain product. -/
module

public import proofs.«01_k».proof.Defs
public import proofs.«01_k».proof.Proof.Gen.FoxOIdeal.Value
public import proofs.«01_k».proof.Proof.Gen.FoxOReferenceIdeal.Read
public import proofs.«01_k».proof.Proof.Products
public import proofs.«01_k».proof.Proof.Reals
public import Idealize.ShloMosaic.Adequacy
public import Idealize.ShloMosaic.Init

@[expose] public section

noncomputable section

namespace Cert.FoxOClaim

open Idealize.ShloMosaic Idealize.SL.Sem Cert.Products Cert.Reals

section Kernel
open Cert.FoxOIdeal Cert.FoxOIdeal.Gen Cert.FoxOIdeal.Value Idealize.ShloMosaic.TcCoe

/-- A grid point's product of its blocks. -/
theorem pay1_apply (a : FVec Ideal S1024x1024 .f32) (b : FVec Ideal S1024x512 .bf16) (p : Fin 1024) (q : Fin 512) :
    k0_pay1 (F := Ideal) a b (ix2 p q) = ∑ d : Fin 1024, a (ix2 p d) * b (ix2 d q) := by
  unfold k0_pay1
  pointwise

variable (m : (ℓ : Loc nD τ sig) → Buf (Elt Ideal) ℓ) (c : Dev nD)

/-- The arguments as arrays of extended reals. -/
abbrev argA : S4096x1024.Idx → EReal := m ((c : Thread nD τ).loc main_arg0)
@[inherit_doc argA] abbrev argB : S1024x2048.Idx → EReal := m ((c : Thread nD τ).loc main_arg1)

/-- The number of grid points. -/
theorem N_eq : cfg0.N = 16 := N_0

/-- Where the windows lie. -/
theorem index_eq : ∀ t : Fin grid0.N,
    (win0_0.index t 0 = t.val / 4 ∧ win0_0.index t 1 = 0)
    ∧ (win0_1.index t 0 = 0 ∧ win0_1.index t 1 = t.val % 4)
    ∧ (win0_2.index t 0 = t.val / 4 ∧ win0_2.index t 1 = t.val % 4) := by decide +kernel

/-- The block of the left factor read at a point. -/
theorem iblk_a (t : Fin cfg0.N) (p : Fin 1024) (q : Fin 1024) (p' : Fin 4096) (q' : Fin 1024)
    (hp : p'.val = t.val / 4 * 1024 + p.val) (hq : q'.val = 0 * 1024 + q.val) :
    (iblk (F := Ideal) m c 0 t : S1024x1024.Idx → EReal) (ix2 p q) = argA m c (ix2 p' q') := by
  obtain ⟨⟨e0, e1⟩, -⟩ := index_eq t
  show (V (F := Ideal) m c main_arg0 : S4096x1024.Idx → EReal) ((win0_0.rect t).emb (ix2 p q)) = _
  rw [V_main_arg0]
  refine congrArg (argA m c) (funext fun a => Fin.ext ?_)
  match a with
  | ⟨0, _⟩ => refine (Pipeline.Window.rect_emb_val win0_0 t _ 0).trans ?_; rw [e0]; exact hp.symm
  | ⟨1, _⟩ => refine (Pipeline.Window.rect_emb_val win0_0 t _ 1).trans ?_; rw [e1]; exact hq.symm

/-- The block of the right factor read at a point. -/
theorem iblk_b (t : Fin cfg0.N) (p : Fin 1024) (q : Fin 512) (p' : Fin 1024) (q' : Fin 2048)
    (hp : p'.val = 0 * 1024 + p.val) (hq : q'.val = t.val % 4 * 512 + q.val) :
    (iblk (F := Ideal) m c 1 t : S1024x512.Idx → EReal) (ix2 p q) = argB m c (ix2 p' q') := by
  obtain ⟨-, ⟨e0, e1⟩, -⟩ := index_eq t
  show (V (F := Ideal) m c main_arg1 : S1024x2048.Idx → EReal) ((win0_1.rect t).emb (ix2 p q)) = _
  rw [V_main_arg1]
  refine congrArg (argB m c) (funext fun a => Fin.ext ?_)
  match a with
  | ⟨0, _⟩ => refine (Pipeline.Window.rect_emb_val win0_1 t _ 0).trans ?_; rw [e0]; exact hp.symm
  | ⟨1, _⟩ => refine (Pipeline.Window.rect_emb_val win0_1 t _ 1).trans ?_; rw [e1]; exact hq.symm

/-- The row and the column of the product that a grid point's block holds. -/
def tok (t : Fin cfg0.N) (p : Fin 1024) : Fin 4096 :=
  ⟨t.val / 4 * 1024 + p.val, by have h : t.val < 16 := lt_of_lt_of_eq t.isLt N_eq; omega⟩
@[inherit_doc tok] def col (t : Fin cfg0.N) (q : Fin 512) : Fin 2048 :=
  ⟨t.val % 4 * 512 + q.val, by have h : t.val < 16 := lt_of_lt_of_eq t.isLt N_eq; omega⟩

/-- The array after the grid. -/
theorem final : (dats (F := Ideal) m 0 c).arrAt 2 cfg0.N = (nn (argA m c) (argB m c) : S4096x2048.Idx → EReal) := by
  refine (dats (F := Ideal) m 0 c).arrAt_eq_of_cover 2 _ (fun t _ => ?_) (fun i => ?_)
  · rw [flushed2]
    obtain ⟨-, -, e0, e1⟩ := index_eq t
    funext y
    obtain ⟨p, q, rfl⟩ : ∃ (p : Fin 1024) (q : Fin 512), y = ix2 p q := ⟨y 0, y 1, eq_ix2 y⟩
    unfold out0_2
    refine Eq.trans (congrFun (View.canon_unit_zero (Val := Elt Ideal) (S := S1024x512) origin _ _) _) ?_
    refine (pay1_apply _ _ p q).trans ?_
    show _ = (nn (argA m c) (argB m c) : S4096x2048.Idx → EReal) ((win0_2.rect t).emb (ix2 p q))
    have f : (win0_2.rect t).emb (ix2 p q) = ix2 (tok t p) (col t q) := funext fun a => Fin.ext (by
      match a with
      | ⟨0, _⟩ => refine (Pipeline.Window.rect_emb_val win0_2 t _ 0).trans ?_; rw [e0]; rfl
      | ⟨1, _⟩ => refine (Pipeline.Window.rect_emb_val win0_2 t _ 1).trans ?_; rw [e1]; rfl)
    rw [f]
    exact Finset.sum_congr rfl fun d _ => congrArg₂ (fun x y : EReal => x * y)
      ((congrFun (View.ld_unit_zero (Val := Elt Ideal) (S := S1024x1024) origin _ _) _).trans (iblk_a m c t p d (tok t p) d rfl (by omega)))
      ((congrFun (View.ld_unit_zero (Val := Elt Ideal) (S := S1024x512) origin _ _) _).trans (iblk_b m c t d q d (col t q) (by omega) rfl))
  · have h0 : (i 0 : ℕ) < 4096 := (i 0).isLt
    have h1 : (i 1 : ℕ) < 2048 := (i 1).isLt
    let t : Fin cfg0.N := ⟨(i 0 : ℕ) / 1024 * 4 + (i 1 : ℕ) / 512, lt_of_lt_of_eq (by omega) N_eq.symm⟩
    refine ⟨t, flush0_2 t, ?_⟩
    obtain ⟨-, -, e0, e1⟩ := index_eq t
    have ht : t.val = (i 0 : ℕ) / 1024 * 4 + (i 1 : ℕ) / 512 := rfl
    show i ∈ ((View.whole main_v0).slice (win0_2.rect t)).set
    rw [View.set_slice_whole, Rect.mem_set_unit]
    intro a
    match a with
    | ⟨0, _⟩ =>
      show win0_2.index t 0 * 1024 ≤ (i 0 : ℕ) ∧ (i 0 : ℕ) < win0_2.index t 0 * 1024 + 1024
      rw [e0]; omega
    | ⟨1, _⟩ =>
      show win0_2.index t 1 * 512 ≤ (i 1 : ℕ) ∧ (i 1 : ℕ) < win0_2.index t 1 * 512 + 512
      rw [e1]; omega

end Kernel

/-- The reference's result is the array the grid ends with. -/
theorem ref_eq (A : FVec Ideal Cert.FoxOReferenceIdeal.S4096x1024 .f32) (B : FVec Ideal Cert.FoxOReferenceIdeal.S1024x2048 .bf16) :
    (Cert.FoxOReferenceIdeal.Read.val_main_v1 (F := Ideal) A B : Cert.FoxOReferenceIdeal.S4096x2048.Idx → EReal) = nn (m := 4096) (n := 2048) (k := 1024) A B := by
  funext i
  obtain ⟨u, v, rfl⟩ : ∃ (u : Fin 4096) (v : Fin 2048), i = ix2 u v := ⟨i 0, i 1, eq_ix2 i⟩
  unfold Cert.FoxOReferenceIdeal.Read.val_main_v1 Cert.FoxOReferenceIdeal.Read.val_main_v0
  pointwise
  rfl

/-- The reference runs and keeps its arguments. -/
theorem frame_ref : Cert.quiescent_FoxOReferenceIdeal := fun m ρ _ =>
  (θ_run Cert.FoxOReferenceIdeal.defs _ _).mono (fun r h => ⟨fun c => (h c).2, sem_eq_zero_of_no_sems (by decide) r.2⟩)
    (Cert.FoxOReferenceIdeal.Value.run (F := Ideal) m ρ)

/-- The kernel and the reference end with equal results. -/
theorem algebraic : Cert.algebraic_FoxOIdeal_FoxOReferenceIdeal := by
  intro m g m' g' _ hagree
  refine ⟨fun c => nn (argA m c) (argB m c), ?_, ?_⟩
  · refine (θ_run Cert.FoxOIdeal.defs _ _).mono (fun r h c => ?_) (Cert.FoxOIdeal.Value.run_blocks (F := Ideal) m g)
    obtain ⟨h0, hargs⟩ := h c
    exact ⟨h0.trans (final m c), hargs⟩
  · refine (θ_run Cert.FoxOReferenceIdeal.defs _ _).mono (fun r h c => ?_) (Cert.FoxOReferenceIdeal.Value.run (F := Ideal) m' g')
    obtain ⟨h0, hargs⟩ := h c
    obtain ⟨a0, a1⟩ := hagree c
    refine ⟨h0.trans ?_, hargs⟩
    rw [Cert.FoxOReferenceIdeal.Read.val_main_v1_eq, a0, a1]
    exact ref_eq _ _

end Cert.FoxOClaim

end
-- ==== Proof.FoxODxClaim.lean ====
/- The gradient of the forgetting attention's result through its output product. Each grid point's block of the product, the array the grid ends with,
   and the claims against the plain product. -/
module

public import proofs.«01_k».proof.Defs
public import proofs.«01_k».proof.Proof.Gen.FoxODxIdeal.Value
public import proofs.«01_k».proof.Proof.Gen.FoxODxReferenceIdeal.Read
public import proofs.«01_k».proof.Proof.Products
public import proofs.«01_k».proof.Proof.Reals
public import Idealize.ShloMosaic.Adequacy
public import Idealize.ShloMosaic.Init

@[expose] public section

noncomputable section

namespace Cert.FoxODxClaim

open Idealize.ShloMosaic Idealize.SL.Sem Cert.Products Cert.Reals

section Kernel
open Cert.FoxODxIdeal Cert.FoxODxIdeal.Gen Cert.FoxODxIdeal.Value Idealize.ShloMosaic.TcCoe

/-- A grid point's product of its blocks. -/
theorem pay1_apply (a : FVec Ideal S1024x2048 .bf16) (b : FVec Ideal S512x2048 .bf16) (p : Fin 1024) (q : Fin 512) :
    k0_pay1 (F := Ideal) a b (ix2 p q) = ∑ d : Fin 2048, a (ix2 p d) * b (ix2 q d) := by
  unfold k0_pay1
  pointwise

variable (m : (ℓ : Loc nD τ sig) → Buf (Elt Ideal) ℓ) (c : Dev nD)

/-- The arguments as arrays of extended reals. -/
abbrev argA : S4096x2048.Idx → EReal := m ((c : Thread nD τ).loc main_arg0)
@[inherit_doc argA] abbrev argB : S1024x2048.Idx → EReal := m ((c : Thread nD τ).loc main_arg1)

/-- The number of grid points. -/
theorem N_eq : cfg0.N = 8 := N_0

/-- Where the windows lie. -/
theorem index_eq : ∀ t : Fin grid0.N,
    (win0_0.index t 0 = t.val / 2 ∧ win0_0.index t 1 = 0)
    ∧ (win0_1.index t 0 = t.val % 2 ∧ win0_1.index t 1 = 0)
    ∧ (win0_2.index t 0 = t.val / 2 ∧ win0_2.index t 1 = t.val % 2) := by decide +kernel

/-- The block of the left factor read at a point. -/
theorem iblk_a (t : Fin cfg0.N) (p : Fin 1024) (q : Fin 2048) (p' : Fin 4096) (q' : Fin 2048)
    (hp : p'.val = t.val / 2 * 1024 + p.val) (hq : q'.val = 0 * 2048 + q.val) :
    (iblk (F := Ideal) m c 0 t : S1024x2048.Idx → EReal) (ix2 p q) = argA m c (ix2 p' q') := by
  obtain ⟨⟨e0, e1⟩, -⟩ := index_eq t
  show (V (F := Ideal) m c main_arg0 : S4096x2048.Idx → EReal) ((win0_0.rect t).emb (ix2 p q)) = _
  rw [V_main_arg0]
  refine congrArg (argA m c) (funext fun a => Fin.ext ?_)
  match a with
  | ⟨0, _⟩ => refine (Pipeline.Window.rect_emb_val win0_0 t _ 0).trans ?_; rw [e0]; exact hp.symm
  | ⟨1, _⟩ => refine (Pipeline.Window.rect_emb_val win0_0 t _ 1).trans ?_; rw [e1]; exact hq.symm

/-- The block of the right factor read at a point. -/
theorem iblk_b (t : Fin cfg0.N) (p : Fin 512) (q : Fin 2048) (p' : Fin 1024) (q' : Fin 2048)
    (hp : p'.val = t.val % 2 * 512 + p.val) (hq : q'.val = 0 * 2048 + q.val) :
    (iblk (F := Ideal) m c 1 t : S512x2048.Idx → EReal) (ix2 p q) = argB m c (ix2 p' q') := by
  obtain ⟨-, ⟨e0, e1⟩, -⟩ := index_eq t
  show (V (F := Ideal) m c main_arg1 : S1024x2048.Idx → EReal) ((win0_1.rect t).emb (ix2 p q)) = _
  rw [V_main_arg1]
  refine congrArg (argB m c) (funext fun a => Fin.ext ?_)
  match a with
  | ⟨0, _⟩ => refine (Pipeline.Window.rect_emb_val win0_1 t _ 0).trans ?_; rw [e0]; exact hp.symm
  | ⟨1, _⟩ => refine (Pipeline.Window.rect_emb_val win0_1 t _ 1).trans ?_; rw [e1]; exact hq.symm

/-- The row and the column of the product that a grid point's block holds. -/
def tok (t : Fin cfg0.N) (p : Fin 1024) : Fin 4096 :=
  ⟨t.val / 2 * 1024 + p.val, by have h : t.val < 8 := lt_of_lt_of_eq t.isLt N_eq; omega⟩
@[inherit_doc tok] def col (t : Fin cfg0.N) (q : Fin 512) : Fin 1024 :=
  ⟨t.val % 2 * 512 + q.val, by have h : t.val < 8 := lt_of_lt_of_eq t.isLt N_eq; omega⟩

/-- The array after the grid. -/
theorem final : (dats (F := Ideal) m 0 c).arrAt 2 cfg0.N = (nt (argA m c) (argB m c) : S4096x1024.Idx → EReal) := by
  refine (dats (F := Ideal) m 0 c).arrAt_eq_of_cover 2 _ (fun t _ => ?_) (fun i => ?_)
  · rw [flushed2]
    obtain ⟨-, -, e0, e1⟩ := index_eq t
    funext y
    obtain ⟨p, q, rfl⟩ : ∃ (p : Fin 1024) (q : Fin 512), y = ix2 p q := ⟨y 0, y 1, eq_ix2 y⟩
    unfold out0_2
    refine Eq.trans (congrFun (View.canon_unit_zero (Val := Elt Ideal) (S := S1024x512) origin _ _) _) ?_
    refine (pay1_apply _ _ p q).trans ?_
    show _ = (nt (argA m c) (argB m c) : S4096x1024.Idx → EReal) ((win0_2.rect t).emb (ix2 p q))
    have f : (win0_2.rect t).emb (ix2 p q) = ix2 (tok t p) (col t q) := funext fun a => Fin.ext (by
      match a with
      | ⟨0, _⟩ => refine (Pipeline.Window.rect_emb_val win0_2 t _ 0).trans ?_; rw [e0]; rfl
      | ⟨1, _⟩ => refine (Pipeline.Window.rect_emb_val win0_2 t _ 1).trans ?_; rw [e1]; rfl)
    rw [f]
    exact Finset.sum_congr rfl fun d _ => congrArg₂ (fun x y : EReal => x * y)
      ((congrFun (View.ld_unit_zero (Val := Elt Ideal) (S := S1024x2048) origin _ _) _).trans (iblk_a m c t p d (tok t p) d rfl (by omega)))
      ((congrFun (View.ld_unit_zero (Val := Elt Ideal) (S := S512x2048) origin _ _) _).trans (iblk_b m c t q d (col t q) d rfl (by omega)))
  · have h0 : (i 0 : ℕ) < 4096 := (i 0).isLt
    have h1 : (i 1 : ℕ) < 1024 := (i 1).isLt
    let t : Fin cfg0.N := ⟨(i 0 : ℕ) / 1024 * 2 + (i 1 : ℕ) / 512, lt_of_lt_of_eq (by omega) N_eq.symm⟩
    refine ⟨t, flush0_2 t, ?_⟩
    obtain ⟨-, -, e0, e1⟩ := index_eq t
    have ht : t.val = (i 0 : ℕ) / 1024 * 2 + (i 1 : ℕ) / 512 := rfl
    show i ∈ ((View.whole main_v0).slice (win0_2.rect t)).set
    rw [View.set_slice_whole, Rect.mem_set_unit]
    intro a
    match a with
    | ⟨0, _⟩ =>
      show win0_2.index t 0 * 1024 ≤ (i 0 : ℕ) ∧ (i 0 : ℕ) < win0_2.index t 0 * 1024 + 1024
      rw [e0]; omega
    | ⟨1, _⟩ =>
      show win0_2.index t 1 * 512 ≤ (i 1 : ℕ) ∧ (i 1 : ℕ) < win0_2.index t 1 * 512 + 512
      rw [e1]; omega

end Kernel

/-- The reference's result is the array the grid ends with. -/
theorem ref_eq (A : FVec Ideal Cert.FoxODxReferenceIdeal.S4096x2048 .bf16) (B : FVec Ideal Cert.FoxODxReferenceIdeal.S1024x2048 .bf16) :
    (Cert.FoxODxReferenceIdeal.Read.val_main_v4 (F := Ideal) A B : Cert.FoxODxReferenceIdeal.S4096x1024.Idx → EReal) = nt (m := 4096) (n := 1024) (k := 2048) A B := by
  funext i
  obtain ⟨u, v, rfl⟩ : ∃ (u : Fin 4096) (v : Fin 1024), i = ix2 u v := ⟨i 0, i 1, eq_ix2 i⟩
  unfold Cert.FoxODxReferenceIdeal.Read.val_main_v4 Cert.FoxODxReferenceIdeal.Read.val_main_v3 Cert.FoxODxReferenceIdeal.Read.val_main_v1
  pointwise
  rfl

/-- The reference runs and keeps its arguments. -/
theorem frame_ref : Cert.quiescent_FoxODxReferenceIdeal := fun m ρ _ =>
  (θ_run Cert.FoxODxReferenceIdeal.defs _ _).mono (fun r h => ⟨fun c => (h c).2, sem_eq_zero_of_no_sems (by decide) r.2⟩)
    (Cert.FoxODxReferenceIdeal.Value.run (F := Ideal) m ρ)

/-- The kernel and the reference end with equal results. -/
theorem algebraic : Cert.algebraic_FoxODxIdeal_FoxODxReferenceIdeal := by
  intro m g m' g' _ hagree
  refine ⟨fun c => nt (argA m c) (argB m c), ?_, ?_⟩
  · refine (θ_run Cert.FoxODxIdeal.defs _ _).mono (fun r h c => ?_) (Cert.FoxODxIdeal.Value.run_blocks (F := Ideal) m g)
    obtain ⟨h0, hargs⟩ := h c
    exact ⟨h0.trans (final m c), hargs⟩
  · refine (θ_run Cert.FoxODxReferenceIdeal.defs _ _).mono (fun r h c => ?_) (Cert.FoxODxReferenceIdeal.Value.run (F := Ideal) m' g')
    obtain ⟨h0, hargs⟩ := h c
    obtain ⟨a0, a1⟩ := hagree c
    refine ⟨h0.trans ?_, hargs⟩
    rw [Cert.FoxODxReferenceIdeal.Read.val_main_v4_eq, a0, a1]
    exact ref_eq _ _

end Cert.FoxODxClaim

end
-- ==== Proof.FoxODwClaim.lean ====
/- The gradient of the forgetting attention's output weights. Each grid point's block of the product, the array the grid ends with,
   and the claims against the plain product. -/
module

public import proofs.«01_k».proof.Defs
public import proofs.«01_k».proof.Proof.Gen.FoxODwIdeal.Value
public import proofs.«01_k».proof.Proof.Gen.FoxODwReferenceIdeal.Read
public import proofs.«01_k».proof.Proof.Products
public import proofs.«01_k».proof.Proof.Reals
public import Idealize.ShloMosaic.Adequacy
public import Idealize.ShloMosaic.Init

@[expose] public section

noncomputable section

namespace Cert.FoxODwClaim

open Idealize.ShloMosaic Idealize.SL.Sem Cert.Products Cert.Reals

section Kernel
open Cert.FoxODwIdeal Cert.FoxODwIdeal.Gen Cert.FoxODwIdeal.Value Idealize.ShloMosaic.TcCoe

/-- The accumulator starts at zero. -/
theorem pay1_apply (p : Fin 1024) (q : Fin 1024) : k0_pay1 (F := Ideal) (ix2 p q) = 0 := by
  unfold k0_pay1
  pointwise

/-- A grid point adds its blocks' product to what the accumulator holds. -/
theorem pay2_apply (a : FVec Ideal S2048x1024 .f32) (acc : FVec Ideal S1024x1024 .f32) (b : FVec Ideal S2048x1024 .bf16)
    (p : Fin 1024) (q : Fin 1024) :
    k0_pay2 (F := Ideal) a acc b (ix2 p q) = acc (ix2 p q) + ∑ d : Fin 2048, a (ix2 d p) * b (ix2 d q) := by
  unfold k0_pay2
  pointwise

variable (m : (ℓ : Loc nD τ sig) → Buf (Elt Ideal) ℓ) (c : Dev nD)

/-- The arguments as arrays of extended reals. -/
abbrev argA : S4096x1024.Idx → EReal := m ((c : Thread nD τ).loc main_arg0)
@[inherit_doc argA] abbrev argB : S4096x2048.Idx → EReal := m ((c : Thread nD τ).loc main_arg1)

/-- The number of grid points. -/
theorem N_eq : cfg0.N = 4 := N_0

/-- Where the windows lie. -/
theorem index_eq : ∀ t : Fin grid0.N,
    (win0_0.index t 0 = t.val % 2 ∧ win0_0.index t 1 = 0)
    ∧ (win0_1.index t 0 = t.val % 2 ∧ win0_1.index t 1 = t.val / 2 % 2)
    ∧ (win0_2.index t 0 = 0 ∧ win0_2.index t 1 = t.val / 2 % 2) := by decide +kernel

/-- The block of the left factor read at a point. -/
theorem iblk_a (t : Fin cfg0.N) (p : Fin 2048) (q : Fin 1024) (p' : Fin 4096) (q' : Fin 1024)
    (hp : p'.val = t.val % 2 * 2048 + p.val) (hq : q'.val = 0 * 1024 + q.val) :
    (iblk (F := Ideal) m c 0 t : S2048x1024.Idx → EReal) (ix2 p q) = argA m c (ix2 p' q') := by
  obtain ⟨⟨e0, e1⟩, -⟩ := index_eq t
  show (V (F := Ideal) m c main_arg0 : S4096x1024.Idx → EReal) ((win0_0.rect t).emb (ix2 p q)) = _
  rw [V_main_arg0]
  refine congrArg (argA m c) (funext fun a => Fin.ext ?_)
  match a with
  | ⟨0, _⟩ => refine (Pipeline.Window.rect_emb_val win0_0 t _ 0).trans ?_; rw [e0]; exact hp.symm
  | ⟨1, _⟩ => refine (Pipeline.Window.rect_emb_val win0_0 t _ 1).trans ?_; rw [e1]; exact hq.symm

/-- The block of the right factor read at a point. -/
theorem iblk_b (t : Fin cfg0.N) (p : Fin 2048) (q : Fin 1024) (p' : Fin 4096) (q' : Fin 2048)
    (hp : p'.val = t.val % 2 * 2048 + p.val) (hq : q'.val = t.val / 2 % 2 * 1024 + q.val) :
    (iblk (F := Ideal) m c 1 t : S2048x1024.Idx → EReal) (ix2 p q) = argB m c (ix2 p' q') := by
  obtain ⟨-, ⟨e0, e1⟩, -⟩ := index_eq t
  show (V (F := Ideal) m c main_arg1 : S4096x2048.Idx → EReal) ((win0_1.rect t).emb (ix2 p q)) = _
  rw [V_main_arg1]
  refine congrArg (argB m c) (funext fun a => Fin.ext ?_)
  match a with
  | ⟨0, _⟩ => refine (Pipeline.Window.rect_emb_val win0_1 t _ 0).trans ?_; rw [e0]; exact hp.symm
  | ⟨1, _⟩ => refine (Pipeline.Window.rect_emb_val win0_1 t _ 1).trans ?_; rw [e1]; exact hq.symm

/-- The array after the grid. -/
theorem final : G2 (F := Ideal) m c = tn (argA m c) (argB m c) := by
  funext i
  obtain ⟨u, v, rfl⟩ : ∃ (u : Fin 1024) (v : Fin 2048), i = ix2 u v := ⟨i 0, i 1, eq_ix2 i⟩
  have hN := N_eq
  have hu := u.isLt
  have hv := v.isLt
  have hr : run2Of (ix2 u v) = 2 * (u.val / 1024) + v.val / 1024 := by
    show 2 * (u.val / 1024 - 0) + 1 * (v.val / 1024 - 0) = _
    omega
  have h1 : 2 * run2Of (ix2 u v) + 1 < cfg0.N := by omega
  have h0 : 2 * run2Of (ix2 u v) < cfg0.N := by omega
  have hl : loc2Of (ix2 u v) = ix2 ⟨u.val % 1024, Nat.mod_lt _ (by decide)⟩ ⟨v.val % 1024, Nat.mod_lt _ (by decide)⟩ :=
    eq_ix2 _
  unfold G2
  rw [dif_pos h1, Pipeline.accAt_succ, Pipeline.accAt_zero, hl]
  unfold step2 reset2
  refine (pay2_apply _ _ _ _ _).trans ?_
  rw [pay2_apply, pay1_apply, zero_add]
  unfold tn
  rw [sum_two_blocks (show 4096 = 2048 + 2048 from rfl)]
  refine congrArg₂ (· + ·) ?_ ?_ <;> refine Finset.sum_congr rfl fun n _ => ?_
  · exact congrArg₂ (fun x y : EReal => x * y)
      (iblk_a m c ⟨2 * run2Of (ix2 u v), h0⟩ n _ ⟨n.val, by omega⟩ u (by dsimp only; omega) (by dsimp only; omega))
      (iblk_b m c ⟨2 * run2Of (ix2 u v), h0⟩ n _ ⟨n.val, by omega⟩ v (by dsimp only; omega) (by dsimp only; omega))
  · exact congrArg₂ (fun x y : EReal => x * y)
      (iblk_a m c ⟨2 * run2Of (ix2 u v) + 1, h1⟩ n _ ⟨2048 + n.val, by omega⟩ u (by dsimp only; omega) (by dsimp only; omega))
      (iblk_b m c ⟨2 * run2Of (ix2 u v) + 1, h1⟩ n _ ⟨2048 + n.val, by omega⟩ v (by dsimp only; omega) (by dsimp only; omega))

end Kernel

/-- The reference's result is the array the grid ends with. -/
theorem ref_eq (A : FVec Ideal Cert.FoxODwReferenceIdeal.S4096x1024 .f32) (B : FVec Ideal Cert.FoxODwReferenceIdeal.S4096x2048 .bf16) :
    (Cert.FoxODwReferenceIdeal.Read.val_main_v4 (F := Ideal) A B : Cert.FoxODwReferenceIdeal.S1024x2048.Idx → EReal) = tn (m := 1024) (n := 2048) (k := 4096) A B := by
  funext i
  obtain ⟨u, v, rfl⟩ : ∃ (u : Fin 1024) (v : Fin 2048), i = ix2 u v := ⟨i 0, i 1, eq_ix2 i⟩
  unfold Cert.FoxODwReferenceIdeal.Read.val_main_v4 Cert.FoxODwReferenceIdeal.Read.val_main_v3 Cert.FoxODwReferenceIdeal.Read.val_main_v2
  pointwise
  unfold tn
  exact Finset.sum_congr rfl fun n _ => mul_comm _ _

/-- The reference runs and keeps its arguments. -/
theorem frame_ref : Cert.quiescent_FoxODwReferenceIdeal := fun m ρ _ =>
  (θ_run Cert.FoxODwReferenceIdeal.defs _ _).mono (fun r h => ⟨fun c => (h c).2, sem_eq_zero_of_no_sems (by decide) r.2⟩)
    (Cert.FoxODwReferenceIdeal.Value.run (F := Ideal) m ρ)

/-- The kernel and the reference end with equal results. -/
theorem algebraic : Cert.algebraic_FoxODwIdeal_FoxODwReferenceIdeal := by
  intro m g m' g' _ hagree
  refine ⟨fun c => tn (argA m c) (argB m c), ?_, ?_⟩
  · refine (θ_run Cert.FoxODwIdeal.defs _ _).mono (fun r h c => ?_) (Cert.FoxODwIdeal.Value.run (F := Ideal) m g)
    obtain ⟨h0, hargs⟩ := h c
    exact ⟨h0.trans (final m c), hargs⟩
  · refine (θ_run Cert.FoxODwReferenceIdeal.defs _ _).mono (fun r h c => ?_) (Cert.FoxODwReferenceIdeal.Value.run (F := Ideal) m' g')
    obtain ⟨h0, hargs⟩ := h c
    obtain ⟨a0, a1⟩ := hagree c
    refine ⟨h0.trans ?_, hargs⟩
    rw [Cert.FoxODwReferenceIdeal.Read.val_main_v4_eq, a0, a1]
    exact ref_eq _ _

end Cert.FoxODwClaim

end
-- ==== Proof.PoolUpClaim.lean ====
/- The output product of the pooling branch. Each grid point's block of the product, the array the grid ends with,
   and the claims against the plain product. -/
module

public import proofs.«01_k».proof.Defs
public import proofs.«01_k».proof.Proof.Gen.PoolUpIdeal.Value
public import proofs.«01_k».proof.Proof.Gen.PoolUpReferenceIdeal.Read
public import proofs.«01_k».proof.Proof.Products
public import proofs.«01_k».proof.Proof.Reals
public import Idealize.ShloMosaic.Adequacy
public import Idealize.ShloMosaic.Init

@[expose] public section

noncomputable section

namespace Cert.PoolUpClaim

open Idealize.ShloMosaic Idealize.SL.Sem Cert.Products Cert.Reals

section Kernel
open Cert.PoolUpIdeal Cert.PoolUpIdeal.Gen Cert.PoolUpIdeal.Value Idealize.ShloMosaic.TcCoe

/-- A grid point's product of its blocks. -/
theorem pay1_apply (a : FVec Ideal S1024x512 .bf16) (b : FVec Ideal S512x512 .bf16) (p : Fin 1024) (q : Fin 512) :
    k0_pay1 (F := Ideal) a b (ix2 p q) = ∑ d : Fin 512, a (ix2 p d) * b (ix2 d q) := by
  unfold k0_pay1
  pointwise

variable (m : (ℓ : Loc nD τ sig) → Buf (Elt Ideal) ℓ) (c : Dev nD)

/-- The arguments as arrays of extended reals. -/
abbrev argA : S4096x512.Idx → EReal := m ((c : Thread nD τ).loc main_arg0)
@[inherit_doc argA] abbrev argB : S512x2048.Idx → EReal := m ((c : Thread nD τ).loc main_arg1)

/-- The number of grid points. -/
theorem N_eq : cfg0.N = 16 := N_0

/-- Where the windows lie. -/
theorem index_eq : ∀ t : Fin grid0.N,
    (win0_0.index t 0 = t.val / 4 ∧ win0_0.index t 1 = 0)
    ∧ (win0_1.index t 0 = 0 ∧ win0_1.index t 1 = t.val % 4)
    ∧ (win0_2.index t 0 = t.val / 4 ∧ win0_2.index t 1 = t.val % 4) := by decide +kernel

/-- The block of the left factor read at a point. -/
theorem iblk_a (t : Fin cfg0.N) (p : Fin 1024) (q : Fin 512) (p' : Fin 4096) (q' : Fin 512)
    (hp : p'.val = t.val / 4 * 1024 + p.val) (hq : q'.val = 0 * 512 + q.val) :
    (iblk (F := Ideal) m c 0 t : S1024x512.Idx → EReal) (ix2 p q) = argA m c (ix2 p' q') := by
  obtain ⟨⟨e0, e1⟩, -⟩ := index_eq t
  show (V (F := Ideal) m c main_arg0 : S4096x512.Idx → EReal) ((win0_0.rect t).emb (ix2 p q)) = _
  rw [V_main_arg0]
  refine congrArg (argA m c) (funext fun a => Fin.ext ?_)
  match a with
  | ⟨0, _⟩ => refine (Pipeline.Window.rect_emb_val win0_0 t _ 0).trans ?_; rw [e0]; exact hp.symm
  | ⟨1, _⟩ => refine (Pipeline.Window.rect_emb_val win0_0 t _ 1).trans ?_; rw [e1]; exact hq.symm

/-- The block of the right factor read at a point. -/
theorem iblk_b (t : Fin cfg0.N) (p : Fin 512) (q : Fin 512) (p' : Fin 512) (q' : Fin 2048)
    (hp : p'.val = 0 * 512 + p.val) (hq : q'.val = t.val % 4 * 512 + q.val) :
    (iblk (F := Ideal) m c 1 t : S512x512.Idx → EReal) (ix2 p q) = argB m c (ix2 p' q') := by
  obtain ⟨-, ⟨e0, e1⟩, -⟩ := index_eq t
  show (V (F := Ideal) m c main_arg1 : S512x2048.Idx → EReal) ((win0_1.rect t).emb (ix2 p q)) = _
  rw [V_main_arg1]
  refine congrArg (argB m c) (funext fun a => Fin.ext ?_)
  match a with
  | ⟨0, _⟩ => refine (Pipeline.Window.rect_emb_val win0_1 t _ 0).trans ?_; rw [e0]; exact hp.symm
  | ⟨1, _⟩ => refine (Pipeline.Window.rect_emb_val win0_1 t _ 1).trans ?_; rw [e1]; exact hq.symm

/-- The row and the column of the product that a grid point's block holds. -/
def tok (t : Fin cfg0.N) (p : Fin 1024) : Fin 4096 :=
  ⟨t.val / 4 * 1024 + p.val, by have h : t.val < 16 := lt_of_lt_of_eq t.isLt N_eq; omega⟩
@[inherit_doc tok] def col (t : Fin cfg0.N) (q : Fin 512) : Fin 2048 :=
  ⟨t.val % 4 * 512 + q.val, by have h : t.val < 16 := lt_of_lt_of_eq t.isLt N_eq; omega⟩

/-- The array after the grid. -/
theorem final : (dats (F := Ideal) m 0 c).arrAt 2 cfg0.N = (nn (argA m c) (argB m c) : S4096x2048.Idx → EReal) := by
  refine (dats (F := Ideal) m 0 c).arrAt_eq_of_cover 2 _ (fun t _ => ?_) (fun i => ?_)
  · rw [flushed2]
    obtain ⟨-, -, e0, e1⟩ := index_eq t
    funext y
    obtain ⟨p, q, rfl⟩ : ∃ (p : Fin 1024) (q : Fin 512), y = ix2 p q := ⟨y 0, y 1, eq_ix2 y⟩
    unfold out0_2
    refine Eq.trans (congrFun (View.canon_unit_zero (Val := Elt Ideal) (S := S1024x512) origin _ _) _) ?_
    refine (pay1_apply _ _ p q).trans ?_
    show _ = (nn (argA m c) (argB m c) : S4096x2048.Idx → EReal) ((win0_2.rect t).emb (ix2 p q))
    have f : (win0_2.rect t).emb (ix2 p q) = ix2 (tok t p) (col t q) := funext fun a => Fin.ext (by
      match a with
      | ⟨0, _⟩ => refine (Pipeline.Window.rect_emb_val win0_2 t _ 0).trans ?_; rw [e0]; rfl
      | ⟨1, _⟩ => refine (Pipeline.Window.rect_emb_val win0_2 t _ 1).trans ?_; rw [e1]; rfl)
    rw [f]
    exact Finset.sum_congr rfl fun d _ => congrArg₂ (fun x y : EReal => x * y)
      ((congrFun (View.ld_unit_zero (Val := Elt Ideal) (S := S1024x512) origin _ _) _).trans (iblk_a m c t p d (tok t p) d rfl (by omega)))
      ((congrFun (View.ld_unit_zero (Val := Elt Ideal) (S := S512x512) origin _ _) _).trans (iblk_b m c t d q d (col t q) (by omega) rfl))
  · have h0 : (i 0 : ℕ) < 4096 := (i 0).isLt
    have h1 : (i 1 : ℕ) < 2048 := (i 1).isLt
    let t : Fin cfg0.N := ⟨(i 0 : ℕ) / 1024 * 4 + (i 1 : ℕ) / 512, lt_of_lt_of_eq (by omega) N_eq.symm⟩
    refine ⟨t, flush0_2 t, ?_⟩
    obtain ⟨-, -, e0, e1⟩ := index_eq t
    have ht : t.val = (i 0 : ℕ) / 1024 * 4 + (i 1 : ℕ) / 512 := rfl
    show i ∈ ((View.whole main_v0).slice (win0_2.rect t)).set
    rw [View.set_slice_whole, Rect.mem_set_unit]
    intro a
    match a with
    | ⟨0, _⟩ =>
      show win0_2.index t 0 * 1024 ≤ (i 0 : ℕ) ∧ (i 0 : ℕ) < win0_2.index t 0 * 1024 + 1024
      rw [e0]; omega
    | ⟨1, _⟩ =>
      show win0_2.index t 1 * 512 ≤ (i 1 : ℕ) ∧ (i 1 : ℕ) < win0_2.index t 1 * 512 + 512
      rw [e1]; omega

end Kernel

/-- The reference's result is the array the grid ends with. -/
theorem ref_eq (A : FVec Ideal Cert.PoolUpReferenceIdeal.S4096x512 .bf16) (B : FVec Ideal Cert.PoolUpReferenceIdeal.S512x2048 .bf16) :
    (Cert.PoolUpReferenceIdeal.Read.val_main_v2 (F := Ideal) A B : Cert.PoolUpReferenceIdeal.S4096x2048.Idx → EReal) = nn (m := 4096) (n := 2048) (k := 512) A B := by
  funext i
  obtain ⟨u, v, rfl⟩ : ∃ (u : Fin 4096) (v : Fin 2048), i = ix2 u v := ⟨i 0, i 1, eq_ix2 i⟩
  unfold Cert.PoolUpReferenceIdeal.Read.val_main_v2 Cert.PoolUpReferenceIdeal.Read.val_main_v1 Cert.PoolUpReferenceIdeal.Read.val_main_v0
  pointwise
  rfl

/-- The reference runs and keeps its arguments. -/
theorem frame_ref : Cert.quiescent_PoolUpReferenceIdeal := fun m ρ _ =>
  (θ_run Cert.PoolUpReferenceIdeal.defs _ _).mono (fun r h => ⟨fun c => (h c).2, sem_eq_zero_of_no_sems (by decide) r.2⟩)
    (Cert.PoolUpReferenceIdeal.Value.run (F := Ideal) m ρ)

/-- The kernel and the reference end with equal results. -/
theorem algebraic : Cert.algebraic_PoolUpIdeal_PoolUpReferenceIdeal := by
  intro m g m' g' _ hagree
  refine ⟨fun c => nn (argA m c) (argB m c), ?_, ?_⟩
  · refine (θ_run Cert.PoolUpIdeal.defs _ _).mono (fun r h c => ?_) (Cert.PoolUpIdeal.Value.run_blocks (F := Ideal) m g)
    obtain ⟨h0, hargs⟩ := h c
    exact ⟨h0.trans (final m c), hargs⟩
  · refine (θ_run Cert.PoolUpReferenceIdeal.defs _ _).mono (fun r h c => ?_) (Cert.PoolUpReferenceIdeal.Value.run (F := Ideal) m' g')
    obtain ⟨h0, hargs⟩ := h c
    obtain ⟨a0, a1⟩ := hagree c
    refine ⟨h0.trans ?_, hargs⟩
    rw [Cert.PoolUpReferenceIdeal.Read.val_main_v2_eq, a0, a1]
    exact ref_eq _ _

end Cert.PoolUpClaim

end
-- ==== Proof.PoolUpDxClaim.lean ====
/- The gradient of the pooling branch, and of the memory attention, through its output product. Each grid point's block of the product, the array the grid ends with,
   and the claims against the plain product. -/
module

public import proofs.«01_k».proof.Defs
public import proofs.«01_k».proof.Proof.Gen.PoolUpDxIdeal.Value
public import proofs.«01_k».proof.Proof.Gen.PoolUpDxReferenceIdeal.Read
public import proofs.«01_k».proof.Proof.Products
public import proofs.«01_k».proof.Proof.Reals
public import Idealize.ShloMosaic.Adequacy
public import Idealize.ShloMosaic.Init

@[expose] public section

noncomputable section

namespace Cert.PoolUpDxClaim

open Idealize.ShloMosaic Idealize.SL.Sem Cert.Products Cert.Reals

section Kernel
open Cert.PoolUpDxIdeal Cert.PoolUpDxIdeal.Gen Cert.PoolUpDxIdeal.Value Idealize.ShloMosaic.TcCoe

/-- A grid point's product of its blocks. -/
theorem pay1_apply (a : FVec Ideal S1024x2048 .bf16) (b : FVec Ideal S512x2048 .bf16) (p : Fin 1024) (q : Fin 512) :
    k0_pay1 (F := Ideal) a b (ix2 p q) = ∑ d : Fin 2048, a (ix2 p d) * b (ix2 q d) := by
  unfold k0_pay1
  pointwise

variable (m : (ℓ : Loc nD τ sig) → Buf (Elt Ideal) ℓ) (c : Dev nD)

/-- The arguments as arrays of extended reals. -/
abbrev argA : S4096x2048.Idx → EReal := m ((c : Thread nD τ).loc main_arg0)
@[inherit_doc argA] abbrev argB : S512x2048.Idx → EReal := m ((c : Thread nD τ).loc main_arg1)

/-- The number of grid points. -/
theorem N_eq : cfg0.N = 4 := N_0

/-- Where the windows lie. -/
theorem index_eq : ∀ t : Fin grid0.N,
    (win0_0.index t 0 = t.val / 1 ∧ win0_0.index t 1 = 0)
    ∧ (win0_1.index t 0 = 0 ∧ win0_1.index t 1 = 0)
    ∧ (win0_2.index t 0 = t.val / 1 ∧ win0_2.index t 1 = 0) := by decide +kernel

/-- The block of the left factor read at a point. -/
theorem iblk_a (t : Fin cfg0.N) (p : Fin 1024) (q : Fin 2048) (p' : Fin 4096) (q' : Fin 2048)
    (hp : p'.val = t.val / 1 * 1024 + p.val) (hq : q'.val = 0 * 2048 + q.val) :
    (iblk (F := Ideal) m c 0 t : S1024x2048.Idx → EReal) (ix2 p q) = argA m c (ix2 p' q') := by
  obtain ⟨⟨e0, e1⟩, -⟩ := index_eq t
  show (V (F := Ideal) m c main_arg0 : S4096x2048.Idx → EReal) ((win0_0.rect t).emb (ix2 p q)) = _
  rw [V_main_arg0]
  refine congrArg (argA m c) (funext fun a => Fin.ext ?_)
  match a with
  | ⟨0, _⟩ => refine (Pipeline.Window.rect_emb_val win0_0 t _ 0).trans ?_; rw [e0]; exact hp.symm
  | ⟨1, _⟩ => refine (Pipeline.Window.rect_emb_val win0_0 t _ 1).trans ?_; rw [e1]; exact hq.symm

/-- The block of the right factor read at a point. -/
theorem iblk_b (t : Fin cfg0.N) (p : Fin 512) (q : Fin 2048) (p' : Fin 512) (q' : Fin 2048)
    (hp : p'.val = 0 * 512 + p.val) (hq : q'.val = 0 * 2048 + q.val) :
    (iblk (F := Ideal) m c 1 t : S512x2048.Idx → EReal) (ix2 p q) = argB m c (ix2 p' q') := by
  obtain ⟨-, ⟨e0, e1⟩, -⟩ := index_eq t
  show (V (F := Ideal) m c main_arg1 : S512x2048.Idx → EReal) ((win0_1.rect t).emb (ix2 p q)) = _
  rw [V_main_arg1]
  refine congrArg (argB m c) (funext fun a => Fin.ext ?_)
  match a with
  | ⟨0, _⟩ => refine (Pipeline.Window.rect_emb_val win0_1 t _ 0).trans ?_; rw [e0]; exact hp.symm
  | ⟨1, _⟩ => refine (Pipeline.Window.rect_emb_val win0_1 t _ 1).trans ?_; rw [e1]; exact hq.symm

/-- The row and the column of the product that a grid point's block holds. -/
def tok (t : Fin cfg0.N) (p : Fin 1024) : Fin 4096 :=
  ⟨t.val / 1 * 1024 + p.val, by have h : t.val < 4 := lt_of_lt_of_eq t.isLt N_eq; omega⟩
@[inherit_doc tok] def col (t : Fin cfg0.N) (q : Fin 512) : Fin 512 :=
  ⟨0 * 512 + q.val, by have h : t.val < 4 := lt_of_lt_of_eq t.isLt N_eq; omega⟩

/-- The array after the grid. -/
theorem final : (dats (F := Ideal) m 0 c).arrAt 2 cfg0.N = (nt (argA m c) (argB m c) : S4096x512.Idx → EReal) := by
  refine (dats (F := Ideal) m 0 c).arrAt_eq_of_cover 2 _ (fun t _ => ?_) (fun i => ?_)
  · rw [flushed2]
    obtain ⟨-, -, e0, e1⟩ := index_eq t
    funext y
    obtain ⟨p, q, rfl⟩ : ∃ (p : Fin 1024) (q : Fin 512), y = ix2 p q := ⟨y 0, y 1, eq_ix2 y⟩
    unfold out0_2
    refine Eq.trans (congrFun (View.canon_unit_zero (Val := Elt Ideal) (S := S1024x512) origin _ _) _) ?_
    refine (pay1_apply _ _ p q).trans ?_
    show _ = (nt (argA m c) (argB m c) : S4096x512.Idx → EReal) ((win0_2.rect t).emb (ix2 p q))
    have f : (win0_2.rect t).emb (ix2 p q) = ix2 (tok t p) (col t q) := funext fun a => Fin.ext (by
      match a with
      | ⟨0, _⟩ => refine (Pipeline.Window.rect_emb_val win0_2 t _ 0).trans ?_; rw [e0]; rfl
      | ⟨1, _⟩ => refine (Pipeline.Window.rect_emb_val win0_2 t _ 1).trans ?_; rw [e1]; rfl)
    rw [f]
    exact Finset.sum_congr rfl fun d _ => congrArg₂ (fun x y : EReal => x * y)
      ((congrFun (View.ld_unit_zero (Val := Elt Ideal) (S := S1024x2048) origin _ _) _).trans (iblk_a m c t p d (tok t p) d rfl (by omega)))
      ((congrFun (View.ld_unit_zero (Val := Elt Ideal) (S := S512x2048) origin _ _) _).trans (iblk_b m c t q d (col t q) d rfl (by omega)))
  · have h0 : (i 0 : ℕ) < 4096 := (i 0).isLt
    have h1 : (i 1 : ℕ) < 512 := (i 1).isLt
    let t : Fin cfg0.N := ⟨(i 0 : ℕ) / 1024 * 1 + (i 1 : ℕ) / 512, lt_of_lt_of_eq (by omega) N_eq.symm⟩
    refine ⟨t, flush0_2 t, ?_⟩
    obtain ⟨-, -, e0, e1⟩ := index_eq t
    have ht : t.val = (i 0 : ℕ) / 1024 * 1 + (i 1 : ℕ) / 512 := rfl
    show i ∈ ((View.whole main_v0).slice (win0_2.rect t)).set
    rw [View.set_slice_whole, Rect.mem_set_unit]
    intro a
    match a with
    | ⟨0, _⟩ =>
      show win0_2.index t 0 * 1024 ≤ (i 0 : ℕ) ∧ (i 0 : ℕ) < win0_2.index t 0 * 1024 + 1024
      rw [e0]; omega
    | ⟨1, _⟩ =>
      show win0_2.index t 1 * 512 ≤ (i 1 : ℕ) ∧ (i 1 : ℕ) < win0_2.index t 1 * 512 + 512
      rw [e1]; omega

end Kernel

/-- The reference's result is the array the grid ends with. -/
theorem ref_eq (A : FVec Ideal Cert.PoolUpDxReferenceIdeal.S4096x2048 .bf16) (B : FVec Ideal Cert.PoolUpDxReferenceIdeal.S512x2048 .bf16) :
    (Cert.PoolUpDxReferenceIdeal.Read.val_main_v4 (F := Ideal) A B : Cert.PoolUpDxReferenceIdeal.S4096x512.Idx → EReal) = nt (m := 4096) (n := 512) (k := 2048) A B := by
  funext i
  obtain ⟨u, v, rfl⟩ : ∃ (u : Fin 4096) (v : Fin 512), i = ix2 u v := ⟨i 0, i 1, eq_ix2 i⟩
  unfold Cert.PoolUpDxReferenceIdeal.Read.val_main_v4 Cert.PoolUpDxReferenceIdeal.Read.val_main_v3 Cert.PoolUpDxReferenceIdeal.Read.val_main_v1
  pointwise
  rfl

/-- The reference runs and keeps its arguments. -/
theorem frame_ref : Cert.quiescent_PoolUpDxReferenceIdeal := fun m ρ _ =>
  (θ_run Cert.PoolUpDxReferenceIdeal.defs _ _).mono (fun r h => ⟨fun c => (h c).2, sem_eq_zero_of_no_sems (by decide) r.2⟩)
    (Cert.PoolUpDxReferenceIdeal.Value.run (F := Ideal) m ρ)

/-- The kernel and the reference end with equal results. -/
theorem algebraic : Cert.algebraic_PoolUpDxIdeal_PoolUpDxReferenceIdeal := by
  intro m g m' g' _ hagree
  refine ⟨fun c => nt (argA m c) (argB m c), ?_, ?_⟩
  · refine (θ_run Cert.PoolUpDxIdeal.defs _ _).mono (fun r h c => ?_) (Cert.PoolUpDxIdeal.Value.run_blocks (F := Ideal) m g)
    obtain ⟨h0, hargs⟩ := h c
    exact ⟨h0.trans (final m c), hargs⟩
  · refine (θ_run Cert.PoolUpDxReferenceIdeal.defs _ _).mono (fun r h c => ?_) (Cert.PoolUpDxReferenceIdeal.Value.run (F := Ideal) m' g')
    obtain ⟨h0, hargs⟩ := h c
    obtain ⟨a0, a1⟩ := hagree c
    refine ⟨h0.trans ?_, hargs⟩
    rw [Cert.PoolUpDxReferenceIdeal.Read.val_main_v4_eq, a0, a1]
    exact ref_eq _ _

end Cert.PoolUpDxClaim

end
-- ==== Proof.PoolUpDwClaim.lean ====
/- The gradient of the pooling branch's output weights. Each grid point's block of the product, the array the grid ends with,
   and the claims against the plain product. -/
module

public import proofs.«01_k».proof.Defs
public import proofs.«01_k».proof.Proof.Gen.PoolUpDwIdeal.Value
public import proofs.«01_k».proof.Proof.Gen.PoolUpDwReferenceIdeal.Read
public import proofs.«01_k».proof.Proof.Products
public import proofs.«01_k».proof.Proof.Reals
public import Idealize.ShloMosaic.Adequacy
public import Idealize.ShloMosaic.Init

@[expose] public section

noncomputable section

namespace Cert.PoolUpDwClaim

open Idealize.ShloMosaic Idealize.SL.Sem Cert.Products Cert.Reals

section Kernel
open Cert.PoolUpDwIdeal Cert.PoolUpDwIdeal.Gen Cert.PoolUpDwIdeal.Value Idealize.ShloMosaic.TcCoe

/-- The accumulator starts at zero. -/
theorem pay1_apply (p : Fin 512) (q : Fin 1024) : k0_pay1 (F := Ideal) (ix2 p q) = 0 := by
  unfold k0_pay1
  pointwise

/-- A grid point adds its blocks' product to what the accumulator holds. -/
theorem pay2_apply (a : FVec Ideal S2048x512 .bf16) (acc : FVec Ideal S512x1024 .f32) (b : FVec Ideal S2048x1024 .bf16)
    (p : Fin 512) (q : Fin 1024) :
    k0_pay2 (F := Ideal) a acc b (ix2 p q) = acc (ix2 p q) + ∑ d : Fin 2048, a (ix2 d p) * b (ix2 d q) := by
  unfold k0_pay2
  pointwise

variable (m : (ℓ : Loc nD τ sig) → Buf (Elt Ideal) ℓ) (c : Dev nD)

/-- The arguments as arrays of extended reals. -/
abbrev argA : S4096x512.Idx → EReal := m ((c : Thread nD τ).loc main_arg0)
@[inherit_doc argA] abbrev argB : S4096x2048.Idx → EReal := m ((c : Thread nD τ).loc main_arg1)

/-- The number of grid points. -/
theorem N_eq : cfg0.N = 4 := N_0

/-- Where the windows lie. -/
theorem index_eq : ∀ t : Fin grid0.N,
    (win0_0.index t 0 = t.val % 2 ∧ win0_0.index t 1 = 0)
    ∧ (win0_1.index t 0 = t.val % 2 ∧ win0_1.index t 1 = t.val / 2 % 2)
    ∧ (win0_2.index t 0 = 0 ∧ win0_2.index t 1 = t.val / 2 % 2) := by decide +kernel

/-- The block of the left factor read at a point. -/
theorem iblk_a (t : Fin cfg0.N) (p : Fin 2048) (q : Fin 512) (p' : Fin 4096) (q' : Fin 512)
    (hp : p'.val = t.val % 2 * 2048 + p.val) (hq : q'.val = 0 * 512 + q.val) :
    (iblk (F := Ideal) m c 0 t : S2048x512.Idx → EReal) (ix2 p q) = argA m c (ix2 p' q') := by
  obtain ⟨⟨e0, e1⟩, -⟩ := index_eq t
  show (V (F := Ideal) m c main_arg0 : S4096x512.Idx → EReal) ((win0_0.rect t).emb (ix2 p q)) = _
  rw [V_main_arg0]
  refine congrArg (argA m c) (funext fun a => Fin.ext ?_)
  match a with
  | ⟨0, _⟩ => refine (Pipeline.Window.rect_emb_val win0_0 t _ 0).trans ?_; rw [e0]; exact hp.symm
  | ⟨1, _⟩ => refine (Pipeline.Window.rect_emb_val win0_0 t _ 1).trans ?_; rw [e1]; exact hq.symm

/-- The block of the right factor read at a point. -/
theorem iblk_b (t : Fin cfg0.N) (p : Fin 2048) (q : Fin 1024) (p' : Fin 4096) (q' : Fin 2048)
    (hp : p'.val = t.val % 2 * 2048 + p.val) (hq : q'.val = t.val / 2 % 2 * 1024 + q.val) :
    (iblk (F := Ideal) m c 1 t : S2048x1024.Idx → EReal) (ix2 p q) = argB m c (ix2 p' q') := by
  obtain ⟨-, ⟨e0, e1⟩, -⟩ := index_eq t
  show (V (F := Ideal) m c main_arg1 : S4096x2048.Idx → EReal) ((win0_1.rect t).emb (ix2 p q)) = _
  rw [V_main_arg1]
  refine congrArg (argB m c) (funext fun a => Fin.ext ?_)
  match a with
  | ⟨0, _⟩ => refine (Pipeline.Window.rect_emb_val win0_1 t _ 0).trans ?_; rw [e0]; exact hp.symm
  | ⟨1, _⟩ => refine (Pipeline.Window.rect_emb_val win0_1 t _ 1).trans ?_; rw [e1]; exact hq.symm

/-- The array after the grid. -/
theorem final : G2 (F := Ideal) m c = tn (argA m c) (argB m c) := by
  funext i
  obtain ⟨u, v, rfl⟩ : ∃ (u : Fin 512) (v : Fin 2048), i = ix2 u v := ⟨i 0, i 1, eq_ix2 i⟩
  have hN := N_eq
  have hu := u.isLt
  have hv := v.isLt
  have hr : run2Of (ix2 u v) = 2 * (u.val / 512) + v.val / 1024 := by
    show 2 * (u.val / 512 - 0) + 1 * (v.val / 1024 - 0) = _
    omega
  have h1 : 2 * run2Of (ix2 u v) + 1 < cfg0.N := by omega
  have h0 : 2 * run2Of (ix2 u v) < cfg0.N := by omega
  have hl : loc2Of (ix2 u v) = ix2 ⟨u.val % 512, Nat.mod_lt _ (by decide)⟩ ⟨v.val % 1024, Nat.mod_lt _ (by decide)⟩ :=
    eq_ix2 _
  unfold G2
  rw [dif_pos h1, Pipeline.accAt_succ, Pipeline.accAt_zero, hl]
  unfold step2 reset2
  refine (pay2_apply _ _ _ _ _).trans ?_
  rw [pay2_apply, pay1_apply, zero_add]
  unfold tn
  rw [sum_two_blocks (show 4096 = 2048 + 2048 from rfl)]
  refine congrArg₂ (· + ·) ?_ ?_ <;> refine Finset.sum_congr rfl fun n _ => ?_
  · exact congrArg₂ (fun x y : EReal => x * y)
      (iblk_a m c ⟨2 * run2Of (ix2 u v), h0⟩ n _ ⟨n.val, by omega⟩ u (by dsimp only; omega) (by dsimp only; omega))
      (iblk_b m c ⟨2 * run2Of (ix2 u v), h0⟩ n _ ⟨n.val, by omega⟩ v (by dsimp only; omega) (by dsimp only; omega))
  · exact congrArg₂ (fun x y : EReal => x * y)
      (iblk_a m c ⟨2 * run2Of (ix2 u v) + 1, h1⟩ n _ ⟨2048 + n.val, by omega⟩ u (by dsimp only; omega) (by dsimp only; omega))
      (iblk_b m c ⟨2 * run2Of (ix2 u v) + 1, h1⟩ n _ ⟨2048 + n.val, by omega⟩ v (by dsimp only; omega) (by dsimp only; omega))

end Kernel

/-- The reference's result is the array the grid ends with. -/
theorem ref_eq (A : FVec Ideal Cert.PoolUpDwReferenceIdeal.S4096x512 .bf16) (B : FVec Ideal Cert.PoolUpDwReferenceIdeal.S4096x2048 .bf16) :
    (Cert.PoolUpDwReferenceIdeal.Read.val_main_v5 (F := Ideal) A B : Cert.PoolUpDwReferenceIdeal.S512x2048.Idx → EReal) = tn (m := 512) (n := 2048) (k := 4096) A B := by
  funext i
  obtain ⟨u, v, rfl⟩ : ∃ (u : Fin 512) (v : Fin 2048), i = ix2 u v := ⟨i 0, i 1, eq_ix2 i⟩
  unfold Cert.PoolUpDwReferenceIdeal.Read.val_main_v5 Cert.PoolUpDwReferenceIdeal.Read.val_main_v4 Cert.PoolUpDwReferenceIdeal.Read.val_main_v3 Cert.PoolUpDwReferenceIdeal.Read.val_main_v1
  pointwise
  unfold tn
  exact Finset.sum_congr rfl fun n _ => mul_comm _ _

/-- The reference runs and keeps its arguments. -/
theorem frame_ref : Cert.quiescent_PoolUpDwReferenceIdeal := fun m ρ _ =>
  (θ_run Cert.PoolUpDwReferenceIdeal.defs _ _).mono (fun r h => ⟨fun c => (h c).2, sem_eq_zero_of_no_sems (by decide) r.2⟩)
    (Cert.PoolUpDwReferenceIdeal.Value.run (F := Ideal) m ρ)

/-- The kernel and the reference end with equal results. -/
theorem algebraic : Cert.algebraic_PoolUpDwIdeal_PoolUpDwReferenceIdeal := by
  intro m g m' g' _ hagree
  refine ⟨fun c => tn (argA m c) (argB m c), ?_, ?_⟩
  · refine (θ_run Cert.PoolUpDwIdeal.defs _ _).mono (fun r h c => ?_) (Cert.PoolUpDwIdeal.Value.run (F := Ideal) m g)
    obtain ⟨h0, hargs⟩ := h c
    exact ⟨h0.trans (final m c), hargs⟩
  · refine (θ_run Cert.PoolUpDwReferenceIdeal.defs _ _).mono (fun r h c => ?_) (Cert.PoolUpDwReferenceIdeal.Value.run (F := Ideal) m' g')
    obtain ⟨h0, hargs⟩ := h c
    obtain ⟨a0, a1⟩ := hagree c
    refine ⟨h0.trans ?_, hargs⟩
    rw [Cert.PoolUpDwReferenceIdeal.Read.val_main_v5_eq, a0, a1]
    exact ref_eq _ _

end Cert.PoolUpDwClaim

end
-- ==== Proof.MemOClaim.lean ====
/- The output product of the memory attention. Each grid point's block of the product, the array the grid ends with,
   and the claims against the plain product. -/
module

public import proofs.«01_k».proof.Defs
public import proofs.«01_k».proof.Proof.Gen.MemOIdeal.Value
public import proofs.«01_k».proof.Proof.Gen.MemOReferenceIdeal.Read
public import proofs.«01_k».proof.Proof.Products
public import proofs.«01_k».proof.Proof.Reals
public import Idealize.ShloMosaic.Adequacy
public import Idealize.ShloMosaic.Init

@[expose] public section

noncomputable section

namespace Cert.MemOClaim

open Idealize.ShloMosaic Idealize.SL.Sem Cert.Products Cert.Reals

section Kernel
open Cert.MemOIdeal Cert.MemOIdeal.Gen Cert.MemOIdeal.Value Idealize.ShloMosaic.TcCoe

/-- A grid point's product of its blocks. -/
theorem pay1_apply (a : FVec Ideal S1024x512 .f32) (b : FVec Ideal S512x512 .bf16) (p : Fin 1024) (q : Fin 512) :
    k0_pay1 (F := Ideal) a b (ix2 p q) = ∑ d : Fin 512, a (ix2 p d) * b (ix2 d q) := by
  unfold k0_pay1
  pointwise

variable (m : (ℓ : Loc nD τ sig) → Buf (Elt Ideal) ℓ) (c : Dev nD)

/-- The arguments as arrays of extended reals. -/
abbrev argA : S4096x512.Idx → EReal := m ((c : Thread nD τ).loc main_arg0)
@[inherit_doc argA] abbrev argB : S512x2048.Idx → EReal := m ((c : Thread nD τ).loc main_arg1)

/-- The number of grid points. -/
theorem N_eq : cfg0.N = 16 := N_0

/-- Where the windows lie. -/
theorem index_eq : ∀ t : Fin grid0.N,
    (win0_0.index t 0 = t.val / 4 ∧ win0_0.index t 1 = 0)
    ∧ (win0_1.index t 0 = 0 ∧ win0_1.index t 1 = t.val % 4)
    ∧ (win0_2.index t 0 = t.val / 4 ∧ win0_2.index t 1 = t.val % 4) := by decide +kernel

/-- The block of the left factor read at a point. -/
theorem iblk_a (t : Fin cfg0.N) (p : Fin 1024) (q : Fin 512) (p' : Fin 4096) (q' : Fin 512)
    (hp : p'.val = t.val / 4 * 1024 + p.val) (hq : q'.val = 0 * 512 + q.val) :
    (iblk (F := Ideal) m c 0 t : S1024x512.Idx → EReal) (ix2 p q) = argA m c (ix2 p' q') := by
  obtain ⟨⟨e0, e1⟩, -⟩ := index_eq t
  show (V (F := Ideal) m c main_arg0 : S4096x512.Idx → EReal) ((win0_0.rect t).emb (ix2 p q)) = _
  rw [V_main_arg0]
  refine congrArg (argA m c) (funext fun a => Fin.ext ?_)
  match a with
  | ⟨0, _⟩ => refine (Pipeline.Window.rect_emb_val win0_0 t _ 0).trans ?_; rw [e0]; exact hp.symm
  | ⟨1, _⟩ => refine (Pipeline.Window.rect_emb_val win0_0 t _ 1).trans ?_; rw [e1]; exact hq.symm

/-- The block of the right factor read at a point. -/
theorem iblk_b (t : Fin cfg0.N) (p : Fin 512) (q : Fin 512) (p' : Fin 512) (q' : Fin 2048)
    (hp : p'.val = 0 * 512 + p.val) (hq : q'.val = t.val % 4 * 512 + q.val) :
    (iblk (F := Ideal) m c 1 t : S512x512.Idx → EReal) (ix2 p q) = argB m c (ix2 p' q') := by
  obtain ⟨-, ⟨e0, e1⟩, -⟩ := index_eq t
  show (V (F := Ideal) m c main_arg1 : S512x2048.Idx → EReal) ((win0_1.rect t).emb (ix2 p q)) = _
  rw [V_main_arg1]
  refine congrArg (argB m c) (funext fun a => Fin.ext ?_)
  match a with
  | ⟨0, _⟩ => refine (Pipeline.Window.rect_emb_val win0_1 t _ 0).trans ?_; rw [e0]; exact hp.symm
  | ⟨1, _⟩ => refine (Pipeline.Window.rect_emb_val win0_1 t _ 1).trans ?_; rw [e1]; exact hq.symm

/-- The row and the column of the product that a grid point's block holds. -/
def tok (t : Fin cfg0.N) (p : Fin 1024) : Fin 4096 :=
  ⟨t.val / 4 * 1024 + p.val, by have h : t.val < 16 := lt_of_lt_of_eq t.isLt N_eq; omega⟩
@[inherit_doc tok] def col (t : Fin cfg0.N) (q : Fin 512) : Fin 2048 :=
  ⟨t.val % 4 * 512 + q.val, by have h : t.val < 16 := lt_of_lt_of_eq t.isLt N_eq; omega⟩

/-- The array after the grid. -/
theorem final : (dats (F := Ideal) m 0 c).arrAt 2 cfg0.N = (nn (argA m c) (argB m c) : S4096x2048.Idx → EReal) := by
  refine (dats (F := Ideal) m 0 c).arrAt_eq_of_cover 2 _ (fun t _ => ?_) (fun i => ?_)
  · rw [flushed2]
    obtain ⟨-, -, e0, e1⟩ := index_eq t
    funext y
    obtain ⟨p, q, rfl⟩ : ∃ (p : Fin 1024) (q : Fin 512), y = ix2 p q := ⟨y 0, y 1, eq_ix2 y⟩
    unfold out0_2
    refine Eq.trans (congrFun (View.canon_unit_zero (Val := Elt Ideal) (S := S1024x512) origin _ _) _) ?_
    refine (pay1_apply _ _ p q).trans ?_
    show _ = (nn (argA m c) (argB m c) : S4096x2048.Idx → EReal) ((win0_2.rect t).emb (ix2 p q))
    have f : (win0_2.rect t).emb (ix2 p q) = ix2 (tok t p) (col t q) := funext fun a => Fin.ext (by
      match a with
      | ⟨0, _⟩ => refine (Pipeline.Window.rect_emb_val win0_2 t _ 0).trans ?_; rw [e0]; rfl
      | ⟨1, _⟩ => refine (Pipeline.Window.rect_emb_val win0_2 t _ 1).trans ?_; rw [e1]; rfl)
    rw [f]
    exact Finset.sum_congr rfl fun d _ => congrArg₂ (fun x y : EReal => x * y)
      ((congrFun (View.ld_unit_zero (Val := Elt Ideal) (S := S1024x512) origin _ _) _).trans (iblk_a m c t p d (tok t p) d rfl (by omega)))
      ((congrFun (View.ld_unit_zero (Val := Elt Ideal) (S := S512x512) origin _ _) _).trans (iblk_b m c t d q d (col t q) (by omega) rfl))
  · have h0 : (i 0 : ℕ) < 4096 := (i 0).isLt
    have h1 : (i 1 : ℕ) < 2048 := (i 1).isLt
    let t : Fin cfg0.N := ⟨(i 0 : ℕ) / 1024 * 4 + (i 1 : ℕ) / 512, lt_of_lt_of_eq (by omega) N_eq.symm⟩
    refine ⟨t, flush0_2 t, ?_⟩
    obtain ⟨-, -, e0, e1⟩ := index_eq t
    have ht : t.val = (i 0 : ℕ) / 1024 * 4 + (i 1 : ℕ) / 512 := rfl
    show i ∈ ((View.whole main_v0).slice (win0_2.rect t)).set
    rw [View.set_slice_whole, Rect.mem_set_unit]
    intro a
    match a with
    | ⟨0, _⟩ =>
      show win0_2.index t 0 * 1024 ≤ (i 0 : ℕ) ∧ (i 0 : ℕ) < win0_2.index t 0 * 1024 + 1024
      rw [e0]; omega
    | ⟨1, _⟩ =>
      show win0_2.index t 1 * 512 ≤ (i 1 : ℕ) ∧ (i 1 : ℕ) < win0_2.index t 1 * 512 + 512
      rw [e1]; omega

end Kernel

/-- The reference's result is the array the grid ends with. -/
theorem ref_eq (A : FVec Ideal Cert.MemOReferenceIdeal.S4096x512 .f32) (B : FVec Ideal Cert.MemOReferenceIdeal.S512x2048 .bf16) :
    (Cert.MemOReferenceIdeal.Read.val_main_v1 (F := Ideal) A B : Cert.MemOReferenceIdeal.S4096x2048.Idx → EReal) = nn (m := 4096) (n := 2048) (k := 512) A B := by
  funext i
  obtain ⟨u, v, rfl⟩ : ∃ (u : Fin 4096) (v : Fin 2048), i = ix2 u v := ⟨i 0, i 1, eq_ix2 i⟩
  unfold Cert.MemOReferenceIdeal.Read.val_main_v1 Cert.MemOReferenceIdeal.Read.val_main_v0
  pointwise
  rfl

/-- The reference runs and keeps its arguments. -/
theorem frame_ref : Cert.quiescent_MemOReferenceIdeal := fun m ρ _ =>
  (θ_run Cert.MemOReferenceIdeal.defs _ _).mono (fun r h => ⟨fun c => (h c).2, sem_eq_zero_of_no_sems (by decide) r.2⟩)
    (Cert.MemOReferenceIdeal.Value.run (F := Ideal) m ρ)

/-- The kernel and the reference end with equal results. -/
theorem algebraic : Cert.algebraic_MemOIdeal_MemOReferenceIdeal := by
  intro m g m' g' _ hagree
  refine ⟨fun c => nn (argA m c) (argB m c), ?_, ?_⟩
  · refine (θ_run Cert.MemOIdeal.defs _ _).mono (fun r h c => ?_) (Cert.MemOIdeal.Value.run_blocks (F := Ideal) m g)
    obtain ⟨h0, hargs⟩ := h c
    exact ⟨h0.trans (final m c), hargs⟩
  · refine (θ_run Cert.MemOReferenceIdeal.defs _ _).mono (fun r h c => ?_) (Cert.MemOReferenceIdeal.Value.run (F := Ideal) m' g')
    obtain ⟨h0, hargs⟩ := h c
    obtain ⟨a0, a1⟩ := hagree c
    refine ⟨h0.trans ?_, hargs⟩
    rw [Cert.MemOReferenceIdeal.Read.val_main_v1_eq, a0, a1]
    exact ref_eq _ _

end Cert.MemOClaim

end
-- ==== Proof.MemODwClaim.lean ====
/- The gradient of the memory attention's output weights. Each grid point's block of the product, the array the grid ends with,
   and the claims against the plain product. -/
module

public import proofs.«01_k».proof.Defs
public import proofs.«01_k».proof.Proof.Gen.MemODwIdeal.Value
public import proofs.«01_k».proof.Proof.Gen.MemODwReferenceIdeal.Read
public import proofs.«01_k».proof.Proof.Products
public import proofs.«01_k».proof.Proof.Reals
public import Idealize.ShloMosaic.Adequacy
public import Idealize.ShloMosaic.Init

@[expose] public section

noncomputable section

namespace Cert.MemODwClaim

open Idealize.ShloMosaic Idealize.SL.Sem Cert.Products Cert.Reals

section Kernel
open Cert.MemODwIdeal Cert.MemODwIdeal.Gen Cert.MemODwIdeal.Value Idealize.ShloMosaic.TcCoe

/-- The accumulator starts at zero. -/
theorem pay1_apply (p : Fin 512) (q : Fin 1024) : k0_pay1 (F := Ideal) (ix2 p q) = 0 := by
  unfold k0_pay1
  pointwise

/-- A grid point adds its blocks' product to what the accumulator holds. -/
theorem pay2_apply (a : FVec Ideal S2048x512 .f32) (acc : FVec Ideal S512x1024 .f32) (b : FVec Ideal S2048x1024 .bf16)
    (p : Fin 512) (q : Fin 1024) :
    k0_pay2 (F := Ideal) a acc b (ix2 p q) = acc (ix2 p q) + ∑ d : Fin 2048, a (ix2 d p) * b (ix2 d q) := by
  unfold k0_pay2
  pointwise

variable (m : (ℓ : Loc nD τ sig) → Buf (Elt Ideal) ℓ) (c : Dev nD)

/-- The arguments as arrays of extended reals. -/
abbrev argA : S4096x512.Idx → EReal := m ((c : Thread nD τ).loc main_arg0)
@[inherit_doc argA] abbrev argB : S4096x2048.Idx → EReal := m ((c : Thread nD τ).loc main_arg1)

/-- The number of grid points. -/
theorem N_eq : cfg0.N = 4 := N_0

/-- Where the windows lie. -/
theorem index_eq : ∀ t : Fin grid0.N,
    (win0_0.index t 0 = t.val % 2 ∧ win0_0.index t 1 = 0)
    ∧ (win0_1.index t 0 = t.val % 2 ∧ win0_1.index t 1 = t.val / 2 % 2)
    ∧ (win0_2.index t 0 = 0 ∧ win0_2.index t 1 = t.val / 2 % 2) := by decide +kernel

/-- The block of the left factor read at a point. -/
theorem iblk_a (t : Fin cfg0.N) (p : Fin 2048) (q : Fin 512) (p' : Fin 4096) (q' : Fin 512)
    (hp : p'.val = t.val % 2 * 2048 + p.val) (hq : q'.val = 0 * 512 + q.val) :
    (iblk (F := Ideal) m c 0 t : S2048x512.Idx → EReal) (ix2 p q) = argA m c (ix2 p' q') := by
  obtain ⟨⟨e0, e1⟩, -⟩ := index_eq t
  show (V (F := Ideal) m c main_arg0 : S4096x512.Idx → EReal) ((win0_0.rect t).emb (ix2 p q)) = _
  rw [V_main_arg0]
  refine congrArg (argA m c) (funext fun a => Fin.ext ?_)
  match a with
  | ⟨0, _⟩ => refine (Pipeline.Window.rect_emb_val win0_0 t _ 0).trans ?_; rw [e0]; exact hp.symm
  | ⟨1, _⟩ => refine (Pipeline.Window.rect_emb_val win0_0 t _ 1).trans ?_; rw [e1]; exact hq.symm

/-- The block of the right factor read at a point. -/
theorem iblk_b (t : Fin cfg0.N) (p : Fin 2048) (q : Fin 1024) (p' : Fin 4096) (q' : Fin 2048)
    (hp : p'.val = t.val % 2 * 2048 + p.val) (hq : q'.val = t.val / 2 % 2 * 1024 + q.val) :
    (iblk (F := Ideal) m c 1 t : S2048x1024.Idx → EReal) (ix2 p q) = argB m c (ix2 p' q') := by
  obtain ⟨-, ⟨e0, e1⟩, -⟩ := index_eq t
  show (V (F := Ideal) m c main_arg1 : S4096x2048.Idx → EReal) ((win0_1.rect t).emb (ix2 p q)) = _
  rw [V_main_arg1]
  refine congrArg (argB m c) (funext fun a => Fin.ext ?_)
  match a with
  | ⟨0, _⟩ => refine (Pipeline.Window.rect_emb_val win0_1 t _ 0).trans ?_; rw [e0]; exact hp.symm
  | ⟨1, _⟩ => refine (Pipeline.Window.rect_emb_val win0_1 t _ 1).trans ?_; rw [e1]; exact hq.symm

/-- The array after the grid. -/
theorem final : G2 (F := Ideal) m c = tn (argA m c) (argB m c) := by
  funext i
  obtain ⟨u, v, rfl⟩ : ∃ (u : Fin 512) (v : Fin 2048), i = ix2 u v := ⟨i 0, i 1, eq_ix2 i⟩
  have hN := N_eq
  have hu := u.isLt
  have hv := v.isLt
  have hr : run2Of (ix2 u v) = 2 * (u.val / 512) + v.val / 1024 := by
    show 2 * (u.val / 512 - 0) + 1 * (v.val / 1024 - 0) = _
    omega
  have h1 : 2 * run2Of (ix2 u v) + 1 < cfg0.N := by omega
  have h0 : 2 * run2Of (ix2 u v) < cfg0.N := by omega
  have hl : loc2Of (ix2 u v) = ix2 ⟨u.val % 512, Nat.mod_lt _ (by decide)⟩ ⟨v.val % 1024, Nat.mod_lt _ (by decide)⟩ :=
    eq_ix2 _
  unfold G2
  rw [dif_pos h1, Pipeline.accAt_succ, Pipeline.accAt_zero, hl]
  unfold step2 reset2
  refine (pay2_apply _ _ _ _ _).trans ?_
  rw [pay2_apply, pay1_apply, zero_add]
  unfold tn
  rw [sum_two_blocks (show 4096 = 2048 + 2048 from rfl)]
  refine congrArg₂ (· + ·) ?_ ?_ <;> refine Finset.sum_congr rfl fun n _ => ?_
  · exact congrArg₂ (fun x y : EReal => x * y)
      (iblk_a m c ⟨2 * run2Of (ix2 u v), h0⟩ n _ ⟨n.val, by omega⟩ u (by dsimp only; omega) (by dsimp only; omega))
      (iblk_b m c ⟨2 * run2Of (ix2 u v), h0⟩ n _ ⟨n.val, by omega⟩ v (by dsimp only; omega) (by dsimp only; omega))
  · exact congrArg₂ (fun x y : EReal => x * y)
      (iblk_a m c ⟨2 * run2Of (ix2 u v) + 1, h1⟩ n _ ⟨2048 + n.val, by omega⟩ u (by dsimp only; omega) (by dsimp only; omega))
      (iblk_b m c ⟨2 * run2Of (ix2 u v) + 1, h1⟩ n _ ⟨2048 + n.val, by omega⟩ v (by dsimp only; omega) (by dsimp only; omega))

end Kernel

/-- The reference's result is the array the grid ends with. -/
theorem ref_eq (A : FVec Ideal Cert.MemODwReferenceIdeal.S4096x512 .f32) (B : FVec Ideal Cert.MemODwReferenceIdeal.S4096x2048 .bf16) :
    (Cert.MemODwReferenceIdeal.Read.val_main_v4 (F := Ideal) A B : Cert.MemODwReferenceIdeal.S512x2048.Idx → EReal) = tn (m := 512) (n := 2048) (k := 4096) A B := by
  funext i
  obtain ⟨u, v, rfl⟩ : ∃ (u : Fin 512) (v : Fin 2048), i = ix2 u v := ⟨i 0, i 1, eq_ix2 i⟩
  unfold Cert.MemODwReferenceIdeal.Read.val_main_v4 Cert.MemODwReferenceIdeal.Read.val_main_v3 Cert.MemODwReferenceIdeal.Read.val_main_v2
  pointwise
  unfold tn
  exact Finset.sum_congr rfl fun n _ => mul_comm _ _

/-- The reference runs and keeps its arguments. -/
theorem frame_ref : Cert.quiescent_MemODwReferenceIdeal := fun m ρ _ =>
  (θ_run Cert.MemODwReferenceIdeal.defs _ _).mono (fun r h => ⟨fun c => (h c).2, sem_eq_zero_of_no_sems (by decide) r.2⟩)
    (Cert.MemODwReferenceIdeal.Value.run (F := Ideal) m ρ)

/-- The kernel and the reference end with equal results. -/
theorem algebraic : Cert.algebraic_MemODwIdeal_MemODwReferenceIdeal := by
  intro m g m' g' _ hagree
  refine ⟨fun c => tn (argA m c) (argB m c), ?_, ?_⟩
  · refine (θ_run Cert.MemODwIdeal.defs _ _).mono (fun r h c => ?_) (Cert.MemODwIdeal.Value.run (F := Ideal) m g)
    obtain ⟨h0, hargs⟩ := h c
    exact ⟨h0.trans (final m c), hargs⟩
  · refine (θ_run Cert.MemODwReferenceIdeal.defs _ _).mono (fun r h c => ?_) (Cert.MemODwReferenceIdeal.Value.run (F := Ideal) m' g')
    obtain ⟨h0, hargs⟩ := h c
    obtain ⟨a0, a1⟩ := hagree c
    refine ⟨h0.trans ?_, hargs⟩
    rw [Cert.MemODwReferenceIdeal.Read.val_main_v4_eq, a0, a1]
    exact ref_eq _ _

end Cert.MemODwClaim

end
-- ==== Proof.MemKvClaim.lean ====
/- The memory's keys and values. Each grid point's block of the product, the array the grid ends with,
   and the claims against the plain product. -/
module

public import proofs.«01_k».proof.Defs
public import proofs.«01_k».proof.Proof.Gen.MemKvIdeal.Value
public import proofs.«01_k».proof.Proof.Gen.MemKvReferenceIdeal.Read
public import proofs.«01_k».proof.Proof.Products
public import proofs.«01_k».proof.Proof.Reals
public import Idealize.ShloMosaic.Adequacy
public import Idealize.ShloMosaic.Init

@[expose] public section

noncomputable section

namespace Cert.MemKvClaim

open Idealize.ShloMosaic Idealize.SL.Sem Cert.Products Cert.Reals

section Kernel
open Cert.MemKvIdeal Cert.MemKvIdeal.Gen Cert.MemKvIdeal.Value Idealize.ShloMosaic.TcCoe

/-- A grid point's product of its blocks. -/
theorem pay1_apply (a : FVec Ideal S512x2048 .bf16) (b : FVec Ideal S2048x512 .bf16) (p : Fin 512) (q : Fin 512) :
    k0_pay1 (F := Ideal) a b (ix2 p q) = ∑ d : Fin 2048, a (ix2 p d) * b (ix2 d q) := by
  unfold k0_pay1
  pointwise

variable (m : (ℓ : Loc nD τ sig) → Buf (Elt Ideal) ℓ) (c : Dev nD)

/-- The arguments as arrays of extended reals. -/
abbrev argA : S512x2048.Idx → EReal := m ((c : Thread nD τ).loc main_arg0)
@[inherit_doc argA] abbrev argB : S2048x1024.Idx → EReal := m ((c : Thread nD τ).loc main_arg1)

/-- The number of grid points. -/
theorem N_eq : cfg0.N = 2 := N_0

/-- Where the windows lie. -/
theorem index_eq : ∀ t : Fin grid0.N,
    (win0_0.index t 0 = 0 ∧ win0_0.index t 1 = 0)
    ∧ (win0_1.index t 0 = 0 ∧ win0_1.index t 1 = t.val % 2)
    ∧ (win0_2.index t 0 = 0 ∧ win0_2.index t 1 = t.val % 2) := by decide +kernel

/-- The block of the left factor read at a point. -/
theorem iblk_a (t : Fin cfg0.N) (p : Fin 512) (q : Fin 2048) (p' : Fin 512) (q' : Fin 2048)
    (hp : p'.val = 0 * 512 + p.val) (hq : q'.val = 0 * 2048 + q.val) :
    (iblk (F := Ideal) m c 0 t : S512x2048.Idx → EReal) (ix2 p q) = argA m c (ix2 p' q') := by
  obtain ⟨⟨e0, e1⟩, -⟩ := index_eq t
  show (V (F := Ideal) m c main_arg0 : S512x2048.Idx → EReal) ((win0_0.rect t).emb (ix2 p q)) = _
  rw [V_main_arg0]
  refine congrArg (argA m c) (funext fun a => Fin.ext ?_)
  match a with
  | ⟨0, _⟩ => refine (Pipeline.Window.rect_emb_val win0_0 t _ 0).trans ?_; rw [e0]; exact hp.symm
  | ⟨1, _⟩ => refine (Pipeline.Window.rect_emb_val win0_0 t _ 1).trans ?_; rw [e1]; exact hq.symm

/-- The block of the right factor read at a point. -/
theorem iblk_b (t : Fin cfg0.N) (p : Fin 2048) (q : Fin 512) (p' : Fin 2048) (q' : Fin 1024)
    (hp : p'.val = 0 * 2048 + p.val) (hq : q'.val = t.val % 2 * 512 + q.val) :
    (iblk (F := Ideal) m c 1 t : S2048x512.Idx → EReal) (ix2 p q) = argB m c (ix2 p' q') := by
  obtain ⟨-, ⟨e0, e1⟩, -⟩ := index_eq t
  show (V (F := Ideal) m c main_arg1 : S2048x1024.Idx → EReal) ((win0_1.rect t).emb (ix2 p q)) = _
  rw [V_main_arg1]
  refine congrArg (argB m c) (funext fun a => Fin.ext ?_)
  match a with
  | ⟨0, _⟩ => refine (Pipeline.Window.rect_emb_val win0_1 t _ 0).trans ?_; rw [e0]; exact hp.symm
  | ⟨1, _⟩ => refine (Pipeline.Window.rect_emb_val win0_1 t _ 1).trans ?_; rw [e1]; exact hq.symm

/-- The row and the column of the product that a grid point's block holds. -/
def tok (t : Fin cfg0.N) (p : Fin 512) : Fin 512 :=
  ⟨0 * 512 + p.val, by have h : t.val < 2 := lt_of_lt_of_eq t.isLt N_eq; omega⟩
@[inherit_doc tok] def col (t : Fin cfg0.N) (q : Fin 512) : Fin 1024 :=
  ⟨t.val % 2 * 512 + q.val, by have h : t.val < 2 := lt_of_lt_of_eq t.isLt N_eq; omega⟩

/-- The array after the grid. -/
theorem final : (dats (F := Ideal) m 0 c).arrAt 2 cfg0.N = (nn (argA m c) (argB m c) : S512x1024.Idx → EReal) := by
  refine (dats (F := Ideal) m 0 c).arrAt_eq_of_cover 2 _ (fun t _ => ?_) (fun i => ?_)
  · rw [flushed2]
    obtain ⟨-, -, e0, e1⟩ := index_eq t
    funext y
    obtain ⟨p, q, rfl⟩ : ∃ (p : Fin 512) (q : Fin 512), y = ix2 p q := ⟨y 0, y 1, eq_ix2 y⟩
    unfold out0_2
    refine Eq.trans (congrFun (View.canon_unit_zero (Val := Elt Ideal) (S := S512x512) origin _ _) _) ?_
    refine (pay1_apply _ _ p q).trans ?_
    show _ = (nn (argA m c) (argB m c) : S512x1024.Idx → EReal) ((win0_2.rect t).emb (ix2 p q))
    have f : (win0_2.rect t).emb (ix2 p q) = ix2 (tok t p) (col t q) := funext fun a => Fin.ext (by
      match a with
      | ⟨0, _⟩ => refine (Pipeline.Window.rect_emb_val win0_2 t _ 0).trans ?_; rw [e0]; rfl
      | ⟨1, _⟩ => refine (Pipeline.Window.rect_emb_val win0_2 t _ 1).trans ?_; rw [e1]; rfl)
    rw [f]
    exact Finset.sum_congr rfl fun d _ => congrArg₂ (fun x y : EReal => x * y)
      ((congrFun (View.ld_unit_zero (Val := Elt Ideal) (S := S512x2048) origin _ _) _).trans (iblk_a m c t p d (tok t p) d rfl (by omega)))
      ((congrFun (View.ld_unit_zero (Val := Elt Ideal) (S := S2048x512) origin _ _) _).trans (iblk_b m c t d q d (col t q) (by omega) rfl))
  · have h0 : (i 0 : ℕ) < 512 := (i 0).isLt
    have h1 : (i 1 : ℕ) < 1024 := (i 1).isLt
    let t : Fin cfg0.N := ⟨(i 0 : ℕ) / 512 * 2 + (i 1 : ℕ) / 512, lt_of_lt_of_eq (by omega) N_eq.symm⟩
    refine ⟨t, flush0_2 t, ?_⟩
    obtain ⟨-, -, e0, e1⟩ := index_eq t
    have ht : t.val = (i 0 : ℕ) / 512 * 2 + (i 1 : ℕ) / 512 := rfl
    show i ∈ ((View.whole main_v0).slice (win0_2.rect t)).set
    rw [View.set_slice_whole, Rect.mem_set_unit]
    intro a
    match a with
    | ⟨0, _⟩ =>
      show win0_2.index t 0 * 512 ≤ (i 0 : ℕ) ∧ (i 0 : ℕ) < win0_2.index t 0 * 512 + 512
      rw [e0]; omega
    | ⟨1, _⟩ =>
      show win0_2.index t 1 * 512 ≤ (i 1 : ℕ) ∧ (i 1 : ℕ) < win0_2.index t 1 * 512 + 512
      rw [e1]; omega

end Kernel

/-- The reference's result is the array the grid ends with. -/
theorem ref_eq (A : FVec Ideal Cert.MemKvReferenceIdeal.S512x2048 .bf16) (B : FVec Ideal Cert.MemKvReferenceIdeal.S2048x1024 .bf16) :
    (Cert.MemKvReferenceIdeal.Read.val_main_v2 (F := Ideal) A B : Cert.MemKvReferenceIdeal.S512x1024.Idx → EReal) = nn (m := 512) (n := 1024) (k := 2048) A B := by
  funext i
  obtain ⟨u, v, rfl⟩ : ∃ (u : Fin 512) (v : Fin 1024), i = ix2 u v := ⟨i 0, i 1, eq_ix2 i⟩
  unfold Cert.MemKvReferenceIdeal.Read.val_main_v2 Cert.MemKvReferenceIdeal.Read.val_main_v1 Cert.MemKvReferenceIdeal.Read.val_main_v0
  pointwise
  rfl

/-- The reference runs and keeps its arguments. -/
theorem frame_ref : Cert.quiescent_MemKvReferenceIdeal := fun m ρ _ =>
  (θ_run Cert.MemKvReferenceIdeal.defs _ _).mono (fun r h => ⟨fun c => (h c).2, sem_eq_zero_of_no_sems (by decide) r.2⟩)
    (Cert.MemKvReferenceIdeal.Value.run (F := Ideal) m ρ)

/-- The kernel and the reference end with equal results. -/
theorem algebraic : Cert.algebraic_MemKvIdeal_MemKvReferenceIdeal := by
  intro m g m' g' _ hagree
  refine ⟨fun c => nn (argA m c) (argB m c), ?_, ?_⟩
  · refine (θ_run Cert.MemKvIdeal.defs _ _).mono (fun r h c => ?_) (Cert.MemKvIdeal.Value.run_blocks (F := Ideal) m g)
    obtain ⟨h0, hargs⟩ := h c
    exact ⟨h0.trans (final m c), hargs⟩
  · refine (θ_run Cert.MemKvReferenceIdeal.defs _ _).mono (fun r h c => ?_) (Cert.MemKvReferenceIdeal.Value.run (F := Ideal) m' g')
    obtain ⟨h0, hargs⟩ := h c
    obtain ⟨a0, a1⟩ := hagree c
    refine ⟨h0.trans ?_, hargs⟩
    rw [Cert.MemKvReferenceIdeal.Read.val_main_v2_eq, a0, a1]
    exact ref_eq _ _

end Cert.MemKvClaim

end
-- ==== Proof.MemKvDxClaim.lean ====
/- The gradient of the normalised memory. Each grid point's block of the product, the array the grid ends with,
   and the claims against the plain product. -/
module

public import proofs.«01_k».proof.Defs
public import proofs.«01_k».proof.Proof.Gen.MemKvDxIdeal.Value
public import proofs.«01_k».proof.Proof.Gen.MemKvDxReferenceIdeal.Read
public import proofs.«01_k».proof.Proof.Products
public import proofs.«01_k».proof.Proof.Reals
public import Idealize.ShloMosaic.Adequacy
public import Idealize.ShloMosaic.Init

@[expose] public section

noncomputable section

namespace Cert.MemKvDxClaim

open Idealize.ShloMosaic Idealize.SL.Sem Cert.Products Cert.Reals

section Kernel
open Cert.MemKvDxIdeal Cert.MemKvDxIdeal.Gen Cert.MemKvDxIdeal.Value Idealize.ShloMosaic.TcCoe

/-- A grid point's product of its blocks. -/
theorem pay1_apply (a : FVec Ideal S512x1024 .bf16) (b : FVec Ideal S512x1024 .bf16) (p : Fin 512) (q : Fin 512) :
    k0_pay1 (F := Ideal) a b (ix2 p q) = ∑ d : Fin 1024, a (ix2 p d) * b (ix2 q d) := by
  unfold k0_pay1
  pointwise

variable (m : (ℓ : Loc nD τ sig) → Buf (Elt Ideal) ℓ) (c : Dev nD)

/-- The arguments as arrays of extended reals. -/
abbrev argA : S512x1024.Idx → EReal := m ((c : Thread nD τ).loc main_arg0)
@[inherit_doc argA] abbrev argB : S2048x1024.Idx → EReal := m ((c : Thread nD τ).loc main_arg1)

/-- The number of grid points. -/
theorem N_eq : cfg0.N = 4 := N_0

/-- Where the windows lie. -/
theorem index_eq : ∀ t : Fin grid0.N,
    (win0_0.index t 0 = 0 ∧ win0_0.index t 1 = 0)
    ∧ (win0_1.index t 0 = t.val % 4 ∧ win0_1.index t 1 = 0)
    ∧ (win0_2.index t 0 = 0 ∧ win0_2.index t 1 = t.val % 4) := by decide +kernel

/-- The block of the left factor read at a point. -/
theorem iblk_a (t : Fin cfg0.N) (p : Fin 512) (q : Fin 1024) (p' : Fin 512) (q' : Fin 1024)
    (hp : p'.val = 0 * 512 + p.val) (hq : q'.val = 0 * 1024 + q.val) :
    (iblk (F := Ideal) m c 0 t : S512x1024.Idx → EReal) (ix2 p q) = argA m c (ix2 p' q') := by
  obtain ⟨⟨e0, e1⟩, -⟩ := index_eq t
  show (V (F := Ideal) m c main_arg0 : S512x1024.Idx → EReal) ((win0_0.rect t).emb (ix2 p q)) = _
  rw [V_main_arg0]
  refine congrArg (argA m c) (funext fun a => Fin.ext ?_)
  match a with
  | ⟨0, _⟩ => refine (Pipeline.Window.rect_emb_val win0_0 t _ 0).trans ?_; rw [e0]; exact hp.symm
  | ⟨1, _⟩ => refine (Pipeline.Window.rect_emb_val win0_0 t _ 1).trans ?_; rw [e1]; exact hq.symm

/-- The block of the right factor read at a point. -/
theorem iblk_b (t : Fin cfg0.N) (p : Fin 512) (q : Fin 1024) (p' : Fin 2048) (q' : Fin 1024)
    (hp : p'.val = t.val % 4 * 512 + p.val) (hq : q'.val = 0 * 1024 + q.val) :
    (iblk (F := Ideal) m c 1 t : S512x1024.Idx → EReal) (ix2 p q) = argB m c (ix2 p' q') := by
  obtain ⟨-, ⟨e0, e1⟩, -⟩ := index_eq t
  show (V (F := Ideal) m c main_arg1 : S2048x1024.Idx → EReal) ((win0_1.rect t).emb (ix2 p q)) = _
  rw [V_main_arg1]
  refine congrArg (argB m c) (funext fun a => Fin.ext ?_)
  match a with
  | ⟨0, _⟩ => refine (Pipeline.Window.rect_emb_val win0_1 t _ 0).trans ?_; rw [e0]; exact hp.symm
  | ⟨1, _⟩ => refine (Pipeline.Window.rect_emb_val win0_1 t _ 1).trans ?_; rw [e1]; exact hq.symm

/-- The row and the column of the product that a grid point's block holds. -/
def tok (t : Fin cfg0.N) (p : Fin 512) : Fin 512 :=
  ⟨0 * 512 + p.val, by have h : t.val < 4 := lt_of_lt_of_eq t.isLt N_eq; omega⟩
@[inherit_doc tok] def col (t : Fin cfg0.N) (q : Fin 512) : Fin 2048 :=
  ⟨t.val % 4 * 512 + q.val, by have h : t.val < 4 := lt_of_lt_of_eq t.isLt N_eq; omega⟩

/-- The array after the grid. -/
theorem final : (dats (F := Ideal) m 0 c).arrAt 2 cfg0.N = (nt (argA m c) (argB m c) : S512x2048.Idx → EReal) := by
  refine (dats (F := Ideal) m 0 c).arrAt_eq_of_cover 2 _ (fun t _ => ?_) (fun i => ?_)
  · rw [flushed2]
    obtain ⟨-, -, e0, e1⟩ := index_eq t
    funext y
    obtain ⟨p, q, rfl⟩ : ∃ (p : Fin 512) (q : Fin 512), y = ix2 p q := ⟨y 0, y 1, eq_ix2 y⟩
    unfold out0_2
    refine Eq.trans (congrFun (View.canon_unit_zero (Val := Elt Ideal) (S := S512x512) origin _ _) _) ?_
    refine (pay1_apply _ _ p q).trans ?_
    show _ = (nt (argA m c) (argB m c) : S512x2048.Idx → EReal) ((win0_2.rect t).emb (ix2 p q))
    have f : (win0_2.rect t).emb (ix2 p q) = ix2 (tok t p) (col t q) := funext fun a => Fin.ext (by
      match a with
      | ⟨0, _⟩ => refine (Pipeline.Window.rect_emb_val win0_2 t _ 0).trans ?_; rw [e0]; rfl
      | ⟨1, _⟩ => refine (Pipeline.Window.rect_emb_val win0_2 t _ 1).trans ?_; rw [e1]; rfl)
    rw [f]
    exact Finset.sum_congr rfl fun d _ => congrArg₂ (fun x y : EReal => x * y)
      ((congrFun (View.ld_unit_zero (Val := Elt Ideal) (S := S512x1024) origin _ _) _).trans (iblk_a m c t p d (tok t p) d rfl (by omega)))
      ((congrFun (View.ld_unit_zero (Val := Elt Ideal) (S := S512x1024) origin _ _) _).trans (iblk_b m c t q d (col t q) d rfl (by omega)))
  · have h0 : (i 0 : ℕ) < 512 := (i 0).isLt
    have h1 : (i 1 : ℕ) < 2048 := (i 1).isLt
    let t : Fin cfg0.N := ⟨(i 0 : ℕ) / 512 * 4 + (i 1 : ℕ) / 512, lt_of_lt_of_eq (by omega) N_eq.symm⟩
    refine ⟨t, flush0_2 t, ?_⟩
    obtain ⟨-, -, e0, e1⟩ := index_eq t
    have ht : t.val = (i 0 : ℕ) / 512 * 4 + (i 1 : ℕ) / 512 := rfl
    show i ∈ ((View.whole main_v0).slice (win0_2.rect t)).set
    rw [View.set_slice_whole, Rect.mem_set_unit]
    intro a
    match a with
    | ⟨0, _⟩ =>
      show win0_2.index t 0 * 512 ≤ (i 0 : ℕ) ∧ (i 0 : ℕ) < win0_2.index t 0 * 512 + 512
      rw [e0]; omega
    | ⟨1, _⟩ =>
      show win0_2.index t 1 * 512 ≤ (i 1 : ℕ) ∧ (i 1 : ℕ) < win0_2.index t 1 * 512 + 512
      rw [e1]; omega

end Kernel

/-- The reference's result is the array the grid ends with. -/
theorem ref_eq (A : FVec Ideal Cert.MemKvDxReferenceIdeal.S512x1024 .bf16) (B : FVec Ideal Cert.MemKvDxReferenceIdeal.S2048x1024 .bf16) :
    (Cert.MemKvDxReferenceIdeal.Read.val_main_v4 (F := Ideal) A B : Cert.MemKvDxReferenceIdeal.S512x2048.Idx → EReal) = nt (m := 512) (n := 2048) (k := 1024) A B := by
  funext i
  obtain ⟨u, v, rfl⟩ : ∃ (u : Fin 512) (v : Fin 2048), i = ix2 u v := ⟨i 0, i 1, eq_ix2 i⟩
  unfold Cert.MemKvDxReferenceIdeal.Read.val_main_v4 Cert.MemKvDxReferenceIdeal.Read.val_main_v3 Cert.MemKvDxReferenceIdeal.Read.val_main_v1
  pointwise
  rfl

/-- The reference runs and keeps its arguments. -/
theorem frame_ref : Cert.quiescent_MemKvDxReferenceIdeal := fun m ρ _ =>
  (θ_run Cert.MemKvDxReferenceIdeal.defs _ _).mono (fun r h => ⟨fun c => (h c).2, sem_eq_zero_of_no_sems (by decide) r.2⟩)
    (Cert.MemKvDxReferenceIdeal.Value.run (F := Ideal) m ρ)

/-- The kernel and the reference end with equal results. -/
theorem algebraic : Cert.algebraic_MemKvDxIdeal_MemKvDxReferenceIdeal := by
  intro m g m' g' _ hagree
  refine ⟨fun c => nt (argA m c) (argB m c), ?_, ?_⟩
  · refine (θ_run Cert.MemKvDxIdeal.defs _ _).mono (fun r h c => ?_) (Cert.MemKvDxIdeal.Value.run_blocks (F := Ideal) m g)
    obtain ⟨h0, hargs⟩ := h c
    exact ⟨h0.trans (final m c), hargs⟩
  · refine (θ_run Cert.MemKvDxReferenceIdeal.defs _ _).mono (fun r h c => ?_) (Cert.MemKvDxReferenceIdeal.Value.run (F := Ideal) m' g')
    obtain ⟨h0, hargs⟩ := h c
    obtain ⟨a0, a1⟩ := hagree c
    refine ⟨h0.trans ?_, hargs⟩
    rw [Cert.MemKvDxReferenceIdeal.Read.val_main_v4_eq, a0, a1]
    exact ref_eq _ _

end Cert.MemKvDxClaim

end
-- ==== Proof.MemKvDwClaim.lean ====
/- The gradient of the memory's key and value weights. Each grid point's block of the product, the array the grid ends with,
   and the claims against the plain product. -/
module

public import proofs.«01_k».proof.Defs
public import proofs.«01_k».proof.Proof.Gen.MemKvDwIdeal.Value
public import proofs.«01_k».proof.Proof.Gen.MemKvDwReferenceIdeal.Read
public import proofs.«01_k».proof.Proof.Products
public import proofs.«01_k».proof.Proof.Reals
public import Idealize.ShloMosaic.Adequacy
public import Idealize.ShloMosaic.Init

@[expose] public section

noncomputable section

namespace Cert.MemKvDwClaim

open Idealize.ShloMosaic Idealize.SL.Sem Cert.Products Cert.Reals

section Kernel
open Cert.MemKvDwIdeal Cert.MemKvDwIdeal.Gen Cert.MemKvDwIdeal.Value Idealize.ShloMosaic.TcCoe

/-- A grid point's product of its blocks. -/
theorem pay1_apply (a : FVec Ideal S512x1024 .bf16) (b : FVec Ideal S512x512 .bf16) (p : Fin 1024) (q : Fin 512) :
    k0_pay1 (F := Ideal) a b (ix2 p q) = ∑ d : Fin 512, a (ix2 d p) * b (ix2 d q) := by
  unfold k0_pay1
  pointwise

variable (m : (ℓ : Loc nD τ sig) → Buf (Elt Ideal) ℓ) (c : Dev nD)

/-- The arguments as arrays of extended reals. -/
abbrev argA : S512x2048.Idx → EReal := m ((c : Thread nD τ).loc main_arg0)
@[inherit_doc argA] abbrev argB : S512x1024.Idx → EReal := m ((c : Thread nD τ).loc main_arg1)

/-- The number of grid points. -/
theorem N_eq : cfg0.N = 4 := N_0

/-- Where the windows lie. -/
theorem index_eq : ∀ t : Fin grid0.N,
    (win0_0.index t 0 = 0 ∧ win0_0.index t 1 = t.val / 2)
    ∧ (win0_1.index t 0 = 0 ∧ win0_1.index t 1 = t.val % 2)
    ∧ (win0_2.index t 0 = t.val / 2 ∧ win0_2.index t 1 = t.val % 2) := by decide +kernel

/-- The block of the left factor read at a point. -/
theorem iblk_a (t : Fin cfg0.N) (p : Fin 512) (q : Fin 1024) (p' : Fin 512) (q' : Fin 2048)
    (hp : p'.val = 0 * 512 + p.val) (hq : q'.val = t.val / 2 * 1024 + q.val) :
    (iblk (F := Ideal) m c 0 t : S512x1024.Idx → EReal) (ix2 p q) = argA m c (ix2 p' q') := by
  obtain ⟨⟨e0, e1⟩, -⟩ := index_eq t
  show (V (F := Ideal) m c main_arg0 : S512x2048.Idx → EReal) ((win0_0.rect t).emb (ix2 p q)) = _
  rw [V_main_arg0]
  refine congrArg (argA m c) (funext fun a => Fin.ext ?_)
  match a with
  | ⟨0, _⟩ => refine (Pipeline.Window.rect_emb_val win0_0 t _ 0).trans ?_; rw [e0]; exact hp.symm
  | ⟨1, _⟩ => refine (Pipeline.Window.rect_emb_val win0_0 t _ 1).trans ?_; rw [e1]; exact hq.symm

/-- The block of the right factor read at a point. -/
theorem iblk_b (t : Fin cfg0.N) (p : Fin 512) (q : Fin 512) (p' : Fin 512) (q' : Fin 1024)
    (hp : p'.val = 0 * 512 + p.val) (hq : q'.val = t.val % 2 * 512 + q.val) :
    (iblk (F := Ideal) m c 1 t : S512x512.Idx → EReal) (ix2 p q) = argB m c (ix2 p' q') := by
  obtain ⟨-, ⟨e0, e1⟩, -⟩ := index_eq t
  show (V (F := Ideal) m c main_arg1 : S512x1024.Idx → EReal) ((win0_1.rect t).emb (ix2 p q)) = _
  rw [V_main_arg1]
  refine congrArg (argB m c) (funext fun a => Fin.ext ?_)
  match a with
  | ⟨0, _⟩ => refine (Pipeline.Window.rect_emb_val win0_1 t _ 0).trans ?_; rw [e0]; exact hp.symm
  | ⟨1, _⟩ => refine (Pipeline.Window.rect_emb_val win0_1 t _ 1).trans ?_; rw [e1]; exact hq.symm

/-- The row and the column of the product that a grid point's block holds. -/
def tok (t : Fin cfg0.N) (p : Fin 1024) : Fin 2048 :=
  ⟨t.val / 2 * 1024 + p.val, by have h : t.val < 4 := lt_of_lt_of_eq t.isLt N_eq; omega⟩
@[inherit_doc tok] def col (t : Fin cfg0.N) (q : Fin 512) : Fin 1024 :=
  ⟨t.val % 2 * 512 + q.val, by have h : t.val < 4 := lt_of_lt_of_eq t.isLt N_eq; omega⟩

/-- The array after the grid. -/
theorem final : (dats (F := Ideal) m 0 c).arrAt 2 cfg0.N = (tn (argA m c) (argB m c) : S2048x1024.Idx → EReal) := by
  refine (dats (F := Ideal) m 0 c).arrAt_eq_of_cover 2 _ (fun t _ => ?_) (fun i => ?_)
  · rw [flushed2]
    obtain ⟨-, -, e0, e1⟩ := index_eq t
    funext y
    obtain ⟨p, q, rfl⟩ : ∃ (p : Fin 1024) (q : Fin 512), y = ix2 p q := ⟨y 0, y 1, eq_ix2 y⟩
    unfold out0_2
    refine Eq.trans (congrFun (View.canon_unit_zero (Val := Elt Ideal) (S := S1024x512) origin _ _) _) ?_
    refine (pay1_apply _ _ p q).trans ?_
    show _ = (tn (argA m c) (argB m c) : S2048x1024.Idx → EReal) ((win0_2.rect t).emb (ix2 p q))
    have f : (win0_2.rect t).emb (ix2 p q) = ix2 (tok t p) (col t q) := funext fun a => Fin.ext (by
      match a with
      | ⟨0, _⟩ => refine (Pipeline.Window.rect_emb_val win0_2 t _ 0).trans ?_; rw [e0]; rfl
      | ⟨1, _⟩ => refine (Pipeline.Window.rect_emb_val win0_2 t _ 1).trans ?_; rw [e1]; rfl)
    rw [f]
    exact Finset.sum_congr rfl fun d _ => congrArg₂ (fun x y : EReal => x * y)
      ((congrFun (View.ld_unit_zero (Val := Elt Ideal) (S := S512x1024) origin _ _) _).trans (iblk_a m c t d p d (tok t p) (by omega) rfl))
      ((congrFun (View.ld_unit_zero (Val := Elt Ideal) (S := S512x512) origin _ _) _).trans (iblk_b m c t d q d (col t q) (by omega) rfl))
  · have h0 : (i 0 : ℕ) < 2048 := (i 0).isLt
    have h1 : (i 1 : ℕ) < 1024 := (i 1).isLt
    let t : Fin cfg0.N := ⟨(i 0 : ℕ) / 1024 * 2 + (i 1 : ℕ) / 512, lt_of_lt_of_eq (by omega) N_eq.symm⟩
    refine ⟨t, flush0_2 t, ?_⟩
    obtain ⟨-, -, e0, e1⟩ := index_eq t
    have ht : t.val = (i 0 : ℕ) / 1024 * 2 + (i 1 : ℕ) / 512 := rfl
    show i ∈ ((View.whole main_v0).slice (win0_2.rect t)).set
    rw [View.set_slice_whole, Rect.mem_set_unit]
    intro a
    match a with
    | ⟨0, _⟩ =>
      show win0_2.index t 0 * 1024 ≤ (i 0 : ℕ) ∧ (i 0 : ℕ) < win0_2.index t 0 * 1024 + 1024
      rw [e0]; omega
    | ⟨1, _⟩ =>
      show win0_2.index t 1 * 512 ≤ (i 1 : ℕ) ∧ (i 1 : ℕ) < win0_2.index t 1 * 512 + 512
      rw [e1]; omega

end Kernel

/-- The reference's result is the array the grid ends with. -/
theorem ref_eq (A : FVec Ideal Cert.MemKvDwReferenceIdeal.S512x2048 .bf16) (B : FVec Ideal Cert.MemKvDwReferenceIdeal.S512x1024 .bf16) :
    (Cert.MemKvDwReferenceIdeal.Read.val_main_v5 (F := Ideal) A B : Cert.MemKvDwReferenceIdeal.S2048x1024.Idx → EReal) = tn (m := 2048) (n := 1024) (k := 512) A B := by
  funext i
  obtain ⟨u, v, rfl⟩ : ∃ (u : Fin 2048) (v : Fin 1024), i = ix2 u v := ⟨i 0, i 1, eq_ix2 i⟩
  unfold Cert.MemKvDwReferenceIdeal.Read.val_main_v5 Cert.MemKvDwReferenceIdeal.Read.val_main_v4 Cert.MemKvDwReferenceIdeal.Read.val_main_v3 Cert.MemKvDwReferenceIdeal.Read.val_main_v1
  pointwise
  unfold tn
  exact Finset.sum_congr rfl fun n _ => mul_comm _ _

/-- The reference runs and keeps its arguments. -/
theorem frame_ref : Cert.quiescent_MemKvDwReferenceIdeal := fun m ρ _ =>
  (θ_run Cert.MemKvDwReferenceIdeal.defs _ _).mono (fun r h => ⟨fun c => (h c).2, sem_eq_zero_of_no_sems (by decide) r.2⟩)
    (Cert.MemKvDwReferenceIdeal.Value.run (F := Ideal) m ρ)

/-- The kernel and the reference end with equal results. -/
theorem algebraic : Cert.algebraic_MemKvDwIdeal_MemKvDwReferenceIdeal := by
  intro m g m' g' _ hagree
  refine ⟨fun c => tn (argA m c) (argB m c), ?_, ?_⟩
  · refine (θ_run Cert.MemKvDwIdeal.defs _ _).mono (fun r h c => ?_) (Cert.MemKvDwIdeal.Value.run_blocks (F := Ideal) m g)
    obtain ⟨h0, hargs⟩ := h c
    exact ⟨h0.trans (final m c), hargs⟩
  · refine (θ_run Cert.MemKvDwReferenceIdeal.defs _ _).mono (fun r h c => ?_) (Cert.MemKvDwReferenceIdeal.Value.run (F := Ideal) m' g')
    obtain ⟨h0, hargs⟩ := h c
    obtain ⟨a0, a1⟩ := hagree c
    refine ⟨h0.trans ?_, hargs⟩
    rw [Cert.MemKvDwReferenceIdeal.Read.val_main_v5_eq, a0, a1]
    exact ref_eq _ _

end Cert.MemKvDwClaim

end
-- ==== Proof.FfnGuClaim.lean ====
/- The first feed-forward block's gate and up products. Each grid point's block of the product, the array the grid ends with,
   and the claims against the plain product. -/
module

public import proofs.«01_k».proof.Defs
public import proofs.«01_k».proof.Proof.Gen.FfnGuIdeal.Value
public import proofs.«01_k».proof.Proof.Gen.FfnGuReferenceIdeal.Read
public import proofs.«01_k».proof.Proof.Products
public import proofs.«01_k».proof.Proof.Reals

public import Idealize.ShloMosaic.Adequacy
public import Idealize.ShloMosaic.Init

@[expose] public section

noncomputable section

namespace Cert.FfnGuClaim

open Idealize.ShloMosaic Idealize.SL.Sem Cert.Products Cert.Reals

section Kernel
open Cert.FfnGuIdeal Cert.FfnGuIdeal.Gen Cert.FfnGuIdeal.Value Idealize.ShloMosaic.TcCoe

/-- A grid point's product of its blocks. -/
theorem pay1_apply (a : FVec Ideal S1024x2048 .bf16) (b : FVec Ideal S2048x512 .bf16) (p : Fin 1024) (q : Fin 512) :
    k0_pay1 (F := Ideal) a b (ix2 p q) = ∑ d : Fin 2048, a (ix2 p d) * b (ix2 d q) := by
  unfold k0_pay1
  pointwise

variable (m : (ℓ : Loc nD τ sig) → Buf (Elt Ideal) ℓ) (c : Dev nD)

/-- The arguments as arrays of extended reals. -/
abbrev argA : S4096x2048.Idx → EReal := m ((c : Thread nD τ).loc main_arg0)
@[inherit_doc argA] abbrev argB : S2048x11264.Idx → EReal := m ((c : Thread nD τ).loc main_arg1)

/-- The number of grid points. -/
theorem N_eq : cfg0.N = 88 := N_0

/-- Where the windows lie. -/
theorem index_eq : ∀ t : Fin grid0.N,
    (win0_0.index t 0 = t.val / 22 ∧ win0_0.index t 1 = 0)
    ∧ (win0_1.index t 0 = 0 ∧ win0_1.index t 1 = t.val % 22)
    ∧ (win0_2.index t 0 = t.val / 22 ∧ win0_2.index t 1 = t.val % 22) := by decide +kernel

/-- The block of the left factor read at a point. -/
theorem iblk_a (t : Fin cfg0.N) (p : Fin 1024) (q : Fin 2048) (p' : Fin 4096) (q' : Fin 2048)
    (hp : p'.val = t.val / 22 * 1024 + p.val) (hq : q'.val = 0 * 2048 + q.val) :
    (iblk (F := Ideal) m c 0 t : S1024x2048.Idx → EReal) (ix2 p q) = argA m c (ix2 p' q') := by
  obtain ⟨⟨e0, e1⟩, -⟩ := index_eq t
  show (V (F := Ideal) m c main_arg0 : S4096x2048.Idx → EReal) ((win0_0.rect t).emb (ix2 p q)) = _
  rw [V_main_arg0]
  refine congrArg (argA m c) (funext fun a => Fin.ext ?_)
  match a with
  | ⟨0, _⟩ => refine (Pipeline.Window.rect_emb_val win0_0 t _ 0).trans ?_; rw [e0]; exact hp.symm
  | ⟨1, _⟩ => refine (Pipeline.Window.rect_emb_val win0_0 t _ 1).trans ?_; rw [e1]; exact hq.symm

/-- The block of the right factor read at a point. -/
theorem iblk_b (t : Fin cfg0.N) (p : Fin 2048) (q : Fin 512) (p' : Fin 2048) (q' : Fin 11264)
    (hp : p'.val = 0 * 2048 + p.val) (hq : q'.val = t.val % 22 * 512 + q.val) :
    (iblk (F := Ideal) m c 1 t : S2048x512.Idx → EReal) (ix2 p q) = argB m c (ix2 p' q') := by
  obtain ⟨-, ⟨e0, e1⟩, -⟩ := index_eq t
  show (V (F := Ideal) m c main_arg1 : S2048x11264.Idx → EReal) ((win0_1.rect t).emb (ix2 p q)) = _
  rw [V_main_arg1]
  refine congrArg (argB m c) (funext fun a => Fin.ext ?_)
  match a with
  | ⟨0, _⟩ => refine (Pipeline.Window.rect_emb_val win0_1 t _ 0).trans ?_; rw [e0]; exact hp.symm
  | ⟨1, _⟩ => refine (Pipeline.Window.rect_emb_val win0_1 t _ 1).trans ?_; rw [e1]; exact hq.symm

/-- The row and the column of the product that a grid point's block holds. -/
def tok (t : Fin cfg0.N) (p : Fin 1024) : Fin 4096 :=
  ⟨t.val / 22 * 1024 + p.val, by have h : t.val < 88 := lt_of_lt_of_eq t.isLt N_eq; omega⟩
@[inherit_doc tok] def col (t : Fin cfg0.N) (q : Fin 512) : Fin 11264 :=
  ⟨t.val % 22 * 512 + q.val, by have h : t.val < 88 := lt_of_lt_of_eq t.isLt N_eq; omega⟩

/-- The array after the grid. -/
theorem final : (dats (F := Ideal) m 0 c).arrAt 2 cfg0.N = (nn (argA m c) (argB m c) : S4096x11264.Idx → EReal) := by
  refine (dats (F := Ideal) m 0 c).arrAt_eq_of_cover 2 _ (fun t _ => ?_) (fun i => ?_)
  · rw [flushed2]
    obtain ⟨-, -, e0, e1⟩ := index_eq t
    funext y
    obtain ⟨p, q, rfl⟩ : ∃ (p : Fin 1024) (q : Fin 512), y = ix2 p q := ⟨y 0, y 1, eq_ix2 y⟩
    unfold out0_2
    refine Eq.trans (congrFun (View.canon_unit_zero (Val := Elt Ideal) (S := S1024x512) origin _ _) _) ?_
    refine (pay1_apply _ _ p q).trans ?_
    show _ = (nn (argA m c) (argB m c) : S4096x11264.Idx → EReal) ((win0_2.rect t).emb (ix2 p q))
    have f : (win0_2.rect t).emb (ix2 p q) = ix2 (tok t p) (col t q) := funext fun a => Fin.ext (by
      match a with
      | ⟨0, _⟩ => refine (Pipeline.Window.rect_emb_val win0_2 t _ 0).trans ?_; rw [e0]; rfl
      | ⟨1, _⟩ => refine (Pipeline.Window.rect_emb_val win0_2 t _ 1).trans ?_; rw [e1]; rfl)
    rw [f]
    exact Finset.sum_congr rfl fun d _ => congrArg₂ (fun x y : EReal => x * y)
      ((congrFun (View.ld_unit_zero (Val := Elt Ideal) (S := S1024x2048) origin _ _) _).trans (iblk_a m c t p d (tok t p) d rfl (by omega)))
      ((congrFun (View.ld_unit_zero (Val := Elt Ideal) (S := S2048x512) origin _ _) _).trans (iblk_b m c t d q d (col t q) (by omega) rfl))
  · have h0 : (i 0 : ℕ) < 4096 := (i 0).isLt
    have h1 : (i 1 : ℕ) < 11264 := (i 1).isLt
    let t : Fin cfg0.N := ⟨(i 0 : ℕ) / 1024 * 22 + (i 1 : ℕ) / 512, lt_of_lt_of_eq (by omega) N_eq.symm⟩
    refine ⟨t, flush0_2 t, ?_⟩
    obtain ⟨-, -, e0, e1⟩ := index_eq t
    have ht : t.val = (i 0 : ℕ) / 1024 * 22 + (i 1 : ℕ) / 512 := rfl
    show i ∈ ((View.whole main_v0).slice (win0_2.rect t)).set
    rw [View.set_slice_whole, Rect.mem_set_unit]
    intro a
    match a with
    | ⟨0, _⟩ =>
      show win0_2.index t 0 * 1024 ≤ (i 0 : ℕ) ∧ (i 0 : ℕ) < win0_2.index t 0 * 1024 + 1024
      rw [e0]; omega
    | ⟨1, _⟩ =>
      show win0_2.index t 1 * 512 ≤ (i 1 : ℕ) ∧ (i 1 : ℕ) < win0_2.index t 1 * 512 + 512
      rw [e1]; omega

end Kernel

/-- The reference's result is the array the grid ends with. -/
theorem ref_eq (A : FVec Ideal Cert.FfnGuReferenceIdeal.S4096x2048 .bf16) (B : FVec Ideal Cert.FfnGuReferenceIdeal.S2048x11264 .bf16) :
    (Cert.FfnGuReferenceIdeal.Read.val_main_v2 (F := Ideal) A B : Cert.FfnGuReferenceIdeal.S4096x11264.Idx → EReal) = nn (m := 4096) (n := 11264) (k := 2048) A B := by
  funext i
  obtain ⟨u, v, rfl⟩ : ∃ (u : Fin 4096) (v : Fin 11264), i = ix2 u v := ⟨i 0, i 1, eq_ix2 i⟩
  unfold Cert.FfnGuReferenceIdeal.Read.val_main_v2 Cert.FfnGuReferenceIdeal.Read.val_main_v1 Cert.FfnGuReferenceIdeal.Read.val_main_v0
  pointwise
  rfl

/-- The reference runs and keeps its arguments. -/
theorem frame_ref : Cert.quiescent_FfnGuReferenceIdeal := fun m ρ _ =>
  (θ_run Cert.FfnGuReferenceIdeal.defs _ _).mono (fun r h => ⟨fun c => (h c).2, sem_eq_zero_of_no_sems (by decide) r.2⟩)
    (Cert.FfnGuReferenceIdeal.Value.run (F := Ideal) m ρ)

/-- The kernel and the reference end with equal results. -/
theorem algebraic : Cert.algebraic_FfnGuIdeal_FfnGuReferenceIdeal := by
  intro m g m' g' _ hagree
  refine ⟨fun c => nn (argA m c) (argB m c), ?_, ?_⟩
  · refine (θ_run Cert.FfnGuIdeal.defs _ _).mono (fun r h c => ?_) (Cert.FfnGuIdeal.Value.run_blocks (F := Ideal) m g)
    obtain ⟨h0, hargs⟩ := h c
    exact ⟨h0.trans (final m c), hargs⟩
  · refine (θ_run Cert.FfnGuReferenceIdeal.defs _ _).mono (fun r h c => ?_) (Cert.FfnGuReferenceIdeal.Value.run (F := Ideal) m' g')
    obtain ⟨h0, hargs⟩ := h c
    obtain ⟨a0, a1⟩ := hagree c
    refine ⟨h0.trans ?_, hargs⟩
    rw [Cert.FfnGuReferenceIdeal.Read.val_main_v2_eq, a0, a1]
    exact ref_eq _ _

end Cert.FfnGuClaim

end
-- ==== Proof.FfnDownClaim.lean ====
/- A feed-forward block's down product, halved and added to the residual. Each grid point's block of the product, the array the grid ends with,
   and the claims against the plain product. -/
module

public import proofs.«01_k».proof.Defs
public import proofs.«01_k».proof.Proof.Gen.FfnDownIdeal.Value
public import proofs.«01_k».proof.Proof.Gen.FfnDownReferenceIdeal.Read
public import proofs.«01_k».proof.Proof.Products
public import proofs.«01_k».proof.Proof.Reals
public import proofs.«01_k».proof.Proof.Partial
public import Idealize.ShloMosaic.Lib.Tactic
public import Idealize.ShloMosaic.Adequacy
public import Idealize.ShloMosaic.Init

@[expose] public section

noncomputable section

namespace Cert.FfnDownClaim

open Idealize.ShloMosaic Idealize.SL.Sem Cert.Products Cert.Reals Cert.Partial

section Kernel
open Cert.FfnDownIdeal Cert.FfnDownIdeal.Gen Cert.FfnDownIdeal.Value Idealize.ShloMosaic.TcCoe

section Cases
variable {F : FTy → Type} [FloatOps F] (c : Dev nD) (i : grid0.Coords)
  (a3 : Memref sig .tc .vmem S1024x512 .bf16) (h3 : a3.IsWhole)
  (a4 : Memref sig .tc .vmem S512x1024 .bf16) (h4 : a4.IsWhole)
  (a5 : Memref sig .tc .vmem S1024x1024 .f32) (h5 : a5.IsWhole)
  (a6 : Memref sig .tc .vmem S1024x1024 .f32) (h6 : a6.IsWhole)
  (a7 : Memref sig .tc .vmem S1024x1024 .f32) (h7 : a7.IsWhole)
  (x0 : Vec F S1024x512 .bf16) (x1 : Vec F S512x1024 .bf16) (x2 : Vec F S1024x1024 .f32) (s : Vec F S1024x1024 .f32)

/-- The first block of the sum starts the accumulator. -/
theorem scrA (hc0 : cond0_0 i) (hc1 : ¬cond0_1 i) (hc2 : ¬cond0_2 i) :
    sout0_A_0 (F := F) c i a3 h3 a4 h4 a5 h5 a6 h6 a7 h7 hc0 hc1 hc2 x0 x1 x2 = k0_pay2 x0 x1 := by
  unfold sout0_A_0
  rw [View.read_writes_eq_canon _ _ _ (scover0_A_0 c i a3 h3 a4 h4 a5 h5 a6 h6 a7 h7 hc0 hc1 hc2 x0 x1 x2)]
  unfold kernelRun0_A
  dsimp only
  sl_unfold_words
  rw [View.canon_unit_zero origin]
  simp only [View.readAt_eq_ld, h3.read_unread, h4.read_unread, h5.read_unread, h6.read_unread, h7.read_unread, View.ld_unit_zero (S := S1024x1024) origin, View.ld_unit_zero (S := S1024x512) origin, View.ld_unit_zero (S := S512x1024) origin]

/-- A later block of the sum is added to the accumulator. -/
theorem scrB (hc0 : ¬cond0_0 i) (hc1 : cond0_1 i) (hc2 : ¬cond0_2 i) :
    sout0_B_0 (F := F) c i a3 h3 a4 h4 a5 h5 a6 h6 a7 h7 hc0 hc1 hc2 x0 x1 x2 s = k0_pay3 x0 x1 s := by
  unfold sout0_B_0
  rw [View.read_writes_eq_canon _ _ _ (scover0_B_0 c i a3 h3 a4 h4 a5 h5 a6 h6 a7 h7 hc0 hc1 hc2 x0 x1 x2 s)]
  unfold kernelRun0_B
  dsimp only
  sl_unfold_words
  rw [View.canon_unit_zero origin]
  simp only [View.readAt_eq_ld, h3.read_unread, h4.read_unread, h5.read_unread, h6.read_unread, h7.read_unread, View.ld_unit_zero (S := S1024x1024) origin, View.ld_unit_zero (S := S1024x512) origin, View.ld_unit_zero (S := S512x1024) origin]

/-- So is the last block of the sum. -/
theorem scrC (hc0 : ¬cond0_0 i) (hc1 : cond0_1 i) (hc2 : cond0_2 i) :
    sout0_C_0 (F := F) c i a3 h3 a4 h4 a5 h5 a6 h6 a7 h7 hc0 hc1 hc2 x0 x1 x2 s = k0_pay3 x0 x1 s := by
  unfold sout0_C_0
  rw [View.read_writes_eq_canon _ _ _ (scover0_C_0 c i a3 h3 a4 h4 a5 h5 a6 h6 a7 h7 hc0 hc1 hc2 x0 x1 x2 s)]
  unfold kernelRun0_C
  dsimp only
  sl_unfold_words
  rw [View.canon_unit_zero origin]
  simp only [View.readAt_eq_ld, h3.read_unread, h4.read_unread, h5.read_unread, h6.read_unread, h7.read_unread, View.ld_unit_zero (S := S1024x1024) origin, View.ld_unit_zero (S := S1024x512) origin, View.ld_unit_zero (S := S512x1024) origin]

/-- With the last block of the sum the accumulator goes out. -/
theorem outC (hc0 : ¬cond0_0 i) (hc1 : cond0_1 i) (hc2 : cond0_2 i) :
    out0_C_3 (F := F) c i a3 h3 a4 h4 a5 h5 a6 h6 a7 h7 hc0 hc1 hc2 x0 x1 x2 s = k0_pay4 (k0_pay3 x0 x1 s) x2 := by
  unfold out0_C_3
  rw [View.read_writes_eq_canon _ _ _ (cover0_C_3 c i a3 h3 a4 h4 a5 h5 a6 h6 a7 h7 hc0 hc1 hc2 x0 x1 x2 s)]
  unfold kernelRun0_C
  dsimp only
  sl_unfold_words
  rw [View.canon_unit_zero origin]
  simp only [View.readAt_eq_ld, h3.read_unread, h4.read_unread, h5.read_unread, h6.read_unread, h7.read_unread, View.ld_unit_zero (S := S1024x1024) origin, View.ld_unit_zero (S := S1024x512) origin, View.ld_unit_zero (S := S512x1024) origin, View.readCov_cons_toLoadRect]

end Cases

/-- The product of two blocks. -/
theorem pay1_apply (a : FVec Ideal S1024x512 .bf16) (b : FVec Ideal S512x1024 .bf16) (p : Fin 1024) (q : Fin 1024) :
    k0_pay1 (F := Ideal) a b (ix2 p q) = ∑ d : Fin 512, a (ix2 p d) * b (ix2 d q) := by
  unfold k0_pay1
  pointwise

/-- What starts the accumulator. -/
theorem pay2_apply (a : FVec Ideal S1024x512 .bf16) (b : FVec Ideal S512x1024 .bf16) (p : Fin 1024) (q : Fin 1024) :
    k0_pay2 (F := Ideal) a b (ix2 p q) = ∑ d : Fin 512, a (ix2 p d) * b (ix2 d q) := by
  unfold k0_pay2
  pointwise
  exact pay1_apply a b p q

/-- What is added to the accumulator. -/
theorem pay3_apply (a : FVec Ideal S1024x512 .bf16) (b : FVec Ideal S512x1024 .bf16) (s : FVec Ideal S1024x1024 .f32) (p : Fin 1024) (q : Fin 1024) :
    k0_pay3 (F := Ideal) a b s (ix2 p q) = s (ix2 p q) + ∑ d : Fin 512, a (ix2 p d) * b (ix2 d q) := by
  unfold k0_pay3
  pointwise
  rw [pay1_apply a b p q]

/-- What goes out. -/
theorem pay4_apply (s x : FVec Ideal S1024x1024 .f32) (p : Fin 1024) (q : Fin 1024) :
    k0_pay4 (F := Ideal) s x (ix2 p q) = x (ix2 p q) + half * s (ix2 p q) := by
  unfold k0_pay4
  pointwise
  rw [half_f32]
  rfl

variable (m : (ℓ : Loc nD τ sig) → Buf (Elt Ideal) ℓ) (c : Dev nD)

/-- The arguments as arrays of extended reals. -/
abbrev argA : S4096x5632.Idx → EReal := m ((c : Thread nD τ).loc main_arg0)
@[inherit_doc argA] abbrev argB : S5632x2048.Idx → EReal := m ((c : Thread nD τ).loc main_arg1)
@[inherit_doc argA] abbrev argX : S4096x2048.Idx → EReal := m ((c : Thread nD τ).loc main_arg2)

/-- The number of grid points. -/
theorem N_eq : cfg0.N = 88 := N_0

/-- Where the windows lie. -/
theorem index_eq : ∀ t : Fin grid0.N,
    (win0_0.index t 0 = t.val / 22 ∧ win0_0.index t 1 = t.val % 11)
    ∧ (win0_1.index t 0 = t.val % 11 ∧ win0_1.index t 1 = t.val / 11 % 2)
    ∧ (win0_3.index t 0 = t.val / 22 ∧ win0_3.index t 1 = t.val / 11 % 2)
    ∧ (win0_2.index t 0 = t.val / 22 ∧ win0_2.index t 1 = t.val / 11 % 2) := by decide +kernel

/-- The block of the left factor read at a point. -/
theorem iblk_a (t : Fin cfg0.N) (p : Fin 1024) (q : Fin 512) (p' : Fin 4096) (q' : Fin 5632)
    (hp : p'.val = t.val / 22 * 1024 + p.val) (hq : q'.val = t.val % 11 * 512 + q.val) :
    (iblk (F := Ideal) m c 0 t : S1024x512.Idx → EReal) (ix2 p q) = argA m c (ix2 p' q') := by
  obtain ⟨⟨e0, e1⟩, -⟩ := index_eq t
  show (V (F := Ideal) m c main_arg0 : S4096x5632.Idx → EReal) ((win0_0.rect t).emb (ix2 p q)) = _
  rw [V_main_arg0]
  refine congrArg (argA m c) (funext fun a => Fin.ext ?_)
  match a with
  | ⟨0, _⟩ => refine (Pipeline.Window.rect_emb_val win0_0 t _ 0).trans ?_; rw [e0]; exact hp.symm
  | ⟨1, _⟩ => refine (Pipeline.Window.rect_emb_val win0_0 t _ 1).trans ?_; rw [e1]; exact hq.symm

/-- The block of the right factor read at a point. -/
theorem iblk_b (t : Fin cfg0.N) (p : Fin 512) (q : Fin 1024) (p' : Fin 5632) (q' : Fin 2048)
    (hp : p'.val = t.val % 11 * 512 + p.val) (hq : q'.val = t.val / 11 % 2 * 1024 + q.val) :
    (iblk (F := Ideal) m c 1 t : S512x1024.Idx → EReal) (ix2 p q) = argB m c (ix2 p' q') := by
  obtain ⟨-, ⟨e0, e1⟩, -⟩ := index_eq t
  show (V (F := Ideal) m c main_arg1 : S5632x2048.Idx → EReal) ((win0_1.rect t).emb (ix2 p q)) = _
  rw [V_main_arg1]
  refine congrArg (argB m c) (funext fun a => Fin.ext ?_)
  match a with
  | ⟨0, _⟩ => refine (Pipeline.Window.rect_emb_val win0_1 t _ 0).trans ?_; rw [e0]; exact hp.symm
  | ⟨1, _⟩ => refine (Pipeline.Window.rect_emb_val win0_1 t _ 1).trans ?_; rw [e1]; exact hq.symm

/-- The block of the added matrix read at a point. -/
theorem iblk_x (t : Fin cfg0.N) (p : Fin 1024) (q : Fin 1024) (p' : Fin 4096) (q' : Fin 2048)
    (hp : p'.val = t.val / 22 * 1024 + p.val) (hq : q'.val = t.val / 11 % 2 * 1024 + q.val) :
    (iblk (F := Ideal) m c 2 t : S1024x1024.Idx → EReal) (ix2 p q) = argX m c (ix2 p' q') := by
  obtain ⟨-, -, -, e0, e1⟩ := index_eq t
  show (V (F := Ideal) m c main_arg2 : S4096x2048.Idx → EReal) ((win0_2.rect t).emb (ix2 p q)) = _
  rw [V_main_arg2]
  refine congrArg (argX m c) (funext fun a => Fin.ext ?_)
  match a with
  | ⟨0, _⟩ => refine (Pipeline.Window.rect_emb_val win0_2 t _ 0).trans ?_; rw [e0]; exact hp.symm
  | ⟨1, _⟩ => refine (Pipeline.Window.rect_emb_val win0_2 t _ 1).trans ?_; rw [e1]; exact hq.symm

/-- The row and the column of the product that a grid point's block holds, and the place in the sum that its blocks
   start from. -/
def tok (t : Fin cfg0.N) (p : Fin 1024) : Fin 4096 :=
  ⟨t.val / 22 * 1024 + p.val, by have h : t.val < 88 := lt_of_lt_of_eq t.isLt N_eq; omega⟩
@[inherit_doc tok] def col (t : Fin cfg0.N) (q : Fin 1024) : Fin 2048 :=
  ⟨t.val / 11 % 2 * 1024 + q.val, by have h : t.val < 88 := lt_of_lt_of_eq t.isLt N_eq; omega⟩
@[inherit_doc tok] def dep (t : Fin cfg0.N) (d : Fin 512) : Fin 5632 :=
  ⟨t.val % 11 * 512 + d.val, by have h : t.val < 88 := lt_of_lt_of_eq t.isLt N_eq; omega⟩

/-- One term of an entry of the product. -/
def term (A : S4096x5632.Idx → EReal) (B : S5632x2048.Idx → EReal) (u : Fin 4096) (v : Fin 2048) (d : Fin 5632) : EReal :=
  A (ix2 u d) * B (ix2 d v)

/-- The blocks read at a point. -/
abbrev blkA (t : Fin cfg0.N) : S1024x512.Idx → EReal := iblk (F := Ideal) m c 0 t
@[inherit_doc blkA] abbrev blkB (t : Fin cfg0.N) : S512x1024.Idx → EReal := iblk (F := Ideal) m c 1 t

/-- What a grid point's blocks contribute. -/
theorem share (t : Fin cfg0.N) (p : Fin 1024) (q : Fin 1024) :
    (∑ d : Fin 512, blkA m c t (ix2 p d) * blkB m c t (ix2 d q))
      = ∑ d : Fin 512, term (argA m c) (argB m c) (tok t p) (col t q) (dep t d) :=
  Finset.sum_congr rfl fun d _ => congrArg₂ (fun x y : EReal => x * y) (iblk_a m c t p d (tok t p) (dep t d) rfl rfl) (iblk_b m c t d q (dep t d) (col t q) rfl rfl)

/-- The accumulator after a grid point holds what the blocks so far add up to. -/
theorem acc : ∀ (n : ℕ) (hn : n < cfg0.N) (p : Fin 1024) (q : Fin 1024),
    ((outsAt0 (F := Ideal) m c n hn).2 : S1024x1024.Idx → EReal) (ix2 p q)
      = upTo (term (argA m c) (argB m c) (tok ⟨n, hn⟩ p) (col ⟨n, hn⟩ q)) 512 (n % 11) := by
  have start : ∀ (t : Fin cfg0.N) (p : Fin 1024) (q : Fin 1024), t.val % 11 = 0 →
      ((outsAt0 (F := Ideal) m c t.val t.isLt).2 : S1024x1024.Idx → EReal) (ix2 p q)
        = upTo (term (argA m c) (argB m c) (tok t p) (col t q)) 512 (t.val % 11) := by
    intro t p q h
    rw [outsAt0_A m c t h (by omega) (by omega)]
    dsimp only
    rw [scrA, h, upTo_zero _ (dep t) (fun r => by show t.val % 11 * 512 + r.val = r.val; omega)]
    exact (pay2_apply _ _ p q).trans (share m c t p q)
  intro n
  induction n with
  | zero => exact fun hn p q => start ⟨0, hn⟩ p q rfl
  | succ n ih =>
    intro hn p q
    by_cases h : (n + 1) % 11 = 0
    · exact start ⟨n + 1, hn⟩ p q h
    have hn' : n < cfg0.N := Nat.lt_of_succ_lt hn
    have hk : (n + 1) % 11 = n % 11 + 1 := by omega
    have hu : tok ⟨n, hn'⟩ p = tok ⟨n + 1, hn⟩ p := Fin.ext (by
      show n / 22 * 1024 + p.val = (n + 1) / 22 * 1024 + p.val; omega)
    have hv : col ⟨n, hn'⟩ q = col ⟨n + 1, hn⟩ q := Fin.ext (by
      show n / 11 % 2 * 1024 + q.val = (n + 1) / 11 % 2 * 1024 + q.val
      rw [show (n + 1) / 11 = n / 11 by omega])
    have hd : ∀ r : Fin 512, (dep ⟨n + 1, hn⟩ r).val = (n % 11 + 1) * 512 + r.val := fun r => by
      show (n + 1) % 11 * 512 + r.val = _; rw [hk]
    have main : k0_pay3 (F := Ideal) (iblk m c 0 ⟨n + 1, hn⟩) (iblk m c 1 ⟨n + 1, hn⟩) (outsAt0 (F := Ideal) m c n hn').2 (ix2 p q)
        = upTo (term (argA m c) (argB m c) (tok ⟨n + 1, hn⟩ p) (col ⟨n + 1, hn⟩ q)) 512 ((n + 1) % 11) := by
      refine (pay3_apply _ _ _ p q).trans ?_
      rw [hk, upTo_succ _ _ (dep ⟨n + 1, hn⟩) hd, ← hu, ← hv, ← ih hn' p q, hu, hv]
      exact congrArg _ (share m c ⟨n + 1, hn⟩ p q)
    by_cases h2 : (n + 1) % 11 = 10
    · rw [outsAt0_C m c ⟨n + 1, hn⟩ h (by dsimp only; omega) h2]
      dsimp only
      rw [scrC]
      exact main
    · rw [outsAt0_B m c ⟨n + 1, hn⟩ h (by dsimp only; omega) h2]
      dsimp only
      rw [scrB]
      exact main

/-- The array after the grid. -/
theorem final : (dats (F := Ideal) m 0 c).arrAt 3 cfg0.N = (plus (argX m c) (halved (nn (argA m c) (argB m c))) : S4096x2048.Idx → EReal) := by
  refine (dats (F := Ideal) m 0 c).arrAt_eq_of_cover 3 _ (fun t hf => ?_) (fun i => ?_)
  · have hl : t.val % 11 = 10 := (flush0_3 t).mp hf
    rw [flushed3, outsAt0_C m c t (by omega) (by omega) hl]
    dsimp only
    rw [outC]
    obtain ⟨-, -, ⟨e0, e1⟩, -⟩ := index_eq t
    funext y
    obtain ⟨p, q, rfl⟩ : ∃ (p : Fin 1024) (q : Fin 1024), y = ix2 p q := ⟨y 0, y 1, eq_ix2 y⟩
    show _ = (plus (argX m c) (halved (nn (argA m c) (argB m c))) : S4096x2048.Idx → EReal) ((win0_3.rect t).emb (ix2 p q))
    have f : (win0_3.rect t).emb (ix2 p q) = ix2 (tok t p) (col t q) := funext fun a => Fin.ext (by
      match a with
      | ⟨0, _⟩ => refine (Pipeline.Window.rect_emb_val win0_3 t _ 0).trans ?_; rw [e0]; rfl
      | ⟨1, _⟩ => refine (Pipeline.Window.rect_emb_val win0_3 t _ 1).trans ?_; rw [e1]; rfl)
    rw [f]
    have whole := acc m c t.val t.isLt p q
    rw [outsAt0_C m c t (by omega) (by omega) hl] at whole
    dsimp only at whole
    rw [scrC, hl, upTo_last (w := 512) _ 10 (show (10 + 1) * 512 = 5632 by norm_num)] at whole
    refine (pay4_apply _ _ p q).trans ?_
    exact congrArg₂ (fun x y : EReal => x + y) (iblk_x m c t p q (tok t p) (col t q) rfl rfl) (congrArg (fun x : EReal => half * x) whole)
  · have h0 : (i 0 : ℕ) < 4096 := (i 0).isLt
    have h1 : (i 1 : ℕ) < 2048 := (i 1).isLt
    let t : Fin cfg0.N := ⟨((i 0 : ℕ) / 1024 * 2 + (i 1 : ℕ) / 1024) * 11 + 10, lt_of_lt_of_eq (by omega) N_eq.symm⟩
    have ht : t.val = ((i 0 : ℕ) / 1024 * 2 + (i 1 : ℕ) / 1024) * 11 + 10 := rfl
    refine ⟨t, (flush0_3 t).mpr (by omega), ?_⟩
    obtain ⟨-, -, ⟨e0, e1⟩, -⟩ := index_eq t
    show i ∈ ((View.whole main_v0).slice (win0_3.rect t)).set
    rw [View.set_slice_whole, Rect.mem_set_unit]
    intro a
    match a with
    | ⟨0, _⟩ =>
      show win0_3.index t 0 * 1024 ≤ (i 0 : ℕ) ∧ (i 0 : ℕ) < win0_3.index t 0 * 1024 + 1024
      rw [e0]; omega
    | ⟨1, _⟩ =>
      show win0_3.index t 1 * 1024 ≤ (i 1 : ℕ) ∧ (i 1 : ℕ) < win0_3.index t 1 * 1024 + 1024
      rw [e1]; omega

end Kernel

/-- The reference's result is the array the grid ends with. -/
theorem ref_eq (A : FVec Ideal Cert.FfnDownReferenceIdeal.S4096x5632 .bf16) (B : FVec Ideal Cert.FfnDownReferenceIdeal.S5632x2048 .bf16)
    (X : FVec Ideal Cert.FfnDownReferenceIdeal.S4096x2048 .f32) :
    (Cert.FfnDownReferenceIdeal.Read.val_main_v5 (F := Ideal) A B X : Cert.FfnDownReferenceIdeal.S4096x2048.Idx → EReal) = plus (m := 4096) (n := 2048) X (halved (m := 4096) (n := 2048) (nn (m := 4096) (n := 2048) (k := 5632) A B)) := by
  funext i
  obtain ⟨u, v, rfl⟩ : ∃ (u : Fin 4096) (v : Fin 2048), i = ix2 u v := ⟨i 0, i 1, eq_ix2 i⟩
  unfold Cert.FfnDownReferenceIdeal.Read.val_main_v5 Cert.FfnDownReferenceIdeal.Read.val_main_v4 Cert.FfnDownReferenceIdeal.Read.val_main_v3 Cert.FfnDownReferenceIdeal.Read.val_main_cst Cert.FfnDownReferenceIdeal.Read.val_main_v2 Cert.FfnDownReferenceIdeal.Read.val_main_v1 Cert.FfnDownReferenceIdeal.Read.val_main_v0
  pointwise
  rw [half_f32]
  rfl

/-- The reference runs and keeps its arguments. -/
theorem frame_ref : Cert.quiescent_FfnDownReferenceIdeal := fun m ρ _ =>
  (θ_run Cert.FfnDownReferenceIdeal.defs _ _).mono (fun r h => ⟨fun c => (h c).2, sem_eq_zero_of_no_sems (by decide) r.2⟩)
    (Cert.FfnDownReferenceIdeal.Value.run (F := Ideal) m ρ)

/-- The kernel and the reference end with equal results. -/
theorem algebraic : Cert.algebraic_FfnDownIdeal_FfnDownReferenceIdeal := by
  intro m g m' g' _ hagree
  refine ⟨fun c => plus (argX m c) (halved (nn (argA m c) (argB m c))), ?_, ?_⟩
  · refine (θ_run Cert.FfnDownIdeal.defs _ _).mono (fun r h c => ?_) (Cert.FfnDownIdeal.Value.run_blocks (F := Ideal) m g)
    obtain ⟨h0, hargs⟩ := h c
    exact ⟨h0.trans (final m c), hargs⟩
  · refine (θ_run Cert.FfnDownReferenceIdeal.defs _ _).mono (fun r h c => ?_) (Cert.FfnDownReferenceIdeal.Value.run (F := Ideal) m' g')
    obtain ⟨h0, hargs⟩ := h c
    obtain ⟨a0, a1, a2⟩ := hagree c
    refine ⟨h0.trans ?_, hargs⟩
    rw [Cert.FfnDownReferenceIdeal.Read.val_main_v5_eq, a0, a1, a2]
    exact ref_eq _ _ _

end Cert.FfnDownClaim

end
-- ==== Proof.FfnDaClaim.lean ====
/- The gradient of a feed-forward block's activations. Each grid point's block of the product, the array the grid ends with,
   and the claims against the plain product. -/
module

public import proofs.«01_k».proof.Defs
public import proofs.«01_k».proof.Proof.Gen.FfnDaIdeal.Value
public import proofs.«01_k».proof.Proof.Gen.FfnDaReferenceIdeal.Read
public import proofs.«01_k».proof.Proof.Products
public import proofs.«01_k».proof.Proof.Reals

public import Idealize.ShloMosaic.Adequacy
public import Idealize.ShloMosaic.Init

@[expose] public section

noncomputable section

namespace Cert.FfnDaClaim

open Idealize.ShloMosaic Idealize.SL.Sem Cert.Products Cert.Reals

section Kernel
open Cert.FfnDaIdeal Cert.FfnDaIdeal.Gen Cert.FfnDaIdeal.Value Idealize.ShloMosaic.TcCoe

/-- A grid point's product of its blocks. -/
theorem pay1_apply (a : FVec Ideal S1024x2048 .f32) (b : FVec Ideal S512x2048 .bf16) (p : Fin 1024) (q : Fin 512) :
    k0_pay1 (F := Ideal) a b (ix2 p q) = half * ∑ d : Fin 2048, a (ix2 p d) * b (ix2 q d) := by
  unfold k0_pay1
  pointwise
  rw [half_f32]
  rfl

variable (m : (ℓ : Loc nD τ sig) → Buf (Elt Ideal) ℓ) (c : Dev nD)

/-- The arguments as arrays of extended reals. -/
abbrev argA : S4096x2048.Idx → EReal := m ((c : Thread nD τ).loc main_arg0)
@[inherit_doc argA] abbrev argB : S5632x2048.Idx → EReal := m ((c : Thread nD τ).loc main_arg1)

/-- The number of grid points. -/
theorem N_eq : cfg0.N = 44 := N_0

/-- Where the windows lie. -/
theorem index_eq : ∀ t : Fin grid0.N,
    (win0_0.index t 0 = t.val / 11 ∧ win0_0.index t 1 = 0)
    ∧ (win0_1.index t 0 = t.val % 11 ∧ win0_1.index t 1 = 0)
    ∧ (win0_2.index t 0 = t.val / 11 ∧ win0_2.index t 1 = t.val % 11) := by decide +kernel

/-- The block of the left factor read at a point. -/
theorem iblk_a (t : Fin cfg0.N) (p : Fin 1024) (q : Fin 2048) (p' : Fin 4096) (q' : Fin 2048)
    (hp : p'.val = t.val / 11 * 1024 + p.val) (hq : q'.val = 0 * 2048 + q.val) :
    (iblk (F := Ideal) m c 0 t : S1024x2048.Idx → EReal) (ix2 p q) = argA m c (ix2 p' q') := by
  obtain ⟨⟨e0, e1⟩, -⟩ := index_eq t
  show (V (F := Ideal) m c main_arg0 : S4096x2048.Idx → EReal) ((win0_0.rect t).emb (ix2 p q)) = _
  rw [V_main_arg0]
  refine congrArg (argA m c) (funext fun a => Fin.ext ?_)
  match a with
  | ⟨0, _⟩ => refine (Pipeline.Window.rect_emb_val win0_0 t _ 0).trans ?_; rw [e0]; exact hp.symm
  | ⟨1, _⟩ => refine (Pipeline.Window.rect_emb_val win0_0 t _ 1).trans ?_; rw [e1]; exact hq.symm

/-- The block of the right factor read at a point. -/
theorem iblk_b (t : Fin cfg0.N) (p : Fin 512) (q : Fin 2048) (p' : Fin 5632) (q' : Fin 2048)
    (hp : p'.val = t.val % 11 * 512 + p.val) (hq : q'.val = 0 * 2048 + q.val) :
    (iblk (F := Ideal) m c 1 t : S512x2048.Idx → EReal) (ix2 p q) = argB m c (ix2 p' q') := by
  obtain ⟨-, ⟨e0, e1⟩, -⟩ := index_eq t
  show (V (F := Ideal) m c main_arg1 : S5632x2048.Idx → EReal) ((win0_1.rect t).emb (ix2 p q)) = _
  rw [V_main_arg1]
  refine congrArg (argB m c) (funext fun a => Fin.ext ?_)
  match a with
  | ⟨0, _⟩ => refine (Pipeline.Window.rect_emb_val win0_1 t _ 0).trans ?_; rw [e0]; exact hp.symm
  | ⟨1, _⟩ => refine (Pipeline.Window.rect_emb_val win0_1 t _ 1).trans ?_; rw [e1]; exact hq.symm

/-- The row and the column of the product that a grid point's block holds. -/
def tok (t : Fin cfg0.N) (p : Fin 1024) : Fin 4096 :=
  ⟨t.val / 11 * 1024 + p.val, by have h : t.val < 44 := lt_of_lt_of_eq t.isLt N_eq; omega⟩
@[inherit_doc tok] def col (t : Fin cfg0.N) (q : Fin 512) : Fin 5632 :=
  ⟨t.val % 11 * 512 + q.val, by have h : t.val < 44 := lt_of_lt_of_eq t.isLt N_eq; omega⟩

/-- The array after the grid. -/
theorem final : (dats (F := Ideal) m 0 c).arrAt 2 cfg0.N = (halved (nt (argA m c) (argB m c)) : S4096x5632.Idx → EReal) := by
  refine (dats (F := Ideal) m 0 c).arrAt_eq_of_cover 2 _ (fun t _ => ?_) (fun i => ?_)
  · rw [flushed2]
    obtain ⟨-, -, e0, e1⟩ := index_eq t
    funext y
    obtain ⟨p, q, rfl⟩ : ∃ (p : Fin 1024) (q : Fin 512), y = ix2 p q := ⟨y 0, y 1, eq_ix2 y⟩
    unfold out0_2
    refine Eq.trans (congrFun (View.canon_unit_zero (Val := Elt Ideal) (S := S1024x512) origin _ _) _) ?_
    refine (pay1_apply _ _ p q).trans ?_
    show _ = (halved (nt (argA m c) (argB m c)) : S4096x5632.Idx → EReal) ((win0_2.rect t).emb (ix2 p q))
    have f : (win0_2.rect t).emb (ix2 p q) = ix2 (tok t p) (col t q) := funext fun a => Fin.ext (by
      match a with
      | ⟨0, _⟩ => refine (Pipeline.Window.rect_emb_val win0_2 t _ 0).trans ?_; rw [e0]; rfl
      | ⟨1, _⟩ => refine (Pipeline.Window.rect_emb_val win0_2 t _ 1).trans ?_; rw [e1]; rfl)
    rw [f]
    exact congrArg (fun x : EReal => half * x) (Finset.sum_congr rfl fun d _ => congrArg₂ (fun x y : EReal => x * y)
      ((congrFun (View.ld_unit_zero (Val := Elt Ideal) (S := S1024x2048) origin _ _) _).trans (iblk_a m c t p d (tok t p) d rfl (by omega)))
      ((congrFun (View.ld_unit_zero (Val := Elt Ideal) (S := S512x2048) origin _ _) _).trans (iblk_b m c t q d (col t q) d rfl (by omega))))
  · have h0 : (i 0 : ℕ) < 4096 := (i 0).isLt
    have h1 : (i 1 : ℕ) < 5632 := (i 1).isLt
    let t : Fin cfg0.N := ⟨(i 0 : ℕ) / 1024 * 11 + (i 1 : ℕ) / 512, lt_of_lt_of_eq (by omega) N_eq.symm⟩
    refine ⟨t, flush0_2 t, ?_⟩
    obtain ⟨-, -, e0, e1⟩ := index_eq t
    have ht : t.val = (i 0 : ℕ) / 1024 * 11 + (i 1 : ℕ) / 512 := rfl
    show i ∈ ((View.whole main_v0).slice (win0_2.rect t)).set
    rw [View.set_slice_whole, Rect.mem_set_unit]
    intro a
    match a with
    | ⟨0, _⟩ =>
      show win0_2.index t 0 * 1024 ≤ (i 0 : ℕ) ∧ (i 0 : ℕ) < win0_2.index t 0 * 1024 + 1024
      rw [e0]; omega
    | ⟨1, _⟩ =>
      show win0_2.index t 1 * 512 ≤ (i 1 : ℕ) ∧ (i 1 : ℕ) < win0_2.index t 1 * 512 + 512
      rw [e1]; omega

end Kernel

/-- The reference's result is the array the grid ends with. -/
theorem ref_eq (A : FVec Ideal Cert.FfnDaReferenceIdeal.S4096x2048 .f32) (B : FVec Ideal Cert.FfnDaReferenceIdeal.S5632x2048 .bf16) :
    (Cert.FfnDaReferenceIdeal.Read.val_main_v7 (F := Ideal) A B : Cert.FfnDaReferenceIdeal.S4096x5632.Idx → EReal) = halved (m := 4096) (n := 5632) (nt (m := 4096) (n := 5632) (k := 2048) A B) := by
  funext i
  obtain ⟨u, v, rfl⟩ : ∃ (u : Fin 4096) (v : Fin 5632), i = ix2 u v := ⟨i 0, i 1, eq_ix2 i⟩
  unfold Cert.FfnDaReferenceIdeal.Read.val_main_v7 Cert.FfnDaReferenceIdeal.Read.val_main_v6 Cert.FfnDaReferenceIdeal.Read.val_main_v5 Cert.FfnDaReferenceIdeal.Read.val_main_cst_1 Cert.FfnDaReferenceIdeal.Read.val_main_v1
  pointwise
  rw [half_f32]
  unfold halved nt
  rw [half_mul_sum]
  exact Finset.sum_congr rfl fun n _ => mul_assoc _ _ _

/-- The reference runs and keeps its arguments. -/
theorem frame_ref : Cert.quiescent_FfnDaReferenceIdeal := fun m ρ _ =>
  (θ_run Cert.FfnDaReferenceIdeal.defs _ _).mono (fun r h => ⟨fun c => (h c).2, sem_eq_zero_of_no_sems (by decide) r.2⟩)
    (Cert.FfnDaReferenceIdeal.Value.run (F := Ideal) m ρ)

/-- The kernel and the reference end with equal results. -/
theorem algebraic : Cert.algebraic_FfnDaIdeal_FfnDaReferenceIdeal := by
  intro m g m' g' _ hagree
  refine ⟨fun c => halved (nt (argA m c) (argB m c)), ?_, ?_⟩
  · refine (θ_run Cert.FfnDaIdeal.defs _ _).mono (fun r h c => ?_) (Cert.FfnDaIdeal.Value.run_blocks (F := Ideal) m g)
    obtain ⟨h0, hargs⟩ := h c
    exact ⟨h0.trans (final m c), hargs⟩
  · refine (θ_run Cert.FfnDaReferenceIdeal.defs _ _).mono (fun r h c => ?_) (Cert.FfnDaReferenceIdeal.Value.run (F := Ideal) m' g')
    obtain ⟨h0, hargs⟩ := h c
    obtain ⟨a0, a1⟩ := hagree c
    refine ⟨h0.trans ?_, hargs⟩
    rw [Cert.FfnDaReferenceIdeal.Read.val_main_v7_eq, a0, a1]
    exact ref_eq _ _

end Cert.FfnDaClaim

end
-- ==== Proof.FfnDwdClaim.lean ====
/- The gradient of a feed-forward block's down weights. Each grid point's block of the product, the array the grid ends with,
   and the claims against the plain product. -/
module

public import proofs.«01_k».proof.Defs
public import proofs.«01_k».proof.Proof.Gen.FfnDwdIdeal.Value
public import proofs.«01_k».proof.Proof.Gen.FfnDwdReferenceIdeal.Read
public import proofs.«01_k».proof.Proof.Products
public import proofs.«01_k».proof.Proof.Reals
public import proofs.«01_k».proof.Proof.Partial
public import Idealize.ShloMosaic.Lib.Tactic
public import Idealize.ShloMosaic.Adequacy
public import Idealize.ShloMosaic.Init

@[expose] public section

noncomputable section

namespace Cert.FfnDwdClaim

open Idealize.ShloMosaic Idealize.SL.Sem Cert.Products Cert.Reals Cert.Partial

section Kernel
open Cert.FfnDwdIdeal Cert.FfnDwdIdeal.Gen Cert.FfnDwdIdeal.Value Idealize.ShloMosaic.TcCoe

section Cases
variable {F : FTy → Type} [FloatOps F] (c : Dev nD) (i : grid0.Coords)
  (a3 : Memref sig .tc .vmem S1024x512 .bf16) (h3 : a3.IsWhole)
  (a4 : Memref sig .tc .vmem S1024x1024 .f32) (h4 : a4.IsWhole)
  (a5 : Memref sig .tc .vmem S512x1024 .f32) (h5 : a5.IsWhole)
  (a6 : Memref sig .tc .vmem S512x1024 .f32) (h6 : a6.IsWhole)
  (x0 : Vec F S1024x512 .bf16) (x1 : Vec F S1024x1024 .f32) (s : Vec F S512x1024 .f32)

/-- The first block of the sum starts the accumulator. -/
theorem scrA (hc0 : cond0_0 i) (hc1 : ¬cond0_1 i) (hc2 : ¬cond0_2 i) :
    sout0_A_0 (F := F) c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero origin]
  simp only [View.readAt_eq_ld, h3.read_unread, h4.read_unread, h5.read_unread, h6.read_unread, View.ld_unit_zero (S := S1024x1024) origin, View.ld_unit_zero (S := S1024x512) origin, View.ld_unit_zero (S := S512x1024) origin]

/-- A later block of the sum is added to the accumulator. -/
theorem scrB (hc0 : ¬cond0_0 i) (hc1 : cond0_1 i) (hc2 : ¬cond0_2 i) :
    sout0_B_0 (F := F) c i a3 h3 a4 h4 a5 h5 a6 h6 hc0 hc1 hc2 x0 x1 s = k0_pay3 x0 x1 s := by
  unfold sout0_B_0
  rw [View.read_writes_eq_canon _ _ _ (scover0_B_0 c i a3 h3 a4 h4 a5 h5 a6 h6 hc0 hc1 hc2 x0 x1 s)]
  unfold kernelRun0_B
  dsimp only
  sl_unfold_words
  rw [View.canon_unit_zero origin]
  simp only [View.readAt_eq_ld, h3.read_unread, h4.read_unread, h5.read_unread, h6.read_unread, View.ld_unit_zero (S := S1024x1024) origin, View.ld_unit_zero (S := S1024x512) origin, View.ld_unit_zero (S := S512x1024) origin]

/-- So is the last block of the sum. -/
theorem scrC (hc0 : ¬cond0_0 i) (hc1 : cond0_1 i) (hc2 : cond0_2 i) :
    sout0_C_0 (F := F) c i a3 h3 a4 h4 a5 h5 a6 h6 hc0 hc1 hc2 x0 x1 s = k0_pay3 x0 x1 s := by
  unfold sout0_C_0
  rw [View.read_writes_eq_canon _ _ _ (scover0_C_0 c i a3 h3 a4 h4 a5 h5 a6 h6 hc0 hc1 hc2 x0 x1 s)]
  unfold kernelRun0_C
  dsimp only
  sl_unfold_words
  rw [View.canon_unit_zero origin]
  simp only [View.readAt_eq_ld, h3.read_unread, h4.read_unread, h5.read_unread, h6.read_unread, View.ld_unit_zero (S := S1024x1024) origin, View.ld_unit_zero (S := S1024x512) origin, View.ld_unit_zero (S := S512x1024) origin]

/-- With the last block of the sum the accumulator goes out. -/
theorem outC (hc0 : ¬cond0_0 i) (hc1 : cond0_1 i) (hc2 : cond0_2 i) :
    out0_C_2 (F := F) c i a3 h3 a4 h4 a5 h5 a6 h6 hc0 hc1 hc2 x0 x1 s = k0_pay4 (k0_pay3 x0 x1 s) := by
  unfold out0_C_2
  rw [View.read_writes_eq_canon _ _ _ (cover0_C_2 c i a3 h3 a4 h4 a5 h5 a6 h6 hc0 hc1 hc2 x0 x1 s)]
  unfold kernelRun0_C
  dsimp only
  sl_unfold_words
  rw [View.canon_unit_zero origin]
  simp only [View.readAt_eq_ld, h3.read_unread, h4.read_unread, h5.read_unread, h6.read_unread, View.ld_unit_zero (S := S1024x1024) origin, View.ld_unit_zero (S := S1024x512) origin, View.ld_unit_zero (S := S512x1024) origin, View.readCov_cons_toLoadRect]

end Cases

/-- The product of two blocks. -/
theorem pay1_apply (a : FVec Ideal S1024x512 .bf16) (b : FVec Ideal S1024x1024 .f32) (p : Fin 512) (q : Fin 1024) :
    k0_pay1 (F := Ideal) a b (ix2 p q) = ∑ d : Fin 1024, a (ix2 d p) * b (ix2 d q) := by
  unfold k0_pay1
  pointwise

/-- What starts the accumulator. -/
theorem pay2_apply (a : FVec Ideal S1024x512 .bf16) (b : FVec Ideal S1024x1024 .f32) (p : Fin 512) (q : Fin 1024) :
    k0_pay2 (F := Ideal) a b (ix2 p q) = ∑ d : Fin 1024, a (ix2 d p) * b (ix2 d q) := by
  unfold k0_pay2
  pointwise
  exact pay1_apply a b p q

/-- What is added to the accumulator. -/
theorem pay3_apply (a : FVec Ideal S1024x512 .bf16) (b : FVec Ideal S1024x1024 .f32) (s : FVec Ideal S512x1024 .f32) (p : Fin 512) (q : Fin 1024) :
    k0_pay3 (F := Ideal) a b s (ix2 p q) = s (ix2 p q) + ∑ d : Fin 1024, a (ix2 d p) * b (ix2 d q) := by
  unfold k0_pay3
  pointwise
  rw [pay1_apply a b p q]

/-- What goes out. -/
theorem pay4_apply (s : FVec Ideal S512x1024 .f32) (p : Fin 512) (q : Fin 1024) :
    k0_pay4 (F := Ideal) s (ix2 p q) = half * s (ix2 p q) := by
  unfold k0_pay4
  pointwise
  rw [half_f32]
  rfl

variable (m : (ℓ : Loc nD τ sig) → Buf (Elt Ideal) ℓ) (c : Dev nD)

/-- The arguments as arrays of extended reals. -/
abbrev argA : S4096x5632.Idx → EReal := m ((c : Thread nD τ).loc main_arg0)
@[inherit_doc argA] abbrev argB : S4096x2048.Idx → EReal := m ((c : Thread nD τ).loc main_arg1)

/-- The number of grid points. -/
theorem N_eq : cfg0.N = 88 := N_0

/-- Where the windows lie. -/
theorem index_eq : ∀ t : Fin grid0.N,
    (win0_0.index t 0 = t.val % 4 ∧ win0_0.index t 1 = t.val / 8)
    ∧ (win0_1.index t 0 = t.val % 4 ∧ win0_1.index t 1 = t.val / 4 % 2)
    ∧ (win0_2.index t 0 = t.val / 8 ∧ win0_2.index t 1 = t.val / 4 % 2) := by decide +kernel

/-- The block of the left factor read at a point. -/
theorem iblk_a (t : Fin cfg0.N) (p : Fin 1024) (q : Fin 512) (p' : Fin 4096) (q' : Fin 5632)
    (hp : p'.val = t.val % 4 * 1024 + p.val) (hq : q'.val = t.val / 8 * 512 + q.val) :
    (iblk (F := Ideal) m c 0 t : S1024x512.Idx → EReal) (ix2 p q) = argA m c (ix2 p' q') := by
  obtain ⟨⟨e0, e1⟩, -⟩ := index_eq t
  show (V (F := Ideal) m c main_arg0 : S4096x5632.Idx → EReal) ((win0_0.rect t).emb (ix2 p q)) = _
  rw [V_main_arg0]
  refine congrArg (argA m c) (funext fun a => Fin.ext ?_)
  match a with
  | ⟨0, _⟩ => refine (Pipeline.Window.rect_emb_val win0_0 t _ 0).trans ?_; rw [e0]; exact hp.symm
  | ⟨1, _⟩ => refine (Pipeline.Window.rect_emb_val win0_0 t _ 1).trans ?_; rw [e1]; exact hq.symm

/-- The block of the right factor read at a point. -/
theorem iblk_b (t : Fin cfg0.N) (p : Fin 1024) (q : Fin 1024) (p' : Fin 4096) (q' : Fin 2048)
    (hp : p'.val = t.val % 4 * 1024 + p.val) (hq : q'.val = t.val / 4 % 2 * 1024 + q.val) :
    (iblk (F := Ideal) m c 1 t : S1024x1024.Idx → EReal) (ix2 p q) = argB m c (ix2 p' q') := by
  obtain ⟨-, ⟨e0, e1⟩, -⟩ := index_eq t
  show (V (F := Ideal) m c main_arg1 : S4096x2048.Idx → EReal) ((win0_1.rect t).emb (ix2 p q)) = _
  rw [V_main_arg1]
  refine congrArg (argB m c) (funext fun a => Fin.ext ?_)
  match a with
  | ⟨0, _⟩ => refine (Pipeline.Window.rect_emb_val win0_1 t _ 0).trans ?_; rw [e0]; exact hp.symm
  | ⟨1, _⟩ => refine (Pipeline.Window.rect_emb_val win0_1 t _ 1).trans ?_; rw [e1]; exact hq.symm

/-- The row and the column of the product that a grid point's block holds, and the place in the sum that its blocks
   start from. -/
def tok (t : Fin cfg0.N) (p : Fin 512) : Fin 5632 :=
  ⟨t.val / 8 * 512 + p.val, by have h : t.val < 88 := lt_of_lt_of_eq t.isLt N_eq; omega⟩
@[inherit_doc tok] def col (t : Fin cfg0.N) (q : Fin 1024) : Fin 2048 :=
  ⟨t.val / 4 % 2 * 1024 + q.val, by have h : t.val < 88 := lt_of_lt_of_eq t.isLt N_eq; omega⟩
@[inherit_doc tok] def dep (t : Fin cfg0.N) (d : Fin 1024) : Fin 4096 :=
  ⟨t.val % 4 * 1024 + d.val, by have h : t.val < 88 := lt_of_lt_of_eq t.isLt N_eq; omega⟩

/-- One term of an entry of the product. -/
def term (A : S4096x5632.Idx → EReal) (B : S4096x2048.Idx → EReal) (u : Fin 5632) (v : Fin 2048) (d : Fin 4096) : EReal :=
  A (ix2 d u) * B (ix2 d v)

/-- The blocks read at a point. -/
abbrev blkA (t : Fin cfg0.N) : S1024x512.Idx → EReal := iblk (F := Ideal) m c 0 t
@[inherit_doc blkA] abbrev blkB (t : Fin cfg0.N) : S1024x1024.Idx → EReal := iblk (F := Ideal) m c 1 t

/-- What a grid point's blocks contribute. -/
theorem share (t : Fin cfg0.N) (p : Fin 512) (q : Fin 1024) :
    (∑ d : Fin 1024, blkA m c t (ix2 d p) * blkB m c t (ix2 d q))
      = ∑ d : Fin 1024, term (argA m c) (argB m c) (tok t p) (col t q) (dep t d) :=
  Finset.sum_congr rfl fun d _ => congrArg₂ (fun x y : EReal => x * y) (iblk_a m c t d p (dep t d) (tok t p) rfl rfl) (iblk_b m c t d q (dep t d) (col t q) rfl rfl)

/-- The accumulator after a grid point holds what the blocks so far add up to. -/
theorem acc : ∀ (n : ℕ) (hn : n < cfg0.N) (p : Fin 512) (q : Fin 1024),
    ((outsAt0 (F := Ideal) m c n hn).2 : S512x1024.Idx → EReal) (ix2 p q)
      = upTo (term (argA m c) (argB m c) (tok ⟨n, hn⟩ p) (col ⟨n, hn⟩ q)) 1024 (n % 4) := by
  have start : ∀ (t : Fin cfg0.N) (p : Fin 512) (q : Fin 1024), t.val % 4 = 0 →
      ((outsAt0 (F := Ideal) m c t.val t.isLt).2 : S512x1024.Idx → EReal) (ix2 p q)
        = upTo (term (argA m c) (argB m c) (tok t p) (col t q)) 1024 (t.val % 4) := by
    intro t p q h
    rw [outsAt0_A m c t h (by omega) (by omega)]
    dsimp only
    rw [scrA, h, upTo_zero _ (dep t) (fun r => by show t.val % 4 * 1024 + r.val = r.val; omega)]
    exact (pay2_apply _ _ p q).trans (share m c t p q)
  intro n
  induction n with
  | zero => exact fun hn p q => start ⟨0, hn⟩ p q rfl
  | succ n ih =>
    intro hn p q
    by_cases h : (n + 1) % 4 = 0
    · exact start ⟨n + 1, hn⟩ p q h
    have hn' : n < cfg0.N := Nat.lt_of_succ_lt hn
    have hk : (n + 1) % 4 = n % 4 + 1 := by omega
    have hu : tok ⟨n, hn'⟩ p = tok ⟨n + 1, hn⟩ p := Fin.ext (by
      show n / 8 * 512 + p.val = (n + 1) / 8 * 512 + p.val; omega)
    have hv : col ⟨n, hn'⟩ q = col ⟨n + 1, hn⟩ q := Fin.ext (by
      show n / 4 % 2 * 1024 + q.val = (n + 1) / 4 % 2 * 1024 + q.val
      rw [show (n + 1) / 4 = n / 4 by omega])
    have hd : ∀ r : Fin 1024, (dep ⟨n + 1, hn⟩ r).val = (n % 4 + 1) * 1024 + r.val := fun r => by
      show (n + 1) % 4 * 1024 + r.val = _; rw [hk]
    have main : k0_pay3 (F := Ideal) (iblk m c 0 ⟨n + 1, hn⟩) (iblk m c 1 ⟨n + 1, hn⟩) (outsAt0 (F := Ideal) m c n hn').2 (ix2 p q)
        = upTo (term (argA m c) (argB m c) (tok ⟨n + 1, hn⟩ p) (col ⟨n + 1, hn⟩ q)) 1024 ((n + 1) % 4) := by
      refine (pay3_apply _ _ _ p q).trans ?_
      rw [hk, upTo_succ _ _ (dep ⟨n + 1, hn⟩) hd, ← hu, ← hv, ← ih hn' p q, hu, hv]
      exact congrArg _ (share m c ⟨n + 1, hn⟩ p q)
    by_cases h2 : (n + 1) % 4 = 3
    · rw [outsAt0_C m c ⟨n + 1, hn⟩ h (by dsimp only; omega) h2]
      dsimp only
      rw [scrC]
      exact main
    · rw [outsAt0_B m c ⟨n + 1, hn⟩ h (by dsimp only; omega) h2]
      dsimp only
      rw [scrB]
      exact main

/-- The array after the grid. -/
theorem final : (dats (F := Ideal) m 0 c).arrAt 2 cfg0.N = (halved (tn (argA m c) (argB m c)) : S5632x2048.Idx → EReal) := by
  refine (dats (F := Ideal) m 0 c).arrAt_eq_of_cover 2 _ (fun t hf => ?_) (fun i => ?_)
  · have hl : t.val % 4 = 3 := (flush0_2 t).mp hf
    rw [flushed2, outsAt0_C m c t (by omega) (by omega) hl]
    dsimp only
    rw [outC]
    obtain ⟨-, -, e0, e1⟩ := index_eq t
    funext y
    obtain ⟨p, q, rfl⟩ : ∃ (p : Fin 512) (q : Fin 1024), y = ix2 p q := ⟨y 0, y 1, eq_ix2 y⟩
    show _ = (halved (tn (argA m c) (argB m c)) : S5632x2048.Idx → EReal) ((win0_2.rect t).emb (ix2 p q))
    have f : (win0_2.rect t).emb (ix2 p q) = ix2 (tok t p) (col t q) := funext fun a => Fin.ext (by
      match a with
      | ⟨0, _⟩ => refine (Pipeline.Window.rect_emb_val win0_2 t _ 0).trans ?_; rw [e0]; rfl
      | ⟨1, _⟩ => refine (Pipeline.Window.rect_emb_val win0_2 t _ 1).trans ?_; rw [e1]; rfl)
    rw [f]
    have whole := acc m c t.val t.isLt p q
    rw [outsAt0_C m c t (by omega) (by omega) hl] at whole
    dsimp only at whole
    rw [scrC, hl, upTo_last (w := 1024) _ 3 (show (3 + 1) * 1024 = 4096 by norm_num)] at whole
    refine (pay4_apply _ p q).trans ?_
    exact congrArg (fun x : EReal => half * x) whole
  · have h0 : (i 0 : ℕ) < 5632 := (i 0).isLt
    have h1 : (i 1 : ℕ) < 2048 := (i 1).isLt
    let t : Fin cfg0.N := ⟨((i 0 : ℕ) / 512 * 2 + (i 1 : ℕ) / 1024) * 4 + 3, lt_of_lt_of_eq (by omega) N_eq.symm⟩
    have ht : t.val = ((i 0 : ℕ) / 512 * 2 + (i 1 : ℕ) / 1024) * 4 + 3 := rfl
    refine ⟨t, (flush0_2 t).mpr (by omega), ?_⟩
    obtain ⟨-, -, e0, e1⟩ := index_eq t
    show i ∈ ((View.whole main_v0).slice (win0_2.rect t)).set
    rw [View.set_slice_whole, Rect.mem_set_unit]
    intro a
    match a with
    | ⟨0, _⟩ =>
      show win0_2.index t 0 * 512 ≤ (i 0 : ℕ) ∧ (i 0 : ℕ) < win0_2.index t 0 * 512 + 512
      rw [e0]; omega
    | ⟨1, _⟩ =>
      show win0_2.index t 1 * 1024 ≤ (i 1 : ℕ) ∧ (i 1 : ℕ) < win0_2.index t 1 * 1024 + 1024
      rw [e1]; omega

end Kernel

/-- The reference's result is the array the grid ends with. -/
theorem ref_eq (A : FVec Ideal Cert.FfnDwdReferenceIdeal.S4096x5632 .bf16) (B : FVec Ideal Cert.FfnDwdReferenceIdeal.S4096x2048 .f32) :
    (Cert.FfnDwdReferenceIdeal.Read.val_main_v8 (F := Ideal) A B : Cert.FfnDwdReferenceIdeal.S5632x2048.Idx → EReal) = halved (m := 5632) (n := 2048) (tn (m := 5632) (n := 2048) (k := 4096) A B) := by
  funext i
  obtain ⟨u, v, rfl⟩ : ∃ (u : Fin 5632) (v : Fin 2048), i = ix2 u v := ⟨i 0, i 1, eq_ix2 i⟩
  unfold Cert.FfnDwdReferenceIdeal.Read.val_main_v8 Cert.FfnDwdReferenceIdeal.Read.val_main_v7 Cert.FfnDwdReferenceIdeal.Read.val_main_v6 Cert.FfnDwdReferenceIdeal.Read.val_main_v5 Cert.FfnDwdReferenceIdeal.Read.val_main_cst_1 Cert.FfnDwdReferenceIdeal.Read.val_main_v1
  pointwise
  rw [half_f32]
  unfold halved tn
  rw [half_mul_sum]
  exact Finset.sum_congr rfl fun n _ => (mul_assoc _ _ _).trans (congrArg (fun x : EReal => half * x) (mul_comm _ _))

/-- The reference runs and keeps its arguments. -/
theorem frame_ref : Cert.quiescent_FfnDwdReferenceIdeal := fun m ρ _ =>
  (θ_run Cert.FfnDwdReferenceIdeal.defs _ _).mono (fun r h => ⟨fun c => (h c).2, sem_eq_zero_of_no_sems (by decide) r.2⟩)
    (Cert.FfnDwdReferenceIdeal.Value.run (F := Ideal) m ρ)

/-- The kernel and the reference end with equal results. -/
theorem algebraic : Cert.algebraic_FfnDwdIdeal_FfnDwdReferenceIdeal := by
  intro m g m' g' _ hagree
  refine ⟨fun c => halved (tn (argA m c) (argB m c)), ?_, ?_⟩
  · refine (θ_run Cert.FfnDwdIdeal.defs _ _).mono (fun r h c => ?_) (Cert.FfnDwdIdeal.Value.run_blocks (F := Ideal) m g)
    obtain ⟨h0, hargs⟩ := h c
    exact ⟨h0.trans (final m c), hargs⟩
  · refine (θ_run Cert.FfnDwdReferenceIdeal.defs _ _).mono (fun r h c => ?_) (Cert.FfnDwdReferenceIdeal.Value.run (F := Ideal) m' g')
    obtain ⟨h0, hargs⟩ := h c
    obtain ⟨a0, a1⟩ := hagree c
    refine ⟨h0.trans ?_, hargs⟩
    rw [Cert.FfnDwdReferenceIdeal.Read.val_main_v8_eq, a0, a1]
    exact ref_eq _ _

end Cert.FfnDwdClaim

end
-- ==== Proof.FfnDwguClaim.lean ====
/- The gradient of a feed-forward block's gate and up weights. Each grid point's block of the product, the array the grid ends with,
   and the claims against the plain product. -/
module

public import proofs.«01_k».proof.Defs
public import proofs.«01_k».proof.Proof.Gen.FfnDwguIdeal.Value
public import proofs.«01_k».proof.Proof.Gen.FfnDwguReferenceIdeal.Read
public import proofs.«01_k».proof.Proof.Products
public import proofs.«01_k».proof.Proof.Reals
public import proofs.«01_k».proof.Proof.Partial
public import Idealize.ShloMosaic.Lib.Tactic
public import Idealize.ShloMosaic.Adequacy
public import Idealize.ShloMosaic.Init

@[expose] public section

noncomputable section

namespace Cert.FfnDwguClaim

open Idealize.ShloMosaic Idealize.SL.Sem Cert.Products Cert.Reals Cert.Partial

section Kernel
open Cert.FfnDwguIdeal Cert.FfnDwguIdeal.Gen Cert.FfnDwguIdeal.Value Idealize.ShloMosaic.TcCoe

section Cases
variable {F : FTy → Type} [FloatOps F] (c : Dev nD) (i : grid0.Coords)
  (a3 : Memref sig .tc .vmem S1024x1024 .bf16) (h3 : a3.IsWhole)
  (a4 : Memref sig .tc .vmem S1024x1024 .bf16) (h4 : a4.IsWhole)
  (a5 : Memref sig .tc .vmem S1024x1024 .f32) (h5 : a5.IsWhole)
  (a6 : Memref sig .tc .vmem S1024x1024 .f32) (h6 : a6.IsWhole)
  (x0 : Vec F S1024x1024 .bf16) (x1 : Vec F S1024x1024 .bf16) (s : Vec F S1024x1024 .f32)

/-- The first block of the sum starts the accumulator. -/
theorem scrA (hc0 : cond0_0 i) (hc1 : ¬cond0_1 i) (hc2 : ¬cond0_2 i) :
    sout0_A_0 (F := F) c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero origin]
  simp only [View.readAt_eq_ld, h3.read_unread, h4.read_unread, h5.read_unread, h6.read_unread, View.ld_unit_zero (S := S1024x1024) origin]

/-- A later block of the sum is added to the accumulator. -/
theorem scrB (hc0 : ¬cond0_0 i) (hc1 : cond0_1 i) (hc2 : ¬cond0_2 i) :
    sout0_B_0 (F := F) c i a3 h3 a4 h4 a5 h5 a6 h6 hc0 hc1 hc2 x0 x1 s = k0_pay3 x0 x1 s := by
  unfold sout0_B_0
  rw [View.read_writes_eq_canon _ _ _ (scover0_B_0 c i a3 h3 a4 h4 a5 h5 a6 h6 hc0 hc1 hc2 x0 x1 s)]
  unfold kernelRun0_B
  dsimp only
  sl_unfold_words
  rw [View.canon_unit_zero origin]
  simp only [View.readAt_eq_ld, h3.read_unread, h4.read_unread, h5.read_unread, h6.read_unread, View.ld_unit_zero (S := S1024x1024) origin]

/-- So is the last block of the sum. -/
theorem scrC (hc0 : ¬cond0_0 i) (hc1 : cond0_1 i) (hc2 : cond0_2 i) :
    sout0_C_0 (F := F) c i a3 h3 a4 h4 a5 h5 a6 h6 hc0 hc1 hc2 x0 x1 s = k0_pay3 x0 x1 s := by
  unfold sout0_C_0
  rw [View.read_writes_eq_canon _ _ _ (scover0_C_0 c i a3 h3 a4 h4 a5 h5 a6 h6 hc0 hc1 hc2 x0 x1 s)]
  unfold kernelRun0_C
  dsimp only
  sl_unfold_words
  rw [View.canon_unit_zero origin]
  simp only [View.readAt_eq_ld, h3.read_unread, h4.read_unread, h5.read_unread, h6.read_unread, View.ld_unit_zero (S := S1024x1024) origin]

/-- With the last block of the sum the accumulator goes out. -/
theorem outC (hc0 : ¬cond0_0 i) (hc1 : cond0_1 i) (hc2 : cond0_2 i) :
    out0_C_2 (F := F) c i a3 h3 a4 h4 a5 h5 a6 h6 hc0 hc1 hc2 x0 x1 s = k0_pay3 x0 x1 s := by
  unfold out0_C_2
  rw [View.read_writes_eq_canon _ _ _ (cover0_C_2 c i a3 h3 a4 h4 a5 h5 a6 h6 hc0 hc1 hc2 x0 x1 s)]
  unfold kernelRun0_C
  dsimp only
  sl_unfold_words
  rw [View.canon_unit_zero origin]
  simp only [View.readAt_eq_ld, h3.read_unread, h4.read_unread, h5.read_unread, h6.read_unread, View.ld_unit_zero (S := S1024x1024) origin, View.readCov_cons_toLoadRect]

end Cases

/-- The product of two blocks. -/
theorem pay1_apply (a : FVec Ideal S1024x1024 .bf16) (b : FVec Ideal S1024x1024 .bf16) (p : Fin 1024) (q : Fin 1024) :
    k0_pay1 (F := Ideal) a b (ix2 p q) = ∑ d : Fin 1024, a (ix2 d p) * b (ix2 d q) := by
  unfold k0_pay1
  pointwise

/-- What starts the accumulator. -/
theorem pay2_apply (a : FVec Ideal S1024x1024 .bf16) (b : FVec Ideal S1024x1024 .bf16) (p : Fin 1024) (q : Fin 1024) :
    k0_pay2 (F := Ideal) a b (ix2 p q) = ∑ d : Fin 1024, a (ix2 d p) * b (ix2 d q) := by
  unfold k0_pay2
  pointwise
  exact pay1_apply a b p q

/-- What is added to the accumulator. -/
theorem pay3_apply (a : FVec Ideal S1024x1024 .bf16) (b : FVec Ideal S1024x1024 .bf16) (s : FVec Ideal S1024x1024 .f32) (p : Fin 1024) (q : Fin 1024) :
    k0_pay3 (F := Ideal) a b s (ix2 p q) = s (ix2 p q) + ∑ d : Fin 1024, a (ix2 d p) * b (ix2 d q) := by
  unfold k0_pay3
  pointwise
  rw [pay1_apply a b p q]

variable (m : (ℓ : Loc nD τ sig) → Buf (Elt Ideal) ℓ) (c : Dev nD)

/-- The arguments as arrays of extended reals. -/
abbrev argA : S4096x2048.Idx → EReal := m ((c : Thread nD τ).loc main_arg0)
@[inherit_doc argA] abbrev argB : S4096x11264.Idx → EReal := m ((c : Thread nD τ).loc main_arg1)

/-- The number of grid points. -/
theorem N_eq : cfg0.N = 88 := N_0

/-- Where the windows lie. -/
theorem index_eq : ∀ t : Fin grid0.N,
    (win0_0.index t 0 = t.val % 4 ∧ win0_0.index t 1 = t.val / 44)
    ∧ (win0_1.index t 0 = t.val % 4 ∧ win0_1.index t 1 = t.val / 4 % 11)
    ∧ (win0_2.index t 0 = t.val / 44 ∧ win0_2.index t 1 = t.val / 4 % 11) := by decide +kernel

/-- The block of the left factor read at a point. -/
theorem iblk_a (t : Fin cfg0.N) (p : Fin 1024) (q : Fin 1024) (p' : Fin 4096) (q' : Fin 2048)
    (hp : p'.val = t.val % 4 * 1024 + p.val) (hq : q'.val = t.val / 44 * 1024 + q.val) :
    (iblk (F := Ideal) m c 0 t : S1024x1024.Idx → EReal) (ix2 p q) = argA m c (ix2 p' q') := by
  obtain ⟨⟨e0, e1⟩, -⟩ := index_eq t
  show (V (F := Ideal) m c main_arg0 : S4096x2048.Idx → EReal) ((win0_0.rect t).emb (ix2 p q)) = _
  rw [V_main_arg0]
  refine congrArg (argA m c) (funext fun a => Fin.ext ?_)
  match a with
  | ⟨0, _⟩ => refine (Pipeline.Window.rect_emb_val win0_0 t _ 0).trans ?_; rw [e0]; exact hp.symm
  | ⟨1, _⟩ => refine (Pipeline.Window.rect_emb_val win0_0 t _ 1).trans ?_; rw [e1]; exact hq.symm

/-- The block of the right factor read at a point. -/
theorem iblk_b (t : Fin cfg0.N) (p : Fin 1024) (q : Fin 1024) (p' : Fin 4096) (q' : Fin 11264)
    (hp : p'.val = t.val % 4 * 1024 + p.val) (hq : q'.val = t.val / 4 % 11 * 1024 + q.val) :
    (iblk (F := Ideal) m c 1 t : S1024x1024.Idx → EReal) (ix2 p q) = argB m c (ix2 p' q') := by
  obtain ⟨-, ⟨e0, e1⟩, -⟩ := index_eq t
  show (V (F := Ideal) m c main_arg1 : S4096x11264.Idx → EReal) ((win0_1.rect t).emb (ix2 p q)) = _
  rw [V_main_arg1]
  refine congrArg (argB m c) (funext fun a => Fin.ext ?_)
  match a with
  | ⟨0, _⟩ => refine (Pipeline.Window.rect_emb_val win0_1 t _ 0).trans ?_; rw [e0]; exact hp.symm
  | ⟨1, _⟩ => refine (Pipeline.Window.rect_emb_val win0_1 t _ 1).trans ?_; rw [e1]; exact hq.symm

/-- The row and the column of the product that a grid point's block holds, and the place in the sum that its blocks
   start from. -/
def tok (t : Fin cfg0.N) (p : Fin 1024) : Fin 2048 :=
  ⟨t.val / 44 * 1024 + p.val, by have h : t.val < 88 := lt_of_lt_of_eq t.isLt N_eq; omega⟩
@[inherit_doc tok] def col (t : Fin cfg0.N) (q : Fin 1024) : Fin 11264 :=
  ⟨t.val / 4 % 11 * 1024 + q.val, by have h : t.val < 88 := lt_of_lt_of_eq t.isLt N_eq; omega⟩
@[inherit_doc tok] def dep (t : Fin cfg0.N) (d : Fin 1024) : Fin 4096 :=
  ⟨t.val % 4 * 1024 + d.val, by have h : t.val < 88 := lt_of_lt_of_eq t.isLt N_eq; omega⟩

/-- One term of an entry of the product. -/
def term (A : S4096x2048.Idx → EReal) (B : S4096x11264.Idx → EReal) (u : Fin 2048) (v : Fin 11264) (d : Fin 4096) : EReal :=
  A (ix2 d u) * B (ix2 d v)

/-- The blocks read at a point. -/
abbrev blkA (t : Fin cfg0.N) : S1024x1024.Idx → EReal := iblk (F := Ideal) m c 0 t
@[inherit_doc blkA] abbrev blkB (t : Fin cfg0.N) : S1024x1024.Idx → EReal := iblk (F := Ideal) m c 1 t

/-- What a grid point's blocks contribute. -/
theorem share (t : Fin cfg0.N) (p : Fin 1024) (q : Fin 1024) :
    (∑ d : Fin 1024, blkA m c t (ix2 d p) * blkB m c t (ix2 d q))
      = ∑ d : Fin 1024, term (argA m c) (argB m c) (tok t p) (col t q) (dep t d) :=
  Finset.sum_congr rfl fun d _ => congrArg₂ (fun x y : EReal => x * y) (iblk_a m c t d p (dep t d) (tok t p) rfl rfl) (iblk_b m c t d q (dep t d) (col t q) rfl rfl)

/-- The accumulator after a grid point holds what the blocks so far add up to. -/
theorem acc : ∀ (n : ℕ) (hn : n < cfg0.N) (p : Fin 1024) (q : Fin 1024),
    ((outsAt0 (F := Ideal) m c n hn).2 : S1024x1024.Idx → EReal) (ix2 p q)
      = upTo (term (argA m c) (argB m c) (tok ⟨n, hn⟩ p) (col ⟨n, hn⟩ q)) 1024 (n % 4) := by
  have start : ∀ (t : Fin cfg0.N) (p : Fin 1024) (q : Fin 1024), t.val % 4 = 0 →
      ((outsAt0 (F := Ideal) m c t.val t.isLt).2 : S1024x1024.Idx → EReal) (ix2 p q)
        = upTo (term (argA m c) (argB m c) (tok t p) (col t q)) 1024 (t.val % 4) := by
    intro t p q h
    rw [outsAt0_A m c t h (by omega) (by omega)]
    dsimp only
    rw [scrA, h, upTo_zero _ (dep t) (fun r => by show t.val % 4 * 1024 + r.val = r.val; omega)]
    exact (pay2_apply _ _ p q).trans (share m c t p q)
  intro n
  induction n with
  | zero => exact fun hn p q => start ⟨0, hn⟩ p q rfl
  | succ n ih =>
    intro hn p q
    by_cases h : (n + 1) % 4 = 0
    · exact start ⟨n + 1, hn⟩ p q h
    have hn' : n < cfg0.N := Nat.lt_of_succ_lt hn
    have hk : (n + 1) % 4 = n % 4 + 1 := by omega
    have hu : tok ⟨n, hn'⟩ p = tok ⟨n + 1, hn⟩ p := Fin.ext (by
      show n / 44 * 1024 + p.val = (n + 1) / 44 * 1024 + p.val; omega)
    have hv : col ⟨n, hn'⟩ q = col ⟨n + 1, hn⟩ q := Fin.ext (by
      show n / 4 % 11 * 1024 + q.val = (n + 1) / 4 % 11 * 1024 + q.val
      rw [show (n + 1) / 4 = n / 4 by omega])
    have hd : ∀ r : Fin 1024, (dep ⟨n + 1, hn⟩ r).val = (n % 4 + 1) * 1024 + r.val := fun r => by
      show (n + 1) % 4 * 1024 + r.val = _; rw [hk]
    have main : k0_pay3 (F := Ideal) (iblk m c 0 ⟨n + 1, hn⟩) (iblk m c 1 ⟨n + 1, hn⟩) (outsAt0 (F := Ideal) m c n hn').2 (ix2 p q)
        = upTo (term (argA m c) (argB m c) (tok ⟨n + 1, hn⟩ p) (col ⟨n + 1, hn⟩ q)) 1024 ((n + 1) % 4) := by
      refine (pay3_apply _ _ _ p q).trans ?_
      rw [hk, upTo_succ _ _ (dep ⟨n + 1, hn⟩) hd, ← hu, ← hv, ← ih hn' p q, hu, hv]
      exact congrArg _ (share m c ⟨n + 1, hn⟩ p q)
    by_cases h2 : (n + 1) % 4 = 3
    · rw [outsAt0_C m c ⟨n + 1, hn⟩ h (by dsimp only; omega) h2]
      dsimp only
      rw [scrC]
      exact main
    · rw [outsAt0_B m c ⟨n + 1, hn⟩ h (by dsimp only; omega) h2]
      dsimp only
      rw [scrB]
      exact main

/-- The array after the grid. -/
theorem final : (dats (F := Ideal) m 0 c).arrAt 2 cfg0.N = (tn (argA m c) (argB m c) : S2048x11264.Idx → EReal) := by
  refine (dats (F := Ideal) m 0 c).arrAt_eq_of_cover 2 _ (fun t hf => ?_) (fun i => ?_)
  · have hl : t.val % 4 = 3 := (flush0_2 t).mp hf
    rw [flushed2, outsAt0_C m c t (by omega) (by omega) hl]
    dsimp only
    rw [outC]
    obtain ⟨-, -, e0, e1⟩ := index_eq t
    funext y
    obtain ⟨p, q, rfl⟩ : ∃ (p : Fin 1024) (q : Fin 1024), y = ix2 p q := ⟨y 0, y 1, eq_ix2 y⟩
    show _ = (tn (argA m c) (argB m c) : S2048x11264.Idx → EReal) ((win0_2.rect t).emb (ix2 p q))
    have f : (win0_2.rect t).emb (ix2 p q) = ix2 (tok t p) (col t q) := funext fun a => Fin.ext (by
      match a with
      | ⟨0, _⟩ => refine (Pipeline.Window.rect_emb_val win0_2 t _ 0).trans ?_; rw [e0]; rfl
      | ⟨1, _⟩ => refine (Pipeline.Window.rect_emb_val win0_2 t _ 1).trans ?_; rw [e1]; rfl)
    rw [f]
    have whole := acc m c t.val t.isLt p q
    rw [outsAt0_C m c t (by omega) (by omega) hl] at whole
    dsimp only at whole
    rw [scrC, hl, upTo_last (w := 1024) _ 3 (show (3 + 1) * 1024 = 4096 by norm_num)] at whole
    exact whole
  · have h0 : (i 0 : ℕ) < 2048 := (i 0).isLt
    have h1 : (i 1 : ℕ) < 11264 := (i 1).isLt
    let t : Fin cfg0.N := ⟨((i 0 : ℕ) / 1024 * 11 + (i 1 : ℕ) / 1024) * 4 + 3, lt_of_lt_of_eq (by omega) N_eq.symm⟩
    have ht : t.val = ((i 0 : ℕ) / 1024 * 11 + (i 1 : ℕ) / 1024) * 4 + 3 := rfl
    refine ⟨t, (flush0_2 t).mpr (by omega), ?_⟩
    obtain ⟨-, -, e0, e1⟩ := index_eq t
    show i ∈ ((View.whole main_v0).slice (win0_2.rect t)).set
    rw [View.set_slice_whole, Rect.mem_set_unit]
    intro a
    match a with
    | ⟨0, _⟩ =>
      show win0_2.index t 0 * 1024 ≤ (i 0 : ℕ) ∧ (i 0 : ℕ) < win0_2.index t 0 * 1024 + 1024
      rw [e0]; omega
    | ⟨1, _⟩ =>
      show win0_2.index t 1 * 1024 ≤ (i 1 : ℕ) ∧ (i 1 : ℕ) < win0_2.index t 1 * 1024 + 1024
      rw [e1]; omega

end Kernel

/-- The reference's result is the array the grid ends with. -/
theorem ref_eq (A : FVec Ideal Cert.FfnDwguReferenceIdeal.S4096x2048 .bf16) (B : FVec Ideal Cert.FfnDwguReferenceIdeal.S4096x11264 .bf16) :
    (Cert.FfnDwguReferenceIdeal.Read.val_main_v5 (F := Ideal) A B : Cert.FfnDwguReferenceIdeal.S2048x11264.Idx → EReal) = tn (m := 2048) (n := 11264) (k := 4096) A B := by
  funext i
  obtain ⟨u, v, rfl⟩ : ∃ (u : Fin 2048) (v : Fin 11264), i = ix2 u v := ⟨i 0, i 1, eq_ix2 i⟩
  unfold Cert.FfnDwguReferenceIdeal.Read.val_main_v5 Cert.FfnDwguReferenceIdeal.Read.val_main_v4 Cert.FfnDwguReferenceIdeal.Read.val_main_v3 Cert.FfnDwguReferenceIdeal.Read.val_main_v1
  pointwise
  unfold tn
  exact Finset.sum_congr rfl fun n _ => mul_comm _ _

/-- The reference runs and keeps its arguments. -/
theorem frame_ref : Cert.quiescent_FfnDwguReferenceIdeal := fun m ρ _ =>
  (θ_run Cert.FfnDwguReferenceIdeal.defs _ _).mono (fun r h => ⟨fun c => (h c).2, sem_eq_zero_of_no_sems (by decide) r.2⟩)
    (Cert.FfnDwguReferenceIdeal.Value.run (F := Ideal) m ρ)

/-- The kernel and the reference end with equal results. -/
theorem algebraic : Cert.algebraic_FfnDwguIdeal_FfnDwguReferenceIdeal := by
  intro m g m' g' _ hagree
  refine ⟨fun c => tn (argA m c) (argB m c), ?_, ?_⟩
  · refine (θ_run Cert.FfnDwguIdeal.defs _ _).mono (fun r h c => ?_) (Cert.FfnDwguIdeal.Value.run_blocks (F := Ideal) m g)
    obtain ⟨h0, hargs⟩ := h c
    exact ⟨h0.trans (final m c), hargs⟩
  · refine (θ_run Cert.FfnDwguReferenceIdeal.defs _ _).mono (fun r h c => ?_) (Cert.FfnDwguReferenceIdeal.Value.run (F := Ideal) m' g')
    obtain ⟨h0, hargs⟩ := h c
    obtain ⟨a0, a1⟩ := hagree c
    refine ⟨h0.trans ?_, hargs⟩
    rw [Cert.FfnDwguReferenceIdeal.Read.val_main_v5_eq, a0, a1]
    exact ref_eq _ _

end Cert.FfnDwguClaim

end
-- ==== Proof.FfnDhClaim.lean ====
/- The gradient of a feed-forward block's normalised input. Each grid point's block of the product, the array the grid ends with,
   and the claims against the plain product. -/
module

public import proofs.«01_k».proof.Defs
public import proofs.«01_k».proof.Proof.Gen.FfnDhIdeal.Value
public import proofs.«01_k».proof.Proof.Gen.FfnDhReferenceIdeal.Read
public import proofs.«01_k».proof.Proof.Products
public import proofs.«01_k».proof.Proof.Reals
public import proofs.«01_k».proof.Proof.Partial
public import Idealize.ShloMosaic.Lib.Tactic
public import Idealize.ShloMosaic.Adequacy
public import Idealize.ShloMosaic.Init

@[expose] public section

noncomputable section

namespace Cert.FfnDhClaim

open Idealize.ShloMosaic Idealize.SL.Sem Cert.Products Cert.Reals Cert.Partial

section Kernel
open Cert.FfnDhIdeal Cert.FfnDhIdeal.Gen Cert.FfnDhIdeal.Value Idealize.ShloMosaic.TcCoe

section Cases
variable {F : FTy → Type} [FloatOps F] (c : Dev nD) (i : grid0.Coords)
  (a3 : Memref sig .tc .vmem S1024x1024 .bf16) (h3 : a3.IsWhole)
  (a4 : Memref sig .tc .vmem S1024x1024 .bf16) (h4 : a4.IsWhole)
  (a5 : Memref sig .tc .vmem S1024x1024 .f32) (h5 : a5.IsWhole)
  (a6 : Memref sig .tc .vmem S1024x1024 .f32) (h6 : a6.IsWhole)
  (x0 : Vec F S1024x1024 .bf16) (x1 : Vec F S1024x1024 .bf16) (s : Vec F S1024x1024 .f32)

/-- The first block of the sum starts the accumulator. -/
theorem scrA (hc0 : cond0_0 i) (hc1 : ¬cond0_1 i) (hc2 : ¬cond0_2 i) :
    sout0_A_0 (F := F) c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero origin]
  simp only [View.readAt_eq_ld, h3.read_unread, h4.read_unread, h5.read_unread, h6.read_unread, View.ld_unit_zero (S := S1024x1024) origin]

/-- A later block of the sum is added to the accumulator. -/
theorem scrB (hc0 : ¬cond0_0 i) (hc1 : cond0_1 i) (hc2 : ¬cond0_2 i) :
    sout0_B_0 (F := F) c i a3 h3 a4 h4 a5 h5 a6 h6 hc0 hc1 hc2 x0 x1 s = k0_pay3 x0 x1 s := by
  unfold sout0_B_0
  rw [View.read_writes_eq_canon _ _ _ (scover0_B_0 c i a3 h3 a4 h4 a5 h5 a6 h6 hc0 hc1 hc2 x0 x1 s)]
  unfold kernelRun0_B
  dsimp only
  sl_unfold_words
  rw [View.canon_unit_zero origin]
  simp only [View.readAt_eq_ld, h3.read_unread, h4.read_unread, h5.read_unread, h6.read_unread, View.ld_unit_zero (S := S1024x1024) origin]

/-- So is the last block of the sum. -/
theorem scrC (hc0 : ¬cond0_0 i) (hc1 : cond0_1 i) (hc2 : cond0_2 i) :
    sout0_C_0 (F := F) c i a3 h3 a4 h4 a5 h5 a6 h6 hc0 hc1 hc2 x0 x1 s = k0_pay3 x0 x1 s := by
  unfold sout0_C_0
  rw [View.read_writes_eq_canon _ _ _ (scover0_C_0 c i a3 h3 a4 h4 a5 h5 a6 h6 hc0 hc1 hc2 x0 x1 s)]
  unfold kernelRun0_C
  dsimp only
  sl_unfold_words
  rw [View.canon_unit_zero origin]
  simp only [View.readAt_eq_ld, h3.read_unread, h4.read_unread, h5.read_unread, h6.read_unread, View.ld_unit_zero (S := S1024x1024) origin]

/-- With the last block of the sum the accumulator goes out. -/
theorem outC (hc0 : ¬cond0_0 i) (hc1 : cond0_1 i) (hc2 : cond0_2 i) :
    out0_C_2 (F := F) c i a3 h3 a4 h4 a5 h5 a6 h6 hc0 hc1 hc2 x0 x1 s = k0_pay3 x0 x1 s := by
  unfold out0_C_2
  rw [View.read_writes_eq_canon _ _ _ (cover0_C_2 c i a3 h3 a4 h4 a5 h5 a6 h6 hc0 hc1 hc2 x0 x1 s)]
  unfold kernelRun0_C
  dsimp only
  sl_unfold_words
  rw [View.canon_unit_zero origin]
  simp only [View.readAt_eq_ld, h3.read_unread, h4.read_unread, h5.read_unread, h6.read_unread, View.ld_unit_zero (S := S1024x1024) origin, View.readCov_cons_toLoadRect]

end Cases

/-- The product of two blocks. -/
theorem pay1_apply (a : FVec Ideal S1024x1024 .bf16) (b : FVec Ideal S1024x1024 .bf16) (p : Fin 1024) (q : Fin 1024) :
    k0_pay1 (F := Ideal) a b (ix2 p q) = ∑ d : Fin 1024, a (ix2 p d) * b (ix2 q d) := by
  unfold k0_pay1
  pointwise

/-- What starts the accumulator. -/
theorem pay2_apply (a : FVec Ideal S1024x1024 .bf16) (b : FVec Ideal S1024x1024 .bf16) (p : Fin 1024) (q : Fin 1024) :
    k0_pay2 (F := Ideal) a b (ix2 p q) = ∑ d : Fin 1024, a (ix2 p d) * b (ix2 q d) := by
  unfold k0_pay2
  pointwise
  exact pay1_apply a b p q

/-- What is added to the accumulator. -/
theorem pay3_apply (a : FVec Ideal S1024x1024 .bf16) (b : FVec Ideal S1024x1024 .bf16) (s : FVec Ideal S1024x1024 .f32) (p : Fin 1024) (q : Fin 1024) :
    k0_pay3 (F := Ideal) a b s (ix2 p q) = s (ix2 p q) + ∑ d : Fin 1024, a (ix2 p d) * b (ix2 q d) := by
  unfold k0_pay3
  pointwise
  rw [pay1_apply a b p q]

variable (m : (ℓ : Loc nD τ sig) → Buf (Elt Ideal) ℓ) (c : Dev nD)

/-- The arguments as arrays of extended reals. -/
abbrev argA : S4096x11264.Idx → EReal := m ((c : Thread nD τ).loc main_arg0)
@[inherit_doc argA] abbrev argB : S2048x11264.Idx → EReal := m ((c : Thread nD τ).loc main_arg1)

/-- The number of grid points. -/
theorem N_eq : cfg0.N = 88 := N_0

/-- Where the windows lie. -/
theorem index_eq : ∀ t : Fin grid0.N,
    (win0_0.index t 0 = t.val / 22 ∧ win0_0.index t 1 = t.val % 11)
    ∧ (win0_1.index t 0 = t.val / 11 % 2 ∧ win0_1.index t 1 = t.val % 11)
    ∧ (win0_2.index t 0 = t.val / 22 ∧ win0_2.index t 1 = t.val / 11 % 2) := by decide +kernel

/-- The block of the left factor read at a point. -/
theorem iblk_a (t : Fin cfg0.N) (p : Fin 1024) (q : Fin 1024) (p' : Fin 4096) (q' : Fin 11264)
    (hp : p'.val = t.val / 22 * 1024 + p.val) (hq : q'.val = t.val % 11 * 1024 + q.val) :
    (iblk (F := Ideal) m c 0 t : S1024x1024.Idx → EReal) (ix2 p q) = argA m c (ix2 p' q') := by
  obtain ⟨⟨e0, e1⟩, -⟩ := index_eq t
  show (V (F := Ideal) m c main_arg0 : S4096x11264.Idx → EReal) ((win0_0.rect t).emb (ix2 p q)) = _
  rw [V_main_arg0]
  refine congrArg (argA m c) (funext fun a => Fin.ext ?_)
  match a with
  | ⟨0, _⟩ => refine (Pipeline.Window.rect_emb_val win0_0 t _ 0).trans ?_; rw [e0]; exact hp.symm
  | ⟨1, _⟩ => refine (Pipeline.Window.rect_emb_val win0_0 t _ 1).trans ?_; rw [e1]; exact hq.symm

/-- The block of the right factor read at a point. -/
theorem iblk_b (t : Fin cfg0.N) (p : Fin 1024) (q : Fin 1024) (p' : Fin 2048) (q' : Fin 11264)
    (hp : p'.val = t.val / 11 % 2 * 1024 + p.val) (hq : q'.val = t.val % 11 * 1024 + q.val) :
    (iblk (F := Ideal) m c 1 t : S1024x1024.Idx → EReal) (ix2 p q) = argB m c (ix2 p' q') := by
  obtain ⟨-, ⟨e0, e1⟩, -⟩ := index_eq t
  show (V (F := Ideal) m c main_arg1 : S2048x11264.Idx → EReal) ((win0_1.rect t).emb (ix2 p q)) = _
  rw [V_main_arg1]
  refine congrArg (argB m c) (funext fun a => Fin.ext ?_)
  match a with
  | ⟨0, _⟩ => refine (Pipeline.Window.rect_emb_val win0_1 t _ 0).trans ?_; rw [e0]; exact hp.symm
  | ⟨1, _⟩ => refine (Pipeline.Window.rect_emb_val win0_1 t _ 1).trans ?_; rw [e1]; exact hq.symm

/-- The row and the column of the product that a grid point's block holds, and the place in the sum that its blocks
   start from. -/
def tok (t : Fin cfg0.N) (p : Fin 1024) : Fin 4096 :=
  ⟨t.val / 22 * 1024 + p.val, by have h : t.val < 88 := lt_of_lt_of_eq t.isLt N_eq; omega⟩
@[inherit_doc tok] def col (t : Fin cfg0.N) (q : Fin 1024) : Fin 2048 :=
  ⟨t.val / 11 % 2 * 1024 + q.val, by have h : t.val < 88 := lt_of_lt_of_eq t.isLt N_eq; omega⟩
@[inherit_doc tok] def dep (t : Fin cfg0.N) (d : Fin 1024) : Fin 11264 :=
  ⟨t.val % 11 * 1024 + d.val, by have h : t.val < 88 := lt_of_lt_of_eq t.isLt N_eq; omega⟩

/-- One term of an entry of the product. -/
def term (A : S4096x11264.Idx → EReal) (B : S2048x11264.Idx → EReal) (u : Fin 4096) (v : Fin 2048) (d : Fin 11264) : EReal :=
  A (ix2 u d) * B (ix2 v d)

/-- The blocks read at a point. -/
abbrev blkA (t : Fin cfg0.N) : S1024x1024.Idx → EReal := iblk (F := Ideal) m c 0 t
@[inherit_doc blkA] abbrev blkB (t : Fin cfg0.N) : S1024x1024.Idx → EReal := iblk (F := Ideal) m c 1 t

/-- What a grid point's blocks contribute. -/
theorem share (t : Fin cfg0.N) (p : Fin 1024) (q : Fin 1024) :
    (∑ d : Fin 1024, blkA m c t (ix2 p d) * blkB m c t (ix2 q d))
      = ∑ d : Fin 1024, term (argA m c) (argB m c) (tok t p) (col t q) (dep t d) :=
  Finset.sum_congr rfl fun d _ => congrArg₂ (fun x y : EReal => x * y) (iblk_a m c t p d (tok t p) (dep t d) rfl rfl) (iblk_b m c t q d (col t q) (dep t d) rfl rfl)

/-- The accumulator after a grid point holds what the blocks so far add up to. -/
theorem acc : ∀ (n : ℕ) (hn : n < cfg0.N) (p : Fin 1024) (q : Fin 1024),
    ((outsAt0 (F := Ideal) m c n hn).2 : S1024x1024.Idx → EReal) (ix2 p q)
      = upTo (term (argA m c) (argB m c) (tok ⟨n, hn⟩ p) (col ⟨n, hn⟩ q)) 1024 (n % 11) := by
  have start : ∀ (t : Fin cfg0.N) (p : Fin 1024) (q : Fin 1024), t.val % 11 = 0 →
      ((outsAt0 (F := Ideal) m c t.val t.isLt).2 : S1024x1024.Idx → EReal) (ix2 p q)
        = upTo (term (argA m c) (argB m c) (tok t p) (col t q)) 1024 (t.val % 11) := by
    intro t p q h
    rw [outsAt0_A m c t h (by omega) (by omega)]
    dsimp only
    rw [scrA, h, upTo_zero _ (dep t) (fun r => by show t.val % 11 * 1024 + r.val = r.val; omega)]
    exact (pay2_apply _ _ p q).trans (share m c t p q)
  intro n
  induction n with
  | zero => exact fun hn p q => start ⟨0, hn⟩ p q rfl
  | succ n ih =>
    intro hn p q
    by_cases h : (n + 1) % 11 = 0
    · exact start ⟨n + 1, hn⟩ p q h
    have hn' : n < cfg0.N := Nat.lt_of_succ_lt hn
    have hk : (n + 1) % 11 = n % 11 + 1 := by omega
    have hu : tok ⟨n, hn'⟩ p = tok ⟨n + 1, hn⟩ p := Fin.ext (by
      show n / 22 * 1024 + p.val = (n + 1) / 22 * 1024 + p.val; omega)
    have hv : col ⟨n, hn'⟩ q = col ⟨n + 1, hn⟩ q := Fin.ext (by
      show n / 11 % 2 * 1024 + q.val = (n + 1) / 11 % 2 * 1024 + q.val
      rw [show (n + 1) / 11 = n / 11 by omega])
    have hd : ∀ r : Fin 1024, (dep ⟨n + 1, hn⟩ r).val = (n % 11 + 1) * 1024 + r.val := fun r => by
      show (n + 1) % 11 * 1024 + r.val = _; rw [hk]
    have main : k0_pay3 (F := Ideal) (iblk m c 0 ⟨n + 1, hn⟩) (iblk m c 1 ⟨n + 1, hn⟩) (outsAt0 (F := Ideal) m c n hn').2 (ix2 p q)
        = upTo (term (argA m c) (argB m c) (tok ⟨n + 1, hn⟩ p) (col ⟨n + 1, hn⟩ q)) 1024 ((n + 1) % 11) := by
      refine (pay3_apply _ _ _ p q).trans ?_
      rw [hk, upTo_succ _ _ (dep ⟨n + 1, hn⟩) hd, ← hu, ← hv, ← ih hn' p q, hu, hv]
      exact congrArg _ (share m c ⟨n + 1, hn⟩ p q)
    by_cases h2 : (n + 1) % 11 = 10
    · rw [outsAt0_C m c ⟨n + 1, hn⟩ h (by dsimp only; omega) h2]
      dsimp only
      rw [scrC]
      exact main
    · rw [outsAt0_B m c ⟨n + 1, hn⟩ h (by dsimp only; omega) h2]
      dsimp only
      rw [scrB]
      exact main

set_option maxRecDepth 65536 in
/-- The array after the grid. -/
theorem final : (dats (F := Ideal) m 0 c).arrAt 2 cfg0.N = (nt (argA m c) (argB m c) : S4096x2048.Idx → EReal) := by
  refine (dats (F := Ideal) m 0 c).arrAt_eq_of_cover 2 _ (fun t hf => ?_) (fun i => ?_)
  · have hl : t.val % 11 = 10 := (flush0_2 t).mp hf
    rw [flushed2, outsAt0_C m c t (by omega) (by omega) hl]
    dsimp only
    rw [outC]
    obtain ⟨-, -, e0, e1⟩ := index_eq t
    funext y
    obtain ⟨p, q, rfl⟩ : ∃ (p : Fin 1024) (q : Fin 1024), y = ix2 p q := ⟨y 0, y 1, eq_ix2 y⟩
    show _ = (nt (argA m c) (argB m c) : S4096x2048.Idx → EReal) ((win0_2.rect t).emb (ix2 p q))
    have f : (win0_2.rect t).emb (ix2 p q) = ix2 (tok t p) (col t q) := funext fun a => Fin.ext (by
      match a with
      | ⟨0, _⟩ => refine (Pipeline.Window.rect_emb_val win0_2 t _ 0).trans ?_; rw [e0]; rfl
      | ⟨1, _⟩ => refine (Pipeline.Window.rect_emb_val win0_2 t _ 1).trans ?_; rw [e1]; rfl)
    rw [f]
    have whole := acc m c t.val t.isLt p q
    rw [outsAt0_C m c t (by omega) (by omega) hl] at whole
    dsimp only at whole
    rw [scrC, hl, upTo_last (w := 1024) _ 10 (show (10 + 1) * 1024 = 11264 by norm_num)] at whole
    exact whole
  · have h0 : (i 0 : ℕ) < 4096 := (i 0).isLt
    have h1 : (i 1 : ℕ) < 2048 := (i 1).isLt
    let t : Fin cfg0.N := ⟨((i 0 : ℕ) / 1024 * 2 + (i 1 : ℕ) / 1024) * 11 + 10, lt_of_lt_of_eq (by omega) N_eq.symm⟩
    have ht : t.val = ((i 0 : ℕ) / 1024 * 2 + (i 1 : ℕ) / 1024) * 11 + 10 := rfl
    refine ⟨t, (flush0_2 t).mpr (by omega), ?_⟩
    obtain ⟨-, -, e0, e1⟩ := index_eq t
    show i ∈ ((View.whole main_v0).slice (win0_2.rect t)).set
    rw [View.set_slice_whole, Rect.mem_set_unit]
    intro a
    match a with
    | ⟨0, _⟩ =>
      show win0_2.index t 0 * 1024 ≤ (i 0 : ℕ) ∧ (i 0 : ℕ) < win0_2.index t 0 * 1024 + 1024
      rw [e0]; omega
    | ⟨1, _⟩ =>
      show win0_2.index t 1 * 1024 ≤ (i 1 : ℕ) ∧ (i 1 : ℕ) < win0_2.index t 1 * 1024 + 1024
      rw [e1]; omega

end Kernel

/-- The reference's result is the array the grid ends with. -/
theorem ref_eq (A : FVec Ideal Cert.FfnDhReferenceIdeal.S4096x11264 .bf16) (B : FVec Ideal Cert.FfnDhReferenceIdeal.S2048x11264 .bf16) :
    (Cert.FfnDhReferenceIdeal.Read.val_main_v4 (F := Ideal) A B : Cert.FfnDhReferenceIdeal.S4096x2048.Idx → EReal) = nt (m := 4096) (n := 2048) (k := 11264) A B := by
  funext i
  obtain ⟨u, v, rfl⟩ : ∃ (u : Fin 4096) (v : Fin 2048), i = ix2 u v := ⟨i 0, i 1, eq_ix2 i⟩
  unfold Cert.FfnDhReferenceIdeal.Read.val_main_v4 Cert.FfnDhReferenceIdeal.Read.val_main_v3 Cert.FfnDhReferenceIdeal.Read.val_main_v1
  pointwise
  rfl

/-- The reference runs and keeps its arguments. -/
theorem frame_ref : Cert.quiescent_FfnDhReferenceIdeal := fun m ρ _ =>
  (θ_run Cert.FfnDhReferenceIdeal.defs _ _).mono (fun r h => ⟨fun c => (h c).2, sem_eq_zero_of_no_sems (by decide) r.2⟩)
    (Cert.FfnDhReferenceIdeal.Value.run (F := Ideal) m ρ)

/-- The kernel and the reference end with equal results. -/
theorem algebraic : Cert.algebraic_FfnDhIdeal_FfnDhReferenceIdeal := by
  intro m g m' g' _ hagree
  refine ⟨fun c => nt (argA m c) (argB m c), ?_, ?_⟩
  · refine (θ_run Cert.FfnDhIdeal.defs _ _).mono (fun r h c => ?_) (Cert.FfnDhIdeal.Value.run_blocks (F := Ideal) m g)
    obtain ⟨h0, hargs⟩ := h c
    exact ⟨h0.trans (final m c), hargs⟩
  · refine (θ_run Cert.FfnDhReferenceIdeal.defs _ _).mono (fun r h c => ?_) (Cert.FfnDhReferenceIdeal.Value.run (F := Ideal) m' g')
    obtain ⟨h0, hargs⟩ := h c
    obtain ⟨a0, a1⟩ := hagree c
    refine ⟨h0.trans ?_, hargs⟩
    rw [Cert.FfnDhReferenceIdeal.Read.val_main_v4_eq, a0, a1]
    exact ref_eq _ _

end Cert.FfnDhClaim

end
-- ==== Proof.MixInClaim.lean ====
/- The mixer's input product. Each grid point's block of the product, the array the grid ends with,
   and the claims against the plain product. -/
module

public import proofs.«01_k».proof.Defs
public import proofs.«01_k».proof.Proof.Gen.MixInIdeal.Value
public import proofs.«01_k».proof.Proof.Gen.MixInReferenceIdeal.Read
public import proofs.«01_k».proof.Proof.Products
public import proofs.«01_k».proof.Proof.Reals

public import Idealize.ShloMosaic.Adequacy
public import Idealize.ShloMosaic.Init

@[expose] public section

noncomputable section

namespace Cert.MixInClaim

open Idealize.ShloMosaic Idealize.SL.Sem Cert.Products Cert.Reals

section Kernel
open Cert.MixInIdeal Cert.MixInIdeal.Gen Cert.MixInIdeal.Value Idealize.ShloMosaic.TcCoe

/-- A grid point's product of its blocks. -/
theorem pay1_apply (a : FVec Ideal S1024x2048 .bf16) (b : FVec Ideal S2048x384 .bf16) (p : Fin 1024) (q : Fin 384) :
    k0_pay1 (F := Ideal) a b (ix2 p q) = ∑ d : Fin 2048, a (ix2 p d) * b (ix2 d q) := by
  unfold k0_pay1
  pointwise

variable (m : (ℓ : Loc nD τ sig) → Buf (Elt Ideal) ℓ) (c : Dev nD)

/-- The arguments as arrays of extended reals. -/
abbrev argA : S4096x2048.Idx → EReal := m ((c : Thread nD τ).loc main_arg0)
@[inherit_doc argA] abbrev argB : S2048x10368.Idx → EReal := m ((c : Thread nD τ).loc main_arg1)

/-- The number of grid points. -/
theorem N_eq : cfg0.N = 108 := N_0

/-- Where the windows lie. -/
theorem index_eq : ∀ t : Fin grid0.N,
    (win0_0.index t 0 = t.val / 27 ∧ win0_0.index t 1 = 0)
    ∧ (win0_1.index t 0 = 0 ∧ win0_1.index t 1 = t.val % 27)
    ∧ (win0_2.index t 0 = t.val / 27 ∧ win0_2.index t 1 = t.val % 27) := by decide +kernel

/-- The block of the left factor read at a point. -/
theorem iblk_a (t : Fin cfg0.N) (p : Fin 1024) (q : Fin 2048) (p' : Fin 4096) (q' : Fin 2048)
    (hp : p'.val = t.val / 27 * 1024 + p.val) (hq : q'.val = 0 * 2048 + q.val) :
    (iblk (F := Ideal) m c 0 t : S1024x2048.Idx → EReal) (ix2 p q) = argA m c (ix2 p' q') := by
  obtain ⟨⟨e0, e1⟩, -⟩ := index_eq t
  show (V (F := Ideal) m c main_arg0 : S4096x2048.Idx → EReal) ((win0_0.rect t).emb (ix2 p q)) = _
  rw [V_main_arg0]
  refine congrArg (argA m c) (funext fun a => Fin.ext ?_)
  match a with
  | ⟨0, _⟩ => refine (Pipeline.Window.rect_emb_val win0_0 t _ 0).trans ?_; rw [e0]; exact hp.symm
  | ⟨1, _⟩ => refine (Pipeline.Window.rect_emb_val win0_0 t _ 1).trans ?_; rw [e1]; exact hq.symm

/-- The block of the right factor read at a point. -/
theorem iblk_b (t : Fin cfg0.N) (p : Fin 2048) (q : Fin 384) (p' : Fin 2048) (q' : Fin 10368)
    (hp : p'.val = 0 * 2048 + p.val) (hq : q'.val = t.val % 27 * 384 + q.val) :
    (iblk (F := Ideal) m c 1 t : S2048x384.Idx → EReal) (ix2 p q) = argB m c (ix2 p' q') := by
  obtain ⟨-, ⟨e0, e1⟩, -⟩ := index_eq t
  show (V (F := Ideal) m c main_arg1 : S2048x10368.Idx → EReal) ((win0_1.rect t).emb (ix2 p q)) = _
  rw [V_main_arg1]
  refine congrArg (argB m c) (funext fun a => Fin.ext ?_)
  match a with
  | ⟨0, _⟩ => refine (Pipeline.Window.rect_emb_val win0_1 t _ 0).trans ?_; rw [e0]; exact hp.symm
  | ⟨1, _⟩ => refine (Pipeline.Window.rect_emb_val win0_1 t _ 1).trans ?_; rw [e1]; exact hq.symm

/-- The row and the column of the product that a grid point's block holds. -/
def tok (t : Fin cfg0.N) (p : Fin 1024) : Fin 4096 :=
  ⟨t.val / 27 * 1024 + p.val, by have h : t.val < 108 := lt_of_lt_of_eq t.isLt N_eq; omega⟩
@[inherit_doc tok] def col (t : Fin cfg0.N) (q : Fin 384) : Fin 10368 :=
  ⟨t.val % 27 * 384 + q.val, by have h : t.val < 108 := lt_of_lt_of_eq t.isLt N_eq; omega⟩

/-- The array after the grid. -/
theorem final : (dats (F := Ideal) m 0 c).arrAt 2 cfg0.N = (nn (argA m c) (argB m c) : S4096x10368.Idx → EReal) := by
  refine (dats (F := Ideal) m 0 c).arrAt_eq_of_cover 2 _ (fun t _ => ?_) (fun i => ?_)
  · rw [flushed2]
    obtain ⟨-, -, e0, e1⟩ := index_eq t
    funext y
    obtain ⟨p, q, rfl⟩ : ∃ (p : Fin 1024) (q : Fin 384), y = ix2 p q := ⟨y 0, y 1, eq_ix2 y⟩
    unfold out0_2
    refine Eq.trans (congrFun (View.canon_unit_zero (Val := Elt Ideal) (S := S1024x384) origin _ _) _) ?_
    refine (pay1_apply _ _ p q).trans ?_
    show _ = (nn (argA m c) (argB m c) : S4096x10368.Idx → EReal) ((win0_2.rect t).emb (ix2 p q))
    have f : (win0_2.rect t).emb (ix2 p q) = ix2 (tok t p) (col t q) := funext fun a => Fin.ext (by
      match a with
      | ⟨0, _⟩ => refine (Pipeline.Window.rect_emb_val win0_2 t _ 0).trans ?_; rw [e0]; rfl
      | ⟨1, _⟩ => refine (Pipeline.Window.rect_emb_val win0_2 t _ 1).trans ?_; rw [e1]; rfl)
    rw [f]
    exact Finset.sum_congr rfl fun d _ => congrArg₂ (fun x y : EReal => x * y)
      ((congrFun (View.ld_unit_zero (Val := Elt Ideal) (S := S1024x2048) origin _ _) _).trans (iblk_a m c t p d (tok t p) d rfl (by omega)))
      ((congrFun (View.ld_unit_zero (Val := Elt Ideal) (S := S2048x384) origin _ _) _).trans (iblk_b m c t d q d (col t q) (by omega) rfl))
  · have h0 : (i 0 : ℕ) < 4096 := (i 0).isLt
    have h1 : (i 1 : ℕ) < 10368 := (i 1).isLt
    let t : Fin cfg0.N := ⟨(i 0 : ℕ) / 1024 * 27 + (i 1 : ℕ) / 384, lt_of_lt_of_eq (by omega) N_eq.symm⟩
    refine ⟨t, flush0_2 t, ?_⟩
    obtain ⟨-, -, e0, e1⟩ := index_eq t
    have ht : t.val = (i 0 : ℕ) / 1024 * 27 + (i 1 : ℕ) / 384 := rfl
    show i ∈ ((View.whole main_v0).slice (win0_2.rect t)).set
    rw [View.set_slice_whole, Rect.mem_set_unit]
    intro a
    match a with
    | ⟨0, _⟩ =>
      show win0_2.index t 0 * 1024 ≤ (i 0 : ℕ) ∧ (i 0 : ℕ) < win0_2.index t 0 * 1024 + 1024
      rw [e0]; omega
    | ⟨1, _⟩ =>
      show win0_2.index t 1 * 384 ≤ (i 1 : ℕ) ∧ (i 1 : ℕ) < win0_2.index t 1 * 384 + 384
      rw [e1]; omega

end Kernel

/-- The reference's result is the array the grid ends with. -/
theorem ref_eq (A : FVec Ideal Cert.MixInReferenceIdeal.S4096x2048 .bf16) (B : FVec Ideal Cert.MixInReferenceIdeal.S2048x10368 .bf16) :
    (Cert.MixInReferenceIdeal.Read.val_main_v2 (F := Ideal) A B : Cert.MixInReferenceIdeal.S4096x10368.Idx → EReal) = nn (m := 4096) (n := 10368) (k := 2048) A B := by
  funext i
  obtain ⟨u, v, rfl⟩ : ∃ (u : Fin 4096) (v : Fin 10368), i = ix2 u v := ⟨i 0, i 1, eq_ix2 i⟩
  unfold Cert.MixInReferenceIdeal.Read.val_main_v2 Cert.MixInReferenceIdeal.Read.val_main_v1 Cert.MixInReferenceIdeal.Read.val_main_v0
  pointwise
  rfl

/-- The reference runs and keeps its arguments. -/
theorem frame_ref : Cert.quiescent_MixInReferenceIdeal := fun m ρ _ =>
  (θ_run Cert.MixInReferenceIdeal.defs _ _).mono (fun r h => ⟨fun c => (h c).2, sem_eq_zero_of_no_sems (by decide) r.2⟩)
    (Cert.MixInReferenceIdeal.Value.run (F := Ideal) m ρ)

/-- The kernel and the reference end with equal results. -/
theorem algebraic : Cert.algebraic_MixInIdeal_MixInReferenceIdeal := by
  intro m g m' g' _ hagree
  refine ⟨fun c => nn (argA m c) (argB m c), ?_, ?_⟩
  · refine (θ_run Cert.MixInIdeal.defs _ _).mono (fun r h c => ?_) (Cert.MixInIdeal.Value.run_blocks (F := Ideal) m g)
    obtain ⟨h0, hargs⟩ := h c
    exact ⟨h0.trans (final m c), hargs⟩
  · refine (θ_run Cert.MixInReferenceIdeal.defs _ _).mono (fun r h c => ?_) (Cert.MixInReferenceIdeal.Value.run (F := Ideal) m' g')
    obtain ⟨h0, hargs⟩ := h c
    obtain ⟨a0, a1⟩ := hagree c
    refine ⟨h0.trans ?_, hargs⟩
    rw [Cert.MixInReferenceIdeal.Read.val_main_v2_eq, a0, a1]
    exact ref_eq _ _

end Cert.MixInClaim

end
-- ==== Proof.MixInDwClaim.lean ====
/- The gradient of the mixer's input weights. Each grid point's block of the product, the array the grid ends with,
   and the claims against the plain product. -/
module

public import proofs.«01_k».proof.Defs
public import proofs.«01_k».proof.Proof.Gen.MixInDwIdeal.Value
public import proofs.«01_k».proof.Proof.Gen.MixInDwReferenceIdeal.Read
public import proofs.«01_k».proof.Proof.Products
public import proofs.«01_k».proof.Proof.Reals
public import proofs.«01_k».proof.Proof.Partial
public import Idealize.ShloMosaic.Lib.Tactic
public import Idealize.ShloMosaic.Adequacy
public import Idealize.ShloMosaic.Init

@[expose] public section

noncomputable section

namespace Cert.MixInDwClaim

open Idealize.ShloMosaic Idealize.SL.Sem Cert.Products Cert.Reals Cert.Partial

section Kernel
open Cert.MixInDwIdeal Cert.MixInDwIdeal.Gen Cert.MixInDwIdeal.Value Idealize.ShloMosaic.TcCoe

section Cases
variable {F : FTy → Type} [FloatOps F] (c : Dev nD) (i : grid0.Coords)
  (a3 : Memref sig .tc .vmem S1024x1024 .bf16) (h3 : a3.IsWhole)
  (a4 : Memref sig .tc .vmem S1024x384 .bf16) (h4 : a4.IsWhole)
  (a5 : Memref sig .tc .vmem S1024x384 .f32) (h5 : a5.IsWhole)
  (a6 : Memref sig .tc .vmem S1024x384 .f32) (h6 : a6.IsWhole)
  (x0 : Vec F S1024x1024 .bf16) (x1 : Vec F S1024x384 .bf16) (s : Vec F S1024x384 .f32)

/-- The first block of the sum starts the accumulator. -/
theorem scrA (hc0 : cond0_0 i) (hc1 : ¬cond0_1 i) (hc2 : ¬cond0_2 i) :
    sout0_A_0 (F := F) c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero origin]
  simp only [View.readAt_eq_ld, h3.read_unread, h4.read_unread, h5.read_unread, h6.read_unread, View.ld_unit_zero (S := S1024x1024) origin, View.ld_unit_zero (S := S1024x384) origin]

/-- A later block of the sum is added to the accumulator. -/
theorem scrB (hc0 : ¬cond0_0 i) (hc1 : cond0_1 i) (hc2 : ¬cond0_2 i) :
    sout0_B_0 (F := F) c i a3 h3 a4 h4 a5 h5 a6 h6 hc0 hc1 hc2 x0 x1 s = k0_pay3 x0 x1 s := by
  unfold sout0_B_0
  rw [View.read_writes_eq_canon _ _ _ (scover0_B_0 c i a3 h3 a4 h4 a5 h5 a6 h6 hc0 hc1 hc2 x0 x1 s)]
  unfold kernelRun0_B
  dsimp only
  sl_unfold_words
  rw [View.canon_unit_zero origin]
  simp only [View.readAt_eq_ld, h3.read_unread, h4.read_unread, h5.read_unread, h6.read_unread, View.ld_unit_zero (S := S1024x1024) origin, View.ld_unit_zero (S := S1024x384) origin]

/-- So is the last block of the sum. -/
theorem scrC (hc0 : ¬cond0_0 i) (hc1 : cond0_1 i) (hc2 : cond0_2 i) :
    sout0_C_0 (F := F) c i a3 h3 a4 h4 a5 h5 a6 h6 hc0 hc1 hc2 x0 x1 s = k0_pay3 x0 x1 s := by
  unfold sout0_C_0
  rw [View.read_writes_eq_canon _ _ _ (scover0_C_0 c i a3 h3 a4 h4 a5 h5 a6 h6 hc0 hc1 hc2 x0 x1 s)]
  unfold kernelRun0_C
  dsimp only
  sl_unfold_words
  rw [View.canon_unit_zero origin]
  simp only [View.readAt_eq_ld, h3.read_unread, h4.read_unread, h5.read_unread, h6.read_unread, View.ld_unit_zero (S := S1024x1024) origin, View.ld_unit_zero (S := S1024x384) origin]

/-- With the last block of the sum the accumulator goes out. -/
theorem outC (hc0 : ¬cond0_0 i) (hc1 : cond0_1 i) (hc2 : cond0_2 i) :
    out0_C_2 (F := F) c i a3 h3 a4 h4 a5 h5 a6 h6 hc0 hc1 hc2 x0 x1 s = k0_pay3 x0 x1 s := by
  unfold out0_C_2
  rw [View.read_writes_eq_canon _ _ _ (cover0_C_2 c i a3 h3 a4 h4 a5 h5 a6 h6 hc0 hc1 hc2 x0 x1 s)]
  unfold kernelRun0_C
  dsimp only
  sl_unfold_words
  rw [View.canon_unit_zero origin]
  simp only [View.readAt_eq_ld, h3.read_unread, h4.read_unread, h5.read_unread, h6.read_unread, View.ld_unit_zero (S := S1024x1024) origin, View.ld_unit_zero (S := S1024x384) origin, View.readCov_cons_toLoadRect]

end Cases

/-- The product of two blocks. -/
theorem pay1_apply (a : FVec Ideal S1024x1024 .bf16) (b : FVec Ideal S1024x384 .bf16) (p : Fin 1024) (q : Fin 384) :
    k0_pay1 (F := Ideal) a b (ix2 p q) = ∑ d : Fin 1024, a (ix2 d p) * b (ix2 d q) := by
  unfold k0_pay1
  pointwise

/-- What starts the accumulator. -/
theorem pay2_apply (a : FVec Ideal S1024x1024 .bf16) (b : FVec Ideal S1024x384 .bf16) (p : Fin 1024) (q : Fin 384) :
    k0_pay2 (F := Ideal) a b (ix2 p q) = ∑ d : Fin 1024, a (ix2 d p) * b (ix2 d q) := by
  unfold k0_pay2
  pointwise
  exact pay1_apply a b p q

/-- What is added to the accumulator. -/
theorem pay3_apply (a : FVec Ideal S1024x1024 .bf16) (b : FVec Ideal S1024x384 .bf16) (s : FVec Ideal S1024x384 .f32) (p : Fin 1024) (q : Fin 384) :
    k0_pay3 (F := Ideal) a b s (ix2 p q) = s (ix2 p q) + ∑ d : Fin 1024, a (ix2 d p) * b (ix2 d q) := by
  unfold k0_pay3
  pointwise
  rw [pay1_apply a b p q]

variable (m : (ℓ : Loc nD τ sig) → Buf (Elt Ideal) ℓ) (c : Dev nD)

/-- The arguments as arrays of extended reals. -/
abbrev argA : S4096x2048.Idx → EReal := m ((c : Thread nD τ).loc main_arg0)
@[inherit_doc argA] abbrev argB : S4096x10368.Idx → EReal := m ((c : Thread nD τ).loc main_arg1)

/-- The number of grid points. -/
theorem N_eq : cfg0.N = 216 := N_0

/-- Where the windows lie. -/
theorem index_eq : ∀ t : Fin grid0.N,
    (win0_0.index t 0 = t.val % 4 ∧ win0_0.index t 1 = t.val / 108)
    ∧ (win0_1.index t 0 = t.val % 4 ∧ win0_1.index t 1 = t.val / 4 % 27)
    ∧ (win0_2.index t 0 = t.val / 108 ∧ win0_2.index t 1 = t.val / 4 % 27) := by decide +kernel

/-- The block of the left factor read at a point. -/
theorem iblk_a (t : Fin cfg0.N) (p : Fin 1024) (q : Fin 1024) (p' : Fin 4096) (q' : Fin 2048)
    (hp : p'.val = t.val % 4 * 1024 + p.val) (hq : q'.val = t.val / 108 * 1024 + q.val) :
    (iblk (F := Ideal) m c 0 t : S1024x1024.Idx → EReal) (ix2 p q) = argA m c (ix2 p' q') := by
  obtain ⟨⟨e0, e1⟩, -⟩ := index_eq t
  show (V (F := Ideal) m c main_arg0 : S4096x2048.Idx → EReal) ((win0_0.rect t).emb (ix2 p q)) = _
  rw [V_main_arg0]
  refine congrArg (argA m c) (funext fun a => Fin.ext ?_)
  match a with
  | ⟨0, _⟩ => refine (Pipeline.Window.rect_emb_val win0_0 t _ 0).trans ?_; rw [e0]; exact hp.symm
  | ⟨1, _⟩ => refine (Pipeline.Window.rect_emb_val win0_0 t _ 1).trans ?_; rw [e1]; exact hq.symm

/-- The block of the right factor read at a point. -/
theorem iblk_b (t : Fin cfg0.N) (p : Fin 1024) (q : Fin 384) (p' : Fin 4096) (q' : Fin 10368)
    (hp : p'.val = t.val % 4 * 1024 + p.val) (hq : q'.val = t.val / 4 % 27 * 384 + q.val) :
    (iblk (F := Ideal) m c 1 t : S1024x384.Idx → EReal) (ix2 p q) = argB m c (ix2 p' q') := by
  obtain ⟨-, ⟨e0, e1⟩, -⟩ := index_eq t
  show (V (F := Ideal) m c main_arg1 : S4096x10368.Idx → EReal) ((win0_1.rect t).emb (ix2 p q)) = _
  rw [V_main_arg1]
  refine congrArg (argB m c) (funext fun a => Fin.ext ?_)
  match a with
  | ⟨0, _⟩ => refine (Pipeline.Window.rect_emb_val win0_1 t _ 0).trans ?_; rw [e0]; exact hp.symm
  | ⟨1, _⟩ => refine (Pipeline.Window.rect_emb_val win0_1 t _ 1).trans ?_; rw [e1]; exact hq.symm

/-- The row and the column of the product that a grid point's block holds, and the place in the sum that its blocks
   start from. -/
def tok (t : Fin cfg0.N) (p : Fin 1024) : Fin 2048 :=
  ⟨t.val / 108 * 1024 + p.val, by have h : t.val < 216 := lt_of_lt_of_eq t.isLt N_eq; omega⟩
@[inherit_doc tok] def col (t : Fin cfg0.N) (q : Fin 384) : Fin 10368 :=
  ⟨t.val / 4 % 27 * 384 + q.val, by have h : t.val < 216 := lt_of_lt_of_eq t.isLt N_eq; omega⟩
@[inherit_doc tok] def dep (t : Fin cfg0.N) (d : Fin 1024) : Fin 4096 :=
  ⟨t.val % 4 * 1024 + d.val, by have h : t.val < 216 := lt_of_lt_of_eq t.isLt N_eq; omega⟩

/-- One term of an entry of the product. -/
def term (A : S4096x2048.Idx → EReal) (B : S4096x10368.Idx → EReal) (u : Fin 2048) (v : Fin 10368) (d : Fin 4096) : EReal :=
  A (ix2 d u) * B (ix2 d v)

/-- The blocks read at a point. -/
abbrev blkA (t : Fin cfg0.N) : S1024x1024.Idx → EReal := iblk (F := Ideal) m c 0 t
@[inherit_doc blkA] abbrev blkB (t : Fin cfg0.N) : S1024x384.Idx → EReal := iblk (F := Ideal) m c 1 t

/-- What a grid point's blocks contribute. -/
theorem share (t : Fin cfg0.N) (p : Fin 1024) (q : Fin 384) :
    (∑ d : Fin 1024, blkA m c t (ix2 d p) * blkB m c t (ix2 d q))
      = ∑ d : Fin 1024, term (argA m c) (argB m c) (tok t p) (col t q) (dep t d) :=
  Finset.sum_congr rfl fun d _ => congrArg₂ (fun x y : EReal => x * y) (iblk_a m c t d p (dep t d) (tok t p) rfl rfl) (iblk_b m c t d q (dep t d) (col t q) rfl rfl)

/-- The accumulator after a grid point holds what the blocks so far add up to. -/
theorem acc : ∀ (n : ℕ) (hn : n < cfg0.N) (p : Fin 1024) (q : Fin 384),
    ((outsAt0 (F := Ideal) m c n hn).2 : S1024x384.Idx → EReal) (ix2 p q)
      = upTo (term (argA m c) (argB m c) (tok ⟨n, hn⟩ p) (col ⟨n, hn⟩ q)) 1024 (n % 4) := by
  have start : ∀ (t : Fin cfg0.N) (p : Fin 1024) (q : Fin 384), t.val % 4 = 0 →
      ((outsAt0 (F := Ideal) m c t.val t.isLt).2 : S1024x384.Idx → EReal) (ix2 p q)
        = upTo (term (argA m c) (argB m c) (tok t p) (col t q)) 1024 (t.val % 4) := by
    intro t p q h
    rw [outsAt0_A m c t h (by omega) (by omega)]
    dsimp only
    rw [scrA, h, upTo_zero _ (dep t) (fun r => by show t.val % 4 * 1024 + r.val = r.val; omega)]
    exact (pay2_apply _ _ p q).trans (share m c t p q)
  intro n
  induction n with
  | zero => exact fun hn p q => start ⟨0, hn⟩ p q rfl
  | succ n ih =>
    intro hn p q
    by_cases h : (n + 1) % 4 = 0
    · exact start ⟨n + 1, hn⟩ p q h
    have hn' : n < cfg0.N := Nat.lt_of_succ_lt hn
    have hk : (n + 1) % 4 = n % 4 + 1 := by omega
    have hu : tok ⟨n, hn'⟩ p = tok ⟨n + 1, hn⟩ p := Fin.ext (by
      show n / 108 * 1024 + p.val = (n + 1) / 108 * 1024 + p.val; omega)
    have hv : col ⟨n, hn'⟩ q = col ⟨n + 1, hn⟩ q := Fin.ext (by
      show n / 4 % 27 * 384 + q.val = (n + 1) / 4 % 27 * 384 + q.val
      rw [show (n + 1) / 4 = n / 4 by omega])
    have hd : ∀ r : Fin 1024, (dep ⟨n + 1, hn⟩ r).val = (n % 4 + 1) * 1024 + r.val := fun r => by
      show (n + 1) % 4 * 1024 + r.val = _; rw [hk]
    have main : k0_pay3 (F := Ideal) (iblk m c 0 ⟨n + 1, hn⟩) (iblk m c 1 ⟨n + 1, hn⟩) (outsAt0 (F := Ideal) m c n hn').2 (ix2 p q)
        = upTo (term (argA m c) (argB m c) (tok ⟨n + 1, hn⟩ p) (col ⟨n + 1, hn⟩ q)) 1024 ((n + 1) % 4) := by
      refine (pay3_apply _ _ _ p q).trans ?_
      rw [hk, upTo_succ _ _ (dep ⟨n + 1, hn⟩) hd, ← hu, ← hv, ← ih hn' p q, hu, hv]
      exact congrArg _ (share m c ⟨n + 1, hn⟩ p q)
    by_cases h2 : (n + 1) % 4 = 3
    · rw [outsAt0_C m c ⟨n + 1, hn⟩ h (by dsimp only; omega) h2]
      dsimp only
      rw [scrC]
      exact main
    · rw [outsAt0_B m c ⟨n + 1, hn⟩ h (by dsimp only; omega) h2]
      dsimp only
      rw [scrB]
      exact main

/-- The array after the grid. -/
theorem final : (dats (F := Ideal) m 0 c).arrAt 2 cfg0.N = (tn (argA m c) (argB m c) : S2048x10368.Idx → EReal) := by
  refine (dats (F := Ideal) m 0 c).arrAt_eq_of_cover 2 _ (fun t hf => ?_) (fun i => ?_)
  · have hl : t.val % 4 = 3 := (flush0_2 t).mp hf
    rw [flushed2, outsAt0_C m c t (by omega) (by omega) hl]
    dsimp only
    rw [outC]
    obtain ⟨-, -, e0, e1⟩ := index_eq t
    funext y
    obtain ⟨p, q, rfl⟩ : ∃ (p : Fin 1024) (q : Fin 384), y = ix2 p q := ⟨y 0, y 1, eq_ix2 y⟩
    show _ = (tn (argA m c) (argB m c) : S2048x10368.Idx → EReal) ((win0_2.rect t).emb (ix2 p q))
    have f : (win0_2.rect t).emb (ix2 p q) = ix2 (tok t p) (col t q) := funext fun a => Fin.ext (by
      match a with
      | ⟨0, _⟩ => refine (Pipeline.Window.rect_emb_val win0_2 t _ 0).trans ?_; rw [e0]; rfl
      | ⟨1, _⟩ => refine (Pipeline.Window.rect_emb_val win0_2 t _ 1).trans ?_; rw [e1]; rfl)
    rw [f]
    have whole := acc m c t.val t.isLt p q
    rw [outsAt0_C m c t (by omega) (by omega) hl] at whole
    dsimp only at whole
    rw [scrC, hl, upTo_last (w := 1024) _ 3 (show (3 + 1) * 1024 = 4096 by norm_num)] at whole
    exact whole
  · have h0 : (i 0 : ℕ) < 2048 := (i 0).isLt
    have h1 : (i 1 : ℕ) < 10368 := (i 1).isLt
    let t : Fin cfg0.N := ⟨((i 0 : ℕ) / 1024 * 27 + (i 1 : ℕ) / 384) * 4 + 3, lt_of_lt_of_eq (by omega) N_eq.symm⟩
    have ht : t.val = ((i 0 : ℕ) / 1024 * 27 + (i 1 : ℕ) / 384) * 4 + 3 := rfl
    refine ⟨t, (flush0_2 t).mpr (by omega), ?_⟩
    obtain ⟨-, -, e0, e1⟩ := index_eq t
    show i ∈ ((View.whole main_v0).slice (win0_2.rect t)).set
    rw [View.set_slice_whole, Rect.mem_set_unit]
    intro a
    match a with
    | ⟨0, _⟩ =>
      show win0_2.index t 0 * 1024 ≤ (i 0 : ℕ) ∧ (i 0 : ℕ) < win0_2.index t 0 * 1024 + 1024
      rw [e0]; omega
    | ⟨1, _⟩ =>
      show win0_2.index t 1 * 384 ≤ (i 1 : ℕ) ∧ (i 1 : ℕ) < win0_2.index t 1 * 384 + 384
      rw [e1]; omega

end Kernel

/-- The reference's result is the array the grid ends with. -/
theorem ref_eq (A : FVec Ideal Cert.MixInDwReferenceIdeal.S4096x2048 .bf16) (B : FVec Ideal Cert.MixInDwReferenceIdeal.S4096x10368 .bf16) :
    (Cert.MixInDwReferenceIdeal.Read.val_main_v5 (F := Ideal) A B : Cert.MixInDwReferenceIdeal.S2048x10368.Idx → EReal) = tn (m := 2048) (n := 10368) (k := 4096) A B := by
  funext i
  obtain ⟨u, v, rfl⟩ : ∃ (u : Fin 2048) (v : Fin 10368), i = ix2 u v := ⟨i 0, i 1, eq_ix2 i⟩
  unfold Cert.MixInDwReferenceIdeal.Read.val_main_v5 Cert.MixInDwReferenceIdeal.Read.val_main_v4 Cert.MixInDwReferenceIdeal.Read.val_main_v3 Cert.MixInDwReferenceIdeal.Read.val_main_v1
  pointwise
  unfold tn
  exact Finset.sum_congr rfl fun n _ => mul_comm _ _

/-- The reference runs and keeps its arguments. -/
theorem frame_ref : Cert.quiescent_MixInDwReferenceIdeal := fun m ρ _ =>
  (θ_run Cert.MixInDwReferenceIdeal.defs _ _).mono (fun r h => ⟨fun c => (h c).2, sem_eq_zero_of_no_sems (by decide) r.2⟩)
    (Cert.MixInDwReferenceIdeal.Value.run (F := Ideal) m ρ)

/-- The kernel and the reference end with equal results. -/
theorem algebraic : Cert.algebraic_MixInDwIdeal_MixInDwReferenceIdeal := by
  intro m g m' g' _ hagree
  refine ⟨fun c => tn (argA m c) (argB m c), ?_, ?_⟩
  · refine (θ_run Cert.MixInDwIdeal.defs _ _).mono (fun r h c => ?_) (Cert.MixInDwIdeal.Value.run_blocks (F := Ideal) m g)
    obtain ⟨h0, hargs⟩ := h c
    exact ⟨h0.trans (final m c), hargs⟩
  · refine (θ_run Cert.MixInDwReferenceIdeal.defs _ _).mono (fun r h c => ?_) (Cert.MixInDwReferenceIdeal.Value.run (F := Ideal) m' g')
    obtain ⟨h0, hargs⟩ := h c
    obtain ⟨a0, a1⟩ := hagree c
    refine ⟨h0.trans ?_, hargs⟩
    rw [Cert.MixInDwReferenceIdeal.Read.val_main_v5_eq, a0, a1]
    exact ref_eq _ _

end Cert.MixInDwClaim

end
-- ==== Proof.MixInDxClaim.lean ====
/- The gradient of the mixer's normalised input. Each grid point's block of the product, the array the grid ends with,
   and the claims against the plain product. -/
module

public import proofs.«01_k».proof.Defs
public import proofs.«01_k».proof.Proof.Gen.MixInDxIdeal.Value
public import proofs.«01_k».proof.Proof.Gen.MixInDxReferenceIdeal.Read
public import proofs.«01_k».proof.Proof.Products
public import proofs.«01_k».proof.Proof.Reals
public import proofs.«01_k».proof.Proof.Partial
public import Idealize.ShloMosaic.Lib.Tactic
public import Idealize.ShloMosaic.Adequacy
public import Idealize.ShloMosaic.Init

@[expose] public section

noncomputable section

namespace Cert.MixInDxClaim

open Idealize.ShloMosaic Idealize.SL.Sem Cert.Products Cert.Reals Cert.Partial

section Kernel
open Cert.MixInDxIdeal Cert.MixInDxIdeal.Gen Cert.MixInDxIdeal.Value Idealize.ShloMosaic.TcCoe

section Cases
variable {F : FTy → Type} [FloatOps F] (c : Dev nD) (i : grid0.Coords)
  (a3 : Memref sig .tc .vmem S1024x384 .bf16) (h3 : a3.IsWhole)
  (a4 : Memref sig .tc .vmem S1024x384 .bf16) (h4 : a4.IsWhole)
  (a5 : Memref sig .tc .vmem S1024x1024 .f32) (h5 : a5.IsWhole)
  (a6 : Memref sig .tc .vmem S1024x1024 .f32) (h6 : a6.IsWhole)
  (x0 : Vec F S1024x384 .bf16) (x1 : Vec F S1024x384 .bf16) (s : Vec F S1024x1024 .f32)

/-- The first block of the sum starts the accumulator. -/
theorem scrA (hc0 : cond0_0 i) (hc1 : ¬cond0_1 i) (hc2 : ¬cond0_2 i) :
    sout0_A_0 (F := F) c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero origin]
  simp only [View.readAt_eq_ld, h3.read_unread, h4.read_unread, h5.read_unread, h6.read_unread, View.ld_unit_zero (S := S1024x1024) origin, View.ld_unit_zero (S := S1024x384) origin]

/-- A later block of the sum is added to the accumulator. -/
theorem scrB (hc0 : ¬cond0_0 i) (hc1 : cond0_1 i) (hc2 : ¬cond0_2 i) :
    sout0_B_0 (F := F) c i a3 h3 a4 h4 a5 h5 a6 h6 hc0 hc1 hc2 x0 x1 s = k0_pay3 x0 x1 s := by
  unfold sout0_B_0
  rw [View.read_writes_eq_canon _ _ _ (scover0_B_0 c i a3 h3 a4 h4 a5 h5 a6 h6 hc0 hc1 hc2 x0 x1 s)]
  unfold kernelRun0_B
  dsimp only
  sl_unfold_words
  rw [View.canon_unit_zero origin]
  simp only [View.readAt_eq_ld, h3.read_unread, h4.read_unread, h5.read_unread, h6.read_unread, View.ld_unit_zero (S := S1024x1024) origin, View.ld_unit_zero (S := S1024x384) origin]

/-- So is the last block of the sum. -/
theorem scrC (hc0 : ¬cond0_0 i) (hc1 : cond0_1 i) (hc2 : cond0_2 i) :
    sout0_C_0 (F := F) c i a3 h3 a4 h4 a5 h5 a6 h6 hc0 hc1 hc2 x0 x1 s = k0_pay3 x0 x1 s := by
  unfold sout0_C_0
  rw [View.read_writes_eq_canon _ _ _ (scover0_C_0 c i a3 h3 a4 h4 a5 h5 a6 h6 hc0 hc1 hc2 x0 x1 s)]
  unfold kernelRun0_C
  dsimp only
  sl_unfold_words
  rw [View.canon_unit_zero origin]
  simp only [View.readAt_eq_ld, h3.read_unread, h4.read_unread, h5.read_unread, h6.read_unread, View.ld_unit_zero (S := S1024x1024) origin, View.ld_unit_zero (S := S1024x384) origin]

/-- With the last block of the sum the accumulator goes out. -/
theorem outC (hc0 : ¬cond0_0 i) (hc1 : cond0_1 i) (hc2 : cond0_2 i) :
    out0_C_2 (F := F) c i a3 h3 a4 h4 a5 h5 a6 h6 hc0 hc1 hc2 x0 x1 s = k0_pay3 x0 x1 s := by
  unfold out0_C_2
  rw [View.read_writes_eq_canon _ _ _ (cover0_C_2 c i a3 h3 a4 h4 a5 h5 a6 h6 hc0 hc1 hc2 x0 x1 s)]
  unfold kernelRun0_C
  dsimp only
  sl_unfold_words
  rw [View.canon_unit_zero origin]
  simp only [View.readAt_eq_ld, h3.read_unread, h4.read_unread, h5.read_unread, h6.read_unread, View.ld_unit_zero (S := S1024x1024) origin, View.ld_unit_zero (S := S1024x384) origin, View.readCov_cons_toLoadRect]

end Cases

/-- The product of two blocks. -/
theorem pay1_apply (a : FVec Ideal S1024x384 .bf16) (b : FVec Ideal S1024x384 .bf16) (p : Fin 1024) (q : Fin 1024) :
    k0_pay1 (F := Ideal) a b (ix2 p q) = ∑ d : Fin 384, a (ix2 p d) * b (ix2 q d) := by
  unfold k0_pay1
  pointwise

/-- What starts the accumulator. -/
theorem pay2_apply (a : FVec Ideal S1024x384 .bf16) (b : FVec Ideal S1024x384 .bf16) (p : Fin 1024) (q : Fin 1024) :
    k0_pay2 (F := Ideal) a b (ix2 p q) = ∑ d : Fin 384, a (ix2 p d) * b (ix2 q d) := by
  unfold k0_pay2
  pointwise
  exact pay1_apply a b p q

/-- What is added to the accumulator. -/
theorem pay3_apply (a : FVec Ideal S1024x384 .bf16) (b : FVec Ideal S1024x384 .bf16) (s : FVec Ideal S1024x1024 .f32) (p : Fin 1024) (q : Fin 1024) :
    k0_pay3 (F := Ideal) a b s (ix2 p q) = s (ix2 p q) + ∑ d : Fin 384, a (ix2 p d) * b (ix2 q d) := by
  unfold k0_pay3
  pointwise
  rw [pay1_apply a b p q]

variable (m : (ℓ : Loc nD τ sig) → Buf (Elt Ideal) ℓ) (c : Dev nD)

/-- The arguments as arrays of extended reals. -/
abbrev argA : S4096x10368.Idx → EReal := m ((c : Thread nD τ).loc main_arg0)
@[inherit_doc argA] abbrev argB : S2048x10368.Idx → EReal := m ((c : Thread nD τ).loc main_arg1)

/-- The number of grid points. -/
theorem N_eq : cfg0.N = 216 := N_0

/-- Where the windows lie. -/
theorem index_eq : ∀ t : Fin grid0.N,
    (win0_0.index t 0 = t.val / 54 ∧ win0_0.index t 1 = t.val % 27)
    ∧ (win0_1.index t 0 = t.val / 27 % 2 ∧ win0_1.index t 1 = t.val % 27)
    ∧ (win0_2.index t 0 = t.val / 54 ∧ win0_2.index t 1 = t.val / 27 % 2) := by decide +kernel

/-- The block of the left factor read at a point. -/
theorem iblk_a (t : Fin cfg0.N) (p : Fin 1024) (q : Fin 384) (p' : Fin 4096) (q' : Fin 10368)
    (hp : p'.val = t.val / 54 * 1024 + p.val) (hq : q'.val = t.val % 27 * 384 + q.val) :
    (iblk (F := Ideal) m c 0 t : S1024x384.Idx → EReal) (ix2 p q) = argA m c (ix2 p' q') := by
  obtain ⟨⟨e0, e1⟩, -⟩ := index_eq t
  show (V (F := Ideal) m c main_arg0 : S4096x10368.Idx → EReal) ((win0_0.rect t).emb (ix2 p q)) = _
  rw [V_main_arg0]
  refine congrArg (argA m c) (funext fun a => Fin.ext ?_)
  match a with
  | ⟨0, _⟩ => refine (Pipeline.Window.rect_emb_val win0_0 t _ 0).trans ?_; rw [e0]; exact hp.symm
  | ⟨1, _⟩ => refine (Pipeline.Window.rect_emb_val win0_0 t _ 1).trans ?_; rw [e1]; exact hq.symm

/-- The block of the right factor read at a point. -/
theorem iblk_b (t : Fin cfg0.N) (p : Fin 1024) (q : Fin 384) (p' : Fin 2048) (q' : Fin 10368)
    (hp : p'.val = t.val / 27 % 2 * 1024 + p.val) (hq : q'.val = t.val % 27 * 384 + q.val) :
    (iblk (F := Ideal) m c 1 t : S1024x384.Idx → EReal) (ix2 p q) = argB m c (ix2 p' q') := by
  obtain ⟨-, ⟨e0, e1⟩, -⟩ := index_eq t
  show (V (F := Ideal) m c main_arg1 : S2048x10368.Idx → EReal) ((win0_1.rect t).emb (ix2 p q)) = _
  rw [V_main_arg1]
  refine congrArg (argB m c) (funext fun a => Fin.ext ?_)
  match a with
  | ⟨0, _⟩ => refine (Pipeline.Window.rect_emb_val win0_1 t _ 0).trans ?_; rw [e0]; exact hp.symm
  | ⟨1, _⟩ => refine (Pipeline.Window.rect_emb_val win0_1 t _ 1).trans ?_; rw [e1]; exact hq.symm

/-- The row and the column of the product that a grid point's block holds, and the place in the sum that its blocks
   start from. -/
def tok (t : Fin cfg0.N) (p : Fin 1024) : Fin 4096 :=
  ⟨t.val / 54 * 1024 + p.val, by have h : t.val < 216 := lt_of_lt_of_eq t.isLt N_eq; omega⟩
@[inherit_doc tok] def col (t : Fin cfg0.N) (q : Fin 1024) : Fin 2048 :=
  ⟨t.val / 27 % 2 * 1024 + q.val, by have h : t.val < 216 := lt_of_lt_of_eq t.isLt N_eq; omega⟩
@[inherit_doc tok] def dep (t : Fin cfg0.N) (d : Fin 384) : Fin 10368 :=
  ⟨t.val % 27 * 384 + d.val, by have h : t.val < 216 := lt_of_lt_of_eq t.isLt N_eq; omega⟩

/-- One term of an entry of the product. -/
def term (A : S4096x10368.Idx → EReal) (B : S2048x10368.Idx → EReal) (u : Fin 4096) (v : Fin 2048) (d : Fin 10368) : EReal :=
  A (ix2 u d) * B (ix2 v d)

/-- The blocks read at a point. -/
abbrev blkA (t : Fin cfg0.N) : S1024x384.Idx → EReal := iblk (F := Ideal) m c 0 t
@[inherit_doc blkA] abbrev blkB (t : Fin cfg0.N) : S1024x384.Idx → EReal := iblk (F := Ideal) m c 1 t

/-- What a grid point's blocks contribute. -/
theorem share (t : Fin cfg0.N) (p : Fin 1024) (q : Fin 1024) :
    (∑ d : Fin 384, blkA m c t (ix2 p d) * blkB m c t (ix2 q d))
      = ∑ d : Fin 384, term (argA m c) (argB m c) (tok t p) (col t q) (dep t d) :=
  Finset.sum_congr rfl fun d _ => congrArg₂ (fun x y : EReal => x * y) (iblk_a m c t p d (tok t p) (dep t d) rfl rfl) (iblk_b m c t q d (col t q) (dep t d) rfl rfl)

/-- The accumulator after a grid point holds what the blocks so far add up to. -/
theorem acc : ∀ (n : ℕ) (hn : n < cfg0.N) (p : Fin 1024) (q : Fin 1024),
    ((outsAt0 (F := Ideal) m c n hn).2 : S1024x1024.Idx → EReal) (ix2 p q)
      = upTo (term (argA m c) (argB m c) (tok ⟨n, hn⟩ p) (col ⟨n, hn⟩ q)) 384 (n % 27) := by
  have start : ∀ (t : Fin cfg0.N) (p : Fin 1024) (q : Fin 1024), t.val % 27 = 0 →
      ((outsAt0 (F := Ideal) m c t.val t.isLt).2 : S1024x1024.Idx → EReal) (ix2 p q)
        = upTo (term (argA m c) (argB m c) (tok t p) (col t q)) 384 (t.val % 27) := by
    intro t p q h
    rw [outsAt0_A m c t h (by omega) (by omega)]
    dsimp only
    rw [scrA, h, upTo_zero _ (dep t) (fun r => by show t.val % 27 * 384 + r.val = r.val; omega)]
    exact (pay2_apply _ _ p q).trans (share m c t p q)
  intro n
  induction n with
  | zero => exact fun hn p q => start ⟨0, hn⟩ p q rfl
  | succ n ih =>
    intro hn p q
    by_cases h : (n + 1) % 27 = 0
    · exact start ⟨n + 1, hn⟩ p q h
    have hn' : n < cfg0.N := Nat.lt_of_succ_lt hn
    have hk : (n + 1) % 27 = n % 27 + 1 := by omega
    have hu : tok ⟨n, hn'⟩ p = tok ⟨n + 1, hn⟩ p := Fin.ext (by
      show n / 54 * 1024 + p.val = (n + 1) / 54 * 1024 + p.val; omega)
    have hv : col ⟨n, hn'⟩ q = col ⟨n + 1, hn⟩ q := Fin.ext (by
      show n / 27 % 2 * 1024 + q.val = (n + 1) / 27 % 2 * 1024 + q.val
      rw [show (n + 1) / 27 = n / 27 by omega])
    have hd : ∀ r : Fin 384, (dep ⟨n + 1, hn⟩ r).val = (n % 27 + 1) * 384 + r.val := fun r => by
      show (n + 1) % 27 * 384 + r.val = _; rw [hk]
    have main : k0_pay3 (F := Ideal) (iblk m c 0 ⟨n + 1, hn⟩) (iblk m c 1 ⟨n + 1, hn⟩) (outsAt0 (F := Ideal) m c n hn').2 (ix2 p q)
        = upTo (term (argA m c) (argB m c) (tok ⟨n + 1, hn⟩ p) (col ⟨n + 1, hn⟩ q)) 384 ((n + 1) % 27) := by
      refine (pay3_apply _ _ _ p q).trans ?_
      rw [hk, upTo_succ _ _ (dep ⟨n + 1, hn⟩) hd, ← hu, ← hv, ← ih hn' p q, hu, hv]
      exact congrArg _ (share m c ⟨n + 1, hn⟩ p q)
    by_cases h2 : (n + 1) % 27 = 26
    · rw [outsAt0_C m c ⟨n + 1, hn⟩ h (by dsimp only; omega) h2]
      dsimp only
      rw [scrC]
      exact main
    · rw [outsAt0_B m c ⟨n + 1, hn⟩ h (by dsimp only; omega) h2]
      dsimp only
      rw [scrB]
      exact main

set_option maxRecDepth 65536 in
/-- The array after the grid. -/
theorem final : (dats (F := Ideal) m 0 c).arrAt 2 cfg0.N = (nt (argA m c) (argB m c) : S4096x2048.Idx → EReal) := by
  refine (dats (F := Ideal) m 0 c).arrAt_eq_of_cover 2 _ (fun t hf => ?_) (fun i => ?_)
  · have hl : t.val % 27 = 26 := (flush0_2 t).mp hf
    rw [flushed2, outsAt0_C m c t (by omega) (by omega) hl]
    dsimp only
    rw [outC]
    obtain ⟨-, -, e0, e1⟩ := index_eq t
    funext y
    obtain ⟨p, q, rfl⟩ : ∃ (p : Fin 1024) (q : Fin 1024), y = ix2 p q := ⟨y 0, y 1, eq_ix2 y⟩
    show _ = (nt (argA m c) (argB m c) : S4096x2048.Idx → EReal) ((win0_2.rect t).emb (ix2 p q))
    have f : (win0_2.rect t).emb (ix2 p q) = ix2 (tok t p) (col t q) := funext fun a => Fin.ext (by
      match a with
      | ⟨0, _⟩ => refine (Pipeline.Window.rect_emb_val win0_2 t _ 0).trans ?_; rw [e0]; rfl
      | ⟨1, _⟩ => refine (Pipeline.Window.rect_emb_val win0_2 t _ 1).trans ?_; rw [e1]; rfl)
    rw [f]
    have whole := acc m c t.val t.isLt p q
    rw [outsAt0_C m c t (by omega) (by omega) hl] at whole
    dsimp only at whole
    rw [scrC, hl, upTo_last (w := 384) _ 26 (show (26 + 1) * 384 = 10368 by norm_num)] at whole
    exact whole
  · have h0 : (i 0 : ℕ) < 4096 := (i 0).isLt
    have h1 : (i 1 : ℕ) < 2048 := (i 1).isLt
    let t : Fin cfg0.N := ⟨((i 0 : ℕ) / 1024 * 2 + (i 1 : ℕ) / 1024) * 27 + 26, lt_of_lt_of_eq (by omega) N_eq.symm⟩
    have ht : t.val = ((i 0 : ℕ) / 1024 * 2 + (i 1 : ℕ) / 1024) * 27 + 26 := rfl
    refine ⟨t, (flush0_2 t).mpr (by omega), ?_⟩
    obtain ⟨-, -, e0, e1⟩ := index_eq t
    show i ∈ ((View.whole main_v0).slice (win0_2.rect t)).set
    rw [View.set_slice_whole, Rect.mem_set_unit]
    intro a
    match a with
    | ⟨0, _⟩ =>
      show win0_2.index t 0 * 1024 ≤ (i 0 : ℕ) ∧ (i 0 : ℕ) < win0_2.index t 0 * 1024 + 1024
      rw [e0]; omega
    | ⟨1, _⟩ =>
      show win0_2.index t 1 * 1024 ≤ (i 1 : ℕ) ∧ (i 1 : ℕ) < win0_2.index t 1 * 1024 + 1024
      rw [e1]; omega

end Kernel

/-- The reference's result is the array the grid ends with. -/
theorem ref_eq (A : FVec Ideal Cert.MixInDxReferenceIdeal.S4096x10368 .bf16) (B : FVec Ideal Cert.MixInDxReferenceIdeal.S2048x10368 .bf16) :
    (Cert.MixInDxReferenceIdeal.Read.val_main_v4 (F := Ideal) A B : Cert.MixInDxReferenceIdeal.S4096x2048.Idx → EReal) = nt (m := 4096) (n := 2048) (k := 10368) A B := by
  funext i
  obtain ⟨u, v, rfl⟩ : ∃ (u : Fin 4096) (v : Fin 2048), i = ix2 u v := ⟨i 0, i 1, eq_ix2 i⟩
  unfold Cert.MixInDxReferenceIdeal.Read.val_main_v4 Cert.MixInDxReferenceIdeal.Read.val_main_v3 Cert.MixInDxReferenceIdeal.Read.val_main_v1
  pointwise
  rfl

/-- The reference runs and keeps its arguments. -/
theorem frame_ref : Cert.quiescent_MixInDxReferenceIdeal := fun m ρ _ =>
  (θ_run Cert.MixInDxReferenceIdeal.defs _ _).mono (fun r h => ⟨fun c => (h c).2, sem_eq_zero_of_no_sems (by decide) r.2⟩)
    (Cert.MixInDxReferenceIdeal.Value.run (F := Ideal) m ρ)

/-- The kernel and the reference end with equal results. -/
theorem algebraic : Cert.algebraic_MixInDxIdeal_MixInDxReferenceIdeal := by
  intro m g m' g' _ hagree
  refine ⟨fun c => nt (argA m c) (argB m c), ?_, ?_⟩
  · refine (θ_run Cert.MixInDxIdeal.defs _ _).mono (fun r h c => ?_) (Cert.MixInDxIdeal.Value.run_blocks (F := Ideal) m g)
    obtain ⟨h0, hargs⟩ := h c
    exact ⟨h0.trans (final m c), hargs⟩
  · refine (θ_run Cert.MixInDxReferenceIdeal.defs _ _).mono (fun r h c => ?_) (Cert.MixInDxReferenceIdeal.Value.run (F := Ideal) m' g')
    obtain ⟨h0, hargs⟩ := h c
    obtain ⟨a0, a1⟩ := hagree c
    refine ⟨h0.trans ?_, hargs⟩
    rw [Cert.MixInDxReferenceIdeal.Read.val_main_v4_eq, a0, a1]
    exact ref_eq _ _

end Cert.MixInDxClaim

end
-- ==== Proof.lean ====
/- The proof of the claims about the calls of the step, one call after another. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_qk
public import proofs.«01_k».proof.Proof.Gen.Dgu
public import proofs.«01_k».proof.Proof.Gen.Dgu.Skeleton
public import proofs.«01_k».proof.Proof.Gen.Dgu.Launch
public import proofs.«01_k».proof.Proof.Gen.Dgu.Points
public import proofs.«01_k».proof.Proof.Gen.Dgu.Frame
public import proofs.«01_k».proof.Proof.Gen.DguIdeal
public import proofs.«01_k».proof.Proof.Gen.DguIdeal.Skeleton
public import proofs.«01_k».proof.Proof.Gen.DguIdeal.Launch
public import proofs.«01_k».proof.Proof.Gen.DguIdeal.Points
public import proofs.«01_k».proof.Proof.Gen.DguIdeal.Frame
public import proofs.«01_k».proof.Proof.Gen.DguIdeal.Value
public import proofs.«01_k».proof.Proof.Gen.DguReferenceIdeal
public import proofs.«01_k».proof.Proof.Gen.DguReferenceIdeal.Run
public import proofs.«01_k».proof.Proof.Gen.DguReferenceIdeal.Read
public import proofs.«01_k».proof.Proof.Gen.Pre_finite_dgu
public import proofs.«01_k».proof.Proof.Gen.Rms
public import proofs.«01_k».proof.Proof.Gen.Rms.Skeleton
public import proofs.«01_k».proof.Proof.Gen.Rms.Launch
public import proofs.«01_k».proof.Proof.Gen.Rms.Points
public import proofs.«01_k».proof.Proof.Gen.Rms.Frame
public import proofs.«01_k».proof.Proof.Gen.RmsIdeal
public import proofs.«01_k».proof.Proof.Gen.RmsIdeal.Skeleton
public import proofs.«01_k».proof.Proof.Gen.RmsIdeal.Launch
public import proofs.«01_k».proof.Proof.Gen.RmsIdeal.Points
public import proofs.«01_k».proof.Proof.Gen.RmsIdeal.Frame
public import proofs.«01_k».proof.Proof.Gen.RmsIdeal.Value
public import proofs.«01_k».proof.Proof.Gen.RmsReferenceIdeal
public import proofs.«01_k».proof.Proof.Gen.RmsReferenceIdeal.Run
public import proofs.«01_k».proof.Proof.Gen.RmsReferenceIdeal.Read
public import proofs.«01_k».proof.Proof.Gen.Pre_finite_rms
public import proofs.«01_k».proof.Proof.Gen.MemDrms
public import proofs.«01_k».proof.Proof.Gen.MemDrms.Skeleton
public import proofs.«01_k».proof.Proof.Gen.MemDrms.Launch
public import proofs.«01_k».proof.Proof.Gen.MemDrms.Points
public import proofs.«01_k».proof.Proof.Gen.MemDrms.Frame
public import proofs.«01_k».proof.Proof.Gen.MemDrmsIdeal
public import proofs.«01_k».proof.Proof.Gen.MemDrmsIdeal.Skeleton
public import proofs.«01_k».proof.Proof.Gen.MemDrmsIdeal.Launch
public import proofs.«01_k».proof.Proof.Gen.MemDrmsIdeal.Points
public import proofs.«01_k».proof.Proof.Gen.MemDrmsIdeal.Frame
public import proofs.«01_k».proof.Proof.Gen.MemDrmsIdeal.Value
public import proofs.«01_k».proof.Proof.Gen.MemDrmsReferenceIdeal
public import proofs.«01_k».proof.Proof.Gen.MemDrmsReferenceIdeal.Run
public import proofs.«01_k».proof.Proof.Gen.MemDrmsReferenceIdeal.Read
public import proofs.«01_k».proof.Proof.Gen.Pre_finite_mem_drms
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossReferenceIdeal
public import proofs.«01_k».proof.Proof.Gen.LossReferenceIdeal.Run
public import proofs.«01_k».proof.Proof.Gen.LossReferenceIdeal.Read
public import proofs.«01_k».proof.Proof.Gen.MemFwd
public import proofs.«01_k».proof.Proof.Gen.MemFwd.Skeleton
public import proofs.«01_k».proof.Proof.Gen.MemFwd.Launch
public import proofs.«01_k».proof.Proof.Gen.MemFwd.Points
public import proofs.«01_k».proof.Proof.Gen.MemFwd.Frame
public import proofs.«01_k».proof.Proof.Gen.MemFwdIdeal
public import proofs.«01_k».proof.Proof.Gen.MemFwdIdeal.Skeleton
public import proofs.«01_k».proof.Proof.Gen.MemFwdIdeal.Launch
public import proofs.«01_k».proof.Proof.Gen.MemFwdIdeal.Points
public import proofs.«01_k».proof.Proof.Gen.MemFwdIdeal.Frame
public import proofs.«01_k».proof.Proof.Gen.MemFwdIdeal.Value
public import proofs.«01_k».proof.Proof.Gen.MemFwdReferenceIdeal
public import proofs.«01_k».proof.Proof.Gen.MemFwdReferenceIdeal.Run
public import proofs.«01_k».proof.Proof.Gen.MemFwdReferenceIdeal.Read
public import proofs.«01_k».proof.Proof.Gen.FoxFwd
public import proofs.«01_k».proof.Proof.Gen.FoxFwd.Skeleton
public import proofs.«01_k».proof.Proof.Gen.FoxFwd.Launch
public import proofs.«01_k».proof.Proof.Gen.FoxFwd.Points
public import proofs.«01_k».proof.Proof.Gen.FoxFwd.Frame
public import proofs.«01_k».proof.Proof.Gen.FoxFwd.Loops
public import proofs.«01_k».proof.Proof.Gen.FoxFwdIdeal
public import proofs.«01_k».proof.Proof.Gen.FoxFwdIdeal.Skeleton
public import proofs.«01_k».proof.Proof.Gen.FoxFwdIdeal.Launch
public import proofs.«01_k».proof.Proof.Gen.FoxFwdIdeal.Points
public import proofs.«01_k».proof.Proof.Gen.FoxFwdIdeal.Frame
public import proofs.«01_k».proof.Proof.Gen.FoxFwdIdeal.Loops
public import proofs.«01_k».proof.Proof.Gen.FoxFwdIdeal.Value
public import proofs.«01_k».proof.Proof.Gen.FoxFwdReferenceIdeal
public import proofs.«01_k».proof.Proof.Gen.FoxFwdReferenceIdeal.Run
public import proofs.«01_k».proof.Proof.Gen.FoxFwdReferenceIdeal.Read
public import proofs.«01_k».proof.Proof.Gen.Pre_finite_fox
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateIdeal.Value
public import proofs.«01_k».proof.Proof.Gen.GateReferenceIdeal
public import proofs.«01_k».proof.Proof.Gen.GateReferenceIdeal.Run
public import proofs.«01_k».proof.Proof.Gen.GateReferenceIdeal.Read
public import proofs.«01_k».proof.Proof.Gen.Dwd
public import proofs.«01_k».proof.Proof.Gen.Dwd.Skeleton
public import proofs.«01_k».proof.Proof.Gen.Dwd.Launch
public import proofs.«01_k».proof.Proof.Gen.Dwd.Points
public import proofs.«01_k».proof.Proof.Gen.Dwd.Frame
public import proofs.«01_k».proof.Proof.Gen.DwdIdeal
public import proofs.«01_k».proof.Proof.Gen.DwdIdeal.Skeleton
public import proofs.«01_k».proof.Proof.Gen.DwdIdeal.Launch
public import proofs.«01_k».proof.Proof.Gen.DwdIdeal.Points
public import proofs.«01_k».proof.Proof.Gen.DwdIdeal.Frame
public import proofs.«01_k».proof.Proof.Gen.DwdIdeal.Value
public import proofs.«01_k».proof.Proof.Gen.DwdReferenceIdeal
public import proofs.«01_k».proof.Proof.Gen.DwdReferenceIdeal.Run
public import proofs.«01_k».proof.Proof.Gen.DwdReferenceIdeal.Read
public import proofs.«01_k».proof.Proof.Gen.Gu
public import proofs.«01_k».proof.Proof.Gen.Gu.Skeleton
public import proofs.«01_k».proof.Proof.Gen.Gu.Launch
public import proofs.«01_k».proof.Proof.Gen.Gu.Points
public import proofs.«01_k».proof.Proof.Gen.Gu.Frame
public import proofs.«01_k».proof.Proof.Gen.GuIdeal
public import proofs.«01_k».proof.Proof.Gen.GuIdeal.Skeleton
public import proofs.«01_k».proof.Proof.Gen.GuIdeal.Launch
public import proofs.«01_k».proof.Proof.Gen.GuIdeal.Points
public import proofs.«01_k».proof.Proof.Gen.GuIdeal.Frame
public import proofs.«01_k».proof.Proof.Gen.GuIdeal.Value
public import proofs.«01_k».proof.Proof.Gen.GuReferenceIdeal
public import proofs.«01_k».proof.Proof.Gen.GuReferenceIdeal.Run
public import proofs.«01_k».proof.Proof.Gen.GuReferenceIdeal.Read
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownReferenceIdeal
public import proofs.«01_k».proof.Proof.Gen.DownReferenceIdeal.Run
public import proofs.«01_k».proof.Proof.Gen.DownReferenceIdeal.Read
public import proofs.«01_k».proof.Proof.Gen.MixOut
public import proofs.«01_k».proof.Proof.Gen.MixOut.Skeleton
public import proofs.«01_k».proof.Proof.Gen.MixOut.Launch
public import proofs.«01_k».proof.Proof.Gen.MixOut.Points
public import proofs.«01_k».proof.Proof.Gen.MixOut.Frame
public import proofs.«01_k».proof.Proof.Gen.MixOutIdeal
public import proofs.«01_k».proof.Proof.Gen.MixOutIdeal.Skeleton
public import proofs.«01_k».proof.Proof.Gen.MixOutIdeal.Launch
public import proofs.«01_k».proof.Proof.Gen.MixOutIdeal.Points
public import proofs.«01_k».proof.Proof.Gen.MixOutIdeal.Frame
public import proofs.«01_k».proof.Proof.Gen.MixOutIdeal.Value
public import proofs.«01_k».proof.Proof.Gen.MixOutReferenceIdeal
public import proofs.«01_k».proof.Proof.Gen.MixOutReferenceIdeal.Run
public import proofs.«01_k».proof.Proof.Gen.MixOutReferenceIdeal.Read
public import proofs.«01_k».proof.Proof.Gen.MixOutDx
public import proofs.«01_k».proof.Proof.Gen.MixOutDx.Skeleton
public import proofs.«01_k».proof.Proof.Gen.MixOutDx.Launch
public import proofs.«01_k».proof.Proof.Gen.MixOutDx.Points
public import proofs.«01_k».proof.Proof.Gen.MixOutDx.Frame
public import proofs.«01_k».proof.Proof.Gen.MixOutDxIdeal
public import proofs.«01_k».proof.Proof.Gen.MixOutDxIdeal.Skeleton
public import proofs.«01_k».proof.Proof.Gen.MixOutDxIdeal.Launch
public import proofs.«01_k».proof.Proof.Gen.MixOutDxIdeal.Points
public import proofs.«01_k».proof.Proof.Gen.MixOutDxIdeal.Frame
public import proofs.«01_k».proof.Proof.Gen.MixOutDxIdeal.Value
public import proofs.«01_k».proof.Proof.Gen.MixOutDxReferenceIdeal
public import proofs.«01_k».proof.Proof.Gen.MixOutDxReferenceIdeal.Run
public import proofs.«01_k».proof.Proof.Gen.MixOutDxReferenceIdeal.Read
public import proofs.«01_k».proof.Proof.Gen.MixOutDw
public import proofs.«01_k».proof.Proof.Gen.MixOutDw.Skeleton
public import proofs.«01_k».proof.Proof.Gen.MixOutDw.Launch
public import proofs.«01_k».proof.Proof.Gen.MixOutDw.Points
public import proofs.«01_k».proof.Proof.Gen.MixOutDw.Frame
public import proofs.«01_k».proof.Proof.Gen.MixOutDwIdeal
public import proofs.«01_k».proof.Proof.Gen.MixOutDwIdeal.Skeleton
public import proofs.«01_k».proof.Proof.Gen.MixOutDwIdeal.Launch
public import proofs.«01_k».proof.Proof.Gen.MixOutDwIdeal.Points
public import proofs.«01_k».proof.Proof.Gen.MixOutDwIdeal.Frame
public import proofs.«01_k».proof.Proof.Gen.MixOutDwIdeal.Value
public import proofs.«01_k».proof.Proof.Gen.MixOutDwReferenceIdeal
public import proofs.«01_k».proof.Proof.Gen.MixOutDwReferenceIdeal.Run
public import proofs.«01_k».proof.Proof.Gen.MixOutDwReferenceIdeal.Read
public import proofs.«01_k».proof.Proof.Gen.FoxO
public import proofs.«01_k».proof.Proof.Gen.FoxO.Skeleton
public import proofs.«01_k».proof.Proof.Gen.FoxO.Launch
public import proofs.«01_k».proof.Proof.Gen.FoxO.Points
public import proofs.«01_k».proof.Proof.Gen.FoxO.Frame
public import proofs.«01_k».proof.Proof.Gen.FoxOIdeal
public import proofs.«01_k».proof.Proof.Gen.FoxOIdeal.Skeleton
public import proofs.«01_k».proof.Proof.Gen.FoxOIdeal.Launch
public import proofs.«01_k».proof.Proof.Gen.FoxOIdeal.Points
public import proofs.«01_k».proof.Proof.Gen.FoxOIdeal.Frame
public import proofs.«01_k».proof.Proof.Gen.FoxOIdeal.Value
public import proofs.«01_k».proof.Proof.Gen.FoxOReferenceIdeal
public import proofs.«01_k».proof.Proof.Gen.FoxOReferenceIdeal.Run
public import proofs.«01_k».proof.Proof.Gen.FoxOReferenceIdeal.Read
public import proofs.«01_k».proof.Proof.Gen.FoxODx
public import proofs.«01_k».proof.Proof.Gen.FoxODx.Skeleton
public import proofs.«01_k».proof.Proof.Gen.FoxODx.Launch
public import proofs.«01_k».proof.Proof.Gen.FoxODx.Points
public import proofs.«01_k».proof.Proof.Gen.FoxODx.Frame
public import proofs.«01_k».proof.Proof.Gen.FoxODxIdeal
public import proofs.«01_k».proof.Proof.Gen.FoxODxIdeal.Skeleton
public import proofs.«01_k».proof.Proof.Gen.FoxODxIdeal.Launch
public import proofs.«01_k».proof.Proof.Gen.FoxODxIdeal.Points
public import proofs.«01_k».proof.Proof.Gen.FoxODxIdeal.Frame
public import proofs.«01_k».proof.Proof.Gen.FoxODxIdeal.Value
public import proofs.«01_k».proof.Proof.Gen.FoxODxReferenceIdeal
public import proofs.«01_k».proof.Proof.Gen.FoxODxReferenceIdeal.Run
public import proofs.«01_k».proof.Proof.Gen.FoxODxReferenceIdeal.Read
public import proofs.«01_k».proof.Proof.Gen.FoxODw
public import proofs.«01_k».proof.Proof.Gen.FoxODw.Skeleton
public import proofs.«01_k».proof.Proof.Gen.FoxODw.Launch
public import proofs.«01_k».proof.Proof.Gen.FoxODw.Points
public import proofs.«01_k».proof.Proof.Gen.FoxODw.Frame
public import proofs.«01_k».proof.Proof.Gen.FoxODwIdeal
public import proofs.«01_k».proof.Proof.Gen.FoxODwIdeal.Skeleton
public import proofs.«01_k».proof.Proof.Gen.FoxODwIdeal.Launch
public import proofs.«01_k».proof.Proof.Gen.FoxODwIdeal.Points
public import proofs.«01_k».proof.Proof.Gen.FoxODwIdeal.Frame
public import proofs.«01_k».proof.Proof.Gen.FoxODwIdeal.Value
public import proofs.«01_k».proof.Proof.Gen.FoxODwReferenceIdeal
public import proofs.«01_k».proof.Proof.Gen.FoxODwReferenceIdeal.Run
public import proofs.«01_k».proof.Proof.Gen.FoxODwReferenceIdeal.Read
public import proofs.«01_k».proof.Proof.Gen.PoolUp
public import proofs.«01_k».proof.Proof.Gen.PoolUp.Skeleton
public import proofs.«01_k».proof.Proof.Gen.PoolUp.Launch
public import proofs.«01_k».proof.Proof.Gen.PoolUp.Points
public import proofs.«01_k».proof.Proof.Gen.PoolUp.Frame
public import proofs.«01_k».proof.Proof.Gen.PoolUpIdeal
public import proofs.«01_k».proof.Proof.Gen.PoolUpIdeal.Skeleton
public import proofs.«01_k».proof.Proof.Gen.PoolUpIdeal.Launch
public import proofs.«01_k».proof.Proof.Gen.PoolUpIdeal.Points
public import proofs.«01_k».proof.Proof.Gen.PoolUpIdeal.Frame
public import proofs.«01_k».proof.Proof.Gen.PoolUpIdeal.Value
public import proofs.«01_k».proof.Proof.Gen.PoolUpReferenceIdeal
public import proofs.«01_k».proof.Proof.Gen.PoolUpReferenceIdeal.Run
public import proofs.«01_k».proof.Proof.Gen.PoolUpReferenceIdeal.Read
public import proofs.«01_k».proof.Proof.Gen.PoolUpDx
public import proofs.«01_k».proof.Proof.Gen.PoolUpDx.Skeleton
public import proofs.«01_k».proof.Proof.Gen.PoolUpDx.Launch
public import proofs.«01_k».proof.Proof.Gen.PoolUpDx.Points
public import proofs.«01_k».proof.Proof.Gen.PoolUpDx.Frame
public import proofs.«01_k».proof.Proof.Gen.PoolUpDxIdeal
public import proofs.«01_k».proof.Proof.Gen.PoolUpDxIdeal.Skeleton
public import proofs.«01_k».proof.Proof.Gen.PoolUpDxIdeal.Launch
public import proofs.«01_k».proof.Proof.Gen.PoolUpDxIdeal.Points
public import proofs.«01_k».proof.Proof.Gen.PoolUpDxIdeal.Frame
public import proofs.«01_k».proof.Proof.Gen.PoolUpDxIdeal.Value
public import proofs.«01_k».proof.Proof.Gen.PoolUpDxReferenceIdeal
public import proofs.«01_k».proof.Proof.Gen.PoolUpDxReferenceIdeal.Run
public import proofs.«01_k».proof.Proof.Gen.PoolUpDxReferenceIdeal.Read
public import proofs.«01_k».proof.Proof.Gen.PoolUpDw
public import proofs.«01_k».proof.Proof.Gen.PoolUpDw.Skeleton
public import proofs.«01_k».proof.Proof.Gen.PoolUpDw.Launch
public import proofs.«01_k».proof.Proof.Gen.PoolUpDw.Points
public import proofs.«01_k».proof.Proof.Gen.PoolUpDw.Frame
public import proofs.«01_k».proof.Proof.Gen.PoolUpDwIdeal
public import proofs.«01_k».proof.Proof.Gen.PoolUpDwIdeal.Skeleton
public import proofs.«01_k».proof.Proof.Gen.PoolUpDwIdeal.Launch
public import proofs.«01_k».proof.Proof.Gen.PoolUpDwIdeal.Points
public import proofs.«01_k».proof.Proof.Gen.PoolUpDwIdeal.Frame
public import proofs.«01_k».proof.Proof.Gen.PoolUpDwIdeal.Value
public import proofs.«01_k».proof.Proof.Gen.PoolUpDwReferenceIdeal
public import proofs.«01_k».proof.Proof.Gen.PoolUpDwReferenceIdeal.Run
public import proofs.«01_k».proof.Proof.Gen.PoolUpDwReferenceIdeal.Read
public import proofs.«01_k».proof.Proof.Gen.MemO
public import proofs.«01_k».proof.Proof.Gen.MemO.Skeleton
public import proofs.«01_k».proof.Proof.Gen.MemO.Launch
public import proofs.«01_k».proof.Proof.Gen.MemO.Points
public import proofs.«01_k».proof.Proof.Gen.MemO.Frame
public import proofs.«01_k».proof.Proof.Gen.MemOIdeal
public import proofs.«01_k».proof.Proof.Gen.MemOIdeal.Skeleton
public import proofs.«01_k».proof.Proof.Gen.MemOIdeal.Launch
public import proofs.«01_k».proof.Proof.Gen.MemOIdeal.Points
public import proofs.«01_k».proof.Proof.Gen.MemOIdeal.Frame
public import proofs.«01_k».proof.Proof.Gen.MemOIdeal.Value
public import proofs.«01_k».proof.Proof.Gen.MemOReferenceIdeal
public import proofs.«01_k».proof.Proof.Gen.MemOReferenceIdeal.Run
public import proofs.«01_k».proof.Proof.Gen.MemOReferenceIdeal.Read
public import proofs.«01_k».proof.Proof.Gen.MemODw
public import proofs.«01_k».proof.Proof.Gen.MemODw.Skeleton
public import proofs.«01_k».proof.Proof.Gen.MemODw.Launch
public import proofs.«01_k».proof.Proof.Gen.MemODw.Points
public import proofs.«01_k».proof.Proof.Gen.MemODw.Frame
public import proofs.«01_k».proof.Proof.Gen.MemODwIdeal
public import proofs.«01_k».proof.Proof.Gen.MemODwIdeal.Skeleton
public import proofs.«01_k».proof.Proof.Gen.MemODwIdeal.Launch
public import proofs.«01_k».proof.Proof.Gen.MemODwIdeal.Points
public import proofs.«01_k».proof.Proof.Gen.MemODwIdeal.Frame
public import proofs.«01_k».proof.Proof.Gen.MemODwIdeal.Value
public import proofs.«01_k».proof.Proof.Gen.MemODwReferenceIdeal
public import proofs.«01_k».proof.Proof.Gen.MemODwReferenceIdeal.Run
public import proofs.«01_k».proof.Proof.Gen.MemODwReferenceIdeal.Read
public import proofs.«01_k».proof.Proof.Gen.MemKv
public import proofs.«01_k».proof.Proof.Gen.MemKv.Skeleton
public import proofs.«01_k».proof.Proof.Gen.MemKv.Launch
public import proofs.«01_k».proof.Proof.Gen.MemKv.Points
public import proofs.«01_k».proof.Proof.Gen.MemKv.Frame
public import proofs.«01_k».proof.Proof.Gen.MemKvIdeal
public import proofs.«01_k».proof.Proof.Gen.MemKvIdeal.Skeleton
public import proofs.«01_k».proof.Proof.Gen.MemKvIdeal.Launch
public import proofs.«01_k».proof.Proof.Gen.MemKvIdeal.Points
public import proofs.«01_k».proof.Proof.Gen.MemKvIdeal.Frame
public import proofs.«01_k».proof.Proof.Gen.MemKvIdeal.Value
public import proofs.«01_k».proof.Proof.Gen.MemKvReferenceIdeal
public import proofs.«01_k».proof.Proof.Gen.MemKvReferenceIdeal.Run
public import proofs.«01_k».proof.Proof.Gen.MemKvReferenceIdeal.Read
public import proofs.«01_k».proof.Proof.Gen.MemKvDx
public import proofs.«01_k».proof.Proof.Gen.MemKvDx.Skeleton
public import proofs.«01_k».proof.Proof.Gen.MemKvDx.Launch
public import proofs.«01_k».proof.Proof.Gen.MemKvDx.Points
public import proofs.«01_k».proof.Proof.Gen.MemKvDx.Frame
public import proofs.«01_k».proof.Proof.Gen.MemKvDxIdeal
public import proofs.«01_k».proof.Proof.Gen.MemKvDxIdeal.Skeleton
public import proofs.«01_k».proof.Proof.Gen.MemKvDxIdeal.Launch
public import proofs.«01_k».proof.Proof.Gen.MemKvDxIdeal.Points
public import proofs.«01_k».proof.Proof.Gen.MemKvDxIdeal.Frame
public import proofs.«01_k».proof.Proof.Gen.MemKvDxIdeal.Value
public import proofs.«01_k».proof.Proof.Gen.MemKvDxReferenceIdeal
public import proofs.«01_k».proof.Proof.Gen.MemKvDxReferenceIdeal.Run
public import proofs.«01_k».proof.Proof.Gen.MemKvDxReferenceIdeal.Read
public import proofs.«01_k».proof.Proof.Gen.MemKvDw
public import proofs.«01_k».proof.Proof.Gen.MemKvDw.Skeleton
public import proofs.«01_k».proof.Proof.Gen.MemKvDw.Launch
public import proofs.«01_k».proof.Proof.Gen.MemKvDw.Points
public import proofs.«01_k».proof.Proof.Gen.MemKvDw.Frame
public import proofs.«01_k».proof.Proof.Gen.MemKvDwIdeal
public import proofs.«01_k».proof.Proof.Gen.MemKvDwIdeal.Skeleton
public import proofs.«01_k».proof.Proof.Gen.MemKvDwIdeal.Launch
public import proofs.«01_k».proof.Proof.Gen.MemKvDwIdeal.Points
public import proofs.«01_k».proof.Proof.Gen.MemKvDwIdeal.Frame
public import proofs.«01_k».proof.Proof.Gen.MemKvDwIdeal.Value
public import proofs.«01_k».proof.Proof.Gen.MemKvDwReferenceIdeal
public import proofs.«01_k».proof.Proof.Gen.MemKvDwReferenceIdeal.Run
public import proofs.«01_k».proof.Proof.Gen.MemKvDwReferenceIdeal.Read
public import proofs.«01_k».proof.Proof.Gen.FfnGu
public import proofs.«01_k».proof.Proof.Gen.FfnGu.Skeleton
public import proofs.«01_k».proof.Proof.Gen.FfnGu.Launch
public import proofs.«01_k».proof.Proof.Gen.FfnGu.Points
public import proofs.«01_k».proof.Proof.Gen.FfnGu.Frame
public import proofs.«01_k».proof.Proof.Gen.FfnGuIdeal
public import proofs.«01_k».proof.Proof.Gen.FfnGuIdeal.Skeleton
public import proofs.«01_k».proof.Proof.Gen.FfnGuIdeal.Launch
public import proofs.«01_k».proof.Proof.Gen.FfnGuIdeal.Points
public import proofs.«01_k».proof.Proof.Gen.FfnGuIdeal.Frame
public import proofs.«01_k».proof.Proof.Gen.FfnGuIdeal.Value
public import proofs.«01_k».proof.Proof.Gen.FfnGuReferenceIdeal
public import proofs.«01_k».proof.Proof.Gen.FfnGuReferenceIdeal.Run
public import proofs.«01_k».proof.Proof.Gen.FfnGuReferenceIdeal.Read
public import proofs.«01_k».proof.Proof.Gen.FfnDown
public import proofs.«01_k».proof.Proof.Gen.FfnDown.Skeleton
public import proofs.«01_k».proof.Proof.Gen.FfnDown.Launch
public import proofs.«01_k».proof.Proof.Gen.FfnDown.Points
public import proofs.«01_k».proof.Proof.Gen.FfnDown.Frame
public import proofs.«01_k».proof.Proof.Gen.FfnDownIdeal
public import proofs.«01_k».proof.Proof.Gen.FfnDownIdeal.Skeleton
public import proofs.«01_k».proof.Proof.Gen.FfnDownIdeal.Launch
public import proofs.«01_k».proof.Proof.Gen.FfnDownIdeal.Points
public import proofs.«01_k».proof.Proof.Gen.FfnDownIdeal.Frame
public import proofs.«01_k».proof.Proof.Gen.FfnDownIdeal.Value
public import proofs.«01_k».proof.Proof.Gen.FfnDownReferenceIdeal
public import proofs.«01_k».proof.Proof.Gen.FfnDownReferenceIdeal.Run
public import proofs.«01_k».proof.Proof.Gen.FfnDownReferenceIdeal.Read
public import proofs.«01_k».proof.Proof.Gen.FfnDa
public import proofs.«01_k».proof.Proof.Gen.FfnDa.Skeleton
public import proofs.«01_k».proof.Proof.Gen.FfnDa.Launch
public import proofs.«01_k».proof.Proof.Gen.FfnDa.Points
public import proofs.«01_k».proof.Proof.Gen.FfnDa.Frame
public import proofs.«01_k».proof.Proof.Gen.FfnDaIdeal
public import proofs.«01_k».proof.Proof.Gen.FfnDaIdeal.Skeleton
public import proofs.«01_k».proof.Proof.Gen.FfnDaIdeal.Launch
public import proofs.«01_k».proof.Proof.Gen.FfnDaIdeal.Points
public import proofs.«01_k».proof.Proof.Gen.FfnDaIdeal.Frame
public import proofs.«01_k».proof.Proof.Gen.FfnDaIdeal.Value
public import proofs.«01_k».proof.Proof.Gen.FfnDaReferenceIdeal
public import proofs.«01_k».proof.Proof.Gen.FfnDaReferenceIdeal.Run
public import proofs.«01_k».proof.Proof.Gen.FfnDaReferenceIdeal.Read
public import proofs.«01_k».proof.Proof.Gen.FfnDwd
public import proofs.«01_k».proof.Proof.Gen.FfnDwd.Skeleton
public import proofs.«01_k».proof.Proof.Gen.FfnDwd.Launch
public import proofs.«01_k».proof.Proof.Gen.FfnDwd.Points
public import proofs.«01_k».proof.Proof.Gen.FfnDwd.Frame
public import proofs.«01_k».proof.Proof.Gen.FfnDwdIdeal
public import proofs.«01_k».proof.Proof.Gen.FfnDwdIdeal.Skeleton
public import proofs.«01_k».proof.Proof.Gen.FfnDwdIdeal.Launch
public import proofs.«01_k».proof.Proof.Gen.FfnDwdIdeal.Points
public import proofs.«01_k».proof.Proof.Gen.FfnDwdIdeal.Frame
public import proofs.«01_k».proof.Proof.Gen.FfnDwdIdeal.Value
public import proofs.«01_k».proof.Proof.Gen.FfnDwdReferenceIdeal
public import proofs.«01_k».proof.Proof.Gen.FfnDwdReferenceIdeal.Run
public import proofs.«01_k».proof.Proof.Gen.FfnDwdReferenceIdeal.Read
public import proofs.«01_k».proof.Proof.Gen.FfnDwgu
public import proofs.«01_k».proof.Proof.Gen.FfnDwgu.Skeleton
public import proofs.«01_k».proof.Proof.Gen.FfnDwgu.Launch
public import proofs.«01_k».proof.Proof.Gen.FfnDwgu.Points
public import proofs.«01_k».proof.Proof.Gen.FfnDwgu.Frame
public import proofs.«01_k».proof.Proof.Gen.FfnDwguIdeal
public import proofs.«01_k».proof.Proof.Gen.FfnDwguIdeal.Skeleton
public import proofs.«01_k».proof.Proof.Gen.FfnDwguIdeal.Launch
public import proofs.«01_k».proof.Proof.Gen.FfnDwguIdeal.Points
public import proofs.«01_k».proof.Proof.Gen.FfnDwguIdeal.Frame
public import proofs.«01_k».proof.Proof.Gen.FfnDwguIdeal.Value
public import proofs.«01_k».proof.Proof.Gen.FfnDwguReferenceIdeal
public import proofs.«01_k».proof.Proof.Gen.FfnDwguReferenceIdeal.Run
public import proofs.«01_k».proof.Proof.Gen.FfnDwguReferenceIdeal.Read
public import proofs.«01_k».proof.Proof.Gen.FfnDh
public import proofs.«01_k».proof.Proof.Gen.FfnDh.Skeleton
public import proofs.«01_k».proof.Proof.Gen.FfnDh.Launch
public import proofs.«01_k».proof.Proof.Gen.FfnDh.Points
public import proofs.«01_k».proof.Proof.Gen.FfnDh.Frame
public import proofs.«01_k».proof.Proof.Gen.FfnDhIdeal
public import proofs.«01_k».proof.Proof.Gen.FfnDhIdeal.Skeleton
public import proofs.«01_k».proof.Proof.Gen.FfnDhIdeal.Launch
public import proofs.«01_k».proof.Proof.Gen.FfnDhIdeal.Points
public import proofs.«01_k».proof.Proof.Gen.FfnDhIdeal.Frame
public import proofs.«01_k».proof.Proof.Gen.FfnDhIdeal.Value
public import proofs.«01_k».proof.Proof.Gen.FfnDhReferenceIdeal
public import proofs.«01_k».proof.Proof.Gen.FfnDhReferenceIdeal.Run
public import proofs.«01_k».proof.Proof.Gen.FfnDhReferenceIdeal.Read
public import proofs.«01_k».proof.Proof.Gen.MixIn
public import proofs.«01_k».proof.Proof.Gen.MixIn.Skeleton
public import proofs.«01_k».proof.Proof.Gen.MixIn.Launch
public import proofs.«01_k».proof.Proof.Gen.MixIn.Points
public import proofs.«01_k».proof.Proof.Gen.MixIn.Frame
public import proofs.«01_k».proof.Proof.Gen.MixInIdeal
public import proofs.«01_k».proof.Proof.Gen.MixInIdeal.Skeleton
public import proofs.«01_k».proof.Proof.Gen.MixInIdeal.Launch
public import proofs.«01_k».proof.Proof.Gen.MixInIdeal.Points
public import proofs.«01_k».proof.Proof.Gen.MixInIdeal.Frame
public import proofs.«01_k».proof.Proof.Gen.MixInIdeal.Value
public import proofs.«01_k».proof.Proof.Gen.MixInReferenceIdeal
public import proofs.«01_k».proof.Proof.Gen.MixInReferenceIdeal.Run
public import proofs.«01_k».proof.Proof.Gen.MixInReferenceIdeal.Read
public import proofs.«01_k».proof.Proof.Gen.MixInDw
public import proofs.«01_k».proof.Proof.Gen.MixInDw.Skeleton
public import proofs.«01_k».proof.Proof.Gen.MixInDw.Launch
public import proofs.«01_k».proof.Proof.Gen.MixInDw.Points
public import proofs.«01_k».proof.Proof.Gen.MixInDw.Frame
public import proofs.«01_k».proof.Proof.Gen.MixInDwIdeal
public import proofs.«01_k».proof.Proof.Gen.MixInDwIdeal.Skeleton
public import proofs.«01_k».proof.Proof.Gen.MixInDwIdeal.Launch
public import proofs.«01_k».proof.Proof.Gen.MixInDwIdeal.Points
public import proofs.«01_k».proof.Proof.Gen.MixInDwIdeal.Frame
public import proofs.«01_k».proof.Proof.Gen.MixInDwIdeal.Value
public import proofs.«01_k».proof.Proof.Gen.MixInDwReferenceIdeal
public import proofs.«01_k».proof.Proof.Gen.MixInDwReferenceIdeal.Run
public import proofs.«01_k».proof.Proof.Gen.MixInDwReferenceIdeal.Read
public import proofs.«01_k».proof.Proof.Gen.MixInDx
public import proofs.«01_k».proof.Proof.Gen.MixInDx.Skeleton
public import proofs.«01_k».proof.Proof.Gen.MixInDx.Launch
public import proofs.«01_k».proof.Proof.Gen.MixInDx.Points
public import proofs.«01_k».proof.Proof.Gen.MixInDx.Frame
public import proofs.«01_k».proof.Proof.Gen.MixInDxIdeal
public import proofs.«01_k».proof.Proof.Gen.MixInDxIdeal.Skeleton
public import proofs.«01_k».proof.Proof.Gen.MixInDxIdeal.Launch
public import proofs.«01_k».proof.Proof.Gen.MixInDxIdeal.Points
public import proofs.«01_k».proof.Proof.Gen.MixInDxIdeal.Frame
public import proofs.«01_k».proof.Proof.Gen.MixInDxIdeal.Value
public import proofs.«01_k».proof.Proof.Gen.MixInDxReferenceIdeal
public import proofs.«01_k».proof.Proof.Gen.MixInDxReferenceIdeal.Run
public import proofs.«01_k».proof.Proof.Gen.MixInDxReferenceIdeal.Read
public import proofs.«01_k».proof.Proof.MemClaim
public import proofs.«01_k».proof.Proof.DguClaim
public import proofs.«01_k».proof.Proof.RmsClaim
public import proofs.«01_k».proof.Proof.MemDrmsClaim
public import proofs.«01_k».proof.Proof.LossClaim
public import proofs.«01_k».proof.Proof.MemFwdClaim
public import proofs.«01_k».proof.Proof.FoxFwdClaim
public import proofs.«01_k».proof.Proof.GateClaim
public import proofs.«01_k».proof.Proof.DwdClaim
public import proofs.«01_k».proof.Proof.GuClaim
public import proofs.«01_k».proof.Proof.DownClaim
public import proofs.«01_k».proof.Proof.MixOutClaim
public import proofs.«01_k».proof.Proof.MixOutDxClaim
public import proofs.«01_k».proof.Proof.MixOutDwClaim
public import proofs.«01_k».proof.Proof.FoxOClaim
public import proofs.«01_k».proof.Proof.FoxODxClaim
public import proofs.«01_k».proof.Proof.FoxODwClaim
public import proofs.«01_k».proof.Proof.PoolUpClaim
public import proofs.«01_k».proof.Proof.PoolUpDxClaim
public import proofs.«01_k».proof.Proof.PoolUpDwClaim
public import proofs.«01_k».proof.Proof.MemOClaim
public import proofs.«01_k».proof.Proof.MemODwClaim
public import proofs.«01_k».proof.Proof.MemKvClaim
public import proofs.«01_k».proof.Proof.MemKvDxClaim
public import proofs.«01_k».proof.Proof.MemKvDwClaim
public import proofs.«01_k».proof.Proof.FfnGuClaim
public import proofs.«01_k».proof.Proof.FfnDownClaim
public import proofs.«01_k».proof.Proof.FfnDaClaim
public import proofs.«01_k».proof.Proof.FfnDwdClaim
public import proofs.«01_k».proof.Proof.FfnDwguClaim
public import proofs.«01_k».proof.Proof.FfnDhClaim
public import proofs.«01_k».proof.Proof.MixInClaim
public import proofs.«01_k».proof.Proof.MixInDwClaim
public import proofs.«01_k».proof.Proof.MixInDxClaim
public import Idealize.ShloMosaic.Adequacy
public import Idealize.ShloMosaic.Init

@[expose] public section

noncomputable section

namespace Cert.Proof

open Idealize.ShloMosaic Idealize.SL.Sem

/-- Each call of the step: the runs, the untouched idealization and the equal results. -/
theorem claim : Cert.Claim := ⟨Cert.Kernel.Gen.facts,
  Cert.KernelIdeal.Gen.facts,
  Cert.ReferenceIdeal.Gen.facts,
  Cert.Dgu.Gen.facts,
  Cert.DguIdeal.Gen.facts,
  Cert.DguReferenceIdeal.Gen.facts,
  Cert.Rms.Gen.facts,
  Cert.RmsIdeal.Gen.facts,
  Cert.RmsReferenceIdeal.Gen.facts,
  Cert.MemDrms.Gen.facts,
  Cert.MemDrmsIdeal.Gen.facts,
  Cert.MemDrmsReferenceIdeal.Gen.facts,
  Cert.Loss.Gen.facts,
  Cert.LossIdeal.Gen.facts,
  Cert.LossReferenceIdeal.Gen.facts,
  Cert.MemFwd.Gen.facts,
  Cert.MemFwdIdeal.Gen.facts,
  Cert.MemFwdReferenceIdeal.Gen.facts,
  Cert.FoxFwd.Gen.facts,
  Cert.FoxFwdIdeal.Gen.facts,
  Cert.FoxFwdReferenceIdeal.Gen.facts,
  Cert.Gate.Gen.facts,
  Cert.GateIdeal.Gen.facts,
  Cert.GateReferenceIdeal.Gen.facts,
  Cert.Dwd.Gen.facts,
  Cert.DwdIdeal.Gen.facts,
  Cert.DwdReferenceIdeal.Gen.facts,
  Cert.Gu.Gen.facts,
  Cert.GuIdeal.Gen.facts,
  Cert.GuReferenceIdeal.Gen.facts,
  Cert.Down.Gen.facts,
  Cert.DownIdeal.Gen.facts,
  Cert.DownReferenceIdeal.Gen.facts,
  Cert.MixOut.Gen.facts,
  Cert.MixOutIdeal.Gen.facts,
  Cert.MixOutReferenceIdeal.Gen.facts,
  Cert.MixOutDx.Gen.facts,
  Cert.MixOutDxIdeal.Gen.facts,
  Cert.MixOutDxReferenceIdeal.Gen.facts,
  Cert.MixOutDw.Gen.facts,
  Cert.MixOutDwIdeal.Gen.facts,
  Cert.MixOutDwReferenceIdeal.Gen.facts,
  Cert.FoxO.Gen.facts,
  Cert.FoxOIdeal.Gen.facts,
  Cert.FoxOReferenceIdeal.Gen.facts,
  Cert.FoxODx.Gen.facts,
  Cert.FoxODxIdeal.Gen.facts,
  Cert.FoxODxReferenceIdeal.Gen.facts,
  Cert.FoxODw.Gen.facts,
  Cert.FoxODwIdeal.Gen.facts,
  Cert.FoxODwReferenceIdeal.Gen.facts,
  Cert.PoolUp.Gen.facts,
  Cert.PoolUpIdeal.Gen.facts,
  Cert.PoolUpReferenceIdeal.Gen.facts,
  Cert.PoolUpDx.Gen.facts,
  Cert.PoolUpDxIdeal.Gen.facts,
  Cert.PoolUpDxReferenceIdeal.Gen.facts,
  Cert.PoolUpDw.Gen.facts,
  Cert.PoolUpDwIdeal.Gen.facts,
  Cert.PoolUpDwReferenceIdeal.Gen.facts,
  Cert.MemO.Gen.facts,
  Cert.MemOIdeal.Gen.facts,
  Cert.MemOReferenceIdeal.Gen.facts,
  Cert.MemODw.Gen.facts,
  Cert.MemODwIdeal.Gen.facts,
  Cert.MemODwReferenceIdeal.Gen.facts,
  Cert.MemKv.Gen.facts,
  Cert.MemKvIdeal.Gen.facts,
  Cert.MemKvReferenceIdeal.Gen.facts,
  Cert.MemKvDx.Gen.facts,
  Cert.MemKvDxIdeal.Gen.facts,
  Cert.MemKvDxReferenceIdeal.Gen.facts,
  Cert.MemKvDw.Gen.facts,
  Cert.MemKvDwIdeal.Gen.facts,
  Cert.MemKvDwReferenceIdeal.Gen.facts,
  Cert.FfnGu.Gen.facts,
  Cert.FfnGuIdeal.Gen.facts,
  Cert.FfnGuReferenceIdeal.Gen.facts,
  Cert.FfnDown.Gen.facts,
  Cert.FfnDownIdeal.Gen.facts,
  Cert.FfnDownReferenceIdeal.Gen.facts,
  Cert.FfnDa.Gen.facts,
  Cert.FfnDaIdeal.Gen.facts,
  Cert.FfnDaReferenceIdeal.Gen.facts,
  Cert.FfnDwd.Gen.facts,
  Cert.FfnDwdIdeal.Gen.facts,
  Cert.FfnDwdReferenceIdeal.Gen.facts,
  Cert.FfnDwgu.Gen.facts,
  Cert.FfnDwguIdeal.Gen.facts,
  Cert.FfnDwguReferenceIdeal.Gen.facts,
  Cert.FfnDh.Gen.facts,
  Cert.FfnDhIdeal.Gen.facts,
  Cert.FfnDhReferenceIdeal.Gen.facts,
  Cert.MixIn.Gen.facts,
  Cert.MixInIdeal.Gen.facts,
  Cert.MixInReferenceIdeal.Gen.facts,
  Cert.MixInDw.Gen.facts,
  Cert.MixInDwIdeal.Gen.facts,
  Cert.MixInDwReferenceIdeal.Gen.facts,
  Cert.MixInDx.Gen.facts,
  Cert.MixInDxIdeal.Gen.facts,
  Cert.MixInDxReferenceIdeal.Gen.facts,
  Cert.Pre_finite_qk.Gen.facts,
  Cert.Pre_finite_dgu.Gen.facts,
  Cert.Pre_finite_rms.Gen.facts,
  Cert.Pre_finite_mem_drms.Gen.facts,
  Cert.Pre_finite_fox.Gen.facts,
  fun m ρ _ => Cert.Kernel.Gen.frame m ρ,
  fun m ρ _ => Cert.KernelIdeal.Gen.frame m ρ,
  fun m ρ _ => Cert.KernelIdeal.Gen.frame m ρ,
  MemClaim.frame_ref,
  fun m ρ _ => MemClaim.frame_ref m ρ trivial,
  fun m ρ _ => Cert.Dgu.Gen.frame m ρ,
  fun m ρ _ => Cert.DguIdeal.Gen.frame m ρ,
  fun m ρ _ => Cert.DguIdeal.Gen.frame m ρ,
  DguClaim.frame_ref,
  fun m ρ _ => DguClaim.frame_ref m ρ trivial,
  fun m ρ _ => Cert.Rms.Gen.frame m ρ,
  fun m ρ _ => Cert.RmsIdeal.Gen.frame m ρ,
  fun m ρ _ => Cert.RmsIdeal.Gen.frame m ρ,
  RmsClaim.frame_ref,
  fun m ρ _ => RmsClaim.frame_ref m ρ trivial,
  fun m ρ _ => Cert.MemDrms.Gen.frame m ρ,
  fun m ρ _ => Cert.MemDrmsIdeal.Gen.frame m ρ,
  fun m ρ _ => Cert.MemDrmsIdeal.Gen.frame m ρ,
  MemDrmsClaim.frame_ref,
  fun m ρ _ => MemDrmsClaim.frame_ref m ρ trivial,
  fun m ρ _ => Cert.Loss.Gen.frame m ρ,
  fun m ρ _ => Cert.LossIdeal.Gen.frame m ρ,
  LossClaim.frame_ref,
  fun m ρ _ => Cert.MemFwd.Gen.frame m ρ,
  fun m ρ _ => Cert.MemFwdIdeal.Gen.frame m ρ,
  MemFwdClaim.frame_ref,
  fun m ρ _ => Cert.FoxFwd.Gen.frame m ρ,
  fun m ρ _ => Cert.FoxFwdIdeal.Gen.frame m ρ,
  fun m ρ _ => Cert.FoxFwdIdeal.Gen.frame m ρ,
  FoxFwdClaim.frame_ref,
  fun m ρ _ => FoxFwdClaim.frame_ref m ρ trivial,
  fun m ρ _ => Cert.Gate.Gen.frame m ρ,
  fun m ρ _ => Cert.GateIdeal.Gen.frame m ρ,
  GateClaim.frame_ref,
  fun m ρ _ => Cert.Dwd.Gen.frame m ρ,
  fun m ρ _ => Cert.DwdIdeal.Gen.frame m ρ,
  DwdClaim.frame_ref,
  fun m ρ _ => Cert.Gu.Gen.frame m ρ,
  fun m ρ _ => Cert.GuIdeal.Gen.frame m ρ,
  GuClaim.frame_ref,
  fun m ρ _ => Cert.Down.Gen.frame m ρ,
  fun m ρ _ => Cert.DownIdeal.Gen.frame m ρ,
  DownClaim.frame_ref,
  fun m ρ _ => Cert.MixOut.Gen.frame m ρ,
  fun m ρ _ => Cert.MixOutIdeal.Gen.frame m ρ,
  MixOutClaim.frame_ref,
  fun m ρ _ => Cert.MixOutDx.Gen.frame m ρ,
  fun m ρ _ => Cert.MixOutDxIdeal.Gen.frame m ρ,
  MixOutDxClaim.frame_ref,
  fun m ρ _ => Cert.MixOutDw.Gen.frame m ρ,
  fun m ρ _ => Cert.MixOutDwIdeal.Gen.frame m ρ,
  MixOutDwClaim.frame_ref,
  fun m ρ _ => Cert.FoxO.Gen.frame m ρ,
  fun m ρ _ => Cert.FoxOIdeal.Gen.frame m ρ,
  FoxOClaim.frame_ref,
  fun m ρ _ => Cert.FoxODx.Gen.frame m ρ,
  fun m ρ _ => Cert.FoxODxIdeal.Gen.frame m ρ,
  FoxODxClaim.frame_ref,
  fun m ρ _ => Cert.FoxODw.Gen.frame m ρ,
  fun m ρ _ => Cert.FoxODwIdeal.Gen.frame m ρ,
  FoxODwClaim.frame_ref,
  fun m ρ _ => Cert.PoolUp.Gen.frame m ρ,
  fun m ρ _ => Cert.PoolUpIdeal.Gen.frame m ρ,
  PoolUpClaim.frame_ref,
  fun m ρ _ => Cert.PoolUpDx.Gen.frame m ρ,
  fun m ρ _ => Cert.PoolUpDxIdeal.Gen.frame m ρ,
  PoolUpDxClaim.frame_ref,
  fun m ρ _ => Cert.PoolUpDw.Gen.frame m ρ,
  fun m ρ _ => Cert.PoolUpDwIdeal.Gen.frame m ρ,
  PoolUpDwClaim.frame_ref,
  fun m ρ _ => Cert.MemO.Gen.frame m ρ,
  fun m ρ _ => Cert.MemOIdeal.Gen.frame m ρ,
  MemOClaim.frame_ref,
  fun m ρ _ => Cert.MemODw.Gen.frame m ρ,
  fun m ρ _ => Cert.MemODwIdeal.Gen.frame m ρ,
  MemODwClaim.frame_ref,
  fun m ρ _ => Cert.MemKv.Gen.frame m ρ,
  fun m ρ _ => Cert.MemKvIdeal.Gen.frame m ρ,
  MemKvClaim.frame_ref,
  fun m ρ _ => Cert.MemKvDx.Gen.frame m ρ,
  fun m ρ _ => Cert.MemKvDxIdeal.Gen.frame m ρ,
  MemKvDxClaim.frame_ref,
  fun m ρ _ => Cert.MemKvDw.Gen.frame m ρ,
  fun m ρ _ => Cert.MemKvDwIdeal.Gen.frame m ρ,
  MemKvDwClaim.frame_ref,
  fun m ρ _ => Cert.FfnGu.Gen.frame m ρ,
  fun m ρ _ => Cert.FfnGuIdeal.Gen.frame m ρ,
  FfnGuClaim.frame_ref,
  fun m ρ _ => Cert.FfnDown.Gen.frame m ρ,
  fun m ρ _ => Cert.FfnDownIdeal.Gen.frame m ρ,
  FfnDownClaim.frame_ref,
  fun m ρ _ => Cert.FfnDa.Gen.frame m ρ,
  fun m ρ _ => Cert.FfnDaIdeal.Gen.frame m ρ,
  FfnDaClaim.frame_ref,
  fun m ρ _ => Cert.FfnDwd.Gen.frame m ρ,
  fun m ρ _ => Cert.FfnDwdIdeal.Gen.frame m ρ,
  FfnDwdClaim.frame_ref,
  fun m ρ _ => Cert.FfnDwgu.Gen.frame m ρ,
  fun m ρ _ => Cert.FfnDwguIdeal.Gen.frame m ρ,
  FfnDwguClaim.frame_ref,
  fun m ρ _ => Cert.FfnDh.Gen.frame m ρ,
  fun m ρ _ => Cert.FfnDhIdeal.Gen.frame m ρ,
  FfnDhClaim.frame_ref,
  fun m ρ _ => Cert.MixIn.Gen.frame m ρ,
  fun m ρ _ => Cert.MixInIdeal.Gen.frame m ρ,
  MixInClaim.frame_ref,
  fun m ρ _ => Cert.MixInDw.Gen.frame m ρ,
  fun m ρ _ => Cert.MixInDwIdeal.Gen.frame m ρ,
  MixInDwClaim.frame_ref,
  fun m ρ _ => Cert.MixInDx.Gen.frame m ρ,
  fun m ρ _ => Cert.MixInDxIdeal.Gen.frame m ρ,
  MixInDxClaim.frame_ref,
  trivial,
  MemClaim.algebraic,
  trivial,
  DguClaim.algebraic,
  trivial,
  RmsClaim.algebraic,
  trivial,
  MemDrmsClaim.algebraic,
  trivial,
  LossClaim.algebraic,
  trivial,
  MemFwdClaim.algebraic,
  FoxFwdClaim.masked,
  FoxFwdClaim.algebraic,
  trivial,
  GateClaim.algebraic,
  trivial,
  DwdClaim.algebraic,
  trivial,
  GuClaim.algebraic,
  trivial,
  DownClaim.algebraic,
  trivial,
  MixOutClaim.algebraic,
  trivial,
  MixOutDxClaim.algebraic,
  trivial,
  MixOutDwClaim.algebraic,
  trivial,
  FoxOClaim.algebraic,
  trivial,
  FoxODxClaim.algebraic,
  trivial,
  FoxODwClaim.algebraic,
  trivial,
  PoolUpClaim.algebraic,
  trivial,
  PoolUpDxClaim.algebraic,
  trivial,
  PoolUpDwClaim.algebraic,
  trivial,
  MemOClaim.algebraic,
  trivial,
  MemODwClaim.algebraic,
  trivial,
  MemKvClaim.algebraic,
  trivial,
  MemKvDxClaim.algebraic,
  trivial,
  MemKvDwClaim.algebraic,
  trivial,
  FfnGuClaim.algebraic,
  trivial,
  FfnDownClaim.algebraic,
  trivial,
  FfnDaClaim.algebraic,
  trivial,
  FfnDwdClaim.algebraic,
  trivial,
  FfnDwguClaim.algebraic,
  trivial,
  FfnDhClaim.algebraic,
  trivial,
  MixInClaim.algebraic,
  trivial,
  MixInDwClaim.algebraic,
  trivial,
  MixInDxClaim.algebraic⟩

end Cert.Proof

end
